-- ==== Defs.lean ====
def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_norm_finite [hPre_norm_finite : Cert.Pre_norm_finite.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_norm_finite.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_norm_finite [hPre_norm_finite : Cert.Pre_norm_finite.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_norm_finite.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_in_finite [hPre_in_finite : Cert.Pre_in_finite.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_in_finite.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_in_finite [hPre_in_finite : Cert.Pre_in_finite.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_in_finite.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6))) = (fun _ => 1#1)

def Pre_KernelWada (m : (ℓ : Loc Cert.KernelWada.nD Cert.KernelWada.τ Cert.KernelWada.sig) → Buf (Elt Bits) ℓ) : Prop :=
  True

def Pre_KernelWadaIdeal (m : (ℓ : Loc Cert.KernelWadaIdeal.nD Cert.KernelWadaIdeal.τ Cert.KernelWadaIdeal.sig) → Buf (Elt Ideal) ℓ) : Prop :=
  True

def Pre_ReferenceWadaIdeal (m : (ℓ : Loc Cert.ReferenceWadaIdeal.nD Cert.ReferenceWadaIdeal.τ Cert.ReferenceWadaIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_KernelDownIdeal_down_finite [hPre_down_finite : Cert.Pre_down_finite.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_down_finite.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_down_finite [hPre_down_finite : Cert.Pre_down_finite.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_down_finite.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3)) (m ((c.tc : Thread Cert.ReferenceDownIdeal.nD Cert.ReferenceDownIdeal.τ).loc Cert.ReferenceDownIdeal.main_arg4))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7)) (m ((c.tc : Thread Cert.KernelFfnIdeal.nD Cert.KernelFfnIdeal.τ).loc Cert.KernelFfnIdeal.main_arg8))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7)) (m ((c.tc : Thread Cert.ReferenceFfnIdeal.nD Cert.ReferenceFfnIdeal.τ).loc Cert.ReferenceFfnIdeal.main_arg8))) = (fun _ => 1#1)

def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def Pre_KernelAttIdeal_att_finite [hPre_att_finite : Cert.Pre_att_finite.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_att_finite.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3))) = (fun _ => 1#1)

def Pre_ReferenceAttIdeal (m : (ℓ : Loc Cert.ReferenceAttIdeal.nD Cert.ReferenceAttIdeal.τ Cert.ReferenceAttIdeal.sig) → Buf (Elt Ideal) ℓ) : Prop :=
  True

def Pre_ReferenceAttIdeal_att_finite [hPre_att_finite : Cert.Pre_att_finite.Facts] (m : (ℓ : Loc Cert.ReferenceAttIdeal.nD Cert.ReferenceAttIdeal.τ Cert.ReferenceAttIdeal.sig) → Buf (Elt Ideal) ℓ) : Prop :=
  ∀ c : Dev Cert.ReferenceAttIdeal.nD,
    (Cert.Pre_att_finite.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3))) = (fun _ => 1#1)

def Pre_KernelDkv (m : (ℓ : Loc Cert.KernelDkv.nD Cert.KernelDkv.τ Cert.KernelDkv.sig) → Buf (Elt Bits) ℓ) : Prop :=
  True

def Pre_KernelDkvIdeal (m : (ℓ : Loc Cert.KernelDkvIdeal.nD Cert.KernelDkvIdeal.τ Cert.KernelDkvIdeal.sig) → Buf (Elt Ideal) ℓ) : Prop :=
  True

def Pre_ReferenceDkvIdeal (m : (ℓ : Loc Cert.ReferenceDkvIdeal.nD Cert.ReferenceDkvIdeal.τ Cert.ReferenceDkvIdeal.sig) → Buf (Elt Ideal) ℓ) : Prop :=
  True

def Pre_KernelAtb (m : (ℓ : Loc Cert.KernelAtb.nD Cert.KernelAtb.τ Cert.KernelAtb.sig) → Buf (Elt Bits) ℓ) : Prop :=
  True

def Pre_KernelAtbIdeal (m : (ℓ : Loc Cert.KernelAtbIdeal.nD Cert.KernelAtbIdeal.τ Cert.KernelAtbIdeal.sig) → Buf (Elt Ideal) ℓ) : Prop :=
  True

def Pre_KernelAtbIdeal_atb_finite [hPre_atb_finite : Cert.Pre_atb_finite.Facts] (m : (ℓ : Loc Cert.KernelAtbIdeal.nD Cert.KernelAtbIdeal.τ Cert.KernelAtbIdeal.sig) → Buf (Elt Ideal) ℓ) : Prop :=
  ∀ c : Dev Cert.KernelAtbIdeal.nD,
    (Cert.Pre_atb_finite.fn (F := Ideal) (m ((c.tc : Thread Cert.KernelAtbIdeal.nD Cert.KernelAtbIdeal.τ).loc Cert.KernelAtbIdeal.main_arg0)) (m ((c.tc : Thread Cert.KernelAtbIdeal.nD Cert.KernelAtbIdeal.τ).loc Cert.KernelAtbIdeal.main_arg1)) (m ((c.tc : Thread Cert.KernelAtbIdeal.nD Cert.KernelAtbIdeal.τ).loc Cert.KernelAtbIdeal.main_arg2)) (m ((c.tc : Thread Cert.KernelAtbIdeal.nD Cert.KernelAtbIdeal.τ).loc Cert.KernelAtbIdeal.main_arg3)) (m ((c.tc : Thread Cert.KernelAtbIdeal.nD Cert.KernelAtbIdeal.τ).loc Cert.KernelAtbIdeal.main_arg4)) (m ((c.tc : Thread Cert.KernelAtbIdeal.nD Cert.KernelAtbIdeal.τ).loc Cert.KernelAtbIdeal.main_arg5)) (m ((c.tc : Thread Cert.KernelAtbIdeal.nD Cert.KernelAtbIdeal.τ).loc Cert.KernelAtbIdeal.main_arg6)) (m ((c.tc : Thread Cert.KernelAtbIdeal.nD Cert.KernelAtbIdeal.τ).loc Cert.KernelAtbIdeal.main_arg7))) = (fun _ => 1#1)

def Pre_ReferenceAtbIdeal (m : (ℓ : Loc Cert.ReferenceAtbIdeal.nD Cert.ReferenceAtbIdeal.τ Cert.ReferenceAtbIdeal.sig) → Buf (Elt Ideal) ℓ) : Prop :=
  True

def Pre_ReferenceAtbIdeal_atb_finite [hPre_atb_finite : Cert.Pre_atb_finite.Facts] (m : (ℓ : Loc Cert.ReferenceAtbIdeal.nD Cert.ReferenceAtbIdeal.τ Cert.ReferenceAtbIdeal.sig) → Buf (Elt Ideal) ℓ) : Prop :=
  ∀ c : Dev Cert.ReferenceAtbIdeal.nD,
    (Cert.Pre_atb_finite.fn (F := Ideal) (m ((c.tc : Thread Cert.ReferenceAtbIdeal.nD Cert.ReferenceAtbIdeal.τ).loc Cert.ReferenceAtbIdeal.main_arg0)) (m ((c.tc : Thread Cert.ReferenceAtbIdeal.nD Cert.ReferenceAtbIdeal.τ).loc Cert.ReferenceAtbIdeal.main_arg1)) (m ((c.tc : Thread Cert.ReferenceAtbIdeal.nD Cert.ReferenceAtbIdeal.τ).loc Cert.ReferenceAtbIdeal.main_arg2)) (m ((c.tc : Thread Cert.ReferenceAtbIdeal.nD Cert.ReferenceAtbIdeal.τ).loc Cert.ReferenceAtbIdeal.main_arg3)) (m ((c.tc : Thread Cert.ReferenceAtbIdeal.nD Cert.ReferenceAtbIdeal.τ).loc Cert.ReferenceAtbIdeal.main_arg4)) (m ((c.tc : Thread Cert.ReferenceAtbIdeal.nD Cert.ReferenceAtbIdeal.τ).loc Cert.ReferenceAtbIdeal.main_arg5)) (m ((c.tc : Thread Cert.ReferenceAtbIdeal.nD Cert.ReferenceAtbIdeal.τ).loc Cert.ReferenceAtbIdeal.main_arg6)) (m ((c.tc : Thread Cert.ReferenceAtbIdeal.nD Cert.ReferenceAtbIdeal.τ).loc Cert.ReferenceAtbIdeal.main_arg7))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelFdn (m : (ℓ : Loc Cert.KernelFdn.nD Cert.KernelFdn.τ Cert.KernelFdn.sig) → Buf (Elt Bits) ℓ) : Prop :=
  True

def Pre_KernelFdnIdeal (m : (ℓ : Loc Cert.KernelFdnIdeal.nD Cert.KernelFdnIdeal.τ Cert.KernelFdnIdeal.sig) → Buf (Elt Ideal) ℓ) : Prop :=
  True

def Pre_ReferenceFdnIdeal (m : (ℓ : Loc Cert.ReferenceFdnIdeal.nD Cert.ReferenceFdnIdeal.τ Cert.ReferenceFdnIdeal.sig) → Buf (Elt Ideal) ℓ) : Prop :=
  True

def Pre_KernelMods (m : (ℓ : Loc Cert.KernelMods.nD Cert.KernelMods.τ Cert.KernelMods.sig) → Buf (Elt Bits) ℓ) : Prop :=
  True

def Pre_KernelModsIdeal (m : (ℓ : Loc Cert.KernelModsIdeal.nD Cert.KernelModsIdeal.τ Cert.KernelModsIdeal.sig) → Buf (Elt Ideal) ℓ) : Prop :=
  True

def Pre_ReferenceModsIdeal (m : (ℓ : Loc Cert.ReferenceModsIdeal.nD Cert.ReferenceModsIdeal.τ Cert.ReferenceModsIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ r.2.sem = fun _ => 0)

def quiescent_KernelUpIdeal_pre_norm_finite [hKernelUpIdeal : Cert.KernelUpIdeal.Facts] [hPre_norm_finite : Cert.Pre_norm_finite.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_norm_finite m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6))
      ∧ r.2.sem = fun _ => 0)

def quiescent_ReferenceUpIdeal_pre_norm_finite [hReferenceUpIdeal : Cert.ReferenceUpIdeal.Facts] [hPre_norm_finite : Cert.Pre_norm_finite.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_norm_finite m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_KernelInIdeal_pre_in_finite [hKernelInIdeal : Cert.KernelInIdeal.Facts] [hPre_in_finite : Cert.Pre_in_finite.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_in_finite m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6))
      ∧ r.2.sem = fun _ => 0)

def quiescent_ReferenceInIdeal_pre_in_finite [hReferenceInIdeal : Cert.ReferenceInIdeal.Facts] [hPre_in_finite : Cert.Pre_in_finite.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_in_finite m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6))
      ∧ r.2.sem = fun _ => 0)

def quiescent_KernelWada [hKernelWada : Cert.KernelWada.Facts] : Prop :=
  ∀ (m : (ℓ : Loc Cert.KernelWada.nD Cert.KernelWada.τ Cert.KernelWada.sig) → Buf (Elt Bits) ℓ) (g : Dev Cert.KernelWada.nD → PrngReg), Pre_KernelWada m →
    θ_run (Cert.KernelWada.defs (F := Bits)) (onTc (τ := Cert.KernelWada.τ) (Cert.KernelWada.main (F := Bits))) ⟨m, fun _ => 0, g⟩ (fun r => (∀ c : Dev Cert.KernelWada.nD,
      r.2.mem ((c.tc : Thread Cert.KernelWada.nD Cert.KernelWada.τ).loc Cert.KernelWada.main_arg0) = m ((c.tc : Thread Cert.KernelWada.nD Cert.KernelWada.τ).loc Cert.KernelWada.main_arg0)
      ∧ r.2.mem ((c.tc : Thread Cert.KernelWada.nD Cert.KernelWada.τ).loc Cert.KernelWada.main_arg1) = m ((c.tc : Thread Cert.KernelWada.nD Cert.KernelWada.τ).loc Cert.KernelWada.main_arg1)
      ∧ r.2.mem ((c.tc : Thread Cert.KernelWada.nD Cert.KernelWada.τ).loc Cert.KernelWada.main_arg2) = m ((c.tc : Thread Cert.KernelWada.nD Cert.KernelWada.τ).loc Cert.KernelWada.main_arg2)
      ∧ r.2.mem ((c.tc : Thread Cert.KernelWada.nD Cert.KernelWada.τ).loc Cert.KernelWada.main_arg3) = m ((c.tc : Thread Cert.KernelWada.nD Cert.KernelWada.τ).loc Cert.KernelWada.main_arg3))
      ∧ r.2.sem = fun _ => 0)

def quiescent_KernelWadaIdeal [hKernelWadaIdeal : Cert.KernelWadaIdeal.Facts] : Prop :=
  ∀ (m : (ℓ : Loc Cert.KernelWadaIdeal.nD Cert.KernelWadaIdeal.τ Cert.KernelWadaIdeal.sig) → Buf (Elt Ideal) ℓ) (g : Dev Cert.KernelWadaIdeal.nD → PrngReg), Pre_KernelWadaIdeal m →
    θ_run (Cert.KernelWadaIdeal.defs (F := Ideal)) (onTc (τ := Cert.KernelWadaIdeal.τ) (Cert.KernelWadaIdeal.main (F := Ideal))) ⟨m, fun _ => 0, g⟩ (fun r => (∀ c : Dev Cert.KernelWadaIdeal.nD,
      r.2.mem ((c.tc : Thread Cert.KernelWadaIdeal.nD Cert.KernelWadaIdeal.τ).loc Cert.KernelWadaIdeal.main_arg0) = m ((c.tc : Thread Cert.KernelWadaIdeal.nD Cert.KernelWadaIdeal.τ).loc Cert.KernelWadaIdeal.main_arg0)
      ∧ r.2.mem ((c.tc : Thread Cert.KernelWadaIdeal.nD Cert.KernelWadaIdeal.τ).loc Cert.KernelWadaIdeal.main_arg1) = m ((c.tc : Thread Cert.KernelWadaIdeal.nD Cert.KernelWadaIdeal.τ).loc Cert.KernelWadaIdeal.main_arg1)
      ∧ r.2.mem ((c.tc : Thread Cert.KernelWadaIdeal.nD Cert.KernelWadaIdeal.τ).loc Cert.KernelWadaIdeal.main_arg2) = m ((c.tc : Thread Cert.KernelWadaIdeal.nD Cert.KernelWadaIdeal.τ).loc Cert.KernelWadaIdeal.main_arg2)
      ∧ r.2.mem ((c.tc : Thread Cert.KernelWadaIdeal.nD Cert.KernelWadaIdeal.τ).loc Cert.KernelWadaIdeal.main_arg3) = m ((c.tc : Thread Cert.KernelWadaIdeal.nD Cert.KernelWadaIdeal.τ).loc Cert.KernelWadaIdeal.main_arg3))
      ∧ r.2.sem = fun _ => 0)

def quiescent_ReferenceWadaIdeal [hReferenceWadaIdeal : Cert.ReferenceWadaIdeal.Facts] : Prop :=
  ∀ (m : (ℓ : Loc Cert.ReferenceWadaIdeal.nD Cert.ReferenceWadaIdeal.τ Cert.ReferenceWadaIdeal.sig) → Buf (Elt Ideal) ℓ) (g : Dev Cert.ReferenceWadaIdeal.nD → PrngReg), Pre_ReferenceWadaIdeal m →
    θ_run (Cert.ReferenceWadaIdeal.defs (F := Ideal)) (onTc (τ := Cert.ReferenceWadaIdeal.τ) (Cert.ReferenceWadaIdeal.main (F := Ideal))) ⟨m, fun _ => 0, g⟩ (fun r => (∀ c : Dev Cert.ReferenceWadaIdeal.nD,
      r.2.mem ((c.tc : Thread Cert.ReferenceWadaIdeal.nD Cert.ReferenceWadaIdeal.τ).loc Cert.ReferenceWadaIdeal.main_arg0) = m ((c.tc : Thread Cert.ReferenceWadaIdeal.nD Cert.ReferenceWadaIdeal.τ).loc Cert.ReferenceWadaIdeal.main_arg0)
      ∧ r.2.mem ((c.tc : Thread Cert.ReferenceWadaIdeal.nD Cert.ReferenceWadaIdeal.τ).loc Cert.ReferenceWadaIdeal.main_arg1) = m ((c.tc : Thread Cert.ReferenceWadaIdeal.nD Cert.ReferenceWadaIdeal.τ).loc Cert.ReferenceWadaIdeal.main_arg1)
      ∧ r.2.mem ((c.tc : Thread Cert.ReferenceWadaIdeal.nD Cert.ReferenceWadaIdeal.τ).loc Cert.ReferenceWadaIdeal.main_arg2) = m ((c.tc : Thread Cert.ReferenceWadaIdeal.nD Cert.ReferenceWadaIdeal.τ).loc Cert.ReferenceWadaIdeal.main_arg2)
      ∧ r.2.mem ((c.tc : Thread Cert.ReferenceWadaIdeal.nD Cert.ReferenceWadaIdeal.τ).loc Cert.ReferenceWadaIdeal.main_arg3) = m ((c.tc : Thread Cert.ReferenceWadaIdeal.nD Cert.ReferenceWadaIdeal.τ).loc Cert.ReferenceWadaIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_KernelDownIdeal_pre_down_finite [hKernelDownIdeal : Cert.KernelDownIdeal.Facts] [hPre_down_finite : Cert.Pre_down_finite.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal_down_finite m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_ReferenceDownIdeal_pre_down_finite [hReferenceDownIdeal : Cert.ReferenceDownIdeal.Facts] [hPre_down_finite : Cert.Pre_down_finite.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_down_finite m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2)
      ∧ r.2.mem ((c.tc : Thread Cert.KernelAtt.nD Cert.KernelAtt.τ).loc Cert.KernelAtt.main_arg3) = m ((c.tc : Thread Cert.KernelAtt.nD Cert.KernelAtt.τ).loc Cert.KernelAtt.main_arg3))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ r.2.sem = fun _ => 0)

def quiescent_KernelAttIdeal_pre_att_finite [hKernelAttIdeal : Cert.KernelAttIdeal.Facts] [hPre_att_finite : Cert.Pre_att_finite.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal_att_finite m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ r.2.sem = fun _ => 0)

def quiescent_ReferenceAttIdeal [hReferenceAttIdeal : Cert.ReferenceAttIdeal.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3))
      ∧ r.2.sem = fun _ => 0)

def quiescent_ReferenceAttIdeal_pre_att_finite [hReferenceAttIdeal : Cert.ReferenceAttIdeal.Facts] [hPre_att_finite : Cert.Pre_att_finite.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal_att_finite m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3))
      ∧ r.2.sem = fun _ => 0)

def quiescent_KernelDkv [hKernelDkv : Cert.KernelDkv.Facts] : Prop :=
  ∀ (m : (ℓ : Loc Cert.KernelDkv.nD Cert.KernelDkv.τ Cert.KernelDkv.sig) → Buf (Elt Bits) ℓ) (g : Dev Cert.KernelDkv.nD → PrngReg), Pre_KernelDkv m →
    θ_run (Cert.KernelDkv.defs (F := Bits)) (onTc (τ := Cert.KernelDkv.τ) (Cert.KernelDkv.main (F := Bits))) ⟨m, fun _ => 0, g⟩ (fun r => (∀ c : Dev Cert.KernelDkv.nD,
      r.2.mem ((c.tc : Thread Cert.KernelDkv.nD Cert.KernelDkv.τ).loc Cert.KernelDkv.main_arg0) = m ((c.tc : Thread Cert.KernelDkv.nD Cert.KernelDkv.τ).loc Cert.KernelDkv.main_arg0)
      ∧ r.2.mem ((c.tc : Thread Cert.KernelDkv.nD Cert.KernelDkv.τ).loc Cert.KernelDkv.main_arg1) = m ((c.tc : Thread Cert.KernelDkv.nD Cert.KernelDkv.τ).loc Cert.KernelDkv.main_arg1)
      ∧ r.2.mem ((c.tc : Thread Cert.KernelDkv.nD Cert.KernelDkv.τ).loc Cert.KernelDkv.main_arg2) = m ((c.tc : Thread Cert.KernelDkv.nD Cert.KernelDkv.τ).loc Cert.KernelDkv.main_arg2)
      ∧ r.2.mem ((c.tc : Thread Cert.KernelDkv.nD Cert.KernelDkv.τ).loc Cert.KernelDkv.main_arg3) = m ((c.tc : Thread Cert.KernelDkv.nD Cert.KernelDkv.τ).loc Cert.KernelDkv.main_arg3)
      ∧ r.2.mem ((c.tc : Thread Cert.KernelDkv.nD Cert.KernelDkv.τ).loc Cert.KernelDkv.main_arg4) = m ((c.tc : Thread Cert.KernelDkv.nD Cert.KernelDkv.τ).loc Cert.KernelDkv.main_arg4))
      ∧ r.2.sem = fun _ => 0)

def quiescent_KernelDkvIdeal [hKernelDkvIdeal : Cert.KernelDkvIdeal.Facts] : Prop :=
  ∀ (m : (ℓ : Loc Cert.KernelDkvIdeal.nD Cert.KernelDkvIdeal.τ Cert.KernelDkvIdeal.sig) → Buf (Elt Ideal) ℓ) (g : Dev Cert.KernelDkvIdeal.nD → PrngReg), Pre_KernelDkvIdeal m →
    θ_run (Cert.KernelDkvIdeal.defs (F := Ideal)) (onTc (τ := Cert.KernelDkvIdeal.τ) (Cert.KernelDkvIdeal.main (F := Ideal))) ⟨m, fun _ => 0, g⟩ (fun r => (∀ c : Dev Cert.KernelDkvIdeal.nD,
      r.2.mem ((c.tc : Thread Cert.KernelDkvIdeal.nD Cert.KernelDkvIdeal.τ).loc Cert.KernelDkvIdeal.main_arg0) = m ((c.tc : Thread Cert.KernelDkvIdeal.nD Cert.KernelDkvIdeal.τ).loc Cert.KernelDkvIdeal.main_arg0)
      ∧ r.2.mem ((c.tc : Thread Cert.KernelDkvIdeal.nD Cert.KernelDkvIdeal.τ).loc Cert.KernelDkvIdeal.main_arg1) = m ((c.tc : Thread Cert.KernelDkvIdeal.nD Cert.KernelDkvIdeal.τ).loc Cert.KernelDkvIdeal.main_arg1)
      ∧ r.2.mem ((c.tc : Thread Cert.KernelDkvIdeal.nD Cert.KernelDkvIdeal.τ).loc Cert.KernelDkvIdeal.main_arg2) = m ((c.tc : Thread Cert.KernelDkvIdeal.nD Cert.KernelDkvIdeal.τ).loc Cert.KernelDkvIdeal.main_arg2)
      ∧ r.2.mem ((c.tc : Thread Cert.KernelDkvIdeal.nD Cert.KernelDkvIdeal.τ).loc Cert.KernelDkvIdeal.main_arg3) = m ((c.tc : Thread Cert.KernelDkvIdeal.nD Cert.KernelDkvIdeal.τ).loc Cert.KernelDkvIdeal.main_arg3)
      ∧ r.2.mem ((c.tc : Thread Cert.KernelDkvIdeal.nD Cert.KernelDkvIdeal.τ).loc Cert.KernelDkvIdeal.main_arg4) = m ((c.tc : Thread Cert.KernelDkvIdeal.nD Cert.KernelDkvIdeal.τ).loc Cert.KernelDkvIdeal.main_arg4))
      ∧ r.2.sem = fun _ => 0)

def quiescent_ReferenceDkvIdeal [hReferenceDkvIdeal : Cert.ReferenceDkvIdeal.Facts] : Prop :=
  ∀ (m : (ℓ : Loc Cert.ReferenceDkvIdeal.nD Cert.ReferenceDkvIdeal.τ Cert.ReferenceDkvIdeal.sig) → Buf (Elt Ideal) ℓ) (g : Dev Cert.ReferenceDkvIdeal.nD → PrngReg), Pre_ReferenceDkvIdeal m →
    θ_run (Cert.ReferenceDkvIdeal.defs (F := Ideal)) (onTc (τ := Cert.ReferenceDkvIdeal.τ) (Cert.ReferenceDkvIdeal.main (F := Ideal))) ⟨m, fun _ => 0, g⟩ (fun r => (∀ c : Dev Cert.ReferenceDkvIdeal.nD,
      r.2.mem ((c.tc : Thread Cert.ReferenceDkvIdeal.nD Cert.ReferenceDkvIdeal.τ).loc Cert.ReferenceDkvIdeal.main_arg0) = m ((c.tc : Thread Cert.ReferenceDkvIdeal.nD Cert.ReferenceDkvIdeal.τ).loc Cert.ReferenceDkvIdeal.main_arg0)
      ∧ r.2.mem ((c.tc : Thread Cert.ReferenceDkvIdeal.nD Cert.ReferenceDkvIdeal.τ).loc Cert.ReferenceDkvIdeal.main_arg1) = m ((c.tc : Thread Cert.ReferenceDkvIdeal.nD Cert.ReferenceDkvIdeal.τ).loc Cert.ReferenceDkvIdeal.main_arg1)
      ∧ r.2.mem ((c.tc : Thread Cert.ReferenceDkvIdeal.nD Cert.ReferenceDkvIdeal.τ).loc Cert.ReferenceDkvIdeal.main_arg2) = m ((c.tc : Thread Cert.ReferenceDkvIdeal.nD Cert.ReferenceDkvIdeal.τ).loc Cert.ReferenceDkvIdeal.main_arg2)
      ∧ r.2.mem ((c.tc : Thread Cert.ReferenceDkvIdeal.nD Cert.ReferenceDkvIdeal.τ).loc Cert.ReferenceDkvIdeal.main_arg3) = m ((c.tc : Thread Cert.ReferenceDkvIdeal.nD Cert.ReferenceDkvIdeal.τ).loc Cert.ReferenceDkvIdeal.main_arg3)
      ∧ r.2.mem ((c.tc : Thread Cert.ReferenceDkvIdeal.nD Cert.ReferenceDkvIdeal.τ).loc Cert.ReferenceDkvIdeal.main_arg4) = m ((c.tc : Thread Cert.ReferenceDkvIdeal.nD Cert.ReferenceDkvIdeal.τ).loc Cert.ReferenceDkvIdeal.main_arg4))
      ∧ r.2.sem = fun _ => 0)

def quiescent_KernelAtb [hKernelAtb : Cert.KernelAtb.Facts] : Prop :=
  ∀ (m : (ℓ : Loc Cert.KernelAtb.nD Cert.KernelAtb.τ Cert.KernelAtb.sig) → Buf (Elt Bits) ℓ) (g : Dev Cert.KernelAtb.nD → PrngReg), Pre_KernelAtb m →
    θ_run (Cert.KernelAtb.defs (F := Bits)) (onTc (τ := Cert.KernelAtb.τ) (Cert.KernelAtb.main (F := Bits))) ⟨m, fun _ => 0, g⟩ (fun r => (∀ c : Dev Cert.KernelAtb.nD,
      r.2.mem ((c.tc : Thread Cert.KernelAtb.nD Cert.KernelAtb.τ).loc Cert.KernelAtb.main_arg0) = m ((c.tc : Thread Cert.KernelAtb.nD Cert.KernelAtb.τ).loc Cert.KernelAtb.main_arg0)
      ∧ r.2.mem ((c.tc : Thread Cert.KernelAtb.nD Cert.KernelAtb.τ).loc Cert.KernelAtb.main_arg1) = m ((c.tc : Thread Cert.KernelAtb.nD Cert.KernelAtb.τ).loc Cert.KernelAtb.main_arg1)
      ∧ r.2.mem ((c.tc : Thread Cert.KernelAtb.nD Cert.KernelAtb.τ).loc Cert.KernelAtb.main_arg2) = m ((c.tc : Thread Cert.KernelAtb.nD Cert.KernelAtb.τ).loc Cert.KernelAtb.main_arg2)
      ∧ r.2.mem ((c.tc : Thread Cert.KernelAtb.nD Cert.KernelAtb.τ).loc Cert.KernelAtb.main_arg3) = m ((c.tc : Thread Cert.KernelAtb.nD Cert.KernelAtb.τ).loc Cert.KernelAtb.main_arg3)
      ∧ r.2.mem ((c.tc : Thread Cert.KernelAtb.nD Cert.KernelAtb.τ).loc Cert.KernelAtb.main_arg4) = m ((c.tc : Thread Cert.KernelAtb.nD Cert.KernelAtb.τ).loc Cert.KernelAtb.main_arg4)
      ∧ r.2.mem ((c.tc : Thread Cert.KernelAtb.nD Cert.KernelAtb.τ).loc Cert.KernelAtb.main_arg5) = m ((c.tc : Thread Cert.KernelAtb.nD Cert.KernelAtb.τ).loc Cert.KernelAtb.main_arg5)
      ∧ r.2.mem ((c.tc : Thread Cert.KernelAtb.nD Cert.KernelAtb.τ).loc Cert.KernelAtb.main_arg6) = m ((c.tc : Thread Cert.KernelAtb.nD Cert.KernelAtb.τ).loc Cert.KernelAtb.main_arg6)
      ∧ r.2.mem ((c.tc : Thread Cert.KernelAtb.nD Cert.KernelAtb.τ).loc Cert.KernelAtb.main_arg7) = m ((c.tc : Thread Cert.KernelAtb.nD Cert.KernelAtb.τ).loc Cert.KernelAtb.main_arg7))
      ∧ r.2.sem = fun _ => 0)

def quiescent_KernelAtbIdeal [hKernelAtbIdeal : Cert.KernelAtbIdeal.Facts] : Prop :=
  ∀ (m : (ℓ : Loc Cert.KernelAtbIdeal.nD Cert.KernelAtbIdeal.τ Cert.KernelAtbIdeal.sig) → Buf (Elt Ideal) ℓ) (g : Dev Cert.KernelAtbIdeal.nD → PrngReg), Pre_KernelAtbIdeal m →
    θ_run (Cert.KernelAtbIdeal.defs (F := Ideal)) (onTc (τ := Cert.KernelAtbIdeal.τ) (Cert.KernelAtbIdeal.main (F := Ideal))) ⟨m, fun _ => 0, g⟩ (fun r => (∀ c : Dev Cert.KernelAtbIdeal.nD,
      r.2.mem ((c.tc : Thread Cert.KernelAtbIdeal.nD Cert.KernelAtbIdeal.τ).loc Cert.KernelAtbIdeal.main_arg0) = m ((c.tc : Thread Cert.KernelAtbIdeal.nD Cert.KernelAtbIdeal.τ).loc Cert.KernelAtbIdeal.main_arg0)
      ∧ r.2.mem ((c.tc : Thread Cert.KernelAtbIdeal.nD Cert.KernelAtbIdeal.τ).loc Cert.KernelAtbIdeal.main_arg1) = m ((c.tc : Thread Cert.KernelAtbIdeal.nD Cert.KernelAtbIdeal.τ).loc Cert.KernelAtbIdeal.main_arg1)
      ∧ r.2.mem ((c.tc : Thread Cert.KernelAtbIdeal.nD Cert.KernelAtbIdeal.τ).loc Cert.KernelAtbIdeal.main_arg2) = m ((c.tc : Thread Cert.KernelAtbIdeal.nD Cert.KernelAtbIdeal.τ).loc Cert.KernelAtbIdeal.main_arg2)
      ∧ r.2.mem ((c.tc : Thread Cert.KernelAtbIdeal.nD Cert.KernelAtbIdeal.τ).loc Cert.KernelAtbIdeal.main_arg3) = m ((c.tc : Thread Cert.KernelAtbIdeal.nD Cert.KernelAtbIdeal.τ).loc Cert.KernelAtbIdeal.main_arg3)
      ∧ r.2.mem ((c.tc : Thread Cert.KernelAtbIdeal.nD Cert.KernelAtbIdeal.τ).loc Cert.KernelAtbIdeal.main_arg4) = m ((c.tc : Thread Cert.KernelAtbIdeal.nD Cert.KernelAtbIdeal.τ).loc Cert.KernelAtbIdeal.main_arg4)
      ∧ r.2.mem ((c.tc : Thread Cert.KernelAtbIdeal.nD Cert.KernelAtbIdeal.τ).loc Cert.KernelAtbIdeal.main_arg5) = m ((c.tc : Thread Cert.KernelAtbIdeal.nD Cert.KernelAtbIdeal.τ).loc Cert.KernelAtbIdeal.main_arg5)
      ∧ r.2.mem ((c.tc : Thread Cert.KernelAtbIdeal.nD Cert.KernelAtbIdeal.τ).loc Cert.KernelAtbIdeal.main_arg6) = m ((c.tc : Thread Cert.KernelAtbIdeal.nD Cert.KernelAtbIdeal.τ).loc Cert.KernelAtbIdeal.main_arg6)
      ∧ r.2.mem ((c.tc : Thread Cert.KernelAtbIdeal.nD Cert.KernelAtbIdeal.τ).loc Cert.KernelAtbIdeal.main_arg7) = m ((c.tc : Thread Cert.KernelAtbIdeal.nD Cert.KernelAtbIdeal.τ).loc Cert.KernelAtbIdeal.main_arg7))
      ∧ r.2.sem = fun _ => 0)

def quiescent_KernelAtbIdeal_pre_atb_finite [hKernelAtbIdeal : Cert.KernelAtbIdeal.Facts] [hPre_atb_finite : Cert.Pre_atb_finite.Facts] : Prop :=
  ∀ (m : (ℓ : Loc Cert.KernelAtbIdeal.nD Cert.KernelAtbIdeal.τ Cert.KernelAtbIdeal.sig) → Buf (Elt Ideal) ℓ) (g : Dev Cert.KernelAtbIdeal.nD → PrngReg), Pre_KernelAtbIdeal_atb_finite m →
    θ_run (Cert.KernelAtbIdeal.defs (F := Ideal)) (onTc (τ := Cert.KernelAtbIdeal.τ) (Cert.KernelAtbIdeal.main (F := Ideal))) ⟨m, fun _ => 0, g⟩ (fun r => (∀ c : Dev Cert.KernelAtbIdeal.nD,
      r.2.mem ((c.tc : Thread Cert.KernelAtbIdeal.nD Cert.KernelAtbIdeal.τ).loc Cert.KernelAtbIdeal.main_arg0) = m ((c.tc : Thread Cert.KernelAtbIdeal.nD Cert.KernelAtbIdeal.τ).loc Cert.KernelAtbIdeal.main_arg0)
      ∧ r.2.mem ((c.tc : Thread Cert.KernelAtbIdeal.nD Cert.KernelAtbIdeal.τ).loc Cert.KernelAtbIdeal.main_arg1) = m ((c.tc : Thread Cert.KernelAtbIdeal.nD Cert.KernelAtbIdeal.τ).loc Cert.KernelAtbIdeal.main_arg1)
      ∧ r.2.mem ((c.tc : Thread Cert.KernelAtbIdeal.nD Cert.KernelAtbIdeal.τ).loc Cert.KernelAtbIdeal.main_arg2) = m ((c.tc : Thread Cert.KernelAtbIdeal.nD Cert.KernelAtbIdeal.τ).loc Cert.KernelAtbIdeal.main_arg2)
      ∧ r.2.mem ((c.tc : Thread Cert.KernelAtbIdeal.nD Cert.KernelAtbIdeal.τ).loc Cert.KernelAtbIdeal.main_arg3) = m ((c.tc : Thread Cert.KernelAtbIdeal.nD Cert.KernelAtbIdeal.τ).loc Cert.KernelAtbIdeal.main_arg3)
      ∧ r.2.mem ((c.tc : Thread Cert.KernelAtbIdeal.nD Cert.KernelAtbIdeal.τ).loc Cert.KernelAtbIdeal.main_arg4) = m ((c.tc : Thread Cert.KernelAtbIdeal.nD Cert.KernelAtbIdeal.τ).loc Cert.KernelAtbIdeal.main_arg4)
      ∧ r.2.mem ((c.tc : Thread Cert.KernelAtbIdeal.nD Cert.KernelAtbIdeal.τ).loc Cert.KernelAtbIdeal.main_arg5) = m ((c.tc : Thread Cert.KernelAtbIdeal.nD Cert.KernelAtbIdeal.τ).loc Cert.KernelAtbIdeal.main_arg5)
      ∧ r.2.mem ((c.tc : Thread Cert.KernelAtbIdeal.nD Cert.KernelAtbIdeal.τ).loc Cert.KernelAtbIdeal.main_arg6) = m ((c.tc : Thread Cert.KernelAtbIdeal.nD Cert.KernelAtbIdeal.τ).loc Cert.KernelAtbIdeal.main_arg6)
      ∧ r.2.mem ((c.tc : Thread Cert.KernelAtbIdeal.nD Cert.KernelAtbIdeal.τ).loc Cert.KernelAtbIdeal.main_arg7) = m ((c.tc : Thread Cert.KernelAtbIdeal.nD Cert.KernelAtbIdeal.τ).loc Cert.KernelAtbIdeal.main_arg7))
      ∧ r.2.sem = fun _ => 0)

def quiescent_ReferenceAtbIdeal [hReferenceAtbIdeal : Cert.ReferenceAtbIdeal.Facts] : Prop :=
  ∀ (m : (ℓ : Loc Cert.ReferenceAtbIdeal.nD Cert.ReferenceAtbIdeal.τ Cert.ReferenceAtbIdeal.sig) → Buf (Elt Ideal) ℓ) (g : Dev Cert.ReferenceAtbIdeal.nD → PrngReg), Pre_ReferenceAtbIdeal m →
    θ_run (Cert.ReferenceAtbIdeal.defs (F := Ideal)) (onTc (τ := Cert.ReferenceAtbIdeal.τ) (Cert.ReferenceAtbIdeal.main (F := Ideal))) ⟨m, fun _ => 0, g⟩ (fun r => (∀ c : Dev Cert.ReferenceAtbIdeal.nD,
      r.2.mem ((c.tc : Thread Cert.ReferenceAtbIdeal.nD Cert.ReferenceAtbIdeal.τ).loc Cert.ReferenceAtbIdeal.main_arg0) = m ((c.tc : Thread Cert.ReferenceAtbIdeal.nD Cert.ReferenceAtbIdeal.τ).loc Cert.ReferenceAtbIdeal.main_arg0)
      ∧ r.2.mem ((c.tc : Thread Cert.ReferenceAtbIdeal.nD Cert.ReferenceAtbIdeal.τ).loc Cert.ReferenceAtbIdeal.main_arg1) = m ((c.tc : Thread Cert.ReferenceAtbIdeal.nD Cert.ReferenceAtbIdeal.τ).loc Cert.ReferenceAtbIdeal.main_arg1)
      ∧ r.2.mem ((c.tc : Thread Cert.ReferenceAtbIdeal.nD Cert.ReferenceAtbIdeal.τ).loc Cert.ReferenceAtbIdeal.main_arg2) = m ((c.tc : Thread Cert.ReferenceAtbIdeal.nD Cert.ReferenceAtbIdeal.τ).loc Cert.ReferenceAtbIdeal.main_arg2)
      ∧ r.2.mem ((c.tc : Thread Cert.ReferenceAtbIdeal.nD Cert.ReferenceAtbIdeal.τ).loc Cert.ReferenceAtbIdeal.main_arg3) = m ((c.tc : Thread Cert.ReferenceAtbIdeal.nD Cert.ReferenceAtbIdeal.τ).loc Cert.ReferenceAtbIdeal.main_arg3)
      ∧ r.2.mem ((c.tc : Thread Cert.ReferenceAtbIdeal.nD Cert.ReferenceAtbIdeal.τ).loc Cert.ReferenceAtbIdeal.main_arg4) = m ((c.tc : Thread Cert.ReferenceAtbIdeal.nD Cert.ReferenceAtbIdeal.τ).loc Cert.ReferenceAtbIdeal.main_arg4)
      ∧ r.2.mem ((c.tc : Thread Cert.ReferenceAtbIdeal.nD Cert.ReferenceAtbIdeal.τ).loc Cert.ReferenceAtbIdeal.main_arg5) = m ((c.tc : Thread Cert.ReferenceAtbIdeal.nD Cert.ReferenceAtbIdeal.τ).loc Cert.ReferenceAtbIdeal.main_arg5)
      ∧ r.2.mem ((c.tc : Thread Cert.ReferenceAtbIdeal.nD Cert.ReferenceAtbIdeal.τ).loc Cert.ReferenceAtbIdeal.main_arg6) = m ((c.tc : Thread Cert.ReferenceAtbIdeal.nD Cert.ReferenceAtbIdeal.τ).loc Cert.ReferenceAtbIdeal.main_arg6)
      ∧ r.2.mem ((c.tc : Thread Cert.ReferenceAtbIdeal.nD Cert.ReferenceAtbIdeal.τ).loc Cert.ReferenceAtbIdeal.main_arg7) = m ((c.tc : Thread Cert.ReferenceAtbIdeal.nD Cert.ReferenceAtbIdeal.τ).loc Cert.ReferenceAtbIdeal.main_arg7))
      ∧ r.2.sem = fun _ => 0)

def quiescent_ReferenceAtbIdeal_pre_atb_finite [hReferenceAtbIdeal : Cert.ReferenceAtbIdeal.Facts] [hPre_atb_finite : Cert.Pre_atb_finite.Facts] : Prop :=
  ∀ (m : (ℓ : Loc Cert.ReferenceAtbIdeal.nD Cert.ReferenceAtbIdeal.τ Cert.ReferenceAtbIdeal.sig) → Buf (Elt Ideal) ℓ) (g : Dev Cert.ReferenceAtbIdeal.nD → PrngReg), Pre_ReferenceAtbIdeal_atb_finite m →
    θ_run (Cert.ReferenceAtbIdeal.defs (F := Ideal)) (onTc (τ := Cert.ReferenceAtbIdeal.τ) (Cert.ReferenceAtbIdeal.main (F := Ideal))) ⟨m, fun _ => 0, g⟩ (fun r => (∀ c : Dev Cert.ReferenceAtbIdeal.nD,
      r.2.mem ((c.tc : Thread Cert.ReferenceAtbIdeal.nD Cert.ReferenceAtbIdeal.τ).loc Cert.ReferenceAtbIdeal.main_arg0) = m ((c.tc : Thread Cert.ReferenceAtbIdeal.nD Cert.ReferenceAtbIdeal.τ).loc Cert.ReferenceAtbIdeal.main_arg0)
      ∧ r.2.mem ((c.tc : Thread Cert.ReferenceAtbIdeal.nD Cert.ReferenceAtbIdeal.τ).loc Cert.ReferenceAtbIdeal.main_arg1) = m ((c.tc : Thread Cert.ReferenceAtbIdeal.nD Cert.ReferenceAtbIdeal.τ).loc Cert.ReferenceAtbIdeal.main_arg1)
      ∧ r.2.mem ((c.tc : Thread Cert.ReferenceAtbIdeal.nD Cert.ReferenceAtbIdeal.τ).loc Cert.ReferenceAtbIdeal.main_arg2) = m ((c.tc : Thread Cert.ReferenceAtbIdeal.nD Cert.ReferenceAtbIdeal.τ).loc Cert.ReferenceAtbIdeal.main_arg2)
      ∧ r.2.mem ((c.tc : Thread Cert.ReferenceAtbIdeal.nD Cert.ReferenceAtbIdeal.τ).loc Cert.ReferenceAtbIdeal.main_arg3) = m ((c.tc : Thread Cert.ReferenceAtbIdeal.nD Cert.ReferenceAtbIdeal.τ).loc Cert.ReferenceAtbIdeal.main_arg3)
      ∧ r.2.mem ((c.tc : Thread Cert.ReferenceAtbIdeal.nD Cert.ReferenceAtbIdeal.τ).loc Cert.ReferenceAtbIdeal.main_arg4) = m ((c.tc : Thread Cert.ReferenceAtbIdeal.nD Cert.ReferenceAtbIdeal.τ).loc Cert.ReferenceAtbIdeal.main_arg4)
      ∧ r.2.mem ((c.tc : Thread Cert.ReferenceAtbIdeal.nD Cert.ReferenceAtbIdeal.τ).loc Cert.ReferenceAtbIdeal.main_arg5) = m ((c.tc : Thread Cert.ReferenceAtbIdeal.nD Cert.ReferenceAtbIdeal.τ).loc Cert.ReferenceAtbIdeal.main_arg5)
      ∧ r.2.mem ((c.tc : Thread Cert.ReferenceAtbIdeal.nD Cert.ReferenceAtbIdeal.τ).loc Cert.ReferenceAtbIdeal.main_arg6) = m ((c.tc : Thread Cert.ReferenceAtbIdeal.nD Cert.ReferenceAtbIdeal.τ).loc Cert.ReferenceAtbIdeal.main_arg6)
      ∧ r.2.mem ((c.tc : Thread Cert.ReferenceAtbIdeal.nD Cert.ReferenceAtbIdeal.τ).loc Cert.ReferenceAtbIdeal.main_arg7) = m ((c.tc : Thread Cert.ReferenceAtbIdeal.nD Cert.ReferenceAtbIdeal.τ).loc Cert.ReferenceAtbIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_KernelFdn [hKernelFdn : Cert.KernelFdn.Facts] : Prop :=
  ∀ (m : (ℓ : Loc Cert.KernelFdn.nD Cert.KernelFdn.τ Cert.KernelFdn.sig) → Buf (Elt Bits) ℓ) (g : Dev Cert.KernelFdn.nD → PrngReg), Pre_KernelFdn m →
    θ_run (Cert.KernelFdn.defs (F := Bits)) (onTc (τ := Cert.KernelFdn.τ) (Cert.KernelFdn.main (F := Bits))) ⟨m, fun _ => 0, g⟩ (fun r => (∀ c : Dev Cert.KernelFdn.nD,
      r.2.mem ((c.tc : Thread Cert.KernelFdn.nD Cert.KernelFdn.τ).loc Cert.KernelFdn.main_arg0) = m ((c.tc : Thread Cert.KernelFdn.nD Cert.KernelFdn.τ).loc Cert.KernelFdn.main_arg0)
      ∧ r.2.mem ((c.tc : Thread Cert.KernelFdn.nD Cert.KernelFdn.τ).loc Cert.KernelFdn.main_arg1) = m ((c.tc : Thread Cert.KernelFdn.nD Cert.KernelFdn.τ).loc Cert.KernelFdn.main_arg1)
      ∧ r.2.mem ((c.tc : Thread Cert.KernelFdn.nD Cert.KernelFdn.τ).loc Cert.KernelFdn.main_arg2) = m ((c.tc : Thread Cert.KernelFdn.nD Cert.KernelFdn.τ).loc Cert.KernelFdn.main_arg2)
      ∧ r.2.mem ((c.tc : Thread Cert.KernelFdn.nD Cert.KernelFdn.τ).loc Cert.KernelFdn.main_arg3) = m ((c.tc : Thread Cert.KernelFdn.nD Cert.KernelFdn.τ).loc Cert.KernelFdn.main_arg3))
      ∧ r.2.sem = fun _ => 0)

def quiescent_KernelFdnIdeal [hKernelFdnIdeal : Cert.KernelFdnIdeal.Facts] : Prop :=
  ∀ (m : (ℓ : Loc Cert.KernelFdnIdeal.nD Cert.KernelFdnIdeal.τ Cert.KernelFdnIdeal.sig) → Buf (Elt Ideal) ℓ) (g : Dev Cert.KernelFdnIdeal.nD → PrngReg), Pre_KernelFdnIdeal m →
    θ_run (Cert.KernelFdnIdeal.defs (F := Ideal)) (onTc (τ := Cert.KernelFdnIdeal.τ) (Cert.KernelFdnIdeal.main (F := Ideal))) ⟨m, fun _ => 0, g⟩ (fun r => (∀ c : Dev Cert.KernelFdnIdeal.nD,
      r.2.mem ((c.tc : Thread Cert.KernelFdnIdeal.nD Cert.KernelFdnIdeal.τ).loc Cert.KernelFdnIdeal.main_arg0) = m ((c.tc : Thread Cert.KernelFdnIdeal.nD Cert.KernelFdnIdeal.τ).loc Cert.KernelFdnIdeal.main_arg0)
      ∧ r.2.mem ((c.tc : Thread Cert.KernelFdnIdeal.nD Cert.KernelFdnIdeal.τ).loc Cert.KernelFdnIdeal.main_arg1) = m ((c.tc : Thread Cert.KernelFdnIdeal.nD Cert.KernelFdnIdeal.τ).loc Cert.KernelFdnIdeal.main_arg1)
      ∧ r.2.mem ((c.tc : Thread Cert.KernelFdnIdeal.nD Cert.KernelFdnIdeal.τ).loc Cert.KernelFdnIdeal.main_arg2) = m ((c.tc : Thread Cert.KernelFdnIdeal.nD Cert.KernelFdnIdeal.τ).loc Cert.KernelFdnIdeal.main_arg2)
      ∧ r.2.mem ((c.tc : Thread Cert.KernelFdnIdeal.nD Cert.KernelFdnIdeal.τ).loc Cert.KernelFdnIdeal.main_arg3) = m ((c.tc : Thread Cert.KernelFdnIdeal.nD Cert.KernelFdnIdeal.τ).loc Cert.KernelFdnIdeal.main_arg3))
      ∧ r.2.sem = fun _ => 0)

def quiescent_ReferenceFdnIdeal [hReferenceFdnIdeal : Cert.ReferenceFdnIdeal.Facts] : Prop :=
  ∀ (m : (ℓ : Loc Cert.ReferenceFdnIdeal.nD Cert.ReferenceFdnIdeal.τ Cert.ReferenceFdnIdeal.sig) → Buf (Elt Ideal) ℓ) (g : Dev Cert.ReferenceFdnIdeal.nD → PrngReg), Pre_ReferenceFdnIdeal m →
    θ_run (Cert.ReferenceFdnIdeal.defs (F := Ideal)) (onTc (τ := Cert.ReferenceFdnIdeal.τ) (Cert.ReferenceFdnIdeal.main (F := Ideal))) ⟨m, fun _ => 0, g⟩ (fun r => (∀ c : Dev Cert.ReferenceFdnIdeal.nD,
      r.2.mem ((c.tc : Thread Cert.ReferenceFdnIdeal.nD Cert.ReferenceFdnIdeal.τ).loc Cert.ReferenceFdnIdeal.main_arg0) = m ((c.tc : Thread Cert.ReferenceFdnIdeal.nD Cert.ReferenceFdnIdeal.τ).loc Cert.ReferenceFdnIdeal.main_arg0)
      ∧ r.2.mem ((c.tc : Thread Cert.ReferenceFdnIdeal.nD Cert.ReferenceFdnIdeal.τ).loc Cert.ReferenceFdnIdeal.main_arg1) = m ((c.tc : Thread Cert.ReferenceFdnIdeal.nD Cert.ReferenceFdnIdeal.τ).loc Cert.ReferenceFdnIdeal.main_arg1)
      ∧ r.2.mem ((c.tc : Thread Cert.ReferenceFdnIdeal.nD Cert.ReferenceFdnIdeal.τ).loc Cert.ReferenceFdnIdeal.main_arg2) = m ((c.tc : Thread Cert.ReferenceFdnIdeal.nD Cert.ReferenceFdnIdeal.τ).loc Cert.ReferenceFdnIdeal.main_arg2)
      ∧ r.2.mem ((c.tc : Thread Cert.ReferenceFdnIdeal.nD Cert.ReferenceFdnIdeal.τ).loc Cert.ReferenceFdnIdeal.main_arg3) = m ((c.tc : Thread Cert.ReferenceFdnIdeal.nD Cert.ReferenceFdnIdeal.τ).loc Cert.ReferenceFdnIdeal.main_arg3))
      ∧ r.2.sem = fun _ => 0)

def quiescent_KernelMods [hKernelMods : Cert.KernelMods.Facts] : Prop :=
  ∀ (m : (ℓ : Loc Cert.KernelMods.nD Cert.KernelMods.τ Cert.KernelMods.sig) → Buf (Elt Bits) ℓ) (g : Dev Cert.KernelMods.nD → PrngReg), Pre_KernelMods m →
    θ_run (Cert.KernelMods.defs (F := Bits)) (onTc (τ := Cert.KernelMods.τ) (Cert.KernelMods.main (F := Bits))) ⟨m, fun _ => 0, g⟩ (fun r => (∀ c : Dev Cert.KernelMods.nD,
      r.2.mem ((c.tc : Thread Cert.KernelMods.nD Cert.KernelMods.τ).loc Cert.KernelMods.main_arg0) = m ((c.tc : Thread Cert.KernelMods.nD Cert.KernelMods.τ).loc Cert.KernelMods.main_arg0)
      ∧ r.2.mem ((c.tc : Thread Cert.KernelMods.nD Cert.KernelMods.τ).loc Cert.KernelMods.main_arg1) = m ((c.tc : Thread Cert.KernelMods.nD Cert.KernelMods.τ).loc Cert.KernelMods.main_arg1)
      ∧ r.2.mem ((c.tc : Thread Cert.KernelMods.nD Cert.KernelMods.τ).loc Cert.KernelMods.main_arg2) = m ((c.tc : Thread Cert.KernelMods.nD Cert.KernelMods.τ).loc Cert.KernelMods.main_arg2))
      ∧ r.2.sem = fun _ => 0)

def quiescent_KernelModsIdeal [hKernelModsIdeal : Cert.KernelModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg), Pre_KernelModsIdeal m →
    θ_run (Cert.KernelModsIdeal.defs (F := Ideal)) (onTc (τ := Cert.KernelModsIdeal.τ) (Cert.KernelModsIdeal.main (F := Ideal))) ⟨m, fun _ => 0, g⟩ (fun r => (∀ c : Dev Cert.KernelModsIdeal.nD,
      r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
      ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1)
      ∧ r.2.mem ((c.tc : Thread Cert.KernelModsIdeal.nD Cert.KernelModsIdeal.τ).loc Cert.KernelModsIdeal.main_arg2) = m ((c.tc : Thread Cert.KernelModsIdeal.nD Cert.KernelModsIdeal.τ).loc Cert.KernelModsIdeal.main_arg2))
      ∧ r.2.sem = fun _ => 0)

def quiescent_ReferenceModsIdeal [hReferenceModsIdeal : Cert.ReferenceModsIdeal.Facts] : Prop :=
  ∀ (m : (ℓ : Loc Cert.ReferenceModsIdeal.nD Cert.ReferenceModsIdeal.τ Cert.ReferenceModsIdeal.sig) → Buf (Elt Ideal) ℓ) (g : Dev Cert.ReferenceModsIdeal.nD → PrngReg), Pre_ReferenceModsIdeal m →
    θ_run (Cert.ReferenceModsIdeal.defs (F := Ideal)) (onTc (τ := Cert.ReferenceModsIdeal.τ) (Cert.ReferenceModsIdeal.main (F := Ideal))) ⟨m, fun _ => 0, g⟩ (fun r => (∀ c : Dev Cert.ReferenceModsIdeal.nD,
      r.2.mem ((c.tc : Thread Cert.ReferenceModsIdeal.nD Cert.ReferenceModsIdeal.τ).loc Cert.ReferenceModsIdeal.main_arg0) = m ((c.tc : Thread Cert.ReferenceModsIdeal.nD Cert.ReferenceModsIdeal.τ).loc Cert.ReferenceModsIdeal.main_arg0)
      ∧ r.2.mem ((c.tc : Thread Cert.ReferenceModsIdeal.nD Cert.ReferenceModsIdeal.τ).loc Cert.ReferenceModsIdeal.main_arg1) = m ((c.tc : Thread Cert.ReferenceModsIdeal.nD Cert.ReferenceModsIdeal.τ).loc Cert.ReferenceModsIdeal.main_arg1)
      ∧ r.2.mem ((c.tc : Thread Cert.ReferenceModsIdeal.nD Cert.ReferenceModsIdeal.τ).loc Cert.ReferenceModsIdeal.main_arg2) = m ((c.tc : Thread Cert.ReferenceModsIdeal.nD Cert.ReferenceModsIdeal.τ).loc Cert.ReferenceModsIdeal.main_arg2))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v1_0)) (v1 : (c : Dev Cert.KernelConvIdeal.nD) → Buf (Elt Ideal) ((c.tc : Thread Cert.KernelConvIdeal.nD Cert.KernelConvIdeal.τ).loc Cert.KernelConvIdeal.main_v1_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1_0) = v0 c
          ∧ r.2.mem ((c.tc : Thread Cert.KernelConvIdeal.nD Cert.KernelConvIdeal.τ).loc Cert.KernelConvIdeal.main_v1_1) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v75) = v0 c
          ∧ r.2.mem ((c.tc : Thread Cert.ReferenceConvIdeal.nD Cert.ReferenceConvIdeal.τ).loc Cert.ReferenceConvIdeal.main_v76) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelUp_KernelUpIdeal : Prop :=
  True

def algebraic_KernelUpIdeal_ReferenceUpIdeal_pre_norm_finite [hKernelUpIdeal : Cert.KernelUpIdeal.Facts] [hReferenceUpIdeal : Cert.ReferenceUpIdeal.Facts] [hPre_norm_finite : Cert.Pre_norm_finite.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_norm_finite m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)) →
    ∃ (v0 : (c : Dev Cert.KernelUpIdeal.nD) → Buf (Elt Ideal) ((c.tc : Thread Cert.KernelUpIdeal.nD Cert.KernelUpIdeal.τ).loc Cert.KernelUpIdeal.main_v12_0)) (v1 : (c : Dev Cert.KernelUpIdeal.nD) → Buf (Elt Ideal) ((c.tc : Thread Cert.KernelUpIdeal.nD Cert.KernelUpIdeal.τ).loc Cert.KernelUpIdeal.main_v12_1)) (v2 : (c : Dev Cert.KernelUpIdeal.nD) → Buf (Elt Ideal) ((c.tc : Thread Cert.KernelUpIdeal.nD Cert.KernelUpIdeal.τ).loc Cert.KernelUpIdeal.main_v12_2)) (v3 : (c : Dev Cert.KernelUpIdeal.nD) → Buf (Elt Ideal) ((c.tc : Thread Cert.KernelUpIdeal.nD Cert.KernelUpIdeal.τ).loc Cert.KernelUpIdeal.main_v12_3)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v12_0) = v0 c
          ∧ r.2.mem ((c.tc : Thread Cert.KernelUpIdeal.nD Cert.KernelUpIdeal.τ).loc Cert.KernelUpIdeal.main_v12_1) = v1 c
          ∧ r.2.mem ((c.tc : Thread Cert.KernelUpIdeal.nD Cert.KernelUpIdeal.τ).loc Cert.KernelUpIdeal.main_v12_2) = v2 c
          ∧ r.2.mem ((c.tc : Thread Cert.KernelUpIdeal.nD Cert.KernelUpIdeal.τ).loc Cert.KernelUpIdeal.main_v12_3) = v3 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v60) = v0 c
          ∧ r.2.mem ((c.tc : Thread Cert.ReferenceUpIdeal.nD Cert.ReferenceUpIdeal.τ).loc Cert.ReferenceUpIdeal.main_v30) = v1 c
          ∧ r.2.mem ((c.tc : Thread Cert.ReferenceUpIdeal.nD Cert.ReferenceUpIdeal.τ).loc Cert.ReferenceUpIdeal.main_v37) = v2 c
          ∧ r.2.mem ((c.tc : Thread Cert.ReferenceUpIdeal.nD Cert.ReferenceUpIdeal.τ).loc Cert.ReferenceUpIdeal.main_v61) = v3 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6))

def preserves_KernelIn_KernelInIdeal : Prop :=
  True

def algebraic_KernelInIdeal_ReferenceInIdeal_pre_in_finite [hKernelInIdeal : Cert.KernelInIdeal.Facts] [hReferenceInIdeal : Cert.ReferenceInIdeal.Facts] [hPre_in_finite : Cert.Pre_in_finite.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_in_finite m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)) →
    ∃ (v0 : (c : Dev Cert.KernelInIdeal.nD) → Buf (Elt Ideal) ((c.tc : Thread Cert.KernelInIdeal.nD Cert.KernelInIdeal.τ).loc Cert.KernelInIdeal.main_v5_0)) (v1 : (c : Dev Cert.KernelInIdeal.nD) → Buf (Elt Ideal) ((c.tc : Thread Cert.KernelInIdeal.nD Cert.KernelInIdeal.τ).loc Cert.KernelInIdeal.main_v5_1)) (v2 : (c : Dev Cert.KernelInIdeal.nD) → Buf (Elt Ideal) ((c.tc : Thread Cert.KernelInIdeal.nD Cert.KernelInIdeal.τ).loc Cert.KernelInIdeal.main_v5_2)) (v3 : (c : Dev Cert.KernelInIdeal.nD) → Buf (Elt Ideal) ((c.tc : Thread Cert.KernelInIdeal.nD Cert.KernelInIdeal.τ).loc Cert.KernelInIdeal.main_v5_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5_0) = v0 c
          ∧ r.2.mem ((c.tc : Thread Cert.KernelInIdeal.nD Cert.KernelInIdeal.τ).loc Cert.KernelInIdeal.main_v5_1) = v1 c
          ∧ r.2.mem ((c.tc : Thread Cert.KernelInIdeal.nD Cert.KernelInIdeal.τ).loc Cert.KernelInIdeal.main_v5_2) = v2 c
          ∧ r.2.mem ((c.tc : Thread Cert.KernelInIdeal.nD Cert.KernelInIdeal.τ).loc Cert.KernelInIdeal.main_v5_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v60) = v0 c
          ∧ r.2.mem ((c.tc : Thread Cert.ReferenceInIdeal.nD Cert.ReferenceInIdeal.τ).loc Cert.ReferenceInIdeal.main_v30) = v1 c
          ∧ r.2.mem ((c.tc : Thread Cert.ReferenceInIdeal.nD Cert.ReferenceInIdeal.τ).loc Cert.ReferenceInIdeal.main_v37) = v2 c
          ∧ r.2.mem ((c.tc : Thread Cert.ReferenceInIdeal.nD Cert.ReferenceInIdeal.τ).loc Cert.ReferenceInIdeal.main_v61) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6))

def preserves_KernelWada_KernelWadaIdeal : Prop :=
  True

def algebraic_KernelWadaIdeal_ReferenceWadaIdeal [hKernelWadaIdeal : Cert.KernelWadaIdeal.Facts] [hReferenceWadaIdeal : Cert.ReferenceWadaIdeal.Facts] : Prop :=
  ∀ (m : (ℓ : Loc Cert.KernelWadaIdeal.nD Cert.KernelWadaIdeal.τ Cert.KernelWadaIdeal.sig) → Buf (Elt Ideal) ℓ) (g : Dev Cert.KernelWadaIdeal.nD → PrngReg)
    (m' : (ℓ : Loc Cert.ReferenceWadaIdeal.nD Cert.ReferenceWadaIdeal.τ Cert.ReferenceWadaIdeal.sig) → Buf (Elt Ideal) ℓ) (g' : Dev Cert.ReferenceWadaIdeal.nD → PrngReg), Pre_KernelWadaIdeal m →
    (∀ c : Dev Cert.KernelWadaIdeal.nD,
      m' ((c.tc : Thread Cert.ReferenceWadaIdeal.nD Cert.ReferenceWadaIdeal.τ).loc Cert.ReferenceWadaIdeal.main_arg0) = m ((c.tc : Thread Cert.KernelWadaIdeal.nD Cert.KernelWadaIdeal.τ).loc Cert.KernelWadaIdeal.main_arg0)
      ∧ m' ((c.tc : Thread Cert.ReferenceWadaIdeal.nD Cert.ReferenceWadaIdeal.τ).loc Cert.ReferenceWadaIdeal.main_arg1) = m ((c.tc : Thread Cert.KernelWadaIdeal.nD Cert.KernelWadaIdeal.τ).loc Cert.KernelWadaIdeal.main_arg1)
      ∧ m' ((c.tc : Thread Cert.ReferenceWadaIdeal.nD Cert.ReferenceWadaIdeal.τ).loc Cert.ReferenceWadaIdeal.main_arg2) = m ((c.tc : Thread Cert.KernelWadaIdeal.nD Cert.KernelWadaIdeal.τ).loc Cert.KernelWadaIdeal.main_arg2)
      ∧ m' ((c.tc : Thread Cert.ReferenceWadaIdeal.nD Cert.ReferenceWadaIdeal.τ).loc Cert.ReferenceWadaIdeal.main_arg3) = m ((c.tc : Thread Cert.KernelWadaIdeal.nD Cert.KernelWadaIdeal.τ).loc Cert.KernelWadaIdeal.main_arg3)) →
    ∃ (v0 : (c : Dev Cert.KernelWadaIdeal.nD) → Buf (Elt Ideal) ((c.tc : Thread Cert.KernelWadaIdeal.nD Cert.KernelWadaIdeal.τ).loc Cert.KernelWadaIdeal.main_v1)),
      θ_run (Cert.KernelWadaIdeal.defs (F := Ideal)) (onTc (τ := Cert.KernelWadaIdeal.τ) (Cert.KernelWadaIdeal.main (F := Ideal))) ⟨m, fun _ => 0, g⟩ (fun r => ∀ c : Dev Cert.KernelWadaIdeal.nD,
          r.2.mem ((c.tc : Thread Cert.KernelWadaIdeal.nD Cert.KernelWadaIdeal.τ).loc Cert.KernelWadaIdeal.main_v1) = v0 c
          ∧ r.2.mem ((c.tc : Thread Cert.KernelWadaIdeal.nD Cert.KernelWadaIdeal.τ).loc Cert.KernelWadaIdeal.main_arg0) = m ((c.tc : Thread Cert.KernelWadaIdeal.nD Cert.KernelWadaIdeal.τ).loc Cert.KernelWadaIdeal.main_arg0)
          ∧ r.2.mem ((c.tc : Thread Cert.KernelWadaIdeal.nD Cert.KernelWadaIdeal.τ).loc Cert.KernelWadaIdeal.main_arg1) = m ((c.tc : Thread Cert.KernelWadaIdeal.nD Cert.KernelWadaIdeal.τ).loc Cert.KernelWadaIdeal.main_arg1)
          ∧ r.2.mem ((c.tc : Thread Cert.KernelWadaIdeal.nD Cert.KernelWadaIdeal.τ).loc Cert.KernelWadaIdeal.main_arg2) = m ((c.tc : Thread Cert.KernelWadaIdeal.nD Cert.KernelWadaIdeal.τ).loc Cert.KernelWadaIdeal.main_arg2)
          ∧ r.2.mem ((c.tc : Thread Cert.KernelWadaIdeal.nD Cert.KernelWadaIdeal.τ).loc Cert.KernelWadaIdeal.main_arg3) = m ((c.tc : Thread Cert.KernelWadaIdeal.nD Cert.KernelWadaIdeal.τ).loc Cert.KernelWadaIdeal.main_arg3))
      ∧ θ_run (Cert.ReferenceWadaIdeal.defs (F := Ideal)) (onTc (τ := Cert.ReferenceWadaIdeal.τ) (Cert.ReferenceWadaIdeal.main (F := Ideal))) ⟨m', fun _ => 0, g'⟩ (fun r => ∀ c : Dev Cert.ReferenceWadaIdeal.nD,
          r.2.mem ((c.tc : Thread Cert.ReferenceWadaIdeal.nD Cert.ReferenceWadaIdeal.τ).loc Cert.ReferenceWadaIdeal.main_v6) = v0 c
          ∧ r.2.mem ((c.tc : Thread Cert.ReferenceWadaIdeal.nD Cert.ReferenceWadaIdeal.τ).loc Cert.ReferenceWadaIdeal.main_arg0) = m' ((c.tc : Thread Cert.ReferenceWadaIdeal.nD Cert.ReferenceWadaIdeal.τ).loc Cert.ReferenceWadaIdeal.main_arg0)
          ∧ r.2.mem ((c.tc : Thread Cert.ReferenceWadaIdeal.nD Cert.ReferenceWadaIdeal.τ).loc Cert.ReferenceWadaIdeal.main_arg1) = m' ((c.tc : Thread Cert.ReferenceWadaIdeal.nD Cert.ReferenceWadaIdeal.τ).loc Cert.ReferenceWadaIdeal.main_arg1)
          ∧ r.2.mem ((c.tc : Thread Cert.ReferenceWadaIdeal.nD Cert.ReferenceWadaIdeal.τ).loc Cert.ReferenceWadaIdeal.main_arg2) = m' ((c.tc : Thread Cert.ReferenceWadaIdeal.nD Cert.ReferenceWadaIdeal.τ).loc Cert.ReferenceWadaIdeal.main_arg2)
          ∧ r.2.mem ((c.tc : Thread Cert.ReferenceWadaIdeal.nD Cert.ReferenceWadaIdeal.τ).loc Cert.ReferenceWadaIdeal.main_arg3) = m' ((c.tc : Thread Cert.ReferenceWadaIdeal.nD Cert.ReferenceWadaIdeal.τ).loc Cert.ReferenceWadaIdeal.main_arg3))

def preserves_KernelDown_KernelDownIdeal : Prop :=
  True

def algebraic_KernelDownIdeal_ReferenceDownIdeal_pre_down_finite [hKernelDownIdeal : Cert.KernelDownIdeal.Facts] [hReferenceDownIdeal : Cert.ReferenceDownIdeal.Facts] [hPre_down_finite : Cert.Pre_down_finite.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal_down_finite m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v5_0)) (v1 : (c : Dev Cert.KernelDownIdeal.nD) → Buf (Elt Ideal) ((c.tc : Thread Cert.KernelDownIdeal.nD Cert.KernelDownIdeal.τ).loc Cert.KernelDownIdeal.main_v5_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v5_0) = v0 c
          ∧ r.2.mem ((c.tc : Thread Cert.KernelDownIdeal.nD Cert.KernelDownIdeal.τ).loc Cert.KernelDownIdeal.main_v5_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v34) = v0 c
          ∧ r.2.mem ((c.tc : Thread Cert.ReferenceDownIdeal.nD Cert.ReferenceDownIdeal.τ).loc Cert.ReferenceDownIdeal.main_v25) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)) →
    ∃ (v0 : (c : Dev Cert.KernelFfnIdeal.nD) → Buf (Elt Ideal) ((c.tc : Thread Cert.KernelFfnIdeal.nD Cert.KernelFfnIdeal.τ).loc Cert.KernelFfnIdeal.main_v7_0)) (v1 : (c : Dev Cert.KernelFfnIdeal.nD) → Buf (Elt Ideal) ((c.tc : Thread Cert.KernelFfnIdeal.nD Cert.KernelFfnIdeal.τ).loc Cert.KernelFfnIdeal.main_v7_1)) (v2 : (c : Dev Cert.KernelFfnIdeal.nD) → Buf (Elt Ideal) ((c.tc : Thread Cert.KernelFfnIdeal.nD Cert.KernelFfnIdeal.τ).loc Cert.KernelFfnIdeal.main_v7_2)) (v3 : (c : Dev Cert.KernelFfnIdeal.nD) → Buf (Elt Ideal) ((c.tc : Thread Cert.KernelFfnIdeal.nD Cert.KernelFfnIdeal.τ).loc Cert.KernelFfnIdeal.main_v7_3)) (v4 : (c : Dev Cert.KernelFfnIdeal.nD) → Buf (Elt Ideal) ((c.tc : Thread Cert.KernelFfnIdeal.nD Cert.KernelFfnIdeal.τ).loc Cert.KernelFfnIdeal.main_v7_4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v7_0) = v0 c
          ∧ r.2.mem ((c.tc : Thread Cert.KernelFfnIdeal.nD Cert.KernelFfnIdeal.τ).loc Cert.KernelFfnIdeal.main_v7_1) = v1 c
          ∧ r.2.mem ((c.tc : Thread Cert.KernelFfnIdeal.nD Cert.KernelFfnIdeal.τ).loc Cert.KernelFfnIdeal.main_v7_2) = v2 c
          ∧ r.2.mem ((c.tc : Thread Cert.KernelFfnIdeal.nD Cert.KernelFfnIdeal.τ).loc Cert.KernelFfnIdeal.main_v7_3) = v3 c
          ∧ r.2.mem ((c.tc : Thread Cert.KernelFfnIdeal.nD Cert.KernelFfnIdeal.τ).loc Cert.KernelFfnIdeal.main_v7_4) = v4 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v102) = v0 c
          ∧ r.2.mem ((c.tc : Thread Cert.ReferenceFfnIdeal.nD Cert.ReferenceFfnIdeal.τ).loc Cert.ReferenceFfnIdeal.main_v104) = v1 c
          ∧ r.2.mem ((c.tc : Thread Cert.ReferenceFfnIdeal.nD Cert.ReferenceFfnIdeal.τ).loc Cert.ReferenceFfnIdeal.main_v105) = v2 c
          ∧ r.2.mem ((c.tc : Thread Cert.ReferenceFfnIdeal.nD Cert.ReferenceFfnIdeal.τ).loc Cert.ReferenceFfnIdeal.main_v100) = v3 c
          ∧ r.2.mem ((c.tc : Thread Cert.ReferenceFfnIdeal.nD Cert.ReferenceFfnIdeal.τ).loc Cert.ReferenceFfnIdeal.main_v106) = v4 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8))

def preserves_KernelAtt_KernelAttIdeal : Prop :=
  True

def algebraic_KernelAttIdeal_ReferenceAttIdeal_pre_att_finite [hKernelAttIdeal : Cert.KernelAttIdeal.Facts] [hReferenceAttIdeal : Cert.ReferenceAttIdeal.Facts] [hPre_att_finite : Cert.Pre_att_finite.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.ReferenceAttIdeal.nD Cert.ReferenceAttIdeal.τ Cert.ReferenceAttIdeal.sig) → Buf (Elt Ideal) ℓ) (g' : Dev Cert.ReferenceAttIdeal.nD → PrngReg), Pre_KernelAttIdeal_att_finite m →
    (∀ c : Dev Cert.KernelAttIdeal.nD,
      m' ((c.tc : Thread Cert.ReferenceAttIdeal.nD Cert.ReferenceAttIdeal.τ).loc Cert.ReferenceAttIdeal.main_arg0) = m ((c.tc : Thread Cert.KernelAttIdeal.nD Cert.KernelAttIdeal.τ).loc Cert.KernelAttIdeal.main_arg0)
      ∧ m' ((c.tc : Thread Cert.ReferenceAttIdeal.nD Cert.ReferenceAttIdeal.τ).loc Cert.ReferenceAttIdeal.main_arg1) = m ((c.tc : Thread Cert.KernelAttIdeal.nD Cert.KernelAttIdeal.τ).loc Cert.KernelAttIdeal.main_arg1)
      ∧ m' ((c.tc : Thread Cert.ReferenceAttIdeal.nD Cert.ReferenceAttIdeal.τ).loc Cert.ReferenceAttIdeal.main_arg2) = m ((c.tc : Thread Cert.KernelAttIdeal.nD Cert.KernelAttIdeal.τ).loc Cert.KernelAttIdeal.main_arg2)
      ∧ m' ((c.tc : Thread Cert.ReferenceAttIdeal.nD Cert.ReferenceAttIdeal.τ).loc Cert.ReferenceAttIdeal.main_arg3) = m ((c.tc : Thread Cert.KernelAttIdeal.nD Cert.KernelAttIdeal.τ).loc Cert.KernelAttIdeal.main_arg3)) →
    ∃ (v0 : (c : Dev Cert.KernelAttIdeal.nD) → Buf (Elt Ideal) ((c.tc : Thread Cert.KernelAttIdeal.nD Cert.KernelAttIdeal.τ).loc Cert.KernelAttIdeal.main_v42_0)) (v1 : (c : Dev Cert.KernelAttIdeal.nD) → Buf (Elt Ideal) ((c.tc : Thread Cert.KernelAttIdeal.nD Cert.KernelAttIdeal.τ).loc Cert.KernelAttIdeal.main_v42_1)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v42_0) = v0 c
          ∧ r.2.mem ((c.tc : Thread Cert.KernelAttIdeal.nD Cert.KernelAttIdeal.τ).loc Cert.KernelAttIdeal.main_v42_1) = v1 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
          ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
          ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3))
      ∧ θ_run (Cert.ReferenceAttIdeal.defs (F := Ideal)) (onTc (τ := Cert.ReferenceAttIdeal.τ) (Cert.ReferenceAttIdeal.main (F := Ideal))) ⟨m', fun _ => 0, g'⟩ (fun r => ∀ c : Dev Cert.ReferenceAttIdeal.nD,
          r.2.mem ((c.tc : Thread Cert.ReferenceAttIdeal.nD Cert.ReferenceAttIdeal.τ).loc Cert.ReferenceAttIdeal.main_v82) = v0 c
          ∧ r.2.mem ((c.tc : Thread Cert.ReferenceAttIdeal.nD Cert.ReferenceAttIdeal.τ).loc Cert.ReferenceAttIdeal.main_v83) = v1 c
          ∧ r.2.mem ((c.tc : Thread Cert.ReferenceAttIdeal.nD Cert.ReferenceAttIdeal.τ).loc Cert.ReferenceAttIdeal.main_arg0) = m' ((c.tc : Thread Cert.ReferenceAttIdeal.nD Cert.ReferenceAttIdeal.τ).loc Cert.ReferenceAttIdeal.main_arg0)
          ∧ r.2.mem ((c.tc : Thread Cert.ReferenceAttIdeal.nD Cert.ReferenceAttIdeal.τ).loc Cert.ReferenceAttIdeal.main_arg1) = m' ((c.tc : Thread Cert.ReferenceAttIdeal.nD Cert.ReferenceAttIdeal.τ).loc Cert.ReferenceAttIdeal.main_arg1)
          ∧ r.2.mem ((c.tc : Thread Cert.ReferenceAttIdeal.nD Cert.ReferenceAttIdeal.τ).loc Cert.ReferenceAttIdeal.main_arg2) = m' ((c.tc : Thread Cert.ReferenceAttIdeal.nD Cert.ReferenceAttIdeal.τ).loc Cert.ReferenceAttIdeal.main_arg2)
          ∧ r.2.mem ((c.tc : Thread Cert.ReferenceAttIdeal.nD Cert.ReferenceAttIdeal.τ).loc Cert.ReferenceAttIdeal.main_arg3) = m' ((c.tc : Thread Cert.ReferenceAttIdeal.nD Cert.ReferenceAttIdeal.τ).loc Cert.ReferenceAttIdeal.main_arg3))

def preserves_KernelDkv_KernelDkvIdeal : Prop :=
  True

def algebraic_KernelDkvIdeal_ReferenceDkvIdeal [hKernelDkvIdeal : Cert.KernelDkvIdeal.Facts] [hReferenceDkvIdeal : Cert.ReferenceDkvIdeal.Facts] : Prop :=
  ∀ (m : (ℓ : Loc Cert.KernelDkvIdeal.nD Cert.KernelDkvIdeal.τ Cert.KernelDkvIdeal.sig) → Buf (Elt Ideal) ℓ) (g : Dev Cert.KernelDkvIdeal.nD → PrngReg)
    (m' : (ℓ : Loc Cert.ReferenceDkvIdeal.nD Cert.ReferenceDkvIdeal.τ Cert.ReferenceDkvIdeal.sig) → Buf (Elt Ideal) ℓ) (g' : Dev Cert.ReferenceDkvIdeal.nD → PrngReg), Pre_KernelDkvIdeal m →
    (∀ c : Dev Cert.KernelDkvIdeal.nD,
      m' ((c.tc : Thread Cert.ReferenceDkvIdeal.nD Cert.ReferenceDkvIdeal.τ).loc Cert.ReferenceDkvIdeal.main_arg0) = m ((c.tc : Thread Cert.KernelDkvIdeal.nD Cert.KernelDkvIdeal.τ).loc Cert.KernelDkvIdeal.main_arg0)
      ∧ m' ((c.tc : Thread Cert.ReferenceDkvIdeal.nD Cert.ReferenceDkvIdeal.τ).loc Cert.ReferenceDkvIdeal.main_arg1) = m ((c.tc : Thread Cert.KernelDkvIdeal.nD Cert.KernelDkvIdeal.τ).loc Cert.KernelDkvIdeal.main_arg1)
      ∧ m' ((c.tc : Thread Cert.ReferenceDkvIdeal.nD Cert.ReferenceDkvIdeal.τ).loc Cert.ReferenceDkvIdeal.main_arg2) = m ((c.tc : Thread Cert.KernelDkvIdeal.nD Cert.KernelDkvIdeal.τ).loc Cert.KernelDkvIdeal.main_arg2)
      ∧ m' ((c.tc : Thread Cert.ReferenceDkvIdeal.nD Cert.ReferenceDkvIdeal.τ).loc Cert.ReferenceDkvIdeal.main_arg3) = m ((c.tc : Thread Cert.KernelDkvIdeal.nD Cert.KernelDkvIdeal.τ).loc Cert.KernelDkvIdeal.main_arg3)
      ∧ m' ((c.tc : Thread Cert.ReferenceDkvIdeal.nD Cert.ReferenceDkvIdeal.τ).loc Cert.ReferenceDkvIdeal.main_arg4) = m ((c.tc : Thread Cert.KernelDkvIdeal.nD Cert.KernelDkvIdeal.τ).loc Cert.KernelDkvIdeal.main_arg4)) →
    ∃ (v0 : (c : Dev Cert.KernelDkvIdeal.nD) → Buf (Elt Ideal) ((c.tc : Thread Cert.KernelDkvIdeal.nD Cert.KernelDkvIdeal.τ).loc Cert.KernelDkvIdeal.main_v0)),
      θ_run (Cert.KernelDkvIdeal.defs (F := Ideal)) (onTc (τ := Cert.KernelDkvIdeal.τ) (Cert.KernelDkvIdeal.main (F := Ideal))) ⟨m, fun _ => 0, g⟩ (fun r => ∀ c : Dev Cert.KernelDkvIdeal.nD,
          r.2.mem ((c.tc : Thread Cert.KernelDkvIdeal.nD Cert.KernelDkvIdeal.τ).loc Cert.KernelDkvIdeal.main_v0) = v0 c
          ∧ r.2.mem ((c.tc : Thread Cert.KernelDkvIdeal.nD Cert.KernelDkvIdeal.τ).loc Cert.KernelDkvIdeal.main_arg0) = m ((c.tc : Thread Cert.KernelDkvIdeal.nD Cert.KernelDkvIdeal.τ).loc Cert.KernelDkvIdeal.main_arg0)
          ∧ r.2.mem ((c.tc : Thread Cert.KernelDkvIdeal.nD Cert.KernelDkvIdeal.τ).loc Cert.KernelDkvIdeal.main_arg1) = m ((c.tc : Thread Cert.KernelDkvIdeal.nD Cert.KernelDkvIdeal.τ).loc Cert.KernelDkvIdeal.main_arg1)
          ∧ r.2.mem ((c.tc : Thread Cert.KernelDkvIdeal.nD Cert.KernelDkvIdeal.τ).loc Cert.KernelDkvIdeal.main_arg2) = m ((c.tc : Thread Cert.KernelDkvIdeal.nD Cert.KernelDkvIdeal.τ).loc Cert.KernelDkvIdeal.main_arg2)
          ∧ r.2.mem ((c.tc : Thread Cert.KernelDkvIdeal.nD Cert.KernelDkvIdeal.τ).loc Cert.KernelDkvIdeal.main_arg3) = m ((c.tc : Thread Cert.KernelDkvIdeal.nD Cert.KernelDkvIdeal.τ).loc Cert.KernelDkvIdeal.main_arg3)
          ∧ r.2.mem ((c.tc : Thread Cert.KernelDkvIdeal.nD Cert.KernelDkvIdeal.τ).loc Cert.KernelDkvIdeal.main_arg4) = m ((c.tc : Thread Cert.KernelDkvIdeal.nD Cert.KernelDkvIdeal.τ).loc Cert.KernelDkvIdeal.main_arg4))
      ∧ θ_run (Cert.ReferenceDkvIdeal.defs (F := Ideal)) (onTc (τ := Cert.ReferenceDkvIdeal.τ) (Cert.ReferenceDkvIdeal.main (F := Ideal))) ⟨m', fun _ => 0, g'⟩ (fun r => ∀ c : Dev Cert.ReferenceDkvIdeal.nD,
          r.2.mem ((c.tc : Thread Cert.ReferenceDkvIdeal.nD Cert.ReferenceDkvIdeal.τ).loc Cert.ReferenceDkvIdeal.main_v34) = v0 c
          ∧ r.2.mem ((c.tc : Thread Cert.ReferenceDkvIdeal.nD Cert.ReferenceDkvIdeal.τ).loc Cert.ReferenceDkvIdeal.main_arg0) = m' ((c.tc : Thread Cert.ReferenceDkvIdeal.nD Cert.ReferenceDkvIdeal.τ).loc Cert.ReferenceDkvIdeal.main_arg0)
          ∧ r.2.mem ((c.tc : Thread Cert.ReferenceDkvIdeal.nD Cert.ReferenceDkvIdeal.τ).loc Cert.ReferenceDkvIdeal.main_arg1) = m' ((c.tc : Thread Cert.ReferenceDkvIdeal.nD Cert.ReferenceDkvIdeal.τ).loc Cert.ReferenceDkvIdeal.main_arg1)
          ∧ r.2.mem ((c.tc : Thread Cert.ReferenceDkvIdeal.nD Cert.ReferenceDkvIdeal.τ).loc Cert.ReferenceDkvIdeal.main_arg2) = m' ((c.tc : Thread Cert.ReferenceDkvIdeal.nD Cert.ReferenceDkvIdeal.τ).loc Cert.ReferenceDkvIdeal.main_arg2)
          ∧ r.2.mem ((c.tc : Thread Cert.ReferenceDkvIdeal.nD Cert.ReferenceDkvIdeal.τ).loc Cert.ReferenceDkvIdeal.main_arg3) = m' ((c.tc : Thread Cert.ReferenceDkvIdeal.nD Cert.ReferenceDkvIdeal.τ).loc Cert.ReferenceDkvIdeal.main_arg3)
          ∧ r.2.mem ((c.tc : Thread Cert.ReferenceDkvIdeal.nD Cert.ReferenceDkvIdeal.τ).loc Cert.ReferenceDkvIdeal.main_arg4) = m' ((c.tc : Thread Cert.ReferenceDkvIdeal.nD Cert.ReferenceDkvIdeal.τ).loc Cert.ReferenceDkvIdeal.main_arg4))

def preserves_KernelAtb_KernelAtbIdeal : Prop :=
  True

def algebraic_KernelAtbIdeal_ReferenceAtbIdeal_pre_atb_finite [hKernelAtbIdeal : Cert.KernelAtbIdeal.Facts] [hReferenceAtbIdeal : Cert.ReferenceAtbIdeal.Facts] [hPre_atb_finite : Cert.Pre_atb_finite.Facts] : Prop :=
  ∀ (m : (ℓ : Loc Cert.KernelAtbIdeal.nD Cert.KernelAtbIdeal.τ Cert.KernelAtbIdeal.sig) → Buf (Elt Ideal) ℓ) (g : Dev Cert.KernelAtbIdeal.nD → PrngReg)
    (m' : (ℓ : Loc Cert.ReferenceAtbIdeal.nD Cert.ReferenceAtbIdeal.τ Cert.ReferenceAtbIdeal.sig) → Buf (Elt Ideal) ℓ) (g' : Dev Cert.ReferenceAtbIdeal.nD → PrngReg), Pre_KernelAtbIdeal_atb_finite m →
    (∀ c : Dev Cert.KernelAtbIdeal.nD,
      m' ((c.tc : Thread Cert.ReferenceAtbIdeal.nD Cert.ReferenceAtbIdeal.τ).loc Cert.ReferenceAtbIdeal.main_arg0) = m ((c.tc : Thread Cert.KernelAtbIdeal.nD Cert.KernelAtbIdeal.τ).loc Cert.KernelAtbIdeal.main_arg0)
      ∧ m' ((c.tc : Thread Cert.ReferenceAtbIdeal.nD Cert.ReferenceAtbIdeal.τ).loc Cert.ReferenceAtbIdeal.main_arg1) = m ((c.tc : Thread Cert.KernelAtbIdeal.nD Cert.KernelAtbIdeal.τ).loc Cert.KernelAtbIdeal.main_arg1)
      ∧ m' ((c.tc : Thread Cert.ReferenceAtbIdeal.nD Cert.ReferenceAtbIdeal.τ).loc Cert.ReferenceAtbIdeal.main_arg2) = m ((c.tc : Thread Cert.KernelAtbIdeal.nD Cert.KernelAtbIdeal.τ).loc Cert.KernelAtbIdeal.main_arg2)
      ∧ m' ((c.tc : Thread Cert.ReferenceAtbIdeal.nD Cert.ReferenceAtbIdeal.τ).loc Cert.ReferenceAtbIdeal.main_arg3) = m ((c.tc : Thread Cert.KernelAtbIdeal.nD Cert.KernelAtbIdeal.τ).loc Cert.KernelAtbIdeal.main_arg3)
      ∧ m' ((c.tc : Thread Cert.ReferenceAtbIdeal.nD Cert.ReferenceAtbIdeal.τ).loc Cert.ReferenceAtbIdeal.main_arg4) = m ((c.tc : Thread Cert.KernelAtbIdeal.nD Cert.KernelAtbIdeal.τ).loc Cert.KernelAtbIdeal.main_arg4)
      ∧ m' ((c.tc : Thread Cert.ReferenceAtbIdeal.nD Cert.ReferenceAtbIdeal.τ).loc Cert.ReferenceAtbIdeal.main_arg5) = m ((c.tc : Thread Cert.KernelAtbIdeal.nD Cert.KernelAtbIdeal.τ).loc Cert.KernelAtbIdeal.main_arg5)
      ∧ m' ((c.tc : Thread Cert.ReferenceAtbIdeal.nD Cert.ReferenceAtbIdeal.τ).loc Cert.ReferenceAtbIdeal.main_arg6) = m ((c.tc : Thread Cert.KernelAtbIdeal.nD Cert.KernelAtbIdeal.τ).loc Cert.KernelAtbIdeal.main_arg6)
      ∧ m' ((c.tc : Thread Cert.ReferenceAtbIdeal.nD Cert.ReferenceAtbIdeal.τ).loc Cert.ReferenceAtbIdeal.main_arg7) = m ((c.tc : Thread Cert.KernelAtbIdeal.nD Cert.KernelAtbIdeal.τ).loc Cert.KernelAtbIdeal.main_arg7)) →
    ∃ (v0 : (c : Dev Cert.KernelAtbIdeal.nD) → Buf (Elt Ideal) ((c.tc : Thread Cert.KernelAtbIdeal.nD Cert.KernelAtbIdeal.τ).loc Cert.KernelAtbIdeal.main_v126_3)) (v1 : (c : Dev Cert.KernelAtbIdeal.nD) → Buf (Elt Ideal) ((c.tc : Thread Cert.KernelAtbIdeal.nD Cert.KernelAtbIdeal.τ).loc Cert.KernelAtbIdeal.main_v126_4)),
      θ_run (Cert.KernelAtbIdeal.defs (F := Ideal)) (onTc (τ := Cert.KernelAtbIdeal.τ) (Cert.KernelAtbIdeal.main (F := Ideal))) ⟨m, fun _ => 0, g⟩ (fun r => ∀ c : Dev Cert.KernelAtbIdeal.nD,
          r.2.mem ((c.tc : Thread Cert.KernelAtbIdeal.nD Cert.KernelAtbIdeal.τ).loc Cert.KernelAtbIdeal.main_v126_3) = v0 c
          ∧ r.2.mem ((c.tc : Thread Cert.KernelAtbIdeal.nD Cert.KernelAtbIdeal.τ).loc Cert.KernelAtbIdeal.main_v126_4) = v1 c
          ∧ r.2.mem ((c.tc : Thread Cert.KernelAtbIdeal.nD Cert.KernelAtbIdeal.τ).loc Cert.KernelAtbIdeal.main_arg0) = m ((c.tc : Thread Cert.KernelAtbIdeal.nD Cert.KernelAtbIdeal.τ).loc Cert.KernelAtbIdeal.main_arg0)
          ∧ r.2.mem ((c.tc : Thread Cert.KernelAtbIdeal.nD Cert.KernelAtbIdeal.τ).loc Cert.KernelAtbIdeal.main_arg1) = m ((c.tc : Thread Cert.KernelAtbIdeal.nD Cert.KernelAtbIdeal.τ).loc Cert.KernelAtbIdeal.main_arg1)
          ∧ r.2.mem ((c.tc : Thread Cert.KernelAtbIdeal.nD Cert.KernelAtbIdeal.τ).loc Cert.KernelAtbIdeal.main_arg2) = m ((c.tc : Thread Cert.KernelAtbIdeal.nD Cert.KernelAtbIdeal.τ).loc Cert.KernelAtbIdeal.main_arg2)
          ∧ r.2.mem ((c.tc : Thread Cert.KernelAtbIdeal.nD Cert.KernelAtbIdeal.τ).loc Cert.KernelAtbIdeal.main_arg3) = m ((c.tc : Thread Cert.KernelAtbIdeal.nD Cert.KernelAtbIdeal.τ).loc Cert.KernelAtbIdeal.main_arg3)
          ∧ r.2.mem ((c.tc : Thread Cert.KernelAtbIdeal.nD Cert.KernelAtbIdeal.τ).loc Cert.KernelAtbIdeal.main_arg4) = m ((c.tc : Thread Cert.KernelAtbIdeal.nD Cert.KernelAtbIdeal.τ).loc Cert.KernelAtbIdeal.main_arg4)
          ∧ r.2.mem ((c.tc : Thread Cert.KernelAtbIdeal.nD Cert.KernelAtbIdeal.τ).loc Cert.KernelAtbIdeal.main_arg5) = m ((c.tc : Thread Cert.KernelAtbIdeal.nD Cert.KernelAtbIdeal.τ).loc Cert.KernelAtbIdeal.main_arg5)
          ∧ r.2.mem ((c.tc : Thread Cert.KernelAtbIdeal.nD Cert.KernelAtbIdeal.τ).loc Cert.KernelAtbIdeal.main_arg6) = m ((c.tc : Thread Cert.KernelAtbIdeal.nD Cert.KernelAtbIdeal.τ).loc Cert.KernelAtbIdeal.main_arg6)
          ∧ r.2.mem ((c.tc : Thread Cert.KernelAtbIdeal.nD Cert.KernelAtbIdeal.τ).loc Cert.KernelAtbIdeal.main_arg7) = m ((c.tc : Thread Cert.KernelAtbIdeal.nD Cert.KernelAtbIdeal.τ).loc Cert.KernelAtbIdeal.main_arg7))
      ∧ θ_run (Cert.ReferenceAtbIdeal.defs (F := Ideal)) (onTc (τ := Cert.ReferenceAtbIdeal.τ) (Cert.ReferenceAtbIdeal.main (F := Ideal))) ⟨m', fun _ => 0, g'⟩ (fun r => ∀ c : Dev Cert.ReferenceAtbIdeal.nD,
          r.2.mem ((c.tc : Thread Cert.ReferenceAtbIdeal.nD Cert.ReferenceAtbIdeal.τ).loc Cert.ReferenceAtbIdeal.main_v92) = v0 c
          ∧ r.2.mem ((c.tc : Thread Cert.ReferenceAtbIdeal.nD Cert.ReferenceAtbIdeal.τ).loc Cert.ReferenceAtbIdeal.main_v94) = v1 c
          ∧ r.2.mem ((c.tc : Thread Cert.ReferenceAtbIdeal.nD Cert.ReferenceAtbIdeal.τ).loc Cert.ReferenceAtbIdeal.main_arg0) = m' ((c.tc : Thread Cert.ReferenceAtbIdeal.nD Cert.ReferenceAtbIdeal.τ).loc Cert.ReferenceAtbIdeal.main_arg0)
          ∧ r.2.mem ((c.tc : Thread Cert.ReferenceAtbIdeal.nD Cert.ReferenceAtbIdeal.τ).loc Cert.ReferenceAtbIdeal.main_arg1) = m' ((c.tc : Thread Cert.ReferenceAtbIdeal.nD Cert.ReferenceAtbIdeal.τ).loc Cert.ReferenceAtbIdeal.main_arg1)
          ∧ r.2.mem ((c.tc : Thread Cert.ReferenceAtbIdeal.nD Cert.ReferenceAtbIdeal.τ).loc Cert.ReferenceAtbIdeal.main_arg2) = m' ((c.tc : Thread Cert.ReferenceAtbIdeal.nD Cert.ReferenceAtbIdeal.τ).loc Cert.ReferenceAtbIdeal.main_arg2)
          ∧ r.2.mem ((c.tc : Thread Cert.ReferenceAtbIdeal.nD Cert.ReferenceAtbIdeal.τ).loc Cert.ReferenceAtbIdeal.main_arg3) = m' ((c.tc : Thread Cert.ReferenceAtbIdeal.nD Cert.ReferenceAtbIdeal.τ).loc Cert.ReferenceAtbIdeal.main_arg3)
          ∧ r.2.mem ((c.tc : Thread Cert.ReferenceAtbIdeal.nD Cert.ReferenceAtbIdeal.τ).loc Cert.ReferenceAtbIdeal.main_arg4) = m' ((c.tc : Thread Cert.ReferenceAtbIdeal.nD Cert.ReferenceAtbIdeal.τ).loc Cert.ReferenceAtbIdeal.main_arg4)
          ∧ r.2.mem ((c.tc : Thread Cert.ReferenceAtbIdeal.nD Cert.ReferenceAtbIdeal.τ).loc Cert.ReferenceAtbIdeal.main_arg5) = m' ((c.tc : Thread Cert.ReferenceAtbIdeal.nD Cert.ReferenceAtbIdeal.τ).loc Cert.ReferenceAtbIdeal.main_arg5)
          ∧ r.2.mem ((c.tc : Thread Cert.ReferenceAtbIdeal.nD Cert.ReferenceAtbIdeal.τ).loc Cert.ReferenceAtbIdeal.main_arg6) = m' ((c.tc : Thread Cert.ReferenceAtbIdeal.nD Cert.ReferenceAtbIdeal.τ).loc Cert.ReferenceAtbIdeal.main_arg6)
          ∧ r.2.mem ((c.tc : Thread Cert.ReferenceAtbIdeal.nD Cert.ReferenceAtbIdeal.τ).loc Cert.ReferenceAtbIdeal.main_arg7) = m' ((c.tc : Thread Cert.ReferenceAtbIdeal.nD Cert.ReferenceAtbIdeal.τ).loc Cert.ReferenceAtbIdeal.main_arg7))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v4_0)) (v1 : (c : Dev Cert.KernelProjIdeal.nD) → Buf (Elt Ideal) ((c.tc : Thread Cert.KernelProjIdeal.nD Cert.KernelProjIdeal.τ).loc Cert.KernelProjIdeal.main_v4_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v4_0) = v0 c
          ∧ r.2.mem ((c.tc : Thread Cert.KernelProjIdeal.nD Cert.KernelProjIdeal.τ).loc Cert.KernelProjIdeal.main_v4_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v22) = v0 c
          ∧ r.2.mem ((c.tc : Thread Cert.ReferenceProjIdeal.nD Cert.ReferenceProjIdeal.τ).loc Cert.ReferenceProjIdeal.main_v25) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_KernelFdn_KernelFdnIdeal : Prop :=
  True

def algebraic_KernelFdnIdeal_ReferenceFdnIdeal [hKernelFdnIdeal : Cert.KernelFdnIdeal.Facts] [hReferenceFdnIdeal : Cert.ReferenceFdnIdeal.Facts] : Prop :=
  ∀ (m : (ℓ : Loc Cert.KernelFdnIdeal.nD Cert.KernelFdnIdeal.τ Cert.KernelFdnIdeal.sig) → Buf (Elt Ideal) ℓ) (g : Dev Cert.KernelFdnIdeal.nD → PrngReg)
    (m' : (ℓ : Loc Cert.ReferenceFdnIdeal.nD Cert.ReferenceFdnIdeal.τ Cert.ReferenceFdnIdeal.sig) → Buf (Elt Ideal) ℓ) (g' : Dev Cert.ReferenceFdnIdeal.nD → PrngReg), Pre_KernelFdnIdeal m →
    (∀ c : Dev Cert.KernelFdnIdeal.nD,
      m' ((c.tc : Thread Cert.ReferenceFdnIdeal.nD Cert.ReferenceFdnIdeal.τ).loc Cert.ReferenceFdnIdeal.main_arg0) = m ((c.tc : Thread Cert.KernelFdnIdeal.nD Cert.KernelFdnIdeal.τ).loc Cert.KernelFdnIdeal.main_arg0)
      ∧ m' ((c.tc : Thread Cert.ReferenceFdnIdeal.nD Cert.ReferenceFdnIdeal.τ).loc Cert.ReferenceFdnIdeal.main_arg1) = m ((c.tc : Thread Cert.KernelFdnIdeal.nD Cert.KernelFdnIdeal.τ).loc Cert.KernelFdnIdeal.main_arg1)
      ∧ m' ((c.tc : Thread Cert.ReferenceFdnIdeal.nD Cert.ReferenceFdnIdeal.τ).loc Cert.ReferenceFdnIdeal.main_arg2) = m ((c.tc : Thread Cert.KernelFdnIdeal.nD Cert.KernelFdnIdeal.τ).loc Cert.KernelFdnIdeal.main_arg2)
      ∧ m' ((c.tc : Thread Cert.ReferenceFdnIdeal.nD Cert.ReferenceFdnIdeal.τ).loc Cert.ReferenceFdnIdeal.main_arg3) = m ((c.tc : Thread Cert.KernelFdnIdeal.nD Cert.KernelFdnIdeal.τ).loc Cert.KernelFdnIdeal.main_arg3)) →
    ∃ (v0 : (c : Dev Cert.KernelFdnIdeal.nD) → Buf (Elt Ideal) ((c.tc : Thread Cert.KernelFdnIdeal.nD Cert.KernelFdnIdeal.τ).loc Cert.KernelFdnIdeal.main_v3)),
      θ_run (Cert.KernelFdnIdeal.defs (F := Ideal)) (onTc (τ := Cert.KernelFdnIdeal.τ) (Cert.KernelFdnIdeal.main (F := Ideal))) ⟨m, fun _ => 0, g⟩ (fun r => ∀ c : Dev Cert.KernelFdnIdeal.nD,
          r.2.mem ((c.tc : Thread Cert.KernelFdnIdeal.nD Cert.KernelFdnIdeal.τ).loc Cert.KernelFdnIdeal.main_v3) = v0 c
          ∧ r.2.mem ((c.tc : Thread Cert.KernelFdnIdeal.nD Cert.KernelFdnIdeal.τ).loc Cert.KernelFdnIdeal.main_arg0) = m ((c.tc : Thread Cert.KernelFdnIdeal.nD Cert.KernelFdnIdeal.τ).loc Cert.KernelFdnIdeal.main_arg0)
          ∧ r.2.mem ((c.tc : Thread Cert.KernelFdnIdeal.nD Cert.KernelFdnIdeal.τ).loc Cert.KernelFdnIdeal.main_arg1) = m ((c.tc : Thread Cert.KernelFdnIdeal.nD Cert.KernelFdnIdeal.τ).loc Cert.KernelFdnIdeal.main_arg1)
          ∧ r.2.mem ((c.tc : Thread Cert.KernelFdnIdeal.nD Cert.KernelFdnIdeal.τ).loc Cert.KernelFdnIdeal.main_arg2) = m ((c.tc : Thread Cert.KernelFdnIdeal.nD Cert.KernelFdnIdeal.τ).loc Cert.KernelFdnIdeal.main_arg2)
          ∧ r.2.mem ((c.tc : Thread Cert.KernelFdnIdeal.nD Cert.KernelFdnIdeal.τ).loc Cert.KernelFdnIdeal.main_arg3) = m ((c.tc : Thread Cert.KernelFdnIdeal.nD Cert.KernelFdnIdeal.τ).loc Cert.KernelFdnIdeal.main_arg3))
      ∧ θ_run (Cert.ReferenceFdnIdeal.defs (F := Ideal)) (onTc (τ := Cert.ReferenceFdnIdeal.τ) (Cert.ReferenceFdnIdeal.main (F := Ideal))) ⟨m', fun _ => 0, g'⟩ (fun r => ∀ c : Dev Cert.ReferenceFdnIdeal.nD,
          r.2.mem ((c.tc : Thread Cert.ReferenceFdnIdeal.nD Cert.ReferenceFdnIdeal.τ).loc Cert.ReferenceFdnIdeal.main_v12) = v0 c
          ∧ r.2.mem ((c.tc : Thread Cert.ReferenceFdnIdeal.nD Cert.ReferenceFdnIdeal.τ).loc Cert.ReferenceFdnIdeal.main_arg0) = m' ((c.tc : Thread Cert.ReferenceFdnIdeal.nD Cert.ReferenceFdnIdeal.τ).loc Cert.ReferenceFdnIdeal.main_arg0)
          ∧ r.2.mem ((c.tc : Thread Cert.ReferenceFdnIdeal.nD Cert.ReferenceFdnIdeal.τ).loc Cert.ReferenceFdnIdeal.main_arg1) = m' ((c.tc : Thread Cert.ReferenceFdnIdeal.nD Cert.ReferenceFdnIdeal.τ).loc Cert.ReferenceFdnIdeal.main_arg1)
          ∧ r.2.mem ((c.tc : Thread Cert.ReferenceFdnIdeal.nD Cert.ReferenceFdnIdeal.τ).loc Cert.ReferenceFdnIdeal.main_arg2) = m' ((c.tc : Thread Cert.ReferenceFdnIdeal.nD Cert.ReferenceFdnIdeal.τ).loc Cert.ReferenceFdnIdeal.main_arg2)
          ∧ r.2.mem ((c.tc : Thread Cert.ReferenceFdnIdeal.nD Cert.ReferenceFdnIdeal.τ).loc Cert.ReferenceFdnIdeal.main_arg3) = m' ((c.tc : Thread Cert.ReferenceFdnIdeal.nD Cert.ReferenceFdnIdeal.τ).loc Cert.ReferenceFdnIdeal.main_arg3))

def preserves_KernelMods_KernelModsIdeal : Prop :=
  True

def algebraic_KernelModsIdeal_ReferenceModsIdeal [hKernelModsIdeal : Cert.KernelModsIdeal.Facts] [hReferenceModsIdeal : Cert.ReferenceModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg)
    (m' : (ℓ : Loc Cert.ReferenceModsIdeal.nD Cert.ReferenceModsIdeal.τ Cert.ReferenceModsIdeal.sig) → Buf (Elt Ideal) ℓ) (g' : Dev Cert.ReferenceModsIdeal.nD → PrngReg), Pre_KernelModsIdeal m →
    (∀ c : Dev Cert.KernelModsIdeal.nD,
      m' ((c.tc : Thread Cert.ReferenceModsIdeal.nD Cert.ReferenceModsIdeal.τ).loc Cert.ReferenceModsIdeal.main_arg0) = m ((c.tc : Thread Cert.KernelModsIdeal.nD Cert.KernelModsIdeal.τ).loc Cert.KernelModsIdeal.main_arg0)
      ∧ m' ((c.tc : Thread Cert.ReferenceModsIdeal.nD Cert.ReferenceModsIdeal.τ).loc Cert.ReferenceModsIdeal.main_arg1) = m ((c.tc : Thread Cert.KernelModsIdeal.nD Cert.KernelModsIdeal.τ).loc Cert.KernelModsIdeal.main_arg1)
      ∧ m' ((c.tc : Thread Cert.ReferenceModsIdeal.nD Cert.ReferenceModsIdeal.τ).loc Cert.ReferenceModsIdeal.main_arg2) = m ((c.tc : Thread Cert.KernelModsIdeal.nD Cert.KernelModsIdeal.τ).loc Cert.KernelModsIdeal.main_arg2)) →
    ∃ (v0 : (c : Dev Cert.KernelModsIdeal.nD) → Buf (Elt Ideal) ((c.tc : Thread Cert.KernelModsIdeal.nD Cert.KernelModsIdeal.τ).loc Cert.KernelModsIdeal.main_v1)),
      θ_run (Cert.KernelModsIdeal.defs (F := Ideal)) (onTc (τ := Cert.KernelModsIdeal.τ) (Cert.KernelModsIdeal.main (F := Ideal))) ⟨m, fun _ => 0, g⟩ (fun r => ∀ c : Dev Cert.KernelModsIdeal.nD,
          r.2.mem ((c.tc : Thread Cert.KernelModsIdeal.nD Cert.KernelModsIdeal.τ).loc Cert.KernelModsIdeal.main_v1) = v0 c
          ∧ r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
          ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1)
          ∧ r.2.mem ((c.tc : Thread Cert.KernelModsIdeal.nD Cert.KernelModsIdeal.τ).loc Cert.KernelModsIdeal.main_arg2) = m ((c.tc : Thread Cert.KernelModsIdeal.nD Cert.KernelModsIdeal.τ).loc Cert.KernelModsIdeal.main_arg2))
      ∧ θ_run (Cert.ReferenceModsIdeal.defs (F := Ideal)) (onTc (τ := Cert.ReferenceModsIdeal.τ) (Cert.ReferenceModsIdeal.main (F := Ideal))) ⟨m', fun _ => 0, g'⟩ (fun r => ∀ c : Dev Cert.ReferenceModsIdeal.nD,
          r.2.mem ((c.tc : Thread Cert.ReferenceModsIdeal.nD Cert.ReferenceModsIdeal.τ).loc Cert.ReferenceModsIdeal.main_v4) = v0 c
          ∧ r.2.mem ((c.tc : Thread Cert.ReferenceModsIdeal.nD Cert.ReferenceModsIdeal.τ).loc Cert.ReferenceModsIdeal.main_arg0) = m' ((c.tc : Thread Cert.ReferenceModsIdeal.nD Cert.ReferenceModsIdeal.τ).loc Cert.ReferenceModsIdeal.main_arg0)
          ∧ r.2.mem ((c.tc : Thread Cert.ReferenceModsIdeal.nD Cert.ReferenceModsIdeal.τ).loc Cert.ReferenceModsIdeal.main_arg1) = m' ((c.tc : Thread Cert.ReferenceModsIdeal.nD Cert.ReferenceModsIdeal.τ).loc Cert.ReferenceModsIdeal.main_arg1)
          ∧ r.2.mem ((c.tc : Thread Cert.ReferenceModsIdeal.nD Cert.ReferenceModsIdeal.τ).loc Cert.ReferenceModsIdeal.main_arg2) = m' ((c.tc : Thread Cert.ReferenceModsIdeal.nD Cert.ReferenceModsIdeal.τ).loc Cert.ReferenceModsIdeal.main_arg2))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)) →
    ∃ (v0 : (c : Dev Cert.KernelMidIdeal.nD) → Buf (Elt Ideal) ((c.tc : Thread Cert.KernelMidIdeal.nD Cert.KernelMidIdeal.τ).loc Cert.KernelMidIdeal.main_v5_0)) (v1 : (c : Dev Cert.KernelMidIdeal.nD) → Buf (Elt Ideal) ((c.tc : Thread Cert.KernelMidIdeal.nD Cert.KernelMidIdeal.τ).loc Cert.KernelMidIdeal.main_v5_1)) (v2 : (c : Dev Cert.KernelMidIdeal.nD) → Buf (Elt Ideal) ((c.tc : Thread Cert.KernelMidIdeal.nD Cert.KernelMidIdeal.τ).loc Cert.KernelMidIdeal.main_v5_2)) (v3 : (c : Dev Cert.KernelMidIdeal.nD) → Buf (Elt Ideal) ((c.tc : Thread Cert.KernelMidIdeal.nD Cert.KernelMidIdeal.τ).loc Cert.KernelMidIdeal.main_v5_3)) (v4 : (c : Dev Cert.KernelMidIdeal.nD) → Buf (Elt Ideal) ((c.tc : Thread Cert.KernelMidIdeal.nD Cert.KernelMidIdeal.τ).loc Cert.KernelMidIdeal.main_v5_4)) (v5 : (c : Dev Cert.KernelMidIdeal.nD) → Buf (Elt Ideal) ((c.tc : Thread Cert.KernelMidIdeal.nD Cert.KernelMidIdeal.τ).loc Cert.KernelMidIdeal.main_v5_5)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v5_0) = v0 c
          ∧ r.2.mem ((c.tc : Thread Cert.KernelMidIdeal.nD Cert.KernelMidIdeal.τ).loc Cert.KernelMidIdeal.main_v5_1) = v1 c
          ∧ r.2.mem ((c.tc : Thread Cert.KernelMidIdeal.nD Cert.KernelMidIdeal.τ).loc Cert.KernelMidIdeal.main_v5_2) = v2 c
          ∧ r.2.mem ((c.tc : Thread Cert.KernelMidIdeal.nD Cert.KernelMidIdeal.τ).loc Cert.KernelMidIdeal.main_v5_3) = v3 c
          ∧ r.2.mem ((c.tc : Thread Cert.KernelMidIdeal.nD Cert.KernelMidIdeal.τ).loc Cert.KernelMidIdeal.main_v5_4) = v4 c
          ∧ r.2.mem ((c.tc : Thread Cert.KernelMidIdeal.nD Cert.KernelMidIdeal.τ).loc Cert.KernelMidIdeal.main_v5_5) = v5 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v55) = v0 c
          ∧ r.2.mem ((c.tc : Thread Cert.ReferenceMidIdeal.nD Cert.ReferenceMidIdeal.τ).loc Cert.ReferenceMidIdeal.main_v57) = v1 c
          ∧ r.2.mem ((c.tc : Thread Cert.ReferenceMidIdeal.nD Cert.ReferenceMidIdeal.τ).loc Cert.ReferenceMidIdeal.main_v59) = v2 c
          ∧ r.2.mem ((c.tc : Thread Cert.ReferenceMidIdeal.nD Cert.ReferenceMidIdeal.τ).loc Cert.ReferenceMidIdeal.main_v61) = v3 c
          ∧ r.2.mem ((c.tc : Thread Cert.ReferenceMidIdeal.nD Cert.ReferenceMidIdeal.τ).loc Cert.ReferenceMidIdeal.main_v63) = v4 c
          ∧ r.2.mem ((c.tc : Thread Cert.ReferenceMidIdeal.nD Cert.ReferenceMidIdeal.τ).loc Cert.ReferenceMidIdeal.main_v65) = v5 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v12_0)) (v1 : (c : Dev Cert.KernelMixIdeal.nD) → Buf (Elt Ideal) ((c.tc : Thread Cert.KernelMixIdeal.nD Cert.KernelMixIdeal.τ).loc Cert.KernelMixIdeal.main_v12_1)) (v2 : (c : Dev Cert.KernelMixIdeal.nD) → Buf (Elt Ideal) ((c.tc : Thread Cert.KernelMixIdeal.nD Cert.KernelMixIdeal.τ).loc Cert.KernelMixIdeal.main_v12_3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v12_0) = v0 c
          ∧ r.2.mem ((c.tc : Thread Cert.KernelMixIdeal.nD Cert.KernelMixIdeal.τ).loc Cert.KernelMixIdeal.main_v12_1) = v1 c
          ∧ r.2.mem ((c.tc : Thread Cert.KernelMixIdeal.nD Cert.KernelMixIdeal.τ).loc Cert.KernelMixIdeal.main_v12_3) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v25) = v0 c
          ∧ r.2.mem ((c.tc : Thread Cert.ReferenceMixIdeal.nD Cert.ReferenceMixIdeal.τ).loc Cert.ReferenceMixIdeal.main_v27) = v1 c
          ∧ r.2.mem ((c.tc : Thread Cert.ReferenceMixIdeal.nD Cert.ReferenceMixIdeal.τ).loc Cert.ReferenceMixIdeal.main_v44) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def Claim : Prop :=
  ∃ (hKernelConv : Cert.KernelConv.Facts) (hKernelConvIdeal : Cert.KernelConvIdeal.Facts) (hReferenceConvIdeal : Cert.ReferenceConvIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelWada : Cert.KernelWada.Facts) (hKernelWadaIdeal : Cert.KernelWadaIdeal.Facts) (hReferenceWadaIdeal : Cert.ReferenceWadaIdeal.Facts) (hKernelDown : Cert.KernelDown.Facts) (hKernelDownIdeal : Cert.KernelDownIdeal.Facts) (hReferenceDownIdeal : Cert.ReferenceDownIdeal.Facts) (hKernelFfn : Cert.KernelFfn.Facts) (hKernelFfnIdeal : Cert.KernelFfnIdeal.Facts) (hReferenceFfnIdeal : Cert.ReferenceFfnIdeal.Facts) (hKernelAtt : Cert.KernelAtt.Facts) (hKernelAttIdeal : Cert.KernelAttIdeal.Facts) (hReferenceAttIdeal : Cert.ReferenceAttIdeal.Facts) (hKernelDkv : Cert.KernelDkv.Facts) (hKernelDkvIdeal : Cert.KernelDkvIdeal.Facts) (hReferenceDkvIdeal : Cert.ReferenceDkvIdeal.Facts) (hKernelAtb : Cert.KernelAtb.Facts) (hKernelAtbIdeal : Cert.KernelAtbIdeal.Facts) (hReferenceAtbIdeal : Cert.ReferenceAtbIdeal.Facts) (hKernelProj : Cert.KernelProj.Facts) (hKernelProjIdeal : Cert.KernelProjIdeal.Facts) (hReferenceProjIdeal : Cert.ReferenceProjIdeal.Facts) (hKernelFdn : Cert.KernelFdn.Facts) (hKernelFdnIdeal : Cert.KernelFdnIdeal.Facts) (hReferenceFdnIdeal : Cert.ReferenceFdnIdeal.Facts) (hKernelMods : Cert.KernelMods.Facts) (hKernelModsIdeal : Cert.KernelModsIdeal.Facts) (hReferenceModsIdeal : Cert.ReferenceModsIdeal.Facts) (hKernelMid : Cert.KernelMid.Facts) (hKernelMidIdeal : Cert.KernelMidIdeal.Facts) (hReferenceMidIdeal : Cert.ReferenceMidIdeal.Facts) (hKernelMix : Cert.KernelMix.Facts) (hKernelMixIdeal : Cert.KernelMixIdeal.Facts) (hReferenceMixIdeal : Cert.ReferenceMixIdeal.Facts) (hPre_norm_finite : Cert.Pre_norm_finite.Facts) (hPre_in_finite : Cert.Pre_in_finite.Facts) (hPre_down_finite : Cert.Pre_down_finite.Facts) (hPre_ffn_finite : Cert.Pre_ffn_finite.Facts) (hPre_att_finite : Cert.Pre_att_finite.Facts) (hPre_atb_finite : Cert.Pre_atb_finite.Facts),
    quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelUp (hKernelUp := hKernelUp)
    ∧ quiescent_KernelUpIdeal (hKernelUpIdeal := hKernelUpIdeal)
    ∧ quiescent_KernelUpIdeal_pre_norm_finite (hKernelUpIdeal := hKernelUpIdeal) (hPre_norm_finite := hPre_norm_finite)
    ∧ quiescent_ReferenceUpIdeal (hReferenceUpIdeal := hReferenceUpIdeal)
    ∧ quiescent_ReferenceUpIdeal_pre_norm_finite (hReferenceUpIdeal := hReferenceUpIdeal) (hPre_norm_finite := hPre_norm_finite)
    ∧ quiescent_KernelIn (hKernelIn := hKernelIn)
    ∧ quiescent_KernelInIdeal (hKernelInIdeal := hKernelInIdeal)
    ∧ quiescent_KernelInIdeal_pre_in_finite (hKernelInIdeal := hKernelInIdeal) (hPre_in_finite := hPre_in_finite)
    ∧ quiescent_ReferenceInIdeal (hReferenceInIdeal := hReferenceInIdeal)
    ∧ quiescent_ReferenceInIdeal_pre_in_finite (hReferenceInIdeal := hReferenceInIdeal) (hPre_in_finite := hPre_in_finite)
    ∧ quiescent_KernelWada (hKernelWada := hKernelWada)
    ∧ quiescent_KernelWadaIdeal (hKernelWadaIdeal := hKernelWadaIdeal)
    ∧ quiescent_ReferenceWadaIdeal (hReferenceWadaIdeal := hReferenceWadaIdeal)
    ∧ quiescent_KernelDown (hKernelDown := hKernelDown)
    ∧ quiescent_KernelDownIdeal (hKernelDownIdeal := hKernelDownIdeal)
    ∧ quiescent_KernelDownIdeal_pre_down_finite (hKernelDownIdeal := hKernelDownIdeal) (hPre_down_finite := hPre_down_finite)
    ∧ quiescent_ReferenceDownIdeal (hReferenceDownIdeal := hReferenceDownIdeal)
    ∧ quiescent_ReferenceDownIdeal_pre_down_finite (hReferenceDownIdeal := hReferenceDownIdeal) (hPre_down_finite := hPre_down_finite)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelAtt (hKernelAtt := hKernelAtt)
    ∧ quiescent_KernelAttIdeal (hKernelAttIdeal := hKernelAttIdeal)
    ∧ quiescent_KernelAttIdeal_pre_att_finite (hKernelAttIdeal := hKernelAttIdeal) (hPre_att_finite := hPre_att_finite)
    ∧ quiescent_ReferenceAttIdeal (hReferenceAttIdeal := hReferenceAttIdeal)
    ∧ quiescent_ReferenceAttIdeal_pre_att_finite (hReferenceAttIdeal := hReferenceAttIdeal) (hPre_att_finite := hPre_att_finite)
    ∧ quiescent_KernelDkv (hKernelDkv := hKernelDkv)
    ∧ quiescent_KernelDkvIdeal (hKernelDkvIdeal := hKernelDkvIdeal)
    ∧ quiescent_ReferenceDkvIdeal (hReferenceDkvIdeal := hReferenceDkvIdeal)
    ∧ quiescent_KernelAtb (hKernelAtb := hKernelAtb)
    ∧ quiescent_KernelAtbIdeal (hKernelAtbIdeal := hKernelAtbIdeal)
    ∧ quiescent_KernelAtbIdeal_pre_atb_finite (hKernelAtbIdeal := hKernelAtbIdeal) (hPre_atb_finite := hPre_atb_finite)
    ∧ quiescent_ReferenceAtbIdeal (hReferenceAtbIdeal := hReferenceAtbIdeal)
    ∧ quiescent_ReferenceAtbIdeal_pre_atb_finite (hReferenceAtbIdeal := hReferenceAtbIdeal) (hPre_atb_finite := hPre_atb_finite)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelFdn (hKernelFdn := hKernelFdn)
    ∧ quiescent_KernelFdnIdeal (hKernelFdnIdeal := hKernelFdnIdeal)
    ∧ quiescent_ReferenceFdnIdeal (hReferenceFdnIdeal := hReferenceFdnIdeal)
    ∧ quiescent_KernelMods (hKernelMods := hKernelMods)
    ∧ quiescent_KernelModsIdeal (hKernelModsIdeal := hKernelModsIdeal)
    ∧ quiescent_ReferenceModsIdeal (hReferenceModsIdeal := hReferenceModsIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_KernelConv_KernelConvIdeal
    ∧ algebraic_KernelConvIdeal_ReferenceConvIdeal (hKernelConvIdeal := hKernelConvIdeal) (hReferenceConvIdeal := hReferenceConvIdeal)
    ∧ preserves_KernelUp_KernelUpIdeal
    ∧ algebraic_KernelUpIdeal_ReferenceUpIdeal_pre_norm_finite (hKernelUpIdeal := hKernelUpIdeal) (hReferenceUpIdeal := hReferenceUpIdeal) (hPre_norm_finite := hPre_norm_finite)
    ∧ preserves_KernelIn_KernelInIdeal
    ∧ algebraic_KernelInIdeal_ReferenceInIdeal_pre_in_finite (hKernelInIdeal := hKernelInIdeal) (hReferenceInIdeal := hReferenceInIdeal) (hPre_in_finite := hPre_in_finite)
    ∧ preserves_KernelWada_KernelWadaIdeal
    ∧ algebraic_KernelWadaIdeal_ReferenceWadaIdeal (hKernelWadaIdeal := hKernelWadaIdeal) (hReferenceWadaIdeal := hReferenceWadaIdeal)
    ∧ preserves_KernelDown_KernelDownIdeal
    ∧ algebraic_KernelDownIdeal_ReferenceDownIdeal_pre_down_finite (hKernelDownIdeal := hKernelDownIdeal) (hReferenceDownIdeal := hReferenceDownIdeal) (hPre_down_finite := hPre_down_finite)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelAtt_KernelAttIdeal
    ∧ algebraic_KernelAttIdeal_ReferenceAttIdeal_pre_att_finite (hKernelAttIdeal := hKernelAttIdeal) (hReferenceAttIdeal := hReferenceAttIdeal) (hPre_att_finite := hPre_att_finite)
    ∧ preserves_KernelDkv_KernelDkvIdeal
    ∧ algebraic_KernelDkvIdeal_ReferenceDkvIdeal (hKernelDkvIdeal := hKernelDkvIdeal) (hReferenceDkvIdeal := hReferenceDkvIdeal)
    ∧ preserves_KernelAtb_KernelAtbIdeal
    ∧ algebraic_KernelAtbIdeal_ReferenceAtbIdeal_pre_atb_finite (hKernelAtbIdeal := hKernelAtbIdeal) (hReferenceAtbIdeal := hReferenceAtbIdeal) (hPre_atb_finite := hPre_atb_finite)
    ∧ preserves_KernelProj_KernelProjIdeal
    ∧ algebraic_KernelProjIdeal_ReferenceProjIdeal (hKernelProjIdeal := hKernelProjIdeal) (hReferenceProjIdeal := hReferenceProjIdeal)
    ∧ preserves_KernelFdn_KernelFdnIdeal
    ∧ algebraic_KernelFdnIdeal_ReferenceFdnIdeal (hKernelFdnIdeal := hKernelFdnIdeal) (hReferenceFdnIdeal := hReferenceFdnIdeal)
    ∧ preserves_KernelMods_KernelModsIdeal
    ∧ algebraic_KernelModsIdeal_ReferenceModsIdeal (hKernelModsIdeal := hKernelModsIdeal) (hReferenceModsIdeal := hReferenceModsIdeal)
    ∧ preserves_KernelMid_KernelMidIdeal
    ∧ algebraic_KernelMidIdeal_ReferenceMidIdeal (hKernelMidIdeal := hKernelMidIdeal) (hReferenceMidIdeal := hReferenceMidIdeal)
    ∧ preserves_KernelMix_KernelMixIdeal
    ∧ algebraic_KernelMixIdeal_ReferenceMixIdeal (hKernelMixIdeal := hKernelMixIdeal) (hReferenceMixIdeal := hReferenceMixIdeal)
-- ==== Pre_atb_finite.lean ====
abbrev S8192x1024 : Shape := ⟨2, ![8192, 1024]⟩
abbrev S8192x256 : Shape := ⟨2, ![8192, 256]⟩
abbrev S8192x6656 : Shape := ⟨2, ![8192, 6656]⟩
abbrev S16 : Shape := ⟨1, ![16]⟩
abbrev S8192x128 : Shape := ⟨2, ![8192, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1024 .bf16) (main_arg1 : FVec F S8192x256 .bf16) (main_arg2 : FVec F S8192x6656 .bf16) (main_arg3 : FVec F S16 .f32) (main_arg4 : FVec F S8192x1024 .bf16) (main_arg5 : FVec F S8192x128 .f32) (main_arg6 : FVec F S8192x128 .f32) (main_arg7 : FVec F S8192x6656 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S16 .f32 := Host.absf main_arg3
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Pre_att_finite.lean ====
abbrev S8192x1024 : Shape := ⟨2, ![8192, 1024]⟩
abbrev S8192x256 : Shape := ⟨2, ![8192, 256]⟩
abbrev S8192x6656 : Shape := ⟨2, ![8192, 6656]⟩
abbrev S16 : Shape := ⟨1, ![16]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  slices_S8192x6656_S8192x256_0_4352 : S8192x6656.Slices ![0, 4352] S8192x256
  bcast_S_S16 : S_.BroadcastsInDim S16 (![] : Fin 0 → Fin S16.rank)
  reducesTo_S16_S_d0 : S16.ReducesTo [0] S_

variable [Facts]

def fn_part1 {F : FTy → Type} [FloatOps F] (main_arg3 : FVec F S16 .f32) (main_v17 : IVec S_ 1) : IVec S_ 1 :=
  let main_v18 : FVec F S16 .f32 := Host.absf main_arg3
  let main_cst_4 : FVec F S_ .f32 := constant S_ .f32 0x7F800000#32
  let main_v19 : FVec F S16 .f32 := broadcastInDim S16 ![] bcast_S_S16 main_cst_4
  let main_v20 : IVec S16 1 := cmpf .olt main_v18 main_v19
  let main_c_5 : IVec S_ 1 := constantI S_ 1 1#1
  let main_v21 : IVec S_ 1 := (fun x v => Host.reduce IntOp.andi x v reducesTo_S16_S_d0 h_S_) main_v20 main_c_5
  let main_v22 : IVec S_ 1 := andi main_v17 main_v21
  main_v22

def fn {F : FTy → Type} [FloatOps F] (main_arg0 : FVec F S8192x1024 .bf16) (main_arg1 : FVec F S8192x256 .bf16) (main_arg2 : FVec F S8192x6656 .bf16) (main_arg3 : FVec F S16 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S8192x256 .bf16 := (extractStridedSlice S8192x256 ![0, 4352] · slices_S8192x6656_S8192x256_0_4352) main_arg2
  let main_v12 : FVec F S8192x256 .f32 := (extf .f32 · bitsLt_bf16_f32) main_v11
  let main_v13 : FVec F S8192x256 .f32 := Host.absf main_v12
  let main_cst_2 : FVec F S_ .f32 := constant S_ .f32 0x7F800000#32
  let main_v14 : FVec F S8192x256 .f32 := broadcastInDim S8192x256 ![] bcast_S_S8192x256 main_cst_2
  let main_v15 : IVec S8192x256 1 := cmpf .olt main_v13 main_v14
  let main_c_3 : IVec S_ 1 := constantI S_ 1 1#1
  let main_v16 : IVec S_ 1 := (fun x v => Host.reduce IntOp.andi x v reducesTo_S8192x256_S_d0_1 h_S_) main_v15 main_c_3
  let main_v17 : IVec S_ 1 := andi main_v10 main_v16
  fn_part1 (F := F) main_arg3 main_v17
-- ==== Pre_down_finite.lean ====
abbrev S1x8192x1024 : Shape := ⟨3, ![1, 8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x1024 .f32) (main_arg1 : FVec F S1x1024 .f32) (main_arg2 : FVec F S1024x5632 .f32) (main_arg3 : FVec F S2816x1024 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_ffn_finite.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024 .f32) (main_arg8 : FVec F S1x8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x8192x1024 .f32 := Host.absf main_arg8
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg4 : FVec F S1x1024 .f32) (main_arg5 : FVec F S1024x5632 .f32) (main_arg6 : FVec F S2816x1024 .f32) (main_arg7 : FVec F S1024 .f32) (main_arg8 : FVec F S1x8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_arg8 main_v33

def fn {F : FTy → Type} [FloatOps F] (main_arg0 : FVec F S1x8192x1024 .f32) (main_arg1 : FVec F S1024 .f32) (main_arg2 : FVec F S1x1024 .f32) (main_arg3 : FVec F S1x1024 .f32) (main_arg4 : FVec F S1x1024 .f32) (main_arg5 : FVec F S1024x5632 .f32) (main_arg6 : FVec F S2816x1024 .f32) (main_arg7 : FVec F S1024 .f32) (main_arg8 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_in_finite.lean ====
abbrev S1x8192x1024 : Shape := ⟨3, ![1, 8192, 1024]⟩
abbrev S1024 : Shape := ⟨1, ![1024]⟩
abbrev S1x1024 : Shape := ⟨2, ![1, 1024]⟩
abbrev S1024x6656 : Shape := ⟨2, ![1024, 6656]⟩
abbrev S1x8192x6656 : Shape := ⟨3, ![1, 8192, 6656]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1024x6656 : S_.BroadcastsInDim S1024x6656 (![] : Fin 0 → Fin S1024x6656.rank)
  reducesTo_S1024x6656_S_d0_1 : S1024x6656.ReducesTo [0, 1] S_
  bcast_S_S1x8192x6656 : S_.BroadcastsInDim S1x8192x6656 (![] : Fin 0 → Fin S1x8192x6656.rank)
  reducesTo_S1x8192x6656_S_d0_1_2 : S1x8192x6656.ReducesTo [0, 1, 2] S_

variable [Facts]

def fn_part1 {F : FTy → Type} [FloatOps F] (main_arg6 : FVec F S1x8192x6656 .bf16) (main_v13 : IVec S_ 1) (main_v16 : IVec S1024x6656 1) : IVec S_ 1 :=
  let main_c_5 : IVec S_ 1 := constantI S_ 1 1#1
  let main_v17 : IVec S_ 1 := (fun x v => Host.reduce IntOp.andi x v reducesTo_S1024x6656_S_d0_1 h_S_) main_v16 main_c_5
  let main_v18 : IVec S_ 1 := andi main_v13 main_v17
  let main_v19 : FVec F S1x8192x6656 .bf16 := Host.absf main_arg6
  let main_cst_6 : FVec F S_ .bf16 := constant S_ .bf16 0x7F80#16
  let main_v20 : FVec F S1x8192x6656 .bf16 := broadcastInDim S1x8192x6656 ![] bcast_S_S1x8192x6656 main_cst_6
  let main_v21 : IVec S1x8192x6656 1 := cmpf .olt main_v19 main_v20
  let main_c_7 : IVec S_ 1 := constantI S_ 1 1#1
  let main_v22 : IVec S_ 1 := (fun x v => Host.reduce IntOp.andi x v reducesTo_S1x8192x6656_S_d0_1_2 h_S_) main_v21 main_c_7
  let main_v23 : IVec S_ 1 := andi main_v18 main_v22
  main_v23

def fn {F : FTy → Type} [FloatOps F] (main_arg0 : FVec F S1x8192x1024 .f32) (main_arg1 : FVec F S1024 .f32) (main_arg2 : FVec F S1x1024 .f32) (main_arg3 : FVec F S1x1024 .f32) (main_arg4 : FVec F S1024x6656 .f32) (main_arg5 : FVec F S1x8192x1024 .f32) (main_arg6 : FVec F S1x8192x6656 .bf16) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x6656 .f32 := Host.absf main_arg4
  let main_cst_4 : FVec F S_ .f32 := constant S_ .f32 0x7F800000#32
  let main_v15 : FVec F S1024x6656 .f32 := broadcastInDim S1024x6656 ![] bcast_S_S1024x6656 main_cst_4
  let main_v16 : IVec S1024x6656 1 := cmpf .olt main_v14 main_v15
  fn_part1 (F := F) main_arg6 main_v13 main_v16
-- ==== Pre_norm_finite.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S1x8192x5632 : Shape := ⟨3, ![1, 8192, 5632]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S1x8192x5632 : S_.BroadcastsInDim S1x8192x5632 (![] : Fin 0 → Fin S1x8192x5632.rank)
  reducesTo_S1x8192x5632_S_d0_1_2 : S1x8192x5632.ReducesTo [0, 1, 2] S_

variable [Facts]

def fn_part1 {F : FTy → Type} [FloatOps F] (main_arg6 : FVec F S1x8192x5632 .bf16) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S1x8192x5632 .bf16 := Host.absf main_arg6
  let main_cst_6 : FVec F S_ .bf16 := constant S_ .bf16 0x7F80#16
  let main_v20 : FVec F S1x8192x5632 .bf16 := broadcastInDim S1x8192x5632 ![] bcast_S_S1x8192x5632 main_cst_6
  let main_v21 : IVec S1x8192x5632 1 := cmpf .olt main_v19 main_v20
  let main_c_7 : IVec S_ 1 := constantI S_ 1 1#1
  let main_v22 : IVec S_ 1 := (fun x v => Host.reduce IntOp.andi x v reducesTo_S1x8192x5632_S_d0_1_2 h_S_) main_v21 main_c_7
  let main_v23 : IVec S_ 1 := andi main_v18 main_v22
  main_v23

def fn {F : FTy → Type} [FloatOps F] (main_arg0 : FVec F S1x8192x1024 .f32) (main_arg1 : FVec F S1024 .f32) (main_arg2 : FVec F S1x1024 .f32) (main_arg3 : FVec F S1x1024 .f32) (main_arg4 : FVec F S1024x5632 .f32) (main_arg5 : FVec F S1x8192x1024 .f32) (main_arg6 : FVec F S1x8192x5632 .bf16) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg4
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg6 main_v13 main_v16
-- ==== KernelConv.lean ====
abbrev S8192x1024 : Shape := ⟨2, ![8192, 1024]⟩
abbrev S8192x6656 : Shape := ⟨2, ![8192, 6656]⟩
abbrev S3x1024 : Shape := ⟨2, ![3, 1024]⟩
abbrev S_ : Shape := ⟨0, ![]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S1x1024 : Shape := ⟨2, ![1, 1024]⟩
abbrev S504x1024 : Shape := ⟨2, ![504, 1024]⟩
abbrev S1024 : Shape := ⟨1, ![1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S3x1024, .f32⟩
  | .hbm, ⟨3, _⟩ => ⟨S8192x6656, .bf16⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S8192x6656, .bf16⟩
  | .hbm, ⟨8, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S8x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceConvIdeal.lean ====
abbrev S8192x1024 : Shape := ⟨2, ![8192, 1024]⟩
abbrev S8192x6656 : Shape := ⟨2, ![8192, 6656]⟩
abbrev S3x1024 : Shape := ⟨2, ![3, 1024]⟩
abbrev S1x8192x6656 : Shape := ⟨3, ![1, 8192, 6656]⟩
abbrev S1x8192x1024 : Shape := ⟨3, ![1, 8192, 1024]⟩
abbrev S_ : Shape := ⟨0, ![]⟩
abbrev S1x2x1024 : Shape := ⟨3, ![1, 2, 1024]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S8192x3584 : Shape := ⟨2, ![8192, 3584]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6656, .bf16⟩
  | .hbm, ⟨2, _⟩ => ⟨S3x1024, .f32⟩
  | .hbm, ⟨3, _⟩ => ⟨S8192x6656, .bf16⟩
  | .hbm, ⟨4, _⟩ => ⟨S1x8192x6656, .bf16⟩
  | .hbm, ⟨5, _⟩ => ⟨S1x8192x6656, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S_, .f32⟩
  | .hbm, ⟨11, _⟩ => ⟨S1x2x1024, .f32⟩
  | .hbm, ⟨12, _⟩ => ⟨S1x8194x1024, .f32⟩
  | .hbm, ⟨13, _⟩ => ⟨S_, .f32⟩
  | .hbm, ⟨14, _⟩ => ⟨S1x2x1024, .f32⟩
  | .hbm, ⟨15, _⟩ => ⟨S1x8192x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S1x8192x1024, .bf16⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S_, .f32⟩
  | .hbm, ⟨42, _⟩ => ⟨S1x1024, .f32⟩
  | .hbm, ⟨43, _⟩ => ⟨S1x1x1024, .f32⟩
  | .hbm, ⟨44, _⟩ => ⟨S1x8192x1024, .f32⟩
  | .hbm, ⟨45, _⟩ => ⟨S1x8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S_, .f32⟩
  | .hbm, ⟨52, _⟩ => ⟨S1x8194x1024, .f32⟩
  | .hbm, ⟨53, _⟩ => ⟨S1x8192x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S_, .f32⟩
  | .hbm, ⟨66, _⟩ => ⟨S1x8194x1024, .f32⟩
  | .hbm, ⟨67, _⟩ => ⟨S1x8194x1024, .f32⟩
  | .hbm, ⟨68, _⟩ => ⟨S1x8192x1024, .f32⟩
  | .hbm, ⟨69, _⟩ => ⟨S_, .f32⟩
  | .hbm, ⟨70, _⟩ => ⟨S1x1024, .f32⟩
  | .hbm, ⟨71, _⟩ => ⟨S1x1x1024, .f32⟩
  | .hbm, ⟨72, _⟩ => ⟨S1x8192x1024, .f32⟩
  | .hbm, ⟨73, _⟩ => ⟨S1x8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S_, .f32⟩
  | .hbm, ⟨81, _⟩ => ⟨S1x8194x1024, .f32⟩
  | .hbm, ⟨82, _⟩ => ⟨S1x8194x1024, .f32⟩
  | .hbm, ⟨83, _⟩ => ⟨S1x2x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x3584, .bf16⟩
  | .hbm, ⟨91, _⟩ => ⟨S8192x3584, .f32⟩
  | .hbm, ⟨92, _⟩ => ⟨S8192x6656, .f32⟩
  | .hbm, ⟨93, _⟩ => ⟨S8192x6656, .bf16⟩
  | .hbm, ⟨94, _⟩ => ⟨S_, .i32⟩
  | .hbm, ⟨95, _⟩ => ⟨S_, .f32⟩
  | .hbm, ⟨96, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c : Ref sig .tc := ⟨.hbm, 94, rfl⟩
abbrev main_call0_v0 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== KernelUp.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S8192x2816 : Shape := ⟨2, ![8192, 2816]⟩
abbrev S2x8192x2816 : Shape := ⟨3, ![2, 8192, 2816]⟩
abbrev S5632x1024 : Shape := ⟨2, ![5632, 1024]⟩
abbrev S8192x1024 : Shape := ⟨2, ![8192, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S1x8192x1024, .f32⟩
  | .hbm, ⟨6, _⟩ => ⟨S1x8192x5632, .bf16⟩
  | .hbm, ⟨7, _⟩ => ⟨S1x8192x2816, .bf16⟩
  | .hbm, ⟨8, _⟩ => ⟨S8192x2816, .bf16⟩
  | .hbm, ⟨9, _⟩ => ⟨S1x8192x2816, .bf16⟩
  | .hbm, ⟨10, _⟩ => ⟨S8192x2816, .bf16⟩
  | .hbm, ⟨11, _⟩ => ⟨S1x8192x2816, .bf16⟩
  | .hbm, ⟨12, _⟩ => ⟨S1x8192x2816, .bf16⟩
  | .hbm, ⟨13, _⟩ => ⟨S2x8192x2816, .bf16⟩
  | .hbm, ⟨14, _⟩ => ⟨S5632x1024, .f32⟩
  | .hbm, ⟨15, _⟩ => ⟨S5632x1024, .bf16⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S1x1024, .f32⟩
  | .hbm, ⟨22, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceUpIdeal.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S1x8192x5632 : Shape := ⟨3, ![1, 8192, 5632]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x1024 : Shape := ⟨2, ![8192, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S1x8192x1024, .f32⟩
  | .hbm, ⟨6, _⟩ => ⟨S1x8192x5632, .bf16⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x8192x5632, .f32⟩
  | .hbm, ⟨37, _⟩ => ⟨S1x8192x5632, .f32⟩
  | .hbm, ⟨38, _⟩ => ⟨S1x8192x1024, .f32⟩
  | .hbm, ⟨39, _⟩ => ⟨S_, .f32⟩
  | .hbm, ⟨40, _⟩ => ⟨S1x1024, .f32⟩
  | .hbm, ⟨41, _⟩ => ⟨S1x1x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x8192x1024, .f32⟩
  | .hbm, ⟨46, _⟩ => ⟨S_, .f32⟩
  | .hbm, ⟨47, _⟩ => ⟨S1x1024, .f32⟩
  | .hbm, ⟨48, _⟩ => ⟨S1x1x1024, .f32⟩
  | .hbm, ⟨49, _⟩ => ⟨S1x8192x1024, .f32⟩
  | .hbm, ⟨50, _⟩ => ⟨S1x8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S1x8192x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1024, .f32⟩
  | .hbm, ⟨62, _⟩ => ⟨S1x8192x1024, .f32⟩
  | .hbm, ⟨63, _⟩ => ⟨S_, .f32⟩
  | .hbm, ⟨64, _⟩ => ⟨S1x8192, .f32⟩
  | .hbm, ⟨65, _⟩ => ⟨S1x8192x1, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S1x8192x1, .f32⟩
  | .hbm, ⟨70, _⟩ => ⟨S_, .f32⟩
  | .hbm, ⟨71, _⟩ => ⟨S1x8192x1, .f32⟩
  | .hbm, ⟨72, _⟩ => ⟨S1x8192x1, .f32⟩
  | .hbm, ⟨73, _⟩ => ⟨S_, .f32⟩
  | .hbm, ⟨74, _⟩ => ⟨S8192, .f32⟩
  | .hbm, ⟨75, _⟩ => ⟨S1x8192, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S8192x1024, .f32⟩
  | .hbm, ⟨82, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== KernelIn.lean ====
abbrev S1x8192x1024 : Shape := ⟨3, ![1, 8192, 1024]⟩
abbrev S1024 : Shape := ⟨1, ![1024]⟩
abbrev S1x1024 : Shape := ⟨2, ![1, 1024]⟩
abbrev S1024x6656 : Shape := ⟨2, ![1024, 6656]⟩
abbrev S1x8192x6656 : Shape := ⟨3, ![1, 8192, 6656]⟩
abbrev S6656x1024 : Shape := ⟨2, ![6656, 1024]⟩
abbrev S8192x1024 : Shape := ⟨2, ![8192, 1024]⟩
abbrev S1x512x6656 : Shape := ⟨3, ![1, 512, 6656]⟩
abbrev S512x1024 : Shape := ⟨2, ![512, 1024]⟩
abbrev S512x6656 : Shape := ⟨2, ![512, 6656]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6656, .f32⟩
  | .hbm, ⟨5, _⟩ => ⟨S1x8192x1024, .f32⟩
  | .hbm, ⟨6, _⟩ => ⟨S1x8192x6656, .bf16⟩
  | .hbm, ⟨7, _⟩ => ⟨S6656x1024, .f32⟩
  | .hbm, ⟨8, _⟩ => ⟨S6656x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S1x512x6656, .bf16⟩
  | .local _ .vmem, ⟨1, _⟩ => ⟨S1x512x6656, .bf16⟩
  | .local _ .vmem, ⟨2, _⟩ => ⟨S6656x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceInIdeal.lean ====
abbrev S1x8192x1024 : Shape := ⟨3, ![1, 8192, 1024]⟩
abbrev S1024 : Shape := ⟨1, ![1024]⟩
abbrev S1x1024 : Shape := ⟨2, ![1, 1024]⟩
abbrev S1024x6656 : Shape := ⟨2, ![1024, 6656]⟩
abbrev S1x8192x6656 : Shape := ⟨3, ![1, 8192, 6656]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x1024 : Shape := ⟨2, ![8192, 1024]⟩

abbrev nBuf : Space → Nat
  | .hbm => 83
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6656, .f32⟩
  | .hbm, ⟨5, _⟩ => ⟨S1x8192x1024, .f32⟩
  | .hbm, ⟨6, _⟩ => ⟨S1x8192x6656, .bf16⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x8192x6656, .f32⟩
  | .hbm, ⟨37, _⟩ => ⟨S1x8192x6656, .f32⟩
  | .hbm, ⟨38, _⟩ => ⟨S1x8192x1024, .f32⟩
  | .hbm, ⟨39, _⟩ => ⟨S_, .f32⟩
  | .hbm, ⟨40, _⟩ => ⟨S1x1024, .f32⟩
  | .hbm, ⟨41, _⟩ => ⟨S1x1x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S1x8192x1024, .f32⟩
  | .hbm, ⟨46, _⟩ => ⟨S_, .f32⟩
  | .hbm, ⟨47, _⟩ => ⟨S1x1024, .f32⟩
  | .hbm, ⟨48, _⟩ => ⟨S1x1x1024, .f32⟩
  | .hbm, ⟨49, _⟩ => ⟨S1x8192x1024, .f32⟩
  | .hbm, ⟨50, _⟩ => ⟨S1x8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S1x8192x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1024, .f32⟩
  | .hbm, ⟨62, _⟩ => ⟨S1x8192x1024, .f32⟩
  | .hbm, ⟨63, _⟩ => ⟨S_, .f32⟩
  | .hbm, ⟨64, _⟩ => ⟨S1x8192, .f32⟩
  | .hbm, ⟨65, _⟩ => ⟨S1x8192x1, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S1x8192x1, .f32⟩
  | .hbm, ⟨70, _⟩ => ⟨S_, .f32⟩
  | .hbm, ⟨71, _⟩ => ⟨S1x8192x1, .f32⟩
  | .hbm, ⟨72, _⟩ => ⟨S1x8192x1, .f32⟩
  | .hbm, ⟨73, _⟩ => ⟨S_, .f32⟩
  | .hbm, ⟨74, _⟩ => ⟨S8192, .f32⟩
  | .hbm, ⟨75, _⟩ => ⟨S1x8192, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S8192x1024, .f32⟩
  | .hbm, ⟨82, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== KernelWada.lean ====
abbrev S8x1024 : Shape := ⟨2, ![8, 1024]⟩
abbrev S1024x1152 : Shape := ⟨2, ![1024, 1152]⟩
abbrev S1152 : Shape := ⟨1, ![1152]⟩
abbrev S8x1152 : Shape := ⟨2, ![8, 1152]⟩
abbrev S1024x8 : Shape := ⟨2, ![1024, 8]⟩
abbrev S1024x1 : Shape := ⟨2, ![1024, 1]⟩
abbrev S1x1152 : Shape := ⟨2, ![1, 1152]⟩

abbrev nBuf : Space → Nat
  | .hbm => 6
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1152, .f32⟩
  | .hbm, ⟨3, _⟩ => ⟨S8x1152, .f32⟩
  | .hbm, ⟨4, _⟩ => ⟨S1024x8, .f32⟩
  | .hbm, ⟨5, _⟩ => ⟨S1024x1152, .f32⟩
  | .local _ .vmem, ⟨0, _⟩ => ⟨S1024x8, .f32⟩
  | .local _ .vmem, ⟨1, _⟩ => ⟨S8x1152, .f32⟩
  | .local _ .vmem, ⟨2, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceWadaIdeal.lean ====
abbrev S8x1024 : Shape := ⟨2, ![8, 1024]⟩
abbrev S1024x1152 : Shape := ⟨2, ![1024, 1152]⟩
abbrev S1152 : Shape := ⟨1, ![1152]⟩
abbrev S8x1152 : Shape := ⟨2, ![8, 1152]⟩
abbrev S_ : Shape := ⟨0, ![]⟩
abbrev S1x1152 : Shape := ⟨2, ![1, 1152]⟩
abbrev S1152x1024 : Shape := ⟨2, ![1152, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1152, .f32⟩
  | .hbm, ⟨3, _⟩ => ⟨S8x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1152, .f32⟩
  | .hbm, ⟨14, _⟩ => ⟨S1x1152, .f32⟩
  | .hbm, ⟨15, _⟩ => ⟨S8x1152, .f32⟩
  | .hbm, ⟨16, _⟩ => ⟨S8x1152, .f32⟩
  | .hbm, ⟨17, _⟩ => ⟨S1152x1024, .f32⟩
  | .hbm, ⟨18, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== KernelDown.lean ====
abbrev S1x8192x1024 : Shape := ⟨3, ![1, 8192, 1024]⟩
abbrev S1x1024 : Shape := ⟨2, ![1, 1024]⟩
abbrev S1024x5632 : Shape := ⟨2, ![1024, 5632]⟩
abbrev S2816x1024 : Shape := ⟨2, ![2816, 1024]⟩
abbrev S8192x1024 : Shape := ⟨2, ![8192, 1024]⟩
abbrev S8192x5632 : Shape := ⟨2, ![8192, 5632]⟩
abbrev S2x8192x2816 : Shape := ⟨3, ![2, 8192, 2816]⟩
abbrev S512x1024 : Shape := ⟨2, ![512, 1024]⟩
abbrev S512x2816 : Shape := ⟨2, ![512, 2816]⟩
abbrev S2x512x2816 : Shape := ⟨3, ![2, 512, 2816]⟩
abbrev S1024x512 : Shape := ⟨2, ![1024, 512]⟩
abbrev S1x1024x2816 : Shape := ⟨3, ![1, 1024, 2816]⟩
abbrev S256x1024 : Shape := ⟨2, ![256, 1024]⟩
abbrev S_ : Shape := ⟨0, ![]⟩
abbrev S1024x2816 : Shape := ⟨2, ![1024, 2816]⟩
abbrev S512x256 : Shape := ⟨2, ![512, 256]⟩
abbrev S1x512x256 : Shape := ⟨3, ![1, 512, 256]⟩
abbrev S1x1024x256 : Shape := ⟨3, ![1, 1024, 256]⟩
abbrev S1024x256 : Shape := ⟨2, ![1024, 256]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x8192x1024, .f32⟩
  | .hbm, ⟨5, _⟩ => ⟨S8192x1024, .f32⟩
  | .hbm, ⟨6, _⟩ => ⟨S8192x5632, .f32⟩
  | .hbm, ⟨7, _⟩ => ⟨S8192x5632, .bf16⟩
  | .hbm, ⟨8, _⟩ => ⟨S8192x1024, .f32⟩
  | .hbm, ⟨9, _⟩ => ⟨S2816x1024, .bf16⟩
  | .hbm, ⟨10, _⟩ => ⟨S2x8192x2816, .bf16⟩
  | .hbm, ⟨11, _⟩ => ⟨S1x1024, .f32⟩
  | .hbm, ⟨12, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S2816x1024, .bf16⟩
  | .local _ .vmem, ⟨8, _⟩ => ⟨S2x512x2816, .bf16⟩
  | .local _ .vmem, ⟨9, _⟩ => ⟨S2x512x2816, .bf16⟩
  | .local _ .vmem, ⟨10, _⟩ => ⟨S1x1024, .f32⟩
  | .local _ .vmem, ⟨11, _⟩ => ⟨S512x1024, .bf16⟩
  | .local _ .vmem, ⟨12, _⟩ => ⟨S1024x512, .bf16⟩
  | .local _ .vmem, ⟨13, _⟩ => ⟨S1x1024x2816, .f32⟩
  | .local _ .vmem, ⟨14, _⟩ => ⟨S256x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg0 : BitVec 32 := BitVec.ofNat 32 (i 0).val
  let c15_i32 : BitVec 32 := 15#32
  let v489 : BitVec 1 := Scalar.cmpi .eq arg0 c15_i32
  let v490 : BitVec 32 := Scalar.extui v489
  let c0_i32_274 : BitVec 32 := 0#32
  let v491 : BitVec 1 := Scalar.cmpi .ne v490 c0_i32_274
  v491

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceDownIdeal.lean ====
abbrev S1x8192x1024 : Shape := ⟨3, ![1, 8192, 1024]⟩
abbrev S1x1024 : Shape := ⟨2, ![1, 1024]⟩
abbrev S1024x5632 : Shape := ⟨2, ![1024, 5632]⟩
abbrev S2816x1024 : Shape := ⟨2, ![2816, 1024]⟩
abbrev S1x8192x5632 : Shape := ⟨3, ![1, 8192, 5632]⟩
abbrev S_ : Shape := ⟨0, ![]⟩
abbrev S1x8192x2816 : Shape := ⟨3, ![1, 8192, 2816]⟩
abbrev S1x1x1024 : Shape := ⟨3, ![1, 1, 1024]⟩
abbrev S1024 : Shape := ⟨1, ![1024]⟩
abbrev S8192x2816 : Shape := ⟨2, ![8192, 2816]⟩
abbrev S2x8192x2816 : Shape := ⟨3, ![2, 8192, 2816]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x8192x1024, .f32⟩
  | .hbm, ⟨5, _⟩ => ⟨S1x8192x5632, .f32⟩
  | .hbm, ⟨6, _⟩ => ⟨S_, .f32⟩
  | .hbm, ⟨7, _⟩ => ⟨S1x8192x1024, .f32⟩
  | .hbm, ⟨8, _⟩ => ⟨S1x8192x2816, .f32⟩
  | .hbm, ⟨9, _⟩ => ⟨S1x8192x2816, .f32⟩
  | .hbm, ⟨10, _⟩ => ⟨S1x1x1024, .f32⟩
  | .hbm, ⟨11, _⟩ => ⟨S_, .f32⟩
  | .hbm, ⟨12, _⟩ => ⟨S1x1x1024, .f32⟩
  | .hbm, ⟨13, _⟩ => ⟨S1x1x1024, .f32⟩
  | .hbm, ⟨14, _⟩ => ⟨S1x8192x2816, .f32⟩
  | .hbm, ⟨15, _⟩ => ⟨S1x8192x2816, .f32⟩
  | .hbm, ⟨16, _⟩ => ⟨S_, .f32⟩
  | .hbm, ⟨17, _⟩ => ⟨S1x8192x2816, .f32⟩
  | .hbm, ⟨18, _⟩ => ⟨S1x8192x2816, .f32⟩
  | .hbm, ⟨19, _⟩ => ⟨S_, .f32⟩
  | .hbm, ⟨20, _⟩ => ⟨S1x8192x2816, .f32⟩
  | .hbm, ⟨21, _⟩ => ⟨S1x8192x2816, .f32⟩
  | .hbm, ⟨22, _⟩ => ⟨S_, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x1024, .f32⟩
  | .hbm, ⟨37, _⟩ => ⟨S1x1x1024, .f32⟩
  | .hbm, ⟨38, _⟩ => ⟨S1x8192x2816, .f32⟩
  | .hbm, ⟨39, _⟩ => ⟨S1x8192x2816, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S1x8192x2816, .f32⟩
  | .hbm, ⟨45, _⟩ => ⟨S_, .f32⟩
  | .hbm, ⟨46, _⟩ => ⟨S1x1x1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x8192x5632, .f32⟩
  | .hbm, ⟨52, _⟩ => ⟨S1x8192x2816, .f32⟩
  | .hbm, ⟨53, _⟩ => ⟨S8192x2816, .f32⟩
  | .hbm, ⟨54, _⟩ => ⟨S1x8192x2816, .f32⟩
  | .hbm, ⟨55, _⟩ => ⟨S8192x2816, .f32⟩
  | .hbm, ⟨56, _⟩ => ⟨S1x8192x2816, .f32⟩
  | .hbm, ⟨57, _⟩ => ⟨S1x8192x2816, .f32⟩
  | .hbm, ⟨58, _⟩ => ⟨S2x8192x2816, .f32⟩
  | .hbm, ⟨59, _⟩ => ⟨S2x8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v7_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v7_1 : Ref sig .tc := ⟨.hbm, 25, rfl⟩
abbrev main_v7_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== KernelFfn.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S2816x1024 : Shape := ⟨2, ![2816, 1024]⟩
abbrev S8192x1024 : Shape := ⟨2, ![8192, 1024]⟩
abbrev S5632x1024 : Shape := ⟨2, ![5632, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 21
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1x8192x1024, .f32⟩
  | .hbm, ⟨9, _⟩ => ⟨S8192x1024, .f32⟩
  | .hbm, ⟨10, _⟩ => ⟨S1x1024, .f32⟩
  | .hbm, ⟨11, _⟩ => ⟨S5632x1024, .f32⟩
  | .hbm, ⟨12, _⟩ => ⟨S5632x1024, .bf16⟩
  | .hbm, ⟨13, _⟩ => ⟨S2816x1024, .bf16⟩
  | .hbm, ⟨14, _⟩ => ⟨S8192x1024, .f32⟩
  | .hbm, ⟨15, _⟩ => ⟨S1x1024, .f32⟩
  | .hbm, ⟨16, _⟩ => ⟨S8192x1024, .bf16⟩
  | .hbm, ⟨17, _⟩ => ⟨S8192x5632, .bf16⟩
  | .hbm, ⟨18, _⟩ => ⟨S8192x1024, .f32⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S5632x1024, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x5632, .bf16⟩
  | .local _ .vmem, ⟨14, _⟩ => ⟨S512x5632, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceFfnIdeal.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S8192 : Shape := ⟨1, ![8192]⟩
abbrev S8192x1024 : Shape := ⟨2, ![8192, 1024]⟩
abbrev S8192x5632 : Shape := ⟨2, ![8192, 5632]⟩

abbrev nBuf : Space → Nat
  | .hbm => 150
  | .vmem => 0
  | .smem => 0
  | _ => 0

abbrev hbmTy0_0 (i : Nat) : BufTy := match i % 128 with
  | 0 => ⟨S1x8192x1024, .f32⟩
  | 1 => ⟨S1024, .f32⟩
  | 2 => ⟨S1x1024, .f32⟩
  | 3 => ⟨S1x1024, .f32⟩
  | 4 => ⟨S1x1024, .f32⟩
  | 5 => ⟨S1024x5632, .f32⟩
  | 6 => ⟨S2816x1024, .f32⟩
  | 7 => ⟨S1024, .f32⟩
  | 8 => ⟨S1x8192x1024, .f32⟩
  | 9 => ⟨S1x8192x1024, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S1x8192x1, .f32⟩
  | 18 => ⟨S1x8192x1, .f32⟩
  | 19 => ⟨S1x8192x1, .f32⟩
  | 20 => ⟨S1x8192x1024, .f32⟩
  | 21 => ⟨S1x8192x1024, .f32⟩
  | 22 => ⟨S1x1x1024, .f32⟩
  | 23 => ⟨S1x8192x1024, .f32⟩
  | 24 => ⟨S1x8192x1024, .f32⟩
  | 25 => ⟨S1x1x1024, .f32⟩
  | 26 => ⟨S_, .f32⟩
  | 27 => ⟨S1x1x1024, .f32⟩
  | 28 => ⟨S1x1x1024, .f32⟩
  | 29 => ⟨S1x8192x1024, .f32⟩
  | 30 => ⟨S1x8192x1024, .f32⟩
  | 31 => ⟨S1x1x1024, .f32⟩
  | 32 => ⟨S1x8192x1024, .f32⟩
  | 33 => ⟨S1x8192x1024, .f32⟩
  | 34 => ⟨S1x8192x5632, .f32⟩
  | 35 => ⟨S1x8192x2816, .f32⟩
  | 36 => ⟨S1x8192x2816, .f32⟩
  | 37 => ⟨S1x1x1024, .f32⟩
  | 38 => ⟨S_, .f32⟩
  | 39 => ⟨S1x1x1024, .f32⟩
  | 40 => ⟨S1x1x1024, .f32⟩
  | 41 => ⟨S1x8192x2816, .f32⟩
  | 42 => ⟨S1x8192x2816, .f32⟩
  | 43 => ⟨S_, .f32⟩
  | 44 => ⟨S1x8192x2816, .f32⟩
  | 45 => ⟨S1x8192x2816, .f32⟩
  | 46 => ⟨S_, .f32⟩
  | 47 => ⟨S1x8192x2816, .f32⟩
  | 48 => ⟨S1x8192x2816, .f32⟩
  | 49 => ⟨S1x8192x2816, .f32⟩
  | 50 => ⟨S1x8192x2816, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S_, .f32⟩
  | 63 => ⟨S1x8192x1, .f32⟩
  | 64 => ⟨S1x8192x1, .f32⟩
  | 65 => ⟨S1x8192x1, .f32⟩
  | 66 => ⟨S1x8192x1, .f32⟩
  | 67 => ⟨S_, .f32⟩
  | 68 => ⟨S1x8192x1, .f32⟩
  | 69 => ⟨S1x8192x1, .f32⟩
  | 70 => ⟨S1x8192x1024, .f32⟩
  | 71 => ⟨S1x8192x1024, .f32⟩
  | 72 => ⟨S1x1x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S_, .f32⟩
  | 78 => ⟨S1x8192x1024, .f32⟩
  | 79 => ⟨S1x8192x1024, .f32⟩
  | 80 => ⟨S_, .f32⟩
  | 81 => ⟨S1x8192, .f32⟩
  | 82 => ⟨S_, .f32⟩
  | 83 => ⟨S1x8192, .f32⟩
  | 84 => ⟨S1x8192, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S1x8192, .f32⟩
  | 93 => ⟨S_, .f32⟩
  | 94 => ⟨S1x8192, .f32⟩
  | 95 => ⟨S1x8192, .f32⟩
  | 96 => ⟨S1x8192x1024, .f32⟩
  | 97 => ⟨S1x8192x1024, .f32⟩
  | 98 => ⟨S1x8192x1024, .f32⟩
  | 99 => ⟨S_, .f32⟩
  | 100 => ⟨S1x1024, .f32⟩
  | 101 => ⟨S1x1x1024, .f32⟩
  | 102 => ⟨S1x8192x1024, .f32⟩
  | 103 => ⟨S1x8192x1024, .f32⟩
  | 104 => ⟨S_, .f32⟩
  | 105 => ⟨S1024, .f32⟩
  | 106 => ⟨S1x8192x1024, .f32⟩
  | 107 => ⟨S_, .f32⟩
  | 108 => ⟨S1x8192, .f32⟩
  | 109 => ⟨S1x8192x1, .f32⟩
  | 110 => ⟨S1x8192x1024, .f32⟩
  | 111 => ⟨S1x8192x1024, .f32⟩
  | 112 => ⟨S1x8192x1, .f32⟩
  | 113 => ⟨S_, .f32⟩
  | 114 => ⟨S1x8192x1, .f32⟩
  | 115 => ⟨S1x8192x1, .f32⟩
  | 116 => ⟨S_, .f32⟩
  | 117 => ⟨S8192, .f32⟩
  | 118 => ⟨S1x8192, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S_, .f32⟩
  | 126 => ⟨S1x8192, .f32⟩
  | 127 => ⟨S1x8192x1, .f32⟩
  | _ => ⟨S1x8192x1024, .f32⟩

abbrev hbmTy0_1 (i : Nat) : BufTy := match i % 128 with
  | 0 => ⟨S_, .f32⟩
  | 1 => ⟨S1x8192x1, .f32⟩
  | 2 => ⟨S1x8192x1, .f32⟩
  | 3 => ⟨S_, .f32⟩
  | 4 => ⟨S1x8192x1, .f32⟩
  | 5 => ⟨S1x8192x1, .f32⟩
  | 6 => ⟨S1x8192x1, .f32⟩
  | 7 => ⟨S1x8192x1024, .f32⟩
  | 8 => ⟨S1x8192x1024, .f32⟩
  | 9 => ⟨S1x1x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S_, .f32⟩
  | 15 => ⟨S1x1024, .f32⟩
  | 16 => ⟨S8192x1024, .f32⟩
  | 17 => ⟨S8192x1024, .bf16⟩
  | 18 => ⟨S8192x5632, .f32⟩
  | 19 => ⟨S8192x5632, .bf16⟩
  | 20 => ⟨S8192x1024, .f32⟩
  | 21 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_cst_13 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_v77 : Ref sig .tc := ⟨.hbm, 115, rfl⟩
abbrev main_cst_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_21 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_v89 : Ref sig .tc := ⟨.hbm, 130, rfl⟩
abbrev main_cst_23 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]
-- ==== KernelAtt.lean ====
abbrev S8192x1024 : Shape := ⟨2, ![8192, 1024]⟩
abbrev S8192x256 : Shape := ⟨2, ![8192, 256]⟩
abbrev S8192x6656 : Shape := ⟨2, ![8192, 6656]⟩
abbrev S16 : Shape := ⟨1, ![16]⟩
abbrev S_ : Shape := ⟨0, ![]⟩
abbrev S64x128x4x4x64 : Shape := ⟨5, ![64, 128, 4, 4, 64]⟩
abbrev S4x64x4x128x64 : Shape := ⟨5, ![4, 64, 4, 128, 64]⟩
abbrev S4x32768x64 : Shape := ⟨3, ![4, 32768, 64]⟩
abbrev S32768x64 : Shape := ⟨2, ![32768, 64]⟩
abbrev S1x32768x64 : Shape := ⟨3, ![1, 32768, 64]⟩
abbrev S32768x128 : Shape := ⟨2, ![32768, 128]⟩
abbrev S1x32768x128 : Shape := ⟨3, ![1, 32768, 128]⟩
abbrev S4x32768x128 : Shape := ⟨3, ![4, 32768, 128]⟩
abbrev S512x256 : Shape := ⟨2, ![512, 256]⟩
abbrev S1x512x256 : Shape := ⟨3, ![1, 512, 256]⟩
abbrev S2x512x256 : Shape := ⟨3, ![2, 512, 256]⟩
abbrev S4x2048x128 : Shape := ⟨3, ![4, 2048, 128]⟩
abbrev S128x256 : Shape := ⟨2, ![128, 256]⟩
abbrev S512x1024 : Shape := ⟨2, ![512, 1024]⟩
abbrev S128x128 : Shape := ⟨2, ![128, 128]⟩
abbrev S256x128 : Shape := ⟨2, ![256, 128]⟩
abbrev S512x128 : Shape := ⟨2, ![512, 128]⟩
abbrev S1 : Shape := ⟨1, ![1]⟩
abbrev S1x512x128 : Shape := ⟨3, ![1, 512, 128]⟩
abbrev S512 : Shape := ⟨1, ![512]⟩
abbrev S512x1 : Shape := ⟨2, ![512, 1]⟩
abbrev S128x1024 : Shape := ⟨2, ![128, 1024]⟩

abbrev nBuf : Space → Nat
  | .hbm => 81
  | .vmem => 15
  | .smem => 1
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x6656, .bf16⟩
  | .hbm, ⟨3, _⟩ => ⟨S16, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S64x128x4x4x64, .f32⟩
  | .hbm, ⟨9, _⟩ => ⟨S4x64x4x128x64, .f32⟩
  | .hbm, ⟨10, _⟩ => ⟨S4x32768x64, .f32⟩
  | .hbm, ⟨11, _⟩ => ⟨S_, .f32⟩
  | .hbm, ⟨12, _⟩ => ⟨S32768x64, .f32⟩
  | .hbm, ⟨13, _⟩ => ⟨S1x32768x64, .f32⟩
  | .hbm, ⟨14, _⟩ => ⟨S32768x64, .f32⟩
  | .hbm, ⟨15, _⟩ => ⟨S32768x128, .f32⟩
  | .hbm, ⟨16, _⟩ => ⟨S1x32768x64, .f32⟩
  | .hbm, ⟨17, _⟩ => ⟨S32768x64, .f32⟩
  | .hbm, ⟨18, _⟩ => ⟨S32768x128, .f32⟩
  | .hbm, ⟨19, _⟩ => ⟨S1x32768x64, .f32⟩
  | .hbm, ⟨20, _⟩ => ⟨S32768x64, .f32⟩
  | .hbm, ⟨21, _⟩ => ⟨S32768x128, .f32⟩
  | .hbm, ⟨22, _⟩ => ⟨S1x32768x64, .f32⟩
  | .hbm, ⟨23, _⟩ => ⟨S32768x64, .f32⟩
  | .hbm, ⟨24, _⟩ => ⟨S32768x128, .f32⟩
  | .hbm, ⟨25, _⟩ => ⟨S1x32768x128, .f32⟩
  | .hbm, ⟨26, _⟩ => ⟨S1x32768x128, .f32⟩
  | .hbm, ⟨27, _⟩ => ⟨S1x32768x128, .f32⟩
  | .hbm, ⟨28, _⟩ => ⟨S1x32768x128, .f32⟩
  | .hbm, ⟨29, _⟩ => ⟨S4x32768x128, .f32⟩
  | .hbm, ⟨30, _⟩ => ⟨S4x32768x128, .bf16⟩
  | .hbm, ⟨31, _⟩ => ⟨S512x256, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S512x256, .i32⟩
  | .hbm, ⟨39, _⟩ => ⟨S512x256, .i32⟩
  | .hbm, ⟨40, _⟩ => ⟨S_, .i32⟩
  | .hbm, ⟨41, _⟩ => ⟨S512x256, .i32⟩
  | .hbm, ⟨42, _⟩ => ⟨S512x256, .i1⟩
  | .hbm, ⟨43, _⟩ => ⟨S_, .i32⟩
  | .hbm, ⟨44, _⟩ => ⟨S512x256, .i32⟩
  | .hbm, ⟨45, _⟩ => ⟨S512x256, .i1⟩
  | .hbm, ⟨46, _⟩ => ⟨S_, .i32⟩
  | .hbm, ⟨47, _⟩ => ⟨S_, .i1⟩
  | .hbm, ⟨48, _⟩ => ⟨S512x256, .i1⟩
  | .hbm, ⟨49, _⟩ => ⟨S512x256, .i1⟩
  | .hbm, ⟨50, _⟩ => ⟨S512x256, .i1⟩
  | .hbm, ⟨51, _⟩ => ⟨S512x256, .i32⟩
  | .hbm, ⟨52, _⟩ => ⟨S512x256, .i32⟩
  | .hbm, ⟨53, _⟩ => ⟨S512x256, .i32⟩
  | .hbm, ⟨54, _⟩ => ⟨S512x256, .i32⟩
  | .hbm, ⟨55, _⟩ => ⟨S512x256, .i1⟩
  | .hbm, ⟨56, _⟩ => ⟨S_, .i32⟩
  | .hbm, ⟨57, _⟩ => ⟨S512x256, .i32⟩
  | .hbm, ⟨58, _⟩ => ⟨S512x256, .i32⟩
  | .hbm, ⟨59, _⟩ => ⟨S512x256, .i1⟩
  | .hbm, ⟨60, _⟩ => ⟨S512x256, .i1⟩
  | .hbm, ⟨61, _⟩ => ⟨S_, .i32⟩
  | .hbm, ⟨62, _⟩ => ⟨S512x256, .i32⟩
  | .hbm, ⟨63, _⟩ => ⟨S512x256, .i1⟩
  | .hbm, ⟨64, _⟩ => ⟨S512x256, .i1⟩
  | .hbm, ⟨65, _⟩ => ⟨S_, .f32⟩
  | .hbm, ⟨66, _⟩ => ⟨S_, .f32⟩
  | .hbm, ⟨67, _⟩ => ⟨S512x256, .f32⟩
  | .hbm, ⟨68, _⟩ => ⟨S512x256, .f32⟩
  | .hbm, ⟨69, _⟩ => ⟨S512x256, .f32⟩
  | .hbm, ⟨70, _⟩ => ⟨S_, .f32⟩
  | .hbm, ⟨71, _⟩ => ⟨S_, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S1x512x256, .f32⟩
  | .hbm, ⟨76, _⟩ => ⟨S1x512x256, .f32⟩
  | .hbm, ⟨77, _⟩ => ⟨S2x512x256, .f32⟩
  | .hbm, ⟨78, _⟩ => ⟨S2x512x256, .f32⟩
  | .hbm, ⟨79, _⟩ => ⟨S8192x1024, .bf16⟩
  | .hbm, ⟨80, _⟩ => ⟨S4x32768x128, .f32⟩
  | .local _ .vmem, ⟨0, _⟩ => ⟨S4x2048x128, .bf16⟩
  | .local _ .vmem, ⟨1, _⟩ => ⟨S4x2048x128, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S2x512x256, .f32⟩
  | .local _ .vmem, ⟨11, _⟩ => ⟨S512x1024, .bf16⟩
  | .local _ .vmem, ⟨12, _⟩ => ⟨S512x1024, .bf16⟩
  | .local _ .vmem, ⟨13, _⟩ => ⟨S4x2048x128, .f32⟩
  | .local _ .vmem, ⟨14, _⟩ => ⟨S4x2048x128, .f32⟩
  | .local _ .smem, ⟨0, _⟩ => ⟨S16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_cst_4 : Ref sig .tc := ⟨.hbm, 66, rfl⟩
abbrev main_call1_v0 : Ref sig .tc := ⟨.hbm, 67, rfl⟩
abbrev main_call1_v1 : Ref sig .tc := ⟨.hbm, 68, rfl⟩
abbrev main_v36 : Ref sig .tc := ⟨.hbm, 69, rfl⟩
abbrev main_cst_5 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42_0 : Ref sig .tc := ⟨.hbm, 79, rfl⟩
abbrev main_v42_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v71 : BitVec 32 := Scalar.minsi arg0 c1_i32
  let v72 : Index := Scalar.indexCast v71
  let c0_27 : Index := 0#32
  let c0_28 : Index := 0#32
  ![v72.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c17_i32 : BitVec 32 := 17#32
  let c0_i32_0 : BitVec 32 := 0#32
  ![v2.toNat, c17_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAttIdeal.lean ====
abbrev S8192x1024 : Shape := ⟨2, ![8192, 1024]⟩
abbrev S8192x256 : Shape := ⟨2, ![8192, 256]⟩
abbrev S8192x6656 : Shape := ⟨2, ![8192, 6656]⟩
abbrev S16 : Shape := ⟨1, ![16]⟩
abbrev S1x64x128x4x4x64 : Shape := ⟨6, ![1, 64, 128, 4, 4, 64]⟩
abbrev S1x8192x4x64 : Shape := ⟨4, ![1, 8192, 4, 64]⟩
abbrev S_ : Shape := ⟨0, ![]⟩
abbrev S1x128x4x64 : Shape := ⟨4, ![1, 128, 4, 64]⟩
abbrev S1x8320x4x64 : Shape := ⟨4, ![1, 8320, 4, 64]⟩
abbrev S1x65x128x4x64 : Shape := ⟨5, ![1, 65, 128, 4, 64]⟩
abbrev S1x64x128x4x64 : Shape := ⟨5, ![1, 64, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x64x4x128 : Shape := ⟨6, ![1, 64, 4, 64, 4, 128]⟩
abbrev S64x4x4x128x1 : Shape := ⟨5, ![64, 4, 4, 128, 1]⟩
abbrev S4x64x4x128x1 : Shape := ⟨5, ![4, 64, 4, 128, 1]⟩
abbrev S4x32768x1 : Shape := ⟨3, ![4, 32768, 1]⟩
abbrev S4x32768x128 : Shape := ⟨3, ![4, 32768, 128]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x6656, .bf16⟩
  | .hbm, ⟨3, _⟩ => ⟨S16, .f32⟩
  | .hbm, ⟨4, _⟩ => ⟨S8192x1024, .f32⟩
  | .hbm, ⟨5, _⟩ => ⟨S1x64x128x4x4x64, .f32⟩
  | .hbm, ⟨6, _⟩ => ⟨S8192x256, .f32⟩
  | .hbm, ⟨7, _⟩ => ⟨S1x8192x4x64, .f32⟩
  | .hbm, ⟨8, _⟩ => ⟨S_, .f32⟩
  | .hbm, ⟨9, _⟩ => ⟨S1x128x4x64, .f32⟩
  | .hbm, ⟨10, _⟩ => ⟨S1x8320x4x64, .f32⟩
  | .hbm, ⟨11, _⟩ => ⟨S1x65x128x4x64, .f32⟩
  | .hbm, ⟨12, _⟩ => ⟨S1x64x128x4x64, .f32⟩
  | .hbm, ⟨13, _⟩ => ⟨S1x64x128x4x64, .f32⟩
  | .hbm, ⟨14, _⟩ => ⟨S1x64x256x4x64, .f32⟩
  | .hbm, ⟨15, _⟩ => ⟨S8192x256, .bf16⟩
  | .hbm, ⟨16, _⟩ => ⟨S8192x256, .f32⟩
  | .hbm, ⟨17, _⟩ => ⟨S1x8192x4x64, .f32⟩
  | .hbm, ⟨18, _⟩ => ⟨S_, .f32⟩
  | .hbm, ⟨19, _⟩ => ⟨S1x128x4x64, .f32⟩
  | .hbm, ⟨20, _⟩ => ⟨S1x8320x4x64, .f32⟩
  | .hbm, ⟨21, _⟩ => ⟨S1x65x128x4x64, .f32⟩
  | .hbm, ⟨22, _⟩ => ⟨S1x64x128x4x64, .f32⟩
  | .hbm, ⟨23, _⟩ => ⟨S1x64x128x4x64, .f32⟩
  | .hbm, ⟨24, _⟩ => ⟨S1x64x256x4x64, .f32⟩
  | .hbm, ⟨25, _⟩ => ⟨S1x64x4x256x128x4, .f32⟩
  | .hbm, ⟨26, _⟩ => ⟨S1x64x4x4x128x256, .f32⟩
  | .hbm, ⟨27, _⟩ => ⟨S_, .f32⟩
  | .hbm, ⟨28, _⟩ => ⟨S1x64x4x4x128x256, .f32⟩
  | .hbm, ⟨29, _⟩ => ⟨S1x64x4x4x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S64x1, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S256, .i32⟩
  | .hbm, ⟨56, _⟩ => ⟨S1x256, .i32⟩
  | .hbm, ⟨57, _⟩ => ⟨S64x256, .i32⟩
  | .hbm, ⟨58, _⟩ => ⟨S64x256, .i32⟩
  | .hbm, ⟨59, _⟩ => ⟨S64x256, .i32⟩
  | .hbm, ⟨60, _⟩ => ⟨S1x128x256, .i1⟩
  | .hbm, ⟨61, _⟩ => ⟨S_, .i32⟩
  | .hbm, ⟨62, _⟩ => ⟨S64x256, .i32⟩
  | .hbm, ⟨63, _⟩ => ⟨S64x256, .i1⟩
  | .hbm, ⟨64, _⟩ => ⟨S64x1x256, .i1⟩
  | .hbm, ⟨65, _⟩ => ⟨S64x128x256, .i1⟩
  | .hbm, ⟨66, _⟩ => ⟨S64x128x256, .i1⟩
  | .hbm, ⟨67, _⟩ => ⟨S64x128x256, .i1⟩
  | .hbm, ⟨68, _⟩ => ⟨S1x64x1x1x128x256, .i1⟩
  | .hbm, ⟨69, _⟩ => ⟨S_, .f32⟩
  | .hbm, ⟨70, _⟩ => ⟨S_, .f32⟩
  | .hbm, ⟨71, _⟩ => ⟨S1x64x4x4x128x256, .i1⟩
  | .hbm, ⟨72, _⟩ => ⟨S1x64x4x4x128x256, .f32⟩
  | .hbm, ⟨73, _⟩ => ⟨S1x64x4x4x128x256, .f32⟩
  | .hbm, ⟨74, _⟩ => ⟨S4x4, .f32⟩
  | .hbm, ⟨75, _⟩ => ⟨S1x1x4x4x1x1, .f32⟩
  | .hbm, ⟨76, _⟩ => ⟨S_, .f32⟩
  | .hbm, ⟨77, _⟩ => ⟨S1x64x4x4x128, .f32⟩
  | .hbm, ⟨78, _⟩ => ⟨S1x64x4x4x128x1, .f32⟩
  | .hbm, ⟨79, _⟩ => ⟨S1x64x4x4x128x1, .f32⟩
  | .hbm, ⟨80, _⟩ => ⟨S1x64x4x4x128x1, .f32⟩
  | .hbm, ⟨81, _⟩ => ⟨S1x64x4x4x128x256, .f32⟩
  | .hbm, ⟨82, _⟩ => ⟨S1x64x4x4x128x256, .f32⟩
  | .hbm, ⟨83, _⟩ => ⟨S1x64x4x4x128x256, .f32⟩
  | .hbm, ⟨84, _⟩ => ⟨S_, .f32⟩
  | .hbm, ⟨85, _⟩ => ⟨S1x64x4x4x128, .f32⟩
  | .hbm, ⟨86, _⟩ => ⟨S1x64x4x4x128x1, .f32⟩
  | .hbm, ⟨87, _⟩ => ⟨S1x64x4x4x128x1, .f32⟩
  | .hbm, ⟨88, _⟩ => ⟨S1x64x4x4x128x1, .f32⟩
  | .hbm, ⟨89, _⟩ => ⟨S1x64x4x4x128x1, .f32⟩
  | .hbm, ⟨90, _⟩ => ⟨S1x64x4x4x128x1, .f32⟩
  | .hbm, ⟨91, _⟩ => ⟨S1x64x4x4x128x256, .f32⟩
  | .hbm, ⟨92, _⟩ => ⟨S1x64x4x4x128x256, .f32⟩
  | .hbm, ⟨93, _⟩ => ⟨S1x64x4x64x4x128, .f32⟩
  | .hbm, ⟨94, _⟩ => ⟨S1x64x128x4x4x64, .f32⟩
  | .hbm, ⟨95, _⟩ => ⟨S8192x1024, .f32⟩
  | .hbm, ⟨96, _⟩ => ⟨S1x64x4x4x128x1, .f32⟩
  | .hbm, ⟨97, _⟩ => ⟨S1x64x4x4x128x1, .f32⟩
  | .hbm, ⟨98, _⟩ => ⟨S64x4x4x128x1, .f32⟩
  | .hbm, ⟨99, _⟩ => ⟨S4x64x4x128x1, .f32⟩
  | .hbm, ⟨100, _⟩ => ⟨S4x32768x1, .f32⟩
  | .hbm, ⟨101, _⟩ => ⟨S8192x1024, .bf16⟩
  | .hbm, ⟨102, _⟩ => ⟨S4x32768x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩

abbrev nD : Nat := 1
abbrev τ : Topo := Topo.v7x

variable {F : FTy → Type} [FloatOps F]
-- ==== KernelDkv.lean ====
abbrev S8192x256 : Shape := ⟨2, ![8192, 256]⟩
abbrev S8192x6656 : Shape := ⟨2, ![8192, 6656]⟩
abbrev S512x256 : Shape := ⟨2, ![512, 256]⟩
abbrev S128x256 : Shape := ⟨2, ![128, 256]⟩
abbrev S512x512 : Shape := ⟨2, ![512, 512]⟩
abbrev S384x256 : Shape := ⟨2, ![384, 256]⟩

abbrev nBuf : Space → Nat
  | .hbm => 6
  | .vmem => 14
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x6656, .bf16⟩
  | .hbm, ⟨5, _⟩ => ⟨S8192x6656, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S512x512, .bf16⟩
  | .local _ .vmem, ⟨13, _⟩ => ⟨S512x512, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceDkvIdeal.lean ====
abbrev S8192x256 : Shape := ⟨2, ![8192, 256]⟩
abbrev S8192x6656 : Shape := ⟨2, ![8192, 6656]⟩
abbrev S_ : Shape := ⟨0, ![]⟩
abbrev S64x128x256 : Shape := ⟨3, ![64, 128, 256]⟩
abbrev S1x128x256 : Shape := ⟨3, ![1, 128, 256]⟩
abbrev S63x128x256 : Shape := ⟨3, ![63, 128, 256]⟩
abbrev S8192x4096 : Shape := ⟨2, ![8192, 4096]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x6656, .bf16⟩
  | .hbm, ⟨5, _⟩ => ⟨S_, .f32⟩
  | .hbm, ⟨6, _⟩ => ⟨S8192x256, .f32⟩
  | .hbm, ⟨7, _⟩ => ⟨S64x128x256, .f32⟩
  | .hbm, ⟨8, _⟩ => ⟨S_, .f32⟩
  | .hbm, ⟨9, _⟩ => ⟨S1x128x256, .f32⟩
  | .hbm, ⟨10, _⟩ => ⟨S63x128x256, .f32⟩
  | .hbm, ⟨11, _⟩ => ⟨S64x128x256, .f32⟩
  | .hbm, ⟨12, _⟩ => ⟨S_, .f32⟩
  | .hbm, ⟨13, _⟩ => ⟨S1x128x256, .f32⟩
  | .hbm, ⟨14, _⟩ => ⟨S8192x256, .f32⟩
  | .hbm, ⟨15, _⟩ => ⟨S64x128x256, .f32⟩
  | .hbm, ⟨16, _⟩ => ⟨S8192x256, .f32⟩
  | .hbm, ⟨17, _⟩ => ⟨S64x128x256, .f32⟩
  | .hbm, ⟨18, _⟩ => ⟨S1x128x256, .f32⟩
  | .hbm, ⟨19, _⟩ => ⟨S63x128x256, .f32⟩
  | .hbm, ⟨20, _⟩ => ⟨S_, .f32⟩
  | .hbm, ⟨21, _⟩ => ⟨S64x128x256, .f32⟩
  | .hbm, ⟨22, _⟩ => ⟨S64x128x256, .f32⟩
  | .hbm, ⟨23, _⟩ => ⟨S8192x256, .f32⟩
  | .hbm, ⟨24, _⟩ => ⟨S64x128x256, .f32⟩
  | .hbm, ⟨25, _⟩ => ⟨S_, .f32⟩
  | .hbm, ⟨26, _⟩ => ⟨S1x128x256, .f32⟩
  | .hbm, ⟨27, _⟩ => ⟨S63x128x256, .f32⟩
  | .hbm, ⟨28, _⟩ => ⟨S64x128x256, .f32⟩
  | .hbm, ⟨29, _⟩ => ⟨S_, .f32⟩
  | .hbm, ⟨30, _⟩ => ⟨S1x128x256, .f32⟩
  | .hbm, ⟨31, _⟩ => ⟨S8192x256, .f32⟩
  | .hbm, ⟨32, _⟩ => ⟨S64x128x256, .f32⟩
  | .hbm, ⟨33, _⟩ => ⟨S8192x256, .f32⟩
  | .hbm, ⟨34, _⟩ => ⟨S64x128x256, .f32⟩
  | .hbm, ⟨35, _⟩ => ⟨S1x128x256, .f32⟩
  | .hbm, ⟨36, _⟩ => ⟨S63x128x256, .f32⟩
  | .hbm, ⟨37, _⟩ => ⟨S_, .f32⟩
  | .hbm, ⟨38, _⟩ => ⟨S64x128x256, .f32⟩
  | .hbm, ⟨39, _⟩ => ⟨S64x128x256, .f32⟩
  | .hbm, ⟨40, _⟩ => ⟨S8192x256, .f32⟩
  | .hbm, ⟨41, _⟩ => ⟨S8192x4096, .bf16⟩
  | .hbm, ⟨42, _⟩ => ⟨S8192x4096, .f32⟩
  | .hbm, ⟨43, _⟩ => ⟨S8192x2048, .bf16⟩
  | .hbm, ⟨44, _⟩ => ⟨S8192x2048, .f32⟩
  | .hbm, ⟨45, _⟩ => ⟨S8192x6656, .f32⟩
  | .hbm, ⟨46, _⟩ => ⟨S8192x6656, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelAtb.lean ====
abbrev S8192x1024 : Shape := ⟨2, ![8192, 1024]⟩
abbrev S8192x256 : Shape := ⟨2, ![8192, 256]⟩
abbrev S8192x6656 : Shape := ⟨2, ![8192, 6656]⟩
abbrev S16 : Shape := ⟨1, ![16]⟩
abbrev S8192x128 : Shape := ⟨2, ![8192, 128]⟩
abbrev S_ : Shape := ⟨0, ![]⟩
abbrev S64x128x4x4x64 : Shape := ⟨5, ![64, 128, 4, 4, 64]⟩
abbrev S4x64x4x128x64 : Shape := ⟨5, ![4, 64, 4, 128, 64]⟩
abbrev S4x32768x64 : Shape := ⟨3, ![4, 32768, 64]⟩
abbrev S32768x64 : Shape := ⟨2, ![32768, 64]⟩
abbrev S1x32768x64 : Shape := ⟨3, ![1, 32768, 64]⟩
abbrev S32768x128 : Shape := ⟨2, ![32768, 128]⟩
abbrev S1x32768x128 : Shape := ⟨3, ![1, 32768, 128]⟩
abbrev S4x32768x128 : Shape := ⟨3, ![4, 32768, 128]⟩
abbrev S512x256 : Shape := ⟨2, ![512, 256]⟩
abbrev S1x512x256 : Shape := ⟨3, ![1, 512, 256]⟩
abbrev S2x512x256 : Shape := ⟨3, ![2, 512, 256]⟩
abbrev S1x64x128x4x4x64 : Shape := ⟨6, ![1, 64, 128, 4, 4, 64]⟩
abbrev S1x8192x4x64 : Shape := ⟨4, ![1, 8192, 4, 64]⟩
abbrev S1x128x4x64 : Shape := ⟨4, ![1, 128, 4, 64]⟩
abbrev S1x8320x4x64 : Shape := ⟨4, ![1, 8320, 4, 64]⟩
abbrev S1x65x128x4x64 : Shape := ⟨5, ![1, 65, 128, 4, 64]⟩
abbrev S1x64x128x4x64 : Shape := ⟨5, ![1, 64, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x64x4x128 : Shape := ⟨6, ![1, 64, 4, 64, 4, 128]⟩
abbrev S64x4x4x128x1 : Shape := ⟨5, ![64, 4, 4, 128, 1]⟩
abbrev S4x64x4x128x1 : Shape := ⟨5, ![4, 64, 4, 128, 1]⟩
abbrev S4x32768x1 : Shape := ⟨3, ![4, 32768, 1]⟩
abbrev S1x128 : Shape := ⟨2, ![1, 128]⟩
abbrev S4x2048x128 : Shape := ⟨3, ![4, 2048, 128]⟩
abbrev S512x1024 : Shape := ⟨2, ![512, 1024]⟩
abbrev S512x128 : Shape := ⟨2, ![512, 128]⟩
abbrev S128x128 : Shape := ⟨2, ![128, 128]⟩
abbrev S256x128 : Shape := ⟨2, ![256, 128]⟩
abbrev S1x512x128 : Shape := ⟨3, ![1, 512, 128]⟩
abbrev S512 : Shape := ⟨1, ![512]⟩
abbrev S512x1 : Shape := ⟨2, ![512, 1]⟩
abbrev S1 : Shape := ⟨1, ![1]⟩
abbrev S128x1024 : Shape := ⟨2, ![128, 1024]⟩

abbrev nBuf : Space → Nat
  | .hbm => 188
  | .vmem => 36
  | .smem => 1
  | _ => 0

abbrev hbmTy0_0 (i : Nat) : BufTy := match i % 128 with
  | 0 => ⟨S8192x1024, .bf16⟩
  | 1 => ⟨S8192x256, .bf16⟩
  | 2 => ⟨S8192x6656, .bf16⟩
  | 3 => ⟨S16, .f32⟩
  | 4 => ⟨S8192x1024, .bf16⟩
  | 5 => ⟨S8192x128, .f32⟩
  | 6 => ⟨S8192x128, .f32⟩
  | 7 => ⟨S8192x6656, .bf16⟩
  | 8 => ⟨S8192x1024, .f32⟩
  | 9 => ⟨S_, .f32⟩
  | 10 => ⟨S8192x1024, .f32⟩
  | 11 => ⟨S8192x1024, .f32⟩
  | 12 => ⟨S64x128x4x4x64, .f32⟩
  | 13 => ⟨S4x64x4x128x64, .f32⟩
  | 14 => ⟨S4x32768x64, .f32⟩
  | 15 => ⟨S_, .f32⟩
  | 16 => ⟨S32768x64, .f32⟩
  | 17 => ⟨S1x32768x64, .f32⟩
  | 18 => ⟨S32768x64, .f32⟩
  | 19 => ⟨S32768x128, .f32⟩
  | 20 => ⟨S1x32768x64, .f32⟩
  | 21 => ⟨S32768x64, .f32⟩
  | 22 => ⟨S32768x128, .f32⟩
  | 23 => ⟨S1x32768x64, .f32⟩
  | 24 => ⟨S32768x64, .f32⟩
  | 25 => ⟨S32768x128, .f32⟩
  | 26 => ⟨S1x32768x64, .f32⟩
  | 27 => ⟨S32768x64, .f32⟩
  | 28 => ⟨S32768x128, .f32⟩
  | 29 => ⟨S1x32768x128, .f32⟩
  | 30 => ⟨S1x32768x128, .f32⟩
  | 31 => ⟨S1x32768x128, .f32⟩
  | 32 => ⟨S1x32768x128, .f32⟩
  | 33 => ⟨S4x32768x128, .f32⟩
  | 34 => ⟨S4x32768x128, .bf16⟩
  | 35 => ⟨S512x256, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S512x256, .i32⟩
  | 43 => ⟨S512x256, .i32⟩
  | 44 => ⟨S_, .i32⟩
  | 45 => ⟨S512x256, .i32⟩
  | 46 => ⟨S512x256, .i1⟩
  | 47 => ⟨S_, .i32⟩
  | 48 => ⟨S512x256, .i32⟩
  | 49 => ⟨S512x256, .i1⟩
  | 50 => ⟨S_, .i32⟩
  | 51 => ⟨S_, .i1⟩
  | 52 => ⟨S512x256, .i1⟩
  | 53 => ⟨S512x256, .i1⟩
  | 54 => ⟨S512x256, .i1⟩
  | 55 => ⟨S512x256, .i32⟩
  | 56 => ⟨S512x256, .i32⟩
  | 57 => ⟨S512x256, .i32⟩
  | 58 => ⟨S512x256, .i32⟩
  | 59 => ⟨S512x256, .i1⟩
  | 60 => ⟨S_, .i32⟩
  | 61 => ⟨S512x256, .i32⟩
  | 62 => ⟨S512x256, .i32⟩
  | 63 => ⟨S512x256, .i1⟩
  | 64 => ⟨S512x256, .i1⟩
  | 65 => ⟨S_, .i32⟩
  | 66 => ⟨S512x256, .i32⟩
  | 67 => ⟨S512x256, .i1⟩
  | 68 => ⟨S512x256, .i1⟩
  | 69 => ⟨S_, .f32⟩
  | 70 => ⟨S_, .f32⟩
  | 71 => ⟨S512x256, .f32⟩
  | 72 => ⟨S512x256, .f32⟩
  | 73 => ⟨S512x256, .f32⟩
  | 74 => ⟨S_, .f32⟩
  | 75 => ⟨S_, .f32⟩
  | 76 => ⟨S512x256, .f32⟩
  | 77 => ⟨S512x256, .f32⟩
  | 78 => ⟨S512x256, .f32⟩
  | 79 => ⟨S1x512x256, .f32⟩
  | 80 => ⟨S1x512x256, .f32⟩
  | 81 => ⟨S2x512x256, .f32⟩
  | 82 => ⟨S2x512x256, .f32⟩
  | 83 => ⟨S8192x1024, .f32⟩
  | 84 => ⟨S1x64x128x4x4x64, .f32⟩
  | 85 => ⟨S8192x256, .f32⟩
  | 86 => ⟨S1x8192x4x64, .f32⟩
  | 87 => ⟨S_, .f32⟩
  | 88 => ⟨S1x128x4x64, .f32⟩
  | 89 => ⟨S1x8320x4x64, .f32⟩
  | 90 => ⟨S1x65x128x4x64, .f32⟩
  | 91 => ⟨S1x64x128x4x64, .f32⟩
  | 92 => ⟨S1x64x128x4x64, .f32⟩
  | 93 => ⟨S1x64x256x4x64, .f32⟩
  | 94 => ⟨S8192x256, .bf16⟩
  | 95 => ⟨S8192x256, .f32⟩
  | 96 => ⟨S1x8192x4x64, .f32⟩
  | 97 => ⟨S_, .f32⟩
  | 98 => ⟨S1x128x4x64, .f32⟩
  | 99 => ⟨S1x8320x4x64, .f32⟩
  | 100 => ⟨S1x65x128x4x64, .f32⟩
  | 101 => ⟨S1x64x128x4x64, .f32⟩
  | 102 => ⟨S1x64x128x4x64, .f32⟩
  | 103 => ⟨S1x64x256x4x64, .f32⟩
  | 104 => ⟨S1x64x4x256x128x4, .f32⟩
  | 105 => ⟨S1x64x4x4x128x256, .f32⟩
  | 106 => ⟨S_, .f32⟩
  | 107 => ⟨S1x64x4x4x128x256, .f32⟩
  | 108 => ⟨S1x64x4x4x128x256, .f32⟩
  | 109 => ⟨S128, .i32⟩
  | 110 => ⟨S128x1, .i32⟩
  | 111 => ⟨S256, .i32⟩
  | 112 => ⟨S1x256, .i32⟩
  | 113 => ⟨S_, .i32⟩
  | 114 => ⟨S128x1, .i32⟩
  | 115 => ⟨S128x1, .i32⟩
  | 116 => ⟨S128x256, .i32⟩
  | 117 => ⟨S128x256, .i32⟩
  | 118 => ⟨S128x256, .i32⟩
  | 119 => ⟨S_, .i32⟩
  | 120 => ⟨S128x256, .i32⟩
  | 121 => ⟨S128x256, .i1⟩
  | 122 => ⟨S_, .i32⟩
  | 123 => ⟨S128x256, .i32⟩
  | 124 => ⟨S128x256, .i1⟩
  | 125 => ⟨S128x256, .i1⟩
  | 126 => ⟨S64, .i32⟩
  | 127 => ⟨S64x1, .i32⟩
  | _ => ⟨S8192x1024, .bf16⟩

abbrev hbmTy0_1 (i : Nat) : BufTy := match i % 128 with
  | 0 => ⟨S_, .i32⟩
  | 1 => ⟨S64x1, .i32⟩
  | 2 => ⟨S64x1, .i32⟩
  | 3 => ⟨S_, .i32⟩
  | 4 => ⟨S64x1, .i32⟩
  | 5 => ⟨S64x1, .i32⟩
  | 6 => ⟨S256, .i32⟩
  | 7 => ⟨S1x256, .i32⟩
  | 8 => ⟨S64x256, .i32⟩
  | 9 => ⟨S64x256, .i32⟩
  | 10 => ⟨S64x256, .i32⟩
  | 11 => ⟨S1x128x256, .i1⟩
  | 12 => ⟨S_, .i32⟩
  | 13 => ⟨S64x256, .i32⟩
  | 14 => ⟨S64x256, .i1⟩
  | 15 => ⟨S64x1x256, .i1⟩
  | 16 => ⟨S64x128x256, .i1⟩
  | 17 => ⟨S64x128x256, .i1⟩
  | 18 => ⟨S64x128x256, .i1⟩
  | 19 => ⟨S1x64x1x1x128x256, .i1⟩
  | 20 => ⟨S_, .f32⟩
  | 21 => ⟨S_, .f32⟩
  | 22 => ⟨S1x64x4x4x128x256, .i1⟩
  | 23 => ⟨S1x64x4x4x128x256, .f32⟩
  | 24 => ⟨S1x64x4x4x128x256, .f32⟩
  | 25 => ⟨S4x4, .f32⟩
  | 26 => ⟨S1x1x4x4x1x1, .f32⟩
  | 27 => ⟨S_, .f32⟩
  | 28 => ⟨S1x64x4x4x128, .f32⟩
  | 29 => ⟨S1x64x4x4x128x1, .f32⟩
  | 30 => ⟨S1x64x4x4x128x1, .f32⟩
  | 31 => ⟨S1x64x4x4x128x1, .f32⟩
  | 32 => ⟨S1x64x4x4x128x256, .f32⟩
  | 33 => ⟨S1x64x4x4x128x256, .f32⟩
  | 34 => ⟨S1x64x4x4x128x256, .f32⟩
  | 35 => ⟨S_, .f32⟩
  | 36 => ⟨S1x64x4x4x128, .f32⟩
  | 37 => ⟨S1x64x4x4x128x1, .f32⟩
  | 38 => ⟨S1x64x4x4x128x1, .f32⟩
  | 39 => ⟨S1x64x4x4x128x1, .f32⟩
  | 40 => ⟨S1x64x4x4x128x1, .f32⟩
  | 41 => ⟨S1x64x4x4x128x1, .f32⟩
  | 42 => ⟨S1x64x4x4x128x256, .f32⟩
  | 43 => ⟨S1x64x4x4x128x256, .f32⟩
  | 44 => ⟨S1x64x4x64x4x128, .f32⟩
  | 45 => ⟨S1x64x128x4x4x64, .f32⟩
  | 46 => ⟨S8192x1024, .f32⟩
  | 47 => ⟨S1x64x4x4x128x1, .f32⟩
  | 48 => ⟨S1x64x4x4x128x1, .f32⟩
  | 49 => ⟨S64x4x4x128x1, .f32⟩
  | 50 => ⟨S4x64x4x128x1, .f32⟩
  | 51 => ⟨S4x32768x1, .f32⟩
  | 52 => ⟨S8192x1024, .bf16⟩
  | 53 => ⟨S4x32768x128, .f32⟩
  | 54 => ⟨S8192x6656, .bf16⟩
  | 55 => ⟨S8192x256, .bf16⟩
  | 56 => ⟨S8192x256, .bf16⟩
  | 57 => ⟨S8192x256, .bf16⟩
  | 58 => ⟨S8192x256, .bf16⟩
  | 59 => ⟨S1x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S4x2048x128, .bf16⟩
  | .local _ .vmem, ⟨1, _⟩ => ⟨S4x2048x128, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S2x512x256, .f32⟩
  | .local _ .vmem, ⟨11, _⟩ => ⟨S4x2048x128, .f32⟩
  | .local _ .vmem, ⟨12, _⟩ => ⟨S4x2048x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S512x1024, .bf16⟩
  | .local _ .vmem, ⟨26, _⟩ => ⟨S512x1024, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x256, .bf16⟩
  | .local _ .vmem, ⟨35, _⟩ => ⟨S1x128, .f32⟩
  | .local _ .smem, ⟨0, _⟩ => ⟨S16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_1 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_2 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_3 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_v36 : Ref sig .tc := ⟨.hbm, 73, rfl⟩
abbrev main_cst_5 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_7 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_8 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_9 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_10 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_11 : Ref sig .tc := ⟨.hbm, 119, rfl⟩
abbrev main_v74 : Ref sig .tc := ⟨.hbm, 120, rfl⟩
abbrev main_v75 : Ref sig .tc := ⟨.hbm, 121, rfl⟩
abbrev main_c_12 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_13 : Ref sig .tc := ⟨.hbm, 128, rfl⟩
abbrev main_v81 : Ref sig .tc := ⟨.hbm, 129, rfl⟩
abbrev main_v82 : Ref sig .tc := ⟨.hbm, 130, rfl⟩
abbrev main_c_14 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_c_15 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_16 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_17 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_18 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126_0 : Ref sig .tc := ⟨.hbm, 182, rfl⟩
abbrev main_v126_1 : Ref sig .tc := ⟨.hbm, 183, rfl⟩
abbrev main_v126_2 : Ref sig .tc := ⟨.hbm, 184, rfl⟩
abbrev main_v126_3 : Ref sig .tc := ⟨.hbm, 185, rfl⟩
abbrev main_v126_4 : Ref sig .tc := ⟨.hbm, 186, rfl⟩
abbrev main_v126_5 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32_55 : BitVec 32 := 1#32
  let v88 : BitVec 32 := Scalar.minsi arg0 c1_i32_55
  let v89 : Index := Scalar.indexCast v88
  let c0_56 : Index := 0#32
  let c0_57 : Index := 0#32
  ![v89.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c17_i32 : BitVec 32 := 17#32
  let c0_i32_0 : BitVec 32 := 0#32
  ![v2.toNat, c17_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceAtbIdeal.lean ====
abbrev S8192x1024 : Shape := ⟨2, ![8192, 1024]⟩
abbrev S8192x256 : Shape := ⟨2, ![8192, 256]⟩
abbrev S8192x6656 : Shape := ⟨2, ![8192, 6656]⟩
abbrev S16 : Shape := ⟨1, ![16]⟩
abbrev S8192x128 : Shape := ⟨2, ![8192, 128]⟩
abbrev S64x128x256 : Shape := ⟨3, ![64, 128, 256]⟩
abbrev S_ : Shape := ⟨0, ![]⟩
abbrev S1x128x256 : Shape := ⟨3, ![1, 128, 256]⟩
abbrev S63x128x256 : Shape := ⟨3, ![63, 128, 256]⟩
abbrev S1x64x128x4x4x64 : Shape := ⟨6, ![1, 64, 128, 4, 4, 64]⟩
abbrev S1x8192x4x64 : Shape := ⟨4, ![1, 8192, 4, 64]⟩
abbrev S1x128x4x64 : Shape := ⟨4, ![1, 128, 4, 64]⟩
abbrev S1x8320x4x64 : Shape := ⟨4, ![1, 8320, 4, 64]⟩
abbrev S1x65x128x4x64 : Shape := ⟨5, ![1, 65, 128, 4, 64]⟩
abbrev S1x64x128x4x64 : Shape := ⟨5, ![1, 64, 128, 4, 64]⟩
abbrev S1x64x256x4x64 : Shape := ⟨5, ![1, 64, 256, 4, 64]⟩
abbrev S64x256x256 : Shape := ⟨3, ![64, 256, 256]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S64x1x256 : Shape := ⟨3, ![64, 1, 256]⟩
abbrev S1x64x1x1x128x256 : Shape := ⟨6, ![1, 64, 1, 1, 128, 256]⟩
abbrev S4x4 : Shape := ⟨2, ![4, 4]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x64x4x128 : Shape := ⟨6, ![1, 64, 4, 64, 4, 128]⟩
abbrev S64x4x4x128x1 : Shape := ⟨5, ![64, 4, 4, 128, 1]⟩
abbrev S4x64x4x128x1 : Shape := ⟨5, ![4, 64, 4, 128, 1]⟩
abbrev S4x32768x1 : Shape := ⟨3, ![4, 32768, 1]⟩
abbrev S4x32768x128 : Shape := ⟨3, ![4, 32768, 128]⟩
abbrev S1x64x4x64x256 : Shape := ⟨5, ![1, 64, 4, 64, 256]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x6656, .bf16⟩
  | .hbm, ⟨3, _⟩ => ⟨S16, .f32⟩
  | .hbm, ⟨4, _⟩ => ⟨S8192x1024, .bf16⟩
  | .hbm, ⟨5, _⟩ => ⟨S8192x128, .f32⟩
  | .hbm, ⟨6, _⟩ => ⟨S8192x128, .f32⟩
  | .hbm, ⟨7, _⟩ => ⟨S8192x6656, .bf16⟩
  | .hbm, ⟨8, _⟩ => ⟨S8192x256, .bf16⟩
  | .hbm, ⟨9, _⟩ => ⟨S8192x256, .f32⟩
  | .hbm, ⟨10, _⟩ => ⟨S64x128x256, .f32⟩
  | .hbm, ⟨11, _⟩ => ⟨S_, .f32⟩
  | .hbm, ⟨12, _⟩ => ⟨S1x128x256, .f32⟩
  | .hbm, ⟨13, _⟩ => ⟨S63x128x256, .f32⟩
  | .hbm, ⟨14, _⟩ => ⟨S64x128x256, .f32⟩
  | .hbm, ⟨15, _⟩ => ⟨S8192x1024, .f32⟩
  | .hbm, ⟨16, _⟩ => ⟨S1x64x128x4x4x64, .f32⟩
  | .hbm, ⟨17, _⟩ => ⟨S8192x256, .f32⟩
  | .hbm, ⟨18, _⟩ => ⟨S1x8192x4x64, .f32⟩
  | .hbm, ⟨19, _⟩ => ⟨S_, .f32⟩
  | .hbm, ⟨20, _⟩ => ⟨S1x128x4x64, .f32⟩
  | .hbm, ⟨21, _⟩ => ⟨S1x8320x4x64, .f32⟩
  | .hbm, ⟨22, _⟩ => ⟨S1x65x128x4x64, .f32⟩
  | .hbm, ⟨23, _⟩ => ⟨S1x64x128x4x64, .f32⟩
  | .hbm, ⟨24, _⟩ => ⟨S1x64x128x4x64, .f32⟩
  | .hbm, ⟨25, _⟩ => ⟨S1x64x256x4x64, .f32⟩
  | .hbm, ⟨26, _⟩ => ⟨S64x256x256, .f32⟩
  | .hbm, ⟨27, _⟩ => ⟨S1x64x256x4x64, .f32⟩
  | .hbm, ⟨28, _⟩ => ⟨S1x64x4x256x128x4, .f32⟩
  | .hbm, ⟨29, _⟩ => ⟨S1x64x4x4x128x256, .f32⟩
  | .hbm, ⟨30, _⟩ => ⟨S_, .f32⟩
  | .hbm, ⟨31, _⟩ => ⟨S1x64x4x4x128x256, .f32⟩
  | .hbm, ⟨32, _⟩ => ⟨S1x64x4x4x128x256, .f32⟩
  | .hbm, ⟨33, _⟩ => ⟨S128, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i1⟩
  | .hbm, ⟨50, _⟩ => ⟨S64, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S_, .i32⟩
  | .hbm, ⟨56, _⟩ => ⟨S64x1, .i32⟩
  | .hbm, ⟨57, _⟩ => ⟨S64x1, .i32⟩
  | .hbm, ⟨58, _⟩ => ⟨S256, .i32⟩
  | .hbm, ⟨59, _⟩ => ⟨S1x256, .i32⟩
  | .hbm, ⟨60, _⟩ => ⟨S64x256, .i32⟩
  | .hbm, ⟨61, _⟩ => ⟨S64x256, .i32⟩
  | .hbm, ⟨62, _⟩ => ⟨S64x256, .i32⟩
  | .hbm, ⟨63, _⟩ => ⟨S1x128x256, .i1⟩
  | .hbm, ⟨64, _⟩ => ⟨S_, .i32⟩
  | .hbm, ⟨65, _⟩ => ⟨S64x256, .i32⟩
  | .hbm, ⟨66, _⟩ => ⟨S64x256, .i1⟩
  | .hbm, ⟨67, _⟩ => ⟨S64x1x256, .i1⟩
  | .hbm, ⟨68, _⟩ => ⟨S64x128x256, .i1⟩
  | .hbm, ⟨69, _⟩ => ⟨S64x128x256, .i1⟩
  | .hbm, ⟨70, _⟩ => ⟨S64x128x256, .i1⟩
  | .hbm, ⟨71, _⟩ => ⟨S1x64x1x1x128x256, .i1⟩
  | .hbm, ⟨72, _⟩ => ⟨S_, .f32⟩
  | .hbm, ⟨73, _⟩ => ⟨S_, .f32⟩
  | .hbm, ⟨74, _⟩ => ⟨S1x64x4x4x128x256, .i1⟩
  | .hbm, ⟨75, _⟩ => ⟨S1x64x4x4x128x256, .f32⟩
  | .hbm, ⟨76, _⟩ => ⟨S1x64x4x4x128x256, .f32⟩
  | .hbm, ⟨77, _⟩ => ⟨S4x4, .f32⟩
  | .hbm, ⟨78, _⟩ => ⟨S1x1x4x4x1x1, .f32⟩
  | .hbm, ⟨79, _⟩ => ⟨S_, .f32⟩
  | .hbm, ⟨80, _⟩ => ⟨S1x64x4x4x128, .f32⟩
  | .hbm, ⟨81, _⟩ => ⟨S1x64x4x4x128x1, .f32⟩
  | .hbm, ⟨82, _⟩ => ⟨S1x64x4x4x128x1, .f32⟩
  | .hbm, ⟨83, _⟩ => ⟨S1x64x4x4x128x1, .f32⟩
  | .hbm, ⟨84, _⟩ => ⟨S1x64x4x4x128x256, .f32⟩
  | .hbm, ⟨85, _⟩ => ⟨S1x64x4x4x128x256, .f32⟩
  | .hbm, ⟨86, _⟩ => ⟨S1x64x4x4x128x256, .f32⟩
  | .hbm, ⟨87, _⟩ => ⟨S_, .f32⟩
  | .hbm, ⟨88, _⟩ => ⟨S1x64x4x4x128, .f32⟩
  | .hbm, ⟨89, _⟩ => ⟨S1x64x4x4x128x1, .f32⟩
  | .hbm, ⟨90, _⟩ => ⟨S1x64x4x4x128x1, .f32⟩
  | .hbm, ⟨91, _⟩ => ⟨S1x64x4x4x128x1, .f32⟩
  | .hbm, ⟨92, _⟩ => ⟨S1x64x4x4x128x1, .f32⟩
  | .hbm, ⟨93, _⟩ => ⟨S1x64x4x4x128x1, .f32⟩
  | .hbm, ⟨94, _⟩ => ⟨S1x64x4x4x128x256, .f32⟩
  | .hbm, ⟨95, _⟩ => ⟨S1x64x4x4x128x256, .f32⟩
  | .hbm, ⟨96, _⟩ => ⟨S1x64x4x64x4x128, .f32⟩
  | .hbm, ⟨97, _⟩ => ⟨S1x64x128x4x4x64, .f32⟩
  | .hbm, ⟨98, _⟩ => ⟨S8192x1024, .f32⟩
  | .hbm, ⟨99, _⟩ => ⟨S1x64x4x4x128x1, .f32⟩
  | .hbm, ⟨100, _⟩ => ⟨S1x64x4x4x128x1, .f32⟩
  | .hbm, ⟨101, _⟩ => ⟨S64x4x4x128x1, .f32⟩
  | .hbm, ⟨102, _⟩ => ⟨S4x64x4x128x1, .f32⟩
  | .hbm, ⟨103, _⟩ => ⟨S4x32768x1, .f32⟩
  | .hbm, ⟨104, _⟩ => ⟨S8192x1024, .bf16⟩
  | .hbm, ⟨105, _⟩ => ⟨S4x32768x128, .f32⟩
  | .hbm, ⟨106, _⟩ => ⟨S8192x1024, .f32⟩
  | .hbm, ⟨107, _⟩ => ⟨S1x64x128x4x4x64, .f32⟩
  | .hbm, ⟨108, _⟩ => ⟨S1x64x4x64x4x128, .f32⟩
  | .hbm, ⟨109, _⟩ => ⟨S1x64x4x64x256, .f32⟩
  | .hbm, ⟨110, _⟩ => ⟨S1x64x256x4x64, .f32⟩
  | .hbm, ⟨111, _⟩ => ⟨S64x256x256, .f32⟩
  | .hbm, ⟨112, _⟩ => ⟨S64x128x256, .f32⟩
  | .hbm, ⟨113, _⟩ => ⟨S64x128x256, .f32⟩
  | .hbm, ⟨114, _⟩ => ⟨S8192x256, .f32⟩
  | .hbm, ⟨115, _⟩ => ⟨S8192x256, .bf16⟩
  | .hbm, ⟨116, _⟩ => ⟨S8192x256, .f32⟩
  | .hbm, ⟨117, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== KernelProj.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S8192x1024 : Shape := ⟨2, ![8192, 1024]⟩
abbrev S5632x1024 : Shape := ⟨2, ![5632, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S1x1024, .f32⟩
  | .hbm, ⟨7, _⟩ => ⟨S5632x1024, .f32⟩
  | .hbm, ⟨8, _⟩ => ⟨S5632x1024, .bf16⟩
  | .hbm, ⟨9, _⟩ => ⟨S8192x1024, .bf16⟩
  | .hbm, ⟨10, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S5632x1024, .bf16⟩
  | .local _ .vmem, ⟨6, _⟩ => ⟨S512x1024, .bf16⟩
  | .local _ .vmem, ⟨7, _⟩ => ⟨S512x1024, .bf16⟩
  | .local _ .vmem, ⟨8, _⟩ => ⟨S512x5632, .bf16⟩
  | .local _ .vmem, ⟨9, _⟩ => ⟨S512x5632, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceProjIdeal.lean ====
abbrev S1x8192x1024 : Shape := ⟨3, ![1, 8192, 1024]⟩
abbrev S1024 : Shape := ⟨1, ![1024]⟩
abbrev S1x1024 : Shape := ⟨2, ![1, 1024]⟩
abbrev S1024x5632 : Shape := ⟨2, ![1024, 5632]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S1x8192x5632 : Shape := ⟨3, ![1, 8192, 5632]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S8192x1024, .f32⟩
  | .hbm, ⟨31, _⟩ => ⟨S8192x1024, .bf16⟩
  | .hbm, ⟨32, _⟩ => ⟨S1x8192x5632, .f32⟩
  | .hbm, ⟨33, _⟩ => ⟨S8192x5632, .f32⟩
  | .hbm, ⟨34, _⟩ => ⟨S8192x5632, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelFdn.lean ====
abbrev S1x8192x5632 : Shape := ⟨3, ![1, 8192, 5632]⟩
abbrev S2816x1024 : Shape := ⟨2, ![2816, 1024]⟩
abbrev S1x8192x1024 : Shape := ⟨3, ![1, 8192, 1024]⟩
abbrev S1x1024 : Shape := ⟨2, ![1, 1024]⟩
abbrev S8192x5632 : Shape := ⟨2, ![8192, 5632]⟩
abbrev S8192x1024 : Shape := ⟨2, ![8192, 1024]⟩
abbrev S512x2816 : Shape := ⟨2, ![512, 2816]⟩
abbrev S512x1024 : Shape := ⟨2, ![512, 1024]⟩
abbrev S512x256 : Shape := ⟨2, ![512, 256]⟩
abbrev S256x1024 : Shape := ⟨2, ![256, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1x8192x5632, .bf16⟩
  | .hbm, ⟨1, _⟩ => ⟨S2816x1024, .f32⟩
  | .hbm, ⟨2, _⟩ => ⟨S1x8192x1024, .f32⟩
  | .hbm, ⟨3, _⟩ => ⟨S1x1024, .f32⟩
  | .hbm, ⟨4, _⟩ => ⟨S8192x5632, .bf16⟩
  | .hbm, ⟨5, _⟩ => ⟨S2816x1024, .bf16⟩
  | .hbm, ⟨6, _⟩ => ⟨S8192x1024, .f32⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S1x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFdnIdeal.lean ====
abbrev S1x8192x5632 : Shape := ⟨3, ![1, 8192, 5632]⟩
abbrev S2816x1024 : Shape := ⟨2, ![2816, 1024]⟩
abbrev S1x8192x1024 : Shape := ⟨3, ![1, 8192, 1024]⟩
abbrev S1x1024 : Shape := ⟨2, ![1, 1024]⟩
abbrev S1x8192x2816 : Shape := ⟨3, ![1, 8192, 2816]⟩
abbrev S1x1x1024 : Shape := ⟨3, ![1, 1, 1024]⟩
abbrev S_ : Shape := ⟨0, ![]⟩
abbrev S8192x1024 : Shape := ⟨2, ![8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x8192x5632, .bf16⟩
  | .hbm, ⟨1, _⟩ => ⟨S2816x1024, .f32⟩
  | .hbm, ⟨2, _⟩ => ⟨S1x8192x1024, .f32⟩
  | .hbm, ⟨3, _⟩ => ⟨S1x1024, .f32⟩
  | .hbm, ⟨4, _⟩ => ⟨S1x8192x5632, .f32⟩
  | .hbm, ⟨5, _⟩ => ⟨S1x8192x2816, .f32⟩
  | .hbm, ⟨6, _⟩ => ⟨S1x8192x2816, .f32⟩
  | .hbm, ⟨7, _⟩ => ⟨S1x1x1024, .f32⟩
  | .hbm, ⟨8, _⟩ => ⟨S_, .f32⟩
  | .hbm, ⟨9, _⟩ => ⟨S1x1x1024, .f32⟩
  | .hbm, ⟨10, _⟩ => ⟨S1x1x1024, .f32⟩
  | .hbm, ⟨11, _⟩ => ⟨S1x8192x2816, .f32⟩
  | .hbm, ⟨12, _⟩ => ⟨S1x8192x2816, .f32⟩
  | .hbm, ⟨13, _⟩ => ⟨S_, .f32⟩
  | .hbm, ⟨14, _⟩ => ⟨S1x8192x2816, .f32⟩
  | .hbm, ⟨15, _⟩ => ⟨S1x8192x2816, .f32⟩
  | .hbm, ⟨16, _⟩ => ⟨S_, .f32⟩
  | .hbm, ⟨17, _⟩ => ⟨S1x8192x2816, .f32⟩
  | .hbm, ⟨18, _⟩ => ⟨S1x8192x2816, .f32⟩
  | .hbm, ⟨19, _⟩ => ⟨S1x8192x2816, .f32⟩
  | .hbm, ⟨20, _⟩ => ⟨S1x8192x2816, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S8192x1024, .f32⟩
  | _, _ => ⟨S1x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== KernelMods.lean ====
abbrev S8x1024 : Shape := ⟨2, ![8, 1024]⟩
abbrev S1024x1152 : Shape := ⟨2, ![1024, 1152]⟩
abbrev S1152 : Shape := ⟨1, ![1152]⟩
abbrev S1x1152 : Shape := ⟨2, ![1, 1152]⟩
abbrev S8x1152 : Shape := ⟨2, ![8, 1152]⟩

abbrev nBuf : Space → Nat
  | .hbm => 5
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1152, .f32⟩
  | .hbm, ⟨3, _⟩ => ⟨S1x1152, .f32⟩
  | .hbm, ⟨4, _⟩ => ⟨S8x1152, .f32⟩
  | .local _ .vmem, ⟨0, _⟩ => ⟨S8x1024, .f32⟩
  | .local _ .vmem, ⟨1, _⟩ => ⟨S1024x1152, .f32⟩
  | .local _ .vmem, ⟨2, _⟩ => ⟨S1x1152, .f32⟩
  | .local _ .vmem, ⟨3, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceModsIdeal.lean ====
abbrev S8x1024 : Shape := ⟨2, ![8, 1024]⟩
abbrev S1024x1152 : Shape := ⟨2, ![1024, 1152]⟩
abbrev S1152 : Shape := ⟨1, ![1152]⟩
abbrev S_ : Shape := ⟨0, ![]⟩
abbrev S8x1152 : Shape := ⟨2, ![8, 1152]⟩
abbrev S1x1152 : Shape := ⟨2, ![1, 1152]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1152, .f32⟩
  | .hbm, ⟨13, _⟩ => ⟨S1x1152, .f32⟩
  | .hbm, ⟨14, _⟩ => ⟨S8x1152, .f32⟩
  | .hbm, ⟨15, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelMid.lean ====
abbrev S8192x6656 : Shape := ⟨2, ![8192, 6656]⟩
abbrev S8192x1024 : Shape := ⟨2, ![8192, 1024]⟩
abbrev S1024x1024 : Shape := ⟨2, ![1024, 1024]⟩
abbrev S3x1024 : Shape := ⟨2, ![3, 1024]⟩
abbrev S1x8192x1024 : Shape := ⟨3, ![1, 8192, 1024]⟩
abbrev S1x1024 : Shape := ⟨2, ![1, 1024]⟩
abbrev S_ : Shape := ⟨0, ![]⟩
abbrev S8x1024 : Shape := ⟨2, ![8, 1024]⟩
abbrev S512x1024 : Shape := ⟨2, ![512, 1024]⟩
abbrev S16x1024 : Shape := ⟨2, ![16, 1024]⟩
abbrev S512x512 : Shape := ⟨2, ![512, 512]⟩
abbrev S504x1024 : Shape := ⟨2, ![504, 1024]⟩

abbrev nBuf : Space → Nat
  | .hbm => 21
  | .vmem => 39
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S3x1024, .f32⟩
  | .hbm, ⟨6, _⟩ => ⟨S1x8192x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S8x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceMidIdeal.lean ====
abbrev S8192x6656 : Shape := ⟨2, ![8192, 6656]⟩
abbrev S8192x1024 : Shape := ⟨2, ![8192, 1024]⟩
abbrev S1024x1024 : Shape := ⟨2, ![1024, 1024]⟩
abbrev S3x1024 : Shape := ⟨2, ![3, 1024]⟩
abbrev S1x8192x1024 : Shape := ⟨3, ![1, 8192, 1024]⟩
abbrev S1x1024 : Shape := ⟨2, ![1, 1024]⟩
abbrev S1x8192x6656 : Shape := ⟨3, ![1, 8192, 6656]⟩
abbrev S_ : Shape := ⟨0, ![]⟩
abbrev S1x2x1024 : Shape := ⟨3, ![1, 2, 1024]⟩
abbrev S1x8194x1024 : Shape := ⟨3, ![1, 8194, 1024]⟩
abbrev S1024 : Shape := ⟨1, ![1024]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x6656, .bf16⟩
  | .hbm, ⟨1, _⟩ => ⟨S8192x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S3x1024, .f32⟩
  | .hbm, ⟨6, _⟩ => ⟨S1x8192x1024, .f32⟩
  | .hbm, ⟨7, _⟩ => ⟨S1x1024, .f32⟩
  | .hbm, ⟨8, _⟩ => ⟨S1x8192x6656, .bf16⟩
  | .hbm, ⟨9, _⟩ => ⟨S1x8192x6656, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x2x1024, .f32⟩
  | .hbm, ⟨18, _⟩ => ⟨S1x8194x1024, .f32⟩
  | .hbm, ⟨19, _⟩ => ⟨S1x8192x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x1024, .f32⟩
  | .hbm, ⟨34, _⟩ => ⟨S1024, .f32⟩
  | .hbm, ⟨35, _⟩ => ⟨S1x1x1024, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .bf16⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S_, .f32⟩
  | .hbm, ⟨47, _⟩ => ⟨S1x8192x1024, .f32⟩
  | .hbm, ⟨48, _⟩ => ⟨S1x8192x1024, .f32⟩
  | .hbm, ⟨49, _⟩ => ⟨S_, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S_, .f32⟩
  | .hbm, ⟨56, _⟩ => ⟨S1x8192x1024, .f32⟩
  | .hbm, ⟨57, _⟩ => ⟨S1x8192x1024, .f32⟩
  | .hbm, ⟨58, _⟩ => ⟨S_, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S1x8192x1024, .f32⟩
  | .hbm, ⟨64, _⟩ => ⟨S1x1x1024, .f32⟩
  | .hbm, ⟨65, _⟩ => ⟨S1x8192x1024, .f32⟩
  | .hbm, ⟨66, _⟩ => ⟨S1x8192x1024, .f32⟩
  | .hbm, ⟨67, _⟩ => ⟨S1x8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | .hbm, ⟨71, _⟩ => ⟨S8192x1024, .f32⟩
  | .hbm, ⟨72, _⟩ => ⟨S8192x1024, .bf16⟩
  | .hbm, ⟨73, _⟩ => ⟨S8192x1024, .f32⟩
  | .hbm, ⟨74, _⟩ => ⟨S8192x1024, .bf16⟩
  | .hbm, ⟨75, _⟩ => ⟨S8192x1024, .f32⟩
  | .hbm, ⟨76, _⟩ => ⟨S8192x1024, .bf16⟩
  | .hbm, ⟨77, _⟩ => ⟨S8192x1024, .f32⟩
  | .hbm, ⟨78, _⟩ => ⟨S8192x1024, .bf16⟩
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_cst_1 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== KernelMix.lean ====
abbrev S1x8192x1024 : Shape := ⟨3, ![1, 8192, 1024]⟩
abbrev S1024 : Shape := ⟨1, ![1024]⟩
abbrev S1x1024 : Shape := ⟨2, ![1, 1024]⟩
abbrev S1024x6656 : Shape := ⟨2, ![1024, 6656]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x1024 : Shape := ⟨2, ![8192, 1024]⟩
abbrev S6656x1024 : Shape := ⟨2, ![6656, 1024]⟩
abbrev S8192x6656 : Shape := ⟨2, ![8192, 6656]⟩
abbrev S4x32768x128 : Shape := ⟨3, ![4, 32768, 128]⟩
abbrev S8192x256 : Shape := ⟨2, ![8192, 256]⟩
abbrev S512x1024 : Shape := ⟨2, ![512, 1024]⟩
abbrev S512x128 : Shape := ⟨2, ![512, 128]⟩
abbrev S512x6656 : Shape := ⟨2, ![512, 6656]⟩
abbrev S4x2048x128 : Shape := ⟨3, ![4, 2048, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S128x128 : Shape := ⟨2, ![128, 128]⟩
abbrev S1x512x128 : Shape := ⟨3, ![1, 512, 128]⟩
abbrev S128x256 : Shape := ⟨2, ![128, 256]⟩

abbrev nBuf : Space → Nat
  | .hbm => 23
  | .vmem => 18
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6656, .f32⟩
  | .hbm, ⟨5, _⟩ => ⟨S8192x32, .f32⟩
  | .hbm, ⟨6, _⟩ => ⟨S8192x32, .f32⟩
  | .hbm, ⟨7, _⟩ => ⟨S1x8192x1x32, .f32⟩
  | .hbm, ⟨8, _⟩ => ⟨S1x8192x4x32, .f32⟩
  | .hbm, ⟨9, _⟩ => ⟨S8192x128, .f32⟩
  | .hbm, ⟨10, _⟩ => ⟨S8192x32, .f32⟩
  | .hbm, ⟨11, _⟩ => ⟨S8192x64, .f32⟩
  | .hbm, ⟨12, _⟩ => ⟨S1x8192x1x64, .f32⟩
  | .hbm, ⟨13, _⟩ => ⟨S1x8192x2x64, .f32⟩
  | .hbm, ⟨14, _⟩ => ⟨S8192x128, .f32⟩
  | .hbm, ⟨15, _⟩ => ⟨S8192x1024, .f32⟩
  | .hbm, ⟨16, _⟩ => ⟨S1x1024, .f32⟩
  | .hbm, ⟨17, _⟩ => ⟨S6656x1024, .f32⟩
  | .hbm, ⟨18, _⟩ => ⟨S6656x1024, .bf16⟩
  | .hbm, ⟨19, _⟩ => ⟨S8192x1024, .bf16⟩
  | .hbm, ⟨20, _⟩ => ⟨S8192x6656, .bf16⟩
  | .hbm, ⟨21, _⟩ => ⟨S4x32768x128, .bf16⟩
  | .hbm, ⟨22, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S6656x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x6656, .bf16⟩
  | .local _ .vmem, ⟨13, _⟩ => ⟨S512x6656, .bf16⟩
  | .local _ .vmem, ⟨14, _⟩ => ⟨S4x2048x128, .bf16⟩
  | .local _ .vmem, ⟨15, _⟩ => ⟨S4x2048x128, .bf16⟩
  | .local _ .vmem, ⟨16, _⟩ => ⟨S512x256, .bf16⟩
  | .local _ .vmem, ⟨17, _⟩ => ⟨S512x256, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6656x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x6656 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMixIdeal.lean ====
abbrev S1x8192x1024 : Shape := ⟨3, ![1, 8192, 1024]⟩
abbrev S1024 : Shape := ⟨1, ![1024]⟩
abbrev S1x1024 : Shape := ⟨2, ![1, 1024]⟩
abbrev S1024x6656 : Shape := ⟨2, ![1024, 6656]⟩
abbrev S8192x32 : Shape := ⟨2, ![8192, 32]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x6656 : Shape := ⟨3, ![1, 8192, 6656]⟩
abbrev S1x8192x256 : Shape := ⟨3, ![1, 8192, 256]⟩
abbrev S1x8192x4x64 : Shape := ⟨4, ![1, 8192, 4, 64]⟩
abbrev S8192x1024 : Shape := ⟨2, ![8192, 1024]⟩
abbrev S8192x6656 : Shape := ⟨2, ![8192, 6656]⟩
abbrev S1x8192x4x32 : Shape := ⟨4, ![1, 8192, 4, 32]⟩
abbrev S1x8192x1x32 : Shape := ⟨4, ![1, 8192, 1, 32]⟩
abbrev S8192x256 : Shape := ⟨2, ![8192, 256]⟩

abbrev nBuf : Space → Nat
  | .hbm => 56
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x6656, .f32⟩
  | .hbm, ⟨5, _⟩ => ⟨S8192x32, .f32⟩
  | .hbm, ⟨6, _⟩ => ⟨S8192x32, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x8192x6656, .f32⟩
  | .hbm, ⟨33, _⟩ => ⟨S1x8192x256, .f32⟩
  | .hbm, ⟨34, _⟩ => ⟨S1x8192x4x64, .f32⟩
  | .hbm, ⟨35, _⟩ => ⟨S8192x1024, .f32⟩
  | .hbm, ⟨36, _⟩ => ⟨S8192x1024, .bf16⟩
  | .hbm, ⟨37, _⟩ => ⟨S8192x6656, .f32⟩
  | .hbm, ⟨38, _⟩ => ⟨S8192x6656, .bf16⟩
  | .hbm, ⟨39, _⟩ => ⟨S1x8192x4x32, .f32⟩
  | .hbm, ⟨40, _⟩ => ⟨S1x8192x4x32, .f32⟩
  | .hbm, ⟨41, _⟩ => ⟨S1x8192x1x32, .f32⟩
  | .hbm, ⟨42, _⟩ => ⟨S1x8192x1x32, .f32⟩
  | .hbm, ⟨43, _⟩ => ⟨S1x8192x4x32, .f32⟩
  | .hbm, ⟨44, _⟩ => ⟨S1x8192x4x32, .f32⟩
  | .hbm, ⟨45, _⟩ => ⟨S1x8192x4x32, .f32⟩
  | .hbm, ⟨46, _⟩ => ⟨S1x8192x4x32, .f32⟩
  | .hbm, ⟨47, _⟩ => ⟨S1x8192x4x32, .f32⟩
  | .hbm, ⟨48, _⟩ => ⟨S1x8192x4x32, .f32⟩
  | .hbm, ⟨49, _⟩ => ⟨S1x8192x4x32, .f32⟩
  | .hbm, ⟨50, _⟩ => ⟨S1x8192x4x32, .f32⟩
  | .hbm, ⟨51, _⟩ => ⟨S1x8192x4x32, .f32⟩
  | .hbm, ⟨52, _⟩ => ⟨S1x8192x4x32, .f32⟩
  | .hbm, ⟨53, _⟩ => ⟨S1x8192x4x64, .f32⟩
  | .hbm, ⟨54, _⟩ => ⟨S8192x256, .f32⟩
  | .hbm, ⟨55, _⟩ => ⟨S8192x256, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.Norm.Row.lean ====
module

public import Idealize.ShloMosaic.Lib.Pointwise
public import Idealize.ShloMosaic.Lib.IdealHost
public import Idealize.ShloMosaic.Lib.ReduceAll

@[expose] public section

noncomputable section

namespace Cert.Norm

open Idealize.ShloMosaic

/-! One row of RMSNorm's gradient: the hand-written form of the kernel and the form that differentiation gives. -/

/-- Not an infinity. -/
def Fin1 (x : EReal) : Prop := ∃ r : ℝ, x = (r : EReal)

theorem Fin1.mul {x y : EReal} : Fin1 x → Fin1 y → Fin1 (x * y)
  | ⟨a, ha⟩, ⟨b, hb⟩ => ⟨a * b, by rw [ha, hb, EReal.coe_mul]⟩
theorem Fin1.add {x y : EReal} : Fin1 x → Fin1 y → Fin1 (x + y)
  | ⟨a, ha⟩, ⟨b, hb⟩ => ⟨a + b, by rw [ha, hb, EReal.coe_add]⟩
theorem Fin1.one : Fin1 1 := ⟨1, rfl⟩

theorem coe_sum {ι : Type} [Fintype ι] (f : ι → ℝ) : ∑ k, ((f k : ℝ) : EReal) = ((∑ k, f k : ℝ) : EReal) := by
  classical
  refine Finset.induction_on (Finset.univ : Finset ι) rfl fun a s ha h => ?_
  rw [Finset.sum_insert ha, Finset.sum_insert ha, h, EReal.coe_add]

theorem Fin1.sum {ι : Type} [Fintype ι] {f : ι → EReal} (h : ∀ k, Fin1 (f k)) : Fin1 (∑ k, f k) := by
  choose g hg using h
  exact ⟨∑ k, g k, by rw [← coe_sum]; exact Finset.sum_congr rfl fun k _ => hg k⟩

/-- `|x| < ∞` says that `x` is no infinity. -/
theorem Fin1.of_abs_lt {x : EReal} (h : max x (-x) < ⊤) : Fin1 x := by
  induction x using EReal.rec with
  | bot => exact absurd h (by simp)
  | top => exact absurd h (by simp)
  | coe r => exact ⟨r, rfl⟩

/-- The constant under the root. -/
def eps : EReal := Ideal.ofBits .f32 0x358637BD#32

theorem eps_pos : ∃ e : ℝ, 0 < e ∧ eps = (e : EReal) := by
  refine ⟨(8796093 : ℝ) * (2 : ℝ) ^ (-43 : ℤ), by positivity, ?_⟩
  simp [eps, Ideal.ofBits, Ideal.ieee]

theorem ofBits_1024 : Ideal.ofBits .f32 0x44800000#32 = ((1024 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul, -EReal.coe_neg]
  norm_num

/-- A row's mean square plus the constant. -/
def ms (x : Fin 1024 → EReal) : EReal := Ideal.div (∑ k, x k * x k) (Ideal.ofBits .f32 0x44800000#32) + eps

/-- A row's reciprocal root mean square. -/
def rr (x : Fin 1024 → EReal) : EReal := Ideal.rsqrt (ms x)

/-- The gradient at `x j` from the cotangent `d` of the normalised row, as the kernel writes it. -/
def hand (x d : Fin 1024 → EReal) (j : Fin 1024) : EReal :=
  rr x * (d j - x j * rr x * Ideal.div (∑ k, d k * (x k * rr x)) (Ideal.ofBits .f32 0x44800000#32))

/-- The factor that differentiation puts on `x j` twice. -/
def fac (x d : Fin 1024 → EReal) : EReal :=
  Ideal.div ((∑ k, x k * d k) * (Ideal.ofBits .f32 0xBF000000#32 * Ideal.div (rr x) (ms x))) (Ideal.ofBits .f32 0x44800000#32)

theorem hand_eq (x d : Fin 1024 → EReal) (hx : ∀ k, Fin1 (x k)) (hd : ∀ k, Fin1 (d k)) (c : EReal) (j : Fin 1024) :
    c + hand x d j = c + d j * rr x + x j * fac x d + fac x d * x j := by
  choose a ha using hx
  choose b hb using hd
  obtain ⟨e, he, hee⟩ := eps_pos
  obtain rfl : x = fun k => ((a k : ℝ) : EReal) := funext ha
  obtain rfl : d = fun k => ((b k : ℝ) : EReal) := funext hb
  have hm : ms (fun k => ((a k : ℝ) : EReal)) = (((∑ k, a k * a k) * (1 / 1024) + e : ℝ) : EReal) := by
    simp only [ms, hee, ofBits_1024, ← EReal.coe_mul, coe_sum, Ideal.div_coe (show (1024 : ℝ) ≠ 0 by norm_num), ← EReal.coe_add]
  set q : ℝ := (∑ k, a k * a k) * (1 / 1024) + e with hq
  have hq0 : 0 < q := by
    have : 0 ≤ ∑ k, a k * a k := Finset.sum_nonneg fun k _ => mul_self_nonneg _
    positivity
  have hr : rr (fun k => ((a k : ℝ) : EReal)) = (((Real.sqrt q)⁻¹ : ℝ) : EReal) := by
    rw [rr, hm, Ideal.rsqrt_coe, if_neg (not_lt.2 hq0.le), if_neg hq0.ne']
  have hs : Real.sqrt q * Real.sqrt q = q := Real.mul_self_sqrt hq0.le
  have hs0 : Real.sqrt q ≠ 0 := (Real.sqrt_pos.2 hq0).ne'
  simp only [hand, fac, hr, hm, ofBits_1024, ofBits_neg_half, Ideal.div_coe (show (1024 : ℝ) ≠ 0 by norm_num), Ideal.div_coe hq0.ne', ← EReal.coe_mul,
    coe_sum, ← EReal.coe_sub]
  rw [add_assoc, add_assoc, ← EReal.coe_add, ← EReal.coe_add]
  refine congrArg (fun y : ℝ => c + (y : EReal)) ?_
  have h1 : ∑ k, b k * (a k * (Real.sqrt q)⁻¹) = (∑ k, a k * b k) * (Real.sqrt q)⁻¹ := by
    rw [Finset.sum_mul]
    exact Finset.sum_congr rfl fun k _ => by ring
  rw [h1]
  generalize (∑ k, a k * b k) = S
  generalize Real.sqrt q = w at *
  rw [← hs]
  field_simp
  ring

/-! The call's four results, from the cotangent `u` of the modulated row, the rows `x`, the gain `g` and the scale `sc`. -/

def outx (u x dxo : Fin 8192 → Fin 1024 → EReal) (g sc : Fin 1024 → EReal) (s : Fin 8192) (j : Fin 1024) : EReal :=
  dxo s j + hand (x s) (fun k => u s k * (1 + sc k) * g k) j
def termsc (u x : Fin 1024 → EReal) (g : Fin 1024 → EReal) (j : Fin 1024) : EReal := u j * (x j * rr x * g j)
def termg (u x : Fin 1024 → EReal) (sc : Fin 1024 → EReal) (j : Fin 1024) : EReal := u j * (1 + sc j) * (x j * rr x)

end Cert.Norm

end
-- ==== Proof.Norm.Pre.lean ====
module

public import Idealize.ShloMosaic.Lib.ReduceAll
public import proofs.«01_k».proof.Pre_norm_finite
public import proofs.«01_k».proof.Pre_in_finite
public import proofs.«01_k».proof.Proof.Norm.Row

@[expose] public section

set_option maxRecDepth 16384

noncomputable section

namespace Cert.Norm

open Idealize.ShloMosaic

theorem top_f32 : Ideal.ofBits .f32 0x7F800000#32 = (⊤ : EReal) := by
  simp [Ideal.ofBits, Ideal.ieee]
theorem top_bf16 : Ideal.ofBits .bf16 0x7F80#16 = (⊤ : EReal) := by
  simp [Ideal.ofBits, Ideal.ieee]

/-- A reduction by `and` of `|x| < ∞` that says yes: no entry is an infinity. -/
theorem fin_of_all {s t u : Shape} {axes : List (Fin s.rank)} {φ : FTy} [Subsingleton t.Idx] (x w : FVec Ideal s φ) (hw : ∀ i, w i = (⊤ : EReal)) (v : u.Idx → BitVec 1)
    (h : s.ReducesTo axes t) (hu : 0 < u.numel) (j : t.Idx) (e : Host.reduce IntOp.andi (cmpf (F := Ideal) .olt (Host.absf x) w) v h hu j = 1#1) (i : s.Idx) : Fin1 (x i) := by
  have e1 : Ideal.cmp .olt (max (x i) (-(x i))) (w i) = 1#1 := Host.reduce_andi_all _ v h hu j e i
  refine Fin1.of_abs_lt ?_
  rw [hw i] at e1
  by_contra hn
  simp [Ideal.cmp, hn] at e1

theorem andi_split {s : Shape} (a b : IVec s 1) (j : s.Idx) (e : andi a b j = 1#1) : a j = 1#1 ∧ b j = 1#1 := IntOp.andi_eq_one.1 e

instance : Subsingleton (Shape.Idx ⟨0, ![]⟩) := ⟨fun a b => funext fun k => k.elim0⟩

open Cert.Pre_norm_finite in
theorem up_pre [Cert.Pre_norm_finite.Facts] (x : FVec Ideal S1x8192x1024 .f32) (g : FVec Ideal S1024 .f32) (sh sc : FVec Ideal S1x1024 .f32) (w : FVec Ideal S1024x5632 .f32)
    (d : FVec Ideal S1x8192x1024 .f32) (u : FVec Ideal S1x8192x5632 .bf16) (j : Shape.Idx S_) (e : Cert.Pre_norm_finite.fn (F := Ideal) x g sh sc w d u j = 1#1) :
    (∀ i, Fin1 (x i)) ∧ (∀ i, Fin1 (g i)) ∧ (∀ i, Fin1 (sc i)) ∧ (∀ i, Fin1 (w i)) ∧ ∀ i, Fin1 (u i) := by
  unfold Cert.Pre_norm_finite.fn Cert.Pre_norm_finite.fn_part1 at e
  obtain ⟨e, e5⟩ := andi_split _ _ _ e
  obtain ⟨e, e4⟩ := andi_split _ _ _ e
  obtain ⟨e, e3⟩ := andi_split _ _ _ e
  obtain ⟨e1, e2⟩ := andi_split _ _ _ e
  exact ⟨fin_of_all _ _ (fun _ => top_f32) _ _ _ _ e1, fin_of_all _ _ (fun _ => top_f32) _ _ _ _ e2, fin_of_all _ _ (fun _ => top_f32) _ _ _ _ e3,
    fin_of_all _ _ (fun _ => top_f32) _ _ _ _ e4, fin_of_all _ _ (fun _ => top_bf16) _ _ _ _ e5⟩

open Cert.Pre_in_finite in
theorem in_pre [Cert.Pre_in_finite.Facts] (x : FVec Ideal S1x8192x1024 .f32) (g : FVec Ideal S1024 .f32) (sh sc : FVec Ideal S1x1024 .f32) (w : FVec Ideal S1024x6656 .f32)
    (d : FVec Ideal S1x8192x1024 .f32) (u : FVec Ideal S1x8192x6656 .bf16) (j : Shape.Idx S_) (e : Cert.Pre_in_finite.fn (F := Ideal) x g sh sc w d u j = 1#1) :
    (∀ i, Fin1 (x i)) ∧ (∀ i, Fin1 (g i)) ∧ (∀ i, Fin1 (sc i)) ∧ (∀ i, Fin1 (w i)) ∧ ∀ i, Fin1 (u i) := by
  unfold Cert.Pre_in_finite.fn Cert.Pre_in_finite.fn_part1 at e
  obtain ⟨e, e5⟩ := andi_split _ _ _ e
  obtain ⟨e, e4⟩ := andi_split _ _ _ e
  obtain ⟨e, e3⟩ := andi_split _ _ _ e
  obtain ⟨e1, e2⟩ := andi_split _ _ _ e
  exact ⟨fin_of_all _ _ (fun _ => top_f32) _ _ _ _ e1, fin_of_all _ _ (fun _ => top_f32) _ _ _ _ e2, fin_of_all _ _ (fun _ => top_f32) _ _ _ _ e3,
    fin_of_all _ _ (fun _ => top_f32) _ _ _ _ e4, fin_of_all _ _ (fun _ => top_bf16) _ _ _ _ e5⟩

/-- A sum over two unit axes reads the one entry. -/
theorem unit_sum01 {n : ℕ} (h : (⟨3, ![1, 1, n]⟩ : Shape).ReducesTo [0, 1] ⟨1, ![n]⟩) (v : (⟨3, ![1, 1, n]⟩ : Shape).Idx → EReal) (init : EReal) (d : Fin n) :
    Ideal.hostReduceAdd h v init (ix1 d) = init + v (ix3 0 0 d) := by
  unfold Ideal.hostReduceAdd
  refine congrArg (init + ·) ?_
  rw [show (Finset.univ.filter fun i => h.drop i = ix1 d) = {ix3 0 0 d} from ?_, Finset.sum_singleton]
  ext i
  rw [Finset.mem_filter, Finset.mem_singleton]
  constructor
  · rintro ⟨-, e⟩
    have e2 : (i 2).val = d.val := congrArg Fin.val (congrFun e 0)
    have h0 : (i 0).val < 1 := (i 0).isLt
    have h1 : (i 1).val < 1 := (i 1).isLt
    funext a
    fin_cases a
    · exact Fin.ext (Nat.lt_one_iff.mp h0)
    · exact Fin.ext (Nat.lt_one_iff.mp h1)
    · exact Fin.ext e2
  · rintro rfl
    refine ⟨Finset.mem_univ _, ?_⟩
    funext a
    fin_cases a
    rfl
theorem unit_sum02 {n : ℕ} (h : (⟨3, ![1, n, 1]⟩ : Shape).ReducesTo [0, 2] ⟨1, ![n]⟩) (v : (⟨3, ![1, n, 1]⟩ : Shape).Idx → EReal) (init : EReal) (d : Fin n) :
    Ideal.hostReduceAdd h v init (ix1 d) = init + v (ix3 0 d 0) := by
  unfold Ideal.hostReduceAdd
  refine congrArg (init + ·) ?_
  rw [show (Finset.univ.filter fun i => h.drop i = ix1 d) = {ix3 0 d 0} from ?_, Finset.sum_singleton]
  ext i
  rw [Finset.mem_filter, Finset.mem_singleton]
  constructor
  · rintro ⟨-, e⟩
    have e2 : (i 1).val = d.val := congrArg Fin.val (congrFun e 0)
    have h0 : (i 0).val < 1 := (i 0).isLt
    have h1 : (i 2).val < 1 := (i 2).isLt
    funext a
    fin_cases a
    · exact Fin.ext (Nat.lt_one_iff.mp h0)
    · exact Fin.ext e2
    · exact Fin.ext (Nat.lt_one_iff.mp h1)
  · rintro rfl
    refine ⟨Finset.mem_univ _, ?_⟩
    funext a
    fin_cases a
    rfl

end Cert.Norm

end
-- ==== Proof.Attn.Pre.lean ====
module

public import proofs.«01_k».proof.Proof.Norm.Pre
public import proofs.«01_k».proof.Pre_att_finite

@[expose] public section

set_option maxRecDepth 16384

noncomputable section

namespace Cert.Norm

open Idealize.ShloMosaic

open Cert.Pre_att_finite in
/-- What `att_finite` says of the arguments. -/
theorem att_pre [Cert.Pre_att_finite.Facts] (q : FVec Ideal S8192x1024 .bf16) (k : FVec Ideal S8192x256 .bf16) (p : FVec Ideal S8192x6656 .bf16) (z : FVec Ideal S16 .f32)
    (j : Shape.Idx S_) (e : Cert.Pre_att_finite.fn (F := Ideal) q k p z j = 1#1) :
    (∀ i, Fin1 (q i)) ∧ (∀ i, Fin1 (k i)) ∧ (∀ i, Fin1 (extractStridedSlice S8192x256 ![0, 4352] p Cert.Pre_att_finite.Facts.slices_S8192x6656_S8192x256_0_4352 i)) ∧ ∀ i, Fin1 (z i) := by
  unfold Cert.Pre_att_finite.fn Cert.Pre_att_finite.fn_part1 at e
  obtain ⟨e, e4⟩ := andi_split _ _ _ e
  obtain ⟨e, e3⟩ := andi_split _ _ _ e
  obtain ⟨e1, e2⟩ := andi_split _ _ _ e
  exact ⟨fin_of_all _ _ (fun _ => top_f32) _ _ _ _ e1, fin_of_all _ _ (fun _ => top_f32) _ _ _ _ e2, fin_of_all _ _ (fun _ => top_f32) _ _ _ _ e3,
    fin_of_all _ _ (fun _ => top_f32) _ _ _ _ e4⟩

end Cert.Norm

end
-- ==== Proof.Gate.Gate.lean ====
module

public import proofs.«01_k».proof.Proof.Norm.Row

@[expose] public section

noncomputable section

namespace Cert.Norm

open Idealize.ShloMosaic

/-- The gate as the kernel writes it: `0.5 · tanh (0.5 · v) + 0.5`. -/
def half : EReal := Ideal.ofBits .f32 0x3F000000#32
def sg (v : EReal) : EReal := half * Ideal.tanh (half * v) + half
/-- The logistic function as the reference writes it. -/
def lg (v : EReal) : EReal := Ideal.div 1 (1 + Ideal.exp (-v))
/-- The gated product, of the kernel and of the reference. -/
def sw (a b : EReal) : EReal := a * sg a * b
def swr (a b : EReal) : EReal := a * lg a * b

theorem half_eq : half = ((1 / 2 : ℝ) : EReal) := by
  simp [half, Ideal.ofBits, Ideal.ieee, -EReal.coe_mul]
  norm_num

theorem tanh_half (v : ℝ) : 1 / 2 * Real.tanh (1 / 2 * v) + 1 / 2 = 1 / (1 + Real.exp (-v)) := by
  have h1 : Real.exp (-v) = Real.exp (-(1 / 2 * v)) * Real.exp (-(1 / 2 * v)) := by
    rw [← Real.exp_add]; congr 1; ring
  have h2 : Real.exp (1 / 2 * v) * Real.exp (-(1 / 2 * v)) = 1 := by
    rw [← Real.exp_add]; simp
  rw [Real.tanh_eq_sinh_div_cosh, Real.sinh_eq, Real.cosh_eq, h1]
  have p := Real.exp_pos (1 / 2 * v)
  have q := Real.exp_pos (-(1 / 2 * v))
  generalize Real.exp (1 / 2 * v) = a at *
  generalize Real.exp (-(1 / 2 * v)) = b at *
  have : a + b ≠ 0 := (add_pos p q).ne'
  have : 1 + b * b ≠ 0 := by positivity
  field_simp
  nlinarith [h2]

/-- At a real number the two are one function. -/
theorem sg_real (v : ℝ) : sg (v : EReal) = ((1 / (1 + Real.exp (-v)) : ℝ) : EReal) := by
  rw [sg, half_eq, ← EReal.coe_mul, Ideal.tanh_coe, ← EReal.coe_mul, ← EReal.coe_add, tanh_half]
theorem lg_real (v : ℝ) : lg (v : EReal) = ((1 / (1 + Real.exp (-v)) : ℝ) : EReal) := by
  have : (1 + Real.exp (-v)) ≠ 0 := (add_pos one_pos (Real.exp_pos _)).ne'
  rw [lg, ← EReal.coe_neg, Ideal.exp_coe, ← EReal.coe_one, ← EReal.coe_add, Ideal.div_coe this, ← EReal.coe_mul, one_mul]
theorem sg_eq {v : EReal} (h : Fin1 v) : sg v = lg v := by
  obtain ⟨r, rfl⟩ := h
  rw [sg_real, lg_real]
theorem Fin1.lg {v : EReal} (h : Fin1 v) : Fin1 (lg v) := by
  obtain ⟨r, rfl⟩ := h
  exact ⟨_, lg_real r⟩

theorem Fin1.sub {x y : EReal} : Fin1 x → Fin1 y → Fin1 (x - y)
  | ⟨a, ha⟩, ⟨b, hb⟩ => ⟨a - b, by rw [ha, hb, EReal.coe_sub]⟩
theorem Fin1.rr {x : Fin 1024 → EReal} (hx : ∀ k, Fin1 (x k)) : Fin1 (rr x) := by
  choose a ha using hx
  obtain ⟨e, he, hee⟩ := eps_pos
  obtain rfl : x = fun k => ((a k : ℝ) : EReal) := funext ha
  have hm : ms (fun k => ((a k : ℝ) : EReal)) = (((∑ k, a k * a k) * (1 / 1024) + e : ℝ) : EReal) := by
    simp only [ms, hee, ofBits_1024, ← EReal.coe_mul, coe_sum, Ideal.div_coe (show (1024 : ℝ) ≠ 0 by norm_num), ← EReal.coe_add]
  have h0 : 0 < (∑ k, a k * a k) * (1 / 1024) + e := by
    have : 0 ≤ ∑ k, a k * a k := Finset.sum_nonneg fun k _ => mul_self_nonneg _
    positivity
  exact ⟨_, by rw [Cert.Norm.rr, hm, Ideal.rsqrt_coe, if_neg (not_lt.2 h0.le), if_neg h0.ne']⟩

end Cert.Norm

end
-- ==== Proof.Attn.Row.lean ====
module

public import proofs.«01_k».proof.Proof.Gate.Gate

@[expose] public section

noncomputable section

namespace Cert.Attn

open Idealize.ShloMosaic Cert.Norm

/-! One row of the attention: the scores `sc` (a masked one is `⊥`) and the sink `σ`. -/

/-- A score is real or masked. -/
def Score (x : EReal) : Prop := x = ⊥ ∨ Fin1 x

def neginf : EReal := Ideal.ofBits .f32 0xFF800000#32
def mx (sc : Fin 256 → EReal) (σ : EReal) : EReal := max (Finset.univ.fold max neginf sc) σ
def pe (sc : Fin 256 → EReal) (σ : EReal) (j : Fin 256) : EReal := Ideal.exp (sc j - mx sc σ)
def se (sc : Fin 256 → EReal) (σ : EReal) : EReal := Ideal.exp (σ - mx sc σ)
def den (sc : Fin 256 → EReal) (σ : EReal) : EReal := (∑ j, pe sc σ j) + se sc σ
def pr (sc : Fin 256 → EReal) (σ : EReal) (j : Fin 256) : EReal := Ideal.div (pe sc σ j) (den sc σ)
def lse (sc : Fin 256 → EReal) (σ : EReal) : EReal := mx sc σ + Ideal.log (den sc σ)

theorem neginf_eq : neginf = ⊥ := by
  simp [neginf, Ideal.ofBits, Ideal.ieee]

theorem fold_max_ne_top {ι : Type} (s : Finset ι) (f : ι → EReal) (h : ∀ i, f i ≠ ⊤) : s.fold max ⊥ f ≠ ⊤ := by
  classical
  refine Finset.induction_on s (by simp) fun a s ha ih => ?_
  rw [Finset.fold_insert ha]
  intro hh
  rcases max_choice (f a) (s.fold max ⊥ f) with h1 | h1 <;> rw [h1] at hh
  · exact h a hh
  · exact ih hh

theorem Score.ne_top {x : EReal} : Score x → x ≠ ⊤
  | .inl h => by rw [h]; exact bot_ne_top
  | .inr ⟨r, h⟩ => by rw [h]; exact EReal.coe_ne_top r

theorem mx_real {sc : Fin 256 → EReal} {σ : EReal} (h : ∀ j, Score (sc j)) (hσ : Fin1 σ) : Fin1 (mx sc σ) := by
  obtain ⟨s, rfl⟩ := hσ
  have h1 : Finset.univ.fold max neginf sc ≠ ⊤ := by
    rw [neginf_eq]; exact fold_max_ne_top _ _ fun i => (h i).ne_top
  have h2 : mx sc s ≠ ⊤ := by
    intro hh
    rcases max_choice (Finset.univ.fold max neginf sc) (s : EReal) with h3 | h3 <;> rw [mx, h3] at hh
    · exact h1 hh
    · exact EReal.coe_ne_top s hh
  have h4 : mx sc s ≠ ⊥ := fun hh => by
    have : (s : EReal) ≤ ⊥ := hh ▸ le_max_right _ _
    exact EReal.coe_ne_bot s (le_bot_iff.1 this)
  exact ⟨(mx sc s).toReal, (EReal.coe_toReal h2 h4).symm⟩

/-- The row on real numbers. -/
structure Reals (sc : Fin 256 → EReal) (σ : EReal) where
  μ : ℝ
  e : Fin 256 → ℝ
  E : ℝ
  d : ℝ
  hμ : mx sc σ = μ
  he : ∀ j, pe sc σ j = e j
  hE : se sc σ = E
  hd : den sc σ = d
  hde : d = (∑ j, e j) + E
  pos : 0 < d
  h0 : ∀ j, sc j = ⊥ → e j = 0
  hs : ∀ j, ∀ r : ℝ, sc j = r → e j = Real.exp (r - μ)
  hS : ∀ r : ℝ, σ = r → E = Real.exp (r - μ)

theorem reals {sc : Fin 256 → EReal} {σ : EReal} (h : ∀ j, Score (sc j)) (hσ : Fin1 σ) : Nonempty (Reals sc σ) := by
  obtain ⟨μ, hμ⟩ := mx_real h hσ
  obtain ⟨s, rfl⟩ := hσ
  have h1 : ∀ j, ∃ r : ℝ, 0 ≤ r ∧ pe sc s j = r ∧ (sc j = ⊥ → r = 0) ∧ ∀ q : ℝ, sc j = q → r = Real.exp (q - μ) := by
    intro j
    rcases h j with hj | ⟨q, hj⟩
    · exact ⟨0, le_rfl, by rw [pe, hj, hμ, EReal.bot_sub, Ideal.exp_bot]; rfl, fun _ => rfl, fun q hq => absurd (hj.symm.trans hq) (EReal.coe_ne_bot q).symm⟩
    · exact ⟨Real.exp (q - μ), (Real.exp_pos _).le, by rw [pe, hj, hμ, ← EReal.coe_sub, Ideal.exp_coe], fun hb => absurd (hj.symm.trans hb) (EReal.coe_ne_bot q),
        fun q' hq => by rw [EReal.coe_injective (hj.symm.trans hq)]⟩
  choose e he0 he1 he2 he3 using h1
  have hE : se sc s = ((Real.exp (s - μ) : ℝ) : EReal) := by rw [se, hμ, ← EReal.coe_sub, Ideal.exp_coe]
  exact ⟨⟨μ, e, Real.exp (s - μ), (∑ j, e j) + Real.exp (s - μ), hμ, he1, hE, by rw [den, hE, EReal.coe_add, ← coe_sum]; simp only [he1], rfl,
    add_pos_of_nonneg_of_pos (Finset.sum_nonneg fun j _ => he0 j) (Real.exp_pos _), he2, he3, fun r hr => by rw [EReal.coe_injective hr]⟩⟩

section
variable {sc : Fin 256 → EReal} {σ : EReal} (h : ∀ j, Score (sc j)) (hσ : Fin1 σ)
include h hσ

theorem pr_real (j : Fin 256) : Fin1 (pr sc σ j) := by
  obtain ⟨R⟩ := reals h hσ
  exact ⟨_, by rw [pr, R.he, R.hd, Ideal.div_coe R.pos.ne', ← EReal.coe_mul]⟩

theorem pr_masked (j : Fin 256) (hj : sc j = ⊥) : pr sc σ j = 0 := by
  obtain ⟨R⟩ := reals h hσ
  rw [pr, R.he, R.hd, Ideal.div_coe R.pos.ne', ← EReal.coe_mul, R.h0 j hj, zero_mul]; rfl

/-- Dividing the weighted sum is weighting by the probabilities. -/
theorem avg_eq (v w : Fin 256 → EReal) (hw : ∀ j, Fin1 (w j)) (hv : ∀ j, sc j ≠ ⊥ → v j = w j) :
    (∑ j, pe sc σ j * v j) * Ideal.div 1 (den sc σ) = ∑ j, w j * pr sc σ j := by
  obtain ⟨R⟩ := reals h hσ
  choose x hx using hw
  have e : ∀ j, pe sc σ j * v j = ((R.e j * x j : ℝ) : EReal) := by
    intro j
    by_cases hb : sc j = ⊥
    · rw [R.he, R.h0 j hb, zero_mul, EReal.coe_zero, zero_mul]
    · rw [R.he, hv j hb, hx, ← EReal.coe_mul]
  rw [Finset.sum_congr rfl fun j _ => e j]
  simp only [pr, R.he, R.hd, hx, ← EReal.coe_one, ← EReal.coe_mul, Ideal.div_coe R.pos.ne', coe_sum]
  refine congrArg _ ?_
  rw [Finset.sum_mul]
  exact Finset.sum_congr rfl fun j _ => by ring
end

/-! The whole call: 64 blocks of 128 rows, each against its own and the block before; 4 heads of `q` share one of `k` and `v`. -/

/-- The row of `k` and `v` at place `j` of block `n`'s band. -/
def key (n : Fin 64) (j : Fin 256) : Fin 8192 := ⟨if j.val < 128 then 128 * (n.val - 1) + j.val else 128 * n.val + (j.val - 128), by split <;> omega⟩
def ok (n : Fin 64) (r : Fin 128) (j : Fin 256) : Prop := (r.val < j.val ∧ j.val ≤ r.val + 128) ∧ (128 ≤ j.val ∨ 0 < n.val)
instance (n : Fin 64) (r : Fin 128) (j : Fin 256) : Decidable (ok n r j) := by unfold ok; infer_instance
def qrow (n : Fin 64) (r : Fin 128) : Fin 8192 := ⟨128 * n.val + r.val, by omega⟩
def qcol (g h : Fin 4) (d : Fin 64) : Fin 1024 := ⟨64 * (4 * g.val + h.val) + d.val, by omega⟩
def kcol (g : Fin 4) (d : Fin 64) : Fin 256 := ⟨64 * g.val + d.val, by omega⟩
def head (g h : Fin 4) : Fin 16 := ⟨4 * g.val + h.val, by omega⟩
def eighth : EReal := Ideal.ofBits .f32 0x3E000000#32

variable (Q : Fin 8192 → Fin 1024 → EReal) (K W : Fin 8192 → Fin 256 → EReal) (Z : Fin 16 → EReal) (n : Fin 64) (g h : Fin 4) (r : Fin 128) (d : Fin 64)

/-- The scores with `q` scaled first, and with the product scaled. -/
def scK (j : Fin 256) : EReal := if ok n r j then ∑ d : Fin 64, Q (qrow n r) (qcol g h d) * eighth * K (key n j) (kcol g d) else ⊥
def scR (j : Fin 256) : EReal := if ok n r j then (∑ d : Fin 64, K (key n j) (kcol g d) * Q (qrow n r) (qcol g h d)) * eighth else ⊥
def lseK : EReal := lse (scK Q K n g h r) (Z (head g h))
def lseR : EReal := lse (scR Q K n g h r) (Z (head g h))
def outK : EReal := (∑ j, pe (scK Q K n g h r) (Z (head g h)) j * W (key n j) (kcol g d)) * Ideal.div 1 (den (scK Q K n g h r) (Z (head g h)))
def outR : EReal := ∑ j : Fin 256, (if j.val < 128 ∧ n.val = 0 then 0 else W (key n j) (kcol g d)) * pr (scR Q K n g h r) (Z (head g h)) j

theorem eighth_eq : eighth = ((1 / 8 : ℝ) : EReal) := by
  simp [eighth, Ideal.ofBits, Ideal.ieee]
  rw [← EReal.coe_mul]
  norm_num

section
variable (hQ : ∀ a b, Fin1 (Q a b)) (hK : ∀ a b, Fin1 (K a b))
include hQ hK
theorem sc_eq : scK Q K n g h r = scR Q K n g h r := by
  choose q hq using hQ
  choose k hk using hK
  funext j
  unfold scK scR
  by_cases o : ok n r j
  · rw [if_pos o, if_pos o]
    simp only [hq, hk, eighth_eq, ← EReal.coe_mul, coe_sum]
    refine congrArg _ ?_
    rw [Finset.sum_mul]
    exact Finset.sum_congr rfl fun d _ => by ring
  · rw [if_neg o, if_neg o]
theorem sc_score (j : Fin 256) : Score (scR Q K n g h r j) := by
  unfold scR
  by_cases o : ok n r j
  · rw [if_pos o]
    exact .inr ((Fin1.sum fun d => (hK _ _).mul (hQ _ _)).mul ⟨_, eighth_eq⟩)
  · rw [if_neg o]
    exact .inl rfl
theorem lse_eq : lseK Q K Z n g h r = lseR Q K Z n g h r := by
  unfold lseK lseR
  rw [sc_eq Q K n g h r hQ hK]
theorem out_eq (hW : ∀ a b, Fin1 (W a b)) (hZ : ∀ a, Fin1 (Z a)) : outK Q K W Z n g h r d = outR Q K W Z n g h r d := by
  unfold outK outR
  rw [sc_eq Q K n g h r hQ hK]
  refine avg_eq (sc_score Q K n g h r hQ hK) (hZ _) _ _ (fun j => ?_) fun j hj => ?_
  · split
    · exact ⟨0, rfl⟩
    · exact hW _ _
  · refine (if_neg fun e => hj ?_).symm
    unfold scR
    exact if_neg fun o => by have := o.2; omega
end

end Cert.Attn

end
-- ==== Proof.Attn.Tile.lean ====
module

public import Idealize.ShloMosaic.Lib.Pointwise
public import proofs.«01_k».proof.Proof.Attn.Row
public import proofs.«01_k».proof.Proof.Gen.KernelAttIdeal.Value

@[expose] public section

set_option maxRecDepth 16384

noncomputable section

namespace Cert.KernelAttIdeal.Value

open Cert.KernelAttIdeal Cert.KernelAttIdeal.Gen Idealize.ShloMosaic Idealize.ShloMosaic.TcCoe Idealize.SL.Sem
open Idealize.ShloMosaic.Pipeline (Dat)

open Cert.Norm Cert.Attn

/-! One sub-block's tiles, built once for all four sub-blocks and four groups of heads, and their elements. -/

abbrev Bf128 := FVec Ideal S128x128 .bf16
abbrev F128 := FVec Ideal S128x128 .f32
abbrev F512 := FVec Ideal S512x128 .f32
abbrev Bf512 := FVec Ideal S512x128 .bf16
abbrev Bf256 := FVec Ideal S256x128 .bf16
abbrev FS := FVec Ideal S512x256 .f32

def zero128 : F128 := broadcast S128x128 (Scalar.ofBits .f32 0x00000000#32)
def rot (x : F128) : F128 := dynamicRotate 1 64#32 none x rotates_S128x128_d1
def msk (m : IVec S128x128 1) (x : F128) : F128 := select m x zero128
def two (l : F512) : FS := concatenate S512x256 1 [⟨S512x128, l⟩, ⟨S512x128, l⟩] concatenates_S512x128_S512x128_S512x256_d1
def nt (q : Bf512) (k : Bf256) : FS := matmul dot_S512x128_S256x128_S512x256_1_1_0_0_n_n none q k (constant S512x256 .f32 0x00000000#32)
/-- The maximum of a row of scores and of the sink's, along all lanes. -/
def mT (s : FS) (z : F512) : F512 :=
  maximumf (broadcastTo S512x128 (shapeCast S512x1 (shapeCast S512x1 (multiReduction .maximumf [1] S512 s 0xFF800000#32 reduces_S512x256_S512 (.inl rfl) rfl)
    shapeCasts_S512_S512x1) shapeCasts_S512x1_S512x1) broadcasts_S512x1_S512x128) z
/-- The values in the group's half of the lanes, ones in the other. -/
def vT (m : IVec S256x128 1) (v : Bf256) : Bf256 :=
  truncf .bf16 (select m (extf .f32 v bitsLt_bf16_f32) (broadcast S256x128 (Scalar.ofBits .f32 0x3F800000#32))) bitsLt_bf16_f32
def oT (s : FS) (mx : F512) (v : Bf256) : F512 :=
  matmul dot_S512x256_S256x128_S512x128_1_0_0_1_n_n none (truncf .bf16 (exp (subf s (two mx))) bitsLt_bf16_f32) v (constant S512x128 .f32 0x00000000#32)
def dT (m : IVec S512x128 1) (o z mx : F512) : F512 := addf (select m (dynamicRotate 1 64#32 none o rotates_S512x128_d1) o) (exp (subf z mx))
def nT (o d : F512) : F512 := mulf o (divf (broadcast S512x128 (Scalar.ofBits .f32 0x3F800000#32)) d)
def lT (mx d : F512) : FVec Ideal S1x512x128 .f32 := shapeCast S1x512x128 (addf mx (log d)) shapeCasts_S512x128_S1x512x128
def band (a b : Bf128) : Bf256 := concatenate S256x128 0 [⟨S128x128, a⟩, ⟨S128x128, b⟩] concatenates_S128x128_S128x128_S256x128_d0
def sink4 (z : Fin 4 → Elt Ideal .f32) : F512 :=
  concatenate S512x128 0 [⟨S128x128, broadcast S128x128 (z 0)⟩, ⟨S128x128, broadcast S128x128 (z 1)⟩, ⟨S128x128, broadcast S128x128 (z 2)⟩, ⟨S128x128, broadcast S128x128 (z 3)⟩]
    concatenates_S128x128_S128x128_S128x128_S128x128_S512x128_d0
def m128 : Fin 2 → IVec S128x128 1
  | 0 => k0_pay1
  | 1 => k0_pay2
def m256 : Fin 2 → IVec S256x128 1
  | 0 => k0_pay3
  | 1 => k0_pay4
def m512 : Fin 2 → IVec S512x128 1
  | 0 => k0_pay5
  | 1 => k0_pay6
def sl (h : Fin 4) (x : F512) : F128 := match h with
  | 0 => extractStridedSlice S128x128 ![0, 0] x slices_S512x128_o0_0_S128x128
  | 1 => extractStridedSlice S128x128 ![128, 0] x slices_S512x128_o128_0_S128x128
  | 2 => extractStridedSlice S128x128 ![256, 0] x slices_S512x128_o256_0_S128x128
  | 3 => extractStridedSlice S128x128 ![384, 0] x slices_S512x128_o384_0_S128x128
def unst : Fin 2 → Fin 2 → F512 → F128
  | 0, 0, x => addf (addf zero128 (msk (m128 0) (sl 0 x))) (rot (msk (m128 0) (sl 1 x)))
  | 0, 1, x => addf (addf zero128 (msk (m128 0) (sl 2 x))) (rot (msk (m128 0) (sl 3 x)))
  | 1, 0, x => addf (addf zero128 (rot (msk (m128 1) (sl 0 x)))) (msk (m128 1) (sl 1 x))
  | 1, 1, x => addf (addf zero128 (rot (msk (m128 1) (sl 2 x)))) (msk (m128 1) (sl 3 x))
def wide8 (a b c d e f g h : F128) : FVec Ideal S128x1024 .bf16 :=
  truncf .bf16 (concatenate S128x1024 1 [⟨S128x128, a⟩, ⟨S128x128, b⟩, ⟨S128x128, c⟩, ⟨S128x128, d⟩, ⟨S128x128, e⟩, ⟨S128x128, f⟩, ⟨S128x128, g⟩, ⟨S128x128, h⟩]
    concatenates_S128x128_S128x128_S128x128_S128x128_S128x128_S128x128_S128x128_S128x128_S128x1024_d1) bitsLt_bf16_f32

/-- What a sub-block loads: the previous and own rows of `k` and `v`, the mask, the four groups' stacked queries, the sinks. -/
structure Tiles where
  kp : Fin 2 → Bf128
  kc : Fin 2 → Bf128
  vp : Fin 2 → Bf128
  vc : Fin 2 → Bf128
  bias : FVec Ideal S1x512x256 .f32
  qs : Fin 2 → Fin 2 → FVec Ideal S1x512x128 .bf16
  sink : Fin 2 → Fin 2 → Fin 4 → Elt Ideal .f32

namespace Tiles
variable (T : Tiles) (c b : Fin 2)
def kb : Bf256 := band (T.kp c) (T.kc c)
def vb : Bf256 := band (T.vp c) (T.vc c)
def s : FS := addf (nt (shapeCast S512x128 (T.qs c b) shapeCasts_S1x512x128_S512x128) (T.kb c)) (shapeCast S512x256 T.bias shapeCasts_S1x512x256_S512x256)
def z : F512 := sink4 (T.sink c b)
def m : F512 := mT (T.s c b) (T.z c b)
def o : F512 := oT (T.s c b) (T.m c b) (vT (m256 b) (T.vb c))
def d : F512 := dT (m512 b) (T.o c b) (T.z c b) (T.m c b)
def l : FVec Ideal S1x512x128 .f32 := lT (T.m c b) (T.d c b)
def n (e : Fin 2) : F128 := unst b e (nT (T.o c b) (T.d c b))
def out : FVec Ideal S128x1024 .bf16 := wide8 (T.n 0 0 0) (T.n 0 0 1) (T.n 0 1 0) (T.n 0 1 1) (T.n 1 0 0) (T.n 1 0 1) (T.n 1 1 0) (T.n 1 1 1)
end Tiles

def row (h : Fin 4) (r : Fin 128) : Fin 512 := ⟨128 * h.val + r.val, by omega⟩
/-- Lane `d` of the half `b`. -/
def ln (b : Fin 2) (d : Fin 64) : Fin 128 := ⟨64 * b.val + d.val, by omega⟩

theorem m128_at (b : Fin 2) (r l : Fin 128) : m128 b (ix2 r l) = if l.val / 64 = b.val then 1#1 else 0#1 := by
  fin_cases b
  · show k0_pay1 (ix2 r l) = _
    pointwise [k0_pay1]
    exact (by decide +kernel : ∀ l : Fin 128, Scalar.cmpi .slt (BitVec.ofNat 32 l.val) 64#32 = if l.val / 64 = 0 then 1#1 else 0#1) l
  · show k0_pay2 (ix2 r l) = _
    pointwise [k0_pay2]
    exact (by decide +kernel : ∀ l : Fin 128, Scalar.cmpi .sge (BitVec.ofNat 32 l.val) 64#32 = if l.val / 64 = 1 then 1#1 else 0#1) l
theorem m256_at (b : Fin 2) (r : Fin 256) (l : Fin 128) : m256 b (ix2 r l) = if l.val / 64 = b.val then 1#1 else 0#1 := by
  fin_cases b
  · show k0_pay3 (ix2 r l) = _
    pointwise [k0_pay3]
    exact (by decide +kernel : ∀ l : Fin 128, Scalar.cmpi .slt (BitVec.ofNat 32 l.val) 64#32 = if l.val / 64 = 0 then 1#1 else 0#1) l
  · show k0_pay4 (ix2 r l) = _
    pointwise [k0_pay4]
    exact (by decide +kernel : ∀ l : Fin 128, Scalar.cmpi .sge (BitVec.ofNat 32 l.val) 64#32 = if l.val / 64 = 1 then 1#1 else 0#1) l
theorem m512_at (b : Fin 2) (r : Fin 512) (l : Fin 128) : m512 b (ix2 r l) = if l.val / 64 = b.val then 1#1 else 0#1 := by
  fin_cases b
  · show k0_pay5 (ix2 r l) = _
    pointwise [k0_pay5]
    exact (by decide +kernel : ∀ l : Fin 128, Scalar.cmpi .slt (BitVec.ofNat 32 l.val) 64#32 = if l.val / 64 = 0 then 1#1 else 0#1) l
  · show k0_pay6 (ix2 r l) = _
    pointwise [k0_pay6]
    exact (by decide +kernel : ∀ l : Fin 128, Scalar.cmpi .sge (BitVec.ofNat 32 l.val) 64#32 = if l.val / 64 = 1 then 1#1 else 0#1) l

theorem rot_at (x : F128) (r l : Fin 128) : rot x (ix2 r l) = x (ix2 r ⟨(l.val + 64) % 128, Nat.mod_lt _ (by omega)⟩) := by
  pointwise [rot]
  exact congrArg x (congrArg (ix2 r) (Fin.ext (congrArg (· % 128) (by omega))))
theorem msk_at (m : IVec S128x128 1) (x : F128) (r l : Fin 128) : msk m x (ix2 r l) = if m (ix2 r l) = 1#1 then x (ix2 r l) else 0 := by
  pointwise [msk, zero128]
  rfl
theorem nt_at (q : Bf512) (k : Bf256) (i : Fin 512) (j : Fin 256) : nt q k (ix2 i j) = ∑ l : Fin 128, q (ix2 i l) * k (ix2 j l) := by
  pointwise [nt]
theorem two_at (x : F512) (i : Fin 512) (j : Fin 256) (y : EReal) (h : ∀ l, x (ix2 i l) = y) : two x (ix2 i j) = y := by
  pointwise [two]
  split <;> exact h _
theorem mT_at (s : FS) (z : F512) (i : Fin 512) (l : Fin 128) (σ : EReal) (h : z (ix2 i l) = σ) : mT s z (ix2 i l) = mx (fun j => s (ix2 i j)) σ := by
  pointwise [mT]
  rw [h]
  rfl
theorem vT_at (m : IVec S256x128 1) (v : Bf256) (j : Fin 256) (l : Fin 128) : vT m v (ix2 j l) = if m (ix2 j l) = 1#1 then v (ix2 j l) else 1 := by
  pointwise [vT]
  rfl
theorem oT_at (s : FS) (M : F512) (v : Bf256) (i : Fin 512) (l : Fin 128) (σ : EReal) (h : ∀ l, M (ix2 i l) = mx (fun j => s (ix2 i j)) σ) :
    oT s M v (ix2 i l) = ∑ j : Fin 256, pe (fun j => s (ix2 i j)) σ j * v (ix2 j l) := by
  pointwise [oT]
  refine Finset.sum_congr rfl fun j _ => ?_
  rw [two_at _ _ _ _ h]
  rfl
theorem dT_at (m : IVec S512x128 1) (o z M : F512) (i : Fin 512) (l : Fin 128) : dT m o z M (ix2 i l)
    = (if m (ix2 i l) = 1#1 then o (ix2 i ⟨(l.val + 64) % 128, Nat.mod_lt _ (by omega)⟩) else o (ix2 i l)) + Ideal.exp (z (ix2 i l) - M (ix2 i l)) := by
  pointwise [dT]
  rw [show (⟨(l.val + 128 - 64) % 128, Nat.mod_lt _ (by omega)⟩ : Fin 128) = ⟨(l.val + 64) % 128, Nat.mod_lt _ (by omega)⟩ from Fin.ext (congrArg (· % 128) (by omega))]
  rfl
theorem nT_at (o d : F512) (i : Fin 512) (l : Fin 128) : nT o d (ix2 i l) = o (ix2 i l) * Ideal.div 1 (d (ix2 i l)) := by
  pointwise [nT]
theorem lT_at (M d : F512) (i : Fin 512) (l : Fin 128) : lT M d (ix3 0 i l) = M (ix2 i l) + Ideal.log (d (ix2 i l)) := by
  pointwise [lT]
theorem band_at (a b : Bf128) (j : Fin 256) (l : Fin 128) : band a b (ix2 j l) = if h : j.val < 128 then a (ix2 ⟨j.val, h⟩ l) else b (ix2 ⟨j.val - 128, by omega⟩ l) := by
  pointwise [band]
theorem sink4_at (z : Fin 4 → Elt Ideal .f32) (h : Fin 4) (r l : Fin 128) : sink4 z (ix2 (row h r) l) = z h := by
  unfold row
  fin_cases h <;> pointwise [sink4]
  all_goals rw [dif_neg (by omega), dif_neg (by omega)]
  · rw [dif_pos (by omega)]
  · rw [dif_neg (by omega)]
theorem sl_at (h : Fin 4) (x : F512) (r l : Fin 128) : sl h x (ix2 r l) = x (ix2 (row h r) l) := by
  unfold row
  fin_cases h <;> pointwise [sl]
  all_goals exact congrArg x (congrArg (fun z => ix2 z l) (Fin.ext (by simp)))
theorem msk_ln (b f : Fin 2) (x : F128) (r : Fin 128) (d : Fin 64) : msk (m128 b) x (ix2 r (ln f d)) = if f = b then x (ix2 r (ln b d)) else 0 := by
  rw [msk_at, m128_at]
  have hf : (ln f d).val / 64 = f.val := by show (64 * f.val + d.val) / 64 = f.val; omega
  rw [hf]
  by_cases h : f = b
  · subst h
    rw [if_pos rfl, if_pos rfl, if_pos rfl]
  · rw [if_neg (fun e => h (Fin.ext e)), if_neg (by decide), if_neg h]
theorem rot_ln (f : Fin 2) (x : F128) (r : Fin 128) (d : Fin 64) : rot x (ix2 r (ln f d)) = x (ix2 r (ln (1 - f) d)) := by
  rw [rot_at]
  refine congrArg x (congrArg (ix2 r) (Fin.ext ?_))
  have := d.isLt
  fin_cases f
  · show (64 * 0 + d.val + 64) % 128 = 64 * 1 + d.val; omega
  · show (64 * 1 + d.val + 64) % 128 = 64 * 0 + d.val; omega
theorem zero_ln (r l : Fin 128) : zero128 (ix2 r l) = 0 := by pointwise [zero128]
theorem uns0 (A B : F128) (f : Fin 2) (r : Fin 128) (d : Fin 64) :
    addf (addf zero128 (msk (m128 0) A)) (rot (msk (m128 0) B)) (ix2 r (ln f d)) = (if f = 0 then A else B) (ix2 r (ln 0 d)) := by
  show zero128 _ + msk (m128 0) A _ + rot (msk (m128 0) B) _ = _
  rw [zero_ln, msk_ln, rot_ln, msk_ln, zero_add]
  fin_cases f
  · exact add_zero _
  · exact zero_add _
theorem uns1 (A B : F128) (f : Fin 2) (r : Fin 128) (d : Fin 64) :
    addf (addf zero128 (rot (msk (m128 1) A))) (msk (m128 1) B) (ix2 r (ln f d)) = (if f = 0 then A else B) (ix2 r (ln 1 d)) := by
  show zero128 _ + rot (msk (m128 1) A) _ + msk (m128 1) B _ = _
  rw [zero_ln, msk_ln, rot_ln, msk_ln, zero_add]
  fin_cases f
  · exact add_zero _
  · exact zero_add _
theorem unst_at (b e f : Fin 2) (x : F512) (r : Fin 128) (d : Fin 64) : unst b e x (ix2 r (ln f d)) = x (ix2 (row ⟨2 * e.val + f.val, by omega⟩ r) (ln b d)) := by
  fin_cases b <;> fin_cases e
  · refine (uns0 (sl 0 x) (sl 1 x) f r d).trans ?_
    fin_cases f
    · exact sl_at 0 x r _
    · exact sl_at 1 x r _
  · refine (uns0 (sl 2 x) (sl 3 x) f r d).trans ?_
    fin_cases f
    · exact sl_at 2 x r _
    · exact sl_at 3 x r _
  · refine (uns1 (sl 0 x) (sl 1 x) f r d).trans ?_
    fin_cases f
    · exact sl_at 0 x r _
    · exact sl_at 1 x r _
  · refine (uns1 (sl 2 x) (sl 3 x) f r d).trans ?_
    fin_cases f
    · exact sl_at 2 x r _
    · exact sl_at 3 x r _
theorem wide8_at (x : Fin 2 → Fin 2 → Fin 2 → F128) (c b e : Fin 2) (r l : Fin 128) :
    wide8 (x 0 0 0) (x 0 0 1) (x 0 1 0) (x 0 1 1) (x 1 0 0) (x 1 0 1) (x 1 1 0) (x 1 1 1) (ix2 r ⟨128 * (4 * c.val + 2 * b.val + e.val) + l.val, by omega⟩) = x c b e (ix2 r l) := by
  fin_cases c <;> fin_cases b <;> fin_cases e <;> pointwise [wide8]
  all_goals
    repeat rw [dif_neg (by omega)]
    try rw [dif_pos (by omega)]
    try exact congrArg (x _ _ _) (congrArg (ix2 r) (Fin.ext (by dsimp only; omega)))

namespace Tiles
variable (T : Tiles) (c b : Fin 2)
/-- A row of scores. -/
def sc (i : Fin 512) (j : Fin 256) : EReal := (∑ l : Fin 128, T.qs c b (ix3 0 i l) * T.kb c (ix2 j l)) + T.bias (ix3 0 i j)
theorem s_at (i : Fin 512) (j : Fin 256) : T.s c b (ix2 i j) = T.sc c b i j := by
  refine congrArg₂ (· + ·) ((nt_at _ _ i j).trans ?_) ?_
  · refine Finset.sum_congr rfl fun l _ => congrArg (· * _) ?_
    pointwise []
  · pointwise []
theorem s_row (i : Fin 512) : (fun j => T.s c b (ix2 i j)) = T.sc c b i := funext fun j => T.s_at c b i j
theorem z_at (h : Fin 4) (r l : Fin 128) : T.z c b (ix2 (row h r) l) = T.sink c b h := sink4_at _ h r l
theorem m_at (h : Fin 4) (r l : Fin 128) : T.m c b (ix2 (row h r) l) = mx (T.sc c b (row h r)) (T.sink c b h) := by
  rw [← s_row]
  exact mT_at _ _ _ _ _ (T.z_at c b h r l)
theorem o_at (h : Fin 4) (r l : Fin 128) : T.o c b (ix2 (row h r) l)
    = ∑ j : Fin 256, pe (T.sc c b (row h r)) (T.sink c b h) j * (if l.val / 64 = b.val then T.vb c (ix2 j l) else 1) := by
  refine (oT_at _ _ _ _ _ (T.sink c b h) fun l => ?_).trans ?_
  · rw [s_row]
    exact T.m_at c b h r l
  · rw [s_row]
    refine Finset.sum_congr rfl fun j _ => congrArg₂ (· * ·) rfl ?_
    rw [vT_at, m256_at]
    by_cases e : l.val / 64 = b.val
    · rw [if_pos e, if_pos rfl, if_pos e]
    · rw [if_neg e, if_neg (by decide), if_neg e]
theorem o_one (h : Fin 4) (r l : Fin 128) (hl : l.val / 64 ≠ b.val) : T.o c b (ix2 (row h r) l) = ∑ j : Fin 256, pe (T.sc c b (row h r)) (T.sink c b h) j := by
  rw [o_at]
  exact Finset.sum_congr rfl fun j _ => by rw [if_neg hl, mul_one]
theorem d_at (h : Fin 4) (r l : Fin 128) : T.d c b (ix2 (row h r) l) = den (T.sc c b (row h r)) (T.sink c b h) := by
  refine (dT_at _ _ _ _ _ _).trans (congrArg₂ (· + ·) ?_ ?_)
  · rw [m512_at]
    have := l.isLt
    have := b.isLt
    by_cases e : l.val / 64 = b.val
    · rw [if_pos e, if_pos rfl]
      exact T.o_one c b h r _ (by show (l.val + 64) % 128 / 64 ≠ b.val; omega)
    · rw [if_neg e, if_neg (by decide)]
      exact T.o_one c b h r _ e
  · rw [z_at, m_at]
    rfl
theorem l_at (h : Fin 4) (r l : Fin 128) : T.l c b (ix3 0 (row h r) l) = lse (T.sc c b (row h r)) (T.sink c b h) := by
  refine (lT_at _ _ _ _).trans ?_
  rw [m_at, d_at]
  rfl
theorem out_at (e f : Fin 2) (r : Fin 128) (d : Fin 64) (h : Fin 4) (hh : h.val = 2 * e.val + f.val) (q : Fin 1024) (hq : q.val = 128 * (4 * c.val + 2 * b.val + e.val) + (64 * f.val + d.val)) :
    T.out (ix2 r q) = (∑ j : Fin 256, pe (T.sc c b (row h r)) (T.sink c b h) j * T.vb c (ix2 j (ln b d))) * Ideal.div 1 (den (T.sc c b (row h r)) (T.sink c b h)) := by
  have e1 : q = ⟨128 * (4 * c.val + 2 * b.val + e.val) + (ln f d).val, by have := (ln f d).isLt; omega⟩ := Fin.ext hq
  rw [e1]
  refine (wide8_at (fun c b e => T.n c b e) c b e r (ln f d)).trans ((unst_at b e f _ r d).trans ?_)
  rw [show (⟨2 * e.val + f.val, by omega⟩ : Fin 4) = h from Fin.ext hh.symm, nT_at, o_at, d_at]
  exact congrArg (· * _) (Finset.sum_congr rfl fun j _ => by rw [if_pos (show (ln b d).val / 64 = b.val by show (64 * b.val + d.val) / 64 = b.val; omega)])
end Tiles

end Cert.KernelAttIdeal.Value

end
-- ==== Proof.Attn.Blocks.lean ====
module

public import Idealize.ShloMosaic.Lib.Pointwise
public import proofs.«01_k».proof.Proof.Attn.Tile
public import Idealize.ShloMosaic.Lib.Pipeline.ValueKit
public import Idealize.ShloMosaic.Lib.WritesUnit
public import Idealize.ShloMosaic.Lib.Pipeline.ReadBack
public import Idealize.ShloMosaic.Lib.StableHlo.RunRead
public import proofs.«01_k».proof.Proof.Gen.KernelAttIdeal.Value

@[expose] public section

set_option maxRecDepth 16384

noncomputable section

namespace Cert.KernelAttIdeal.Value

open Cert.KernelAttIdeal Cert.KernelAttIdeal.Gen Idealize.ShloMosaic Idealize.ShloMosaic.TcCoe Idealize.SL.Sem
open Idealize.ShloMosaic.Pipeline (Dat)

open Cert.Norm Cert.Attn
open Idealize.ShloMosaic.Pipeline (Dat)
variable (m : (ℓ : Loc nD τ sig) → Buf (Elt Ideal) ℓ) (c : Dev nD) (t : Fin cfg0.N)

/-! What the host hands the call: the queries scaled and stacked by groups, each in its half of the lanes, and the two masks. -/

def qbT (q : FVec Ideal S8192x1024 .bf16) : FVec Ideal S4x32768x64 .f32 :=
  shapeCast S4x32768x64 (transpose S4x64x4x128x64 [2, 0, 3, 1, 4] (shapeCast S64x128x4x4x64
    (mulf (extf .f32 q bitsLt_bf16_f32) (broadcastInDim S8192x1024 ![] bcast_S_S8192x1024 (constant S_ .f32 0x3E000000#32)))
    shapeCasts_S8192x1024_S64x128x4x4x64) transposes_S64x128x4x4x64_S4x64x4x128x64_2_0_3_1_4) shapeCasts_S4x64x4x128x64_S4x32768x64
def z64 : FVec Ideal S32768x64 .f32 := broadcastInDim S32768x64 ![] bcast_S_S32768x64 (constant S_ .f32 0x00000000#32)
def gr (q : FVec Ideal S4x32768x64 .f32) : Fin 4 → FVec Ideal S32768x64 .f32
  | 0 => shapeCast S32768x64 (extractStridedSlice S1x32768x64 ![0, 0, 0] q slices_S4x32768x64_S1x32768x64_0_0_0) shapeCasts_S1x32768x64_S32768x64
  | 1 => shapeCast S32768x64 (extractStridedSlice S1x32768x64 ![1, 0, 0] q slices_S4x32768x64_S1x32768x64_1_0_0) shapeCasts_S1x32768x64_S32768x64
  | 2 => shapeCast S32768x64 (extractStridedSlice S1x32768x64 ![2, 0, 0] q slices_S4x32768x64_S1x32768x64_2_0_0) shapeCasts_S1x32768x64_S32768x64
  | 3 => shapeCast S32768x64 (extractStridedSlice S1x32768x64 ![3, 0, 0] q slices_S4x32768x64_S1x32768x64_3_0_0) shapeCasts_S1x32768x64_S32768x64
def beside (a b : FVec Ideal S32768x64 .f32) : FVec Ideal S32768x128 .f32 :=
  concatenate S32768x128 1 [⟨S32768x64, a⟩, ⟨S32768x64, b⟩] concatenates_S32768x64_S32768x64_S32768x128_d1
def lay (a : FVec Ideal S32768x128 .f32) : FVec Ideal S1x32768x128 .f32 := broadcastInDim S1x32768x128 ![1, 2] bcast_S32768x128_S1x32768x128_1_2 a
def qsT (q : FVec Ideal S4x32768x64 .f32) : FVec Ideal S4x32768x128 .bf16 :=
  truncf .bf16 (concatenate S4x32768x128 0 [⟨S1x32768x128, lay (beside (gr q 0) z64)⟩, ⟨S1x32768x128, lay (beside z64 (gr q 1))⟩,
    ⟨S1x32768x128, lay (beside (gr q 2) z64)⟩, ⟨S1x32768x128, lay (beside z64 (gr q 3))⟩] concatenates_S1x32768x128_S1x32768x128_S1x32768x128_S1x32768x128_S4x32768x128_d0) bitsLt_bf16_f32

def c128 : IVec S_ 32 := select (cmpi .eq (constantI S_ 32 128#32) (constantI S_ 32 0#32)) (constantI S_ 32 1#32) (constantI S_ 32 128#32)
def sp (x : IVec S_ 32) : IVec S512x256 32 := broadcastInDim S512x256 ![] bcast_S_S512x256 x
def remT : IVec S512x256 32 := Host.remsi (iotaInDim S512x256 32 0) (sp c128)
def qiT : IVec S512x256 32 :=
  select (andi (cmpi .ne (cmpi .slt remT (sp (constantI S_ 32 0#32))) (broadcastInDim S512x256 ![] bcast_S_S512x256 (cmpi .slt c128 (constantI S_ 32 0#32))))
    (cmpi .ne remT (sp (constantI S_ 32 0#32)))) (addi remT (sp c128)) remT
def kjT : IVec S512x256 32 := iotaInDim S512x256 32 1
def bandT : IVec S512x256 1 := andi (cmpi .sgt kjT qiT) (cmpi .sle kjT (addi qiT (sp (constantI S_ 32 128#32))))
def fl (w : BitVec 32) : FVec Ideal S512x256 .f32 := broadcastInDim S512x256 ![] bcast_S_S512x256 (constant S_ .f32 w)
def lay1 (a : FVec Ideal S512x256 .f32) : FVec Ideal S1x512x256 .f32 := broadcastInDim S1x512x256 ![1, 2] bcast_S512x256_S1x512x256_1_2 a
def biasT : FVec Ideal S2x512x256 .f32 :=
  concatenate S2x512x256 0 [⟨S1x512x256, lay1 (select (andi bandT (cmpi .sge kjT (sp (constantI S_ 32 128#32)))) (fl 0x00000000#32) (fl 0xFF800000#32))⟩,
    ⟨S1x512x256, lay1 (select bandT (fl 0x00000000#32) (fl 0xFF800000#32))⟩] concatenates_S1x512x256_S1x512x256_S2x512x256_d0

/-- The queries, as launched; the keys, the projections and the sinks. -/
abbrev argQ : FVec Ideal S8192x1024 .bf16 := m ((c : Thread nD τ).loc main_arg0)
abbrev argK : FVec Ideal S8192x256 .bf16 := m ((c : Thread nD τ).loc main_arg1)
abbrev argP : FVec Ideal S8192x6656 .bf16 := m ((c : Thread nD τ).loc main_arg2)
abbrev argS : FVec Ideal S16 .f32 := m ((c : Thread nD τ).loc main_arg3)

theorem entry_q : V m c main_v24 = qsT (qbT (argQ m c)) := by
  simp only [V]
  after_reads_simp
  rfl
theorem entry_b : V m c main_v41 = biasT := by
  simp only [V]
  after_reads_simp
  refine congrArg₂ (fun a b => concatenate S2x512x256 0 [⟨S1x512x256, a⟩, ⟨S1x512x256, b⟩] concatenates_S1x512x256_S1x512x256_S2x512x256_d0) ?_ ?_
  · after_reads_simp
    simp only [StableHlo.TRef.ofBuf_toBuf]
    rfl
  · after_reads_simp
    simp only [StableHlo.TRef.ofBuf_toBuf]
    rfl
/-- The row of the stacked queries: block `n`, query head `h` of the group, row `r`. -/
def qr (n : Fin 64) (h : Fin 4) (r : Fin 128) : Fin 32768 := ⟨512 * n.val + 128 * h.val + r.val, by omega⟩

/-- The group of the half `b` of the pair `k`. -/
def grp (k b : Fin 2) : Fin 4 := ⟨2 * k.val + b.val, by omega⟩

theorem qb_at (q : FVec Ideal S8192x1024 .bf16) (g : Fin 4) (n : Fin 64) (h : Fin 4) (r : Fin 128) (d : Fin 64) :
    qbT q (ix3 g (qr n h r) d) = q (ix2 (qrow n r) (qcol g h d)) * eighth := by
  unfold qr
  pointwise [qbT]
  refine congrArg₂ (· * ·) (congrArg q ?_) rfl
  refine congrArg₂ ix2 (Fin.ext ?_) (Fin.ext ?_)
  · dsimp only [qrow]; omega
  · dsimp only [qcol]; omega
theorem z64_at (R : Fin 32768) (d : Fin 64) : z64 (ix2 R d) = 0 := by
  pointwise [z64]
theorem gr_at (x : FVec Ideal S4x32768x64 .f32) (g : Fin 4) (R : Fin 32768) (d : Fin 64) : gr x g (ix2 R d) = x (ix3 g R d) := by
  fin_cases g <;> pointwise [gr]
theorem beside_at (a b : FVec Ideal S32768x64 .f32) (f : Fin 2) (R : Fin 32768) (d : Fin 64) :
    beside a b (ix2 R (ln f d)) = if f = 0 then a (ix2 R d) else b (ix2 R d) := by
  unfold ln
  fin_cases f <;> pointwise [beside]
theorem lay_at (a : FVec Ideal S32768x128 .f32) (R : Fin 32768) (l : Fin 128) : lay a (ix3 0 R l) = a (ix2 R l) := by
  pointwise [lay]
theorem qsT_at (x : FVec Ideal S4x32768x64 .f32) (k b f : Fin 2) (R : Fin 32768) (d : Fin 64) :
    qsT x (ix3 (grp k b) R (ln f d)) = if f = b then x (ix3 (grp k b) R d) else 0 := by
  unfold qsT grp
  fin_cases k <;> fin_cases b <;> pointwise []
  all_goals
    repeat rw [dif_neg (by omega)]
    try rw [dif_pos (by omega)]
    refine (lay_at _ R _).trans ((beside_at _ _ f R d).trans ?_)
    rw [gr_at, z64_at]
  all_goals fin_cases f <;> rfl

theorem qi_at (i : Fin 512) (j : Fin 256) : qiT (ix2 i j) = BitVec.ofNat 32 (i.val % 128) := by
  pointwise [qiT, remT, sp, c128]
  revert i
  decide +kernel
theorem bandT_at (h : Fin 4) (r : Fin 128) (j : Fin 256) : bandT (ix2 (row h r) j) = if r.val < j.val ∧ j.val ≤ r.val + 128 then 1#1 else 0#1 := by
  pointwise [bandT, kjT, sp]
  rw [qi_at, show (row h r).val % 128 = r.val by show (128 * h.val + r.val) % 128 = r.val; omega]
  exact (by decide +kernel : ∀ (r : Fin 128) (j : Fin 256),
    IntOp.andi (IntOp.cmpi .sgt (BitVec.ofNat 32 j.val) (BitVec.ofNat 32 r.val)) (IntOp.cmpi .sle (BitVec.ofNat 32 j.val) (IntOp.addi (BitVec.ofNat 32 r.val) 128#32))
      = if r.val < j.val ∧ j.val ≤ r.val + 128 then 1#1 else 0#1) r j
theorem fl0 (i : Fin 512) (j : Fin 256) : fl 0x00000000#32 (ix2 i j) = 0 := by
  pointwise [fl]
theorem flb (i : Fin 512) (j : Fin 256) : fl 0xFF800000#32 (ix2 i j) = ⊥ := by
  pointwise [fl]
  exact neginf_eq
theorem bias0_at (h : Fin 4) (r : Fin 128) (j : Fin 256) : biasT (ix3 0 (row h r) j) = if (r.val < j.val ∧ j.val ≤ r.val + 128) ∧ 128 ≤ j.val then 0 else ⊥ := by
  pointwise [biasT, lay1]
  rw [bandT_at, fl0, flb, show IntOp.cmpi .sge (kjT (ix2 (row h r) j)) (sp (constantI S_ 32 128#32) (ix2 (row h r) j)) = if 128 ≤ j.val then 1#1 else 0#1 by
    pointwise [kjT, sp]
    revert j
    decide +kernel]
  by_cases a : r.val < j.val ∧ j.val ≤ r.val + 128
  · by_cases b : 128 ≤ j.val
    · rw [if_pos a, if_pos b, if_pos ⟨a, b⟩]; rfl
    · rw [if_pos a, if_neg b, if_neg (show ¬((r.val < j.val ∧ j.val ≤ r.val + 128) ∧ 128 ≤ j.val) from fun x => b x.2)]; rfl
  · rw [if_neg a, if_neg (show ¬((r.val < j.val ∧ j.val ≤ r.val + 128) ∧ 128 ≤ j.val) from fun x => a x.1)]
    split <;> rfl
theorem bias1_at (h : Fin 4) (r : Fin 128) (j : Fin 256) : biasT (ix3 1 (row h r) j) = if r.val < j.val ∧ j.val ≤ r.val + 128 then 0 else ⊥ := by
  pointwise [biasT, lay1]
  rw [bandT_at, fl0, flb]
  split <;> rfl
/-! What the windows hold at grid point `t`. -/

theorem idx : ∀ t : Fin grid0.N, win0_0.index t = ![0, t.val, 0] ∧ win0_1.index t = ![t.val, 0] ∧ win0_2.index t = ![4 * t.val - 1, 0]
    ∧ win0_3.index t = ![t.val, 17] ∧ win0_4.index t = ![4 * t.val - 1, 17] ∧ win0_5.index t = ![0, 0, 0] ∧ win0_6.index t = ![0]
    ∧ win0_7.index t = ![t.val, 0] ∧ win0_8.index t = ![0, t.val, 0] := by decide +kernel
theorem off1 : ∀ t : Fin grid0.N, k0_off1 (grid0.coords t) = ![if t.val = 0 then 0 else 1, 0, 0] := by decide +kernel

/-- The arguments' entries. -/
abbrev aQ (a : Fin 8192) (b : Fin 1024) : EReal := argQ m c (ix2 a b)
abbrev aK (a : Fin 8192) (b : Fin 256) : EReal := argK m c (ix2 a b)
abbrev aV (a : Fin 8192) (b : Fin 256) : EReal := argP m c (ix2 a ⟨4352 + b.val, by omega⟩)
abbrev aZ (a : Fin 16) : EReal := argS m c (ix1 a)

theorem tN : t.val < 16 := t.isLt
theorem w0_at (g : Fin 4) (p : Fin 2048) (l : Fin 128) : iblk m c 0 t (ix3 g p l) = qsT (qbT (argQ m c)) (ix3 g ⟨2048 * t.val + p.val, by have := tN t; omega⟩ l) := by
  refine Eq.trans (b := V m c main_v24 (ix3 g ⟨2048 * t.val + p.val, by have := tN t; omega⟩ l)) ?_ (congrFun (entry_q m c) _)
  blk_point [iblk, idx t]
theorem w1_at (p : Fin 512) (q : Fin 256) : iblk m c 1 t (ix2 p q) = aK m c ⟨512 * t.val + p.val, by have := tN t; omega⟩ q := by
  blk_point [iblk, V, idx t]
theorem w2_at (p : Fin 128) (q : Fin 256) : iblk m c 2 t (ix2 p q) = aK m c ⟨128 * (4 * t.val - 1) + p.val, by have := tN t; omega⟩ q := by
  blk_point [iblk, V, idx t]
theorem w3_at (p : Fin 512) (q : Fin 256) : iblk m c 3 t (ix2 p q) = aV m c ⟨512 * t.val + p.val, by have := tN t; omega⟩ q := by
  blk_point [iblk, V, idx t]
theorem w4_at (p : Fin 128) (q : Fin 256) : iblk m c 4 t (ix2 p q) = aV m c ⟨128 * (4 * t.val - 1) + p.val, by have := tN t; omega⟩ q := by
  blk_point [iblk, V, idx t]
theorem w5_at (e : Fin 2) (p : Fin 512) (q : Fin 256) : iblk m c 5 t (ix3 e p q) = biasT (ix3 e p q) := by
  refine Eq.trans (b := V m c main_v41 (ix3 e p q)) ?_ (congrFun (entry_b m c) _)
  blk_point [iblk, idx t]
theorem w6_at (a : Fin 16) : iblk m c 6 t (ix1 a) = aZ m c a := by
  blk_point [iblk, V, idx t]

end Cert.KernelAttIdeal.Value

end
-- ==== Proof.Attn.Sub.lean ====
module

public import Idealize.ShloMosaic.Lib.Pointwise
public import proofs.«01_k».proof.Proof.Attn.Blocks
public import Idealize.ShloMosaic.Lib.Pipeline.ValueKit
public import Idealize.ShloMosaic.Lib.WritesUnit
public import Idealize.ShloMosaic.Lib.Pipeline.ReadBack
public import Idealize.ShloMosaic.Lib.StableHlo.RunRead
public import proofs.«01_k».proof.Proof.Gen.KernelAttIdeal.Value

@[expose] public section

set_option maxRecDepth 16384

noncomputable section

namespace Cert.KernelAttIdeal.Value

open Cert.KernelAttIdeal Cert.KernelAttIdeal.Gen Idealize.ShloMosaic Idealize.ShloMosaic.TcCoe Idealize.SL.Sem
open Idealize.ShloMosaic.Pipeline (Dat)

open Cert.Norm Cert.Attn
open Idealize.ShloMosaic.Pipeline (Dat)
variable (m : (ℓ : Loc nD τ sig) → Buf (Elt Ideal) ℓ) (c : Dev nD) (t : Fin cfg0.N)

theorem ib2 {n k a b : ℕ} (ha : a + 128 ≤ n) (hb : b + 128 ≤ k) : ∀ i, (![a, b] : Fin 2 → ℕ) i + (![128, 128] : Fin 2 → ℕ) i ≤ (⟨2, ![n, k]⟩ : Shape).size i := by
  intro i; fin_cases i <;> assumption
theorem ib3 {g s : ℕ} (hg : g < 4) (hs : s < 4) : ∀ i, (![g, 512 * s, 0] : Fin 3 → ℕ) i + (![1, 512, 128] : Fin 3 → ℕ) i ≤ S4x2048x128.size i := by
  intro i
  fin_cases i
  · show g + 1 ≤ 4; omega
  · show 512 * s + 512 ≤ 2048; omega
  · show 0 + 128 ≤ 128; omega
theorem ib1 {a : ℕ} (ha : a + 1 ≤ 16) : ∀ i, (![a] : Fin 1 → ℕ) i + (![1] : Fin 1 → ℕ) i ≤ S16.size i := by
  intro i; fin_cases i; exact ha

theorem one_pos : 0 < (⟨1, ![1]⟩ : Shape).numel := by decide

/-- The tiles a sub-block reads: its own rows `s` of each window, and the previous block's and the mask given. -/
def tile (s : ℕ) (hs : s < 4) (kp vp : Fin 2 → Bf128) (bias : FVec Ideal S1x512x256 .f32) : Tiles where
  kp := kp
  kc k := View.ld (Val := Elt Ideal) (S := S512x256) (e' := .bf16) (iblk m c 1 t) (Rect.unit ![128 * s, 128 * k.val] ![128, 128] (ib2 (by omega) (by omega)))
  vp := vp
  vc k := View.ld (Val := Elt Ideal) (S := S512x256) (e' := .bf16) (iblk m c 3 t) (Rect.unit ![128 * s, 128 * k.val] ![128, 128] (ib2 (by omega) (by omega)))
  bias := bias
  qs k b := View.ld (Val := Elt Ideal) (S := S4x2048x128) (e' := .bf16) (iblk m c 0 t) (Rect.unit ![2 * k.val + b.val, 512 * s, 0] ![1, 512, 128] (ib3 (by omega) hs))
  sink k b e := View.ld (Val := Elt Ideal) (S := S16) (e' := .f32) (iblk m c 6 t) (Rect.unit ![8 * k.val + 4 * b.val + e.val] ![1] (ib1 (by omega))) (Shape.Idx.first one_pos)
/-- The first sub-block reads the previous block by windows of its own, the later ones from the rows above their own. -/
def tile0 : Tiles := tile m c t 0 (by omega)
  (fun k => View.ld (Val := Elt Ideal) (S := S128x256) (e' := .bf16) (iblk m c 2 t) (Rect.unit ![0, 128 * k.val] ![128, 128] (ib2 (by omega) (by omega))))
  (fun k => View.ld (Val := Elt Ideal) (S := S128x256) (e' := .bf16) (iblk m c 4 t) (Rect.unit ![0, 128 * k.val] ![128, 128] (ib2 (by omega) (by omega))))
  (View.ld (Val := Elt Ideal) (S := S2x512x256) (e' := .f32) (iblk m c 5 t) (Rect.unit (k0_off1 (grid0.coords t)) ![1, 512, 256] (k0_off1_inb (grid0.coords t))))
def tileS (s : ℕ) (hs : s < 3) : Tiles := tile m c t (s + 1) (by omega)
  (fun k => View.ld (Val := Elt Ideal) (S := S512x256) (e' := .bf16) (iblk m c 1 t) (Rect.unit ![128 * s, 128 * k.val] ![128, 128] (ib2 (by omega) (by omega))))
  (fun k => View.ld (Val := Elt Ideal) (S := S512x256) (e' := .bf16) (iblk m c 3 t) (Rect.unit ![128 * s, 128 * k.val] ![128, 128] (ib2 (by omega) (by omega))))
  (View.ld (Val := Elt Ideal) (S := S2x512x256) (e' := .f32) (iblk m c 5 t) (Rect.unit ![1, 0, 0] ![1, 512, 256] inb_S2x512x256_S1x512x256_1_0_0))
/-! What a sub-block's tiles hold: block `n` of the whole sequence. -/

theorem sum_ln (f : Fin 128 → EReal) : ∑ l : Fin 128, f l = ∑ d : Fin 64, f (ln 0 d) + ∑ d : Fin 64, f (ln 1 d) := by
  refine (Fin.sum_univ_add (a := 64) (b := 64) f).trans (congrArg₂ (· + ·) ?_ ?_)
  · exact Finset.sum_congr rfl fun d _ => congrArg f (Fin.ext (by show d.val = 64 * 0 + d.val; omega))
  · exact Finset.sum_congr rfl fun d _ => congrArg f (Fin.ext (by show 64 + d.val = 64 * 1 + d.val; omega))
theorem sum_half (b : Fin 2) (x y : Fin 64 → EReal) (q k : Fin 128 → EReal) (hq : ∀ f d, q (ln f d) = if f = b then x d else 0) (hk : ∀ d, k (ln b d) = y d) :
    ∑ l : Fin 128, q l * k l = ∑ d : Fin 64, x d * y d := by
  rw [sum_ln]
  fin_cases b
  · rw [Finset.sum_congr rfl fun d _ => show q (ln 0 d) * k (ln 0 d) = x d * y d by rw [hq, ← hk]; rfl,
      Finset.sum_eq_zero fun d _ => show q (ln 1 d) * k (ln 1 d) = 0 by rw [hq, if_neg (by decide), zero_mul], add_zero]
  · rw [Finset.sum_congr rfl fun d _ => show q (ln 1 d) * k (ln 1 d) = x d * y d by rw [hq, ← hk]; rfl,
      Finset.sum_eq_zero fun d _ => show q (ln 0 d) * k (ln 0 d) = 0 by rw [hq, if_neg (by decide), zero_mul], zero_add]

/-- The tiles `T` are those of block `n`. -/
structure Holds (T : Tiles) (n : Fin 64) : Prop where
  kp : ∀ k r l, T.kp k (ix2 r l) = aK m c ⟨128 * (n.val - 1) + r.val, by omega⟩ ⟨128 * k.val + l.val, by omega⟩
  kc : ∀ k r l, T.kc k (ix2 r l) = aK m c ⟨128 * n.val + r.val, by omega⟩ ⟨128 * k.val + l.val, by omega⟩
  vp : ∀ k r l, T.vp k (ix2 r l) = aV m c ⟨128 * (n.val - 1) + r.val, by omega⟩ ⟨128 * k.val + l.val, by omega⟩
  vc : ∀ k r l, T.vc k (ix2 r l) = aV m c ⟨128 * n.val + r.val, by omega⟩ ⟨128 * k.val + l.val, by omega⟩
  bias : ∀ h r j, T.bias (ix3 0 (row h r) j) = if ok n r j then 0 else ⊥
  qs : ∀ k b h r l, T.qs k b (ix3 0 (row h r) l) = qsT (qbT (argQ m c)) (ix3 (grp k b) (qr n h r) l)
  sink : ∀ k b h, T.sink k b h = aZ m c (head (grp k b) h)

namespace Holds
variable {m c} {T : Tiles} {n : Fin 64} (H : Holds m c T n) (k b : Fin 2)
include H
theorem kb_at (j : Fin 256) (d : Fin 64) : T.kb k (ix2 j (ln b d)) = aK m c (key n j) (kcol (grp k b) d) := by
  refine (band_at _ _ _ _).trans ?_
  by_cases hj : j.val < 128
  · rw [dif_pos hj, H.kp]
    exact congrArg₂ (aK m c) (Fin.ext (if_pos hj).symm) (Fin.ext (by show 128 * k.val + (64 * b.val + d.val) = 64 * (2 * k.val + b.val) + d.val; omega))
  · rw [dif_neg hj, H.kc]
    exact congrArg₂ (aK m c) (Fin.ext (if_neg hj).symm) (Fin.ext (by show 128 * k.val + (64 * b.val + d.val) = 64 * (2 * k.val + b.val) + d.val; omega))
theorem vb_at (j : Fin 256) (d : Fin 64) : T.vb k (ix2 j (ln b d)) = aV m c (key n j) (kcol (grp k b) d) := by
  refine (band_at _ _ _ _).trans ?_
  by_cases hj : j.val < 128
  · rw [dif_pos hj, H.vp]
    exact congrArg₂ (aV m c) (Fin.ext (if_pos hj).symm) (Fin.ext (by show 128 * k.val + (64 * b.val + d.val) = 64 * (2 * k.val + b.val) + d.val; omega))
  · rw [dif_neg hj, H.vc]
    exact congrArg₂ (aV m c) (Fin.ext (if_neg hj).symm) (Fin.ext (by show 128 * k.val + (64 * b.val + d.val) = 64 * (2 * k.val + b.val) + d.val; omega))
theorem sc_at (h : Fin 4) (r : Fin 128) : T.sc k b (row h r) = scK (aQ m c) (aK m c) n (grp k b) h r := by
  funext j
  unfold Tiles.sc scK
  rw [sum_half b _ _ (fun l => T.qs k b (ix3 0 (row h r) l)) (fun l => T.kb k (ix2 j l)) (fun f d => by rw [H.qs, qsT_at, qb_at]) (fun d => H.kb_at k b j d), H.bias]
  by_cases o : ok n r j
  · rw [if_pos o, if_pos o, add_zero]
  · rw [if_neg o, if_neg o, EReal.add_bot]
theorem lse_at (h : Fin 4) (r l : Fin 128) : T.l k b (ix3 0 (row h r) l) = lseK (aQ m c) (aK m c) (aZ m c) n (grp k b) h r := by
  rw [T.l_at, H.sc_at, H.sink]
  rfl
theorem out_at (e f : Fin 2) (r : Fin 128) (d : Fin 64) (h : Fin 4) (hh : h.val = 2 * e.val + f.val) (q : Fin 1024) (hq : q.val = 128 * (4 * k.val + 2 * b.val + e.val) + (64 * f.val + d.val)) :
    T.out (ix2 r q) = outK (aQ m c) (aK m c) (aV m c) (aZ m c) n (grp k b) h r d := by
  rw [T.out_at k b e f r d h hh q hq, H.sc_at, H.sink]
  refine congrArg (· * _) (Finset.sum_congr rfl fun j _ => ?_)
  rw [H.vb_at]
end Holds

/-! The loads of the sub-blocks. -/

theorem ld1 (o p : ℕ) (h) (r l : Fin 128) : View.ld (Val := Elt Ideal) (S := S512x256) (e' := .bf16) (iblk m c 1 t) (Rect.unit ![o, p] ![128, 128] h) (ix2 r l)
    = aK m c ⟨512 * t.val + (o + r.val), by have : o + 128 ≤ 512 := h 0; have := tN t; omega⟩ ⟨p + l.val, by have : p + 128 ≤ 256 := h 1; omega⟩ := by
  refine Eq.trans (congrArg (iblk m c 1 t) ?_) (w1_at m c t ⟨o + r.val, by have : o + 128 ≤ 512 := h 0; omega⟩ ⟨p + l.val, by have : p + 128 ≤ 256 := h 1; omega⟩)
  funext a
  fin_cases a
  · exact Fin.ext (by show o + 1 * r.val = o + r.val; omega)
  · exact Fin.ext (by show p + 1 * l.val = p + l.val; omega)
theorem ld3 (o p : ℕ) (h) (r l : Fin 128) : View.ld (Val := Elt Ideal) (S := S512x256) (e' := .bf16) (iblk m c 3 t) (Rect.unit ![o, p] ![128, 128] h) (ix2 r l)
    = aV m c ⟨512 * t.val + (o + r.val), by have : o + 128 ≤ 512 := h 0; have := tN t; omega⟩ ⟨p + l.val, by have : p + 128 ≤ 256 := h 1; omega⟩ := by
  refine Eq.trans (congrArg (iblk m c 3 t) ?_) (w3_at m c t ⟨o + r.val, by have : o + 128 ≤ 512 := h 0; omega⟩ ⟨p + l.val, by have : p + 128 ≤ 256 := h 1; omega⟩)
  funext a
  fin_cases a
  · exact Fin.ext (by show o + 1 * r.val = o + r.val; omega)
  · exact Fin.ext (by show p + 1 * l.val = p + l.val; omega)
theorem ld2 (p : ℕ) (h) (r l : Fin 128) : View.ld (Val := Elt Ideal) (S := S128x256) (e' := .bf16) (iblk m c 2 t) (Rect.unit ![0, p] ![128, 128] h) (ix2 r l)
    = aK m c ⟨128 * (4 * t.val - 1) + r.val, by have := tN t; omega⟩ ⟨p + l.val, by have : p + 128 ≤ 256 := h 1; omega⟩ := by
  refine Eq.trans (congrArg (iblk m c 2 t) ?_) (w2_at m c t r ⟨p + l.val, by have : p + 128 ≤ 256 := h 1; omega⟩)
  funext a
  fin_cases a
  · exact Fin.ext (by show 0 + 1 * r.val = r.val; omega)
  · exact Fin.ext (by show p + 1 * l.val = p + l.val; omega)
theorem ld4 (p : ℕ) (h) (r l : Fin 128) : View.ld (Val := Elt Ideal) (S := S128x256) (e' := .bf16) (iblk m c 4 t) (Rect.unit ![0, p] ![128, 128] h) (ix2 r l)
    = aV m c ⟨128 * (4 * t.val - 1) + r.val, by have := tN t; omega⟩ ⟨p + l.val, by have : p + 128 ≤ 256 := h 1; omega⟩ := by
  refine Eq.trans (congrArg (iblk m c 4 t) ?_) (w4_at m c t r ⟨p + l.val, by have : p + 128 ≤ 256 := h 1; omega⟩)
  funext a
  fin_cases a
  · exact Fin.ext (by show 0 + 1 * r.val = r.val; omega)
  · exact Fin.ext (by show p + 1 * l.val = p + l.val; omega)
theorem ld5 (e : Fin 2) (v : Fin 3 → ℕ) (hv : v = ![e.val, 0, 0]) (h) (p : Fin 512) (q : Fin 256) :
    View.ld (Val := Elt Ideal) (S := S2x512x256) (e' := .f32) (iblk m c 5 t) (Rect.unit v ![1, 512, 256] h) (ix3 0 p q) = biasT (ix3 e p q) := by
  subst hv
  refine Eq.trans (congrArg (iblk m c 5 t) ?_) (w5_at m c t e p q)
  funext a
  fin_cases a
  · exact Fin.ext (by show e.val + 1 * 0 = e.val; omega)
  · exact Fin.ext (by show 0 + 1 * p.val = p.val; omega)
  · exact Fin.ext (by show 0 + 1 * q.val = q.val; omega)
theorem ld6 (a : ℕ) (h) : View.ld (Val := Elt Ideal) (S := S16) (e' := .f32) (iblk m c 6 t) (Rect.unit ![a] ![1] h) (Shape.Idx.first one_pos)
    = aZ m c ⟨a, by have : a + 1 ≤ 16 := h 0; omega⟩ := by
  refine Eq.trans (congrArg (iblk m c 6 t) ?_) (w6_at m c t ⟨a, by have : a + 1 ≤ 16 := h 0; omega⟩)
  funext b
  fin_cases b
  exact Fin.ext (by show a + 1 * 0 = a; omega)

theorem aK_congr {a a' : Fin 8192} {b b' : Fin 256} (h : a.val = a'.val) (h' : b.val = b'.val) : aK m c a b = aK m c a' b' := congrArg₂ (aK m c) (Fin.ext h) (Fin.ext h')
theorem aV_congr {a a' : Fin 8192} {b b' : Fin 256} (h : a.val = a'.val) (h' : b.val = b'.val) : aV m c a b = aV m c a' b' := congrArg₂ (aV m c) (Fin.ext h) (Fin.ext h')

/-- The block a sub-block computes. -/
def blk (s : ℕ) (hs : s < 4) : Fin 64 := ⟨4 * t.val + s, by have := tN t; omega⟩

theorem tile_qs (s : ℕ) (hs : s < 4) (kp vp : Fin 2 → Bf128) (bias : FVec Ideal S1x512x256 .f32) (k b : Fin 2) (h : Fin 4) (r l : Fin 128) :
    (tile m c t s hs kp vp bias).qs k b (ix3 0 (row h r) l) = qsT (qbT (argQ m c)) (ix3 (grp k b) (qr (blk t s hs) h r) l) := by
  show View.ld (Val := Elt Ideal) (S := S4x2048x128) (e' := .bf16) (iblk m c 0 t) (Rect.unit ![2 * k.val + b.val, 512 * s, 0] ![1, 512, 128] (ib3 (by omega) hs)) (ix3 0 (row h r) l) = _
  have e := w0_at m c t (grp k b) ⟨512 * s + (row h r).val, by omega⟩ l
  refine Eq.trans (congrArg (iblk m c 0 t) ?_) (e.trans ?_)
  · funext a
    fin_cases a
    · exact Fin.ext (by show 2 * k.val + b.val + 1 * 0 = 2 * k.val + b.val; omega)
    · exact Fin.ext (by show 512 * s + 1 * (row h r).val = 512 * s + (row h r).val; omega)
    · exact Fin.ext (by show 0 + 1 * l.val = l.val; omega)
  · refine congrArg (fun z => qsT (qbT (argQ m c)) (ix3 (grp k b) z l)) (Fin.ext ?_)
    show 2048 * t.val + (512 * s + (128 * h.val + r.val)) = 512 * (4 * t.val + s) + 128 * h.val + r.val
    omega

set_option maxHeartbeats 1000000 in
theorem tile_holds (s : ℕ) (hs : s < 4) (kp vp : Fin 2 → Bf128) (bias : FVec Ideal S1x512x256 .f32)
    (hk : ∀ k r l, kp k (ix2 r l) = aK m c ⟨128 * ((blk t s hs).val - 1) + r.val, by omega⟩ ⟨128 * k.val + l.val, by omega⟩)
    (hv : ∀ k r l, vp k (ix2 r l) = aV m c ⟨128 * ((blk t s hs).val - 1) + r.val, by omega⟩ ⟨128 * k.val + l.val, by omega⟩)
    (hb : ∀ h r j, bias (ix3 0 (row h r) j) = if ok (blk t s hs) r j then 0 else ⊥) : Holds m c (tile m c t s hs kp vp bias) (blk t s hs) := by
  refine ⟨hk, fun k r l => ?_, hv, fun k r l => ?_, hb, fun k b h r l => ?_, fun k b h => ?_⟩
  · refine (ld1 m c t _ _ _ r l).trans (aK_congr m c ?_ rfl)
    show 512 * t.val + (128 * s + r.val) = 128 * (4 * t.val + s) + r.val
    omega
  · refine (ld3 m c t _ _ _ r l).trans (aV_congr m c ?_ rfl)
    show 512 * t.val + (128 * s + r.val) = 128 * (4 * t.val + s) + r.val
    omega
  · exact tile_qs m c t s hs kp vp bias k b h r l
  · refine (ld6 m c t _ _).trans (congrArg (aZ m c) (Fin.ext ?_))
    show 8 * k.val + 4 * b.val + h.val = 4 * (2 * k.val + b.val) + h.val
    omega

theorem holds0 : Holds m c (tile0 m c t) (blk t 0 (by omega)) := by
  refine tile_holds m c t 0 (by omega) _ _ _ (fun k r l => ?_) (fun k r l => ?_) fun h r j => ?_
  · exact ld2 m c t _ _ r l
  · exact ld4 m c t _ _ r l
  · by_cases h0 : t.val = 0
    · refine (ld5 m c t 0 _ ((off1 t).trans (by rw [if_pos h0]; rfl)) _ _ _).trans ((bias0_at h r j).trans (if_congr ?_ rfl rfl))
      unfold ok
      refine and_congr_right fun _ => ⟨.inl, fun o => o.resolve_right ?_⟩
      show ¬0 < 4 * t.val + 0
      omega
    · refine (ld5 m c t 1 _ ((off1 t).trans (by rw [if_neg h0]; rfl)) _ _ _).trans ((bias1_at h r j).trans (if_congr ?_ rfl rfl))
      unfold ok
      refine ⟨fun o => ⟨o, .inr ?_⟩, fun o => o.1⟩
      show 0 < 4 * t.val + 0
      omega
theorem holdsS (s : ℕ) (hs : s < 3) : Holds m c (tileS m c t s hs) (blk t (s + 1) (by omega)) := by
  refine tile_holds m c t (s + 1) (by omega) _ _ _ (fun k r l => ?_) (fun k r l => ?_) fun h r j => ?_
  · exact (ld1 m c t _ _ _ r l).trans (aK_congr m c (by show 512 * t.val + (128 * s + r.val) = 128 * (4 * t.val + (s + 1) - 1) + r.val; omega) rfl)
  · exact (ld3 m c t _ _ _ r l).trans (aV_congr m c (by show 512 * t.val + (128 * s + r.val) = 128 * (4 * t.val + (s + 1) - 1) + r.val; omega) rfl)
  · refine (ld5 m c t 1 _ rfl _ _ _).trans ((bias1_at h r j).trans (if_congr ?_ rfl rfl))
    unfold ok
    refine ⟨fun o => ⟨o, .inr ?_⟩, fun o => o.1⟩
    show 0 < 4 * t.val + (s + 1)
    omega

end Cert.KernelAttIdeal.Value

end
-- ==== Proof.Attn.Final.lean ====
module

public import Idealize.ShloMosaic.Lib.Pointwise
public import proofs.«01_k».proof.Proof.Attn.Sub
public import Idealize.ShloMosaic.Lib.Pipeline.ValueKit
public import Idealize.ShloMosaic.Lib.WritesUnit
public import Idealize.ShloMosaic.Lib.Pipeline.ReadBack
public import Idealize.ShloMosaic.Lib.StableHlo.RunRead
public import proofs.«01_k».proof.Proof.Gen.KernelAttIdeal.Value

@[expose] public section

set_option maxRecDepth 16384

noncomputable section

namespace Cert.KernelAttIdeal.Value

open Cert.KernelAttIdeal Cert.KernelAttIdeal.Gen Idealize.ShloMosaic Idealize.ShloMosaic.TcCoe Idealize.SL.Sem
open Idealize.ShloMosaic.Pipeline (Dat)

open Cert.Norm Cert.Attn
open Idealize.ShloMosaic.Pipeline (Dat)
variable (m : (ℓ : Loc nD τ sig) → Buf (Elt Ideal) ℓ) (c : Dev nD) (t : Fin cfg0.N)

/-! The call's results: the attention's outputs and the logarithms of its denominators, at every row. -/

/-- The output at row `a`, column `q`. -/
def outE (a : Fin 8192) (q : Fin 1024) : EReal :=
  outK (aQ m c) (aK m c) (aV m c) (aZ m c) ⟨a.val / 128, by omega⟩ ⟨q.val / 256, by omega⟩ ⟨q.val / 64 % 4, by omega⟩ ⟨a.val % 128, by omega⟩ ⟨q.val % 64, by omega⟩
/-- The logarithm of group `g`, stacked row `a`. -/
def lseE (g : Fin 4) (a : Fin 32768) : EReal :=
  lseK (aQ m c) (aK m c) (aZ m c) ⟨a.val / 512, by omega⟩ g ⟨a.val / 128 % 4, by omega⟩ ⟨a.val % 128, by omega⟩

section
variable {m c} {T : Tiles} {n : Fin 64} (H : Holds m c T n)
include H
theorem out_row (r : Fin 128) (q q' : Fin 1024) (a : Fin 8192) (ha : a.val = 128 * n.val + r.val) (hq : q'.val = q.val) : T.out (ix2 r q) = outE m c a q' := by
  obtain rfl : q' = q := Fin.ext hq
  refine (H.out_at ⟨q'.val / 512, by omega⟩ ⟨q'.val / 256 % 2, by omega⟩ ⟨q'.val / 128 % 2, by omega⟩ ⟨q'.val / 64 % 2, by omega⟩ r ⟨q'.val % 64, by omega⟩ ⟨q'.val / 64 % 4, by omega⟩
    (by show q'.val / 64 % 4 = 2 * (q'.val / 128 % 2) + q'.val / 64 % 2; omega) q'
    (by show q'.val = 128 * (4 * (q'.val / 512) + 2 * (q'.val / 256 % 2) + q'.val / 128 % 2) + (64 * (q'.val / 64 % 2) + q'.val % 64); omega)).trans ?_
  unfold outE
  rw [show grp ⟨q'.val / 512, by omega⟩ ⟨q'.val / 256 % 2, by omega⟩ = ⟨q'.val / 256, by omega⟩ from Fin.ext (by show 2 * (q'.val / 512) + q'.val / 256 % 2 = q'.val / 256; omega),
    show n = ⟨a.val / 128, by omega⟩ from Fin.ext (by show n.val = a.val / 128; omega)]
  exact congrArg (fun z => outK (aQ m c) (aK m c) (aV m c) (aZ m c) _ _ _ z _) (Fin.ext (by show r.val = a.val % 128; omega))
theorem lse_row (k b : Fin 2) (x : Fin 1) (p : Fin 512) (l : Fin 128) (g : Fin 4) (a : Fin 32768) (hg : g.val = 2 * k.val + b.val) (ha : a.val = 512 * n.val + p.val) :
    T.l k b (ix3 x p l) = lseE m c g a := by
  obtain rfl : x = 0 := Subsingleton.elim _ _
  rw [show p = row ⟨p.val / 128, by omega⟩ ⟨p.val % 128, by omega⟩ from Fin.ext (by show p.val = 128 * (p.val / 128) + p.val % 128; omega), H.lse_at]
  unfold lseE
  rw [show grp k b = g from Fin.ext hg.symm, show n = ⟨a.val / 512, by omega⟩ from Fin.ext (by show n.val = a.val / 512; omega)]
  exact congrArg₂ (lseK (aQ m c) (aK m c) (aZ m c) _ g) (Fin.ext (by show p.val / 128 = a.val / 128 % 4; omega)) (Fin.ext (by show p.val % 128 = a.val % 128; omega))
end

theorem lse_at (y : S4x2048x128.Idx) : (outsAt0 m c t).2 y = lseE m c (y 0) ⟨2048 * t.val + (y 1).val, by have := tN t; have : (y 1).val < 2048 := (y 1).isLt; omega⟩ := by
  unfold outsAt0
  frame_out
  canon_tiles x h
  case' piece0 =>
    idx_vars x
    refine Eq.trans (congrFun (g := (tileS m c t 2 (by omega)).l 1 1) ?_ (ix3 x0 x1 x2)) (lse_row (holdsS m c t 2 (by omega)) 1 1 x0 x1 x2 _ _ (by have := x0.isLt; show (y 0).val = 3; omega) (by show 2048 * t.val + (y 1).val = 512 * (4 * t.val + 3) + x1.val; omega))
  case' piece1 =>
    idx_vars x
    refine Eq.trans (congrFun (g := (tileS m c t 2 (by omega)).l 1 0) ?_ (ix3 x0 x1 x2)) (lse_row (holdsS m c t 2 (by omega)) 1 0 x0 x1 x2 _ _ (by have := x0.isLt; show (y 0).val = 2; omega) (by show 2048 * t.val + (y 1).val = 512 * (4 * t.val + 3) + x1.val; omega))
  case' piece2 =>
    idx_vars x
    refine Eq.trans (congrFun (g := (tileS m c t 2 (by omega)).l 0 1) ?_ (ix3 x0 x1 x2)) (lse_row (holdsS m c t 2 (by omega)) 0 1 x0 x1 x2 _ _ (by have := x0.isLt; show (y 0).val = 1; omega) (by show 2048 * t.val + (y 1).val = 512 * (4 * t.val + 3) + x1.val; omega))
  case' piece3 =>
    idx_vars x
    refine Eq.trans (congrFun (g := (tileS m c t 2 (by omega)).l 0 0) ?_ (ix3 x0 x1 x2)) (lse_row (holdsS m c t 2 (by omega)) 0 0 x0 x1 x2 _ _ (by have := x0.isLt; show (y 0).val = 0; omega) (by show 2048 * t.val + (y 1).val = 512 * (4 * t.val + 3) + x1.val; omega))
  case' piece4 =>
    idx_vars x
    refine Eq.trans (congrFun (g := (tileS m c t 1 (by omega)).l 1 1) ?_ (ix3 x0 x1 x2)) (lse_row (holdsS m c t 1 (by omega)) 1 1 x0 x1 x2 _ _ (by have := x0.isLt; show (y 0).val = 3; omega) (by show 2048 * t.val + (y 1).val = 512 * (4 * t.val + 2) + x1.val; omega))
  case' piece5 =>
    idx_vars x
    refine Eq.trans (congrFun (g := (tileS m c t 1 (by omega)).l 1 0) ?_ (ix3 x0 x1 x2)) (lse_row (holdsS m c t 1 (by omega)) 1 0 x0 x1 x2 _ _ (by have := x0.isLt; show (y 0).val = 2; omega) (by show 2048 * t.val + (y 1).val = 512 * (4 * t.val + 2) + x1.val; omega))
  case' piece6 =>
    idx_vars x
    refine Eq.trans (congrFun (g := (tileS m c t 1 (by omega)).l 0 1) ?_ (ix3 x0 x1 x2)) (lse_row (holdsS m c t 1 (by omega)) 0 1 x0 x1 x2 _ _ (by have := x0.isLt; show (y 0).val = 1; omega) (by show 2048 * t.val + (y 1).val = 512 * (4 * t.val + 2) + x1.val; omega))
  case' piece7 =>
    idx_vars x
    refine Eq.trans (congrFun (g := (tileS m c t 1 (by omega)).l 0 0) ?_ (ix3 x0 x1 x2)) (lse_row (holdsS m c t 1 (by omega)) 0 0 x0 x1 x2 _ _ (by have := x0.isLt; show (y 0).val = 0; omega) (by show 2048 * t.val + (y 1).val = 512 * (4 * t.val + 2) + x1.val; omega))
  case' piece8 =>
    idx_vars x
    refine Eq.trans (congrFun (g := (tileS m c t 0 (by omega)).l 1 1) ?_ (ix3 x0 x1 x2)) (lse_row (holdsS m c t 0 (by omega)) 1 1 x0 x1 x2 _ _ (by have := x0.isLt; show (y 0).val = 3; omega) (by show 2048 * t.val + (y 1).val = 512 * (4 * t.val + 1) + x1.val; omega))
  case' piece9 =>
    idx_vars x
    refine Eq.trans (congrFun (g := (tileS m c t 0 (by omega)).l 1 0) ?_ (ix3 x0 x1 x2)) (lse_row (holdsS m c t 0 (by omega)) 1 0 x0 x1 x2 _ _ (by have := x0.isLt; show (y 0).val = 2; omega) (by show 2048 * t.val + (y 1).val = 512 * (4 * t.val + 1) + x1.val; omega))
  case' piece10 =>
    idx_vars x
    refine Eq.trans (congrFun (g := (tileS m c t 0 (by omega)).l 0 1) ?_ (ix3 x0 x1 x2)) (lse_row (holdsS m c t 0 (by omega)) 0 1 x0 x1 x2 _ _ (by have := x0.isLt; show (y 0).val = 1; omega) (by show 2048 * t.val + (y 1).val = 512 * (4 * t.val + 1) + x1.val; omega))
  case' piece11 =>
    idx_vars x
    refine Eq.trans (congrFun (g := (tileS m c t 0 (by omega)).l 0 0) ?_ (ix3 x0 x1 x2)) (lse_row (holdsS m c t 0 (by omega)) 0 0 x0 x1 x2 _ _ (by have := x0.isLt; show (y 0).val = 0; omega) (by show 2048 * t.val + (y 1).val = 512 * (4 * t.val + 1) + x1.val; omega))
  case' piece12 =>
    idx_vars x
    refine Eq.trans (congrFun (g := (tile0 m c t).l 1 1) ?_ (ix3 x0 x1 x2)) (lse_row (holds0 m c t) 1 1 x0 x1 x2 _ _ (by have := x0.isLt; show (y 0).val = 3; omega) (by show 2048 * t.val + (y 1).val = 512 * (4 * t.val + 0) + x1.val; omega))
  case' piece13 =>
    idx_vars x
    refine Eq.trans (congrFun (g := (tile0 m c t).l 1 0) ?_ (ix3 x0 x1 x2)) (lse_row (holds0 m c t) 1 0 x0 x1 x2 _ _ (by have := x0.isLt; show (y 0).val = 2; omega) (by show 2048 * t.val + (y 1).val = 512 * (4 * t.val + 0) + x1.val; omega))
  case' piece14 =>
    idx_vars x
    refine Eq.trans (congrFun (g := (tile0 m c t).l 0 1) ?_ (ix3 x0 x1 x2)) (lse_row (holds0 m c t) 0 1 x0 x1 x2 _ _ (by have := x0.isLt; show (y 0).val = 1; omega) (by show 2048 * t.val + (y 1).val = 512 * (4 * t.val + 0) + x1.val; omega))
  case' piece15 =>
    idx_vars x
    refine Eq.trans (congrFun (g := (tile0 m c t).l 0 0) ?_ (ix3 x0 x1 x2)) (lse_row (holds0 m c t) 0 0 x0 x1 x2 _ _ (by have := x0.isLt; show (y 0).val = 0; omega) (by show 2048 * t.val + (y 1).val = 512 * (4 * t.val + 0) + x1.val; omega))
  all_goals
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, Tiles.l, Tiles.m, Tiles.d, Tiles.o, Tiles.z, Tiles.s, Tiles.vb, Tiles.kb, tile0, tileS, tile, lT, dT, m512, m256, oT, vT, mT, nt, two, sink4, band]
    rfl

theorem out_at (y : S512x1024.Idx) : (outsAt0 m c t).1 y = outE m c ⟨512 * t.val + (y 0).val, by have := tN t; have : (y 0).val < 512 := (y 0).isLt; omega⟩ (y 1) := by
  unfold outsAt0
  frame_out
  canon_tiles x h
  case' piece0 =>
    idx_vars x
    refine Eq.trans (congrFun (g := (tileS m c t 2 (by omega)).out) ?_ (ix2 x0 x1)) (out_row (holdsS m c t 2 (by omega)) x0 x1 _ _ (by show 512 * t.val + (y 0).val = 128 * (4 * t.val + 3) + x0.val; omega) (by omega))
  case' piece1 =>
    idx_vars x
    refine Eq.trans (congrFun (g := (tileS m c t 1 (by omega)).out) ?_ (ix2 x0 x1)) (out_row (holdsS m c t 1 (by omega)) x0 x1 _ _ (by show 512 * t.val + (y 0).val = 128 * (4 * t.val + 2) + x0.val; omega) (by omega))
  case' piece2 =>
    idx_vars x
    refine Eq.trans (congrFun (g := (tileS m c t 0 (by omega)).out) ?_ (ix2 x0 x1)) (out_row (holdsS m c t 0 (by omega)) x0 x1 _ _ (by show 512 * t.val + (y 0).val = 128 * (4 * t.val + 1) + x0.val; omega) (by omega))
  case' piece3 =>
    idx_vars x
    refine Eq.trans (congrFun (g := (tile0 m c t).out) ?_ (ix2 x0 x1)) (out_row (holds0 m c t) x0 x1 _ _ (by show 512 * t.val + (y 0).val = 128 * (4 * t.val + 0) + x0.val; omega) (by omega))
  all_goals
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, Tiles.out, Tiles.n, unst, nT, sl, msk, rot, zero128, m128, wide8, Tiles.m, Tiles.d, Tiles.o, Tiles.z, Tiles.s, Tiles.vb, Tiles.kb, tile0, tileS, tile, dT, m512, m256, oT, vT, mT, nt, two, sink4, band]
    rfl

theorem final7 : (dats m 0 c).arrAt 7 cfg0.N = fun i => outE m c (i 0) (i 1) :=
  (dats m 0 c).arrAt_eq_of_covers 7 _ (by decide +kernel) (fun t hf y => by
    rw [after0_7]
    idx_vars y
    refine (out_at m c t _).trans (congrArg₂ (outE m c) (Fin.ext ?_) (Fin.ext ?_))
    · refine Eq.trans (b := 512 * t.val + y0.val) rfl ?_
      blk_simp [idx t]
      omega
    · refine Eq.trans (b := y1.val) rfl ?_
      blk_simp [idx t])
theorem final8 : (dats m 0 c).arrAt 8 cfg0.N = fun i => lseE m c (i 0) (i 1) :=
  (dats m 0 c).arrAt_eq_of_covers 8 _ (by decide +kernel) (fun t hf y => by
    rw [after0_8]
    idx_vars y
    refine (lse_at m c t _).trans (congrArg₂ (lseE m c) (Fin.ext ?_) (Fin.ext ?_))
    · refine Eq.trans (b := y0.val) rfl ?_
      blk_simp [idx t]
    · refine Eq.trans (b := 2048 * t.val + y1.val) rfl ?_
      blk_simp [idx t]
      omega)

end Cert.KernelAttIdeal.Value

end
-- ==== Proof.Attn.Scores.lean ====
module

public import Idealize.ShloMosaic.Lib.Pointwise
public import proofs.«01_k».proof.Proof.Attn.Row
public import proofs.«01_k».proof.Proof.Gen.ReferenceAttIdeal.Read

@[expose] public section

set_option maxRecDepth 16384

noncomputable section

namespace Cert.ReferenceAttIdeal.Value

open Cert.ReferenceAttIdeal Cert.ReferenceAttIdeal.Gen Idealize.ShloMosaic Idealize.ShloMosaic.TcCoe Idealize.SL.Sem
open Cert.Norm Cert.Attn Cert.ReferenceAttIdeal.Read

variable (x0 : FVec Ideal S8192x1024 .bf16) (x1 : FVec Ideal S8192x256 .bf16) (x2 : FVec Ideal S8192x6656 .bf16) (x3 : FVec Ideal S16 .f32)
  (n : Fin 64) (g h : Fin 4) (r : Fin 128) (j : Fin 256) (d : Fin 64)

/-! The attention's values as the reference writes them. -/

abbrev rQ (a : Fin 8192) (b : Fin 1024) : EReal := x0 (ix2 a b)
abbrev rK (a : Fin 8192) (b : Fin 256) : EReal := x1 (ix2 a b)
abbrev rV (a : Fin 8192) (b : Fin 256) : EReal := x2 (ix2 a ⟨4352 + b.val, by omega⟩)
abbrev rZ (a : Fin 16) : EReal := x3 (ix1 a)

theorem q_at : val_main_v1 (F := Ideal) x0 (ix6 0 n r g h d) = rQ x0 (qrow n r) (qcol g h d) := by
  pointwise [val_main_v1, val_main_v0]
  refine congrArg x0 (congrArg₂ ix2 (Fin.ext ?_) (Fin.ext ?_))
  · dsimp only [qrow]; omega
  · dsimp only [qcol]; omega
theorem k_at : val_main_v9 (F := Ideal) x1 (ix5 0 n j g d) = if j.val < 128 ∧ n.val = 0 then 0 else rK x1 (key n j) (kcol g d) := by
  pointwise [val_main_v9, val_main_v8, val_main_v7, val_main_v6, val_main_v5, val_main_v4, val_main_v3, val_main_v2, val_main_cst]
  by_cases hj : j.val < 128
  · rw [dif_pos hj]
    by_cases hn : n.val = 0
    · rw [dif_pos (by omega), if_pos ⟨hj, hn⟩]
    · rw [dif_neg (by omega), if_neg (show ¬(j.val < 128 ∧ n.val = 0) from fun o => hn o.2)]
      refine congrArg x1 (congrArg₂ ix2 (Fin.ext (Eq.trans ?_ (if_pos hj).symm)) (Fin.ext ?_))
      · dsimp only; omega
      · dsimp only [kcol]; omega
  · rw [dif_neg hj, dif_neg (by omega), if_neg (show ¬(j.val < 128 ∧ n.val = 0) from fun o => hj o.1)]
    refine congrArg x1 (congrArg₂ ix2 (Fin.ext (Eq.trans ?_ (if_neg hj).symm)) (Fin.ext ?_))
    · dsimp only; omega
    · dsimp only [kcol]; omega
theorem v_at : val_main_v18 (F := Ideal) x2 (ix5 0 n j g d) = if j.val < 128 ∧ n.val = 0 then 0 else rV x2 (key n j) (kcol g d) := by
  pointwise [val_main_v18, val_main_v17, val_main_v16, val_main_v15, val_main_v14, val_main_v13, val_main_v12, val_main_v11, val_main_v10, val_main_cst_0]
  by_cases hj : j.val < 128
  · rw [dif_pos hj]
    by_cases hn : n.val = 0
    · rw [dif_pos (by omega), if_pos ⟨hj, hn⟩]
    · rw [dif_neg (by omega), if_neg (show ¬(j.val < 128 ∧ n.val = 0) from fun o => hn o.2)]
      refine congrArg x2 (congrArg₂ ix2 (Fin.ext (Eq.trans ?_ (if_pos hj).symm)) (Fin.ext ?_))
      · dsimp only; omega
      · dsimp only [kcol]; omega
  · rw [dif_neg hj, dif_neg (by omega), if_neg (show ¬(j.val < 128 ∧ n.val = 0) from fun o => hj o.1)]
    refine congrArg x2 (congrArg₂ ix2 (Fin.ext (Eq.trans ?_ (if_neg hj).symm)) (Fin.ext ?_))
    · dsimp only; omega
    · dsimp only [kcol]; omega
theorem band_at : val_main_v36 (F := Ideal) (ix2 r j) = if r.val < j.val ∧ j.val ≤ r.val + 128 then 1#1 else 0#1 := by
  pointwise [val_main_v36, val_main_v35, val_main_v34, val_main_v33, val_main_v32, val_main_v31, val_main_v30, val_main_v29, val_main_v28, val_main_v27, val_main_v26, val_main_v25, val_main_v24, val_main_v23, val_main_c, val_main_c_2, val_main_c_3]
  revert r j
  decide +kernel
theorem own_at : val_main_v50 (F := Ideal) (ix2 n j) = if 128 ≤ j.val ∨ 0 < n.val then 1#1 else 0#1 := by
  pointwise [val_main_v50, val_main_v49, val_main_v47, val_main_v46, val_main_v45, val_main_v44, val_main_v43, val_main_v42, val_main_v41, val_main_v40, val_main_v39, val_main_v38, val_main_v37, val_main_c_4, val_main_c_5, val_main_c_6]
  revert n j
  decide +kernel
theorem mask_at : val_main_call0_v1 (F := Ideal) (ix6 0 n g h r j) = if ok n r j then 1#1 else 0#1 := by
  pointwise [val_main_call0_v1, val_main_v55, val_main_v54, val_main_v53, val_main_v52, val_main_v51, val_main_v48]
  rw [band_at, own_at]
  by_cases a : r.val < j.val ∧ j.val ≤ r.val + 128
  · by_cases b : 128 ≤ j.val ∨ 0 < n.val
    · rw [if_pos a, if_pos b, if_pos (show ok n r j from ⟨a, b⟩)]; rfl
    · rw [if_pos a, if_neg b, if_neg (show ¬ok n r j from fun x => b x.2)]; rfl
  · rw [if_neg a, if_neg (show ¬ok n r j from fun x => a x.1)]
    split <;> rfl

abbrev rS : Fin 256 → EReal := scR (rQ x0) (rK x1) n g h r
abbrev rσ : EReal := rZ x3 (head g h)

theorem dot_at : val_main_v20 (F := Ideal) x0 x1 (ix6 0 n g h r j) = ∑ d : Fin 64, (if j.val < 128 ∧ n.val = 0 then 0 else rK x1 (key n j) (kcol g d)) * rQ x0 (qrow n r) (qcol g h d) := by
  pointwise [val_main_v20, val_main_v19]
  exact Finset.sum_congr rfl fun d _ => congrArg₂ (· * ·) (k_at x1 n g j d) (q_at x0 n g h r d)
theorem s_at : val_main_v56 (F := Ideal) x0 x1 (ix6 0 n g h r j) = rS x0 x1 n g h r j := by
  pointwise [val_main_v56, val_main_call0_v0, val_main_call0_v2, val_main_v22, val_main_v21, val_main_cst_1, val_main_cst_7]
  rw [mask_at, dot_at]
  unfold rS scR
  by_cases o : ok n r j
  · rw [if_pos o, if_pos o, Finset.sum_congr rfl fun d _ => show (if j.val < 128 ∧ n.val = 0 then (0 : EReal) else rK x1 (key n j) (kcol g d)) * rQ x0 (qrow n r) (qcol g h d) = rK x1 (key n j) (kcol g d) * rQ x0 (qrow n r) (qcol g h d) by
      rw [if_neg fun e => by have := o.2; omega]]
    rfl
  · rw [if_neg o, if_neg o]
    exact neginf_eq
theorem z_at : val_main_v58 (F := Ideal) x3 (ix6 0 0 g h 0 0) = rσ x3 g h := by
  pointwise [val_main_v58, val_main_v57]
  exact congrArg x3 (congrArg ix1 (Fin.ext (by dsimp only [head]; omega)))
theorem fold_at (y : FVec Ideal S1x64x4x4x128x256 .f32) (b : FVec Ideal S_ .f32) :
    Host.reduce FloatOps.maximumf y b reducesTo_S1x64x4x4x128x256_S1x64x4x4x128_d5 h_S_ (ix5 0 n g h r)
      = Finset.univ.fold max (b (Shape.Idx.first h_S_)) fun j : Fin 256 => y (ix6 0 n g h r j) := by
  rw [Host.reduce_eq_fold_single FloatOps.maximumf y b reducesTo_S1x64x4x4x128x256_S1x64x4x4x128_d5 (by decide)]
  have e : (y ∘ Shape.Reduces.lift (s := S1x64x4x4x128x256) (a := 5) (t := S1x64x4x4x128) (by decide) (ix5 0 n g h r)) = fun j : Fin 256 => y (ix6 0 n g h r j) :=
    funext fun k => congrArg y (funext fun a => Fin.ext (by match a with | ⟨0, _⟩ => rfl | ⟨1, _⟩ => rfl | ⟨2, _⟩ => rfl | ⟨3, _⟩ => rfl | ⟨4, _⟩ => rfl | ⟨5, _⟩ => rfl))
  exact congrArg (fun f => Finset.fold max (b (Shape.Idx.first h_S_)) f (Finset.univ : Finset (Fin 256))) e
theorem fold_v59 : val_main_v59 (F := Ideal) x0 x1 (ix5 0 n g h r) = Finset.univ.fold max neginf (rS x0 x1 n g h r) := by
  unfold val_main_v59
  rw [fold_at, funext fun j => s_at x0 x1 n g h r j]
  rfl

end Cert.ReferenceAttIdeal.Value

end
-- ==== Proof.Attn.Reference.lean ====
module

public import Idealize.ShloMosaic.Lib.Pointwise
public import proofs.«01_k».proof.Proof.Attn.Scores

@[expose] public section

set_option maxRecDepth 16384

noncomputable section

namespace Cert.ReferenceAttIdeal.Value

open Cert.ReferenceAttIdeal Cert.ReferenceAttIdeal.Gen Idealize.ShloMosaic Idealize.ShloMosaic.TcCoe Idealize.SL.Sem
open Cert.Norm Cert.Attn Cert.ReferenceAttIdeal.Read

variable (x0 : FVec Ideal S8192x1024 .bf16) (x1 : FVec Ideal S8192x256 .bf16) (x2 : FVec Ideal S8192x6656 .bf16) (x3 : FVec Ideal S16 .f32)
  (n : Fin 64) (g h : Fin 4) (r : Fin 128) (j : Fin 256) (d : Fin 64)

/-! The attention's values as the reference writes them. -/

theorem v60_at : val_main_v60 (F := Ideal) x0 x1 (ix6 0 n g h r 0) = Finset.univ.fold max neginf (rS x0 x1 n g h r) := by
  rw [val_main_v60_apply, ← fold_v59]
  exact congrArg _ (funext fun a => Fin.ext (by match a with | ⟨0, _⟩ => rfl | ⟨1, _⟩ => rfl | ⟨2, _⟩ => rfl | ⟨3, _⟩ => rfl | ⟨4, _⟩ => rfl))
theorem v61_at : val_main_v61 (F := Ideal) x3 (ix6 0 n g h r 0) = rσ x3 g h := by
  rw [val_main_v61_apply, ← z_at]
  exact congrArg _ (funext fun a => Fin.ext (by match a with | ⟨0, _⟩ => rfl | ⟨1, _⟩ => rfl | ⟨2, _⟩ => rfl | ⟨3, _⟩ => rfl | ⟨4, _⟩ => rfl | ⟨5, _⟩ => rfl))
theorem mx_at : val_main_v62 (F := Ideal) x0 x1 x3 (ix6 0 n g h r 0) = mx (rS x0 x1 n g h r) (rσ x3 g h) := by
  rw [val_main_v62_apply, v60_at, v61_at, Ideal.maximumf_def]
  rfl
theorem e_at : val_main_v65 (F := Ideal) x0 x1 x3 (ix6 0 n g h r j) = pe (rS x0 x1 n g h r) (rσ x3 g h) j := by
  pointwise [val_main_v65, val_main_v64, val_main_v63]
  rw [s_at, mx_at]
  rfl
theorem sum_v66 : val_main_v66 (F := Ideal) x0 x1 x3 (ix5 0 n g h r) = ∑ j, pe (rS x0 x1 n g h r) (rσ x3 g h) j := by
  rw [val_main_v66_apply]
  refine (congrArg (· + _) (show val_main_cst_9 (F := Ideal) (Shape.Idx.first h_S_) = 0 by pointwise [val_main_cst_9])).trans ?_
  rw [zero_add]
  refine Finset.sum_congr rfl fun j _ => (congrArg _ ?_).trans (e_at x0 x1 x3 n g h r j)
  exact funext fun a => Fin.ext (by match a with | ⟨0, _⟩ => rfl | ⟨1, _⟩ => rfl | ⟨2, _⟩ => rfl | ⟨3, _⟩ => rfl | ⟨4, _⟩ => rfl | ⟨5, _⟩ => rfl)
theorem v67_at : val_main_v67 (F := Ideal) x0 x1 x3 (ix6 0 n g h r 0) = ∑ j, pe (rS x0 x1 n g h r) (rσ x3 g h) j := by
  rw [val_main_v67_apply, ← sum_v66]
  exact congrArg _ (funext fun a => Fin.ext (by match a with | ⟨0, _⟩ => rfl | ⟨1, _⟩ => rfl | ⟨2, _⟩ => rfl | ⟨3, _⟩ => rfl | ⟨4, _⟩ => rfl))
theorem v70_at : val_main_v70 (F := Ideal) x0 x1 x3 (ix6 0 n g h r 0) = se (rS x0 x1 n g h r) (rσ x3 g h) := by
  rw [val_main_v70_apply, val_main_v69_apply, mx_at, show val_main_v68 (F := Ideal) x3 (ix6 0 n g h r 0) = rσ x3 g h from v61_at x3 n g h r]
  rfl
theorem den_at : val_main_v71 (F := Ideal) x0 x1 x3 (ix6 0 n g h r 0) = den (rS x0 x1 n g h r) (rσ x3 g h) := by
  rw [val_main_v71_apply, v67_at, v70_at]
  rfl
theorem pr_at : val_main_v73 (F := Ideal) x0 x1 x3 (ix6 0 n g h r j) = pr (rS x0 x1 n g h r) (rσ x3 g h) j := by
  pointwise [val_main_v73, val_main_v72]
  rw [e_at, den_at]
  rfl
theorem o_at : val_main_v75 (F := Ideal) x0 x1 x2 x3 (ix6 0 n r g h d) = outR (rQ x0) (rK x1) (rV x2) (rZ x3) n g h r d := by
  pointwise [val_main_v75, val_main_v74]
  exact Finset.sum_congr rfl fun j _ => congrArg₂ (· * ·) (v_at x2 n g j d) (pr_at x0 x1 x3 n g h r j)
theorem l_at : val_main_v78 (F := Ideal) x0 x1 x3 (ix6 0 n g h r 0) = lseR (rQ x0) (rK x1) (rZ x3) n g h r := by
  rw [val_main_v78_apply, val_main_v77_apply, mx_at, den_at]
  rfl
theorem out_at (a : Fin 8192) (q : Fin 1024) : val_main_v82 (F := Ideal) x0 x1 x2 x3 (ix2 a q)
    = outR (rQ x0) (rK x1) (rV x2) (rZ x3) ⟨a.val / 128, by omega⟩ ⟨q.val / 256, by omega⟩ ⟨q.val / 64 % 4, by omega⟩ ⟨a.val % 128, by omega⟩ ⟨q.val % 64, by omega⟩ := by
  rw [← o_at]
  pointwise [val_main_v82, val_main_v76]
theorem lse_at (a : Fin 32768) (l : Fin 128) : val_main_v83 (F := Ideal) x0 x1 x3 (ix3 g a l)
    = lseR (rQ x0) (rK x1) (rZ x3) ⟨a.val / 512, by omega⟩ g ⟨a.val / 128 % 4, by omega⟩ ⟨a.val % 128, by omega⟩ := by
  rw [← l_at]
  pointwise [val_main_v83, val_main_v81, val_main_v80, val_main_v79]

end Cert.ReferenceAttIdeal.Value

end
-- ==== Proof.Dkv.Final.lean ====
module

public import Idealize.ShloMosaic.Lib.Pointwise
public import Idealize.ShloMosaic.Lib.Pipeline.ValueKit
public import Idealize.ShloMosaic.Lib.WritesUnit
public import Idealize.ShloMosaic.Lib.Pipeline.ReadBack
public import Idealize.ShloMosaic.Lib.StableHlo.RunRead
public import proofs.«01_k».proof.Proof.Gate.Gate
public import proofs.«01_k».proof.Proof.Gen.KernelDkvIdeal.Value

@[expose] public section

set_option maxRecDepth 16384

noncomputable section

namespace Cert.Attn

open Idealize.ShloMosaic

/-- The gradient of one row: from its own block's band, and from the next block's, where there is one. -/
def both (D P : (⟨2, ![8192, 256]⟩ : Shape).Idx → EReal) (s : Fin 8192) (j : Fin 256) : EReal :=
  D (ix2 s j) + if h : s.val + 128 < 8192 then P (ix2 ⟨s.val + 128, h⟩ j) else 0

/-- The gradient's array: columns 4096 to 4352 are `k`'s, the next 256 are `v`'s, the others those of `R`. -/
def joined (D P E Q : (⟨2, ![8192, 256]⟩ : Shape).Idx → EReal) (R : (⟨2, ![8192, 6656]⟩ : Shape).Idx → EReal) (s : Fin 8192) (j : Fin 6656) : EReal :=
  if h : 4096 ≤ j.val ∧ j.val < 4352 then both D P s ⟨j.val - 4096, by omega⟩
  else if h : 4352 ≤ j.val ∧ j.val < 4608 then both E Q s ⟨j.val - 4352, by omega⟩
  else R (ix2 s j)

end Cert.Attn

namespace Cert.KernelDkvIdeal.Value

open Cert.KernelDkvIdeal Cert.KernelDkvIdeal.Gen Idealize.ShloMosaic Idealize.ShloMosaic.TcCoe Idealize.SL.Sem
open Idealize.ShloMosaic.Pipeline (Dat)
open Cert.Attn

/-! The tile: 512 rows of the gradients against their own block and the rows 128 further of the gradients against the block before. -/

theorem pay2_at (i : grid0.Coords) (D : FVec Ideal S512x256 .bf16) (N : FVec Ideal S128x256 .bf16) (P : FVec Ideal S384x256 .bf16) (r : Fin 512) (j : Fin 256) :
    k0_pay2 (F := Ideal) i D N P (ix2 r j) = D (ix2 r j) + if h : r.val < 384 then P (ix2 ⟨r.val, h⟩ j) else k0_pay1 (F := Ideal) i * N (ix2 ⟨r.val - 384, by omega⟩ j) := by
  pointwise [k0_pay2]
theorem pay3_at (i : grid0.Coords) (D : FVec Ideal S512x256 .bf16) (N : FVec Ideal S128x256 .bf16) (P : FVec Ideal S384x256 .bf16) (r : Fin 512) (j : Fin 256) :
    k0_pay3 (F := Ideal) i D N P (ix2 r j) = D (ix2 r j) + if h : r.val < 384 then P (ix2 ⟨r.val, h⟩ j) else k0_pay1 (F := Ideal) i * N (ix2 ⟨r.val - 384, by omega⟩ j) := by
  pointwise [k0_pay3]

theorem idx : ∀ t : Fin cfg0.N, win0_0.index t = ![t.val, 0] ∧ win0_1.index t = ![t.val, 0] ∧ win0_2.index t = ![min (4 * t.val + 4) 63, 0]
    ∧ win0_3.index t = ![t.val, 0] ∧ win0_4.index t = ![t.val, 0] ∧ win0_5.index t = ![min (4 * t.val + 4) 63, 0]
    ∧ win0_6.index t = ![t.val, 8] ∧ (grid0.coords t 0).val = t.val :=
  (by decide +kernel : ∀ t : Fin grid0.N, _)

theorem tN (t : Fin cfg0.N) : t.val < 16 := t.isLt

/-- Nothing is taken from beyond the last row. -/
theorem keep_bit : ∀ t : Fin cfg0.N, Scalar.cmpi .eq (BitVec.ofNat 32 (grid0.coords t 0).val) 15#32 = if t.val = 15 then 1#1 else 0#1 :=
  (by decide +kernel : ∀ t : Fin grid0.N, _)
theorem keep_at (t : Fin cfg0.N) : k0_pay1 (F := Ideal) (grid0.coords t) = if t.val = 15 then (0 : EReal) else 1 := by
  show Scalar.select (Scalar.cmpi .eq (BitVec.ofNat 32 (grid0.coords t 0).val) 15#32) (Ideal.ofBits .f32 0x00000000#32) (Ideal.ofBits .f32 0x3F800000#32) = _
  rw [keep_bit]
  by_cases h : t.val = 15
  · rw [if_pos h, if_pos h]
    simp [Scalar.select, Ideal.ofBits, Ideal.ieee]
  · rw [if_neg h, if_neg h]
    simp [Scalar.select, Ideal.ofBits, Ideal.ieee]
    rw [← EReal.coe_mul]
    norm_num

variable (m : (ℓ : Loc nD τ sig) → Buf (Elt Ideal) ℓ) (c : Dev nD) (t : Fin cfg0.N)

/-- The arguments as launched. -/
abbrev argD : FVec Ideal S8192x256 .bf16 := m ((c : Thread nD τ).loc main_arg0)
abbrev argP : FVec Ideal S8192x256 .bf16 := m ((c : Thread nD τ).loc main_arg1)
abbrev argE : FVec Ideal S8192x256 .bf16 := m ((c : Thread nD τ).loc main_arg2)
abbrev argQ : FVec Ideal S8192x256 .bf16 := m ((c : Thread nD τ).loc main_arg3)
abbrev argR : FVec Ideal S8192x6656 .bf16 := m ((c : Thread nD τ).loc main_arg4)

def row (r : Fin 512) : Fin 8192 := ⟨512 * t.val + r.val, by have := tN t; omega⟩
def next (r : Fin 128) : Fin 8192 := ⟨128 * min (4 * t.val + 4) 63 + r.val, by omega⟩

theorem b0_at (r : Fin 512) (d : Fin 256) : iblk m c 0 t (ix2 r d) = argD m c (ix2 (row t r) d) := by
  blk_point [iblk, V, idx t, row]
theorem b1_at (r : Fin 512) (d : Fin 256) : iblk m c 1 t (ix2 r d) = argP m c (ix2 (row t r) d) := by
  blk_point [iblk, V, idx t, row]
theorem b2_at (r : Fin 128) (d : Fin 256) : iblk m c 2 t (ix2 r d) = argP m c (ix2 (next t r) d) := by
  blk_point [iblk, V, idx t, next]
theorem b3_at (r : Fin 512) (d : Fin 256) : iblk m c 3 t (ix2 r d) = argE m c (ix2 (row t r) d) := by
  blk_point [iblk, V, idx t, row]
theorem b4_at (r : Fin 512) (d : Fin 256) : iblk m c 4 t (ix2 r d) = argQ m c (ix2 (row t r) d) := by
  blk_point [iblk, V, idx t, row]
theorem b5_at (r : Fin 128) (d : Fin 256) : iblk m c 5 t (ix2 r d) = argQ m c (ix2 (next t r) d) := by
  blk_point [iblk, V, idx t, next]
theorem entry_r : V m c main_v0 = argR m c := by
  simp only [V]
  after_reads_simp
  rfl

/-- Rows 128 to 512 of a tile. -/
theorem ld_at (X : FVec Ideal S512x256 .bf16) (r : Fin 384) (j : Fin 256) :
    (View.ld (Val := Elt Ideal) (S := S512x256) (e' := .bf16) X (Rect.unit ![128, 0] ![384, 256] inb_S512x256_S384x256_128_0) : FVec Ideal S384x256 .bf16) (ix2 r j) = X (ix2 ⟨128 + r.val, by omega⟩ j) := by
  pointwise []

theorem tile (D P : FVec Ideal S8192x256 .bf16) (d : EReal) (N : FVec Ideal S128x256 .bf16) (X : FVec Ideal S384x256 .bf16) (r : Fin 512) (j : Fin 256)
    (hd : d = D (ix2 (row t r) j)) (hX : ∀ r, X (ix2 r j) = P (ix2 (row t ⟨128 + r.val, by omega⟩) j)) (hN : ∀ r, N (ix2 r j) = P (ix2 (next t r) j)) :
    (d + if h : r.val < 384 then X (ix2 ⟨r.val, h⟩ j) else k0_pay1 (F := Ideal) (grid0.coords t) * N (ix2 ⟨r.val - 384, by omega⟩ j)) = both D P (row t r) j := by
  have := tN t
  rw [hd, keep_at]
  refine congrArg (_ + ·) ?_
  by_cases h : r.val < 384
  · rw [dif_pos h, dif_pos (show (row t r).val + 128 < 8192 by dsimp only [row]; omega), hX]
    exact congrArg (fun s => P (ix2 s j)) (Fin.ext (by dsimp only [row]; omega))
  · rw [dif_neg h, hN]
    by_cases h15 : t.val = 15
    · rw [if_pos h15, zero_mul, dif_neg (show ¬((row t r).val + 128 < 8192) by dsimp only [row]; omega)]
    · rw [if_neg h15, one_mul, dif_pos (show (row t r).val + 128 < 8192 by dsimp only [row]; omega)]
      exact congrArg (fun s => P (ix2 s j)) (Fin.ext (by dsimp only [row, next]; omega))

theorem joined_k (D P E Q : FVec Ideal S8192x256 .bf16) (R : FVec Ideal S8192x6656 .bf16) (s s' : Fin 8192) (d : Fin 256) (j : Fin 6656) (es : s' = s) (ej : j.val = 4096 + d.val) :
    both D P s d = joined D P E Q R s' j := by
  subst es
  rw [joined, dif_pos (by omega)]
  exact congrArg _ (Fin.ext (by show d.val = j.val - 4096; omega))
theorem joined_v (D P E Q : FVec Ideal S8192x256 .bf16) (R : FVec Ideal S8192x6656 .bf16) (s s' : Fin 8192) (d : Fin 256) (j : Fin 6656) (es : s' = s) (ej : j.val = 4352 + d.val) :
    both E Q s d = joined D P E Q R s' j := by
  subst es
  rw [joined, dif_neg (by omega), dif_pos (by omega)]
  exact congrArg _ (Fin.ext (by show d.val = j.val - 4352; omega))
theorem joined_r (D P E Q : FVec Ideal S8192x256 .bf16) (R : FVec Ideal S8192x6656 .bf16) (i : S8192x6656.Idx) (h : ¬(4096 ≤ (i 1).val ∧ (i 1).val < 4608)) :
    R i = joined D P E Q R (i 0) (i 1) := by
  refine Eq.trans (b := R (ix2 (i 0) (i 1))) (congrArg R (by funext a; fin_cases a <;> rfl)) ?_
  unfold joined
  rw [dif_neg (fun a => h ⟨a.1, by omega⟩), dif_neg (fun a => h ⟨by omega, a.2⟩)]

/-- The whole result. -/
def dkv (s : Fin 8192) (j : Fin 6656) : EReal := joined (argD m c) (argP m c) (argE m c) (argQ m c) (argR m c) s j

theorem out_at (y : S512x512.Idx) : outsAt0 m c t y = dkv m c (row t (y 0)) ⟨4096 + (y 1).val, by have : (y 1).val < 512 := (y 1).isLt; omega⟩ := by
  unfold outsAt0
  frame_out
  canon_tiles x h
  case piece0 =>
    idx_vars x
    refine ((pay3_at _ _ _ _ x0 x1).trans (tile t (argE m c) (argQ m c) _ _ _ x0 x1 (b3_at m c t x0 x1) (fun r => (ld_at _ r x1).trans (b4_at m c t _ x1)) fun r => b5_at m c t r x1)).trans ?_
    exact joined_v _ _ _ _ _ _ _ x1 _ (congrArg (row t) (Fin.ext h0)) (by show 4096 + (y 1).val = 4352 + x1.val; omega)
  case piece1 =>
    idx_vars x
    refine ((pay2_at _ _ _ _ x0 x1).trans (tile t (argD m c) (argP m c) _ _ _ x0 x1 (b0_at m c t x0 x1) (fun r => (ld_at _ r x1).trans (b1_at m c t _ x1)) fun r => b2_at m c t r x1)).trans ?_
    exact joined_k _ _ _ _ _ _ _ x1 _ (congrArg (row t) (Fin.ext h0)) (by show 4096 + (y 1).val = 4096 + x1.val; omega)

theorem final6 : (dats m 0 c).arrAt 6 cfg0.N = fun i => dkv m c (i 0) (i 1) := by
  refine (dats m 0 c).arrAt_eq_of_coversWhere_of_agree 6 _ (fun β => β 1 = 8) (by decide +kernel) (fun t hf y => ?_) (fun j hj => ?_)
  · rw [after0_6]
    idx_vars y
    refine (out_at m c t _).trans (congrArg₂ (dkv m c) (Fin.ext ?_) (Fin.ext ?_))
    · refine Eq.trans (b := 512 * t.val + y0.val) rfl ?_
      blk_simp [idx t]
      omega
    · refine Eq.trans (b := 4096 + y1.val) rfl ?_
      blk_simp [idx t]
  · rw [A_eq]
    refine Eq.trans (congrFun (entry_r m c) _) (joined_r _ _ _ _ _ _ ?_)
    blk_simp [Pipeline.Window.cell_apply] at hj ⊢
    omega

end Cert.KernelDkvIdeal.Value

end
-- ==== Proof.Dkv.Reference.lean ====
module

public import Idealize.ShloMosaic.Lib.Pointwise
public import proofs.«01_k».proof.Proof.Dkv.Final
public import proofs.«01_k».proof.Proof.Gen.ReferenceDkvIdeal.Read

@[expose] public section

set_option maxRecDepth 16384

noncomputable section

namespace Cert.ReferenceDkvIdeal.Value

open Cert.ReferenceDkvIdeal Cert.ReferenceDkvIdeal.Gen Idealize.ShloMosaic Idealize.ShloMosaic.TcCoe Idealize.SL.Sem
open Cert.Attn Cert.ReferenceDkvIdeal.Read

variable (x0 x1 x2 x3 : FVec Ideal S8192x256 .bf16) (x4 : FVec Ideal S8192x6656 .bf16) (s : Fin 8192) (d : Fin 256)

/-- The block and the row in it, together the row. -/
theorem both_blocks (D P : FVec Ideal S8192x256 .bf16) :
    (D (ix2 s d) + if h : s.val / 128 < 63 ∧ s.val % 128 < 128 then P (ix2 ⟨(1 + s.val / 128) * 128 + s.val % 128, by omega⟩ d) else 0) = both D P s d := by
  unfold both
  refine congrArg (_ + ·) ?_
  by_cases h : s.val + 128 < 8192
  · rw [dif_pos h, dif_pos (show s.val / 128 < 63 ∧ s.val % 128 < 128 by omega)]
    exact congrArg (fun a => P (ix2 a d)) (Fin.ext (by dsimp only; omega))
  · rw [dif_neg h, dif_neg (by omega)]

theorem v14_at : val_main_v14 (F := Ideal) x0 x1 (ix2 s d) = both x0 x1 s d := by
  pointwise [val_main_v14, val_main_v13, val_main_v12, val_main_v11, val_main_v9, val_main_v8, val_main_v7, val_main_v6, val_main_cst_2]
  exact both_blocks s d x0 x1
theorem v28_at : val_main_v28 (F := Ideal) x2 x3 (ix2 s d) = both x2 x3 s d := by
  pointwise [val_main_v28, val_main_v27, val_main_v26, val_main_v25, val_main_v23, val_main_v22, val_main_v21, val_main_v20, val_main_cst_5]
  exact both_blocks s d x2 x3
theorem v34_at (j : Fin 6656) : val_main_v34 (F := Ideal) x0 x1 x2 x3 x4 (ix2 s j) = joined x0 x1 x2 x3 x4 s j := by
  pointwise [val_main_v34, val_main_v33, val_main_v32, val_main_v31, val_main_v30, val_main_v29]
  unfold joined
  by_cases h : j.val < 4096
  · rw [dif_pos h, dif_neg (by omega), dif_neg (by omega)]
  · rw [dif_neg h]
    by_cases h1 : j.val < 4352
    · rw [dif_pos (by omega), dif_pos (by omega), v14_at]
    · rw [dif_neg (by omega), dif_neg (show ¬(4096 ≤ j.val ∧ j.val < 4352) by omega)]
      by_cases h2 : j.val < 4608
      · rw [dif_pos (by omega), dif_pos (by omega), v28_at]
        exact congrArg (both x2 x3 s) (Fin.ext (by dsimp only; omega))
      · rw [dif_neg (by omega), dif_neg (by omega)]
        exact congrArg (fun a => x4 (ix2 s a)) (Fin.ext (by dsimp only; omega))

end Cert.ReferenceDkvIdeal.Value

end
-- ==== Proof.Atb.Tile.lean ====
module

public import Idealize.ShloMosaic.Lib.Pointwise
public import proofs.«01_k».proof.Proof.Attn.Sub
public import proofs.«01_k».proof.Proof.Gen.KernelAtbIdeal.Value

@[expose] public section

set_option maxRecDepth 16384

noncomputable section

namespace Cert.KernelAtbIdeal.Value

open Cert.KernelAtbIdeal Cert.KernelAtbIdeal.Gen Idealize.ShloMosaic Idealize.ShloMosaic.TcCoe Idealize.SL.Sem
open Cert.Norm Cert.Attn
open Cert.KernelAttIdeal.Value (Bf128 F128 F512 Bf512 Bf256 FS rot msk two nt band m128 row ln nt_at two_at band_at rot_ln msk_ln sum_ln sum_half grp qr qsT qbT qsT_at qb_at biasT)

/-! One sub-block of the gradient of the values: the tiles and their elements. -/

abbrev F256 := FVec Ideal S256x128 .f32

/-- Four heads' rows, stacked. -/
def cat4 (x : Fin 4 → F128) : F512 :=
  concatenate S512x128 0 [⟨S128x128, x 0⟩, ⟨S128x128, x 1⟩, ⟨S128x128, x 2⟩, ⟨S128x128, x 3⟩] concatenates_S128x128_S128x128_S128x128_S128x128_S512x128_d0
/-- A group's four heads of the two chunks `A` and `B`, each moved to the group's half of the lanes, zeros in the other. -/
def stk : Fin 2 → F128 → F128 → Fin 4 → F128
  | 0, A, B, 0 => msk (m128 0) A
  | 0, A, B, 1 => msk (m128 0) (rot A)
  | 0, A, B, 2 => msk (m128 0) B
  | 0, A, B, 3 => msk (m128 0) (rot B)
  | 1, A, B, 0 => msk (m128 1) (rot A)
  | 1, A, B, 1 => msk (m128 1) A
  | 1, A, B, 2 => msk (m128 1) (rot B)
  | 1, A, B, 3 => msk (m128 1) B
/-- The product of the transposed probabilities. -/
def tn (p : FS) (x : F512) : F256 :=
  matmul dot_S512x256_S512x128_S256x128_0_0_1_1_n_n none (truncf .bf16 p bitsLt_bf16_f32) (truncf .bf16 x bitsLt_bf16_f32) (constant S256x128 .f32 0x00000000#32)
def upper (x : F256) : F128 := extractStridedSlice S128x128 ![0, 0] x slices_S256x128_o0_0_S128x128
def lower (x : F256) : F128 := extractStridedSlice S128x128 ![128, 0] x slices_S256x128_o128_0_S128x128
def wide2 (a b : F128) : FVec Ideal S128x256 .bf16 :=
  truncf .bf16 (concatenate S128x256 1 [⟨S128x128, a⟩, ⟨S128x128, b⟩] concatenates_S128x128_S128x128_S128x256_d1) bitsLt_bf16_f32

/-- What a sub-block loads for it: the previous and own rows of `k`, the mask, the stacked queries, the saved logarithms, the gradient of the output. -/
structure Grads where
  kp : Fin 2 → Bf128
  kc : Fin 2 → Bf128
  bias : FVec Ideal S1x512x256 .f32
  qs : Fin 2 → Fin 2 → FVec Ideal S1x512x128 .bf16
  lse : Fin 2 → Fin 2 → FVec Ideal S1x512x128 .f32
  dO : Fin 2 → Fin 2 → Fin 2 → Bf128

namespace Grads
variable (T : Grads) (c b : Fin 2)
def kb : Bf256 := band (T.kp c) (T.kc c)
def s : FS := addf (nt (shapeCast S512x128 (T.qs c b) shapeCasts_S1x512x128_S512x128) (T.kb c)) (shapeCast S512x256 T.bias shapeCasts_S1x512x256_S512x256)
def p : FS := exp (subf (T.s c b) (two (shapeCast S512x128 (T.lse c b) shapeCasts_S1x512x128_S512x128)))
def dos : F512 := cat4 (stk b (extf .f32 (T.dO c b 0) bitsLt_bf16_f32) (extf .f32 (T.dO c b 1) bitsLt_bf16_f32))
def dvg : F256 := tn (T.p c b) (T.dos c b)
def dvr : F256 := addf (T.dvg c 0) (T.dvg c 1)
def dvp : FVec Ideal S128x256 .bf16 := wide2 (upper (T.dvr 0)) (upper (T.dvr 1))
def dvc : FVec Ideal S128x256 .bf16 := wide2 (lower (T.dvr 0)) (lower (T.dvr 1))
end Grads

theorem cat4_at (x : Fin 4 → F128) (h : Fin 4) (r l : Fin 128) : cat4 x (ix2 (row h r) l) = x h (ix2 r l) := by
  unfold row
  fin_cases h <;> pointwise [cat4]
  · rw [dif_neg (by omega), dif_neg (by omega), dif_pos (by omega)]
    exact congrArg (x 2) (congrArg (fun z => ix2 z l) (Fin.ext (by dsimp only; omega)))
  · rw [dif_neg (by omega), dif_neg (by omega), dif_neg (by omega)]
    exact congrArg (x 3) (congrArg (fun z => ix2 z l) (Fin.ext (by dsimp only; omega)))
theorem stk_at (b f : Fin 2) (A : Fin 2 → F128) (e e' : Fin 2) (r : Fin 128) (d : Fin 64) :
    stk b (A 0) (A 1) ⟨2 * e.val + e'.val, by omega⟩ (ix2 r (ln f d)) = if f = b then A e (ix2 r (ln e' d)) else 0 := by
  fin_cases b <;> fin_cases e <;> fin_cases e'
  · exact msk_ln 0 f (A 0) r d
  · exact (msk_ln 0 f (rot (A 0)) r d).trans (by rw [rot_ln]; rfl)
  · exact msk_ln 0 f (A 1) r d
  · exact (msk_ln 0 f (rot (A 1)) r d).trans (by rw [rot_ln]; rfl)
  · exact (msk_ln 1 f (rot (A 0)) r d).trans (by rw [rot_ln]; rfl)
  · exact msk_ln 1 f (A 0) r d
  · exact (msk_ln 1 f (rot (A 1)) r d).trans (by rw [rot_ln]; rfl)
  · exact msk_ln 1 f (A 1) r d
theorem sum_row (f : Fin 512 → EReal) : ∑ i : Fin 512, f i = ∑ h : Fin 4, ∑ r : Fin 128, f (row h r) := by
  refine (Fintype.sum_equiv (finProdFinEquiv (m := 4) (n := 128)).symm f (fun x => f (row x.1 x.2)) fun i => congrArg f ?_).trans (Fintype.sum_prod_type _)
  exact Fin.ext (by show i.val = 128 * (i.val / 128) + i.val % 128; omega)
theorem tn_at (p : FS) (x : F512) (j : Fin 256) (l : Fin 128) : tn p x (ix2 j l) = ∑ i : Fin 512, p (ix2 i j) * x (ix2 i l) := by
  pointwise [tn]
theorem upper_at (x : F256) (r l : Fin 128) : upper x (ix2 r l) = x (ix2 ⟨r.val, by omega⟩ l) := by
  pointwise [upper]
theorem lower_at (x : F256) (r l : Fin 128) : lower x (ix2 r l) = x (ix2 ⟨128 + r.val, by omega⟩ l) := by
  pointwise [lower]
theorem wide2_at (x : Fin 2 → F128) (k : Fin 2) (r l : Fin 128) : wide2 (x 0) (x 1) (ix2 r ⟨128 * k.val + l.val, by omega⟩) = x k (ix2 r l) := by
  fin_cases k <;> pointwise [wide2]
  all_goals exact congrArg (x _) (congrArg (ix2 r) (Fin.ext (by simp)))

namespace Grads
variable (T : Grads) (c b : Fin 2)
/-- A row of scores. -/
def sc (i : Fin 512) (j : Fin 256) : EReal := (∑ l : Fin 128, T.qs c b (ix3 0 i l) * T.kb c (ix2 j l)) + T.bias (ix3 0 i j)
theorem s_at (i : Fin 512) (j : Fin 256) : T.s c b (ix2 i j) = T.sc c b i j := by
  refine congrArg₂ (· + ·) ((nt_at _ _ i j).trans ?_) ?_
  · refine Finset.sum_congr rfl fun l _ => congrArg (· * _) ?_
    pointwise []
  · pointwise []
theorem p_at (i : Fin 512) (j : Fin 256) (y : EReal) (hy : ∀ l, T.lse c b (ix3 0 i l) = y) : T.p c b (ix2 i j) = Ideal.exp (T.sc c b i j - y) := by
  refine congrArg Ideal.exp (congrArg₂ (· - ·) (T.s_at c b i j) (two_at _ _ _ _ fun l => ?_))
  rw [← hy l]
  pointwise []
theorem dos_at (f e e' : Fin 2) (r : Fin 128) (d : Fin 64) (h : Fin 4) (hh : h.val = 2 * e.val + e'.val) :
    T.dos c b (ix2 (row h r) (ln f d)) = if f = b then T.dO c b e (ix2 r (ln e' d)) else 0 := by
  rw [show h = ⟨2 * e.val + e'.val, by omega⟩ from Fin.ext hh]
  exact (cat4_at _ _ r _).trans (stk_at b f (fun e => extf .f32 (T.dO c b e) bitsLt_bf16_f32) e e' r d)

/-- A column of the probabilities against a column of the output's gradient, over the group's four heads and the block's rows. -/
theorem dvr_at (L : Fin 4 → Fin 128 → EReal) (D : Fin 4 → Fin 128 → Fin 64 → EReal) (j : Fin 256) (d : Fin 64)
    (hL : ∀ h r l, T.lse c b (ix3 0 (row h r) l) = L h r)
    (hD : ∀ e e' : Fin 2, ∀ r d, T.dO c b e (ix2 r (ln e' d)) = D ⟨2 * e.val + e'.val, by omega⟩ r d) :
    T.dvr c (ix2 j (ln b d)) = ∑ h : Fin 4, ∑ r : Fin 128, Ideal.exp (T.sc c b (row h r) j - L h r) * D h r d := by
  have own : T.dvg c b (ix2 j (ln b d)) = ∑ h : Fin 4, ∑ r : Fin 128, Ideal.exp (T.sc c b (row h r) j - L h r) * D h r d := by
    refine (tn_at _ _ j _).trans ((sum_row _).trans (Finset.sum_congr rfl fun h _ => Finset.sum_congr rfl fun r _ => congrArg₂ (· * ·) (T.p_at c b _ j _ (hL h r)) ?_))
    rw [T.dos_at c b b ⟨h.val / 2, by omega⟩ ⟨h.val % 2, by omega⟩ r d h (by show h.val = 2 * (h.val / 2) + h.val % 2; omega), if_pos rfl, hD]
    exact congrArg (fun h => D h r d) (Fin.ext (by show 2 * (h.val / 2) + h.val % 2 = h.val; omega))
  have other : ∀ b', b ≠ b' → T.dvg c b' (ix2 j (ln b d)) = 0 := fun b' hb => by
    refine (tn_at _ _ j _).trans ((sum_row _).trans (Finset.sum_eq_zero fun h _ => Finset.sum_eq_zero fun r _ => ?_))
    rw [T.dos_at c b' b ⟨h.val / 2, by omega⟩ ⟨h.val % 2, by omega⟩ r d h (by show h.val = 2 * (h.val / 2) + h.val % 2; omega), if_neg hb, mul_zero]
  rw [← own]
  show T.dvg c 0 _ + T.dvg c 1 _ = _
  fin_cases b
  · exact (congrArg (_ + ·) (other 1 (by decide))).trans (add_zero _)
  · exact (congrArg (· + _) (other 0 (by decide))).trans (zero_add _)
theorem dvp_at (r : Fin 128) (d : Fin 64) (q : Fin 256) (hq : q.val = 128 * c.val + (64 * b.val + d.val)) : T.dvp (ix2 r q) = T.dvr c (ix2 ⟨r.val, by omega⟩ (ln b d)) := by
  rw [show q = ⟨128 * c.val + (ln b d).val, by have := (ln b d).isLt; omega⟩ from Fin.ext hq]
  exact (wide2_at (fun c => upper (T.dvr c)) c r _).trans (upper_at _ r _)
theorem dvc_at (r : Fin 128) (d : Fin 64) (q : Fin 256) (hq : q.val = 128 * c.val + (64 * b.val + d.val)) : T.dvc (ix2 r q) = T.dvr c (ix2 ⟨128 + r.val, by omega⟩ (ln b d)) := by
  rw [show q = ⟨128 * c.val + (ln b d).val, by have := (ln b d).isLt; omega⟩ from Fin.ext hq]
  exact (wide2_at (fun c => lower (T.dvr c)) c r _).trans (lower_at _ r _)
end Grads

end Cert.KernelAtbIdeal.Value

end
-- ==== Proof.Atb.Entry.lean ====
module

public import proofs.«01_k».proof.Proof.Atb.Tile
public import proofs.«01_k».proof.Proof.Gen.ReferenceAttIdeal.Read
public import Idealize.ShloMosaic.Lib.StableHlo.RunRead
public import Idealize.ShloMosaic.Lib.Pipeline.Frame

@[expose] public section

set_option maxRecDepth 16384

noncomputable section

namespace Cert.KernelAtbIdeal.Value

open Cert.KernelAtbIdeal Cert.KernelAtbIdeal.Gen Idealize.ShloMosaic Idealize.ShloMosaic.TcCoe Idealize.SL.Sem
open Cert.ReferenceAttIdeal (Read.val_main_v3 Read.val_main_v4 Read.val_main_v22 Read.val_main_v55 Read.val_main_v56 Read.val_main_v83)

/-! The logarithms the host saves are those of the forward reference. -/

section
variable (W : Valuation τ sig (Elt Ideal))

theorem zeros6 : StableHlo.upto hostOps0_6 W 10 (Proc.devRef .tc main_v46) = Read.val_main_v4 (F := Ideal) := by
  after_reads_simp
  rfl
theorem keys6 : StableHlo.upto hostOps0_6 W 10 (Proc.devRef .tc main_v45) = Read.val_main_v3 (F := Ideal) (W (Proc.devRef .tc main_arg1)) := by
  after_reads_simp
  rfl
theorem scores6 : StableHlo.after hostOps0_6 W (Proc.devRef .tc main_v64) = Read.val_main_v22 (F := Ideal) (W (Proc.devRef .tc main_arg0)) (W (Proc.devRef .tc main_arg1)) := by
  after_reads_simp
  refine congrArg₂ mulf (congrArg (transpose S1x64x4x4x128x256 [0, 1, 2, 5, 4, 3] · transposes_S1x64x4x256x128x4_S1x64x4x4x128x256_0_1_2_5_4_3)
    (congrArg₂ (Host.dotGeneral dot_S1x64x256x4x64_S1x64x128x4x4x64_S1x64x4x256x128x4_4_5_2_24_013_013 none) ?_ rfl)) rfl
  refine congrArg₂ (fun a b => concatenate S1x64x256x4x64 2 [⟨S1x64x128x4x64, a⟩, ⟨S1x64x128x4x64, b⟩] concatenates_S1x64x128x4x64_S1x64x128x4x64_S1x64x256x4x64_d2) ?_ ?_
  · after_reads_simp
    rw [zeros6, keys6]
    rfl
  · after_reads_simp
    rw [zeros6, keys6]
    rfl
theorem mask6 : StableHlo.after hostOps0_6 W (Proc.devRef .tc main_v97) = Read.val_main_v55 (F := Ideal) := by
  after_reads_simp
  rfl
theorem inf6 : StableHlo.after hostOps0_6 W (Proc.devRef .tc main_cst_16) = constant (F := Ideal) S_ .f32 0xFF800000#32 := by
  after_reads_simp
theorem masked7 (q k) (h : W (Proc.devRef .tc main_v64) = Read.val_main_v22 (F := Ideal) q k) (h' : W (Proc.devRef .tc main_v97) = Read.val_main_v55 (F := Ideal))
    (h'' : W (Proc.devRef .tc main_cst_16) = constant (F := Ideal) S_ .f32 0xFF800000#32) :
    StableHlo.after hostOps0_7 W (Proc.devRef .tc main_v98) = Read.val_main_v56 (F := Ideal) q k := by
  after_reads_simp
  simp only [StableHlo.TRef.ofBuf_toBuf, h, h', h'']
  rfl
theorem log8 (q k z) (h : W (Proc.devRef .tc main_v98) = Read.val_main_v56 (F := Ideal) q k) (h' : W (Proc.devRef .tc main_arg3) = z) :
    StableHlo.after hostOps0_8 W (Proc.devRef .tc main_v125) = Read.val_main_v83 (F := Ideal) q k z := by
  after_reads_simp
  simp only [h, h']
  rfl
variable (m : (ℓ : Loc nD τ sig) → Buf (Elt Ideal) ℓ) (c : Dev nD)
theorem V_flat (b : Ref sig .tc) : V m c b = StableHlo.after hostOps0_8 (StableHlo.after hostOps0_7 (StableHlo.after hostOps0_6
    (StableHlo.after (List.flatten [hostOps0, hostOps0_1, hostOps0_2, hostOps0_3, hostOps0_4, hostOps0_5]) (fun b => m (c, b))))) (Proc.devRef .tc b) := by
  simp only [V, List.flatten_cons, List.flatten_nil, List.append_nil, StableHlo.after_append]
theorem entry_l : V m c main_v125 = Read.val_main_v83 (F := Ideal) (m ((c : Thread nD τ).loc main_arg0)) (m ((c : Thread nD τ).loc main_arg1)) (m ((c : Thread nD τ).loc main_arg3)) := by
  rw [V_flat]
  refine log8 _ _ _ _ (masked7 _ _ _ ((scores6 _).trans (congrArg₂ Read.val_main_v22 ?_ ?_)) (mask6 _) (inf6 _)) ?_
  · after_reads_simp
  · after_reads_simp
  · simp only [← StableHlo.after_append]
    after_reads_simp
end

end Cert.KernelAtbIdeal.Value

end
-- ==== Proof.Atb.Blocks.lean ====
module

public import Idealize.ShloMosaic.Lib.Pointwise
public import proofs.«01_k».proof.Proof.Atb.Entry
public import proofs.«01_k».proof.Proof.Attn.Reference
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.KernelAtbIdeal.Value

open Cert.KernelAtbIdeal Cert.KernelAtbIdeal.Gen Idealize.ShloMosaic Idealize.ShloMosaic.TcCoe Idealize.SL.Sem
open Cert.Norm Cert.Attn
open Idealize.ShloMosaic.Pipeline (Dat)
open Cert.KernelAttIdeal.Value (Bf128 row ln grp qr qsT qbT qsT_at qb_at biasT bias0_at bias1_at band_at sum_half ib2)
variable (m : (ℓ : Loc nD τ sig) → Buf (Elt Ideal) ℓ) (c : Dev nD) (t : Fin cfg0.N)

/-! What the host hands the call: the stacked queries and the masks as to the forward call, and the logarithms its lines save. -/

abbrev argQ : FVec Ideal S8192x1024 .bf16 := m ((c : Thread nD τ).loc main_arg0)
abbrev argK : FVec Ideal S8192x256 .bf16 := m ((c : Thread nD τ).loc main_arg1)
abbrev argS : FVec Ideal S16 .f32 := m ((c : Thread nD τ).loc main_arg3)
abbrev argD : FVec Ideal S8192x1024 .bf16 := m ((c : Thread nD τ).loc main_arg4)

theorem entry_q : V m c main_v24 = qsT (qbT (argQ m c)) := by
  simp only [V]
  after_reads_simp
  rfl
theorem entry_b : V m c main_v41 = biasT := by
  simp only [V]
  after_reads_simp
  refine congrArg₂ (fun a b => concatenate S2x512x256 0 [⟨S1x512x256, a⟩, ⟨S1x512x256, b⟩] concatenates_S1x512x256_S1x512x256_S2x512x256_d0) ?_ ?_
  · after_reads_simp
    simp only [StableHlo.TRef.ofBuf_toBuf]
    rfl
  · after_reads_simp
    simp only [StableHlo.TRef.ofBuf_toBuf]
    rfl

/-! What the windows hold at grid point `t`. -/

theorem idx : ∀ t : Fin grid0.N, win0_0.index t = ![0, t.val, 0] ∧ win0_1.index t = ![t.val, 0] ∧ win0_2.index t = ![4 * t.val - 1, 0]
    ∧ win0_5.index t = ![0, 0, 0] ∧ win0_7.index t = ![0, t.val, 0] ∧ win0_9.index t = ![t.val, 0]
    ∧ win0_17.index t = ![t.val, 0] ∧ win0_18.index t = ![t.val, 0] := by decide +kernel
theorem off1 : ∀ t : Fin grid0.N, k0_off1 (grid0.coords t) = ![if t.val = 0 then 0 else 1, 0, 0] := by decide +kernel

/-- The arguments' entries. -/
abbrev aQ (a : Fin 8192) (b : Fin 1024) : EReal := argQ m c (ix2 a b)
abbrev aK (a : Fin 8192) (b : Fin 256) : EReal := argK m c (ix2 a b)
abbrev aZ (a : Fin 16) : EReal := argS m c (ix1 a)
abbrev aD (a : Fin 8192) (b : Fin 1024) : EReal := argD m c (ix2 a b)
/-- The logarithm the host saves for head `h` of group `g`, row `r` of block `n`. -/
abbrev aL (n : Fin 64) (g h : Fin 4) (r : Fin 128) : EReal := lseR (aQ m c) (aK m c) (aZ m c) n g h r

theorem lT (t : Fin cfg0.N) : t.val < 16 := t.isLt
theorem w0_at (g : Fin 4) (p : Fin 2048) (l : Fin 128) : iblk m c 0 t (ix3 g p l) = qsT (qbT (argQ m c)) (ix3 g ⟨2048 * t.val + p.val, by have := lT t; omega⟩ l) := by
  refine Eq.trans (b := V m c main_v24 (ix3 g ⟨2048 * t.val + p.val, by have := lT t; omega⟩ l)) ?_ (congrFun (entry_q m c) _)
  blk_point [iblk, idx t]
theorem w1_at (p : Fin 512) (q : Fin 256) : iblk m c 1 t (ix2 p q) = aK m c ⟨512 * t.val + p.val, by have := lT t; omega⟩ q := by
  blk_point [iblk, V, idx t]
theorem w2_at (p : Fin 128) (q : Fin 256) : iblk m c 2 t (ix2 p q) = aK m c ⟨128 * (4 * t.val - 1) + p.val, by have := lT t; omega⟩ q := by
  blk_point [iblk, V, idx t]
theorem w5_at (e : Fin 2) (p : Fin 512) (q : Fin 256) : iblk m c 5 t (ix3 e p q) = biasT (ix3 e p q) := by
  refine Eq.trans (b := V m c main_v41 (ix3 e p q)) ?_ (congrFun (entry_b m c) _)
  blk_point [iblk, idx t]
theorem w7_read (X : (b : Ref sig .tc) → Buf (Elt Ideal) ((c : Thread nD τ).loc b)) (g : Fin 4) (p : Fin 2048) (l : Fin 128) :
    ((cfg0.win 7).blk t).view.read (Elt Ideal) (X (Pipeline.arrRef spec0 7)) (ix3 g p l) = X main_v125 (ix3 g ⟨2048 * t.val + p.val, by have := lT t; omega⟩ l) := by
  blk_point [idx t]
theorem w7_at (g : Fin 4) (p : Fin 2048) (l : Fin 128) :
    iblk m c 7 t (ix3 g p l) = Cert.ReferenceAttIdeal.Read.val_main_v83 (F := Ideal) (argQ m c) (argK m c) (argS m c) (ix3 g ⟨2048 * t.val + p.val, by have := lT t; omega⟩ l) := by
  refine Eq.trans (w7_read c t (V m c) g p l) ?_
  rw [entry_l]
theorem w9_at (p : Fin 512) (q : Fin 1024) : iblk m c 9 t (ix2 p q) = aD m c ⟨512 * t.val + p.val, by have := lT t; omega⟩ q := by
  blk_point [iblk, V, idx t]

end Cert.KernelAtbIdeal.Value

end
-- ==== Proof.Atb.Sub.lean ====
module

public import Idealize.ShloMosaic.Lib.Pointwise
public import proofs.«01_k».proof.Proof.Atb.Blocks
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.KernelAtbIdeal.Value

open Cert.KernelAtbIdeal Cert.KernelAtbIdeal.Gen Idealize.ShloMosaic Idealize.ShloMosaic.TcCoe Idealize.SL.Sem
open Cert.Norm Cert.Attn
open Idealize.ShloMosaic.Pipeline (Dat)
open Cert.KernelAttIdeal.Value (Bf128 row ln grp qr qsT qbT qsT_at qb_at biasT bias0_at bias1_at band_at sum_half ib2 ib3)
variable (m : (ℓ : Loc nD τ sig) → Buf (Elt Ideal) ℓ) (c : Dev nD) (t : Fin cfg0.N)

/-- What sub-block `s` loads: its own rows of each window, and the previous block's and the mask given. -/
def tile (s : ℕ) (hs : s < 4) (kp : Fin 2 → Bf128) (bias : FVec Ideal S1x512x256 .f32) : Grads where
  kp := kp
  kc k := View.ld (Val := Elt Ideal) (S := S512x256) (e' := .bf16) (iblk m c 1 t) (Rect.unit ![128 * s, 128 * k.val] ![128, 128] (ib2 (by omega) (by omega)))
  bias := bias
  qs k b := View.ld (Val := Elt Ideal) (S := S4x2048x128) (e' := .bf16) (iblk m c 0 t) (Rect.unit ![2 * k.val + b.val, 512 * s, 0] ![1, 512, 128] (ib3 (by omega) hs))
  lse k b := View.ld (Val := Elt Ideal) (S := S4x2048x128) (e' := .f32) (iblk m c 7 t) (Rect.unit ![2 * k.val + b.val, 512 * s, 0] ![1, 512, 128] (ib3 (by omega) hs))
  dO k b e := View.ld (Val := Elt Ideal) (S := S512x1024) (e' := .bf16) (iblk m c 9 t) (Rect.unit ![128 * s, 128 * (4 * k.val + 2 * b.val + e.val)] ![128, 128] (ib2 (by omega) (by omega)))
/-- The first sub-block reads the previous block by a window of its own, the later ones from the rows above their own. -/
def tile0 : Grads := tile m c t 0 (by omega)
  (fun k => View.ld (Val := Elt Ideal) (S := S128x256) (e' := .bf16) (iblk m c 2 t) (Rect.unit ![0, 128 * k.val] ![128, 128] (ib2 (by omega) (by omega))))
  (View.ld (Val := Elt Ideal) (S := S2x512x256) (e' := .f32) (iblk m c 5 t) (Rect.unit (k0_off1 (grid0.coords t)) ![1, 512, 256] (k0_off1_inb (grid0.coords t))))
def tileS (s : ℕ) (hs : s < 3) : Grads := tile m c t (s + 1) (by omega)
  (fun k => View.ld (Val := Elt Ideal) (S := S512x256) (e' := .bf16) (iblk m c 1 t) (Rect.unit ![128 * s, 128 * k.val] ![128, 128] (ib2 (by omega) (by omega))))
  (View.ld (Val := Elt Ideal) (S := S2x512x256) (e' := .f32) (iblk m c 5 t) (Rect.unit ![1, 0, 0] ![1, 512, 256] inb_S2x512x256_S1x512x256_1_0_0))

/-- A column of the gradient of the values at place `j` of block `n`'s band: the probabilities that column takes in the block's rows, against their gradients. -/
def dvE (n : Fin 64) (j : Fin 256) (g : Fin 4) (d : Fin 64) : EReal :=
  ∑ h : Fin 4, ∑ r : Fin 128, Ideal.exp (scK (aQ m c) (aK m c) n g h r j - aL m c n g h r) * aD m c (qrow n r) (qcol g h d)

/-- The loads `T` are those of block `n`. -/
structure Holds (T : Grads) (n : Fin 64) : Prop where
  kp : ∀ k r l, T.kp k (ix2 r l) = aK m c ⟨128 * (n.val - 1) + r.val, by omega⟩ ⟨128 * k.val + l.val, by omega⟩
  kc : ∀ k r l, T.kc k (ix2 r l) = aK m c ⟨128 * n.val + r.val, by omega⟩ ⟨128 * k.val + l.val, by omega⟩
  bias : ∀ h r j, T.bias (ix3 0 (row h r) j) = if ok n r j then 0 else ⊥
  qs : ∀ k b h r l, T.qs k b (ix3 0 (row h r) l) = qsT (qbT (argQ m c)) (ix3 (grp k b) (qr n h r) l)
  lse : ∀ k b h r l, T.lse k b (ix3 0 (row h r) l) = aL m c n (grp k b) h r
  dO : ∀ k b e r l, T.dO k b e (ix2 r l) = aD m c (qrow n r) ⟨128 * (4 * k.val + 2 * b.val + e.val) + l.val, by omega⟩

namespace Holds
variable {m c} {T : Grads} {n : Fin 64} (H : Holds m c T n) (k b : Fin 2)
include H
theorem kb_at (j : Fin 256) (d : Fin 64) : T.kb k (ix2 j (ln b d)) = aK m c (key n j) (kcol (grp k b) d) := by
  refine (band_at _ _ _ _).trans ?_
  by_cases hj : j.val < 128
  · rw [dif_pos hj, H.kp]
    exact congrArg₂ (aK m c) (Fin.ext (if_pos hj).symm) (Fin.ext (by show 128 * k.val + (64 * b.val + d.val) = 64 * (2 * k.val + b.val) + d.val; omega))
  · rw [dif_neg hj, H.kc]
    exact congrArg₂ (aK m c) (Fin.ext (if_neg hj).symm) (Fin.ext (by show 128 * k.val + (64 * b.val + d.val) = 64 * (2 * k.val + b.val) + d.val; omega))
theorem sc_at (h : Fin 4) (r : Fin 128) (j : Fin 256) : T.sc k b (row h r) j = scK (aQ m c) (aK m c) n (grp k b) h r j := by
  unfold Grads.sc scK
  rw [sum_half b _ _ (fun l => T.qs k b (ix3 0 (row h r) l)) (fun l => T.kb k (ix2 j l)) (fun f d => by rw [H.qs, qsT_at, qb_at]) (fun d => H.kb_at k b j d), H.bias]
  by_cases o : ok n r j
  · rw [if_pos o, if_pos o, add_zero]
  · rw [if_neg o, if_neg o, EReal.add_bot]
theorem dvr_at (j : Fin 256) (d : Fin 64) : T.dvr k (ix2 j (ln b d)) = dvE m c n j (grp k b) d := by
  refine (T.dvr_at k b _ (fun h r d => aD m c (qrow n r) (qcol (grp k b) h d)) j d (H.lse k b) fun e e' r d => ?_).trans ?_
  · rw [H.dO]
    exact congrArg (aD m c (qrow n r)) (Fin.ext (by
      show 128 * (4 * k.val + 2 * b.val + e.val) + (64 * e'.val + d.val) = 64 * (4 * (2 * k.val + b.val) + (2 * e.val + e'.val)) + d.val
      omega))
  · exact Finset.sum_congr rfl fun h _ => Finset.sum_congr rfl fun r _ => by rw [H.sc_at]
theorem dvp_at (r : Fin 128) (q : Fin 256) : T.dvp (ix2 r q) = dvE m c n ⟨r.val, by omega⟩ ⟨q.val / 64, by omega⟩ ⟨q.val % 64, by omega⟩ := by
  refine (T.dvp_at ⟨q.val / 128, by omega⟩ ⟨q.val / 64 % 2, by omega⟩ r ⟨q.val % 64, by omega⟩ q (by show q.val = 128 * (q.val / 128) + (64 * (q.val / 64 % 2) + q.val % 64); omega)).trans
    ((H.dvr_at _ _ _ _).trans ?_)
  exact congrArg (fun g => dvE m c n _ g _) (Fin.ext (by show 2 * (q.val / 128) + q.val / 64 % 2 = q.val / 64; omega))
theorem dvc_at (r : Fin 128) (q : Fin 256) : T.dvc (ix2 r q) = dvE m c n ⟨128 + r.val, by omega⟩ ⟨q.val / 64, by omega⟩ ⟨q.val % 64, by omega⟩ := by
  refine (T.dvc_at ⟨q.val / 128, by omega⟩ ⟨q.val / 64 % 2, by omega⟩ r ⟨q.val % 64, by omega⟩ q (by show q.val = 128 * (q.val / 128) + (64 * (q.val / 64 % 2) + q.val % 64); omega)).trans
    ((H.dvr_at _ _ _ _).trans ?_)
  exact congrArg (fun g => dvE m c n _ g _) (Fin.ext (by show 2 * (q.val / 128) + q.val / 64 % 2 = q.val / 64; omega))
end Holds

/-! The loads of the sub-blocks. -/

theorem ld1 (o p : ℕ) (h) (r l : Fin 128) : View.ld (Val := Elt Ideal) (S := S512x256) (e' := .bf16) (iblk m c 1 t) (Rect.unit ![o, p] ![128, 128] h) (ix2 r l)
    = aK m c ⟨512 * t.val + (o + r.val), by have : o + 128 ≤ 512 := h 0; have := lT t; omega⟩ ⟨p + l.val, by have : p + 128 ≤ 256 := h 1; omega⟩ := by
  refine Eq.trans (congrArg (iblk m c 1 t) ?_) (w1_at m c t ⟨o + r.val, by have : o + 128 ≤ 512 := h 0; omega⟩ ⟨p + l.val, by have : p + 128 ≤ 256 := h 1; omega⟩)
  funext a
  fin_cases a
  · exact Fin.ext (by show o + 1 * r.val = o + r.val; omega)
  · exact Fin.ext (by show p + 1 * l.val = p + l.val; omega)
theorem ld9 (o p : ℕ) (h) (r l : Fin 128) : View.ld (Val := Elt Ideal) (S := S512x1024) (e' := .bf16) (iblk m c 9 t) (Rect.unit ![o, p] ![128, 128] h) (ix2 r l)
    = aD m c ⟨512 * t.val + (o + r.val), by have : o + 128 ≤ 512 := h 0; have := lT t; omega⟩ ⟨p + l.val, by have : p + 128 ≤ 1024 := h 1; omega⟩ := by
  refine Eq.trans (congrArg (iblk m c 9 t) ?_) (w9_at m c t ⟨o + r.val, by have : o + 128 ≤ 512 := h 0; omega⟩ ⟨p + l.val, by have : p + 128 ≤ 1024 := h 1; omega⟩)
  funext a
  fin_cases a
  · exact Fin.ext (by show o + 1 * r.val = o + r.val; omega)
  · exact Fin.ext (by show p + 1 * l.val = p + l.val; omega)
theorem ld2 (p : ℕ) (h) (r l : Fin 128) : View.ld (Val := Elt Ideal) (S := S128x256) (e' := .bf16) (iblk m c 2 t) (Rect.unit ![0, p] ![128, 128] h) (ix2 r l)
    = aK m c ⟨128 * (4 * t.val - 1) + r.val, by have := lT t; omega⟩ ⟨p + l.val, by have : p + 128 ≤ 256 := h 1; omega⟩ := by
  refine Eq.trans (congrArg (iblk m c 2 t) ?_) (w2_at m c t r ⟨p + l.val, by have : p + 128 ≤ 256 := h 1; omega⟩)
  funext a
  fin_cases a
  · exact Fin.ext (by show 0 + 1 * r.val = r.val; omega)
  · exact Fin.ext (by show p + 1 * l.val = p + l.val; omega)
theorem ld5 (e : Fin 2) (v : Fin 3 → ℕ) (hv : v = ![e.val, 0, 0]) (h) (p : Fin 512) (q : Fin 256) :
    View.ld (Val := Elt Ideal) (S := S2x512x256) (e' := .f32) (iblk m c 5 t) (Rect.unit v ![1, 512, 256] h) (ix3 0 p q) = biasT (ix3 e p q) := by
  subst hv
  refine Eq.trans (congrArg (iblk m c 5 t) ?_) (w5_at m c t e p q)
  funext a
  fin_cases a
  · exact Fin.ext (by show e.val + 1 * 0 = e.val; omega)
  · exact Fin.ext (by show 0 + 1 * p.val = p.val; omega)
  · exact Fin.ext (by show 0 + 1 * q.val = q.val; omega)
theorem ld3 {e' : EltTy} (X : S4x2048x128.Idx → Elt Ideal e') (k b : Fin 2) (s : ℕ) (hs : s < 4) (h : Fin 4) (r l : Fin 128) :
    View.ld (Val := Elt Ideal) (S := S4x2048x128) (e' := e') X (Rect.unit ![2 * k.val + b.val, 512 * s, 0] ![1, 512, 128] (ib3 (by omega) hs)) (ix3 0 (row h r) l)
      = X (ix3 (grp k b) ⟨512 * s + (row h r).val, by omega⟩ l) := by
  refine congrArg X ?_
  funext a
  fin_cases a
  · exact Fin.ext (by show 2 * k.val + b.val + 1 * 0 = 2 * k.val + b.val; omega)
  · exact Fin.ext (by show 512 * s + 1 * (row h r).val = 512 * s + (row h r).val; omega)
  · exact Fin.ext (by show 0 + 1 * l.val = l.val; omega)

theorem aK_congr {a a' : Fin 8192} {b b' : Fin 256} (h : a.val = a'.val) (h' : b.val = b'.val) : aK m c a b = aK m c a' b' := congrArg₂ (aK m c) (Fin.ext h) (Fin.ext h')

/-- The block a sub-block computes. -/
def blk (s : ℕ) (hs : s < 4) : Fin 64 := ⟨4 * t.val + s, by have := lT t; omega⟩

theorem tile_qs (s : ℕ) (hs : s < 4) (kp : Fin 2 → Bf128) (bias : FVec Ideal S1x512x256 .f32) (k b : Fin 2) (h : Fin 4) (r l : Fin 128) :
    (tile m c t s hs kp bias).qs k b (ix3 0 (row h r) l) = qsT (qbT (argQ m c)) (ix3 (grp k b) (qr (blk t s hs) h r) l) := by
  refine (ld3 (iblk m c 0 t) k b s hs h r l).trans ((w0_at m c t (grp k b) ⟨512 * s + (row h r).val, by omega⟩ l).trans ?_)
  refine congrArg (fun z => qsT (qbT (argQ m c)) (ix3 (grp k b) z l)) (Fin.ext ?_)
  show 2048 * t.val + (512 * s + (128 * h.val + r.val)) = 512 * (4 * t.val + s) + 128 * h.val + r.val
  omega
theorem tile_lse (s : ℕ) (hs : s < 4) (kp : Fin 2 → Bf128) (bias : FVec Ideal S1x512x256 .f32) (k b : Fin 2) (h : Fin 4) (r l : Fin 128) :
    (tile m c t s hs kp bias).lse k b (ix3 0 (row h r) l) = aL m c (blk t s hs) (grp k b) h r := by
  refine (ld3 (iblk m c 7 t) k b s hs h r l).trans ((w7_at m c t (grp k b) ⟨512 * s + (row h r).val, by omega⟩ l).trans ?_)
  refine (Cert.ReferenceAttIdeal.Value.lse_at _ _ _ _ _ _).trans ?_
  have e1 : (⟨(2048 * t.val + (512 * s + (row h r).val)) / 512, by have := lT t; have := (row h r).isLt; omega⟩ : Fin 64) = blk t s hs :=
    Fin.ext (by show (2048 * t.val + (512 * s + (128 * h.val + r.val))) / 512 = 4 * t.val + s; omega)
  have e2 : (⟨(2048 * t.val + (512 * s + (row h r).val)) / 128 % 4, by omega⟩ : Fin 4) = h :=
    Fin.ext (by show (2048 * t.val + (512 * s + (128 * h.val + r.val))) / 128 % 4 = h.val; omega)
  have e3 : (⟨(2048 * t.val + (512 * s + (row h r).val)) % 128, by omega⟩ : Fin 128) = r :=
    Fin.ext (by show (2048 * t.val + (512 * s + (128 * h.val + r.val))) % 128 = r.val; omega)
  dsimp only
  rw [e1, e2, e3]

set_option maxHeartbeats 1000000 in
theorem tile_holds (s : ℕ) (hs : s < 4) (kp : Fin 2 → Bf128) (bias : FVec Ideal S1x512x256 .f32)
    (hk : ∀ k r l, kp k (ix2 r l) = aK m c ⟨128 * ((blk t s hs).val - 1) + r.val, by omega⟩ ⟨128 * k.val + l.val, by omega⟩)
    (hb : ∀ h r j, bias (ix3 0 (row h r) j) = if ok (blk t s hs) r j then 0 else ⊥) : Holds m c (tile m c t s hs kp bias) (blk t s hs) := by
  refine ⟨hk, fun k r l => ?_, hb, tile_qs m c t s hs kp bias, tile_lse m c t s hs kp bias, fun k b e r l => ?_⟩
  · refine (ld1 m c t _ _ _ r l).trans (aK_congr m c ?_ rfl)
    show 512 * t.val + (128 * s + r.val) = 128 * (4 * t.val + s) + r.val
    omega
  · refine (ld9 m c t _ _ _ r l).trans (congrArg₂ (aD m c) (Fin.ext ?_) rfl)
    show 512 * t.val + (128 * s + r.val) = 128 * (4 * t.val + s) + r.val
    omega

theorem holds0 : Holds m c (tile0 m c t) (blk t 0 (by omega)) := by
  refine tile_holds m c t 0 (by omega) _ _ (fun k r l => ?_) fun h r j => ?_
  · exact ld2 m c t _ _ r l
  · by_cases h0 : t.val = 0
    · refine (ld5 m c t 0 _ ((off1 t).trans (by rw [if_pos h0]; rfl)) _ _ _).trans ((bias0_at h r j).trans (if_congr ?_ rfl rfl))
      unfold ok
      refine and_congr_right fun _ => ⟨.inl, fun o => o.resolve_right ?_⟩
      show ¬0 < 4 * t.val + 0
      omega
    · refine (ld5 m c t 1 _ ((off1 t).trans (by rw [if_neg h0]; rfl)) _ _ _).trans ((bias1_at h r j).trans (if_congr ?_ rfl rfl))
      unfold ok
      refine ⟨fun o => ⟨o, .inr ?_⟩, fun o => o.1⟩
      show 0 < 4 * t.val + 0
      omega
theorem holdsS (s : ℕ) (hs : s < 3) : Holds m c (tileS m c t s hs) (blk t (s + 1) (by omega)) := by
  refine tile_holds m c t (s + 1) (by omega) _ _ (fun k r l => ?_) fun h r j => ?_
  · exact (ld1 m c t _ _ _ r l).trans (aK_congr m c (by show 512 * t.val + (128 * s + r.val) = 128 * (4 * t.val + (s + 1) - 1) + r.val; omega) rfl)
  · refine (ld5 m c t 1 _ rfl _ _ _).trans ((bias1_at h r j).trans (if_congr ?_ rfl rfl))
    unfold ok
    refine ⟨fun o => ⟨o, .inr ?_⟩, fun o => o.1⟩
    show 0 < 4 * t.val + (s + 1)
    omega

/-! The call's gradients of the values: each row from its own block, and from the block after it. -/

/-- The own part at row `a`, column `q`: place `128 + a % 128` of block `a / 128`'s band; the previous part: place `a % 128`. -/
def dvcE (a : Fin 8192) (q : Fin 256) : EReal := dvE m c ⟨a.val / 128, by omega⟩ ⟨128 + a.val % 128, by omega⟩ ⟨q.val / 64, by omega⟩ ⟨q.val % 64, by omega⟩
def dvpE (a : Fin 8192) (q : Fin 256) : EReal := dvE m c ⟨a.val / 128, by omega⟩ ⟨a.val % 128, by omega⟩ ⟨q.val / 64, by omega⟩ ⟨q.val % 64, by omega⟩

section
variable {m c} {T : Grads} {n : Fin 64} (H : Holds m c T n)
include H
theorem dvc_row (r : Fin 128) (q q' : Fin 256) (a : Fin 8192) (ha : a.val = 128 * n.val + r.val) (hq : q'.val = q.val) : T.dvc (ix2 r q) = dvcE m c a q' := by
  obtain rfl : q' = q := Fin.ext hq
  rw [H.dvc_at]
  unfold dvcE
  rw [show n = ⟨a.val / 128, by omega⟩ from Fin.ext (by show n.val = a.val / 128; omega)]
  exact congrArg (fun z => dvE m c _ z _ _) (Fin.ext (by show 128 + r.val = 128 + a.val % 128; omega))
theorem dvp_row (r : Fin 128) (q q' : Fin 256) (a : Fin 8192) (ha : a.val = 128 * n.val + r.val) (hq : q'.val = q.val) : T.dvp (ix2 r q) = dvpE m c a q' := by
  obtain rfl : q' = q := Fin.ext hq
  rw [H.dvp_at]
  unfold dvpE
  rw [show n = ⟨a.val / 128, by omega⟩ from Fin.ext (by show n.val = a.val / 128; omega)]
  exact congrArg (fun z => dvE m c _ z _ _) (Fin.ext (by show r.val = a.val % 128; omega))
end

end Cert.KernelAtbIdeal.Value

end
-- ==== Proof.Atb.Own.lean ====
module

public import Idealize.ShloMosaic.Lib.Pointwise
public import proofs.«01_k».proof.Proof.Atb.Sub
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.KernelAtbIdeal.Value

open Cert.KernelAtbIdeal Cert.KernelAtbIdeal.Gen Idealize.ShloMosaic Idealize.ShloMosaic.TcCoe Idealize.SL.Sem
open Cert.Norm Cert.Attn
open Idealize.ShloMosaic.Pipeline (Dat)
open Cert.KernelAttIdeal.Value (row ln nt two band msk rot zero128 m128)
variable (m : (ℓ : Loc nD τ sig) → Buf (Elt Ideal) ℓ) (c : Dev nD) (t : Fin cfg0.N)

/-! The gradient of the values from the rows' own blocks. -/

theorem dvc_at (y : S512x256.Idx) : (outsAt0 m c t.val t.isLt).2.2.2.1 y = dvcE m c ⟨512 * t.val + (y 0).val, by have := lT t; have : (y 0).val < 512 := (y 0).isLt; omega⟩ (y 1) := by
  by_cases h : t.val % 16 = 0
  · rw [outsAt0_A m c t h]
    frame_out
    clear h
    canon_tiles x h
    case' piece0 =>
      idx_vars x
      refine Eq.trans (congrFun (g := (tileS m c t 2 (by omega)).dvc) ?_ (ix2 x0 x1)) (dvc_row (holdsS m c t 2 (by omega)) x0 x1 _ _ (by show 512 * t.val + (y 0).val = 128 * (4 * t.val + 3) + x0.val; omega) (by omega))
    case' piece1 =>
      idx_vars x
      refine Eq.trans (congrFun (g := (tileS m c t 1 (by omega)).dvc) ?_ (ix2 x0 x1)) (dvc_row (holdsS m c t 1 (by omega)) x0 x1 _ _ (by show 512 * t.val + (y 0).val = 128 * (4 * t.val + 2) + x0.val; omega) (by omega))
    case' piece2 =>
      idx_vars x
      refine Eq.trans (congrFun (g := (tileS m c t 0 (by omega)).dvc) ?_ (ix2 x0 x1)) (dvc_row (holdsS m c t 0 (by omega)) x0 x1 _ _ (by show 512 * t.val + (y 0).val = 128 * (4 * t.val + 1) + x0.val; omega) (by omega))
    case' piece3 =>
      idx_vars x
      refine Eq.trans (congrFun (g := (tile0 m c t).dvc) ?_ (ix2 x0 x1)) (dvc_row (holds0 m c t) x0 x1 _ _ (by show 512 * t.val + (y 0).val = 128 * (4 * t.val + 0) + x0.val; omega) (by omega))
    all_goals
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, Grads.dvc, Grads.dvr, Grads.dvg, Grads.dos, Grads.p, Grads.s, Grads.kb, tile0, tileS, tile, wide2, lower, tn, stk, cat4, msk, rot, zero128, m128, nt, two, band]
      rfl
  · rw [outsAt0_B m c t h]
    frame_out
    clear h
    canon_tiles x h
    case' piece0 =>
      idx_vars x
      refine Eq.trans (congrFun (g := (tileS m c t 2 (by omega)).dvc) ?_ (ix2 x0 x1)) (dvc_row (holdsS m c t 2 (by omega)) x0 x1 _ _ (by show 512 * t.val + (y 0).val = 128 * (4 * t.val + 3) + x0.val; omega) (by omega))
    case' piece1 =>
      idx_vars x
      refine Eq.trans (congrFun (g := (tileS m c t 1 (by omega)).dvc) ?_ (ix2 x0 x1)) (dvc_row (holdsS m c t 1 (by omega)) x0 x1 _ _ (by show 512 * t.val + (y 0).val = 128 * (4 * t.val + 2) + x0.val; omega) (by omega))
    case' piece2 =>
      idx_vars x
      refine Eq.trans (congrFun (g := (tileS m c t 0 (by omega)).dvc) ?_ (ix2 x0 x1)) (dvc_row (holdsS m c t 0 (by omega)) x0 x1 _ _ (by show 512 * t.val + (y 0).val = 128 * (4 * t.val + 1) + x0.val; omega) (by omega))
    case' piece3 =>
      idx_vars x
      refine Eq.trans (congrFun (g := (tile0 m c t).dvc) ?_ (ix2 x0 x1)) (dvc_row (holds0 m c t) x0 x1 _ _ (by show 512 * t.val + (y 0).val = 128 * (4 * t.val + 0) + x0.val; omega) (by omega))
    all_goals
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, Grads.dvc, Grads.dvr, Grads.dvg, Grads.dos, Grads.p, Grads.s, Grads.kb, tile0, tileS, tile, wide2, lower, tn, stk, cat4, msk, rot, zero128, m128, nt, two, band]
      rfl

theorem final17 : (dats m 0 c).arrAt 17 cfg0.N = fun i => dvcE m c (i 0) (i 1) :=
  (dats m 0 c).arrAt_eq_of_covers 17 _ (by decide +kernel) (fun t hf y => by
    rw [after0_17]
    idx_vars y
    refine (dvc_at m c t _).trans (congrArg₂ (dvcE m c) (Fin.ext ?_) (Fin.ext ?_))
    · refine Eq.trans (b := 512 * t.val + y0.val) rfl ?_
      blk_simp [idx t]
      omega
    · refine Eq.trans (b := y1.val) rfl ?_
      blk_simp [idx t])

end Cert.KernelAtbIdeal.Value

end
-- ==== Proof.Atb.Previous.lean ====
module

public import Idealize.ShloMosaic.Lib.Pointwise
public import proofs.«01_k».proof.Proof.Atb.Sub
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.KernelAtbIdeal.Value

open Cert.KernelAtbIdeal Cert.KernelAtbIdeal.Gen Idealize.ShloMosaic Idealize.ShloMosaic.TcCoe Idealize.SL.Sem
open Cert.Norm Cert.Attn
open Idealize.ShloMosaic.Pipeline (Dat)
open Cert.KernelAttIdeal.Value (row ln nt two band msk rot zero128 m128)
variable (m : (ℓ : Loc nD τ sig) → Buf (Elt Ideal) ℓ) (c : Dev nD) (t : Fin cfg0.N)

/-! The gradient of the values from the blocks after the rows' own. -/

theorem dvp_at (y : S512x256.Idx) : (outsAt0 m c t.val t.isLt).2.2.2.2.1 y = dvpE m c ⟨512 * t.val + (y 0).val, by have := lT t; have : (y 0).val < 512 := (y 0).isLt; omega⟩ (y 1) := by
  by_cases h : t.val % 16 = 0
  · rw [outsAt0_A m c t h]
    frame_out
    clear h
    canon_tiles x h
    case' piece0 =>
      idx_vars x
      refine Eq.trans (congrFun (g := (tileS m c t 2 (by omega)).dvp) ?_ (ix2 x0 x1)) (dvp_row (holdsS m c t 2 (by omega)) x0 x1 _ _ (by show 512 * t.val + (y 0).val = 128 * (4 * t.val + 3) + x0.val; omega) (by omega))
    case' piece1 =>
      idx_vars x
      refine Eq.trans (congrFun (g := (tileS m c t 1 (by omega)).dvp) ?_ (ix2 x0 x1)) (dvp_row (holdsS m c t 1 (by omega)) x0 x1 _ _ (by show 512 * t.val + (y 0).val = 128 * (4 * t.val + 2) + x0.val; omega) (by omega))
    case' piece2 =>
      idx_vars x
      refine Eq.trans (congrFun (g := (tileS m c t 0 (by omega)).dvp) ?_ (ix2 x0 x1)) (dvp_row (holdsS m c t 0 (by omega)) x0 x1 _ _ (by show 512 * t.val + (y 0).val = 128 * (4 * t.val + 1) + x0.val; omega) (by omega))
    case' piece3 =>
      idx_vars x
      refine Eq.trans (congrFun (g := (tile0 m c t).dvp) ?_ (ix2 x0 x1)) (dvp_row (holds0 m c t) x0 x1 _ _ (by show 512 * t.val + (y 0).val = 128 * (4 * t.val + 0) + x0.val; omega) (by omega))
    all_goals
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, Grads.dvp, Grads.dvr, Grads.dvg, Grads.dos, Grads.p, Grads.s, Grads.kb, tile0, tileS, tile, wide2, upper, tn, stk, cat4, msk, rot, zero128, m128, nt, two, band]
      rfl
  · rw [outsAt0_B m c t h]
    frame_out
    clear h
    canon_tiles x h
    case' piece0 =>
      idx_vars x
      refine Eq.trans (congrFun (g := (tileS m c t 2 (by omega)).dvp) ?_ (ix2 x0 x1)) (dvp_row (holdsS m c t 2 (by omega)) x0 x1 _ _ (by show 512 * t.val + (y 0).val = 128 * (4 * t.val + 3) + x0.val; omega) (by omega))
    case' piece1 =>
      idx_vars x
      refine Eq.trans (congrFun (g := (tileS m c t 1 (by omega)).dvp) ?_ (ix2 x0 x1)) (dvp_row (holdsS m c t 1 (by omega)) x0 x1 _ _ (by show 512 * t.val + (y 0).val = 128 * (4 * t.val + 2) + x0.val; omega) (by omega))
    case' piece2 =>
      idx_vars x
      refine Eq.trans (congrFun (g := (tileS m c t 0 (by omega)).dvp) ?_ (ix2 x0 x1)) (dvp_row (holdsS m c t 0 (by omega)) x0 x1 _ _ (by show 512 * t.val + (y 0).val = 128 * (4 * t.val + 1) + x0.val; omega) (by omega))
    case' piece3 =>
      idx_vars x
      refine Eq.trans (congrFun (g := (tile0 m c t).dvp) ?_ (ix2 x0 x1)) (dvp_row (holds0 m c t) x0 x1 _ _ (by show 512 * t.val + (y 0).val = 128 * (4 * t.val + 0) + x0.val; omega) (by omega))
    all_goals
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, Grads.dvp, Grads.dvr, Grads.dvg, Grads.dos, Grads.p, Grads.s, Grads.kb, tile0, tileS, tile, wide2, upper, tn, stk, cat4, msk, rot, zero128, m128, nt, two, band]
      rfl

theorem final18 : (dats m 0 c).arrAt 18 cfg0.N = fun i => dvpE m c (i 0) (i 1) :=
  (dats m 0 c).arrAt_eq_of_covers 18 _ (by decide +kernel) (fun t hf y => by
    rw [after0_18]
    idx_vars y
    refine (dvp_at m c t _).trans (congrArg₂ (dvpE m c) (Fin.ext ?_) (Fin.ext ?_))
    · refine Eq.trans (b := 512 * t.val + y0.val) rfl ?_
      blk_simp [idx t]
      omega
    · refine Eq.trans (b := y1.val) rfl ?_
      blk_simp [idx t])

end Cert.KernelAtbIdeal.Value

end
-- ==== Proof.Atb.Row.lean ====
module

public import proofs.«01_k».proof.Proof.Attn.Row

@[expose] public section

noncomputable section

namespace Cert.Attn

open Idealize.ShloMosaic Cert.Norm

/-- A probability from the row's saved logarithm. -/
theorem exp_lse {sc : Fin 256 → EReal} {σ : EReal} (h : ∀ j, Score (sc j)) (hσ : Fin1 σ) (j : Fin 256) : Ideal.exp (sc j - lse sc σ) = pr sc σ j := by
  obtain ⟨R⟩ := reals h hσ
  have hl : lse sc σ = ((R.μ + Real.log R.d : ℝ) : EReal) := by rw [lse, R.hμ, R.hd, Ideal.log_coe, if_neg (not_le.2 R.pos), EReal.coe_add]
  rcases h j with hj | ⟨q, hj⟩
  · rw [pr_masked h hσ j hj, hj, EReal.bot_sub, Ideal.exp_bot]
  · rw [pr, R.he, R.hd, Ideal.div_coe R.pos.ne', ← EReal.coe_mul, R.hs j q hj, hj, hl, ← EReal.coe_sub, Ideal.exp_coe, ← sub_sub, Real.exp_sub, Real.exp_log R.pos,
      div_eq_mul_one_div]

variable (Q : Fin 8192 → Fin 1024 → EReal) (K : Fin 8192 → Fin 256 → EReal) (Z : Fin 16 → EReal) (D : Fin 8192 → Fin 1024 → EReal) (n : Fin 64) (j : Fin 256) (g : Fin 4) (d : Fin 64)

/-- The gradient of the values at place `j` of block `n`'s band, from the saved logarithms and from the probabilities. -/
def dvK : EReal := ∑ h : Fin 4, ∑ r : Fin 128, Ideal.exp (scK Q K n g h r j - lseR Q K Z n g h r) * D (qrow n r) (qcol g h d)
def dvR : EReal := ∑ h : Fin 4, ∑ r : Fin 128, D (qrow n r) (qcol g h d) * pr (scR Q K n g h r) (Z (head g h)) j

theorem dv_eq (hQ : ∀ a b, Fin1 (Q a b)) (hK : ∀ a b, Fin1 (K a b)) (hZ : ∀ a, Fin1 (Z a)) : dvK Q K Z D n j g d = dvR Q K Z D n j g d := by
  refine Finset.sum_congr rfl fun h _ => Finset.sum_congr rfl fun r _ => ?_
  rw [sc_eq Q K n g h r hQ hK, lseR, exp_lse (sc_score Q K n g h r hQ hK) (hZ _), mul_comm]

end Cert.Attn

end
-- ==== Proof.Atb.Reference.lean ====
module

public import Idealize.ShloMosaic.Lib.Pointwise
public import proofs.«01_k».proof.Proof.Atb.Row
public import proofs.«01_k».proof.Proof.Attn.Reference
public import proofs.«01_k».proof.Proof.Gen.ReferenceAtbIdeal.Read

@[expose] public section

set_option maxRecDepth 16384

noncomputable section

namespace Cert.ReferenceAtbIdeal.Value

open Cert.ReferenceAtbIdeal Cert.ReferenceAtbIdeal.Gen Idealize.ShloMosaic Idealize.ShloMosaic.TcCoe Idealize.SL.Sem
open Cert.Norm Cert.Attn Cert.ReferenceAtbIdeal.Read
open Cert.ReferenceAttIdeal.Value (rQ rK rZ rS rσ pr_at)

variable (x0 : FVec Ideal S8192x1024 .bf16) (x1 : FVec Ideal S8192x256 .bf16) (x3 : FVec Ideal S16 .f32) (x4 : FVec Ideal S8192x1024 .bf16)
  (n : Fin 64) (g h : Fin 4) (r : Fin 128) (j : Fin 256) (d : Fin 64)

/-! The gradient of the values as the reference writes it. -/

/-- The probabilities are those of the forward reference. -/
theorem probs : val_main_v72 (F := Ideal) x0 x1 x3 = Cert.ReferenceAttIdeal.Read.val_main_v73 (F := Ideal) x0 x1 x3 := by
  rfl
theorem do_at : val_main_v85 (F := Ideal) x4 (ix6 0 n g d h r) = x4 (ix2 (qrow n r) (qcol g h d)) := by
  pointwise [val_main_v85, val_main_v84, val_main_v83]
  refine congrArg₂ (fun a b => x4 (ix2 a b)) (Fin.ext ?_) (Fin.ext ?_)
  · dsimp only [qrow]; omega
  · dsimp only [qcol]; omega
theorem dv_at : val_main_v86 (F := Ideal) x0 x1 x3 x4 (ix5 0 n g d j) = dvR (rQ x0) (rK x1) (rZ x3) (fun a b => x4 (ix2 a b)) n j g d := by
  pointwise [val_main_v86]
  refine Finset.sum_congr rfl fun h _ => Finset.sum_congr rfl fun r _ => ?_
  rw [do_at, probs, pr_at]
theorem own_at (a : Fin 8192) (q : Fin 256) : val_main_v92 (F := Ideal) x0 x1 x3 x4 (ix2 a q)
    = dvR (rQ x0) (rK x1) (rZ x3) (fun a b => x4 (ix2 a b)) ⟨a.val / 128, by omega⟩ ⟨128 + a.val % 128, by omega⟩ ⟨q.val / 64, by omega⟩ ⟨q.val % 64, by omega⟩ := by
  rw [← dv_at]
  pointwise [val_main_v92, val_main_v91, val_main_v90, val_main_v88, val_main_v87]
theorem previous_at (a : Fin 8192) (q : Fin 256) : val_main_v94 (F := Ideal) x0 x1 x3 x4 (ix2 a q)
    = dvR (rQ x0) (rK x1) (rZ x3) (fun a b => x4 (ix2 a b)) ⟨a.val / 128, by omega⟩ ⟨a.val % 128, by omega⟩ ⟨q.val / 64, by omega⟩ ⟨q.val % 64, by omega⟩ := by
  rw [← dv_at]
  pointwise [val_main_v94, val_main_v93, val_main_v89, val_main_v88, val_main_v87]

end Cert.ReferenceAtbIdeal.Value

end
-- ==== Proof.Atb.Pre.lean ====
module

public import proofs.«01_k».proof.Proof.Norm.Pre
public import proofs.«01_k».proof.Pre_atb_finite

@[expose] public section

set_option maxRecDepth 16384

noncomputable section

namespace Cert.Norm

open Idealize.ShloMosaic

open Cert.Pre_atb_finite in
/-- What `atb_finite` says of the arguments. -/
theorem atb_pre [Cert.Pre_atb_finite.Facts] (q : FVec Ideal S8192x1024 .bf16) (k : FVec Ideal S8192x256 .bf16) (p : FVec Ideal S8192x6656 .bf16) (z : FVec Ideal S16 .f32)
    (dO : FVec Ideal S8192x1024 .bf16) (a b : FVec Ideal S8192x128 .f32) (dp : FVec Ideal S8192x6656 .bf16)
    (j : Shape.Idx S_) (e : Cert.Pre_atb_finite.fn (F := Ideal) q k p z dO a b dp j = 1#1) :
    (∀ i, Fin1 (q i)) ∧ (∀ i, Fin1 (k i)) ∧ ∀ i, Fin1 (z i) := by
  unfold Cert.Pre_atb_finite.fn at e
  obtain ⟨e, e3⟩ := andi_split _ _ _ e
  obtain ⟨e1, e2⟩ := andi_split _ _ _ e
  exact ⟨fin_of_all _ _ (fun _ => top_f32) _ _ _ _ e1, fin_of_all _ _ (fun _ => top_f32) _ _ _ _ e2, fin_of_all _ _ (fun _ => top_f32) _ _ _ _ e3⟩

end Cert.Norm

end
-- ==== Proof.Down.Tile.lean ====
module

public import Idealize.ShloMosaic.Lib.Pointwise
public import proofs.«01_k».proof.Proof.Gate.Gate
public import proofs.«01_k».proof.Proof.Gen.KernelDownIdeal.Value

@[expose] public section

set_option maxRecDepth 16384

noncomputable section

namespace Cert.KernelDownIdeal.Value

open Cert.KernelDownIdeal Cert.KernelDownIdeal.Gen Idealize.ShloMosaic Idealize.ShloMosaic.TcCoe Idealize.SL.Sem
open Idealize.ShloMosaic.Pipeline (Dat)

open Cert.Norm

/-! What the body stores of one chunk of 256 columns: `Y` is the tile's scaled cotangent, `X` the tile's cotangent the other way round,
`W` the chunk's rows of the weights, `A` and `B` the chunk's columns of the two halves, `P` what the accumulator held. -/

/-- The cotangents of the two halves of the gated product. -/
def dga (d a b : EReal) : EReal := d * b * (sg a * (1 + a * (1 - sg a)))
def dgb (d a : EReal) : EReal := d * (a * sg a)
/-- The cotangent of the gated product. -/
def dact (Y : FVec Ideal S512x1024 .bf16) (W : FVec Ideal S256x1024 .bf16) (r : Fin 512) (q : Fin 256) : EReal := ∑ k : Fin 1024, Y (ix2 r k) * W (ix2 q k)

section
variable (Y : FVec Ideal S512x1024 .bf16) (X : FVec Ideal S1024x512 .bf16) (W : FVec Ideal S256x1024 .bf16) (A B : FVec Ideal S512x256 .bf16) (P : FVec Ideal S1x1024x256 .f32)
variable (z : Fin 1) (r : Fin 512) (k : Fin 1024) (q : Fin 256)

theorem d0_0 : k0_pay50 (F := Ideal) Y W A B (ix3 z r q) = dga (dact Y W r q) (A (ix2 r q)) (B (ix2 r q)) := by
  pointwise [k0_pay45, k0_pay46, k0_pay47, k0_pay48, k0_pay50]
  rfl
theorem d0_1 : k0_pay52 (F := Ideal) (k0_pay51 Y W A) (ix3 z r q) = dgb (dact Y W r q) (A (ix2 r q)) := by
  pointwise [k0_pay45, k0_pay46, k0_pay48, k0_pay49, k0_pay51, k0_pay52]
  rfl
theorem d0_2 : k0_pay53 (F := Ideal) X (k0_pay47 B) (k0_pay49 A) P (ix3 z k q) = P (ix3 0 k q) + ∑ s : Fin 512, X (ix2 k s) * sw (A (ix2 s q)) (B (ix2 s q)) := by
  pointwise [k0_pay46, k0_pay47, k0_pay48, k0_pay49, k0_pay53]
  rfl

theorem d1_0 : k0_pay60 (F := Ideal) (k0_pay59 Y W A B) (ix3 z r q) = dga (dact Y W r q) (A (ix2 r q)) (B (ix2 r q)) := by
  pointwise [k0_pay54, k0_pay55, k0_pay56, k0_pay57, k0_pay59, k0_pay60]
  rfl
theorem d1_1 : k0_pay61 (F := Ideal) (k0_pay54 Y W) (k0_pay58 A) (ix3 z r q) = dgb (dact Y W r q) (A (ix2 r q)) := by
  pointwise [k0_pay54, k0_pay55, k0_pay57, k0_pay58, k0_pay61]
  rfl
theorem d1_2 : k0_pay62 (F := Ideal) X (k0_pay56 B) (k0_pay58 A) P (ix3 z k q) = P (ix3 0 k q) + ∑ s : Fin 512, X (ix2 k s) * sw (A (ix2 s q)) (B (ix2 s q)) := by
  pointwise [k0_pay55, k0_pay56, k0_pay57, k0_pay58, k0_pay62]
  rfl

theorem d2_0 : k0_pay68 (F := Ideal) (k0_pay63 Y W) (k0_pay64 A) (k0_pay65 B) (k0_pay66 A) (ix3 z r q) = dga (dact Y W r q) (A (ix2 r q)) (B (ix2 r q)) := by
  pointwise [k0_pay63, k0_pay64, k0_pay65, k0_pay66, k0_pay68]
  rfl
theorem d2_1 : k0_pay69 (F := Ideal) (k0_pay63 Y W) (k0_pay64 A) (k0_pay66 A) (ix3 z r q) = dgb (dact Y W r q) (A (ix2 r q)) := by
  pointwise [k0_pay63, k0_pay64, k0_pay66, k0_pay67, k0_pay69]
  rfl
theorem d2_2 : k0_pay70 (F := Ideal) X (k0_pay64 A) (k0_pay65 B) (k0_pay66 A) P (ix3 z k q) = P (ix3 0 k q) + ∑ s : Fin 512, X (ix2 k s) * sw (A (ix2 s q)) (B (ix2 s q)) := by
  pointwise [k0_pay64, k0_pay65, k0_pay66, k0_pay67, k0_pay70]
  rfl

theorem d3_0 : k0_pay77 (F := Ideal) (k0_pay71 Y W) (k0_pay72 A) (k0_pay73 B) (ix3 z r q) = dga (dact Y W r q) (A (ix2 r q)) (B (ix2 r q)) := by
  pointwise [k0_pay71, k0_pay72, k0_pay73, k0_pay74, k0_pay75, k0_pay77]
  rfl
theorem d3_1 : k0_pay78 (F := Ideal) (k0_pay71 Y W) (k0_pay72 A) (ix3 z r q) = dgb (dact Y W r q) (A (ix2 r q)) := by
  pointwise [k0_pay71, k0_pay72, k0_pay75, k0_pay76, k0_pay78]
  rfl
theorem d3_2 : k0_pay79 (F := Ideal) X (k0_pay72 A) (k0_pay73 B) P (ix3 z k q) = P (ix3 0 k q) + ∑ s : Fin 512, X (ix2 k s) * sw (A (ix2 s q)) (B (ix2 s q)) := by
  pointwise [k0_pay72, k0_pay73, k0_pay74, k0_pay75, k0_pay76, k0_pay79]
  rfl

theorem d4_0 : k0_pay86 (F := Ideal) Y (k0_pay80 W) A B (ix3 z r q) = dga (dact Y W r q) (A (ix2 r q)) (B (ix2 r q)) := by
  pointwise [k0_pay80, k0_pay81, k0_pay82, k0_pay83, k0_pay84, k0_pay86]
  rfl
theorem d4_1 : k0_pay87 (F := Ideal) Y (k0_pay80 W) A (ix3 z r q) = dgb (dact Y W r q) (A (ix2 r q)) := by
  pointwise [k0_pay80, k0_pay81, k0_pay82, k0_pay84, k0_pay85, k0_pay87]
  rfl
theorem d4_2 : k0_pay89 (F := Ideal) (k0_pay88 X A B P) (ix3 z k q) = P (ix3 0 k q) + ∑ s : Fin 512, X (ix2 k s) * sw (A (ix2 s q)) (B (ix2 s q)) := by
  pointwise [k0_pay82, k0_pay83, k0_pay84, k0_pay85, k0_pay88, k0_pay89]
  rfl

theorem d5_0 : k0_pay95 (F := Ideal) Y W A B (ix3 z r q) = dga (dact Y W r q) (A (ix2 r q)) (B (ix2 r q)) := by
  pointwise [k0_pay90, k0_pay91, k0_pay92, k0_pay93, k0_pay95]
  rfl
theorem d5_1 : k0_pay96 (F := Ideal) Y W A (ix3 z r q) = dgb (dact Y W r q) (A (ix2 r q)) := by
  pointwise [k0_pay90, k0_pay91, k0_pay93, k0_pay94, k0_pay96]
  rfl
theorem d5_2 : k0_pay97 (F := Ideal) X (k0_pay92 B) (k0_pay94 A) P (ix3 z k q) = P (ix3 0 k q) + ∑ s : Fin 512, X (ix2 k s) * sw (A (ix2 s q)) (B (ix2 s q)) := by
  pointwise [k0_pay91, k0_pay92, k0_pay93, k0_pay94, k0_pay97]
  rfl

theorem d6_0 : k0_pay104 (F := Ideal) (k0_pay103 Y W A B) (ix3 z r q) = dga (dact Y W r q) (A (ix2 r q)) (B (ix2 r q)) := by
  pointwise [k0_pay98, k0_pay99, k0_pay100, k0_pay101, k0_pay103, k0_pay104]
  rfl
theorem d6_1 : k0_pay105 (F := Ideal) (k0_pay98 Y W) (k0_pay102 A) (ix3 z r q) = dgb (dact Y W r q) (A (ix2 r q)) := by
  pointwise [k0_pay98, k0_pay99, k0_pay101, k0_pay102, k0_pay105]
  rfl
theorem d6_2 : k0_pay106 (F := Ideal) X (k0_pay100 B) (k0_pay102 A) P (ix3 z k q) = P (ix3 0 k q) + ∑ s : Fin 512, X (ix2 k s) * sw (A (ix2 s q)) (B (ix2 s q)) := by
  pointwise [k0_pay99, k0_pay100, k0_pay101, k0_pay102, k0_pay106]
  rfl

theorem d7_0 : k0_pay114 (F := Ideal) (k0_pay108 A) (k0_pay110 A) (k0_pay112 Y W B) (k0_pay113 A) (ix3 z r q) = dga (dact Y W r q) (A (ix2 r q)) (B (ix2 r q)) := by
  pointwise [k0_pay107, k0_pay108, k0_pay109, k0_pay110, k0_pay112, k0_pay113, k0_pay114]
  rfl
theorem d7_1 : k0_pay115 (F := Ideal) (k0_pay107 Y W) (k0_pay111 A) (ix3 z r q) = dgb (dact Y W r q) (A (ix2 r q)) := by
  pointwise [k0_pay107, k0_pay108, k0_pay110, k0_pay111, k0_pay115]
  rfl
theorem d7_2 : k0_pay116 (F := Ideal) X (k0_pay109 B) (k0_pay111 A) P (ix3 z k q) = P (ix3 0 k q) + ∑ s : Fin 512, X (ix2 k s) * sw (A (ix2 s q)) (B (ix2 s q)) := by
  pointwise [k0_pay108, k0_pay109, k0_pay110, k0_pay111, k0_pay116]
  rfl

theorem d8_0 : k0_pay123 (F := Ideal) (k0_pay117 Y W) (k0_pay118 A) (k0_pay119 B) (k0_pay120 A) (ix3 z r q) = dga (dact Y W r q) (A (ix2 r q)) (B (ix2 r q)) := by
  pointwise [k0_pay117, k0_pay118, k0_pay119, k0_pay120, k0_pay121, k0_pay123]
  rfl
theorem d8_1 : k0_pay124 (F := Ideal) (k0_pay117 Y W) (k0_pay118 A) (k0_pay120 A) (ix3 z r q) = dgb (dact Y W r q) (A (ix2 r q)) := by
  pointwise [k0_pay117, k0_pay118, k0_pay120, k0_pay121, k0_pay122, k0_pay124]
  rfl
theorem d8_2 : k0_pay125 (F := Ideal) X (k0_pay118 A) (k0_pay119 B) (k0_pay120 A) P (ix3 z k q) = P (ix3 0 k q) + ∑ s : Fin 512, X (ix2 k s) * sw (A (ix2 s q)) (B (ix2 s q)) := by
  pointwise [k0_pay118, k0_pay119, k0_pay120, k0_pay121, k0_pay122, k0_pay125]
  rfl

theorem d9_0 : k0_pay131 (F := Ideal) (k0_pay126 Y W) A B (ix3 z r q) = dga (dact Y W r q) (A (ix2 r q)) (B (ix2 r q)) := by
  pointwise [k0_pay126, k0_pay127, k0_pay128, k0_pay129, k0_pay131]
  rfl
theorem d9_1 : k0_pay132 (F := Ideal) (k0_pay126 Y W) A (ix3 z r q) = dgb (dact Y W r q) (A (ix2 r q)) := by
  pointwise [k0_pay126, k0_pay127, k0_pay129, k0_pay130, k0_pay132]
  rfl
theorem d9_2 : k0_pay134 (F := Ideal) (k0_pay133 X A B P) (ix3 z k q) = P (ix3 0 k q) + ∑ s : Fin 512, X (ix2 k s) * sw (A (ix2 s q)) (B (ix2 s q)) := by
  pointwise [k0_pay127, k0_pay128, k0_pay129, k0_pay130, k0_pay133, k0_pay134]
  rfl

theorem d10_0 : k0_pay140 (F := Ideal) Y W A B (ix3 z r q) = dga (dact Y W r q) (A (ix2 r q)) (B (ix2 r q)) := by
  pointwise [k0_pay135, k0_pay136, k0_pay137, k0_pay138, k0_pay140]
  rfl
theorem d10_1 : k0_pay141 (F := Ideal) Y W A (ix3 z r q) = dgb (dact Y W r q) (A (ix2 r q)) := by
  pointwise [k0_pay135, k0_pay136, k0_pay138, k0_pay139, k0_pay141]
  rfl
theorem d10_2 : k0_pay5 (F := Ideal) X (k0_pay137 B) (k0_pay139 A) P (ix3 z k q) = P (ix3 0 k q) + ∑ s : Fin 512, X (ix2 k s) * sw (A (ix2 s q)) (B (ix2 s q)) := by
  pointwise [k0_pay5, k0_pay136, k0_pay137, k0_pay138, k0_pay139]
  rfl
end

end Cert.KernelDownIdeal.Value

end
-- ==== Proof.Down.Blocks.lean ====
module

public import Idealize.ShloMosaic.Lib.Pipeline.ValueKit
public import proofs.«01_k».proof.Proof.Down.Tile

@[expose] public section

set_option maxRecDepth 16384

noncomputable section

namespace Cert.KernelDownIdeal.Value

open Cert.KernelDownIdeal Cert.KernelDownIdeal.Gen Idealize.ShloMosaic Idealize.ShloMosaic.TcCoe Idealize.SL.Sem
open Idealize.ShloMosaic.Pipeline (Dat)

open Cert.Norm

/-- The grid runs along the rows: which block of its array every window moves at point `t`. -/
theorem idx : ∀ t : Fin cfg0.N, win0_0.index t = ![t.val, 0] ∧ win0_1.index t = ![0, 0] ∧ win0_2.index t = ![t.val, 0]
    ∧ win0_3.index t = ![t.val, 1] ∧ win0_4.index t = ![0, 0] ∧ win0_5.index t = ![0, t.val, 0] ∧ win0_6.index t = ![0, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

variable (m : (ℓ : Loc nD τ sig) → Buf (Elt Ideal) ℓ) (c : Dev nD) (t : Fin cfg0.N)

/-- The arguments as launched. -/
abbrev argH : FVec Ideal S1x8192x1024 .f32 := m ((c : Thread nD τ).loc main_arg0)
abbrev argGt : FVec Ideal S1x1024 .f32 := m ((c : Thread nD τ).loc main_arg1)
abbrev argW : FVec Ideal S1024x5632 .f32 := m ((c : Thread nD τ).loc main_arg2)
abbrev argWd : FVec Ideal S2816x1024 .f32 := m ((c : Thread nD τ).loc main_arg3)
abbrev argD : FVec Ideal S1x8192x1024 .f32 := m ((c : Thread nD τ).loc main_arg4)

theorem entry_d : V m c main_v3 = shapeCast S8192x1024 (argD m c) shapeCasts_S1x8192x1024_S8192x1024 := by
  simp only [V, hostOps0]
  entry_read
  rfl
theorem entry_ab : V m c main_v2 = truncf (F := Ideal) .bf16 (Host.dotGeneral (F := Ideal) dot_S8192x1024_S1024x5632_S8192x5632_1_0_0_1_n_n none (shapeCast S8192x1024 (argH m c) shapeCasts_S1x8192x1024_S8192x1024) (argW m c)) bitsLt_bf16_f32 := by
  simp only [V, hostOps0]
  entry_read
  rfl
theorem entry_wd : V m c main_v4 = truncf (F := Ideal) .bf16 (argWd m c) bitsLt_bf16_f32 := by
  simp only [V, hostOps0]
  entry_read
  rfl

/-! The layer's values from the arguments: the two halves of the up product, the cotangents of the down product, of the gated product, of its halves. -/

def us (s : Fin 8192) (i : Fin 5632) : EReal := ∑ k, argH m c (ix3 0 s k) * argW m c (ix2 k i)
def ua (s : Fin 8192) (f : Fin 2816) : EReal := us m c s ⟨f.val, by omega⟩
def ub (s : Fin 8192) (f : Fin 2816) : EReal := us m c s ⟨2816 + f.val, by omega⟩
def yc (s : Fin 8192) (k : Fin 1024) : EReal := half * argGt m c (ix2 0 k) * argD m c (ix3 0 s k)
def da (s : Fin 8192) (f : Fin 2816) : EReal := ∑ k, yc m c s k * argWd m c (ix2 f k)
/-- The first result: the cotangents of the two halves. -/
def dd (z : Fin 2) (s : Fin 8192) (f : Fin 2816) : EReal :=
  if z.val = 0 then dga (da m c s f) (ua m c s f) (ub m c s f) else dgb (da m c s f) (ua m c s f)
/-- One row's share of the cotangent of the weights over the gate, and of the gate's. -/
def ta (k : Fin 1024) (f : Fin 2816) (s : Fin 8192) : EReal := argD m c (ix3 0 s k) * sw (ua m c s f) (ub m c s f)

theorem x_at (r : Fin 512) (k : Fin 1024) : iblk m c 0 t (ix2 r k) = argD m c (ix3 0 (row t r) k) := by
  refine Eq.trans (b := V m c main_v3 (ix2 (row t r) k)) ?_ ?_
  · blk_point [iblk, idx t, row]
  · rw [entry_d]
    pointwise []
theorem gt_at (k : Fin 1024) : iblk m c 1 t (ix2 0 k) = argGt m c (ix2 0 k) := by
  blk_point [iblk, V, idx t]
theorem ab_at (s : Fin 8192) (i : Fin 5632) : V m c main_v2 (ix2 s i) = us m c s i := by
  rw [entry_ab]
  pointwise []
  rfl
theorem a_at (r : Fin 512) (f : Fin 2816) : iblk m c 2 t (ix2 r f) = ua m c (row t r) f := by
  refine Eq.trans (b := V m c main_v2 (ix2 (row t r) ⟨f.val, by omega⟩)) ?_ (ab_at m c _ _)
  blk_point [iblk, idx t, row]
theorem b_at (r : Fin 512) (f : Fin 2816) : iblk m c 3 t (ix2 r f) = ub m c (row t r) f := by
  refine Eq.trans (b := V m c main_v2 (ix2 (row t r) ⟨2816 + f.val, by omega⟩)) ?_ (ab_at m c _ _)
  blk_point [iblk, idx t, row]
theorem wd_at (i : Fin 2816) (k : Fin 1024) : iblk m c 4 t (ix2 i k) = argWd m c (ix2 i k) := by
  refine Eq.trans (b := V m c main_v4 (ix2 i k)) ?_ ?_
  · blk_point [iblk, idx t]
  · rw [entry_wd]
    pointwise []

/-- A chunk of the weights and of the two halves, as the body loads it. -/
abbrev wn (o : ℕ) (h : ∀ a, (![o, 0] : Fin 2 → ℕ) a + (![256, 1024] : Fin 2 → ℕ) a ≤ S2816x1024.size a) : FVec Ideal S256x1024 .bf16 :=
  View.ld (Val := Elt Ideal) (S := S2816x1024) (e' := .bf16) (iblk m c 4 t) (Rect.unit ![o, 0] ![256, 1024] h)
abbrev an (o : ℕ) (h : ∀ a, (![0, o] : Fin 2 → ℕ) a + (![512, 256] : Fin 2 → ℕ) a ≤ S512x2816.size a) : FVec Ideal S512x256 .bf16 :=
  View.ld (Val := Elt Ideal) (S := S512x2816) (e' := .bf16) (iblk m c 2 t) (Rect.unit ![0, o] ![512, 256] h)
abbrev bn (o : ℕ) (h : ∀ a, (![0, o] : Fin 2 → ℕ) a + (![512, 256] : Fin 2 → ℕ) a ≤ S512x2816.size a) : FVec Ideal S512x256 .bf16 :=
  View.ld (Val := Elt Ideal) (S := S512x2816) (e' := .bf16) (iblk m c 3 t) (Rect.unit ![0, o] ![512, 256] h)

theorem wn_at (o : ℕ) (h) (q : Fin 256) (k : Fin 1024) : wn m c t o h (ix2 q k) = argWd m c (ix2 ⟨o + q.val, by have : o + 256 ≤ 2816 := h 0; omega⟩ k) := by
  refine Eq.trans (congrArg (iblk m c 4 t) ?_) (wd_at m c t _ k)
  funext a
  fin_cases a
  · exact Fin.ext (by show o + 1 * q.val = o + q.val; omega)
  · exact Fin.ext (by show 0 + 1 * k.val = k.val; omega)
theorem an_at (o : ℕ) (h) (r : Fin 512) (q : Fin 256) : an m c t o h (ix2 r q) = ua m c (row t r) ⟨o + q.val, by have : o + 256 ≤ 2816 := h 1; omega⟩ := by
  refine Eq.trans (congrArg (iblk m c 2 t) ?_) (a_at m c t r _)
  funext a
  fin_cases a
  · exact Fin.ext (by show 0 + 1 * r.val = r.val; omega)
  · exact Fin.ext (by show o + 1 * q.val = o + q.val; omega)
theorem bn_at (o : ℕ) (h) (r : Fin 512) (q : Fin 256) : bn m c t o h (ix2 r q) = ub m c (row t r) ⟨o + q.val, by have : o + 256 ≤ 2816 := h 1; omega⟩ := by
  refine Eq.trans (congrArg (iblk m c 3 t) ?_) (b_at m c t r _)
  funext a
  fin_cases a
  · exact Fin.ext (by show 0 + 1 * r.val = r.val; omega)
  · exact Fin.ext (by show o + 1 * q.val = o + q.val; omega)

/-- The tile's scaled cotangent, and the cotangent the other way round. -/
abbrev YT : FVec Ideal S512x1024 .bf16 := k0_pay3 (F := Ideal) (iblk m c 0 t) (iblk m c 1 t)
abbrev XT : FVec Ideal S1024x512 .bf16 := k0_pay4 (F := Ideal) (iblk m c 0 t)

theorem pay3_at (D : FVec Ideal S512x1024 .f32) (G : FVec Ideal S1x1024 .f32) (r : Fin 512) (k : Fin 1024) : k0_pay3 (F := Ideal) D G (ix2 r k) = half * G (ix2 0 k) * D (ix2 r k) := by
  pointwise [k0_pay3, k0_pay2]
  rfl
theorem pay4_at (D : FVec Ideal S512x1024 .f32) (r : Fin 512) (k : Fin 1024) : k0_pay4 (F := Ideal) D (ix2 k r) = D (ix2 r k) := by
  pointwise [k0_pay4, k0_pay2]
theorem y_at (r : Fin 512) (k : Fin 1024) : YT m c t (ix2 r k) = yc m c (row t r) k := by
  refine (pay3_at _ _ r k).trans ?_
  rw [x_at, gt_at]
  rfl
theorem xt_at (r : Fin 512) (k : Fin 1024) : XT m c t (ix2 k r) = argD m c (ix3 0 (row t r) k) := (pay4_at _ r k).trans (x_at m c t r k)
theorem dact_at (o : ℕ) (h) (r : Fin 512) (q : Fin 256) : dact (YT m c t) (wn m c t o h) r q = da m c (row t r) ⟨o + q.val, by have : o + 256 ≤ 2816 := h 0; omega⟩ :=
  Finset.sum_congr rfl fun k _ => congrArg₂ (· * ·) (y_at m c t r k) (wn_at m c t o h q k)

theorem d0_at (o : ℕ) (h h' h'') (r : Fin 512) (q : Fin 256) : dga (dact (YT m c t) (wn m c t o h) r q) (an m c t o h' (ix2 r q)) (bn m c t o h'' (ix2 r q))
    = dd m c 0 (row t r) ⟨o + q.val, by have : o + 256 ≤ 2816 := h 0; omega⟩ := by
  rw [dact_at, an_at, bn_at]
  rfl
theorem d1_at (o : ℕ) (h h') (r : Fin 512) (q : Fin 256) : dgb (dact (YT m c t) (wn m c t o h) r q) (an m c t o h' (ix2 r q))
    = dd m c 1 (row t r) ⟨o + q.val, by have : o + 256 ≤ 2816 := h 0; omega⟩ := by
  rw [dact_at, an_at]
  rfl
theorem d2_at (o : ℕ) (h h') (k : Fin 1024) (q : Fin 256) : (∑ s : Fin 512, XT m c t (ix2 k s) * sw (an m c t o h (ix2 s q)) (bn m c t o h' (ix2 s q)))
    = ∑ s : Fin 512, ta m c k ⟨o + q.val, by have : o + 256 ≤ 2816 := h 1; omega⟩ (row t s) :=
  Finset.sum_congr rfl fun s _ => congrArg₂ (· * ·) (xt_at m c t s k) (congrArg₂ sw (an_at m c t o h s q) (bn_at m c t o h' s q))

theorem dd_congr {z z' : Fin 2} {q q' : Fin 8192} {j j' : Fin 2816} (hz : z.val = z'.val) (hq : q.val = q'.val) (hj : j.val = j'.val) : dd m c z q j = dd m c z' q' j' := by
  obtain rfl := Fin.ext hz
  obtain rfl := Fin.ext hq
  obtain rfl := Fin.ext hj
  rfl

end Cert.KernelDownIdeal.Value

end
-- ==== Proof.Down.Final.lean ====
module

public import Idealize.ShloMosaic.Lib.WritesUnit
public import Idealize.ShloMosaic.Lib.Pipeline.ReadBack
public import proofs.«01_k».proof.Proof.Down.Blocks

@[expose] public section

set_option maxRecDepth 16384

noncomputable section

namespace Cert.KernelDownIdeal.Value

open Cert.KernelDownIdeal Cert.KernelDownIdeal.Gen Idealize.ShloMosaic Idealize.ShloMosaic.TcCoe Idealize.SL.Sem
open Idealize.ShloMosaic.Pipeline (Dat)

open Cert.Norm

variable (m : (ℓ : Loc nD τ sig) → Buf (Elt Ideal) ℓ) (c : Dev nD) (t : Fin cfg0.N)

section
variable (A : FVec Ideal S1x1024x256 .f32) (W : FVec Ideal S256x1024 .bf16) (Z : FVec Ideal S1x1024 .f32) (j : Fin 1024)
/-! The gate's cotangent takes one chunk's share at a time. -/
theorem g0 : k0_pay9 (F := Ideal) A W Z (ix2 0 j) = Z (ix2 0 j) + half * ∑ q : Fin 256, A (ix3 0 j q) * W (ix2 q j) := by
  pointwise [k0_pay8, k0_pay9]
  rfl
theorem g1 : k0_pay12 (F := Ideal) A W Z (ix2 0 j) = Z (ix2 0 j) + half * ∑ q : Fin 256, A (ix3 0 j q) * W (ix2 q j) := by
  pointwise [k0_pay11, k0_pay12]
  rfl
theorem g2 : k0_pay16 (F := Ideal) (k0_pay14 A) (k0_pay15 W) Z (ix2 0 j) = Z (ix2 0 j) + half * ∑ q : Fin 256, A (ix3 0 j q) * W (ix2 q j) := by
  pointwise [k0_pay14, k0_pay15, k0_pay16]
  rfl
theorem g3 : k0_pay19 (F := Ideal) A W Z (ix2 0 j) = Z (ix2 0 j) + half * ∑ q : Fin 256, A (ix3 0 j q) * W (ix2 q j) := by
  pointwise [k0_pay18, k0_pay19]
  rfl
theorem g4 : k0_pay22 (F := Ideal) A W Z (ix2 0 j) = Z (ix2 0 j) + half * ∑ q : Fin 256, A (ix3 0 j q) * W (ix2 q j) := by
  pointwise [k0_pay21, k0_pay22]
  rfl
theorem g5 : k0_pay26 (F := Ideal) A W Z (ix2 0 j) = Z (ix2 0 j) + half * ∑ q : Fin 256, A (ix3 0 j q) * W (ix2 q j) := by
  pointwise [k0_pay25, k0_pay26]
  rfl
theorem g6 : k0_pay29 (F := Ideal) A W Z (ix2 0 j) = Z (ix2 0 j) + half * ∑ q : Fin 256, A (ix3 0 j q) * W (ix2 q j) := by
  pointwise [k0_pay28, k0_pay29]
  rfl
theorem g7 : k0_pay32 (F := Ideal) A W Z (ix2 0 j) = Z (ix2 0 j) + half * ∑ q : Fin 256, A (ix3 0 j q) * W (ix2 q j) := by
  pointwise [k0_pay31, k0_pay32]
  rfl
theorem g8 : k0_pay36 (F := Ideal) (k0_pay34 A) (k0_pay35 W) Z (ix2 0 j) = Z (ix2 0 j) + half * ∑ q : Fin 256, A (ix3 0 j q) * W (ix2 q j) := by
  pointwise [k0_pay34, k0_pay35, k0_pay36]
  rfl
theorem g9 : k0_pay39 (F := Ideal) A W Z (ix2 0 j) = Z (ix2 0 j) + half * ∑ q : Fin 256, A (ix3 0 j q) * W (ix2 q j) := by
  pointwise [k0_pay38, k0_pay39]
  rfl
theorem g10 : k0_pay42 (F := Ideal) A W Z (ix2 0 j) = Z (ix2 0 j) + half * ∑ q : Fin 256, A (ix3 0 j q) * W (ix2 q j) := by
  pointwise [k0_pay41, k0_pay42]
  rfl
end

theorem zg_at (j : Fin 1024) : k0_pay1 (F := Ideal) (ix2 0 j) = 0 := by
  pointwise [k0_pay1]
theorem pv_at (U : FVec Ideal S1x1024x2816 .f32) (o : ℕ) (h : ∀ a, (![0, 0, o] : Fin 3 → ℕ) a + (![1, 1024, 256] : Fin 3 → ℕ) a ≤ S1x1024x2816.size a) (k : Fin 1024) (q : Fin 256) :
    View.ld (Val := Elt Ideal) (S := S1x1024x2816) (e' := .f32) U (Rect.unit ![0, 0, o] ![1, 1024, 256] h) (ix3 0 k q) = U (ix3 0 k ⟨o + q.val, by have : o + 256 ≤ 2816 := h 2; omega⟩) := by
  refine congrArg U ?_
  funext a
  fin_cases a
  · rfl
  · exact Fin.ext (by show 0 + 1 * k.val = k.val; omega)
  · exact Fin.ext (by show o + 1 * q.val = o + q.val; omega)
theorem z44_at (i : S1x1024x2816.Idx) : k0_pay44 (F := Ideal) i = 0 := by
  pointwise [k0_pay44]

/-- Stores that cover an index leave nothing there of earlier ones. -/
theorem canon_over {S : Shape} {e : EltTy} (L' : List (View.Piece (Elt Ideal) S e)) (y : S.Idx) :
    ∀ L : List (View.Piece (Elt Ideal) S e), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact canon_over L' y L ⟨q, hq', hyq⟩
theorem canon_over11 {S : Shape} {e : EltTy} (p0 p1 p2 p3 p4 p5 p6 p7 p8 p9 p10 f : View.Piece (Elt Ideal) S e) (y : S.Idx) (h : ∃ p ∈ [p0, p1, p2, p3, p4, p5, p6, p7, p8, p9, p10], y ∈ p.1.set) :
    View.canon [p0, p1, p2, p3, p4, p5, p6, p7, p8, p9, p10, f] y = View.canon [p0, p1, p2, p3, p4, p5, p6, p7, p8, p9, p10] y :=
  canon_over [f] y _ h

/-- The carried sum after one more tile. -/
def st (U : FVec Ideal S1x1024x2816 .f32) (k : Fin 1024) (f : Fin 2816) : EReal := U (ix3 0 k f) + ∑ s : Fin 512, ta m c k f (row t s)
theorem st_congr (U : FVec Ideal S1x1024x2816 .f32) {q q' : Fin 1024} {j j' : Fin 2816} (hq : q.val = q'.val) (hj : j.val = j'.val) : st m c t U q j = st m c t U q' j' := by
  obtain rfl := Fin.ext hq
  obtain rfl := Fin.ext hj
  rfl
theorem st_at (U : FVec Ideal S1x1024x2816 .f32) (o : ℕ) (h h' h'') (k : Fin 1024) (q : Fin 256) :
    View.ld (Val := Elt Ideal) (S := S1x1024x2816) (e' := .f32) U (Rect.unit ![0, 0, o] ![1, 1024, 256] h) (ix3 0 k q) + (∑ s : Fin 512, XT m c t (ix2 k s) * sw (an m c t o h' (ix2 s q)) (bn m c t o h'' (ix2 s q)))
      = st m c t U k ⟨o + q.val, by have : o + 256 ≤ 2816 := h 2; omega⟩ :=
  congrArg₂ (· + ·) (pv_at U o h k q) (d2_at m c t o h' h'' k q)

theorem out5_A (h0 : t.val % 16 = 0) (h3 : t.val % 16 = 0) (h4 : ¬t.val % 16 = 15) (y : S2x512x2816.Idx) : (outsAt0 m c t.val t.isLt).1 y = dd m c (y 0) (row t (y 1)) (y 2) := by
  rw [outsAt0_A m c t h0 h3 h4]
  frame_open
  simp (disch := decide) only [↓View.readCov_skip, ↓View.readCov_fill, View.readCov_cons_toLoadRect]
  frame_out
  clear h0 h3 h4
  canon_tiles x h
  case piece0 =>
    idx_vars x
    exact ((d10_1 _ _ _ x0 x1 x2).trans (d1_at m c t 2560 inb_S2816x1024_S256x1024_2560_0 inb_S512x2816_S512x256_0_2560 x1 x2)).trans (dd_congr m c (by have := x0.isLt; show 1 = (y 0).val; omega) (congrArg (512 * t.val + ·) h1.symm) h2.symm)
  case piece1 =>
    idx_vars x
    exact ((d10_0 _ _ _ _ x0 x1 x2).trans (d0_at m c t 2560 inb_S2816x1024_S256x1024_2560_0 inb_S512x2816_S512x256_0_2560 inb_S512x2816_S512x256_0_2560 x1 x2)).trans (dd_congr m c (by have := x0.isLt; show 0 = (y 0).val; omega) (congrArg (512 * t.val + ·) h1.symm) h2.symm)
  case piece2 =>
    idx_vars x
    exact ((d9_1 _ _ _ x0 x1 x2).trans (d1_at m c t 2304 inb_S2816x1024_S256x1024_2304_0 inb_S512x2816_S512x256_0_2304 x1 x2)).trans (dd_congr m c (by have := x0.isLt; show 1 = (y 0).val; omega) (congrArg (512 * t.val + ·) h1.symm) h2.symm)
  case piece3 =>
    idx_vars x
    exact ((d9_0 _ _ _ _ x0 x1 x2).trans (d0_at m c t 2304 inb_S2816x1024_S256x1024_2304_0 inb_S512x2816_S512x256_0_2304 inb_S512x2816_S512x256_0_2304 x1 x2)).trans (dd_congr m c (by have := x0.isLt; show 0 = (y 0).val; omega) (congrArg (512 * t.val + ·) h1.symm) h2.symm)
  case piece4 =>
    idx_vars x
    exact ((d8_1 _ _ _ x0 x1 x2).trans (d1_at m c t 2048 inb_S2816x1024_S256x1024_2048_0 inb_S512x2816_S512x256_0_2048 x1 x2)).trans (dd_congr m c (by have := x0.isLt; show 1 = (y 0).val; omega) (congrArg (512 * t.val + ·) h1.symm) h2.symm)
  case piece5 =>
    idx_vars x
    exact ((d8_0 _ _ _ _ x0 x1 x2).trans (d0_at m c t 2048 inb_S2816x1024_S256x1024_2048_0 inb_S512x2816_S512x256_0_2048 inb_S512x2816_S512x256_0_2048 x1 x2)).trans (dd_congr m c (by have := x0.isLt; show 0 = (y 0).val; omega) (congrArg (512 * t.val + ·) h1.symm) h2.symm)
  case piece6 =>
    idx_vars x
    exact ((d7_1 _ _ _ x0 x1 x2).trans (d1_at m c t 1792 inb_S2816x1024_S256x1024_1792_0 inb_S512x2816_S512x256_0_1792 x1 x2)).trans (dd_congr m c (by have := x0.isLt; show 1 = (y 0).val; omega) (congrArg (512 * t.val + ·) h1.symm) h2.symm)
  case piece7 =>
    idx_vars x
    exact ((d7_0 _ _ _ _ x0 x1 x2).trans (d0_at m c t 1792 inb_S2816x1024_S256x1024_1792_0 inb_S512x2816_S512x256_0_1792 inb_S512x2816_S512x256_0_1792 x1 x2)).trans (dd_congr m c (by have := x0.isLt; show 0 = (y 0).val; omega) (congrArg (512 * t.val + ·) h1.symm) h2.symm)
  case piece8 =>
    idx_vars x
    exact ((d6_1 _ _ _ x0 x1 x2).trans (d1_at m c t 1536 inb_S2816x1024_S256x1024_1536_0 inb_S512x2816_S512x256_0_1536 x1 x2)).trans (dd_congr m c (by have := x0.isLt; show 1 = (y 0).val; omega) (congrArg (512 * t.val + ·) h1.symm) h2.symm)
  case piece9 =>
    idx_vars x
    exact ((d6_0 _ _ _ _ x0 x1 x2).trans (d0_at m c t 1536 inb_S2816x1024_S256x1024_1536_0 inb_S512x2816_S512x256_0_1536 inb_S512x2816_S512x256_0_1536 x1 x2)).trans (dd_congr m c (by have := x0.isLt; show 0 = (y 0).val; omega) (congrArg (512 * t.val + ·) h1.symm) h2.symm)
  case piece10 =>
    idx_vars x
    exact ((d5_1 _ _ _ x0 x1 x2).trans (d1_at m c t 1280 inb_S2816x1024_S256x1024_1280_0 inb_S512x2816_S512x256_0_1280 x1 x2)).trans (dd_congr m c (by have := x0.isLt; show 1 = (y 0).val; omega) (congrArg (512 * t.val + ·) h1.symm) h2.symm)
  case piece11 =>
    idx_vars x
    exact ((d5_0 _ _ _ _ x0 x1 x2).trans (d0_at m c t 1280 inb_S2816x1024_S256x1024_1280_0 inb_S512x2816_S512x256_0_1280 inb_S512x2816_S512x256_0_1280 x1 x2)).trans (dd_congr m c (by have := x0.isLt; show 0 = (y 0).val; omega) (congrArg (512 * t.val + ·) h1.symm) h2.symm)
  case piece12 =>
    idx_vars x
    exact ((d4_1 _ _ _ x0 x1 x2).trans (d1_at m c t 1024 inb_S2816x1024_S256x1024_1024_0 inb_S512x2816_S512x256_0_1024 x1 x2)).trans (dd_congr m c (by have := x0.isLt; show 1 = (y 0).val; omega) (congrArg (512 * t.val + ·) h1.symm) h2.symm)
  case piece13 =>
    idx_vars x
    exact ((d4_0 _ _ _ _ x0 x1 x2).trans (d0_at m c t 1024 inb_S2816x1024_S256x1024_1024_0 inb_S512x2816_S512x256_0_1024 inb_S512x2816_S512x256_0_1024 x1 x2)).trans (dd_congr m c (by have := x0.isLt; show 0 = (y 0).val; omega) (congrArg (512 * t.val + ·) h1.symm) h2.symm)
  case piece14 =>
    idx_vars x
    exact ((d3_1 _ _ _ x0 x1 x2).trans (d1_at m c t 768 inb_S2816x1024_S256x1024_768_0 inb_S512x2816_S512x256_0_768 x1 x2)).trans (dd_congr m c (by have := x0.isLt; show 1 = (y 0).val; omega) (congrArg (512 * t.val + ·) h1.symm) h2.symm)
  case piece15 =>
    idx_vars x
    exact ((d3_0 _ _ _ _ x0 x1 x2).trans (d0_at m c t 768 inb_S2816x1024_S256x1024_768_0 inb_S512x2816_S512x256_0_768 inb_S512x2816_S512x256_0_768 x1 x2)).trans (dd_congr m c (by have := x0.isLt; show 0 = (y 0).val; omega) (congrArg (512 * t.val + ·) h1.symm) h2.symm)
  case piece16 =>
    idx_vars x
    exact ((d2_1 _ _ _ x0 x1 x2).trans (d1_at m c t 512 inb_S2816x1024_S256x1024_512_0 inb_S512x2816_S512x256_0_512 x1 x2)).trans (dd_congr m c (by have := x0.isLt; show 1 = (y 0).val; omega) (congrArg (512 * t.val + ·) h1.symm) h2.symm)
  case piece17 =>
    idx_vars x
    exact ((d2_0 _ _ _ _ x0 x1 x2).trans (d0_at m c t 512 inb_S2816x1024_S256x1024_512_0 inb_S512x2816_S512x256_0_512 inb_S512x2816_S512x256_0_512 x1 x2)).trans (dd_congr m c (by have := x0.isLt; show 0 = (y 0).val; omega) (congrArg (512 * t.val + ·) h1.symm) h2.symm)
  case piece18 =>
    idx_vars x
    exact ((d1_1 _ _ _ x0 x1 x2).trans (d1_at m c t 256 inb_S2816x1024_S256x1024_256_0 inb_S512x2816_S512x256_0_256 x1 x2)).trans (dd_congr m c (by have := x0.isLt; show 1 = (y 0).val; omega) (congrArg (512 * t.val + ·) h1.symm) h2.symm)
  case piece19 =>
    idx_vars x
    exact ((d1_0 _ _ _ _ x0 x1 x2).trans (d0_at m c t 256 inb_S2816x1024_S256x1024_256_0 inb_S512x2816_S512x256_0_256 inb_S512x2816_S512x256_0_256 x1 x2)).trans (dd_congr m c (by have := x0.isLt; show 0 = (y 0).val; omega) (congrArg (512 * t.val + ·) h1.symm) h2.symm)
  case piece20 =>
    idx_vars x
    exact ((d0_1 _ _ _ x0 x1 x2).trans (d1_at m c t 0 inb_S2816x1024_S256x1024_0_0 inb_S512x2816_S512x256_0_0 x1 x2)).trans (dd_congr m c (by have := x0.isLt; show 1 = (y 0).val; omega) (congrArg (512 * t.val + ·) h1.symm) ((Nat.zero_add _).trans h2.symm))
  case piece21 =>
    idx_vars x
    exact ((d0_0 _ _ _ _ x0 x1 x2).trans (d0_at m c t 0 inb_S2816x1024_S256x1024_0_0 inb_S512x2816_S512x256_0_0 inb_S512x2816_S512x256_0_0 x1 x2)).trans (dd_congr m c (by have := x0.isLt; show 0 = (y 0).val; omega) (congrArg (512 * t.val + ·) h1.symm) ((Nat.zero_add _).trans h2.symm))
theorem acc_A (h0 : t.val % 16 = 0) (h3 : t.val % 16 = 0) (h4 : ¬t.val % 16 = 15) (y : S1x1024x2816.Idx) : (outsAt0 m c t.val t.isLt).2.2 y = st m c t (k0_pay44 (F := Ideal)) (y 1) (y 2) := by
  rw [outsAt0_A m c t h0 h3 h4]
  frame_open
  simp (disch := decide) only [↓View.readCov_skip, ↓View.readCov_fill, View.readCov_cons_toLoadRect]
  frame_out
  clear h0 h3 h4
  refine (canon_over11 _ _ _ _ _ _ _ _ _ _ _ _ y (View.cover_of_tiled_head _ _ _ (by rfl) y)).trans ?_
  canon_tiles x h
  case piece0 =>
    idx_vars x
    exact ((d10_2 _ _ _ _ x0 x1 x2).trans (st_at m c t _ 2560 inb_S1x1024x2816_S1x1024x256_0_0_2560 inb_S512x2816_S512x256_0_2560 inb_S512x2816_S512x256_0_2560 x1 x2)).trans (st_congr m c t _ h1.symm h2.symm)
  case piece1 =>
    idx_vars x
    exact ((d9_2 _ _ _ _ x0 x1 x2).trans (st_at m c t _ 2304 inb_S1x1024x2816_S1x1024x256_0_0_2304 inb_S512x2816_S512x256_0_2304 inb_S512x2816_S512x256_0_2304 x1 x2)).trans (st_congr m c t _ h1.symm h2.symm)
  case piece2 =>
    idx_vars x
    exact ((d8_2 _ _ _ _ x0 x1 x2).trans (st_at m c t _ 2048 inb_S1x1024x2816_S1x1024x256_0_0_2048 inb_S512x2816_S512x256_0_2048 inb_S512x2816_S512x256_0_2048 x1 x2)).trans (st_congr m c t _ h1.symm h2.symm)
  case piece3 =>
    idx_vars x
    exact ((d7_2 _ _ _ _ x0 x1 x2).trans (st_at m c t _ 1792 inb_S1x1024x2816_S1x1024x256_0_0_1792 inb_S512x2816_S512x256_0_1792 inb_S512x2816_S512x256_0_1792 x1 x2)).trans (st_congr m c t _ h1.symm h2.symm)
  case piece4 =>
    idx_vars x
    exact ((d6_2 _ _ _ _ x0 x1 x2).trans (st_at m c t _ 1536 inb_S1x1024x2816_S1x1024x256_0_0_1536 inb_S512x2816_S512x256_0_1536 inb_S512x2816_S512x256_0_1536 x1 x2)).trans (st_congr m c t _ h1.symm h2.symm)
  case piece5 =>
    idx_vars x
    exact ((d5_2 _ _ _ _ x0 x1 x2).trans (st_at m c t _ 1280 inb_S1x1024x2816_S1x1024x256_0_0_1280 inb_S512x2816_S512x256_0_1280 inb_S512x2816_S512x256_0_1280 x1 x2)).trans (st_congr m c t _ h1.symm h2.symm)
  case piece6 =>
    idx_vars x
    exact ((d4_2 _ _ _ _ x0 x1 x2).trans (st_at m c t _ 1024 inb_S1x1024x2816_S1x1024x256_0_0_1024 inb_S512x2816_S512x256_0_1024 inb_S512x2816_S512x256_0_1024 x1 x2)).trans (st_congr m c t _ h1.symm h2.symm)
  case piece7 =>
    idx_vars x
    exact ((d3_2 _ _ _ _ x0 x1 x2).trans (st_at m c t _ 768 inb_S1x1024x2816_S1x1024x256_0_0_768 inb_S512x2816_S512x256_0_768 inb_S512x2816_S512x256_0_768 x1 x2)).trans (st_congr m c t _ h1.symm h2.symm)
  case piece8 =>
    idx_vars x
    exact ((d2_2 _ _ _ _ x0 x1 x2).trans (st_at m c t _ 512 inb_S1x1024x2816_S1x1024x256_0_0_512 inb_S512x2816_S512x256_0_512 inb_S512x2816_S512x256_0_512 x1 x2)).trans (st_congr m c t _ h1.symm h2.symm)
  case piece9 =>
    idx_vars x
    exact ((d1_2 _ _ _ _ x0 x1 x2).trans (st_at m c t _ 256 inb_S1x1024x2816_S1x1024x256_0_0_256 inb_S512x2816_S512x256_0_256 inb_S512x2816_S512x256_0_256 x1 x2)).trans (st_congr m c t _ h1.symm h2.symm)
  case piece10 =>
    idx_vars x
    exact ((d0_2 _ _ _ _ x0 x1 x2).trans (st_at m c t _ 0 inb_S1x1024x2816_S1x1024x256_0_0_0 inb_S512x2816_S512x256_0_0 inb_S512x2816_S512x256_0_0 x1 x2)).trans (st_congr m c t _ h1.symm ((Nat.zero_add _).trans h2.symm))
theorem out5_B (h0 : ¬t.val % 16 = 0) (h3 : ¬t.val % 16 = 0) (h4 : ¬t.val % 16 = 15) (y : S2x512x2816.Idx) : (outsAt0 m c t.val t.isLt).1 y = dd m c (y 0) (row t (y 1)) (y 2) := by
  rw [outsAt0_B m c t h0 h3 h4]
  frame_open
  simp (disch := decide) only [↓View.readCov_skip, ↓View.readCov_fill, View.readCov_cons_toLoadRect]
  frame_out
  clear h0 h3 h4
  canon_tiles x h
  case piece0 =>
    idx_vars x
    exact ((d10_1 _ _ _ x0 x1 x2).trans (d1_at m c t 2560 inb_S2816x1024_S256x1024_2560_0 inb_S512x2816_S512x256_0_2560 x1 x2)).trans (dd_congr m c (by have := x0.isLt; show 1 = (y 0).val; omega) (congrArg (512 * t.val + ·) h1.symm) h2.symm)
  case piece1 =>
    idx_vars x
    exact ((d10_0 _ _ _ _ x0 x1 x2).trans (d0_at m c t 2560 inb_S2816x1024_S256x1024_2560_0 inb_S512x2816_S512x256_0_2560 inb_S512x2816_S512x256_0_2560 x1 x2)).trans (dd_congr m c (by have := x0.isLt; show 0 = (y 0).val; omega) (congrArg (512 * t.val + ·) h1.symm) h2.symm)
  case piece2 =>
    idx_vars x
    exact ((d9_1 _ _ _ x0 x1 x2).trans (d1_at m c t 2304 inb_S2816x1024_S256x1024_2304_0 inb_S512x2816_S512x256_0_2304 x1 x2)).trans (dd_congr m c (by have := x0.isLt; show 1 = (y 0).val; omega) (congrArg (512 * t.val + ·) h1.symm) h2.symm)
  case piece3 =>
    idx_vars x
    exact ((d9_0 _ _ _ _ x0 x1 x2).trans (d0_at m c t 2304 inb_S2816x1024_S256x1024_2304_0 inb_S512x2816_S512x256_0_2304 inb_S512x2816_S512x256_0_2304 x1 x2)).trans (dd_congr m c (by have := x0.isLt; show 0 = (y 0).val; omega) (congrArg (512 * t.val + ·) h1.symm) h2.symm)
  case piece4 =>
    idx_vars x
    exact ((d8_1 _ _ _ x0 x1 x2).trans (d1_at m c t 2048 inb_S2816x1024_S256x1024_2048_0 inb_S512x2816_S512x256_0_2048 x1 x2)).trans (dd_congr m c (by have := x0.isLt; show 1 = (y 0).val; omega) (congrArg (512 * t.val + ·) h1.symm) h2.symm)
  case piece5 =>
    idx_vars x
    exact ((d8_0 _ _ _ _ x0 x1 x2).trans (d0_at m c t 2048 inb_S2816x1024_S256x1024_2048_0 inb_S512x2816_S512x256_0_2048 inb_S512x2816_S512x256_0_2048 x1 x2)).trans (dd_congr m c (by have := x0.isLt; show 0 = (y 0).val; omega) (congrArg (512 * t.val + ·) h1.symm) h2.symm)
  case piece6 =>
    idx_vars x
    exact ((d7_1 _ _ _ x0 x1 x2).trans (d1_at m c t 1792 inb_S2816x1024_S256x1024_1792_0 inb_S512x2816_S512x256_0_1792 x1 x2)).trans (dd_congr m c (by have := x0.isLt; show 1 = (y 0).val; omega) (congrArg (512 * t.val + ·) h1.symm) h2.symm)
  case piece7 =>
    idx_vars x
    exact ((d7_0 _ _ _ _ x0 x1 x2).trans (d0_at m c t 1792 inb_S2816x1024_S256x1024_1792_0 inb_S512x2816_S512x256_0_1792 inb_S512x2816_S512x256_0_1792 x1 x2)).trans (dd_congr m c (by have := x0.isLt; show 0 = (y 0).val; omega) (congrArg (512 * t.val + ·) h1.symm) h2.symm)
  case piece8 =>
    idx_vars x
    exact ((d6_1 _ _ _ x0 x1 x2).trans (d1_at m c t 1536 inb_S2816x1024_S256x1024_1536_0 inb_S512x2816_S512x256_0_1536 x1 x2)).trans (dd_congr m c (by have := x0.isLt; show 1 = (y 0).val; omega) (congrArg (512 * t.val + ·) h1.symm) h2.symm)
  case piece9 =>
    idx_vars x
    exact ((d6_0 _ _ _ _ x0 x1 x2).trans (d0_at m c t 1536 inb_S2816x1024_S256x1024_1536_0 inb_S512x2816_S512x256_0_1536 inb_S512x2816_S512x256_0_1536 x1 x2)).trans (dd_congr m c (by have := x0.isLt; show 0 = (y 0).val; omega) (congrArg (512 * t.val + ·) h1.symm) h2.symm)
  case piece10 =>
    idx_vars x
    exact ((d5_1 _ _ _ x0 x1 x2).trans (d1_at m c t 1280 inb_S2816x1024_S256x1024_1280_0 inb_S512x2816_S512x256_0_1280 x1 x2)).trans (dd_congr m c (by have := x0.isLt; show 1 = (y 0).val; omega) (congrArg (512 * t.val + ·) h1.symm) h2.symm)
  case piece11 =>
    idx_vars x
    exact ((d5_0 _ _ _ _ x0 x1 x2).trans (d0_at m c t 1280 inb_S2816x1024_S256x1024_1280_0 inb_S512x2816_S512x256_0_1280 inb_S512x2816_S512x256_0_1280 x1 x2)).trans (dd_congr m c (by have := x0.isLt; show 0 = (y 0).val; omega) (congrArg (512 * t.val + ·) h1.symm) h2.symm)
  case piece12 =>
    idx_vars x
    exact ((d4_1 _ _ _ x0 x1 x2).trans (d1_at m c t 1024 inb_S2816x1024_S256x1024_1024_0 inb_S512x2816_S512x256_0_1024 x1 x2)).trans (dd_congr m c (by have := x0.isLt; show 1 = (y 0).val; omega) (congrArg (512 * t.val + ·) h1.symm) h2.symm)
  case piece13 =>
    idx_vars x
    exact ((d4_0 _ _ _ _ x0 x1 x2).trans (d0_at m c t 1024 inb_S2816x1024_S256x1024_1024_0 inb_S512x2816_S512x256_0_1024 inb_S512x2816_S512x256_0_1024 x1 x2)).trans (dd_congr m c (by have := x0.isLt; show 0 = (y 0).val; omega) (congrArg (512 * t.val + ·) h1.symm) h2.symm)
  case piece14 =>
    idx_vars x
    exact ((d3_1 _ _ _ x0 x1 x2).trans (d1_at m c t 768 inb_S2816x1024_S256x1024_768_0 inb_S512x2816_S512x256_0_768 x1 x2)).trans (dd_congr m c (by have := x0.isLt; show 1 = (y 0).val; omega) (congrArg (512 * t.val + ·) h1.symm) h2.symm)
  case piece15 =>
    idx_vars x
    exact ((d3_0 _ _ _ _ x0 x1 x2).trans (d0_at m c t 768 inb_S2816x1024_S256x1024_768_0 inb_S512x2816_S512x256_0_768 inb_S512x2816_S512x256_0_768 x1 x2)).trans (dd_congr m c (by have := x0.isLt; show 0 = (y 0).val; omega) (congrArg (512 * t.val + ·) h1.symm) h2.symm)
  case piece16 =>
    idx_vars x
    exact ((d2_1 _ _ _ x0 x1 x2).trans (d1_at m c t 512 inb_S2816x1024_S256x1024_512_0 inb_S512x2816_S512x256_0_512 x1 x2)).trans (dd_congr m c (by have := x0.isLt; show 1 = (y 0).val; omega) (congrArg (512 * t.val + ·) h1.symm) h2.symm)
  case piece17 =>
    idx_vars x
    exact ((d2_0 _ _ _ _ x0 x1 x2).trans (d0_at m c t 512 inb_S2816x1024_S256x1024_512_0 inb_S512x2816_S512x256_0_512 inb_S512x2816_S512x256_0_512 x1 x2)).trans (dd_congr m c (by have := x0.isLt; show 0 = (y 0).val; omega) (congrArg (512 * t.val + ·) h1.symm) h2.symm)
  case piece18 =>
    idx_vars x
    exact ((d1_1 _ _ _ x0 x1 x2).trans (d1_at m c t 256 inb_S2816x1024_S256x1024_256_0 inb_S512x2816_S512x256_0_256 x1 x2)).trans (dd_congr m c (by have := x0.isLt; show 1 = (y 0).val; omega) (congrArg (512 * t.val + ·) h1.symm) h2.symm)
  case piece19 =>
    idx_vars x
    exact ((d1_0 _ _ _ _ x0 x1 x2).trans (d0_at m c t 256 inb_S2816x1024_S256x1024_256_0 inb_S512x2816_S512x256_0_256 inb_S512x2816_S512x256_0_256 x1 x2)).trans (dd_congr m c (by have := x0.isLt; show 0 = (y 0).val; omega) (congrArg (512 * t.val + ·) h1.symm) h2.symm)
  case piece20 =>
    idx_vars x
    exact ((d0_1 _ _ _ x0 x1 x2).trans (d1_at m c t 0 inb_S2816x1024_S256x1024_0_0 inb_S512x2816_S512x256_0_0 x1 x2)).trans (dd_congr m c (by have := x0.isLt; show 1 = (y 0).val; omega) (congrArg (512 * t.val + ·) h1.symm) ((Nat.zero_add _).trans h2.symm))
  case piece21 =>
    idx_vars x
    exact ((d0_0 _ _ _ _ x0 x1 x2).trans (d0_at m c t 0 inb_S2816x1024_S256x1024_0_0 inb_S512x2816_S512x256_0_0 inb_S512x2816_S512x256_0_0 x1 x2)).trans (dd_congr m c (by have := x0.isLt; show 0 = (y 0).val; omega) (congrArg (512 * t.val + ·) h1.symm) ((Nat.zero_add _).trans h2.symm))
theorem acc_B (h0 : ¬t.val % 16 = 0) (h3 : ¬t.val % 16 = 0) (h4 : ¬t.val % 16 = 15) (y : S1x1024x2816.Idx) : (outsAt0 m c t.val t.isLt).2.2 y = st m c t (outsAt0 m c (t.val - 1) (Nat.lt_of_le_of_lt (Nat.sub_le _ _) t.isLt)).2.2 (y 1) (y 2) := by
  rw [outsAt0_B m c t h0 h3 h4]
  frame_open
  simp (disch := decide) only [↓View.readCov_skip, ↓View.readCov_fill, View.readCov_cons_toLoadRect]
  frame_out
  simp only [read_unread_whole]
  clear h0 h3 h4
  canon_tiles x h
  case piece0 =>
    idx_vars x
    exact ((d10_2 _ _ _ _ x0 x1 x2).trans (st_at m c t _ 2560 inb_S1x1024x2816_S1x1024x256_0_0_2560 inb_S512x2816_S512x256_0_2560 inb_S512x2816_S512x256_0_2560 x1 x2)).trans (st_congr m c t _ h1.symm h2.symm)
  case piece1 =>
    idx_vars x
    exact ((d9_2 _ _ _ _ x0 x1 x2).trans (st_at m c t _ 2304 inb_S1x1024x2816_S1x1024x256_0_0_2304 inb_S512x2816_S512x256_0_2304 inb_S512x2816_S512x256_0_2304 x1 x2)).trans (st_congr m c t _ h1.symm h2.symm)
  case piece2 =>
    idx_vars x
    exact ((d8_2 _ _ _ _ x0 x1 x2).trans (st_at m c t _ 2048 inb_S1x1024x2816_S1x1024x256_0_0_2048 inb_S512x2816_S512x256_0_2048 inb_S512x2816_S512x256_0_2048 x1 x2)).trans (st_congr m c t _ h1.symm h2.symm)
  case piece3 =>
    idx_vars x
    exact ((d7_2 _ _ _ _ x0 x1 x2).trans (st_at m c t _ 1792 inb_S1x1024x2816_S1x1024x256_0_0_1792 inb_S512x2816_S512x256_0_1792 inb_S512x2816_S512x256_0_1792 x1 x2)).trans (st_congr m c t _ h1.symm h2.symm)
  case piece4 =>
    idx_vars x
    exact ((d6_2 _ _ _ _ x0 x1 x2).trans (st_at m c t _ 1536 inb_S1x1024x2816_S1x1024x256_0_0_1536 inb_S512x2816_S512x256_0_1536 inb_S512x2816_S512x256_0_1536 x1 x2)).trans (st_congr m c t _ h1.symm h2.symm)
  case piece5 =>
    idx_vars x
    exact ((d5_2 _ _ _ _ x0 x1 x2).trans (st_at m c t _ 1280 inb_S1x1024x2816_S1x1024x256_0_0_1280 inb_S512x2816_S512x256_0_1280 inb_S512x2816_S512x256_0_1280 x1 x2)).trans (st_congr m c t _ h1.symm h2.symm)
  case piece6 =>
    idx_vars x
    exact ((d4_2 _ _ _ _ x0 x1 x2).trans (st_at m c t _ 1024 inb_S1x1024x2816_S1x1024x256_0_0_1024 inb_S512x2816_S512x256_0_1024 inb_S512x2816_S512x256_0_1024 x1 x2)).trans (st_congr m c t _ h1.symm h2.symm)
  case piece7 =>
    idx_vars x
    exact ((d3_2 _ _ _ _ x0 x1 x2).trans (st_at m c t _ 768 inb_S1x1024x2816_S1x1024x256_0_0_768 inb_S512x2816_S512x256_0_768 inb_S512x2816_S512x256_0_768 x1 x2)).trans (st_congr m c t _ h1.symm h2.symm)
  case piece8 =>
    idx_vars x
    exact ((d2_2 _ _ _ _ x0 x1 x2).trans (st_at m c t _ 512 inb_S1x1024x2816_S1x1024x256_0_0_512 inb_S512x2816_S512x256_0_512 inb_S512x2816_S512x256_0_512 x1 x2)).trans (st_congr m c t _ h1.symm h2.symm)
  case piece9 =>
    idx_vars x
    exact ((d1_2 _ _ _ _ x0 x1 x2).trans (st_at m c t _ 256 inb_S1x1024x2816_S1x1024x256_0_0_256 inb_S512x2816_S512x256_0_256 inb_S512x2816_S512x256_0_256 x1 x2)).trans (st_congr m c t _ h1.symm h2.symm)
  case piece10 =>
    idx_vars x
    exact ((d0_2 _ _ _ _ x0 x1 x2).trans (st_at m c t _ 0 inb_S1x1024x2816_S1x1024x256_0_0_0 inb_S512x2816_S512x256_0_0 inb_S512x2816_S512x256_0_0 x1 x2)).trans (st_congr m c t _ h1.symm ((Nat.zero_add _).trans h2.symm))
theorem out5_C (h0 : ¬t.val % 16 = 0) (h3 : ¬t.val % 16 = 0) (h4 : t.val % 16 = 15) (y : S2x512x2816.Idx) : (outsAt0 m c t.val t.isLt).1 y = dd m c (y 0) (row t (y 1)) (y 2) := by
  rw [outsAt0_C m c t h0 h3 h4]
  frame_open
  simp (disch := decide) only [↓View.readCov_skip, ↓View.readCov_fill, View.readCov_cons_toLoadRect]
  frame_out
  clear h0 h3 h4
  canon_tiles x h
  case piece0 =>
    idx_vars x
    exact ((d10_1 _ _ _ x0 x1 x2).trans (d1_at m c t 2560 inb_S2816x1024_S256x1024_2560_0 inb_S512x2816_S512x256_0_2560 x1 x2)).trans (dd_congr m c (by have := x0.isLt; show 1 = (y 0).val; omega) (congrArg (512 * t.val + ·) h1.symm) h2.symm)
  case piece1 =>
    idx_vars x
    exact ((d10_0 _ _ _ _ x0 x1 x2).trans (d0_at m c t 2560 inb_S2816x1024_S256x1024_2560_0 inb_S512x2816_S512x256_0_2560 inb_S512x2816_S512x256_0_2560 x1 x2)).trans (dd_congr m c (by have := x0.isLt; show 0 = (y 0).val; omega) (congrArg (512 * t.val + ·) h1.symm) h2.symm)
  case piece2 =>
    idx_vars x
    exact ((d9_1 _ _ _ x0 x1 x2).trans (d1_at m c t 2304 inb_S2816x1024_S256x1024_2304_0 inb_S512x2816_S512x256_0_2304 x1 x2)).trans (dd_congr m c (by have := x0.isLt; show 1 = (y 0).val; omega) (congrArg (512 * t.val + ·) h1.symm) h2.symm)
  case piece3 =>
    idx_vars x
    exact ((d9_0 _ _ _ _ x0 x1 x2).trans (d0_at m c t 2304 inb_S2816x1024_S256x1024_2304_0 inb_S512x2816_S512x256_0_2304 inb_S512x2816_S512x256_0_2304 x1 x2)).trans (dd_congr m c (by have := x0.isLt; show 0 = (y 0).val; omega) (congrArg (512 * t.val + ·) h1.symm) h2.symm)
  case piece4 =>
    idx_vars x
    exact ((d8_1 _ _ _ x0 x1 x2).trans (d1_at m c t 2048 inb_S2816x1024_S256x1024_2048_0 inb_S512x2816_S512x256_0_2048 x1 x2)).trans (dd_congr m c (by have := x0.isLt; show 1 = (y 0).val; omega) (congrArg (512 * t.val + ·) h1.symm) h2.symm)
  case piece5 =>
    idx_vars x
    exact ((d8_0 _ _ _ _ x0 x1 x2).trans (d0_at m c t 2048 inb_S2816x1024_S256x1024_2048_0 inb_S512x2816_S512x256_0_2048 inb_S512x2816_S512x256_0_2048 x1 x2)).trans (dd_congr m c (by have := x0.isLt; show 0 = (y 0).val; omega) (congrArg (512 * t.val + ·) h1.symm) h2.symm)
  case piece6 =>
    idx_vars x
    exact ((d7_1 _ _ _ x0 x1 x2).trans (d1_at m c t 1792 inb_S2816x1024_S256x1024_1792_0 inb_S512x2816_S512x256_0_1792 x1 x2)).trans (dd_congr m c (by have := x0.isLt; show 1 = (y 0).val; omega) (congrArg (512 * t.val + ·) h1.symm) h2.symm)
  case piece7 =>
    idx_vars x
    exact ((d7_0 _ _ _ _ x0 x1 x2).trans (d0_at m c t 1792 inb_S2816x1024_S256x1024_1792_0 inb_S512x2816_S512x256_0_1792 inb_S512x2816_S512x256_0_1792 x1 x2)).trans (dd_congr m c (by have := x0.isLt; show 0 = (y 0).val; omega) (congrArg (512 * t.val + ·) h1.symm) h2.symm)
  case piece8 =>
    idx_vars x
    exact ((d6_1 _ _ _ x0 x1 x2).trans (d1_at m c t 1536 inb_S2816x1024_S256x1024_1536_0 inb_S512x2816_S512x256_0_1536 x1 x2)).trans (dd_congr m c (by have := x0.isLt; show 1 = (y 0).val; omega) (congrArg (512 * t.val + ·) h1.symm) h2.symm)
  case piece9 =>
    idx_vars x
    exact ((d6_0 _ _ _ _ x0 x1 x2).trans (d0_at m c t 1536 inb_S2816x1024_S256x1024_1536_0 inb_S512x2816_S512x256_0_1536 inb_S512x2816_S512x256_0_1536 x1 x2)).trans (dd_congr m c (by have := x0.isLt; show 0 = (y 0).val; omega) (congrArg (512 * t.val + ·) h1.symm) h2.symm)
  case piece10 =>
    idx_vars x
    exact ((d5_1 _ _ _ x0 x1 x2).trans (d1_at m c t 1280 inb_S2816x1024_S256x1024_1280_0 inb_S512x2816_S512x256_0_1280 x1 x2)).trans (dd_congr m c (by have := x0.isLt; show 1 = (y 0).val; omega) (congrArg (512 * t.val + ·) h1.symm) h2.symm)
  case piece11 =>
    idx_vars x
    exact ((d5_0 _ _ _ _ x0 x1 x2).trans (d0_at m c t 1280 inb_S2816x1024_S256x1024_1280_0 inb_S512x2816_S512x256_0_1280 inb_S512x2816_S512x256_0_1280 x1 x2)).trans (dd_congr m c (by have := x0.isLt; show 0 = (y 0).val; omega) (congrArg (512 * t.val + ·) h1.symm) h2.symm)
  case piece12 =>
    idx_vars x
    exact ((d4_1 _ _ _ x0 x1 x2).trans (d1_at m c t 1024 inb_S2816x1024_S256x1024_1024_0 inb_S512x2816_S512x256_0_1024 x1 x2)).trans (dd_congr m c (by have := x0.isLt; show 1 = (y 0).val; omega) (congrArg (512 * t.val + ·) h1.symm) h2.symm)
  case piece13 =>
    idx_vars x
    exact ((d4_0 _ _ _ _ x0 x1 x2).trans (d0_at m c t 1024 inb_S2816x1024_S256x1024_1024_0 inb_S512x2816_S512x256_0_1024 inb_S512x2816_S512x256_0_1024 x1 x2)).trans (dd_congr m c (by have := x0.isLt; show 0 = (y 0).val; omega) (congrArg (512 * t.val + ·) h1.symm) h2.symm)
  case piece14 =>
    idx_vars x
    exact ((d3_1 _ _ _ x0 x1 x2).trans (d1_at m c t 768 inb_S2816x1024_S256x1024_768_0 inb_S512x2816_S512x256_0_768 x1 x2)).trans (dd_congr m c (by have := x0.isLt; show 1 = (y 0).val; omega) (congrArg (512 * t.val + ·) h1.symm) h2.symm)
  case piece15 =>
    idx_vars x
    exact ((d3_0 _ _ _ _ x0 x1 x2).trans (d0_at m c t 768 inb_S2816x1024_S256x1024_768_0 inb_S512x2816_S512x256_0_768 inb_S512x2816_S512x256_0_768 x1 x2)).trans (dd_congr m c (by have := x0.isLt; show 0 = (y 0).val; omega) (congrArg (512 * t.val + ·) h1.symm) h2.symm)
  case piece16 =>
    idx_vars x
    exact ((d2_1 _ _ _ x0 x1 x2).trans (d1_at m c t 512 inb_S2816x1024_S256x1024_512_0 inb_S512x2816_S512x256_0_512 x1 x2)).trans (dd_congr m c (by have := x0.isLt; show 1 = (y 0).val; omega) (congrArg (512 * t.val + ·) h1.symm) h2.symm)
  case piece17 =>
    idx_vars x
    exact ((d2_0 _ _ _ _ x0 x1 x2).trans (d0_at m c t 512 inb_S2816x1024_S256x1024_512_0 inb_S512x2816_S512x256_0_512 inb_S512x2816_S512x256_0_512 x1 x2)).trans (dd_congr m c (by have := x0.isLt; show 0 = (y 0).val; omega) (congrArg (512 * t.val + ·) h1.symm) h2.symm)
  case piece18 =>
    idx_vars x
    exact ((d1_1 _ _ _ x0 x1 x2).trans (d1_at m c t 256 inb_S2816x1024_S256x1024_256_0 inb_S512x2816_S512x256_0_256 x1 x2)).trans (dd_congr m c (by have := x0.isLt; show 1 = (y 0).val; omega) (congrArg (512 * t.val + ·) h1.symm) h2.symm)
  case piece19 =>
    idx_vars x
    exact ((d1_0 _ _ _ _ x0 x1 x2).trans (d0_at m c t 256 inb_S2816x1024_S256x1024_256_0 inb_S512x2816_S512x256_0_256 inb_S512x2816_S512x256_0_256 x1 x2)).trans (dd_congr m c (by have := x0.isLt; show 0 = (y 0).val; omega) (congrArg (512 * t.val + ·) h1.symm) h2.symm)
  case piece20 =>
    idx_vars x
    exact ((d0_1 _ _ _ x0 x1 x2).trans (d1_at m c t 0 inb_S2816x1024_S256x1024_0_0 inb_S512x2816_S512x256_0_0 x1 x2)).trans (dd_congr m c (by have := x0.isLt; show 1 = (y 0).val; omega) (congrArg (512 * t.val + ·) h1.symm) ((Nat.zero_add _).trans h2.symm))
  case piece21 =>
    idx_vars x
    exact ((d0_0 _ _ _ _ x0 x1 x2).trans (d0_at m c t 0 inb_S2816x1024_S256x1024_0_0 inb_S512x2816_S512x256_0_0 inb_S512x2816_S512x256_0_0 x1 x2)).trans (dd_congr m c (by have := x0.isLt; show 0 = (y 0).val; omega) (congrArg (512 * t.val + ·) h1.symm) ((Nat.zero_add _).trans h2.symm))
theorem acc_C (h0 : ¬t.val % 16 = 0) (h3 : ¬t.val % 16 = 0) (h4 : t.val % 16 = 15) (y : S1x1024x2816.Idx) : (outsAt0 m c t.val t.isLt).2.2 y = st m c t (outsAt0 m c (t.val - 1) (Nat.lt_of_le_of_lt (Nat.sub_le _ _) t.isLt)).2.2 (y 1) (y 2) := by
  rw [outsAt0_C m c t h0 h3 h4]
  frame_open
  simp (disch := decide) only [↓View.readCov_skip, ↓View.readCov_fill, View.readCov_cons_toLoadRect]
  frame_out
  simp only [read_unread_whole]
  clear h0 h3 h4
  canon_tiles x h
  case piece0 =>
    idx_vars x
    exact ((d10_2 _ _ _ _ x0 x1 x2).trans (st_at m c t _ 2560 inb_S1x1024x2816_S1x1024x256_0_0_2560 inb_S512x2816_S512x256_0_2560 inb_S512x2816_S512x256_0_2560 x1 x2)).trans (st_congr m c t _ h1.symm h2.symm)
  case piece1 =>
    idx_vars x
    exact ((d9_2 _ _ _ _ x0 x1 x2).trans (st_at m c t _ 2304 inb_S1x1024x2816_S1x1024x256_0_0_2304 inb_S512x2816_S512x256_0_2304 inb_S512x2816_S512x256_0_2304 x1 x2)).trans (st_congr m c t _ h1.symm h2.symm)
  case piece2 =>
    idx_vars x
    exact ((d8_2 _ _ _ _ x0 x1 x2).trans (st_at m c t _ 2048 inb_S1x1024x2816_S1x1024x256_0_0_2048 inb_S512x2816_S512x256_0_2048 inb_S512x2816_S512x256_0_2048 x1 x2)).trans (st_congr m c t _ h1.symm h2.symm)
  case piece3 =>
    idx_vars x
    exact ((d7_2 _ _ _ _ x0 x1 x2).trans (st_at m c t _ 1792 inb_S1x1024x2816_S1x1024x256_0_0_1792 inb_S512x2816_S512x256_0_1792 inb_S512x2816_S512x256_0_1792 x1 x2)).trans (st_congr m c t _ h1.symm h2.symm)
  case piece4 =>
    idx_vars x
    exact ((d6_2 _ _ _ _ x0 x1 x2).trans (st_at m c t _ 1536 inb_S1x1024x2816_S1x1024x256_0_0_1536 inb_S512x2816_S512x256_0_1536 inb_S512x2816_S512x256_0_1536 x1 x2)).trans (st_congr m c t _ h1.symm h2.symm)
  case piece5 =>
    idx_vars x
    exact ((d5_2 _ _ _ _ x0 x1 x2).trans (st_at m c t _ 1280 inb_S1x1024x2816_S1x1024x256_0_0_1280 inb_S512x2816_S512x256_0_1280 inb_S512x2816_S512x256_0_1280 x1 x2)).trans (st_congr m c t _ h1.symm h2.symm)
  case piece6 =>
    idx_vars x
    exact ((d4_2 _ _ _ _ x0 x1 x2).trans (st_at m c t _ 1024 inb_S1x1024x2816_S1x1024x256_0_0_1024 inb_S512x2816_S512x256_0_1024 inb_S512x2816_S512x256_0_1024 x1 x2)).trans (st_congr m c t _ h1.symm h2.symm)
  case piece7 =>
    idx_vars x
    exact ((d3_2 _ _ _ _ x0 x1 x2).trans (st_at m c t _ 768 inb_S1x1024x2816_S1x1024x256_0_0_768 inb_S512x2816_S512x256_0_768 inb_S512x2816_S512x256_0_768 x1 x2)).trans (st_congr m c t _ h1.symm h2.symm)
  case piece8 =>
    idx_vars x
    exact ((d2_2 _ _ _ _ x0 x1 x2).trans (st_at m c t _ 512 inb_S1x1024x2816_S1x1024x256_0_0_512 inb_S512x2816_S512x256_0_512 inb_S512x2816_S512x256_0_512 x1 x2)).trans (st_congr m c t _ h1.symm h2.symm)
  case piece9 =>
    idx_vars x
    exact ((d1_2 _ _ _ _ x0 x1 x2).trans (st_at m c t _ 256 inb_S1x1024x2816_S1x1024x256_0_0_256 inb_S512x2816_S512x256_0_256 inb_S512x2816_S512x256_0_256 x1 x2)).trans (st_congr m c t _ h1.symm h2.symm)
  case piece10 =>
    idx_vars x
    exact ((d0_2 _ _ _ _ x0 x1 x2).trans (st_at m c t _ 0 inb_S1x1024x2816_S1x1024x256_0_0_0 inb_S512x2816_S512x256_0_0 inb_S512x2816_S512x256_0_0 x1 x2)).trans (st_congr m c t _ h1.symm ((Nat.zero_add _).trans h2.symm))

theorem out5_at (y : S2x512x2816.Idx) : (outsAt0 m c t.val t.isLt).1 y = dd m c (y 0) (row t (y 1)) (y 2) := by
  by_cases h0 : t.val % 16 = 0
  · exact out5_A m c t h0 h0 (by omega) y
  · by_cases h4 : t.val % 16 = 15
    · exact out5_C m c t h0 h0 h4 y
    · exact out5_B m c t h0 h0 h4 y
theorem acc_step (h : ¬t.val % 16 = 0) (y : S1x1024x2816.Idx) : (outsAt0 m c t.val t.isLt).2.2 y = st m c t (outsAt0 m c (t.val - 1) (Nat.lt_of_le_of_lt (Nat.sub_le _ _) t.isLt)).2.2 (y 1) (y 2) := by
  by_cases h4 : t.val % 16 = 15
  · exact acc_C m c t h h h4 y
  · exact acc_B m c t h h h4 y

theorem gate_A (h0 : t.val % 16 = 0) (h3 : t.val % 16 = 0) (h4 : ¬t.val % 16 = 15) (j : Fin 1024) : (outsAt0 m c t.val t.isLt).2.1 (ix2 0 j) = 0 := by
  rw [outsAt0_A m c t h0 h3 h4]
  frame_open
  simp (disch := decide) only [↓View.readCov_skip, ↓View.readCov_fill, View.readCov_cons_toLoadRect]
  frame_out
  exact zg_at j
theorem gate_B (h0 : ¬t.val % 16 = 0) (h3 : ¬t.val % 16 = 0) (h4 : ¬t.val % 16 = 15) (j : Fin 1024) : (outsAt0 m c t.val t.isLt).2.1 (ix2 0 j) = (outsAt0 m c (t.val - 1) (Nat.lt_of_le_of_lt (Nat.sub_le _ _) t.isLt)).2.1 (ix2 0 j) := by
  rw [outsAt0_B m c t h0 h3 h4]
  dsimp only
  unfold out0_B_6
  rfl

/-- One chunk's share of the gate's cotangent, from the whole sum. -/
def gs (j : Fin 1024) (p : Fin 11) : EReal := half * ∑ q : Fin 256, (outsAt0 m c t.val t.isLt).2.2 (ix3 0 j ⟨256 * p.val + q.val, by omega⟩) * argWd m c (ix2 ⟨256 * p.val + q.val, by omega⟩ j)
theorem gs_at (j : Fin 1024) (p : Fin 11) (o : ℕ) (ho : o = 256 * p.val) (h h' : ∀ a, (![o, 0] : Fin 2 → ℕ) a + (![256, 1024] : Fin 2 → ℕ) a ≤ S2816x1024.size a) (h0 : ¬t.val % 16 = 0) (h3 : ¬t.val % 16 = 0) (h4 : t.val % 16 = 15) (A : FVec Ideal S1x1024x256 .f32)
    (hA : ∀ q, A (ix3 0 j q) = st m c t (outsAt0 m c (t.val - 1) (Nat.lt_of_le_of_lt (Nat.sub_le _ _) t.isLt)).2.2 j ⟨o + q.val, by have : o + 256 ≤ 2816 := h 0; omega⟩) :
    half * (∑ q : Fin 256, A (ix3 0 j q) * wn m c t o h' (ix2 q j)) = gs m c t j p := by
  subst ho
  refine congrArg (fun y => half * y) (Finset.sum_congr rfl fun q _ => congrArg₂ (· * ·) ((hA q).trans ?_) (wn_at m c t _ h' q j))
  exact (acc_C m c t h0 h3 h4 (ix3 0 j ⟨256 * p.val + q.val, by omega⟩)).symm
theorem eleven (f : Fin 11 → EReal) : f 0 + f 1 + f 2 + f 3 + f 4 + f 5 + f 6 + f 7 + f 8 + f 9 + f 10 = ∑ i, f i := by
  simp only [Fin.sum_univ_succ, Finset.univ_eq_empty, Finset.sum_empty, add_zero, ← add_assoc]
  rfl
theorem gate_C (h0 : ¬t.val % 16 = 0) (h3 : ¬t.val % 16 = 0) (h4 : t.val % 16 = 15) (hz : ∀ j, (outsAt0 m c (t.val - 1) (Nat.lt_of_le_of_lt (Nat.sub_le _ _) t.isLt)).2.1 (ix2 0 j) = 0) (j : Fin 1024) : (outsAt0 m c t.val t.isLt).2.1 (ix2 0 j) = ∑ p, gs m c t j p := by
  rw [← eleven (gs m c t j), ← zero_add (gs m c t j 0)]
  conv_lhs => rw [outsAt0_C m c t h0 h3 h4]
  frame_open
  simp (disch := decide) only [↓View.readCov_skip, ↓View.readCov_fill, View.readCov_cons_toLoadRect]
  frame_out
  simp only [read_unread_whole]
  refine (g10 _ _ _ j).trans (congrArg₂ (· + ·) ?_ (gs_at m c t j 10 2560 rfl inb_S2816x1024_S256x1024_2560_0 inb_S2816x1024_S256x1024_2560_0 h0 h3 h4 _ fun q => (d10_2 _ _ _ _ 0 j q).trans (st_at m c t _ 2560 inb_S1x1024x2816_S1x1024x256_0_0_2560 inb_S512x2816_S512x256_0_2560 inb_S512x2816_S512x256_0_2560 j q)))
  refine (g9 _ _ _ j).trans (congrArg₂ (· + ·) ?_ (gs_at m c t j 9 2304 rfl inb_S2816x1024_S256x1024_2304_0 inb_S2816x1024_S256x1024_2304_0 h0 h3 h4 _ fun q => (d9_2 _ _ _ _ 0 j q).trans (st_at m c t _ 2304 inb_S1x1024x2816_S1x1024x256_0_0_2304 inb_S512x2816_S512x256_0_2304 inb_S512x2816_S512x256_0_2304 j q)))
  refine (g8 _ _ _ j).trans (congrArg₂ (· + ·) ?_ (gs_at m c t j 8 2048 rfl inb_S2816x1024_S256x1024_2048_0 inb_S2816x1024_S256x1024_2048_0 h0 h3 h4 _ fun q => (d8_2 _ _ _ _ 0 j q).trans (st_at m c t _ 2048 inb_S1x1024x2816_S1x1024x256_0_0_2048 inb_S512x2816_S512x256_0_2048 inb_S512x2816_S512x256_0_2048 j q)))
  refine (g7 _ _ _ j).trans (congrArg₂ (· + ·) ?_ (gs_at m c t j 7 1792 rfl inb_S2816x1024_S256x1024_1792_0 inb_S2816x1024_S256x1024_1792_0 h0 h3 h4 _ fun q => (d7_2 _ _ _ _ 0 j q).trans (st_at m c t _ 1792 inb_S1x1024x2816_S1x1024x256_0_0_1792 inb_S512x2816_S512x256_0_1792 inb_S512x2816_S512x256_0_1792 j q)))
  refine (g6 _ _ _ j).trans (congrArg₂ (· + ·) ?_ (gs_at m c t j 6 1536 rfl inb_S2816x1024_S256x1024_1536_0 inb_S2816x1024_S256x1024_1536_0 h0 h3 h4 _ fun q => (d6_2 _ _ _ _ 0 j q).trans (st_at m c t _ 1536 inb_S1x1024x2816_S1x1024x256_0_0_1536 inb_S512x2816_S512x256_0_1536 inb_S512x2816_S512x256_0_1536 j q)))
  refine (g5 _ _ _ j).trans (congrArg₂ (· + ·) ?_ (gs_at m c t j 5 1280 rfl inb_S2816x1024_S256x1024_1280_0 inb_S2816x1024_S256x1024_1280_0 h0 h3 h4 _ fun q => (d5_2 _ _ _ _ 0 j q).trans (st_at m c t _ 1280 inb_S1x1024x2816_S1x1024x256_0_0_1280 inb_S512x2816_S512x256_0_1280 inb_S512x2816_S512x256_0_1280 j q)))
  refine (g4 _ _ _ j).trans (congrArg₂ (· + ·) ?_ (gs_at m c t j 4 1024 rfl inb_S2816x1024_S256x1024_1024_0 inb_S2816x1024_S256x1024_1024_0 h0 h3 h4 _ fun q => (d4_2 _ _ _ _ 0 j q).trans (st_at m c t _ 1024 inb_S1x1024x2816_S1x1024x256_0_0_1024 inb_S512x2816_S512x256_0_1024 inb_S512x2816_S512x256_0_1024 j q)))
  refine (g3 _ _ _ j).trans (congrArg₂ (· + ·) ?_ (gs_at m c t j 3 768 rfl inb_S2816x1024_S256x1024_768_0 inb_S2816x1024_S256x1024_768_0 h0 h3 h4 _ fun q => (d3_2 _ _ _ _ 0 j q).trans (st_at m c t _ 768 inb_S1x1024x2816_S1x1024x256_0_0_768 inb_S512x2816_S512x256_0_768 inb_S512x2816_S512x256_0_768 j q)))
  refine (g2 _ _ _ j).trans (congrArg₂ (· + ·) ?_ (gs_at m c t j 2 512 rfl inb_S2816x1024_S256x1024_512_0 inb_S2816x1024_S256x1024_512_0 h0 h3 h4 _ fun q => (d2_2 _ _ _ _ 0 j q).trans (st_at m c t _ 512 inb_S1x1024x2816_S1x1024x256_0_0_512 inb_S512x2816_S512x256_0_512 inb_S512x2816_S512x256_0_512 j q)))
  refine (g1 _ _ _ j).trans (congrArg₂ (· + ·) ?_ (gs_at m c t j 1 256 rfl inb_S2816x1024_S256x1024_256_0 inb_S2816x1024_S256x1024_256_0 h0 h3 h4 _ fun q => (d1_2 _ _ _ _ 0 j q).trans (st_at m c t _ 256 inb_S1x1024x2816_S1x1024x256_0_0_256 inb_S512x2816_S512x256_0_256 inb_S512x2816_S512x256_0_256 j q)))
  refine (g0 _ _ _ j).trans (congrArg₂ (· + ·) ?_ (gs_at m c t j 0 0 rfl inb_S2816x1024_S256x1024_0_0 inb_S2816x1024_S256x1024_0_0 h0 h3 h4 _ fun q => (d0_2 _ _ _ _ 0 j q).trans (st_at m c t _ 0 inb_S1x1024x2816_S1x1024x256_0_0_0 inb_S512x2816_S512x256_0_0 inb_S512x2816_S512x256_0_0 j q)))
  exact hz j

theorem gate_zero : ∀ (n : ℕ) (hn : n < cfg0.N), n < 15 → ∀ j, (outsAt0 m c n hn).2.1 (ix2 0 j) = 0 := by
  intro n
  induction n with
  | zero => exact fun hn _ j => gate_A m c ⟨0, hn⟩ rfl rfl (by show ¬ 0 % 16 = 15; decide) j
  | succ n ih =>
    intro hn h j
    have h0 : ¬ (n + 1) % 16 = 0 := by omega
    exact (gate_B m c ⟨n + 1, hn⟩ h0 h0 (by show ¬ (n + 1) % 16 = 15; omega) j).trans (ih _ (by omega) j)

theorem final5 : (dats m 0 c).arrAt 5 cfg0.N = fun i => dd m c (i 0) (i 1) (i 2) :=
  (dats m 0 c).arrAt_eq_of_covers 5 _ (by decide +kernel) (fun t hf y => by
    rw [after0_5]
    idx_vars y
    refine (out5_at m c t _).trans (dd_congr m c ?_ ?_ ?_)
    · refine Eq.trans (b := y0.val) rfl ?_
      blk_simp [idx t]
    · refine Eq.trans (b := 512 * t.val + y1.val) rfl ?_
      blk_simp [idx t]
      omega
    · refine Eq.trans (b := y2.val) rfl ?_
      blk_simp [idx t])

theorem sums {f : Fin 8192 → EReal} : (∑ p : Fin 16, ∑ r : Fin 512, f (row (p : Fin cfg0.N) r)) = ∑ s, f s := by
  refine Eq.trans ?_ (Fin.sum_univ_tiles 16 512 rfl _).symm
  refine Finset.sum_congr rfl fun p _ => Finset.sum_congr rfl fun r _ => congrArg f (Fin.ext ?_)
  show 512 * p.val + r.val = p.val * 512 + r.val
  omega
theorem row_idx (i : S1x1024.Idx) : i = ix2 0 (i 1) := by
  funext a
  fin_cases a
  · exact Fin.ext (by have := (i 0).isLt; show (i 0).val = 0; change (i 0).val < 1 at this; omega)
  · rfl

theorem acc_idx (i : S1x1024x2816.Idx) : i = ix3 0 (i 1) (i 2) := by
  funext a
  fin_cases a
  · exact Fin.ext (by have := (i 0).isLt; show (i 0).val = 0; change (i 0).val < 1 at this; omega)
  · rfl
  · rfl
theorem acc_all (k : Fin 1024) (f : Fin 2816) : (outsAt0 m c t0_15.val t0_15.isLt).2.2 (ix3 0 k f) = ∑ s, ta m c k f s := by
  refine (Pipeline.eq_sum_fin_of_reset_step_apply_last (fun n h => (outsAt0 m c n h).2.2) 16 (fun _ => 0) (fun t i => ∑ r : Fin 512, ta m c (i 1) (i 2) (row t r))
    (fun t h i => (acc_A m c t h h (by omega) i).trans (congrArg (fun y => y + _) (z44_at _)))
    (fun t h i => (acc_step m c t h i).trans (congrArg (fun y => y + _) (congrArg _ (acc_idx i).symm))) (by decide) t0_15 (by decide) (ix3 0 k f)).trans ?_
  rw [zero_add]
  exact sums (f := fun s => ta m c k f s)

/-- The gate's cotangent: one half of the sum over the hidden units of the weights' cotangent times the weights. -/
def dgt (j : Fin 1024) : EReal := ∑ p : Fin 11, half * ∑ q : Fin 256, (∑ s, ta m c j ⟨256 * p.val + q.val, by omega⟩ s) * argWd m c (ix2 ⟨256 * p.val + q.val, by omega⟩ j)
theorem final6 : (dats m 0 c).arrAt 6 cfg0.N = fun i => dgt m c (i 1) :=
  (dats m 0 c).arrAt_eq_of_after_last 6 t0_15 (by decide +kernel) _ fun i => by
    refine (congrFun (after0_6 m c t0_15) i).trans ?_
    have e : (cfg0.win 6).arr.view.emb i = i := rfl
    rw [e, row_idx i]
    refine (gate_C m c t0_15 (by decide) (by decide) (by decide) (gate_zero m c _ _ (by decide)) (i 1)).trans ?_
    exact Finset.sum_congr rfl fun p _ => congrArg (fun y => half * y) (Finset.sum_congr rfl fun q _ => congrArg (fun y => y * _) (acc_all m c _ _))

end Cert.KernelDownIdeal.Value

end
-- ==== Proof.Down.Reference.lean ====
module

public import Idealize.ShloMosaic.Lib.Pointwise
public import proofs.«01_k».proof.Proof.Norm.Pre
public import proofs.«01_k».proof.Proof.Down.Final
public import proofs.«01_k».proof.Proof.Gen.ReferenceDownIdeal.Read

@[expose] public section

set_option maxRecDepth 16384

noncomputable section

namespace Cert.ReferenceDownIdeal.Value

open Cert.ReferenceDownIdeal Cert.ReferenceDownIdeal.Gen Idealize.ShloMosaic Idealize.ShloMosaic.TcCoe Idealize.SL.Sem
open Idealize.ShloMosaic.Pipeline (Dat)

open Cert.Norm Cert.ReferenceDownIdeal.Read
open Cert.KernelDownIdeal.Value (dga dgb)

variable (x0 : FVec Ideal S1x8192x1024 .f32) (x1 : FVec Ideal S1x1024 .f32) (x2 : FVec Ideal S1024x5632 .f32) (x3 : FVec Ideal S2816x1024 .f32)
  (x4 : FVec Ideal S1x8192x1024 .f32) (s : Fin 8192) (f : Fin 2816)

/-! The layer's values as the reference writes them. -/

def us (i : Fin 5632) : EReal := ∑ k, x0 (ix3 0 s k) * x2 (ix2 k i)
def ua : EReal := us x0 x2 s ⟨f.val, by omega⟩
def ub : EReal := us x0 x2 s ⟨2816 + f.val, by omega⟩
def da : EReal := ∑ k, half * x1 (ix2 0 k) * x4 (ix3 0 s k) * x3 (ix2 f k)
def gate (j : Fin 1024) : EReal := half * ∑ s, x4 (ix3 0 s j) * ∑ f, swr (ua x0 x2 s f) (ub x0 x2 s f) * x3 (ix2 f j)

theorem v0_at (i : Fin 5632) : val_main_v0 (F := Ideal) x0 x2 (ix3 0 s i) = us x0 x2 s i := by
  pointwise [val_main_v0]
  rfl
theorem v2_at : val_main_v2 (F := Ideal) x0 x2 (ix3 0 s f) = ua x0 x2 s f := by
  pointwise [val_main_v2, v0_at]
  rfl
theorem v3_at : val_main_v3 (F := Ideal) x0 x2 (ix3 0 s f) = ub x0 x2 s f := by
  pointwise [val_main_v3, v0_at]
  rfl
theorem lg_at : val_main_v7_2 (F := Ideal) x0 x2 (ix3 0 s f) = lg (ua x0 x2 s f) := by
  pointwise [val_main_v7_2, val_main_call0_v4, val_main_call0_cst_0, val_main_call0_v3, val_main_call0_v2, val_main_call0_cst, val_main_call0_v1, val_main_call0_v0, v2_at]
  rfl
theorem v8_at : val_main_v8 (F := Ideal) x0 x2 (ix3 0 s f) = swr (ua x0 x2 s f) (ub x0 x2 s f) := by
  pointwise [val_main_v8, val_main_v7_0, lg_at, v2_at, v3_at]
  rfl
theorem v18_at : val_main_v18 (F := Ideal) x1 x3 x4 (ix3 0 s f) = da x1 x3 x4 s f := by
  pointwise [val_main_v18, val_main_v14, val_main_v13, val_main_v6, val_main_v5, val_main_cst_0, val_main_v4]
  rfl
theorem v19_at : val_main_v19 (F := Ideal) x0 x1 x2 x3 x4 (ix3 0 s f) = ua x0 x2 s f * lg (ua x0 x2 s f) * da x1 x3 x4 s f := by
  pointwise [val_main_v19, val_main_v7_0, lg_at, v2_at, v18_at]
theorem v21_at : val_main_v21 (F := Ideal) x0 x1 x2 x3 x4 (ix3 0 s f)
    = da x1 x3 x4 s f * ub x0 x2 s f * lg (ua x0 x2 s f) + ua x0 x2 s f * (da x1 x3 x4 s f * ub x0 x2 s f) * (lg (ua x0 x2 s f) * (1 - lg (ua x0 x2 s f))) := by
  pointwise [val_main_v21, val_main_call1_v2, val_main_call1_v1, val_main_call1_v0, val_main_v20, val_main_v7_1, val_main_call0_v7, val_main_call0_v6, val_main_call0_cst_1, lg_at, v2_at, v3_at, v18_at]
theorem v28_at : val_main_v28 (F := Ideal) x0 x1 x2 x3 x4 (ix2 s f) = val_main_v21 (F := Ideal) x0 x1 x2 x3 x4 (ix3 0 s f) := by
  pointwise [val_main_v28, val_main_v27, val_main_v26]
theorem v30_at : val_main_v30 (F := Ideal) x0 x1 x2 x3 x4 (ix2 s f) = val_main_v19 (F := Ideal) x0 x1 x2 x3 x4 (ix3 0 s f) := by
  pointwise [val_main_v30, val_main_v29, val_main_v26]
theorem v34_0 : val_main_v34 (F := Ideal) x0 x1 x2 x3 x4 (ix3 0 s f) = val_main_v21 (F := Ideal) x0 x1 x2 x3 x4 (ix3 0 s f) := by
  pointwise [val_main_v34, val_main_v33, val_main_v31, v28_at]
theorem v34_1 : val_main_v34 (F := Ideal) x0 x1 x2 x3 x4 (ix3 1 s f) = val_main_v19 (F := Ideal) x0 x1 x2 x3 x4 (ix3 0 s f) := by
  pointwise [val_main_v34, val_main_v33, val_main_v32, v30_at]
theorem v25_at (j : Fin 1024) : val_main_v25 (F := Ideal) x0 x2 x3 x4 (ix2 0 j) = gate x0 x2 x3 x4 j := by
  pointwise [val_main_v25]
  refine (unit_sum01 _ _ _ j).trans ?_
  pointwise [val_main_v23, val_main_v22, val_main_cst_2, val_main_v17, val_main_v16, val_main_v15, val_main_v9, v8_at, val_main_cst_1, val_main_cst_3]
  rfl

/-! The two ways of writing the gate's derivative agree on finite numbers, and so do the two orders of the gate's sums. -/

theorem dga_eq {d a b : EReal} (hd : Fin1 d) (ha : Fin1 a) (hb : Fin1 b) : dga d a b = d * b * lg a + a * (d * b) * (lg a * (1 - lg a)) := by
  have hl := ha.lg
  rw [dga, sg_eq ha]
  obtain ⟨l, hl⟩ := hl
  rw [hl]
  obtain ⟨d, rfl⟩ := hd
  obtain ⟨a, rfl⟩ := ha
  obtain ⟨b, rfl⟩ := hb
  simp only [← EReal.coe_one, ← EReal.coe_mul, ← EReal.coe_sub, ← EReal.coe_add]
  exact congrArg _ (by ring)
theorem dgb_eq {d a : EReal} (ha : Fin1 a) : dgb d a = a * lg a * d := by
  rw [dgb, sg_eq ha, mul_comm]
theorem swap {D : Fin 8192 → EReal} {S : Fin 8192 → Fin 2816 → EReal} {W : Fin 2816 → EReal} (hD : ∀ s, Fin1 (D s)) (hS : ∀ s f, Fin1 (S s f)) (hW : ∀ f, Fin1 (W f)) :
    (∑ p : Fin 11, half * ∑ q : Fin 256, (∑ s, D s * S s ⟨256 * p.val + q.val, by omega⟩) * W ⟨256 * p.val + q.val, by omega⟩) = half * ∑ s, D s * ∑ f, S s f * W f := by
  choose d hd using hD
  choose w hw using hW
  choose g hg using hS
  simp only [hd, hw, hg, half_eq, ← EReal.coe_mul, coe_sum]
  refine congrArg _ ?_
  rw [← Finset.mul_sum]
  refine congrArg _ ?_
  refine Eq.trans (b := ∑ f, (∑ s, d s * g s f) * w f) ?_ ?_
  · refine Eq.trans ?_ (Fin.sum_univ_tiles 11 256 rfl _).symm
    refine Finset.sum_congr rfl fun p _ => Finset.sum_congr rfl fun q _ => ?_
    exact congrArg (fun f : Fin 2816 => (∑ s, d s * g s f) * w f) (Fin.ext (by show 256 * p.val + q.val = p.val * 256 + q.val; omega))
  · simp only [Finset.sum_mul, Finset.mul_sum]
    rw [Finset.sum_comm]
    exact Finset.sum_congr rfl fun s _ => Finset.sum_congr rfl fun f _ => mul_assoc _ _ _

theorem us_fin (h0 : ∀ i, Fin1 (x0 i)) (h2 : ∀ i, Fin1 (x2 i)) (i : Fin 5632) : Fin1 (us x0 x2 s i) := Fin1.sum fun k => (h0 _).mul (h2 _)
theorem da_fin (h1 : ∀ i, Fin1 (x1 i)) (h3 : ∀ i, Fin1 (x3 i)) (h4 : ∀ i, Fin1 (x4 i)) : Fin1 (da x1 x3 x4 s f) :=
  Fin1.sum fun k => ((Fin1.mul ⟨_, half_eq⟩ (h1 _)).mul (h4 _)).mul (h3 _)

open Cert.KernelDownIdeal.Value (argH argGt argW argWd argD dd dgt)
variable (m : (ℓ : Loc Cert.KernelDownIdeal.nD Cert.KernelDownIdeal.τ Cert.KernelDownIdeal.sig) → Buf (Elt Ideal) ℓ) (c : Dev Cert.KernelDownIdeal.nD)

theorem dd_eq (h0 : ∀ i, Fin1 (argH m c i)) (h1 : ∀ i, Fin1 (argGt m c i)) (h2 : ∀ i, Fin1 (argW m c i)) (h3 : ∀ i, Fin1 (argWd m c i)) (h4 : ∀ i, Fin1 (argD m c i)) (z : Fin 2) :
    val_main_v34 (F := Ideal) (argH m c) (argGt m c) (argW m c) (argWd m c) (argD m c) (ix3 z s f) = dd m c z s f := by
  have ha : Fin1 (ua (argH m c) (argW m c) s f) := us_fin _ _ s h0 h2 _
  have hb : Fin1 (ub (argH m c) (argW m c) s f) := us_fin _ _ s h0 h2 _
  have hd : Fin1 (da (argGt m c) (argWd m c) (argD m c) s f) := da_fin _ _ _ s f h1 h3 h4
  rcases (show z = 0 ∨ z = 1 by omega) with rfl | rfl
  · exact (v34_0 _ _ _ _ _ s f).trans ((v21_at _ _ _ _ _ s f).trans (dga_eq hd ha hb).symm)
  · exact (v34_1 _ _ _ _ _ s f).trans ((v19_at _ _ _ _ _ s f).trans (dgb_eq ha).symm)
theorem dgt_eq (h0 : ∀ i, Fin1 (argH m c i)) (h2 : ∀ i, Fin1 (argW m c i)) (h3 : ∀ i, Fin1 (argWd m c i)) (h4 : ∀ i, Fin1 (argD m c i)) (j : Fin 1024) :
    val_main_v25 (F := Ideal) (argH m c) (argW m c) (argWd m c) (argD m c) (ix2 0 j) = dgt m c j := by
  have hu : ∀ s i, Fin1 (us (argH m c) (argW m c) s i) := fun s => us_fin _ _ s h0 h2
  refine (v25_at _ _ _ _ j).trans (Eq.trans (swap (D := fun s => argD m c (ix3 0 s j)) (S := fun s f => swr (ua (argH m c) (argW m c) s f) (ub (argH m c) (argW m c) s f))
    (W := fun f => argWd m c (ix2 f j)) (fun s => h4 _) (fun s f => ((hu s _).mul (hu s _).lg).mul (hu s _)) (fun f => h3 _)).symm ?_)
  refine Finset.sum_congr rfl fun p _ => congrArg (fun y => half * y) (Finset.sum_congr rfl fun q _ => congrArg (fun y => y * _) (Finset.sum_congr rfl fun s _ => ?_))
  refine congrArg (fun y => _ * y) ?_
  exact congrArg (fun y => _ * y * _) (sg_eq (hu s _)).symm

end Cert.ReferenceDownIdeal.Value

end
-- ==== Proof.Wada.Final.lean ====
module

public import Idealize.ShloMosaic.Lib.WritesUnit
public import Idealize.ShloMosaic.Lib.Pointwise
public import Idealize.ShloMosaic.Lib.Pipeline.ValueKit
public import proofs.«01_k».proof.Proof.Gen.KernelWadaIdeal.Value
public import proofs.«01_k».proof.Proof.Gen.ReferenceWadaIdeal.Read
public import proofs.«01_k».proof.Proof.Gen.ReferenceWadaIdeal.Run

@[expose] public section

set_option maxRecDepth 16384

noncomputable section

namespace Cert.KernelWadaIdeal.Value

open Cert.KernelWadaIdeal Cert.KernelWadaIdeal.Gen Idealize.ShloMosaic Idealize.ShloMosaic.TcCoe Idealize.SL.Sem
open Idealize.ShloMosaic.Pipeline (Dat)

/-- `c · σ(c)`. -/
def act (C : FVec Ideal S8x1024 .f32) (b : Fin 8) (p : Fin 1024) : EReal := C (ix2 b p) * Ideal.logistic (C (ix2 b p))
/-- The weight's gradient: every example's activation times the cotangent of its modulation. -/
def grad (C : FVec Ideal S8x1024 .f32) (G : FVec Ideal S8x1152 .f32) (p : Fin 1024) (q : Fin 1152) : EReal := ∑ b, act C b p * G (ix2 b q)

theorem pay_at (C : FVec Ideal S1024x8 .f32) (G : FVec Ideal S8x1152 .f32) (p : Fin 1024) (q : Fin 1152) :
    out0_2 (F := Ideal) C G (ix2 p q) = ∑ b : Fin 8, (C (ix2 p b) * Ideal.logistic (C (ix2 p b))) * G (ix2 b q) := by
  unfold out0_2
  rw [View.canon_cons_unit_lit inb_S1024x1152_S1024x1152_0_0 _ _ (by decide)]
  pointwise [k0_pay1, k0_pay2, k0_pay3, k0_pay4]
  rw [Fin.sum_univ_eight]

variable (m : (ℓ : Loc nD τ sig) → Buf (Elt Ideal) ℓ) (c : Dev nD) (t : Fin cfg0.N)

abbrev argC : FVec Ideal S8x1024 .f32 := m ((c : Thread nD τ).loc main_arg0)
abbrev argG : FVec Ideal S8x1152 .f32 := m ((c : Thread nD τ).loc main_arg3)

theorem entry_c : V m c main_v0 = transpose S1024x8 [1, 0] (argC m c) transposes_S8x1024_S1024x8_1_0 := by
  simp only [V, hostOps0]
  entry_read
  rfl

theorem idx : ∀ t : Fin cfg0.N, win0_0.index t = ![0, 0] ∧ win0_1.index t = ![0, 0] ∧ win0_2.index t = ![0, 0] :=
  (by decide +kernel : ∀ t : Fin grid0.N, _)

theorem c_at (p : Fin 1024) (b : Fin 8) : iblk m c 0 t (ix2 p b) = argC m c (ix2 b p) := by
  refine Eq.trans (b := V m c main_v0 (ix2 p b)) ?_ ?_
  · blk_point [iblk, idx t]
  · rw [entry_c]
    pointwise []
theorem g_at (b : Fin 8) (q : Fin 1152) : iblk m c 1 t (ix2 b q) = argG m c (ix2 b q) := by
  blk_point [iblk, V, idx t]

def gw (p : Fin 1024) (q : Fin 1152) : EReal := grad (argC m c) (argG m c) p q
theorem out_at (y : S1024x1152.Idx) : (dats m 0 c).after 2 t y = gw m c (y 0) (y 1) := by
  obtain ⟨p, q, rfl⟩ : ∃ (p : Fin 1024) (q : Fin 1152), y = ix2 p q := ⟨y 0, y 1, by funext a; fin_cases a <;> rfl⟩
  rw [after0_2]
  show _ = ∑ b : Fin 8, act (argC m c) b p * argG m c (ix2 b q)
  refine (pay_at _ _ p q).trans (Finset.sum_congr rfl fun b _ => ?_)
  rw [c_at, g_at]
  rfl

theorem gw_congr {p p' : Fin 1024} {q q' : Fin 1152} (hp : p.val = p'.val) (hq : q.val = q'.val) : gw m c p q = gw m c p' q' := by
  obtain rfl := Fin.ext hp
  obtain rfl := Fin.ext hq
  rfl

theorem final2 : (dats m 0 c).arrAt 2 cfg0.N = fun i => gw m c (i 0) (i 1) :=
  (dats m 0 c).arrAt_eq_of_covers 2 _ (by decide +kernel) (fun t hf y => by
    refine (out_at m c t _).trans (gw_congr m c ?_ ?_)
    · blk_simp [idx t]
    · blk_simp [idx t])

/-! The reference. -/

open Cert.ReferenceWadaIdeal.Read in
theorem ref_at (C : FVec Ideal S8x1024 .f32) (G : FVec Ideal S8x1152 .f32) (p : Fin 1024) (q : Fin 1152) :
    val_main_v6 (F := Ideal) C G (ix2 p q) = grad C G p q := by
  pointwise [val_main_v6, val_main_v5, val_main_v0, val_main_call0_v5, val_main_call0_v4, val_main_call0_v3, val_main_call0_v2, val_main_call0_v1, val_main_call0_v0, val_main_call0_cst,
    val_main_call0_cst_0]
  unfold grad act Ideal.logistic
  exact Finset.sum_congr rfl fun b _ => mul_comm _ _

end Cert.KernelWadaIdeal.Value

end
-- ==== Proof.Proj.Final.lean ====
module

public import Idealize.ShloMosaic.Lib.WritesUnit
public import Idealize.ShloMosaic.Lib.Pointwise
public import Idealize.ShloMosaic.Lib.Pipeline.ValueKit
public import proofs.«01_k».proof.Proof.Norm.Row
public import proofs.«01_k».proof.Proof.Gen.KernelProjIdeal.Value
public import proofs.«01_k».proof.Proof.Gen.ReferenceProjIdeal.Read
public import proofs.«01_k».proof.Proof.Gen.ReferenceProjIdeal.Run

@[expose] public section

set_option maxRecDepth 16384

noncomputable section

namespace Cert.KernelProjIdeal.Value

open Cert.KernelProjIdeal Cert.KernelProjIdeal.Gen Idealize.ShloMosaic Idealize.ShloMosaic.TcCoe Idealize.SL.Sem
open Idealize.ShloMosaic.Pipeline (Dat)

open Cert.Norm

/-- A row of a tile, a vector, a chunk of the product. -/
def brow (v : FVec Ideal S512x1024 .f32) (r : Fin 512) (k : Fin 1024) : EReal := v (ix2 r k)
def bvec (v : FVec Ideal S1x1024 .f32) (k : Fin 1024) : EReal := v (ix2 0 k)
def upc (H w : FVec Ideal S512x1024 .bf16) (r q : Fin 512) : EReal := ∑ k, H (ix2 r k) * w (ix2 q k)

section
variable (x : FVec Ideal S512x1024 .f32) (g sc sh : FVec Ideal S1x1024 .f32) (H w : FVec Ideal S512x1024 .bf16) (r q : Fin 512)

theorem pay5_at (j : Fin 1024) : k0_pay5 (F := Ideal) x g sc sh (ix2 r j) = brow x r j * rr (brow x r) * bvec g j * (1 + bvec sc j) + bvec sh j := by
  pointwise [k0_pay5]
  rfl
theorem pay6_at : k0_pay6 (F := Ideal) x g sc sh w (ix2 r q) = upc (k0_pay5 x g sc sh) w r q := by
  pointwise [k0_pay6]
  rfl
theorem pay7_at : k0_pay7 (F := Ideal) x g sc sh w (ix2 r q) = upc (k0_pay5 x g sc sh) w r q := by
  pointwise [k0_pay7]
  rfl
theorem pay1_at : k0_pay1 (F := Ideal) H w (ix2 r q) = upc H w r q := by
  pointwise [k0_pay1]
  rfl
theorem pay2_at : k0_pay2 (F := Ideal) H w (ix2 r q) = upc H w r q := by
  pointwise [k0_pay2]
  rfl
theorem pay3_at : k0_pay3 (F := Ideal) H w (ix2 r q) = upc H w r q := by
  pointwise [k0_pay3]
  rfl
theorem pay4_at : k0_pay4 (F := Ideal) H w (ix2 r q) = upc H w r q := by
  pointwise [k0_pay4]
  rfl
theorem pay8_at : k0_pay8 (F := Ideal) H w (ix2 r q) = upc H w r q := by
  pointwise [k0_pay8]
  rfl
theorem pay9_at : k0_pay9 (F := Ideal) H w (ix2 r q) = upc H w r q := by
  pointwise [k0_pay9]
  rfl
theorem pay10_at : k0_pay10 (F := Ideal) H w (ix2 r q) = upc H w r q := by
  pointwise [k0_pay10]
  rfl
theorem pay11_at : k0_pay11 (F := Ideal) H w (ix2 r q) = upc H w r q := by
  pointwise [k0_pay11]
  rfl
theorem pay12_at : k0_pay12 (F := Ideal) H w (ix2 r q) = upc H w r q := by
  pointwise [k0_pay12]
  rfl
end

/-- The grid runs along the rows: which block of its array every window moves at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

variable (m : (ℓ : Loc nD τ sig) → Buf (Elt Ideal) ℓ) (c : Dev nD) (t : Fin cfg0.N)

/-- The arguments as launched. -/
abbrev argX : FVec Ideal S1x8192x1024 .f32 := m ((c : Thread nD τ).loc main_arg0)
abbrev argG : FVec Ideal S1024 .f32 := m ((c : Thread nD τ).loc main_arg1)
abbrev argSh : FVec Ideal S1x1024 .f32 := m ((c : Thread nD τ).loc main_arg2)
abbrev argSc : FVec Ideal S1x1024 .f32 := m ((c : Thread nD τ).loc main_arg3)
abbrev argW : FVec Ideal S1024x5632 .f32 := m ((c : Thread nD τ).loc main_arg4)

theorem entry_x : V m c main_v0 = shapeCast S8192x1024 (argX m c) shapeCasts_S1x8192x1024_S8192x1024 := by
  simp only [V, hostOps0]
  entry_read
  rfl
theorem entry_g : V m c main_v1 = broadcastInDim S1x1024 ![1] bcast_S1024_S1x1024_1 (argG m c) := by
  simp only [V, hostOps0]
  entry_read
  rfl
theorem entry_w : V m c main_v3 = truncf (F := Ideal) .bf16 (transpose S5632x1024 [1, 0] (argW m c) transposes_S1024x5632_S5632x1024_1_0) bitsLt_bf16_f32 := by
  simp only [V, hostOps0]
  entry_read
  rfl

def xs (X : FVec Ideal S1x8192x1024 .f32) (s : Fin 8192) (k : Fin 1024) : EReal := X (ix3 0 s k)

theorem x_at (r : Fin 512) : brow (iblk m c 0 t) r = xs (argX m c) (row t r) := by
  funext k
  refine Eq.trans (b := V m c main_v0 (ix2 (row t r) k)) ?_ ?_
  · unfold brow
    blk_point [iblk, idx t, row]
  · rw [entry_x]
    pointwise []
    rfl
theorem g_at (k : Fin 1024) : bvec (iblk m c 1 t) k = argG m c (ix1 k) := by
  refine Eq.trans (b := V m c main_v1 (ix2 0 k)) ?_ ?_
  · unfold bvec
    blk_point [iblk, idx t]
  · rw [entry_g]
    pointwise []
theorem sc_at : bvec (iblk m c 2 t) = bvec (argSc m c) := by
  funext k
  unfold bvec
  blk_point [iblk, V, idx t]
theorem sh_at : bvec (iblk m c 3 t) = bvec (argSh m c) := by
  funext k
  unfold bvec
  blk_point [iblk, V, idx t]
theorem w_at (i : Fin 5632) (k : Fin 1024) : iblk m c 4 t (ix2 i k) = argW m c (ix2 k i) := by
  refine Eq.trans (b := V m c main_v3 (ix2 i k)) ?_ ?_
  · blk_point [iblk, idx t]
  · rw [entry_w]
    pointwise []

/-- A chunk of the weight, as the body loads it. -/
abbrev wu (o : ℕ) (h : ∀ a, (![o, 0] : Fin 2 → ℕ) a + (![512, 1024] : Fin 2 → ℕ) a ≤ S5632x1024.size a) : FVec Ideal S512x1024 .bf16 :=
  View.ld (Val := Elt Ideal) (S := S5632x1024) (e' := .bf16) (iblk m c 4 t) (Rect.unit ![o, 0] ![512, 1024] h)
theorem wu_at (o : ℕ) (h) (q : Fin 512) (k : Fin 1024) : wu m c t o h (ix2 q k) = argW m c (ix2 k ⟨o + q.val, by have : o + 512 ≤ 5632 := h 0; omega⟩) := by
  refine Eq.trans (congrArg (iblk m c 4 t) ?_) (w_at m c t _ k)
  funext a
  fin_cases a
  · exact Fin.ext (by show o + 1 * q.val = o + q.val; omega)
  · exact Fin.ext (by show 0 + 1 * k.val = k.val; omega)

/-! The modulated norm and its product with the weight, from the arguments. -/

def normed (X : FVec Ideal S1x8192x1024 .f32) (G : FVec Ideal S1024 .f32) (Sh Sc : FVec Ideal S1x1024 .f32) (s : Fin 8192) (k : Fin 1024) : EReal :=
  xs X s k * rr (xs X s) * G (ix1 k) * (1 + bvec Sc k) + bvec Sh k
def up (X : FVec Ideal S1x8192x1024 .f32) (G : FVec Ideal S1024 .f32) (Sh Sc : FVec Ideal S1x1024 .f32) (W : FVec Ideal S1024x5632 .f32) (s : Fin 8192) (i : Fin 5632) : EReal :=
  ∑ k, normed X G Sh Sc s k * W (ix2 k i)
def hs (s : Fin 8192) (k : Fin 1024) : EReal := normed (argX m c) (argG m c) (argSh m c) (argSc m c) s k
def us (s : Fin 8192) (i : Fin 5632) : EReal := up (argX m c) (argG m c) (argSh m c) (argSc m c) (argW m c) s i

abbrev HT : FVec Ideal S512x1024 .bf16 := k0_pay5 (F := Ideal) (iblk m c 0 t) (iblk m c 1 t) (iblk m c 2 t) (iblk m c 3 t)

theorem h_at (r : Fin 512) (k : Fin 1024) : HT m c t (ix2 r k) = hs m c (row t r) k := by
  refine (pay5_at _ _ _ _ r k).trans ?_
  rw [x_at, g_at, sc_at, sh_at]
  rfl
theorem up_at (o : ℕ) (h) (r q : Fin 512) : upc (HT m c t) (wu m c t o h) r q = us m c (row t r) ⟨o + q.val, by have : o + 512 ≤ 5632 := h 0; omega⟩ :=
  Finset.sum_congr rfl fun k _ => congrArg₂ (· * ·) (h_at m c t r k) (wu_at m c t o h q k)

theorem hs_congr {q q' : Fin 8192} {j j' : Fin 1024} (hq : q.val = q'.val) (hj : j.val = j'.val) : hs m c q j = hs m c q' j' := by
  obtain rfl := Fin.ext hq
  obtain rfl := Fin.ext hj
  rfl
theorem us_congr {q q' : Fin 8192} {j j' : Fin 5632} (hq : q.val = q'.val) (hj : j.val = j'.val) : us m c q j = us m c q' j' := by
  obtain rfl := Fin.ext hq
  obtain rfl := Fin.ext hj
  rfl

theorem off_zero : (![0, 0] : Fin 2 → ℕ) = fun _ => 0 := by
  funext a
  fin_cases a <;> rfl
theorem ld_tile (x : Vec Ideal S512x1024 .f32) : View.ld (Val := Elt Ideal) (e' := .f32) x r0_0 = x :=
  View.ld_unit_zero (Val := Elt Ideal) off_zero inb_S512x1024_S512x1024_0_0 x
theorem ld_vec (x : Vec Ideal S1x1024 .f32) : View.ld (Val := Elt Ideal) (e' := .f32) x r0_1 = x :=
  View.ld_unit_zero (Val := Elt Ideal) off_zero inb_S1x1024_S1x1024_0_0 x

theorem out5_at (r : Fin 512) (j : Fin 1024) : (dats m 0 c).after 5 t (ix2 r j) = hs m c (row t r) j := by
  rw [after0_5]
  unfold out0_5
  rw [View.canon_cons_unit_lit inb_S512x1024_S512x1024_0_0 _ _ (by decide)]
  rw [ld_tile, ld_vec, ld_vec, ld_vec]
  exact h_at m c t r j
theorem out6_at (y : S512x5632.Idx) : (dats m 0 c).after 6 t y = us m c (row t (y 0)) (y 1) := by
  rw [after0_6]
  unfold_out out0_6
  simp only [ld_tile, ld_vec]
  canon_tiles x h
  case piece0 =>
    idx_vars x
    exact ((pay4_at _ _ x0 x1).trans (up_at m c t 5120 inb_S5632x1024_S512x1024_5120_0 x0 x1)).trans (us_congr m c (congrArg (512 * t.val + ·) h0.symm) h1.symm)
  case piece1 =>
    idx_vars x
    exact ((pay3_at _ _ x0 x1).trans (up_at m c t 4608 inb_S5632x1024_S512x1024_4608_0 x0 x1)).trans (us_congr m c (congrArg (512 * t.val + ·) h0.symm) h1.symm)
  case piece2 =>
    idx_vars x
    exact ((pay2_at _ _ x0 x1).trans (up_at m c t 4096 inb_S5632x1024_S512x1024_4096_0 x0 x1)).trans (us_congr m c (congrArg (512 * t.val + ·) h0.symm) h1.symm)
  case piece3 =>
    idx_vars x
    exact ((pay1_at _ _ x0 x1).trans (up_at m c t 3584 inb_S5632x1024_S512x1024_3584_0 x0 x1)).trans (us_congr m c (congrArg (512 * t.val + ·) h0.symm) h1.symm)
  case piece4 =>
    idx_vars x
    exact ((pay12_at _ _ x0 x1).trans (up_at m c t 3072 inb_S5632x1024_S512x1024_3072_0 x0 x1)).trans (us_congr m c (congrArg (512 * t.val + ·) h0.symm) h1.symm)
  case piece5 =>
    idx_vars x
    exact ((pay11_at _ _ x0 x1).trans (up_at m c t 2560 inb_S5632x1024_S512x1024_2560_0 x0 x1)).trans (us_congr m c (congrArg (512 * t.val + ·) h0.symm) h1.symm)
  case piece6 =>
    idx_vars x
    exact ((pay10_at _ _ x0 x1).trans (up_at m c t 2048 inb_S5632x1024_S512x1024_2048_0 x0 x1)).trans (us_congr m c (congrArg (512 * t.val + ·) h0.symm) h1.symm)
  case piece7 =>
    idx_vars x
    exact ((pay9_at _ _ x0 x1).trans (up_at m c t 1536 inb_S5632x1024_S512x1024_1536_0 x0 x1)).trans (us_congr m c (congrArg (512 * t.val + ·) h0.symm) h1.symm)
  case piece8 =>
    idx_vars x
    exact ((pay8_at _ _ x0 x1).trans (up_at m c t 1024 inb_S5632x1024_S512x1024_1024_0 x0 x1)).trans (us_congr m c (congrArg (512 * t.val + ·) h0.symm) h1.symm)
  case piece9 =>
    idx_vars x
    exact ((pay7_at _ _ _ _ _ x0 x1).trans (up_at m c t 512 inb_S5632x1024_S512x1024_512_0 x0 x1)).trans (us_congr m c (congrArg (512 * t.val + ·) h0.symm) h1.symm)
  case piece10 =>
    idx_vars x
    exact ((pay6_at _ _ _ _ _ x0 x1).trans (up_at m c t 0 inb_S5632x1024_S512x1024_0_0 x0 x1)).trans (us_congr m c (congrArg (512 * t.val + ·) h0.symm) ((Nat.zero_add _).trans h1.symm))

theorem final5 : (dats m 0 c).arrAt 5 cfg0.N = fun i => hs m c (i 0) (i 1) :=
  (dats m 0 c).arrAt_eq_of_covers 5 _ (by decide +kernel) (fun t hf y => by
    idx_vars y
    refine (out5_at m c t y0 y1).trans (hs_congr m c ?_ ?_)
    · refine Eq.trans (b := 512 * t.val + y0.val) rfl ?_
      blk_simp [idx t]
      omega
    · blk_simp [idx t])
theorem final6 : (dats m 0 c).arrAt 6 cfg0.N = fun i => us m c (i 0) (i 1) :=
  (dats m 0 c).arrAt_eq_of_covers 6 _ (by decide +kernel) (fun t hf y => by
    refine (out6_at m c t _).trans (us_congr m c ?_ ?_)
    · refine Eq.trans (b := 512 * t.val + (y 0).val) rfl ?_
      blk_simp [idx t]
      omega
    · blk_simp [idx t])

/-! The reference. -/

section
open Cert.ReferenceProjIdeal.Read
variable (x0 : FVec Ideal S1x8192x1024 .f32) (x1 : FVec Ideal S1024 .f32) (x2 x3 : FVec Ideal S1x1024 .f32) (x4 : FVec Ideal S1024x5632 .f32) (s : Fin 8192)

theorem v7_at (z : Fin 1) : val_main_v7 (F := Ideal) x0 (ix3 0 s z) = rr (xs x0 s) := by
  pointwise [val_main_v7, val_main_v6, val_main_v5, val_main_v4, val_main_v3, val_main_v2, val_main_v1, val_main_v0, val_main_cst, val_main_cst_0, val_main_cst_1]
  rfl
theorem v20_at (k : Fin 1024) : val_main_v20 (F := Ideal) x0 x1 x2 x3 (ix3 0 s k) = normed x0 x1 x2 x3 s k := by
  pointwise [val_main_v20, val_main_v19, val_main_v18, val_main_v17, val_main_v16, val_main_v15, val_main_v14, val_main_v13, val_main_v12, val_main_v11, val_main_v10, val_main_v9, val_main_v8, v7_at, val_main_cst_2]
  rfl
theorem v22_at (k : Fin 1024) : val_main_v22 (F := Ideal) x0 x1 x2 x3 (ix2 s k) = normed x0 x1 x2 x3 s k := by
  pointwise [val_main_v22, val_main_v21, v20_at]
theorem v25_at (i : Fin 5632) : val_main_v25 (F := Ideal) x0 x1 x2 x3 x4 (ix2 s i) = up x0 x1 x2 x3 x4 s i := by
  pointwise [val_main_v25, val_main_v24, val_main_v23, v20_at]
  rfl
end

end Cert.KernelProjIdeal.Value

end
-- ==== Proof.Fdn.Final.lean ====
module

public import Idealize.ShloMosaic.Lib.WritesUnit
public import Idealize.ShloMosaic.Lib.Pointwise
public import Idealize.ShloMosaic.Lib.Pipeline.ValueKit
public import proofs.«01_k».proof.Proof.Gate.Gate
public import proofs.«01_k».proof.Proof.Gen.KernelFdnIdeal.Value
public import proofs.«01_k».proof.Proof.Gen.ReferenceFdnIdeal.Read
public import proofs.«01_k».proof.Proof.Gen.ReferenceFdnIdeal.Run

@[expose] public section

set_option maxRecDepth 16384

noncomputable section

namespace Cert.KernelFdnIdeal.Value

open Cert.KernelFdnIdeal Cert.KernelFdnIdeal.Gen Idealize.ShloMosaic Idealize.ShloMosaic.TcCoe Idealize.SL.Sem
open Idealize.ShloMosaic.Pipeline (Dat)

open Cert.Norm

/-- The kernel's gate is the logistic function at the infinities too. -/
theorem sg_all (v : EReal) : sg v = lg v := by
  induction v using EReal.rec with
  | coe r => exact sg_eq ⟨r, rfl⟩
  | top =>
    have e : (1 : EReal) = ((1 : ℝ) : EReal) := rfl
    rw [sg, lg, half_eq, EReal.coe_mul_top_of_pos (by norm_num), Ideal.tanh_top, EReal.neg_top, Ideal.exp_bot, add_zero, mul_one, ← EReal.coe_add, e,
      Ideal.div_coe one_ne_zero, ← EReal.coe_mul]
    norm_num
  | bot =>
    rw [sg, lg, half_eq, EReal.coe_mul_bot_of_pos (by norm_num), Ideal.tanh_bot, EReal.neg_bot, Ideal.exp_top, Ideal.div]
    have e : (-1 : EReal) = ((-1 : ℝ) : EReal) := rfl
    have t : (1 : EReal) + ⊤ = ⊤ := EReal.add_top_of_ne_bot (by decide)
    rw [e, ← EReal.coe_mul, ← EReal.coe_add, t, if_neg (by decide), EReal.inv_top, mul_zero]
    norm_num

/-- One chunk's share of the down product, in a tile. -/
def ck (a b : FVec Ideal S512x256 .bf16) (w : FVec Ideal S256x1024 .bf16) (r : Fin 512) (j : Fin 1024) : EReal :=
  ∑ q, sw (a (ix2 r q)) (b (ix2 r q)) * w (ix2 q j)

section
variable (y : FVec Ideal S512x1024 .f32) (a b a' b' : FVec Ideal S512x256 .bf16) (w w' : FVec Ideal S256x1024 .bf16) (r : Fin 512) (j : Fin 1024)

theorem pay2_at : k0_pay2 (F := Ideal) a b w a' b' w' (ix2 r j) = ck a b w r j + ck a' b' w' r j := by
  pointwise [k0_pay2]
  rfl
theorem pay3_at : k0_pay3 (F := Ideal) y a b w a' b' w' (ix2 r j) = y (ix2 r j) + ck a b w r j + ck a' b' w' r j := by
  pointwise [k0_pay3]
  rfl
theorem pay4_at : k0_pay4 (F := Ideal) y a b w a' b' w' (ix2 r j) = y (ix2 r j) + ck a b w r j + ck a' b' w' r j := by
  pointwise [k0_pay4]
  rfl
theorem pay5_at : k0_pay5 (F := Ideal) y a b w a' b' w' (ix2 r j) = y (ix2 r j) + ck a b w r j + ck a' b' w' r j := by
  pointwise [k0_pay5]
  rfl
theorem pay6_at : k0_pay6 (F := Ideal) y a b w a' b' w' (ix2 r j) = y (ix2 r j) + ck a b w r j + ck a' b' w' r j := by
  pointwise [k0_pay6]
  rfl
theorem pay1_at (x : FVec Ideal S512x1024 .f32) (gt : FVec Ideal S1x1024 .f32) :
    k0_pay1 (F := Ideal) y a b w x gt (ix2 r j) = x (ix2 r j) + half * gt (ix2 0 j) * (y (ix2 r j) + ck a b w r j) := by
  pointwise [k0_pay1]
  rfl
end

/-- The grid runs along the rows; the two halves of the gate's input are two windows of one array. -/
theorem idx : ∀ t : Fin cfg0.N, win0_0.index t = ![t.val, 0] ∧ win0_1.index t = ![t.val, 1] ∧ win0_2.index t = ![0, 0]
    ∧ win0_3.index t = ![t.val, 0] ∧ win0_4.index t = ![0, 0] ∧ win0_5.index t = ![t.val, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

variable (m : (ℓ : Loc nD τ sig) → Buf (Elt Ideal) ℓ) (c : Dev nD) (t : Fin cfg0.N)

/-- The arguments as launched. -/
abbrev argA : FVec Ideal S1x8192x5632 .bf16 := m ((c : Thread nD τ).loc main_arg0)
abbrev argW : FVec Ideal S2816x1024 .f32 := m ((c : Thread nD τ).loc main_arg1)
abbrev argX : FVec Ideal S1x8192x1024 .f32 := m ((c : Thread nD τ).loc main_arg2)
abbrev argGt : FVec Ideal S1x1024 .f32 := m ((c : Thread nD τ).loc main_arg3)

theorem entry_a : V m c main_v0 = shapeCast S8192x5632 (argA m c) shapeCasts_S1x8192x5632_S8192x5632 := by
  simp only [V, hostOps0]
  entry_read
  rfl
theorem entry_w : V m c main_v1 = truncf (F := Ideal) .bf16 (argW m c) bitsLt_bf16_f32 := by
  simp only [V, hostOps0]
  entry_read
  rfl
theorem entry_x : V m c main_v2 = shapeCast S8192x1024 (argX m c) shapeCasts_S1x8192x1024_S8192x1024 := by
  simp only [V, hostOps0]
  entry_read
  rfl

theorem a_at (r : Fin 512) (f : Fin 2816) : iblk m c 0 t (ix2 r f) = argA m c (ix3 0 (row t r) ⟨f.val, by omega⟩) := by
  refine Eq.trans (b := V m c main_v0 (ix2 (row t r) ⟨f.val, by omega⟩)) ?_ ?_
  · blk_point [iblk, idx t, row]
  · rw [entry_a]
    pointwise []
theorem b_at (r : Fin 512) (f : Fin 2816) : iblk m c 1 t (ix2 r f) = argA m c (ix3 0 (row t r) ⟨2816 + f.val, by omega⟩) := by
  refine Eq.trans (b := V m c main_v0 (ix2 (row t r) ⟨2816 + f.val, by omega⟩)) ?_ ?_
  · blk_point [iblk, idx t, row]
  · rw [entry_a]
    pointwise []
theorem w_at (f : Fin 2816) (j : Fin 1024) : iblk m c 2 t (ix2 f j) = argW m c (ix2 f j) := by
  refine Eq.trans (b := V m c main_v1 (ix2 f j)) ?_ ?_
  · blk_point [iblk, idx t]
  · rw [entry_w]
    pointwise []
theorem x_at (r : Fin 512) (j : Fin 1024) : iblk m c 3 t (ix2 r j) = argX m c (ix3 0 (row t r) j) := by
  refine Eq.trans (b := V m c main_v2 (ix2 (row t r) j)) ?_ ?_
  · blk_point [iblk, idx t, row]
  · rw [entry_x]
    pointwise []
theorem gt_at (j : Fin 1024) : iblk m c 4 t (ix2 0 j) = argGt m c (ix2 0 j) := by
  blk_point [iblk, V, idx t]

/-- A chunk of the two halves and of the weight, as the body loads them. -/
abbrev la (o : ℕ) (h : ∀ a, (![0, o] : Fin 2 → ℕ) a + (![512, 256] : Fin 2 → ℕ) a ≤ S512x2816.size a) : FVec Ideal S512x256 .bf16 :=
  View.ld (Val := Elt Ideal) (S := S512x2816) (e' := .bf16) (iblk m c 0 t) (Rect.unit ![0, o] ![512, 256] h)
abbrev lb (o : ℕ) (h : ∀ a, (![0, o] : Fin 2 → ℕ) a + (![512, 256] : Fin 2 → ℕ) a ≤ S512x2816.size a) : FVec Ideal S512x256 .bf16 :=
  View.ld (Val := Elt Ideal) (S := S512x2816) (e' := .bf16) (iblk m c 1 t) (Rect.unit ![0, o] ![512, 256] h)
abbrev lw (o : ℕ) (h : ∀ a, (![o, 0] : Fin 2 → ℕ) a + (![256, 1024] : Fin 2 → ℕ) a ≤ S2816x1024.size a) : FVec Ideal S256x1024 .bf16 :=
  View.ld (Val := Elt Ideal) (S := S2816x1024) (e' := .bf16) (iblk m c 2 t) (Rect.unit ![o, 0] ![256, 1024] h)

theorem cols_idx (o : ℕ) (h : ∀ a, (![0, o] : Fin 2 → ℕ) a + (![512, 256] : Fin 2 → ℕ) a ≤ S512x2816.size a) (r : Fin 512) (q : Fin 256) :
    (Rect.unit (s := S512x2816) ![0, o] ![512, 256] h).idx (ix2 r q) = ix2 r ⟨o + q.val, by have : o + 256 ≤ 2816 := h 1; omega⟩ := by
  funext a
  fin_cases a
  · exact Fin.ext (by show 0 + 1 * r.val = r.val; omega)
  · exact Fin.ext (by show o + 1 * q.val = o + q.val; omega)
theorem la_at (o : ℕ) (h) (r : Fin 512) (q : Fin 256) : la m c t o h (ix2 r q) = iblk m c 0 t (ix2 r ⟨o + q.val, by have : o + 256 ≤ 2816 := h 1; omega⟩) :=
  congrArg (iblk m c 0 t) (cols_idx o h r q)
theorem lb_at (o : ℕ) (h) (r : Fin 512) (q : Fin 256) : lb m c t o h (ix2 r q) = iblk m c 1 t (ix2 r ⟨o + q.val, by have : o + 256 ≤ 2816 := h 1; omega⟩) :=
  congrArg (iblk m c 1 t) (cols_idx o h r q)
theorem lw_at (o : ℕ) (h) (q : Fin 256) (j : Fin 1024) : lw m c t o h (ix2 q j) = argW m c (ix2 ⟨o + q.val, by have : o + 256 ≤ 2816 := h 0; omega⟩ j) := by
  refine Eq.trans (congrArg (iblk m c 2 t) ?_) (w_at m c t _ j)
  funext a
  fin_cases a
  · exact Fin.ext (by show o + 1 * q.val = o + q.val; omega)
  · exact Fin.ext (by show 0 + 1 * j.val = j.val; omega)

/-! The half-step from the arguments. -/

def act (A : FVec Ideal S1x8192x5632 .bf16) (s : Fin 8192) (f : Fin 2816) : EReal := sw (A (ix3 0 s ⟨f.val, by omega⟩)) (A (ix3 0 s ⟨2816 + f.val, by omega⟩))
def step (A : FVec Ideal S1x8192x5632 .bf16) (W : FVec Ideal S2816x1024 .f32) (X : FVec Ideal S1x8192x1024 .f32) (G : FVec Ideal S1x1024 .f32) (s : Fin 8192) (j : Fin 1024) : EReal :=
  X (ix3 0 s j) + half * G (ix2 0 j) * ∑ f, act A s f * W (ix2 f j)
def xo (s : Fin 8192) (j : Fin 1024) : EReal := step (argA m c) (argW m c) (argX m c) (argGt m c) s j

/-- The down product's share of chunk `p`. -/
def chunk (s : Fin 8192) (j : Fin 1024) (p : Fin 11) : EReal :=
  ∑ q : Fin 256, act (argA m c) s ⟨p.val * 256 + q.val, by omega⟩ * argW m c (ix2 ⟨p.val * 256 + q.val, by omega⟩ j)

theorem ck_at (o : ℕ) (p : Fin 11) (e : o = p.val * 256) (h h') (r : Fin 512) (j : Fin 1024) :
    ck (la m c t o h) (lb m c t o h) (lw m c t o h') r j = chunk m c (row t r) j p := by
  subst e
  refine Finset.sum_congr rfl fun q _ => congrArg₂ (· * ·) (congrArg₂ sw ?_ ?_) (lw_at m c t _ h' q j)
  · exact (la_at m c t _ h r q).trans (a_at m c t r _)
  · exact (lb_at m c t _ h r q).trans (b_at m c t r _)

theorem eleven (f : Fin 11 → EReal) : f 0 + f 1 + f 2 + f 3 + f 4 + f 5 + f 6 + f 7 + f 8 + f 9 + f 10 = ∑ p, f p := by
  simp only [Fin.sum_univ_castSucc, Fin.sum_univ_zero, zero_add]
  rfl

theorem off_zero : (![0, 0] : Fin 2 → ℕ) = fun _ => 0 := by
  funext a
  fin_cases a <;> rfl
theorem ld_tile (x : Vec Ideal S512x1024 .f32) : View.ld (Val := Elt Ideal) (e' := .f32) x r0_22 = x :=
  View.ld_unit_zero (Val := Elt Ideal) off_zero inb_S512x1024_S512x1024_0_0 x
theorem ld_vec (x : Vec Ideal S1x1024 .f32) : View.ld (Val := Elt Ideal) (e' := .f32) x r0_23 = x :=
  View.ld_unit_zero (Val := Elt Ideal) off_zero inb_S1x1024_S1x1024_0_0 x

theorem out5_at (r : Fin 512) (j : Fin 1024) : (dats m 0 c).after 5 t (ix2 r j) = xo m c (row t r) j := by
  rw [after0_5]
  unfold out0_5
  rw [View.canon_cons_unit_lit inb_S512x1024_S512x1024_0_0 _ _ (by decide)]
  rw [ld_tile, ld_vec]
  refine (pay1_at _ _ _ _ r j _ _).trans ?_
  refine congrArg₂ (· + ·) (x_at m c t r j) (congrArg₂ (· * ·) (congrArg (half * ·) (gt_at m c t j)) ?_)
  refine Eq.trans ?_ (Fin.sum_univ_tiles 11 256 rfl (fun f : Fin 2816 => act (argA m c) (row t r) f * argW m c (ix2 f j))).symm
  refine Eq.trans ?_ (eleven (chunk m c (row t r) j))
  rw [pay6_at, pay5_at, pay4_at, pay3_at, pay2_at]
  have k := fun o p e h h' => ck_at m c t o p e h h' r j
  have k0 := k 0 0 rfl inb_S512x2816_S512x256_0_0 inb_S2816x1024_S256x1024_0_0
  have k1 := k 256 1 rfl inb_S512x2816_S512x256_0_256 inb_S2816x1024_S256x1024_256_0
  have k2 := k 512 2 rfl inb_S512x2816_S512x256_0_512 inb_S2816x1024_S256x1024_512_0
  have k3 := k 768 3 rfl inb_S512x2816_S512x256_0_768 inb_S2816x1024_S256x1024_768_0
  have k4 := k 1024 4 rfl inb_S512x2816_S512x256_0_1024 inb_S2816x1024_S256x1024_1024_0
  have k5 := k 1280 5 rfl inb_S512x2816_S512x256_0_1280 inb_S2816x1024_S256x1024_1280_0
  have k6 := k 1536 6 rfl inb_S512x2816_S512x256_0_1536 inb_S2816x1024_S256x1024_1536_0
  have k7 := k 1792 7 rfl inb_S512x2816_S512x256_0_1792 inb_S2816x1024_S256x1024_1792_0
  have k8 := k 2048 8 rfl inb_S512x2816_S512x256_0_2048 inb_S2816x1024_S256x1024_2048_0
  have k9 := k 2304 9 rfl inb_S512x2816_S512x256_0_2304 inb_S2816x1024_S256x1024_2304_0
  have k10 := k 2560 10 rfl inb_S512x2816_S512x256_0_2560 inb_S2816x1024_S256x1024_2560_0
  rw [← k0, ← k1, ← k2, ← k3, ← k4, ← k5, ← k6, ← k7, ← k8, ← k9, ← k10]

theorem xo_congr {q q' : Fin 8192} {j j' : Fin 1024} (hq : q.val = q'.val) (hj : j.val = j'.val) : xo m c q j = xo m c q' j' := by
  obtain rfl := Fin.ext hq
  obtain rfl := Fin.ext hj
  rfl
theorem final5 : (dats m 0 c).arrAt 5 cfg0.N = fun i => xo m c (i 0) (i 1) :=
  (dats m 0 c).arrAt_eq_of_covers 5 _ (by decide +kernel) (fun t hf y => by
    idx_vars y
    refine (out5_at m c t y0 y1).trans (xo_congr m c ?_ ?_)
    · refine Eq.trans (b := 512 * t.val + y0.val) rfl ?_
      blk_simp [idx t]
      omega
    · blk_simp [idx t])

/-! The reference. -/

open Cert.ReferenceFdnIdeal.Read in
theorem ref_at (x0 : FVec Ideal S1x8192x5632 .bf16) (x1 : FVec Ideal S2816x1024 .f32) (x2 : FVec Ideal S1x8192x1024 .f32) (x3 : FVec Ideal S1x1024 .f32) (s : Fin 8192) (j : Fin 1024) :
    val_main_v12 (F := Ideal) x0 x1 x2 x3 (ix2 s j) = step x0 x1 x2 x3 s j := by
  have e (v : EReal) : Ideal.div 1 (1 + Ideal.exp (-v)) = sg v := (sg_all v).symm
  pointwise [val_main_v12, val_main_v11, val_main_v10, val_main_v9, val_main_v8, val_main_v7, val_main_v6, val_main_v5, val_main_v4, val_main_v3, val_main_v2, val_main_v1, val_main_v0, val_main_cst,
    val_main_call0_v5, val_main_call0_v4, val_main_call0_v3, val_main_call0_v2, val_main_call0_v1, val_main_call0_v0, val_main_call0_cst, val_main_call0_cst_0]
  simp only [e]
  rfl

end Cert.KernelFdnIdeal.Value

end
-- ==== Proof.Mods.Final.lean ====
module

public import Idealize.ShloMosaic.Lib.WritesUnit
public import Idealize.ShloMosaic.Lib.Pointwise
public import Idealize.ShloMosaic.Lib.Pipeline.ValueKit
public import proofs.«01_k».proof.Proof.Gen.KernelModsIdeal.Value
public import proofs.«01_k».proof.Proof.Gen.ReferenceModsIdeal.Read
public import proofs.«01_k».proof.Proof.Gen.ReferenceModsIdeal.Run

@[expose] public section

set_option maxRecDepth 16384

noncomputable section

namespace Cert.KernelModsIdeal.Value

open Cert.KernelModsIdeal Cert.KernelModsIdeal.Gen Idealize.ShloMosaic Idealize.ShloMosaic.TcCoe Idealize.SL.Sem
open Idealize.ShloMosaic.Pipeline (Dat)

/-- The modulations: every example's `c · σ(c)` times the weight, and the bias. -/
def mods (C : FVec Ideal S8x1024 .f32) (W : FVec Ideal S1024x1152 .f32) (B : FVec Ideal S1152 .f32) (b : Fin 8) (q : Fin 1152) : EReal :=
  ∑ p, C (ix2 b p) * Ideal.logistic (C (ix2 b p)) * W (ix2 p q) + B (ix1 q)

theorem pay_at (C : FVec Ideal S8x1024 .f32) (W : FVec Ideal S1024x1152 .f32) (B : FVec Ideal S1x1152 .f32) (b : Fin 8) (q : Fin 1152) :
    out0_3 (F := Ideal) C W B (ix2 b q) = ∑ p, C (ix2 b p) * Ideal.logistic (C (ix2 b p)) * W (ix2 p q) + B (ix2 0 q) := by
  unfold out0_3
  rw [View.canon_cons_unit_lit inb_S8x1152_S8x1152_0_0 _ _ (by decide)]
  pointwise [k0_pay1]

variable (m : (ℓ : Loc nD τ sig) → Buf (Elt Ideal) ℓ) (c : Dev nD) (t : Fin cfg0.N)

abbrev argC : FVec Ideal S8x1024 .f32 := m ((c : Thread nD τ).loc main_arg0)
abbrev argW : FVec Ideal S1024x1152 .f32 := m ((c : Thread nD τ).loc main_arg1)
abbrev argB : FVec Ideal S1152 .f32 := m ((c : Thread nD τ).loc main_arg2)

theorem entry_b : V m c main_v0 = broadcastInDim S1x1152 ![1] bcast_S1152_S1x1152_1 (argB m c) := by
  simp only [V, hostOps0]
  entry_read
  rfl

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem c_at (b : Fin 8) (p : Fin 1024) : iblk m c 0 t (ix2 b p) = argC m c (ix2 b p) := by
  blk_point [iblk, V, idx t]
theorem w_at (p : Fin 1024) (q : Fin 1152) : iblk m c 1 t (ix2 p q) = argW m c (ix2 p q) := by
  blk_point [iblk, V, idx t]
theorem b_at (q : Fin 1152) : iblk m c 2 t (ix2 0 q) = argB m c (ix1 q) := by
  refine Eq.trans (b := V m c main_v0 (ix2 0 q)) ?_ ?_
  · blk_point [iblk, idx t]
  · rw [entry_b]
    pointwise []

def md (b : Fin 8) (q : Fin 1152) : EReal := mods (argC m c) (argW m c) (argB m c) b q
theorem out_at (y : S8x1152.Idx) : (dats m 0 c).after 3 t y = md m c (y 0) (y 1) := by
  obtain ⟨b, q, rfl⟩ : ∃ (b : Fin 8) (q : Fin 1152), y = ix2 b q := ⟨y 0, y 1, by funext a; fin_cases a <;> rfl⟩
  rw [after0_3]
  refine (pay_at _ _ _ b q).trans (congrArg₂ (· + ·) (Finset.sum_congr rfl fun p _ => ?_) (b_at m c t q))
  rw [c_at, w_at]
  rfl

theorem md_congr {b b' : Fin 8} {q q' : Fin 1152} (hb : b.val = b'.val) (hq : q.val = q'.val) : md m c b q = md m c b' q' := by
  obtain rfl := Fin.ext hb
  obtain rfl := Fin.ext hq
  rfl

theorem final3 : (dats m 0 c).arrAt 3 cfg0.N = fun i => md m c (i 0) (i 1) :=
  (dats m 0 c).arrAt_eq_of_covers 3 _ (by decide +kernel) (fun t hf y => by
    refine (out_at m c t _).trans (md_congr m c ?_ ?_)
    · blk_simp [idx t]
    · blk_simp [idx t])

/-! The reference. -/

open Cert.ReferenceModsIdeal.Read in
theorem ref_at (C : FVec Ideal S8x1024 .f32) (W : FVec Ideal S1024x1152 .f32) (B : FVec Ideal S1152 .f32) (b : Fin 8) (q : Fin 1152) :
    val_main_v4 (F := Ideal) C W B (ix2 b q) = mods C W B b q := by
  pointwise [val_main_v4, val_main_v3, val_main_v2, val_main_v1, val_main_v0, val_main_call0_v5, val_main_call0_v4, val_main_call0_v3, val_main_call0_v2, val_main_call0_v1, val_main_call0_v0,
    val_main_call0_cst, val_main_call0_cst_0]
  rfl

end Cert.KernelModsIdeal.Value

end
-- ==== Proof.Conv.Tile.lean ====
module

public import proofs.«01_k».proof.Proof.Gen.KernelConvIdeal.Value
public import Idealize.ShloMosaic.Lib.Pipeline.ValueKit
public import Idealize.ShloMosaic.Lib.Pointwise

@[expose] public section

set_option maxRecDepth 16384

noncomputable section

namespace Cert.KernelConvIdeal.Value

open Cert.KernelConvIdeal Cert.KernelConvIdeal.Gen Idealize.ShloMosaic Idealize.ShloMosaic.TcCoe Idealize.SL.Sem
open Idealize.ShloMosaic.Pipeline (Dat)

/-- The product `c_g * u` of row `t - k`, zero before the first row: what tap `k` of the causal convolution reads. -/
def past (P : FVec Ideal S8192x6656 .bf16) (k : ℕ) (t : Fin 8192) (d : Fin 1024) : EReal :=
  if h : k ≤ t.val then P (ix2 ⟨t.val - k, by omega⟩ ⟨1024 + d.val, by omega⟩) * P (ix2 ⟨t.val - k, by omega⟩ ⟨2048 + d.val, by omega⟩) else 0

/-- The cotangent of the convolution's output at row `t + k`, zero after the last row. -/
def fut (D : FVec Ideal S8192x1024 .bf16) (P : FVec Ideal S8192x6656 .bf16) (k : ℕ) (t : Fin 8192) (d : Fin 1024) : EReal :=
  if h : t.val + k < 8192 then D (ix2 ⟨t.val + k, h⟩ d) * P (ix2 ⟨t.val + k, h⟩ ⟨d.val, by omega⟩) else 0

/-- The convolution's output. -/
def conv (P : FVec Ideal S8192x6656 .bf16) (w : FVec Ideal S3x1024 .f32) (t : Fin 8192) (d : Fin 1024) : EReal :=
  w (ix2 0 d) * past P 2 t d + w (ix2 1 d) * past P 1 t d + w (ix2 2 d) * past P 0 t d

/-- The cotangent of the convolution's input. -/
def back (D : FVec Ideal S8192x1024 .bf16) (P : FVec Ideal S8192x6656 .bf16) (w : FVec Ideal S3x1024 .f32) (t : Fin 8192) (d : Fin 1024) : EReal :=
  w (ix2 2 d) * fut D P 0 t d + w (ix2 1 d) * fut D P 1 t d + w (ix2 0 d) * fut D P 2 t d

theorem m1_at (i : grid0.Coords) (b4 b5 : FVec Ideal S512x1024 .bf16) (h6 h7 : FVec Ideal S16x1024 .bf16) (r : Fin 512) (d : Fin 1024) :
    k0_pay17 (F := Ideal) (k0_pay15 i b4 b5 h6 h7) (k0_pay16 b4 b5) (ix2 r d)
      = if h : 1 ≤ r.val then b4 (ix2 ⟨r.val - 1, by omega⟩ d) * b5 (ix2 ⟨r.val - 1, by omega⟩ d)
        else k0_pay10 (F := Ideal) i h6 h7 (ix2 15 d) := by
  pointwise [k0_pay17, k0_pay15, k0_pay16, k0_pay13, k0_pay9, k0_pay5, k0_pay6, k0_pay11]
  simp (disch := omega) only [WordCmp.select_ofBool, WordCmp.select_decide, hlo_ix]
  by_cases h0 : r.val = 0
  · simp [h0]
  · have e : (r.val + 512 - 1) % 512 = r.val - 1 := by omega
    have e' : 8 ≤ r.val → (8 + (r.val - 8) + 512 - 1) % 512 = r.val - 1 := fun _ => by omega
    rw [dif_pos (show 1 ≤ r.val by omega)]
    by_cases h8 : r.val < 8
    · simp only [dif_pos h8, if_neg h0, e]
    · simp only [dif_neg h8, e' (by omega), dif_pos, if_pos]

theorem m2_at (i : grid0.Coords) (b4 b5 : FVec Ideal S512x1024 .bf16) (h6 h7 : FVec Ideal S16x1024 .bf16) (r : Fin 512) (d : Fin 1024) :
    k0_pay18 (F := Ideal) (iota Kind.tc S8x1024 32 [0] iota_S8x1024_d0_w32) (k0_pay11 i h6 h7) (k0_pay12 i h6 h7) (k0_pay14 b4 b5) (ix2 r d)
      = if h : 2 ≤ r.val then b4 (ix2 ⟨r.val - 2, by omega⟩ d) * b5 (ix2 ⟨r.val - 2, by omega⟩ d)
        else k0_pay10 (F := Ideal) i h6 h7 (ix2 ⟨r.val + 14, by omega⟩ d) := by
  pointwise [k0_pay18, k0_pay14, k0_pay9, k0_pay5, k0_pay6, k0_pay11, k0_pay12]
  simp (disch := omega) only [WordCmp.select_ofBool, WordCmp.select_decide, hlo_ix]
  by_cases h2 : 2 ≤ r.val
  · have e : (r.val + 512 - 2) % 512 = r.val - 2 := by omega
    have e' : 8 ≤ r.val → (8 + (r.val - 8) + 512 - 2) % 512 = r.val - 2 := fun _ => by omega
    rw [dif_pos h2]
    by_cases h8 : r.val < 8
    · simp only [dif_pos h8, if_neg (show r.val ≠ 0 by omega), if_neg (show r.val ≠ 1 by omega), e]
    · simp only [dif_neg h8, e' (by omega), dif_pos, if_pos]
  · rw [dif_neg h2, dif_pos (show r.val < 8 by omega)]
    rcases (by omega : r.val = 0 ∨ r.val = 1) with h | h <;> simp only [h] <;> rfl

theorem halo_at (i : grid0.Coords) (h6 h7 : FVec Ideal S16x1024 .bf16) (r : Fin 16) (d : Fin 1024) :
    k0_pay10 (F := Ideal) i h6 h7 (ix2 r d) = if (i 0).val = 0 then 0 else h6 (ix2 r d) * h7 (ix2 r d) := by
  pointwise [k0_pay10]
  simp (disch := omega) only [WordCmp.select_ofBool, WordCmp.select_decide, hlo_ix]

/-- The cotangent `k` rows ahead of row `r`: read in the tile (the product of `b0` and `b2`), or past its end from the sixteen rows after it. -/
def aheadv (b0 b2 : FVec Ideal S512x1024 .bf16) (v6 : EReal) (n1 n3 : FVec Ideal S16x1024 .bf16) (k : ℕ) (hk : k ≤ 2) (r : Fin 512) (d : Fin 1024) : EReal :=
  if h : r.val + k < 512 then b0 (ix2 ⟨r.val + k, h⟩ d) * b2 (ix2 ⟨r.val + k, h⟩ d)
  else v6 * (n1 (ix2 ⟨r.val + k - 512, by omega⟩ d) * n3 (ix2 ⟨r.val + k - 512, by omega⟩ d))

theorem pay9_at (b4 b5 : FVec Ideal S512x1024 .bf16) (r : Fin 512) (d : Fin 1024) :
    k0_pay9 (F := Ideal) b4 b5 (ix2 r d) = b4 (ix2 r d) * b5 (ix2 r d) := by
  pointwise [k0_pay9, k0_pay5, k0_pay6]

theorem pay23_at (b0 b2 : FVec Ideal S512x1024 .bf16) (r : Fin 512) (d : Fin 1024) :
    k0_pay23 (F := Ideal) (k0_pay7 b2) (k0_pay8 b0) (ix2 r d) = b0 (ix2 r d) * b2 (ix2 r d) := by
  pointwise [k0_pay23, k0_pay7, k0_pay8]

theorem back_at (v50 v52 v54 : FVec Ideal S1x1024 .f32) (b0 b2 : FVec Ideal S512x1024 .bf16) (v6 : EReal) (n1 n3 : FVec Ideal S16x1024 .bf16) (r : Fin 512) (d : Fin 1024) :
    k0_pay32 (F := Ideal) v50 v52 v54 (k0_pay23 (k0_pay7 b2) (k0_pay8 b0)) (k0_pay25 v6 n1 n3) (k0_pay26 v6 n1 n3)
      (iota Kind.tc S8x1024 32 [0] iota_S8x1024_d0_w32) (k0_pay28 (k0_pay7 b2) (k0_pay8 b0)) (k0_pay29 (k0_pay7 b2) (k0_pay8 b0)) k0_pay30
      (k0_pay31 (k0_pay7 b2) (k0_pay8 b0)) (ix2 r d)
      = v54 (ix2 0 d) * aheadv b0 b2 v6 n1 n3 0 (by omega) r d + v52 (ix2 0 d) * aheadv b0 b2 v6 n1 n3 1 (by omega) r d
        + v50 (ix2 0 d) * aheadv b0 b2 v6 n1 n3 2 (by omega) r d := by
  pointwise [k0_pay32, k0_pay23, k0_pay7, k0_pay8, k0_pay25, k0_pay26, k0_pay28, k0_pay29, k0_pay30, k0_pay31, k0_pay27, k0_pay24, aheadv]
  simp (disch := omega) only [WordCmp.select_ofBool, WordCmp.select_decide, hlo_ix]
  have e1 : r.val < 511 → (r.val + 512 - 511) % 512 = r.val + 1 := fun _ => by omega
  have e2 : r.val < 510 → (r.val + 512 - 510) % 512 = r.val + 2 := fun _ => by omega
  have f1 : 504 ≤ r.val → r.val < 511 → (504 + (r.val - 504) + 512 - 511) % 512 = r.val + 1 := fun _ _ => by omega
  have f2 : 504 ≤ r.val → r.val < 510 → (504 + (r.val - 504) + 512 - 510) % 512 = r.val + 2 := fun _ _ => by omega
  by_cases h8 : r.val < 504
  · simp only [dif_pos h8, e1 (by omega), e2 (by omega), dif_pos (show r.val + 1 < 512 by omega), dif_pos (show r.val + 2 < 512 by omega)]
  · by_cases h2 : r.val + 2 < 512
    · simp only [dif_neg h8, f1 (by omega) (by omega), f2 (by omega) (by omega), dif_pos (show r.val + 1 < 512 by omega), dif_pos h2,
        if_neg (show r.val - 504 ≠ 7 by omega), if_neg (show r.val - 504 ≠ 6 by omega), dif_pos, if_pos]
    · rcases (by omega : r.val = 510 ∨ r.val = 511) with h | h <;> simp only [h] <;> simp

end Cert.KernelConvIdeal.Value

end
-- ==== Proof.Mid.Tile.lean ====
module

public import Idealize.ShloMosaic.Lib.WritesUnit
public import Idealize.ShloMosaic.Lib.Pointwise
public import Idealize.ShloMosaic.Lib.Pipeline.ValueKit
public import proofs.«01_k».proof.Proof.Fdn.Final
public import proofs.«01_k».proof.Proof.Conv.Tile
public import proofs.«01_k».proof.Proof.Gen.KernelMidIdeal.Value

@[expose] public section

set_option maxRecDepth 16384

noncomputable section

namespace Cert.KernelMidIdeal.Value

open Cert.KernelMidIdeal Cert.KernelMidIdeal.Gen Idealize.ShloMosaic Idealize.ShloMosaic.TcCoe Idealize.SL.Sem
open Idealize.ShloMosaic.Pipeline (Dat)

open Cert.Norm
open Cert.KernelConvIdeal.Value (past conv)

theorem cu_at (b4 b5 : FVec Ideal S512x1024 .bf16) (r : Fin 512) (d : Fin 1024) : k0_pay1 (F := Ideal) b4 b5 (ix2 r d) = b4 (ix2 r d) * b5 (ix2 r d) := by
  pointwise [k0_pay1]

theorem halo_at (i : grid0.Coords) (h6 h7 : FVec Ideal S16x1024 .bf16) (r : Fin 16) (d : Fin 1024) :
    k0_pay2 (F := Ideal) i h6 h7 (ix2 r d) = if (i 0).val = 0 then 0 else h6 (ix2 r d) * h7 (ix2 r d) := by
  pointwise [k0_pay2]
  simp (disch := omega) only [WordCmp.select_ofBool, WordCmp.select_decide, hlo_ix]

theorem m1_at (i : grid0.Coords) (b4 b5 : FVec Ideal S512x1024 .bf16) (h6 h7 : FVec Ideal S16x1024 .bf16) (r : Fin 512) (d : Fin 1024) :
    k0_pay4 (F := Ideal) i b4 b5 h6 h7 (ix2 r d)
      = if h : 1 ≤ r.val then b4 (ix2 ⟨r.val - 1, by omega⟩ d) * b5 (ix2 ⟨r.val - 1, by omega⟩ d)
        else k0_pay2 (F := Ideal) i h6 h7 (ix2 15 d) := by
  pointwise [k0_pay4, k0_pay1, k0_pay3]
  simp (disch := omega) only [WordCmp.select_ofBool, WordCmp.select_decide, hlo_ix]
  by_cases h0 : r.val = 0
  · simp [h0]
  · have e : (r.val + 512 - 1) % 512 = r.val - 1 := by omega
    have e' : 8 ≤ r.val → (8 + (r.val - 8) + 512 - 1) % 512 = r.val - 1 := fun _ => by omega
    rw [dif_pos (show 1 ≤ r.val by omega)]
    by_cases h8 : r.val < 8
    · simp only [dif_pos h8, if_neg h0, e]
    · simp only [dif_neg h8, e' (by omega), dif_pos, if_pos]

theorem m2_at (i : grid0.Coords) (b4 b5 : FVec Ideal S512x1024 .bf16) (h6 h7 : FVec Ideal S16x1024 .bf16) (r : Fin 512) (d : Fin 1024) :
    k0_pay5 (F := Ideal) i b4 b5 h6 h7 (ix2 r d)
      = if h : 2 ≤ r.val then b4 (ix2 ⟨r.val - 2, by omega⟩ d) * b5 (ix2 ⟨r.val - 2, by omega⟩ d)
        else k0_pay2 (F := Ideal) i h6 h7 (ix2 ⟨r.val + 14, by omega⟩ d) := by
  pointwise [k0_pay5, k0_pay1, k0_pay3]
  simp (disch := omega) only [WordCmp.select_ofBool, WordCmp.select_decide, hlo_ix]
  by_cases h2 : 2 ≤ r.val
  · have e : (r.val + 512 - 2) % 512 = r.val - 2 := by omega
    have e' : 8 ≤ r.val → (8 + (r.val - 8) + 512 - 2) % 512 = r.val - 2 := fun _ => by omega
    rw [dif_pos h2]
    by_cases h8 : r.val < 8
    · simp only [dif_pos h8, if_neg (show r.val ≠ 0 by omega), if_neg (show r.val ≠ 1 by omega), e]
    · simp only [dif_neg h8, e' (by omega), dif_pos, if_pos]
  · rw [dif_neg h2, dif_pos (show r.val < 8 by omega)]
    rcases (by omega : r.val = 0 ∨ r.val = 1) with h | h <;> simp only [h] <;> rfl

theorem gc_at (v0 v1 v2 : FVec Ideal S512x1024 .f32) (w0 w1 w2 : FVec Ideal S1x1024 .f32) (b : FVec Ideal S512x1024 .bf16) (r : Fin 512) (d : Fin 1024) :
    k0_pay6 (F := Ideal) v0 v1 v2 w0 w1 w2 b (ix2 r d)
      = b (ix2 r d) * (w0 (ix2 0 d) * v2 (ix2 r d) + w1 (ix2 0 d) * v1 (ix2 r d) + w2 (ix2 0 d) * v0 (ix2 r d)) := by
  pointwise [k0_pay6]

theorem yc_at (v0 v1 v2 : FVec Ideal S512x1024 .f32) (w0 w1 w2 : FVec Ideal S1x1024 .f32) (b : FVec Ideal S512x1024 .bf16) (w : FVec Ideal S1024x1024 .bf16) (r : Fin 512) (j : Fin 1024) :
    k0_pay7 (F := Ideal) v0 v1 v2 w0 w1 w2 b w (ix2 r j) = ∑ d, k0_pay6 (F := Ideal) v0 v1 v2 w0 w1 w2 b (ix2 r d) * w (ix2 d j) := by
  pointwise [k0_pay7]

theorem pay9_at (v0 v1 v2 : FVec Ideal S512x1024 .f32) (w0 w1 w2 : FVec Ideal S1x1024 .f32) (b : FVec Ideal S512x1024 .bf16) (w : FVec Ideal S1024x1024 .bf16) (r : Fin 512) (j : Fin 1024) :
    k0_pay9 (F := Ideal) v0 v1 v2 w0 w1 w2 b w (ix2 r j) = k0_pay7 (F := Ideal) v0 v1 v2 w0 w1 w2 b w (ix2 r j) := by
  pointwise [k0_pay9]

theorem ya_at (a : FVec Ideal S512x1024 .bf16) (w : FVec Ideal S1024x1024 .bf16) (r : Fin 512) (j : Fin 1024) :
    k0_pay8 (F := Ideal) a w (ix2 r j) = ∑ d, a (ix2 r d) * w (ix2 d j) := by
  pointwise [k0_pay8]

theorem pay10_at (a : FVec Ideal S512x1024 .bf16) (w : FVec Ideal S1024x1024 .bf16) (r : Fin 512) (j : Fin 1024) :
    k0_pay10 (F := Ideal) a w (ix2 r j) = k0_pay8 (F := Ideal) a w (ix2 r j) := by
  pointwise [k0_pay10]

/-- Two halves side by side. -/
def halves (a b : FVec Ideal S512x512 .bf16) (r : Fin 512) (j : Fin 1024) : EReal :=
  if h : j.val < 512 then a (ix2 r ⟨j.val, h⟩) else b (ix2 r ⟨j.val - 512, by omega⟩)

theorem mg_at (yc ya : FVec Ideal S512x1024 .f32) (a b a' b' : FVec Ideal S512x512 .bf16) (r : Fin 512) (j : Fin 1024) :
    k0_pay12 (F := Ideal) yc ya (k0_pay11 a b) a' b' (ix2 r j) = sg (halves a b r j) * yc (ix2 r j) + sg (halves a' b' r j) * ya (ix2 r j) := by
  pointwise [k0_pay12, k0_pay11]
  rfl

theorem o_at (yc ya z : FVec Ideal S512x1024 .f32) (a b : FVec Ideal S512x512 .bf16) (w : FVec Ideal S1024x1024 .bf16) (r : Fin 512) (j : Fin 1024) :
    k0_pay13 (F := Ideal) yc ya z a b w (ix2 r j) = ∑ d, k0_pay12 (F := Ideal) yc ya z a b (ix2 r d) * w (ix2 d j) := by
  pointwise [k0_pay13]

theorem pay14_at (yc ya z : FVec Ideal S512x1024 .f32) (a b : FVec Ideal S512x512 .bf16) (w : FVec Ideal S1024x1024 .bf16) (r : Fin 512) (j : Fin 1024) :
    k0_pay14 (F := Ideal) yc ya z a b w (ix2 r j) = k0_pay13 (F := Ideal) yc ya z a b w (ix2 r j) := by
  pointwise [k0_pay14]

theorem pay15_at (yc ya z : FVec Ideal S512x1024 .f32) (a b : FVec Ideal S512x512 .bf16) (w : FVec Ideal S1024x1024 .bf16) (x : FVec Ideal S512x1024 .f32) (g : FVec Ideal S1x1024 .f32) (r : Fin 512) (j : Fin 1024) :
    k0_pay15 (F := Ideal) yc ya z a b w x g (ix2 r j) = x (ix2 r j) + g (ix2 0 j) * k0_pay13 (F := Ideal) yc ya z a b w (ix2 r j) := by
  pointwise [k0_pay15]

end Cert.KernelMidIdeal.Value

end
-- ==== Proof.Mid.Final.lean ====
module

public import Idealize.ShloMosaic.Lib.WritesUnit
public import Idealize.ShloMosaic.Lib.Pointwise
public import Idealize.ShloMosaic.Lib.Pipeline.ValueKit
public import proofs.«01_k».proof.Proof.Mid.Tile

@[expose] public section

set_option maxRecDepth 16384

noncomputable section

namespace Cert.KernelMidIdeal.Value

open Cert.KernelMidIdeal Cert.KernelMidIdeal.Gen Idealize.ShloMosaic Idealize.ShloMosaic.TcCoe Idealize.SL.Sem
open Idealize.ShloMosaic.Pipeline (Dat)

open Cert.Norm
open Cert.KernelConvIdeal.Value (past conv)

/-- The grid runs along the rows: which block of its array every window moves at point `t`. -/
theorem idx : ∀ t : Fin cfg0.N, win0_0.index t = ![t.val, 0] ∧ win0_1.index t = ![t.val, 1] ∧ win0_2.index t = ![t.val, 2]
    ∧ win0_3.index t = ![t.val*32-1, 1] ∧ win0_4.index t = ![t.val*32-1, 2] ∧ win0_5.index t = ![t.val, 9] ∧ win0_6.index t = ![t.val, 10]
    ∧ win0_7.index t = ![t.val, 11] ∧ win0_8.index t = ![t.val, 12] ∧ win0_9.index t = ![t.val, 0] ∧ win0_10.index t = ![0, 0] ∧ win0_11.index t = ![0, 0]
    ∧ win0_12.index t = ![0, 0] ∧ win0_13.index t = ![0, 0] ∧ win0_14.index t = ![t.val, 0] ∧ win0_15.index t = ![0, 0] ∧ win0_16.index t = ![t.val, 0]
    ∧ win0_17.index t = ![t.val, 0] ∧ win0_18.index t = ![t.val, 0] ∧ win0_19.index t = ![t.val, 0] ∧ win0_20.index t = ![t.val, 0] ∧ win0_21.index t = ![t.val, 0]
    ∧ (grid0.coords t 0).val = t.val :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

/-- Row `r` of the sixteen rows before tile `t` (of the first sixteen rows at the first tile). -/
def prevRow (t : Fin cfg0.N) (r : Fin 16) : Fin 8192 := ⟨16 * (t.val * 32 - 1) + r.val, by have : t.val < 16 := t.isLt; omega⟩

variable (m : (ℓ : Loc nD τ sig) → Buf (Elt Ideal) ℓ) (c : Dev nD) (t : Fin cfg0.N)

/-- The arguments as launched. -/
abbrev argP : FVec Ideal S8192x6656 .bf16 := m ((c : Thread nD τ).loc main_arg0)
abbrev argA : FVec Ideal S8192x1024 .bf16 := m ((c : Thread nD τ).loc main_arg1)
abbrev argWc : FVec Ideal S1024x1024 .f32 := m ((c : Thread nD τ).loc main_arg2)
abbrev argWa : FVec Ideal S1024x1024 .f32 := m ((c : Thread nD τ).loc main_arg3)
abbrev argWo : FVec Ideal S1024x1024 .f32 := m ((c : Thread nD τ).loc main_arg4)
abbrev argT : FVec Ideal S3x1024 .f32 := m ((c : Thread nD τ).loc main_arg5)
abbrev argX : FVec Ideal S1x8192x1024 .f32 := m ((c : Thread nD τ).loc main_arg6)
abbrev argG : FVec Ideal S1x1024 .f32 := m ((c : Thread nD τ).loc main_arg7)

theorem entry_taps : V m c main_v0 = pad S8x1024 ![0, 0] ![5, 0] ![0, 0] (argT m c) (sitofp .f32 (constantI S_ 32 0#32)) pads_S3x1024_S8x1024_050_000 h_S_ := by
  simp only [V, hostOps0, hostOps0_1, hostOps0_2, List.flatten_cons, List.flatten_nil, List.append_nil, List.cons_append, List.nil_append]
  entry_read
  rfl
theorem entry_wc : V m c main_v1 = truncf (F := Ideal) .bf16 (argWc m c) bitsLt_bf16_f32 := by
  simp only [V, hostOps0, hostOps0_1, hostOps0_2, List.flatten_cons, List.flatten_nil, List.append_nil, List.cons_append, List.nil_append]
  entry_read
  rfl
theorem entry_wa : V m c main_v2 = truncf (F := Ideal) .bf16 (argWa m c) bitsLt_bf16_f32 := by
  simp only [V, hostOps0, hostOps0_1, hostOps0_2, List.flatten_cons, List.flatten_nil, List.append_nil, List.cons_append, List.nil_append]
  entry_read
  rfl
theorem entry_wo : V m c main_v3 = truncf (F := Ideal) .bf16 (argWo m c) bitsLt_bf16_f32 := by
  simp only [V, hostOps0, hostOps0_1, hostOps0_2, List.flatten_cons, List.flatten_nil, List.append_nil, List.cons_append, List.nil_append]
  entry_read
  rfl
theorem entry_x : V m c main_v4 = shapeCast S8192x1024 (argX m c) shapeCasts_S1x8192x1024_S8192x1024 := by
  simp only [V, hostOps0, hostOps0_1, hostOps0_2, List.flatten_cons, List.flatten_nil, List.append_nil, List.cons_append, List.nil_append]
  entry_read
  rfl

theorem bg_at (r : Fin 512) (d : Fin 1024) : X0_0 m c t (ix2 r d) = argP m c (ix2 (row t r) ⟨d.val, by omega⟩) := by
  unfold X0_0 Pipeline.Window.fill
  rw [dif_pos (moved0_0 t _)]
  blk_point [iblk, V, idx t, row]
theorem cg_at (r : Fin 512) (d : Fin 1024) : X0_1 m c t (ix2 r d) = argP m c (ix2 (row t r) ⟨1024 + d.val, by omega⟩) := by
  unfold X0_1 Pipeline.Window.fill
  rw [dif_pos (moved0_1 t _)]
  blk_point [iblk, V, idx t, row]
theorem u_at (r : Fin 512) (d : Fin 1024) : X0_2 m c t (ix2 r d) = argP m c (ix2 (row t r) ⟨2048 + d.val, by omega⟩) := by
  unfold X0_2 Pipeline.Window.fill
  rw [dif_pos (moved0_2 t _)]
  blk_point [iblk, V, idx t, row]
theorem hcg_at (r : Fin 16) (d : Fin 1024) : X0_3 m c t (ix2 r d) = argP m c (ix2 (prevRow t r) ⟨1024 + d.val, by omega⟩) := by
  unfold X0_3 Pipeline.Window.fill
  rw [dif_pos (moved0_3 t _)]
  blk_point [iblk, V, idx t, prevRow]
theorem hu_at (r : Fin 16) (d : Fin 1024) : X0_4 m c t (ix2 r d) = argP m c (ix2 (prevRow t r) ⟨2048 + d.val, by omega⟩) := by
  unfold X0_4 Pipeline.Window.fill
  rw [dif_pos (moved0_4 t _)]
  blk_point [iblk, V, idx t, prevRow]
theorem z5_at (r d : Fin 512) : iblk m c 5 t (ix2 r d) = argP m c (ix2 (row t r) ⟨4608 + d.val, by omega⟩) := by
  blk_point [iblk, V, idx t, row]
theorem z6_at (r d : Fin 512) : iblk m c 6 t (ix2 r d) = argP m c (ix2 (row t r) ⟨5120 + d.val, by omega⟩) := by
  blk_point [iblk, V, idx t, row]
theorem z7_at (r d : Fin 512) : iblk m c 7 t (ix2 r d) = argP m c (ix2 (row t r) ⟨5632 + d.val, by omega⟩) := by
  blk_point [iblk, V, idx t, row]
theorem z8_at (r d : Fin 512) : iblk m c 8 t (ix2 r d) = argP m c (ix2 (row t r) ⟨6144 + d.val, by omega⟩) := by
  blk_point [iblk, V, idx t, row]
theorem attn_at (r : Fin 512) (d : Fin 1024) : iblk m c 9 t (ix2 r d) = argA m c (ix2 (row t r) d) := by
  blk_point [iblk, V, idx t, row]
theorem wc_at (d j : Fin 1024) : iblk m c 10 t (ix2 d j) = argWc m c (ix2 d j) := by
  refine Eq.trans (b := V m c main_v1 (ix2 d j)) ?_ ?_
  · blk_point [iblk, idx t]
  · rw [entry_wc]
    pointwise []
theorem wa_at (d j : Fin 1024) : iblk m c 11 t (ix2 d j) = argWa m c (ix2 d j) := by
  refine Eq.trans (b := V m c main_v2 (ix2 d j)) ?_ ?_
  · blk_point [iblk, idx t]
  · rw [entry_wa]
    pointwise []
theorem wo_at (d j : Fin 1024) : iblk m c 12 t (ix2 d j) = argWo m c (ix2 d j) := by
  refine Eq.trans (b := V m c main_v3 (ix2 d j)) ?_ ?_
  · blk_point [iblk, idx t]
  · rw [entry_wo]
    pointwise []
theorem taps_at (k : Fin 3) (d : Fin 1024) : iblk m c 13 t (ix2 ⟨k.val, by omega⟩ d) = argT m c (ix2 k d) := by
  refine Eq.trans (b := V m c main_v0 (ix2 ⟨k.val, by omega⟩ d)) ?_ ?_
  · blk_point [iblk, idx t]
  · rw [entry_taps]
    pointwise []
theorem x_at (r : Fin 512) (j : Fin 1024) : iblk m c 14 t (ix2 r j) = argX m c (ix3 0 (row t r) j) := by
  refine Eq.trans (b := V m c main_v4 (ix2 (row t r) j)) ?_ ?_
  · blk_point [iblk, idx t, row]
  · rw [entry_x]
    pointwise []
theorem gt_at (j : Fin 1024) : iblk m c 15 t (ix2 0 j) = argG m c (ix2 0 j) := by
  blk_point [iblk, V, idx t]

/-! The six results from the arguments. -/

section
variable (P : FVec Ideal S8192x6656 .bf16) (A : FVec Ideal S8192x1024 .bf16) (Wc Wa Wo : FVec Ideal S1024x1024 .f32) (T : FVec Ideal S3x1024 .f32)
  (X : FVec Ideal S1x8192x1024 .f32) (G : FVec Ideal S1x1024 .f32) (s : Fin 8192) (j : Fin 1024)

def gated : EReal := P (ix2 s ⟨j.val, by omega⟩) * conv P T s j
def yconv : EReal := ∑ d, gated P T s d * Wc (ix2 d j)
def yattn : EReal := ∑ d, A (ix2 s d) * Wa (ix2 d j)
def merged : EReal := sg (P (ix2 s ⟨4608 + j.val, by omega⟩)) * yconv P Wc T s j + sg (P (ix2 s ⟨5632 + j.val, by omega⟩)) * yattn A Wa s j
def oproj : EReal := ∑ d, merged P A Wc Wa T s d * Wo (ix2 d j)
def resid : EReal := X (ix3 0 s j) + G (ix2 0 j) * oproj P A Wc Wa Wo T s j
end

/-! A tile of each. -/

theorem t0_tile (r : Fin 512) (d : Fin 1024) : k0_pay1 (F := Ideal) (X0_1 m c t) (X0_2 m c t) (ix2 r d) = past (argP m c) 0 (row t r) d := by
  rw [cu_at, cg_at, u_at, past, dif_pos (Nat.zero_le _)]
  rfl

theorem halo_tile (r : Fin 16) (d : Fin 1024) :
    k0_pay2 (F := Ideal) (grid0.coords t) (X0_3 m c t) (X0_4 m c t) (ix2 r d)
      = if t.val = 0 then 0 else argP m c (ix2 (prevRow t r) ⟨1024 + d.val, by omega⟩) * argP m c (ix2 (prevRow t r) ⟨2048 + d.val, by omega⟩) := by
  have ht := (idx t).2.2.2.2.2.2.2.2.2.2.2.2.2.2.2.2.2.2.2.2.2.2
  rw [halo_at, ht, hcg_at, hu_at]

theorem t1_tile (r : Fin 512) (d : Fin 1024) :
    k0_pay4 (F := Ideal) (grid0.coords t) (X0_1 m c t) (X0_2 m c t) (X0_3 m c t) (X0_4 m c t) (ix2 r d) = past (argP m c) 1 (row t r) d := by
  rw [m1_at, past]
  by_cases h : 1 ≤ r.val
  · rw [dif_pos h, dif_pos (show 1 ≤ (row t r).val from by simp only [row]; omega), cg_at, u_at]
    have e : row t ⟨r.val - 1, by omega⟩ = ⟨(row t r).val - 1, by omega⟩ := Fin.ext (by simp only [row]; omega)
    rw [e]
  · rw [dif_neg h, halo_tile]
    by_cases h0 : t.val = 0
    · rw [if_pos h0, dif_neg (show ¬ 1 ≤ (row t r).val from by simp only [row]; omega)]
    · rw [if_neg h0, dif_pos (show 1 ≤ (row t r).val from by simp only [row]; omega)]
      have e : prevRow t 15 = ⟨(row t r).val - 1, by omega⟩ := Fin.ext (by simp only [row, prevRow]; show 16 * (t.val * 32 - 1) + 15 = _; omega)
      rw [e]

theorem t2_tile (r : Fin 512) (d : Fin 1024) :
    k0_pay5 (F := Ideal) (grid0.coords t) (X0_1 m c t) (X0_2 m c t) (X0_3 m c t) (X0_4 m c t) (ix2 r d) = past (argP m c) 2 (row t r) d := by
  rw [m2_at, past]
  by_cases h : 2 ≤ r.val
  · rw [dif_pos h, dif_pos (show 2 ≤ (row t r).val from by simp only [row]; omega), cg_at, u_at]
    have e : row t ⟨r.val - 2, by omega⟩ = ⟨(row t r).val - 2, by omega⟩ := Fin.ext (by simp only [row]; omega)
    rw [e]
  · rw [dif_neg h, halo_tile]
    by_cases h0 : t.val = 0
    · rw [if_pos h0, dif_neg (show ¬ 2 ≤ (row t r).val from by simp only [row]; omega)]
    · rw [if_neg h0, dif_pos (show 2 ≤ (row t r).val from by simp only [row]; omega)]
      have e : prevRow t ⟨r.val + 14, by omega⟩ = ⟨(row t r).val - 2, by omega⟩ := Fin.ext (by simp only [row, prevRow]; omega)
      rw [e]

/-- Row `k` of the staged taps. -/
abbrev tap (k : ℕ) (h : ∀ a, (![k, 0] : Fin 2 → ℕ) a + (![1, 1024] : Fin 2 → ℕ) a ≤ S8x1024.size a) : FVec Ideal S1x1024 .f32 :=
  View.ld (Val := Elt Ideal) (S := S8x1024) (e' := .f32) (iblk m c 13 t) (Rect.unit ![k, 0] ![1, 1024] h)
theorem tap_at (k : Fin 3) (h) (d : Fin 1024) : tap m c t k.val h (ix2 0 d) = argT m c (ix2 k d) := by
  refine Eq.trans (congrArg (iblk m c 13 t) ?_) (taps_at m c t k d)
  funext a
  fin_cases a
  · exact Fin.ext (by show k.val + 1 * 0 = k.val; omega)
  · exact Fin.ext (by show 0 + 1 * d.val = d.val; omega)

/-- The staged tile of each stage, as the body computes it. -/
abbrev GC : FVec Ideal S512x1024 .bf16 :=
  k0_pay6 (F := Ideal) (k0_pay1 (X0_1 m c t) (X0_2 m c t)) (k0_pay4 (grid0.coords t) (X0_1 m c t) (X0_2 m c t) (X0_3 m c t) (X0_4 m c t))
    (k0_pay5 (grid0.coords t) (X0_1 m c t) (X0_2 m c t) (X0_3 m c t) (X0_4 m c t)) (tap m c t 0 inb_S8x1024_S1x1024_0_0) (tap m c t 1 inb_S8x1024_S1x1024_1_0)
    (tap m c t 2 inb_S8x1024_S1x1024_2_0) (X0_0 m c t)
abbrev YC : FVec Ideal S512x1024 .f32 :=
  k0_pay7 (F := Ideal) (k0_pay1 (X0_1 m c t) (X0_2 m c t)) (k0_pay4 (grid0.coords t) (X0_1 m c t) (X0_2 m c t) (X0_3 m c t) (X0_4 m c t))
    (k0_pay5 (grid0.coords t) (X0_1 m c t) (X0_2 m c t) (X0_3 m c t) (X0_4 m c t)) (tap m c t 0 inb_S8x1024_S1x1024_0_0) (tap m c t 1 inb_S8x1024_S1x1024_1_0)
    (tap m c t 2 inb_S8x1024_S1x1024_2_0) (X0_0 m c t) (iblk m c 10 t)
abbrev YA : FVec Ideal S512x1024 .f32 := k0_pay8 (F := Ideal) (iblk m c 9 t) (iblk m c 11 t)
abbrev MG : FVec Ideal S512x1024 .bf16 := k0_pay12 (F := Ideal) (YC m c t) (YA m c t) (k0_pay11 (iblk m c 5 t) (iblk m c 6 t)) (iblk m c 7 t) (iblk m c 8 t)
abbrev OP : FVec Ideal S512x1024 .f32 := k0_pay13 (F := Ideal) (YC m c t) (YA m c t) (k0_pay11 (iblk m c 5 t) (iblk m c 6 t)) (iblk m c 7 t) (iblk m c 8 t) (iblk m c 12 t)

def gcv : Fin 8192 → Fin 1024 → EReal := gated (argP m c) (argT m c)
def ycv : Fin 8192 → Fin 1024 → EReal := yconv (argP m c) (argWc m c) (argT m c)
def yav : Fin 8192 → Fin 1024 → EReal := yattn (argA m c) (argWa m c)
def mgv : Fin 8192 → Fin 1024 → EReal := merged (argP m c) (argA m c) (argWc m c) (argWa m c) (argT m c)
def opv : Fin 8192 → Fin 1024 → EReal := oproj (argP m c) (argA m c) (argWc m c) (argWa m c) (argWo m c) (argT m c)
def xov : Fin 8192 → Fin 1024 → EReal := resid (argP m c) (argA m c) (argWc m c) (argWa m c) (argWo m c) (argT m c) (argX m c) (argG m c)

theorem gc_tile (r : Fin 512) (d : Fin 1024) : GC m c t (ix2 r d) = gcv m c (row t r) d := by
  refine (gc_at _ _ _ _ _ _ _ r d).trans ?_
  rw [bg_at, t0_tile, t1_tile, t2_tile]
  have e0 := tap_at m c t 0 inb_S8x1024_S1x1024_0_0 d
  have e1 := tap_at m c t 1 inb_S8x1024_S1x1024_1_0 d
  have e2 := tap_at m c t 2 inb_S8x1024_S1x1024_2_0 d
  exact congrArg _ (congrArg₂ (· + ·) (congrArg₂ (· + ·) (congrArg (· * _) e0) (congrArg (· * _) e1)) (congrArg (· * _) e2))
theorem yc_tile (r : Fin 512) (j : Fin 1024) : YC m c t (ix2 r j) = ycv m c (row t r) j :=
  (yc_at _ _ _ _ _ _ _ _ r j).trans (Finset.sum_congr rfl fun d _ => congrArg₂ (· * ·) (gc_tile m c t r d) (wc_at m c t d j))
theorem ya_tile (r : Fin 512) (j : Fin 1024) : YA m c t (ix2 r j) = yav m c (row t r) j := by
  unfold yav yattn
  refine (ya_at _ _ r j).trans (Finset.sum_congr rfl fun d _ => ?_)
  rw [attn_at, wa_at]
theorem zc_tile (r : Fin 512) (j : Fin 1024) : halves (iblk m c 5 t) (iblk m c 6 t) r j = argP m c (ix2 (row t r) ⟨4608 + j.val, by omega⟩) := by
  rw [halves]
  by_cases h : j.val < 512
  · rw [dif_pos h, z5_at]
  · rw [dif_neg h, z6_at]
    simp only [show 5120 + (j.val - 512) = 4608 + j.val by omega]
theorem za_tile (r : Fin 512) (j : Fin 1024) : halves (iblk m c 7 t) (iblk m c 8 t) r j = argP m c (ix2 (row t r) ⟨5632 + j.val, by omega⟩) := by
  rw [halves]
  by_cases h : j.val < 512
  · rw [dif_pos h, z7_at]
  · rw [dif_neg h, z8_at]
    simp only [show 6144 + (j.val - 512) = 5632 + j.val by omega]
theorem mg_tile (r : Fin 512) (j : Fin 1024) : MG m c t (ix2 r j) = mgv m c (row t r) j := by
  refine (mg_at _ _ _ _ _ _ r j).trans ?_
  rw [zc_tile, za_tile, yc_tile, ya_tile]
  rfl
theorem op_tile (r : Fin 512) (j : Fin 1024) : OP m c t (ix2 r j) = opv m c (row t r) j :=
  (o_at _ _ _ _ _ _ r j).trans (Finset.sum_congr rfl fun d _ => congrArg₂ (· * ·) (mg_tile m c t r d) (wo_at m c t d j))

theorem at_congr (f : Fin 8192 → Fin 1024 → EReal) {q q' : Fin 8192} {j j' : Fin 1024} (hq : q.val = q'.val) (hj : j.val = j'.val) : f q j = f q' j' := by
  obtain rfl := Fin.ext hq
  obtain rfl := Fin.ext hj
  rfl

theorem out16_at (r : Fin 512) (j : Fin 1024) : (dats m 0 c).after 16 t (ix2 r j) = xov m c (row t r) j := by
  rw [after0_16]
  unfold outsAt0
  frame_out
  refine (pay15_at _ _ _ _ _ _ _ _ r j).trans ?_
  exact congrArg₂ (· + ·) (x_at m c t r j) (congrArg₂ (· * ·) (gt_at m c t j) (op_tile m c t r j))
theorem out17_at (r : Fin 512) (j : Fin 1024) : (dats m 0 c).after 17 t (ix2 r j) = gcv m c (row t r) j := by
  rw [after0_17]
  unfold outsAt0
  frame_out
  exact gc_tile m c t r j
theorem out18_at (r : Fin 512) (j : Fin 1024) : (dats m 0 c).after 18 t (ix2 r j) = ycv m c (row t r) j := by
  rw [after0_18]
  unfold outsAt0
  frame_out
  exact (pay9_at _ _ _ _ _ _ _ _ r j).trans (yc_tile m c t r j)
theorem out19_at (r : Fin 512) (j : Fin 1024) : (dats m 0 c).after 19 t (ix2 r j) = yav m c (row t r) j := by
  rw [after0_19]
  unfold outsAt0
  frame_out
  exact (pay10_at _ _ r j).trans (ya_tile m c t r j)
theorem out20_at (r : Fin 512) (j : Fin 1024) : (dats m 0 c).after 20 t (ix2 r j) = mgv m c (row t r) j := by
  rw [after0_20]
  unfold outsAt0
  frame_out
  exact mg_tile m c t r j
theorem out21_at (r : Fin 512) (j : Fin 1024) : (dats m 0 c).after 21 t (ix2 r j) = opv m c (row t r) j := by
  rw [after0_21]
  unfold outsAt0
  frame_out
  exact (pay14_at _ _ _ _ _ _ r j).trans (op_tile m c t r j)

theorem final16 : (dats m 0 c).arrAt 16 cfg0.N = fun i => xov m c (i 0) (i 1) :=
  (dats m 0 c).arrAt_eq_of_covers 16 _ (by decide +kernel) (fun t hf y => by
    idx_vars y
    refine (out16_at m c t y0 y1).trans (at_congr _ ?_ ?_)
    · refine Eq.trans (b := 512 * t.val + y0.val) rfl ?_
      blk_simp [idx t]
      omega
    · blk_simp [idx t])
theorem final17 : (dats m 0 c).arrAt 17 cfg0.N = fun i => gcv m c (i 0) (i 1) :=
  (dats m 0 c).arrAt_eq_of_covers 17 _ (by decide +kernel) (fun t hf y => by
    idx_vars y
    refine (out17_at m c t y0 y1).trans (at_congr _ ?_ ?_)
    · refine Eq.trans (b := 512 * t.val + y0.val) rfl ?_
      blk_simp [idx t]
      omega
    · blk_simp [idx t])
theorem final18 : (dats m 0 c).arrAt 18 cfg0.N = fun i => ycv m c (i 0) (i 1) :=
  (dats m 0 c).arrAt_eq_of_covers 18 _ (by decide +kernel) (fun t hf y => by
    idx_vars y
    refine (out18_at m c t y0 y1).trans (at_congr _ ?_ ?_)
    · refine Eq.trans (b := 512 * t.val + y0.val) rfl ?_
      blk_simp [idx t]
      omega
    · blk_simp [idx t])
theorem final19 : (dats m 0 c).arrAt 19 cfg0.N = fun i => yav m c (i 0) (i 1) :=
  (dats m 0 c).arrAt_eq_of_covers 19 _ (by decide +kernel) (fun t hf y => by
    idx_vars y
    refine (out19_at m c t y0 y1).trans (at_congr _ ?_ ?_)
    · refine Eq.trans (b := 512 * t.val + y0.val) rfl ?_
      blk_simp [idx t]
      omega
    · blk_simp [idx t])
theorem final20 : (dats m 0 c).arrAt 20 cfg0.N = fun i => mgv m c (i 0) (i 1) :=
  (dats m 0 c).arrAt_eq_of_covers 20 _ (by decide +kernel) (fun t hf y => by
    idx_vars y
    refine (out20_at m c t y0 y1).trans (at_congr _ ?_ ?_)
    · refine Eq.trans (b := 512 * t.val + y0.val) rfl ?_
      blk_simp [idx t]
      omega
    · blk_simp [idx t])
theorem final21 : (dats m 0 c).arrAt 21 cfg0.N = fun i => opv m c (i 0) (i 1) :=
  (dats m 0 c).arrAt_eq_of_covers 21 _ (by decide +kernel) (fun t hf y => by
    idx_vars y
    refine (out21_at m c t y0 y1).trans (at_congr _ ?_ ?_)
    · refine Eq.trans (b := 512 * t.val + y0.val) rfl ?_
      blk_simp [idx t]
      omega
    · blk_simp [idx t])

end Cert.KernelMidIdeal.Value

end
-- ==== Proof.Mid.Reference.lean ====
module

public import Idealize.ShloMosaic.Lib.WritesUnit
public import Idealize.ShloMosaic.Lib.Pointwise
public import Idealize.ShloMosaic.Lib.Pipeline.ValueKit
public import proofs.«01_k».proof.Proof.Mid.Final
public import proofs.«01_k».proof.Proof.Gen.ReferenceMidIdeal.Read
public import proofs.«01_k».proof.Proof.Gen.ReferenceMidIdeal.Run

@[expose] public section

set_option maxRecDepth 16384

noncomputable section

namespace Cert.KernelMidIdeal.Value

open Cert.KernelMidIdeal Cert.KernelMidIdeal.Gen Idealize.ShloMosaic Idealize.ShloMosaic.TcCoe Idealize.SL.Sem
open Idealize.ShloMosaic.Pipeline (Dat)

open Cert.Norm
open Cert.KernelConvIdeal.Value (past conv)

open Cert.ReferenceMidIdeal.Read

variable (x0 : FVec Ideal S8192x6656 .bf16) (x1 : FVec Ideal S8192x1024 .bf16) (x2 x3 x4 : FVec Ideal S1024x1024 .f32) (x5 : FVec Ideal S3x1024 .f32)
  (x6 : FVec Ideal S1x8192x1024 .f32) (x7 : FVec Ideal S1x1024 .f32) (s : Fin 8192) (j : Fin 1024)

/-- An array of rows, position by position. -/
theorem by_rows {e : FTy} (f : FVec Ideal S8192x1024 e) (g : Fin 8192 → Fin 1024 → EReal) (h : ∀ s j, f (ix2 s j) = g s j) : f = fun i => g (i 0) (i 1) := by
  funext i
  refine Eq.trans (congrArg f ?_) (h (i 0) (i 1))
  funext a
  fin_cases a <;> rfl

theorem v10_at : val_main_v10 (F := Ideal) x0 (ix3 0 s j) = past x0 2 s j := by
  pointwise [val_main_v10, val_main_v9, val_main_v8, val_main_cst, val_main_v7, val_main_v3, val_main_v4, val_main_v1, val_main_v0]
  by_cases h : s.val < 2
  · rw [dif_pos h, past, dif_neg (by omega)]
  · rw [dif_neg h, past, dif_pos (by omega)]
theorem v16_at : val_main_v16 (F := Ideal) x0 (ix3 0 s j) = past x0 1 s j := by
  pointwise [val_main_v16, val_main_v9, val_main_v8, val_main_cst, val_main_v7, val_main_v3, val_main_v4, val_main_v1, val_main_v0]
  have e : 1 + s.val - 2 = s.val - 1 := by omega
  by_cases h : 1 + s.val < 2
  · rw [dif_pos h, past, dif_neg (by omega)]
  · rw [dif_neg h, past, dif_pos (by omega)]
    simp only [e]
theorem v23_at : val_main_v23 (F := Ideal) x0 (ix3 0 s j) = past x0 0 s j := by
  pointwise [val_main_v23, val_main_v9, val_main_v8, val_main_cst, val_main_v7, val_main_v3, val_main_v4, val_main_v1, val_main_v0]
  rw [past, dif_pos (by omega)]
  rfl
theorem v29_at : val_main_v29 (F := Ideal) x0 x5 (ix3 0 s j) = conv x0 x5 s j := by
  rw [conv, ← v10_at, ← v16_at, ← v23_at]
  pointwise [val_main_v29, val_main_v22, val_main_v28, val_main_v15, val_main_v21, val_main_v14, val_main_v20, val_main_v27, val_main_v13, val_main_v19, val_main_v26,
    val_main_v12, val_main_v18, val_main_v25, val_main_v11, val_main_v17, val_main_v24]
  simp only [mul_comm (x5 _)]
theorem v30_at : val_main_v30 (F := Ideal) x0 x5 (ix3 0 s j) = gated x0 x5 s j := by
  pointwise [val_main_v30, v29_at, val_main_v2, val_main_v1, val_main_v0]
  rfl
theorem v31_at : val_main_v31 (F := Ideal) x0 x2 x5 (ix3 0 s j) = yconv x0 x2 x5 s j := by
  pointwise [val_main_v31, v30_at]
  rfl
theorem v34_at : val_main_v34 (F := Ideal) x1 x3 (ix3 0 s j) = yattn x1 x3 s j := by
  pointwise [val_main_v34, val_main_v33, val_main_v32]
  rfl
theorem v49_at : val_main_v49 (F := Ideal) x0 x1 x2 x3 x5 (ix3 0 s j) = merged x0 x1 x2 x3 x5 s j := by
  have e (v : EReal) : Ideal.div 1 (1 + Ideal.exp (-v)) = sg v := (Cert.KernelFdnIdeal.Value.sg_all v).symm
  pointwise [val_main_v49, val_main_v48, val_main_v47, val_main_v46, val_main_v45, val_main_v44, val_main_v43, val_main_v42, val_main_v41, val_main_v40, val_main_v39, val_main_v38, val_main_v37,
    val_main_v36, val_main_v35, val_main_cst_0, val_main_cst_1, val_main_cst_2, val_main_cst_3, val_main_v5, val_main_v6, val_main_v1, val_main_v0, v31_at, v34_at]
  simp only [e]
  rfl
theorem v50_at : val_main_v50 (F := Ideal) x0 x1 x2 x3 x4 x5 (ix3 0 s j) = oproj x0 x1 x2 x3 x4 x5 s j := by
  pointwise [val_main_v50, v49_at]
  rfl
theorem v55_at : val_main_v55 (F := Ideal) x0 x1 x2 x3 x4 x5 x6 x7 (ix2 s j) = resid x0 x1 x2 x3 x4 x5 x6 x7 s j := by
  pointwise [val_main_v55, val_main_v54, val_main_v53, val_main_v52, val_main_v51, v50_at]
  rfl
theorem v57_at : val_main_v57 (F := Ideal) x0 x5 (ix2 s j) = gated x0 x5 s j := by
  pointwise [val_main_v57, val_main_v56, v30_at]
theorem v59_at : val_main_v59 (F := Ideal) x0 x2 x5 (ix2 s j) = yconv x0 x2 x5 s j := by
  pointwise [val_main_v59, val_main_v58, v31_at]
theorem v61_at : val_main_v61 (F := Ideal) x1 x3 (ix2 s j) = yattn x1 x3 s j := by
  pointwise [val_main_v61, val_main_v60, v34_at]
theorem v63_at : val_main_v63 (F := Ideal) x0 x1 x2 x3 x5 (ix2 s j) = merged x0 x1 x2 x3 x5 s j := by
  pointwise [val_main_v63, val_main_v62, v49_at]
theorem v65_at : val_main_v65 (F := Ideal) x0 x1 x2 x3 x4 x5 (ix2 s j) = oproj x0 x1 x2 x3 x4 x5 s j := by
  pointwise [val_main_v65, val_main_v64, v50_at]

end Cert.KernelMidIdeal.Value

end
-- ==== Proof.Mix.Final.lean ====
module

public import Idealize.ShloMosaic.Lib.WritesUnit
public import Idealize.ShloMosaic.Lib.Pointwise
public import Idealize.ShloMosaic.Lib.Pipeline.ValueKit
public import proofs.«01_k».proof.Proof.Norm.Row
public import proofs.«01_k».proof.Proof.Gen.KernelMixIdeal.Value

@[expose] public section

set_option maxRecDepth 16384

noncomputable section

namespace Cert.KernelMixIdeal.Value

open Cert.KernelMixIdeal Cert.KernelMixIdeal.Gen Idealize.ShloMosaic Idealize.ShloMosaic.TcCoe Idealize.SL.Sem
open Idealize.ShloMosaic.Pipeline (Dat)

open Cert.Norm

/-- A row of a tile, a vector, a chunk of the product. -/
def brow (v : FVec Ideal S512x1024 .f32) (r : Fin 512) (k : Fin 1024) : EReal := v (ix2 r k)
def bvec (v : FVec Ideal S1x1024 .f32) (k : Fin 1024) : EReal := v (ix2 0 k)
def upc (H w : FVec Ideal S512x1024 .bf16) (r q : Fin 512) : EReal := ∑ k, H (ix2 r k) * w (ix2 q k)

section
variable (x : FVec Ideal S512x1024 .f32) (g sc sh : FVec Ideal S1x1024 .f32) (H w : FVec Ideal S512x1024 .bf16) (r q : Fin 512)

theorem pay3_at (j : Fin 1024) : k0_pay3 (F := Ideal) x g sc sh (ix2 r j) = brow x r j * rr (brow x r) * bvec g j * (1 + bvec sc j) + bvec sh j := by
  pointwise [k0_pay3]
  rfl
theorem pay4_at : k0_pay4 (F := Ideal) x g sc sh w (ix2 r q) = upc (k0_pay3 x g sc sh) w r q := by
  pointwise [k0_pay4]
  rfl
theorem pay5_at : k0_pay5 (F := Ideal) x g sc sh w (ix2 r q) = upc (k0_pay3 x g sc sh) w r q := by
  pointwise [k0_pay5]
  rfl
theorem pay6_at : k0_pay6 (F := Ideal) H w (ix2 r q) = upc H w r q := by
  pointwise [k0_pay6]
  rfl
theorem pay7_at : k0_pay7 (F := Ideal) H w (ix2 r q) = upc H w r q := by
  pointwise [k0_pay7]
  rfl
theorem pay8_at : k0_pay8 (F := Ideal) H w (ix2 r q) = upc H w r q := by
  pointwise [k0_pay8]
  rfl
theorem pay9_at : k0_pay9 (F := Ideal) H w (ix2 r q) = upc H w r q := by
  pointwise [k0_pay9]
  rfl
theorem pay10_at : k0_pay10 (F := Ideal) H w (ix2 r q) = upc H w r q := by
  pointwise [k0_pay10]
  rfl
theorem pay11_at : k0_pay11 (F := Ideal) H w (ix2 r q) = upc H w r q := by
  pointwise [k0_pay11]
  rfl
theorem pay12_at : k0_pay12 (F := Ideal) H w (ix2 r q) = upc H w r q := by
  pointwise [k0_pay12]
  rfl
theorem pay99_at : k0_pay99 (F := Ideal) H w (ix2 r q) = upc H w r q := by
  pointwise [k0_pay99]
  rfl
theorem pay98_at : k0_pay98 (F := Ideal) H w (ix2 r q) = upc H w r q := by
  pointwise [k0_pay98]
  rfl
theorem pay1_at : k0_pay1 (F := Ideal) H w (ix2 r q) = upc H w r q := by
  pointwise [k0_pay1]
  rfl
theorem pay2_at : k0_pay2 (F := Ideal) H w (ix2 r q) = upc H w r q := by
  pointwise [k0_pay2]
  rfl
end

/-- The grid runs along the rows: which block of its array every window moves at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_10.index t = ![t.val, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

variable (m : (ℓ : Loc nD τ sig) → Buf (Elt Ideal) ℓ) (c : Dev nD) (t : Fin cfg0.N)

/-- The arguments as launched. -/
abbrev argX : FVec Ideal S1x8192x1024 .f32 := m ((c : Thread nD τ).loc main_arg0)
abbrev argG : FVec Ideal S1024 .f32 := m ((c : Thread nD τ).loc main_arg1)
abbrev argSh : FVec Ideal S1x1024 .f32 := m ((c : Thread nD τ).loc main_arg2)
abbrev argSc : FVec Ideal S1x1024 .f32 := m ((c : Thread nD τ).loc main_arg3)
abbrev argW : FVec Ideal S1024x6656 .f32 := m ((c : Thread nD τ).loc main_arg4)

theorem entry_x : V m c main_v8 = shapeCast S8192x1024 (argX m c) shapeCasts_S1x8192x1024_S8192x1024 := by
  simp only [V, hostOps0]
  entry_read
  rfl
theorem entry_g : V m c main_v9 = broadcastInDim S1x1024 ![1] bcast_S1024_S1x1024_1 (argG m c) := by
  simp only [V, hostOps0]
  entry_read
  rfl
theorem entry_w : V m c main_v11 = truncf (F := Ideal) .bf16 (transpose S6656x1024 [1, 0] (argW m c) transposes_S1024x6656_S6656x1024_1_0) bitsLt_bf16_f32 := by
  simp only [V, hostOps0]
  entry_read
  rfl

def xs (X : FVec Ideal S1x8192x1024 .f32) (s : Fin 8192) (k : Fin 1024) : EReal := X (ix3 0 s k)

theorem x_at (r : Fin 512) : brow (iblk m c 0 t) r = xs (argX m c) (row t r) := by
  funext k
  refine Eq.trans (b := V m c main_v8 (ix2 (row t r) k)) ?_ ?_
  · unfold brow
    blk_point [iblk, idx t, row]
  · rw [entry_x]
    pointwise []
    rfl
theorem g_at (k : Fin 1024) : bvec (iblk m c 1 t) k = argG m c (ix1 k) := by
  refine Eq.trans (b := V m c main_v9 (ix2 0 k)) ?_ ?_
  · unfold bvec
    blk_point [iblk, idx t]
  · rw [entry_g]
    pointwise []
theorem sc_at : bvec (iblk m c 2 t) = bvec (argSc m c) := by
  funext k
  unfold bvec
  blk_point [iblk, V, idx t]
theorem sh_at : bvec (iblk m c 3 t) = bvec (argSh m c) := by
  funext k
  unfold bvec
  blk_point [iblk, V, idx t]
theorem w_at (i : Fin 6656) (k : Fin 1024) : iblk m c 4 t (ix2 i k) = argW m c (ix2 k i) := by
  refine Eq.trans (b := V m c main_v11 (ix2 i k)) ?_ ?_
  · blk_point [iblk, idx t]
  · rw [entry_w]
    pointwise []

/-- A chunk of the weight, as the body loads it. -/
abbrev wu (o : ℕ) (h : ∀ a, (![o, 0] : Fin 2 → ℕ) a + (![512, 1024] : Fin 2 → ℕ) a ≤ S6656x1024.size a) : FVec Ideal S512x1024 .bf16 :=
  View.ld (Val := Elt Ideal) (S := S6656x1024) (e' := .bf16) (iblk m c 4 t) (Rect.unit ![o, 0] ![512, 1024] h)
theorem wu_at (o : ℕ) (h) (q : Fin 512) (k : Fin 1024) : wu m c t o h (ix2 q k) = argW m c (ix2 k ⟨o + q.val, by have : o + 512 ≤ 6656 := h 0; omega⟩) := by
  refine Eq.trans (congrArg (iblk m c 4 t) ?_) (w_at m c t _ k)
  funext a
  fin_cases a
  · exact Fin.ext (by show o + 1 * q.val = o + q.val; omega)
  · exact Fin.ext (by show 0 + 1 * k.val = k.val; omega)

/-! The modulated norm and its product with the weight, from the arguments. -/

def normed (X : FVec Ideal S1x8192x1024 .f32) (G : FVec Ideal S1024 .f32) (Sh Sc : FVec Ideal S1x1024 .f32) (s : Fin 8192) (k : Fin 1024) : EReal :=
  xs X s k * rr (xs X s) * G (ix1 k) * (1 + bvec Sc k) + bvec Sh k
def up (X : FVec Ideal S1x8192x1024 .f32) (G : FVec Ideal S1024 .f32) (Sh Sc : FVec Ideal S1x1024 .f32) (W : FVec Ideal S1024x6656 .f32) (s : Fin 8192) (i : Fin 6656) : EReal :=
  ∑ k, normed X G Sh Sc s k * W (ix2 k i)
def hs (s : Fin 8192) (k : Fin 1024) : EReal := normed (argX m c) (argG m c) (argSh m c) (argSc m c) s k
def us (s : Fin 8192) (i : Fin 6656) : EReal := up (argX m c) (argG m c) (argSh m c) (argSc m c) (argW m c) s i

abbrev HT : FVec Ideal S512x1024 .bf16 := k0_pay3 (F := Ideal) (iblk m c 0 t) (iblk m c 1 t) (iblk m c 2 t) (iblk m c 3 t)

theorem h_at (r : Fin 512) (k : Fin 1024) : HT m c t (ix2 r k) = hs m c (row t r) k := by
  refine (pay3_at _ _ _ _ r k).trans ?_
  rw [x_at, g_at, sc_at, sh_at]
  rfl
theorem up_at (o : ℕ) (h) (r q : Fin 512) : upc (HT m c t) (wu m c t o h) r q = us m c (row t r) ⟨o + q.val, by have : o + 512 ≤ 6656 := h 0; omega⟩ :=
  Finset.sum_congr rfl fun k _ => congrArg₂ (· * ·) (h_at m c t r k) (wu_at m c t o h q k)

theorem hs_congr {q q' : Fin 8192} {j j' : Fin 1024} (hq : q.val = q'.val) (hj : j.val = j'.val) : hs m c q j = hs m c q' j' := by
  obtain rfl := Fin.ext hq
  obtain rfl := Fin.ext hj
  rfl
theorem us_congr {q q' : Fin 8192} {j j' : Fin 6656} (hq : q.val = q'.val) (hj : j.val = j'.val) : us m c q j = us m c q' j' := by
  obtain rfl := Fin.ext hq
  obtain rfl := Fin.ext hj
  rfl

theorem out7_at (r : Fin 512) (j : Fin 1024) : (dats m 0 c).after 7 t (ix2 r j) = hs m c (row t r) j := by
  rw [after0_7]
  unfold outsAt0
  frame_out
  exact h_at m c t r j
theorem out8_at (y : S512x6656.Idx) : (dats m 0 c).after 8 t y = us m c (row t (y 0)) (y 1) := by
  rw [after0_8]
  unfold outsAt0
  frame_out
  canon_tiles x h
  case piece0 =>
    idx_vars x
    exact ((pay2_at _ _ x0 x1).trans (up_at m c t 6144 inb_S6656x1024_S512x1024_6144_0 x0 x1)).trans (us_congr m c (congrArg (512 * t.val + ·) h0.symm) h1.symm)
  case piece1 =>
    idx_vars x
    exact ((pay1_at _ _ x0 x1).trans (up_at m c t 5632 inb_S6656x1024_S512x1024_5632_0 x0 x1)).trans (us_congr m c (congrArg (512 * t.val + ·) h0.symm) h1.symm)
  case piece2 =>
    idx_vars x
    exact ((pay99_at _ _ x0 x1).trans (up_at m c t 5120 inb_S6656x1024_S512x1024_5120_0 x0 x1)).trans (us_congr m c (congrArg (512 * t.val + ·) h0.symm) h1.symm)
  case piece3 =>
    idx_vars x
    exact ((pay98_at _ _ x0 x1).trans (up_at m c t 4608 inb_S6656x1024_S512x1024_4608_0 x0 x1)).trans (us_congr m c (congrArg (512 * t.val + ·) h0.symm) h1.symm)
  case piece4 =>
    idx_vars x
    exact ((pay12_at _ _ x0 x1).trans (up_at m c t 4096 inb_S6656x1024_S512x1024_4096_0 x0 x1)).trans (us_congr m c (congrArg (512 * t.val + ·) h0.symm) h1.symm)
  case piece5 =>
    idx_vars x
    exact ((pay11_at _ _ x0 x1).trans (up_at m c t 3584 inb_S6656x1024_S512x1024_3584_0 x0 x1)).trans (us_congr m c (congrArg (512 * t.val + ·) h0.symm) h1.symm)
  case piece6 =>
    idx_vars x
    exact ((pay10_at _ _ x0 x1).trans (up_at m c t 3072 inb_S6656x1024_S512x1024_3072_0 x0 x1)).trans (us_congr m c (congrArg (512 * t.val + ·) h0.symm) h1.symm)
  case piece7 =>
    idx_vars x
    exact ((pay9_at _ _ x0 x1).trans (up_at m c t 2560 inb_S6656x1024_S512x1024_2560_0 x0 x1)).trans (us_congr m c (congrArg (512 * t.val + ·) h0.symm) h1.symm)
  case piece8 =>
    idx_vars x
    exact ((pay8_at _ _ x0 x1).trans (up_at m c t 2048 inb_S6656x1024_S512x1024_2048_0 x0 x1)).trans (us_congr m c (congrArg (512 * t.val + ·) h0.symm) h1.symm)
  case piece9 =>
    idx_vars x
    exact ((pay7_at _ _ x0 x1).trans (up_at m c t 1536 inb_S6656x1024_S512x1024_1536_0 x0 x1)).trans (us_congr m c (congrArg (512 * t.val + ·) h0.symm) h1.symm)
  case piece10 =>
    idx_vars x
    exact ((pay6_at _ _ x0 x1).trans (up_at m c t 1024 inb_S6656x1024_S512x1024_1024_0 x0 x1)).trans (us_congr m c (congrArg (512 * t.val + ·) h0.symm) h1.symm)
  case piece11 =>
    idx_vars x
    exact ((pay5_at _ _ _ _ _ x0 x1).trans (up_at m c t 512 inb_S6656x1024_S512x1024_512_0 x0 x1)).trans (us_congr m c (congrArg (512 * t.val + ·) h0.symm) h1.symm)
  case piece12 =>
    idx_vars x
    exact ((pay4_at _ _ _ _ _ x0 x1).trans (up_at m c t 0 inb_S6656x1024_S512x1024_0_0 x0 x1)).trans (us_congr m c (congrArg (512 * t.val + ·) h0.symm) ((Nat.zero_add _).trans h1.symm))

theorem final7 : (dats m 0 c).arrAt 7 cfg0.N = fun i => hs m c (i 0) (i 1) :=
  (dats m 0 c).arrAt_eq_of_covers 7 _ (by decide +kernel) (fun t hf y => by
    idx_vars y
    refine (out7_at m c t y0 y1).trans (hs_congr m c ?_ ?_)
    · refine Eq.trans (b := 512 * t.val + y0.val) rfl ?_
      blk_simp [idx t]
      omega
    · blk_simp [idx t])
theorem final8 : (dats m 0 c).arrAt 8 cfg0.N = fun i => us m c (i 0) (i 1) :=
  (dats m 0 c).arrAt_eq_of_covers 8 _ (by decide +kernel) (fun t hf y => by
    refine (out8_at m c t _).trans (us_congr m c ?_ ?_)
    · refine Eq.trans (b := 512 * t.val + (y 0).val) rfl ?_
      blk_simp [idx t]
      omega
    · blk_simp [idx t])

end Cert.KernelMixIdeal.Value

end
-- ==== Proof.Mix.Keys.lean ====
module

public import proofs.«01_k».proof.Proof.Mix.Final

@[expose] public section

set_option maxRecDepth 16384

noncomputable section

namespace Cert.KernelMixIdeal.Value

open Cert.KernelMixIdeal Cert.KernelMixIdeal.Gen Idealize.ShloMosaic Idealize.ShloMosaic.TcCoe Idealize.SL.Sem
open Idealize.ShloMosaic.Pipeline (Dat)

open Cert.Norm

/-- The lane a lane is paired with: the other half of its head's sixty-four. -/
def pair (l : Fin 128) : Fin 128 := if l.val % 64 < 32 then ⟨(l.val + 32) % 128, Nat.mod_lt _ (by omega)⟩ else ⟨(l.val + 96) % 128, Nat.mod_lt _ (by omega)⟩

/-- A lane of two heads turned: the lane by the cosine, its pair by the signed sine. -/
def turned (k c s : FVec Ideal S128x128 .f32) (r l : Fin 128) : EReal := k (ix2 r l) * c (ix2 r l) + k (ix2 r (pair l)) * s (ix2 r l)

def half (a b : Fin 128 → EReal) (j : Fin 256) : EReal := if h : j.val < 128 then a ⟨j.val, h⟩ else b ⟨j.val - 128, by omega⟩

theorem mask_at (r l : Fin 128) : k0_pay13 (ix2 r l) = if l.val % 64 < 32 then 1#1 else 0#1 := by
  pointwise [k0_pay13]
  clear r
  revert l
  decide +kernel

theorem turn_at (k c s : FVec Ideal S128x128 .f32) (r l : Fin 128) :
    k (ix2 r l) * c (ix2 r l) + Scalar.select (k0_pay13 (ix2 r l)) (k (ix2 r ⟨(l.val + 128 - 96) % 128, Nat.mod_lt _ (by omega)⟩))
      (k (ix2 r ⟨(l.val + 128 - 32) % 128, Nat.mod_lt _ (by omega)⟩)) * s (ix2 r l) = turned k c s r l := by
  rw [mask_at]
  unfold turned pair
  by_cases h : l.val % 64 < 32
  · simp only [if_pos h, show l.val + 128 - 96 = l.val + 32 by omega]
    rfl
  · simp only [if_neg h, show l.val + 128 - 32 = l.val + 96 by omega]
    rfl

section
variable (k k' c s : FVec Ideal S128x128 .f32) (r : Fin 128) (j : Fin 256)
theorem pay38_at : k0_pay38 (F := Ideal) k0_pay13 c (k0_pay16 s) (k0_pay36 c k) (k0_pay37 k0_pay13 (k0_pay16 s) k) k' (ix2 r j) = half (turned k c s r) (turned k' c s r) j := by
  pointwise [k0_pay38, k0_pay36, k0_pay37, k0_pay35, k0_pay16]
  unfold half
  by_cases h : j.val < 128
  · simp only [dif_pos h]
    exact turn_at k c s r _
  · simp only [dif_neg h]
    exact turn_at k' c s r _
theorem pay56_at : k0_pay56 (F := Ideal) k0_pay13 c (k0_pay39 s) k k' (ix2 r j) = half (turned k c s r) (turned k' c s r) j := by
  pointwise [k0_pay56, k0_pay39]
  unfold half
  by_cases h : j.val < 128
  · simp only [dif_pos h]
    exact turn_at k c s r _
  · simp only [dif_neg h]
    exact turn_at k' c s r _
theorem pay76_at : k0_pay76 (F := Ideal) k0_pay13 c (k0_pay57 s) (k0_pay74 k0_pay13 c (k0_pay57 s) k) (k0_pay75 k') (ix2 r j) = half (turned k c s r) (turned k' c s r) j := by
  pointwise [k0_pay76, k0_pay74, k0_pay75, k0_pay57]
  unfold half
  by_cases h : j.val < 128
  · simp only [dif_pos h]
    exact turn_at k c s r _
  · simp only [dif_neg h]
    exact turn_at k' c s r _
theorem pay97_at : k0_pay97 (F := Ideal) k0_pay13 c (k0_pay77 s) k k' (ix2 r j) = half (turned k c s r) (turned k' c s r) j := by
  pointwise [k0_pay97, k0_pay77]
  unfold half
  by_cases h : j.val < 128
  · simp only [dif_pos h]
    exact turn_at k c s r _
  · simp only [dif_neg h]
    exact turn_at k' c s r _
end

/-- A load inside the last chunk stored, `o` columns from its left. -/
abbrev kc {sig : RefSig} {κ : Kind} {sp : Space} (v : View sig κ sp S512x6656 .bf16) (w : FVec Ideal S512x512 .bf16) (L : List (View.Piece (Elt Ideal) S512x6656 .bf16)) (b o : ℕ)
    (hi : ∀ a, (![0, 4096] : Fin 2 → ℕ) a + (![512, 512] : Fin 2 → ℕ) a ≤ S512x6656.size a)
    (hb : ∀ a, (![b, o] : Fin 2 → ℕ) a + (![128, 128] : Fin 2 → ℕ) a ≤ S512x6656.size a) : FVec Ideal S128x128 .bf16 :=
  v.readCov ((⟨Rect.unit (s := S512x6656) ![0, 4096] ![512, 512] hi, w⟩ : View.Piece (Elt Ideal) S512x6656 .bf16) :: L) (Rect.unit (s := S512x6656) ![b, o] ![128, 128] hb).toLoadRect
theorem kc_at {sig : RefSig} {κ : Kind} {sp : Space} (v : View sig κ sp S512x6656 .bf16) (w : FVec Ideal S512x512 .bf16) (L) (b o : ℕ) (hi hb) (d : ℕ) (hd : d + 128 ≤ 512) (ho : o = 4096 + d) (r l : Fin 128) :
    kc v w L b o hi hb (ix2 r l) = w (ix2 ⟨b + r.val, by have : b + 128 ≤ 512 := hb 0; omega⟩ ⟨d + l.val, by omega⟩) := by
  subst ho
  refine (congrFun (View.readCov_eq_canon' v _ _) _).trans ?_
  refine Eq.trans (congrArg (View.canon _) ?_) (View.canon_cons_emb (Rect.unit (s := S512x6656) ![0, 4096] ![512, 512] hi) w L (ix2 ⟨b + r.val, by have : b + 128 ≤ 512 := hb 0; omega⟩ ⟨d + l.val, by omega⟩))
  funext a
  fin_cases a
  · exact Fin.ext (by show b + 1 * r.val = 0 + 1 * (b + r.val); omega)
  · exact Fin.ext (by show 4096 + d + 1 * l.val = 4096 + 1 * (d + l.val); omega)

variable (m : (ℓ : Loc nD τ sig) → Buf (Elt Ideal) ℓ) (c : Dev nD) (t : Fin cfg0.N)

abbrev argC : FVec Ideal S8192x32 .f32 := m ((c : Thread nD τ).loc main_arg5)
abbrev argS : FVec Ideal S8192x32 .f32 := m ((c : Thread nD τ).loc main_arg6)

theorem entry_c : V m c main_v2 = shapeCast S8192x128 (broadcastInDim S1x8192x4x32 ![0, 1, 2, 3] bcast_S1x8192x1x32_S1x8192x4x32_0_1_2_3
    (shapeCast S1x8192x1x32 (argC m c) shapeCasts_S8192x32_S1x8192x1x32)) shapeCasts_S1x8192x4x32_S8192x128 := by
  simp only [V, hostOps0]
  entry_read
  rfl
theorem entry_s : V m c main_v7 = shapeCast S8192x128 (broadcastInDim S1x8192x2x64 ![0, 1, 2, 3] bcast_S1x8192x1x64_S1x8192x2x64_0_1_2_3
    (shapeCast S1x8192x1x64 (concatenate S8192x64 1 [⟨S8192x32, Host.negf (F := Ideal) (argS m c)⟩, ⟨S8192x32, argS m c⟩] concatenates_S8192x32_S8192x32_S8192x64_d1)
      shapeCasts_S8192x64_S1x8192x1x64)) shapeCasts_S1x8192x2x64_S8192x128 := by
  simp only [V, hostOps0]
  entry_read
  rfl

theorem c_at (r : Fin 512) (l : Fin 128) : iblk m c 5 t (ix2 r l) = argC m c (ix2 (row t r) ⟨l.val % 32, Nat.mod_lt _ (by omega)⟩) := by
  refine Eq.trans (b := V m c main_v2 (ix2 (row t r) l)) ?_ ?_
  · blk_point [iblk, idx t, row]
  · rw [entry_c]
    pointwise []
theorem s_at (r : Fin 512) (l : Fin 128) : iblk m c 6 t (ix2 r l)
    = if l.val % 64 < 32 then -argS m c (ix2 (row t r) ⟨l.val % 32, Nat.mod_lt _ (by omega)⟩) else argS m c (ix2 (row t r) ⟨l.val % 32, Nat.mod_lt _ (by omega)⟩) := by
  refine Eq.trans (b := V m c main_v7 (ix2 (row t r) l)) ?_ ?_
  · blk_point [iblk, idx t, row]
  · rw [entry_s]
    pointwise []
    by_cases h : l.val % 64 < 32
    · simp only [dif_pos h, if_pos h]
      simp only [show l.val % 64 = l.val % 32 by omega]
    · simp only [dif_neg h, if_neg h]
      simp only [show l.val % 64 - 32 = l.val % 32 by omega]

/-- The column a key's column is paired with: the other half of its head's sixty-four. -/
def mate (j : Fin 256) : Fin 256 := if j.val % 64 < 32 then ⟨(j.val + 32) % 256, Nat.mod_lt _ (by omega)⟩ else ⟨(j.val + 224) % 256, Nat.mod_lt _ (by omega)⟩

/-- The keys after the rotary embedding, from a row of the projection. -/
def rope (u : Fin 6656 → EReal) (C S : FVec Ideal S8192x32 .f32) (s : Fin 8192) (j : Fin 256) : EReal :=
  u ⟨4096 + j.val, by omega⟩ * C (ix2 s ⟨j.val % 32, Nat.mod_lt _ (by omega)⟩)
    + u ⟨4096 + (mate j).val, by omega⟩ * (if j.val % 64 < 32 then -S (ix2 s ⟨j.val % 32, Nat.mod_lt _ (by omega)⟩) else S (ix2 s ⟨j.val % 32, Nat.mod_lt _ (by omega)⟩))
def ks (s : Fin 8192) (j : Fin 256) : EReal := rope (us m c s) (argC m c) (argS m c) s j

theorem ks_congr {q q' : Fin 8192} {j j' : Fin 256} (hq : q.val = q'.val) (hj : j.val = j'.val) : ks m c q j = ks m c q' j' := by
  obtain rfl := Fin.ext hq
  obtain rfl := Fin.ext hj
  rfl

/-- A chunk of rows of a table, as the body loads it. -/
abbrev rows (T : FVec Ideal S512x128 .f32) (b : ℕ) (h : ∀ a, (![b, 0] : Fin 2 → ℕ) a + (![128, 128] : Fin 2 → ℕ) a ≤ S512x128.size a) : FVec Ideal S128x128 .f32 :=
  View.ld (Val := Elt Ideal) (S := S512x128) (e' := .f32) T (Rect.unit ![b, 0] ![128, 128] h)
theorem rows_at (T : FVec Ideal S512x128 .f32) (b : ℕ) (h) (r l : Fin 128) : rows T b h (ix2 r l) = T (ix2 ⟨b + r.val, by have : b + 128 ≤ 512 := h 0; omega⟩ l) := by
  refine congrArg T ?_
  funext a
  fin_cases a
  · exact Fin.ext (by show b + 1 * r.val = b + r.val; omega)
  · exact Fin.ext (by show 0 + 1 * l.val = l.val; omega)

abbrev KT : FVec Ideal S512x512 .bf16 := k0_pay12 (F := Ideal) (HT m c t) (wu m c t 4096 inb_S6656x1024_S512x1024_4096_0)

theorem k_at {sig : RefSig} {κ : Kind} {sp : Space} (v : View sig κ sp S512x6656 .bf16) (L) (b o : ℕ) (hi hb) (d : ℕ) (hd : d + 128 ≤ 512) (ho : o = 4096 + d) (r l : Fin 128) (i : Fin 6656) (hi' : i.val = o + l.val) :
    kc v (KT m c t) L b o hi hb (ix2 r l) = us m c (row t ⟨b + r.val, by have : b + 128 ≤ 512 := hb 0; omega⟩) i :=
  ((kc_at v _ L b o hi hb d hd ho r l).trans ((pay12_at _ _ _ _).trans (up_at m c t 4096 inb_S6656x1024_S512x1024_4096_0 _ _))).trans
    (us_congr m c rfl (by show 4096 + (d + l.val) = i.val; omega))

theorem lane_tile {sig : RefSig} {κ : Kind} {sp : Space} (v : View sig κ sp S512x6656 .bf16) (L) (b o : ℕ) (hi hb h) (d : ℕ) (hd : d = 0 ∨ d = 128) (ho : o = 4096 + d) (r l : Fin 128) (j : Fin 256) (hj : j.val = d + l.val) :
    turned (kc v (KT m c t) L b o hi hb) (rows (iblk m c 5 t) b h) (rows (iblk m c 6 t) b h) r l = ks m c (row t ⟨b + r.val, by have : b + 128 ≤ 512 := hb 0; omega⟩) j := by
  unfold turned ks rope
  have hl : l.val < 128 := l.isLt
  have e64 : j.val % 64 = l.val % 64 := by omega
  have e32 : j.val % 32 = l.val % 32 := by omega
  have hp : 4096 + (mate j).val = o + (pair l).val := by
    unfold mate pair
    rw [e64]
    by_cases hh : l.val % 64 < 32
    · simp only [if_pos hh]; omega
    · simp only [if_neg hh]; omega
  rw [rows_at, rows_at, c_at, s_at, k_at m c t v L b o hi hb d (by omega) ho r l ⟨4096 + j.val, by omega⟩ (by show 4096 + j.val = _; omega),
    k_at m c t v L b o hi hb d (by omega) ho r (pair l) ⟨4096 + (mate j).val, by omega⟩ hp]
  simp only [e64, e32]

theorem keys_tile {sig : RefSig} {κ : Kind} {sp : Space} (v : View sig κ sp S512x6656 .bf16) (L) (b : ℕ) (hi hb hb' h) (r : Fin 128) (j : Fin 256) :
    half (turned (kc v (KT m c t) L b 4096 hi hb) (rows (iblk m c 5 t) b h) (rows (iblk m c 6 t) b h) r)
      (turned (kc v (KT m c t) L b 4224 hi hb') (rows (iblk m c 5 t) b h) (rows (iblk m c 6 t) b h) r) j
      = ks m c (row t ⟨b + r.val, by have : b + 128 ≤ 512 := hb 0; omega⟩) j := by
  unfold half
  by_cases hj : j.val < 128
  · rw [dif_pos hj]
    exact lane_tile m c t v L b 4096 hi hb h 0 (Or.inl rfl) rfl r _ j (by show j.val = 0 + j.val; omega)
  · rw [dif_neg hj]
    exact lane_tile m c t v L b 4224 hi hb' h 128 (Or.inr rfl) rfl r _ j (by show j.val = 128 + (j.val - 128); omega)

theorem out10_at (y : S512x256.Idx) : (dats m 0 c).after 10 t y = ks m c (row t (y 0)) (y 1) := by
  rw [after0_10]
  unfold outsAt0
  frame_out
  canon_tiles x h
  case piece0 =>
    idx_vars x
    exact ((pay97_at _ _ _ _ x0 x1).trans (keys_tile m c t _ _ 384 inb_S512x6656_S512x512_0_4096 inb_S512x6656_S128x128_384_4096 inb_S512x6656_S128x128_384_4224 inb_S512x128_S128x128_384_0 x0 x1)).trans
      (ks_congr m c (congrArg (512 * t.val + ·) h0.symm) h1.symm)
  case piece1 =>
    idx_vars x
    exact ((pay76_at _ _ _ _ x0 x1).trans (keys_tile m c t _ _ 256 inb_S512x6656_S512x512_0_4096 inb_S512x6656_S128x128_256_4096 inb_S512x6656_S128x128_256_4224 inb_S512x128_S128x128_256_0 x0 x1)).trans
      (ks_congr m c (congrArg (512 * t.val + ·) h0.symm) h1.symm)
  case piece2 =>
    idx_vars x
    exact ((pay56_at _ _ _ _ x0 x1).trans (keys_tile m c t _ _ 128 inb_S512x6656_S512x512_0_4096 inb_S512x6656_S128x128_128_4096 inb_S512x6656_S128x128_128_4224 inb_S512x128_S128x128_128_0 x0 x1)).trans
      (ks_congr m c (congrArg (512 * t.val + ·) h0.symm) h1.symm)
  case piece3 =>
    idx_vars x
    exact ((pay38_at _ _ _ _ x0 x1).trans (keys_tile m c t _ _ 0 inb_S512x6656_S512x512_0_4096 inb_S512x6656_S128x128_0_4096 inb_S512x6656_S128x128_0_4224 inb_S512x128_S128x128_0_0 x0 x1)).trans
      (ks_congr m c (congrArg (512 * t.val + ·) ((Nat.zero_add _).trans h0.symm)) h1.symm)

theorem final10 : (dats m 0 c).arrAt 10 cfg0.N = fun i => ks m c (i 0) (i 1) :=
  (dats m 0 c).arrAt_eq_of_covers 10 _ (by decide +kernel) (fun t hf y => by
    refine (out10_at m c t _).trans (ks_congr m c ?_ ?_)
    · refine Eq.trans (b := 512 * t.val + (y 0).val) rfl ?_
      blk_simp [idx t]
      omega
    · blk_simp [idx t])

end Cert.KernelMixIdeal.Value

end
-- ==== Proof.Mix.Reference.lean ====
module

public import proofs.«01_k».proof.Proof.Mix.Keys
public import proofs.«01_k».proof.Proof.Gen.ReferenceMixIdeal.Read
public import proofs.«01_k».proof.Proof.Gen.ReferenceMixIdeal.Run

@[expose] public section

set_option maxRecDepth 16384

noncomputable section

namespace Cert.KernelMixIdeal.Value

open Cert.KernelMixIdeal Cert.KernelMixIdeal.Gen Idealize.ShloMosaic Idealize.ShloMosaic.TcCoe Idealize.SL.Sem
open Cert.Norm
open Cert.ReferenceMixIdeal.Read

variable (x0 : FVec Ideal S1x8192x1024 .f32) (x1 : FVec Ideal S1024 .f32) (x2 x3 : FVec Ideal S1x1024 .f32) (x4 : FVec Ideal S1024x6656 .f32) (x5 x6 : FVec Ideal S8192x32 .f32) (s : Fin 8192)

theorem v7_at (z : Fin 1) : val_main_v7 (F := Ideal) x0 (ix3 0 s z) = rr (xs x0 s) := by
  pointwise [val_main_v7, val_main_v6, val_main_v5, val_main_v4, val_main_v3, val_main_v2, val_main_v1, val_main_v0, val_main_cst, val_main_cst_0, val_main_cst_1]
  rfl
theorem v20_at (k : Fin 1024) : val_main_v20 (F := Ideal) x0 x1 x2 x3 (ix3 0 s k) = normed x0 x1 x2 x3 s k := by
  pointwise [val_main_v20, val_main_v19, val_main_v18, val_main_v17, val_main_v16, val_main_v15, val_main_v14, val_main_v13, val_main_v12, val_main_v11, val_main_v10, val_main_v9, val_main_v8, v7_at, val_main_cst_2]
  rfl
theorem v21_at (i : Fin 6656) : val_main_v21 (F := Ideal) x0 x1 x2 x3 x4 (ix3 0 s i) = up x0 x1 x2 x3 x4 s i := by
  pointwise [val_main_v21, v20_at]
  rfl
theorem v25_at (k : Fin 1024) : val_main_v25 (F := Ideal) x0 x1 x2 x3 (ix2 s k) = normed x0 x1 x2 x3 s k := by
  pointwise [val_main_v25, val_main_v24, v20_at]
theorem v27_at (i : Fin 6656) : val_main_v27 (F := Ideal) x0 x1 x2 x3 x4 (ix2 s i) = up x0 x1 x2 x3 x4 s i := by
  pointwise [val_main_v27, val_main_v26, v21_at]
theorem v44_at (j : Fin 256) : val_main_v44 (F := Ideal) x0 x1 x2 x3 x4 x5 x6 (ix2 s j) = rope (up x0 x1 x2 x3 x4 s) x5 x6 s j := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v23, val_main_v22, v21_at]
  unfold rope
  by_cases h : j.val % 64 < 32
  · have e : (mate j).val = j.val / 64 * 64 + (32 + j.val % 64) := by
      unfold mate
      simp only [if_pos h]
      omega
    simp only [dif_pos h]
    simp only [if_pos h, e]
    simp only [show j.val % 64 = j.val % 32 by omega, mul_neg, sub_eq_add_neg]
  · have e : (mate j).val = j.val / 64 * 64 + (j.val % 64 - 32) := by
      unfold mate
      simp only [if_neg h]
      omega
    simp only [dif_neg h]
    simp only [if_neg h, e]
    simp only [show j.val % 64 - 32 = j.val % 32 by omega, show j.val / 64 * 64 + (32 + j.val % 32) = j.val by omega]

end Cert.KernelMixIdeal.Value

end
-- ==== Proof.Ffn.Tile.lean ====
module

public import Idealize.ShloMosaic.Lib.Pointwise
public import proofs.«01_k».proof.Proof.Gate.Gate
public import proofs.«01_k».proof.Proof.Gen.KernelFfnIdeal.Value

@[expose] public section

set_option maxRecDepth 16384

noncomputable section

namespace Cert.KernelFfnIdeal.Value

open Cert.KernelFfnIdeal Cert.KernelFfnIdeal.Gen Idealize.ShloMosaic Idealize.ShloMosaic.TcCoe Idealize.SL.Sem
open Idealize.ShloMosaic.Pipeline (Dat)

open Cert.Norm

/-- A row of a tile. -/
def brow (v : FVec Ideal S512x1024 .f32) (r : Fin 512) (k : Fin 1024) : EReal := v (ix2 r k)
def bvec (v : FVec Ideal S1x1024 .f32) (k : Fin 1024) : EReal := v (ix2 0 k)
/-- One chunk of the up product, and the chunk's share of the down product. -/
def upc (H : FVec Ideal S512x1024 .bf16) (w : FVec Ideal S256x1024 .bf16) (r : Fin 512) (q : Fin 256) : EReal := ∑ k, H (ix2 r k) * w (ix2 q k)
def ck (H : FVec Ideal S512x1024 .bf16) (wa wb wd : FVec Ideal S256x1024 .bf16) (r : Fin 512) (j : Fin 1024) : EReal :=
  ∑ q, sw (upc H wa r q) (upc H wb r q) * wd (ix2 q j)

theorem pay3_at (x : FVec Ideal S512x1024 .f32) (g sc sh : FVec Ideal S1x1024 .f32) (r : Fin 512) (j : Fin 1024) :
    k0_pay3 (F := Ideal) x g sc sh (ix2 r j) = brow x r j * rr (brow x r) * bvec g j * (1 + bvec sc j) + bvec sh j := by
  pointwise [k0_pay3, k0_pay2]
  rfl
theorem pay4_at (x : FVec Ideal S512x1024 .f32) (g sc sh : FVec Ideal S1x1024 .f32) (w : FVec Ideal S256x1024 .bf16) (r : Fin 512) (q : Fin 256) :
    k0_pay4 (F := Ideal) x g sc sh w (ix2 r q) = upc (k0_pay3 x g sc sh) w r q := by
  pointwise [k0_pay4]
  rfl
theorem pay5_at (x : FVec Ideal S512x1024 .f32) (g sc sh : FVec Ideal S1x1024 .f32) (w : FVec Ideal S256x1024 .bf16) (r : Fin 512) (q : Fin 256) :
    k0_pay5 (F := Ideal) x g sc sh w (ix2 r q) = upc (k0_pay3 x g sc sh) w r q := by
  pointwise [k0_pay5]
  rfl
theorem pay7_at (H : FVec Ideal S512x1024 .bf16) (w : FVec Ideal S256x1024 .bf16) (r : Fin 512) (q : Fin 256) :
    k0_pay7 (F := Ideal) H w (ix2 r q) = upc H w r q := by
  pointwise [k0_pay7]
  rfl
theorem pay8_at (H : FVec Ideal S512x1024 .bf16) (w : FVec Ideal S256x1024 .bf16) (r : Fin 512) (q : Fin 256) :
    k0_pay8 (F := Ideal) H w (ix2 r q) = upc H w r q := by
  pointwise [k0_pay8]
  rfl
theorem pay11_at (H : FVec Ideal S512x1024 .bf16) (w : FVec Ideal S256x1024 .bf16) (r : Fin 512) (q : Fin 256) :
    k0_pay11 (F := Ideal) H w (ix2 r q) = upc H w r q := by
  pointwise [k0_pay11]
  rfl
theorem pay12_at (H : FVec Ideal S512x1024 .bf16) (w : FVec Ideal S256x1024 .bf16) (r : Fin 512) (q : Fin 256) :
    k0_pay12 (F := Ideal) H w (ix2 r q) = upc H w r q := by
  pointwise [k0_pay12]
  rfl
theorem pay16_at (H : FVec Ideal S512x1024 .bf16) (w : FVec Ideal S256x1024 .bf16) (r : Fin 512) (q : Fin 256) :
    k0_pay16 (F := Ideal) H w (ix2 r q) = upc H w r q := by
  pointwise [k0_pay16]
  rfl
theorem pay18_at (H : FVec Ideal S512x1024 .bf16) (w : FVec Ideal S256x1024 .bf16) (r : Fin 512) (q : Fin 256) :
    k0_pay18 (F := Ideal) H w (ix2 r q) = upc H w r q := by
  pointwise [k0_pay18]
  rfl
theorem pay19_at (H : FVec Ideal S512x1024 .bf16) (w : FVec Ideal S256x1024 .bf16) (r : Fin 512) (q : Fin 256) :
    k0_pay19 (F := Ideal) H w (ix2 r q) = upc H w r q := by
  pointwise [k0_pay19]
  rfl
theorem pay22_at (H : FVec Ideal S512x1024 .bf16) (w : FVec Ideal S256x1024 .bf16) (r : Fin 512) (q : Fin 256) :
    k0_pay22 (F := Ideal) H w (ix2 r q) = upc H w r q := by
  pointwise [k0_pay22]
  rfl
theorem pay23_at (H : FVec Ideal S512x1024 .bf16) (w : FVec Ideal S256x1024 .bf16) (r : Fin 512) (q : Fin 256) :
    k0_pay23 (F := Ideal) H w (ix2 r q) = upc H w r q := by
  pointwise [k0_pay23]
  rfl
theorem pay25_at (H : FVec Ideal S512x1024 .bf16) (w : FVec Ideal S256x1024 .bf16) (r : Fin 512) (q : Fin 256) :
    k0_pay25 (F := Ideal) H w (ix2 r q) = upc H w r q := by
  pointwise [k0_pay25]
  rfl
theorem pay26_at (H : FVec Ideal S512x1024 .bf16) (w : FVec Ideal S256x1024 .bf16) (r : Fin 512) (q : Fin 256) :
    k0_pay26 (F := Ideal) H w (ix2 r q) = upc H w r q := by
  pointwise [k0_pay26]
  rfl
theorem pay33_at (H : FVec Ideal S512x1024 .bf16) (w : FVec Ideal S256x1024 .bf16) (r : Fin 512) (q : Fin 256) :
    k0_pay33 (F := Ideal) H w (ix2 r q) = upc H w r q := by
  pointwise [k0_pay33]
  rfl
theorem pay34_at (H : FVec Ideal S512x1024 .bf16) (w : FVec Ideal S256x1024 .bf16) (r : Fin 512) (q : Fin 256) :
    k0_pay34 (F := Ideal) H w (ix2 r q) = upc H w r q := by
  pointwise [k0_pay34]
  rfl
theorem pay38_at (H : FVec Ideal S512x1024 .bf16) (w : FVec Ideal S256x1024 .bf16) (r : Fin 512) (q : Fin 256) :
    k0_pay38 (F := Ideal) H w (ix2 r q) = upc H w r q := by
  pointwise [k0_pay38]
  rfl
theorem pay39_at (H : FVec Ideal S512x1024 .bf16) (w : FVec Ideal S256x1024 .bf16) (r : Fin 512) (q : Fin 256) :
    k0_pay39 (F := Ideal) H w (ix2 r q) = upc H w r q := by
  pointwise [k0_pay39]
  rfl
theorem pay41_at (H : FVec Ideal S512x1024 .bf16) (w : FVec Ideal S256x1024 .bf16) (r : Fin 512) (q : Fin 256) :
    k0_pay41 (F := Ideal) H w (ix2 r q) = upc H w r q := by
  pointwise [k0_pay41]
  rfl
theorem pay42_at (H : FVec Ideal S512x1024 .bf16) (w : FVec Ideal S256x1024 .bf16) (r : Fin 512) (q : Fin 256) :
    k0_pay42 (F := Ideal) H w (ix2 r q) = upc H w r q := by
  pointwise [k0_pay42]
  rfl
theorem pay10_at (H : FVec Ideal S512x1024 .bf16) (w : FVec Ideal S256x1024 .bf16) (r : Fin 512) (q : Fin 256) :
    k0_pay10 (F := Ideal) H w (ix2 r q) = upc H w r q := by
  pointwise [k0_pay10, pay8_at]
theorem pay14_at (H : FVec Ideal S512x1024 .bf16) (w : FVec Ideal S256x1024 .bf16) (r : Fin 512) (q : Fin 256) :
    k0_pay14 (F := Ideal) H w (ix2 r q) = upc H w r q := by
  pointwise [k0_pay14]
  rfl
theorem pay28_at (H : FVec Ideal S512x1024 .bf16) (w : FVec Ideal S256x1024 .bf16) (r : Fin 512) (q : Fin 256) :
    k0_pay28 (F := Ideal) H w (ix2 r q) = upc H w r q := by
  pointwise [k0_pay28]
  rfl
theorem pay15_at (H : FVec Ideal S512x1024 .bf16) (w : FVec Ideal S256x1024 .bf16) (r : Fin 512) (q : Fin 256) :
    k0_pay15 (F := Ideal) (k0_pay14 H w) (ix2 r q) = upc H w r q := by
  pointwise [k0_pay15, pay14_at]
theorem pay30_at (H : FVec Ideal S512x1024 .bf16) (w : FVec Ideal S256x1024 .bf16) (r : Fin 512) (q : Fin 256) :
    k0_pay30 (F := Ideal) (k0_pay28 H w) (ix2 r q) = upc H w r q := by
  pointwise [k0_pay30, pay28_at]
theorem pay20_at (H : FVec Ideal S512x1024 .bf16) (w : FVec Ideal S256x1024 .bf16) (r : Fin 512) (q : Fin 256) :
    k0_pay20 (F := Ideal) H w (ix2 r q) = upc H w r q := by
  pointwise [k0_pay20, pay18_at]
theorem pay35_at (H : FVec Ideal S512x1024 .bf16) (w : FVec Ideal S256x1024 .bf16) (r : Fin 512) (q : Fin 256) :
    k0_pay35 (F := Ideal) H w (ix2 r q) = upc H w r q := by
  pointwise [k0_pay35, pay33_at]
theorem pay31_at (H : FVec Ideal S512x1024 .bf16) (w : FVec Ideal S256x1024 .bf16) (r : Fin 512) (q : Fin 256) :
    k0_pay31 (F := Ideal) H (k0_pay29 w) (constant S512x256 .f32 0x00000000#32) (ix2 r q) = upc H w r q := by
  pointwise [k0_pay31, k0_pay29]
  rfl
theorem pay9_at (H : FVec Ideal S512x1024 .bf16) (w : FVec Ideal S256x1024 .bf16) (r : Fin 512) (q : Fin 256) :
    k0_pay9 (F := Ideal) H w (ix2 r q) = upc H w r q * sg (upc H w r q) := by
  pointwise [k0_pay9, pay7_at]
  rfl
theorem pay36_at (H : FVec Ideal S512x1024 .bf16) (w : FVec Ideal S256x1024 .bf16) (r : Fin 512) (q : Fin 256) :
    k0_pay36 (F := Ideal) H w (ix2 r q) = Ideal.tanh (half * upc H w r q) := by
  pointwise [k0_pay36, pay35_at]
  rfl
theorem pay24_at (H : FVec Ideal S512x1024 .bf16) (wa wb : FVec Ideal S256x1024 .bf16) (r : Fin 512) (q : Fin 256) :
    k0_pay24 (F := Ideal) H wa wb (ix2 r q) = sw (upc H wa r q) (upc H wb r q) := by
  pointwise [k0_pay24, pay22_at, pay23_at]
  rfl

theorem y0_at (x : FVec Ideal S512x1024 .f32) (g sc sh : FVec Ideal S1x1024 .f32) (wa wb wd : FVec Ideal S256x1024 .bf16) (r : Fin 512) (j : Fin 1024) :
    k0_pay6 (F := Ideal) (k0_pay4 x g sc sh wa) (k0_pay5 x g sc sh wb) wd (ix2 r j) = ck (k0_pay3 x g sc sh) wa wb wd r j := by
  pointwise [k0_pay6, pay4_at, pay5_at]
  rfl

variable (H : FVec Ideal S512x1024 .bf16) (y : FVec Ideal S512x1024 .f32) (wa wb wd wa' wb' wd' : FVec Ideal S256x1024 .bf16) (r : Fin 512) (j : Fin 1024)

theorem y12_at : k0_pay13 (F := Ideal) H y (k0_pay9 H wa) (k0_pay10 H wb) wd wa' wb' wd' (ix2 r j) = y (ix2 r j) + ck H wa wb wd r j + ck H wa' wb' wd' r j := by
  pointwise [k0_pay13, pay9_at, pay10_at, pay11_at, pay12_at]
  rfl
theorem y3_at : k0_pay17 (F := Ideal) H y (k0_pay14 H wa) wb wd (ix2 r j) = y (ix2 r j) + ck H wa wb wd r j := by
  pointwise [k0_pay17, pay15_at, pay16_at]
  rfl
theorem y4_at : k0_pay21 (F := Ideal) y (k0_pay19 H wb) (k0_pay20 H wa) wd (ix2 r j) = y (ix2 r j) + ck H wa wb wd r j := by
  pointwise [k0_pay21, pay19_at, pay20_at]
  rfl
theorem y56_at : k0_pay27 (F := Ideal) H y (k0_pay24 H wa wb) wd wa' wb' wd' (ix2 r j) = y (ix2 r j) + ck H wa wb wd r j + ck H wa' wb' wd' r j := by
  pointwise [k0_pay27, pay24_at, pay25_at, pay26_at]
  rfl
theorem y7_at : k0_pay32 (F := Ideal) H y (k0_pay28 H wa) (k0_pay29 wb) (constant S512x256 .f32 0x00000000#32) wd (ix2 r j) = y (ix2 r j) + ck H wa wb wd r j := by
  pointwise [k0_pay32, pay30_at, pay31_at]
  rfl
theorem y8_at : k0_pay37 (F := Ideal) y (k0_pay34 H wb) (k0_pay35 H wa) (k0_pay36 H wa) wd (ix2 r j) = y (ix2 r j) + ck H wa wb wd r j := by
  pointwise [k0_pay37, pay34_at, pay35_at, pay36_at]
  rfl
theorem y9_at : k0_pay40 (F := Ideal) H wa wb wd (ix2 r j) = ck H wa wb wd r j := by
  pointwise [k0_pay40, pay38_at, pay39_at]
  rfl
theorem out_at (x : FVec Ideal S512x1024 .f32) (z : FVec Ideal S512x1024 .f32) (gt : FVec Ideal S1x1024 .f32) :
    k0_pay43 (F := Ideal) (k0_pay2 x) H y z wa wb wd gt (ix2 r j)
      = brow x r j + half * bvec gt j * (y (ix2 r j) + z (ix2 r j) + ck H wa wb wd r j) := by
  pointwise [k0_pay43, k0_pay2, pay41_at, pay42_at]
  rfl

/-! The loss and its gradient at the final norm. -/

variable (X : FVec Ideal S512x1024 .f32) (g : FVec Ideal S1x1024 .f32) (T : FVec Ideal S512x1024 .f32)

/-- A row's error, and the cotangent of the final norm's rows. -/
def err (x g T : Fin 1024 → EReal) (k : Fin 1024) : EReal := x k * rr x * g k - T k
def inv1024 : EReal := Ideal.ofBits .f32 0x3A800000#32

theorem pay47_at (z : Fin 1) : k0_pay47 (F := Ideal) X (ix2 r z) = rr (brow X r) := by
  pointwise [k0_pay47]
  rfl
theorem pay48_at : k0_pay48 (F := Ideal) X (ix2 r j) = brow X r j * rr (brow X r) := by
  pointwise [k0_pay48, pay47_at]
  rfl
theorem pay49_at : k0_pay49 (F := Ideal) X g T (ix2 r j) = err (brow X r) (bvec g) (brow T r) j := by
  pointwise [k0_pay49, pay48_at, k0_pay46]
  rfl
theorem pay51_at : k0_pay51 (F := Ideal) X g T (ix2 r j) = err (brow X r) (bvec g) (brow T r) j * inv1024 := by
  pointwise [k0_pay51, pay49_at]
  rfl
theorem pay53_at : k0_pay53 (F := Ideal) X g T (ix2 r j) = err (brow X r) (bvec g) (brow T r) j * inv1024 * bvec g j := by
  pointwise [k0_pay53, pay51_at, k0_pay46]
  rfl
theorem dx_at : k0_pay1 (F := Ideal) (k0_pay47 X) (k0_pay48 X) (k0_pay53 X g T) (k0_pay54 X g T) (Scalar.ofBits .f32 0x44800000#32) (ix2 r j)
    = hand (brow X r) (fun k => err (brow X r) (bvec g) (brow T r) k * inv1024 * bvec g k) j := by
  pointwise [k0_pay1, k0_pay54, pay47_at, pay48_at, pay53_at]
  rfl
theorem loss_at (p : FVec Ideal S1x1024 .f32) : k0_pay50 (F := Ideal) X g T p (ix2 0 j)
    = p (ix2 0 j) + ∑ r, err (brow X r) (bvec g) (brow T r) j * err (brow X r) (bvec g) (brow T r) j := by
  pointwise [k0_pay50, pay49_at]
theorem dg_at (p : FVec Ideal S1x1024 .f32) : k0_pay52 (F := Ideal) X g T p (ix2 0 j)
    = p (ix2 0 j) + ∑ r, err (brow X r) (bvec g) (brow T r) j * inv1024 * (brow X r j * rr (brow X r)) := by
  pointwise [k0_pay52, pay51_at, pay48_at]
theorem zl_at (i : S1x1024.Idx) : k0_pay44 (F := Ideal) i = 0 := by
  pointwise [k0_pay44]
theorem zg_at (i : S1x1024.Idx) : k0_pay45 (F := Ideal) i = 0 := by
  pointwise [k0_pay45]

end Cert.KernelFfnIdeal.Value

end
-- ==== Proof.Ffn.Blocks.lean ====
module

public import Idealize.ShloMosaic.Lib.Pipeline.ValueKit
public import proofs.«01_k».proof.Proof.Ffn.Tile

@[expose] public section

set_option maxRecDepth 16384

noncomputable section

namespace Cert.KernelFfnIdeal.Value

open Cert.KernelFfnIdeal Cert.KernelFfnIdeal.Gen Idealize.ShloMosaic Idealize.ShloMosaic.TcCoe Idealize.SL.Sem
open Idealize.ShloMosaic.Pipeline (Dat)

open Cert.Norm

/-- The grid runs along the rows: which block of its array every window moves at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![t.val, 0] ∧ win0_10.index t = ![t.val, 0] ∧ win0_11.index t = ![t.val, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

variable (m : (ℓ : Loc nD τ sig) → Buf (Elt Ideal) ℓ) (c : Dev nD) (t : Fin cfg0.N)

/-- The arguments as launched. -/
abbrev argX : FVec Ideal S1x8192x1024 .f32 := m ((c : Thread nD τ).loc main_arg0)
abbrev argG : FVec Ideal S1024 .f32 := m ((c : Thread nD τ).loc main_arg1)
abbrev argSh : FVec Ideal S1x1024 .f32 := m ((c : Thread nD τ).loc main_arg2)
abbrev argSc : FVec Ideal S1x1024 .f32 := m ((c : Thread nD τ).loc main_arg3)
abbrev argGt : FVec Ideal S1x1024 .f32 := m ((c : Thread nD τ).loc main_arg4)
abbrev argW : FVec Ideal S1024x5632 .f32 := m ((c : Thread nD τ).loc main_arg5)
abbrev argWd : FVec Ideal S2816x1024 .f32 := m ((c : Thread nD τ).loc main_arg6)
abbrev argGf : FVec Ideal S1024 .f32 := m ((c : Thread nD τ).loc main_arg7)
abbrev argT : FVec Ideal S1x8192x1024 .f32 := m ((c : Thread nD τ).loc main_arg8)

/-- The rows of the stream and of the target, and a vector. -/
def xs (X : FVec Ideal S1x8192x1024 .f32) (s : Fin 8192) (k : Fin 1024) : EReal := X (ix3 0 s k)
def gs (G : FVec Ideal S1024 .f32) (k : Fin 1024) : EReal := G (ix1 k)

theorem entry_x : V m c main_v0 = shapeCast S8192x1024 (argX m c) shapeCasts_S1x8192x1024_S8192x1024 := by
  simp only [V, hostOps0]
  entry_read
  rfl
theorem entry_t : V m c main_v5 = shapeCast S8192x1024 (argT m c) shapeCasts_S1x8192x1024_S8192x1024 := by
  simp only [V, hostOps0]
  entry_read
  rfl
theorem entry_g : V m c main_v1 = broadcastInDim S1x1024 ![1] bcast_S1024_S1x1024_1 (argG m c) := by
  simp only [V, hostOps0]
  entry_read
  rfl
theorem entry_gf : V m c main_v6 = broadcastInDim S1x1024 ![1] bcast_S1024_S1x1024_1 (argGf m c) := by
  simp only [V, hostOps0]
  entry_read
  rfl
theorem entry_w : V m c main_v3 = truncf (F := Ideal) .bf16 (transpose S5632x1024 [1, 0] (argW m c) transposes_S1024x5632_S5632x1024_1_0) bitsLt_bf16_f32 := by
  simp only [V, hostOps0]
  entry_read
  rfl
theorem entry_wd : V m c main_v4 = truncf (F := Ideal) .bf16 (argWd m c) bitsLt_bf16_f32 := by
  simp only [V, hostOps0]
  entry_read
  rfl

theorem x_at (r : Fin 512) : brow (iblk m c 0 t) r = xs (argX m c) (row t r) := by
  funext k
  refine Eq.trans (b := V m c main_v0 (ix2 (row t r) k)) ?_ ?_
  · unfold brow
    blk_point [iblk, idx t, row]
  · rw [entry_x]
    pointwise []
    rfl
theorem t_at (r : Fin 512) : brow (iblk m c 7 t) r = xs (argT m c) (row t r) := by
  funext k
  refine Eq.trans (b := V m c main_v5 (ix2 (row t r) k)) ?_ ?_
  · unfold brow
    blk_point [iblk, idx t, row]
  · rw [entry_t]
    pointwise []
    rfl
theorem g_at : bvec (iblk m c 1 t) = gs (argG m c) := by
  funext k
  refine Eq.trans (b := V m c main_v1 (ix2 0 k)) ?_ ?_
  · unfold bvec
    blk_point [iblk, idx t]
  · rw [entry_g]
    pointwise []
    rfl
theorem gf_at : bvec (iblk m c 8 t) = gs (argGf m c) := by
  funext k
  refine Eq.trans (b := V m c main_v6 (ix2 0 k)) ?_ ?_
  · unfold bvec
    blk_point [iblk, idx t]
  · rw [entry_gf]
    pointwise []
    rfl
theorem sc_at : bvec (iblk m c 2 t) = bvec (argSc m c) := by
  funext k
  unfold bvec
  blk_point [iblk, V, idx t]
theorem sh_at : bvec (iblk m c 3 t) = bvec (argSh m c) := by
  funext k
  unfold bvec
  blk_point [iblk, V, idx t]
theorem gt_at : bvec (iblk m c 4 t) = bvec (argGt m c) := by
  funext k
  unfold bvec
  blk_point [iblk, V, idx t]
theorem w_at (i : Fin 5632) (k : Fin 1024) : iblk m c 5 t (ix2 i k) = argW m c (ix2 k i) := by
  refine Eq.trans (b := V m c main_v3 (ix2 i k)) ?_ ?_
  · blk_point [iblk, idx t]
  · rw [entry_w]
    pointwise []
theorem wd_at (i : Fin 2816) (k : Fin 1024) : iblk m c 6 t (ix2 i k) = argWd m c (ix2 i k) := by
  refine Eq.trans (b := V m c main_v4 (ix2 i k)) ?_ ?_
  · blk_point [iblk, idx t]
  · rw [entry_wd]
    pointwise []

/-- A chunk of the two weights, as the body loads it. -/
abbrev wu (o : ℕ) (h : ∀ a, (![o, 0] : Fin 2 → ℕ) a + (![256, 1024] : Fin 2 → ℕ) a ≤ S5632x1024.size a) : FVec Ideal S256x1024 .bf16 :=
  View.ld (Val := Elt Ideal) (S := S5632x1024) (e' := .bf16) (iblk m c 5 t) (Rect.unit ![o, 0] ![256, 1024] h)
abbrev wn (o : ℕ) (h : ∀ a, (![o, 0] : Fin 2 → ℕ) a + (![256, 1024] : Fin 2 → ℕ) a ≤ S2816x1024.size a) : FVec Ideal S256x1024 .bf16 :=
  View.ld (Val := Elt Ideal) (S := S2816x1024) (e' := .bf16) (iblk m c 6 t) (Rect.unit ![o, 0] ![256, 1024] h)

theorem wu_at (o : ℕ) (h) (q : Fin 256) (k : Fin 1024) : wu m c t o h (ix2 q k) = argW m c (ix2 k ⟨o + q.val, by have : o + 256 ≤ 5632 := h 0; omega⟩) := by
  refine Eq.trans (congrArg (iblk m c 5 t) ?_) (w_at m c t _ k)
  funext a
  fin_cases a
  · exact Fin.ext (by show o + 1 * q.val = o + q.val; omega)
  · exact Fin.ext (by show 0 + 1 * k.val = k.val; omega)
theorem wn_at (o : ℕ) (h) (q : Fin 256) (k : Fin 1024) : wn m c t o h (ix2 q k) = argWd m c (ix2 ⟨o + q.val, by have : o + 256 ≤ 2816 := h 0; omega⟩ k) := by
  refine Eq.trans (congrArg (iblk m c 6 t) ?_) (wd_at m c t _ k)
  funext a
  fin_cases a
  · exact Fin.ext (by show o + 1 * q.val = o + q.val; omega)
  · exact Fin.ext (by show 0 + 1 * k.val = k.val; omega)

/-! The layer's values from the arguments: the modulated norm, the up product, the gated down product, the stream. -/

def hs (s : Fin 8192) (k : Fin 1024) : EReal :=
  xs (argX m c) s k * rr (xs (argX m c) s) * gs (argG m c) k * (1 + bvec (argSc m c) k) + bvec (argSh m c) k
def us (s : Fin 8192) (i : Fin 5632) : EReal := ∑ k, hs m c s k * argW m c (ix2 k i)
def act (s : Fin 8192) (f : Fin 2816) : EReal := sw (us m c s ⟨f.val, by omega⟩) (us m c s ⟨2816 + f.val, by omega⟩)
def ys (s : Fin 8192) (j : Fin 1024) : EReal := ∑ f, act m c s f * argWd m c (ix2 f j)
def xo (s : Fin 8192) (j : Fin 1024) : EReal := xs (argX m c) s j + half * bvec (argGt m c) j * ys m c s j

/-- The modulated norm of a tile. -/
abbrev HT : FVec Ideal S512x1024 .bf16 := k0_pay3 (F := Ideal) (iblk m c 0 t) (iblk m c 1 t) (iblk m c 2 t) (iblk m c 3 t)

theorem h_at (r : Fin 512) (k : Fin 1024) : HT m c t (ix2 r k) = hs m c (row t r) k := by
  refine (pay3_at _ _ _ _ r k).trans ?_
  rw [x_at, g_at, sc_at, sh_at]
  rfl
theorem up_at (o : ℕ) (h) (r : Fin 512) (q : Fin 256) : upc (HT m c t) (wu m c t o h) r q = us m c (row t r) ⟨o + q.val, by have : o + 256 ≤ 5632 := h 0; omega⟩ :=
  Finset.sum_congr rfl fun k _ => congrArg₂ (· * ·) (h_at m c t r k) (wu_at m c t o h q k)

/-- The down product's share of chunk `p`. -/
def chunk (s : Fin 8192) (j : Fin 1024) (p : Fin 11) : EReal :=
  ∑ q : Fin 256, act m c s ⟨p.val * 256 + q.val, by omega⟩ * argWd m c (ix2 ⟨p.val * 256 + q.val, by omega⟩ j)

theorem ck_at (o : ℕ) (p : Fin 11) (o' : ℕ) (e : o = p.val * 256) (e' : o' = 2816 + o) (h h' h'') (r : Fin 512) (j : Fin 1024) :
    ck (HT m c t) (wu m c t o h) (wu m c t o' h') (wn m c t o h'') r j = chunk m c (row t r) j p := by
  subst e e'
  refine Finset.sum_congr rfl fun q _ => congrArg₂ (· * ·) (congrArg₂ sw (up_at m c t _ h r q) ((up_at m c t _ h' r q).trans ?_)) (wn_at m c t _ h'' q j)
  exact congrArg (us m c (row t r)) (Fin.ext (Nat.add_assoc _ _ _))

theorem eleven (f : Fin 11 → EReal) : f 0 + f 1 + f 2 + f 3 + f 4 + f 5 + f 6 + f 7 + f 8 + f 9 + f 10 = ∑ p, f p := by
  simp only [Fin.sum_univ_castSucc, Fin.sum_univ_zero, zero_add]
  rfl

theorem ys_chunks (s : Fin 8192) (j : Fin 1024) : ∑ p, chunk m c s j p = ys m c s j :=
  (Fin.sum_univ_tiles 11 256 rfl (fun f : Fin 2816 => act m c s f * argWd m c (ix2 f j))).symm

end Cert.KernelFfnIdeal.Value

end
-- ==== Proof.Ffn.Final.lean ====
module

public import Idealize.ShloMosaic.Lib.WritesUnit
public import proofs.«01_k».proof.Proof.Ffn.Blocks

@[expose] public section

set_option maxRecDepth 16384

noncomputable section

namespace Cert.KernelFfnIdeal.Value

open Cert.KernelFfnIdeal Cert.KernelFfnIdeal.Gen Idealize.ShloMosaic Idealize.ShloMosaic.TcCoe Idealize.SL.Sem
open Idealize.ShloMosaic.Pipeline (Dat)

open Cert.Norm

variable (m : (ℓ : Loc nD τ sig) → Buf (Elt Ideal) ℓ) (c : Dev nD) (t : Fin cfg0.N)

/-! The stream of a tile, chunk by chunk of the down product. -/

abbrev Y0 : FVec Ideal S512x1024 .f32 :=
  k0_pay6 (F := Ideal) (k0_pay4 (iblk m c 0 t) (iblk m c 1 t) (iblk m c 2 t) (iblk m c 3 t) (wu m c t 0 inb_S5632x1024_S256x1024_0_0)) (k0_pay5 (iblk m c 0 t) (iblk m c 1 t) (iblk m c 2 t) (iblk m c 3 t) (wu m c t 2816 inb_S5632x1024_S256x1024_2816_0)) (wn m c t 0 inb_S2816x1024_S256x1024_0_0)
abbrev Y2 : FVec Ideal S512x1024 .f32 :=
  k0_pay13 (F := Ideal) (HT m c t) (Y0 m c t) (k0_pay9 (HT m c t) (wu m c t 256 inb_S5632x1024_S256x1024_256_0)) (k0_pay10 (HT m c t) (wu m c t 3072 inb_S5632x1024_S256x1024_3072_0)) (wn m c t 256 inb_S2816x1024_S256x1024_256_0) (wu m c t 512 inb_S5632x1024_S256x1024_512_0) (wu m c t 3328 inb_S5632x1024_S256x1024_3328_0) (wn m c t 512 inb_S2816x1024_S256x1024_512_0)
abbrev Y3 : FVec Ideal S512x1024 .f32 :=
  k0_pay17 (F := Ideal) (HT m c t) (Y2 m c t) (k0_pay14 (HT m c t) (wu m c t 768 inb_S5632x1024_S256x1024_768_0)) (wu m c t 3584 inb_S5632x1024_S256x1024_3584_0) (wn m c t 768 inb_S2816x1024_S256x1024_768_0)
abbrev Y4 : FVec Ideal S512x1024 .f32 :=
  k0_pay21 (F := Ideal) (Y3 m c t) (k0_pay19 (HT m c t) (wu m c t 3840 inb_S5632x1024_S256x1024_3840_0)) (k0_pay20 (HT m c t) (wu m c t 1024 inb_S5632x1024_S256x1024_1024_0)) (wn m c t 1024 inb_S2816x1024_S256x1024_1024_0)
abbrev Y6 : FVec Ideal S512x1024 .f32 :=
  k0_pay27 (F := Ideal) (HT m c t) (Y4 m c t) (k0_pay24 (HT m c t) (wu m c t 1280 inb_S5632x1024_S256x1024_1280_0) (wu m c t 4096 inb_S5632x1024_S256x1024_4096_0)) (wn m c t 1280 inb_S2816x1024_S256x1024_1280_0) (wu m c t 1536 inb_S5632x1024_S256x1024_1536_0) (wu m c t 4352 inb_S5632x1024_S256x1024_4352_0) (wn m c t 1536 inb_S2816x1024_S256x1024_1536_0)
abbrev Y7 : FVec Ideal S512x1024 .f32 :=
  k0_pay32 (F := Ideal) (HT m c t) (Y6 m c t) (k0_pay28 (HT m c t) (wu m c t 1792 inb_S5632x1024_S256x1024_1792_0)) (k0_pay29 (wu m c t 4608 inb_S5632x1024_S256x1024_4608_0)) (constant S512x256 .f32 0x00000000#32) (wn m c t 1792 inb_S2816x1024_S256x1024_1792_0)
abbrev Y8 : FVec Ideal S512x1024 .f32 :=
  k0_pay37 (F := Ideal) (Y7 m c t) (k0_pay34 (HT m c t) (wu m c t 4864 inb_S5632x1024_S256x1024_4864_0)) (k0_pay35 (HT m c t) (wu m c t 2048 inb_S5632x1024_S256x1024_2048_0)) (k0_pay36 (HT m c t) (wu m c t 2048 inb_S5632x1024_S256x1024_2048_0)) (wn m c t 2048 inb_S2816x1024_S256x1024_2048_0)
abbrev Y9 : FVec Ideal S512x1024 .f32 :=
  k0_pay40 (F := Ideal) (HT m c t) (wu m c t 2304 inb_S5632x1024_S256x1024_2304_0) (wu m c t 5120 inb_S5632x1024_S256x1024_5120_0) (wn m c t 2304 inb_S2816x1024_S256x1024_2304_0)
abbrev XT : FVec Ideal S512x1024 .f32 :=
  k0_pay43 (F := Ideal) (k0_pay2 (iblk m c 0 t)) (HT m c t) (Y8 m c t) (Y9 m c t) (wu m c t 2560 inb_S5632x1024_S256x1024_2560_0) (wu m c t 5376 inb_S5632x1024_S256x1024_5376_0) (wn m c t 2560 inb_S2816x1024_S256x1024_2560_0) (iblk m c 4 t)
variable (r : Fin 512) (j : Fin 1024)

theorem Y0_at : Y0 m c t (ix2 r j) = chunk m c (row t r) j 0 :=
  (y0_at _ _ _ _ _ _ _ r j).trans (ck_at m c t 0 0 2816 rfl rfl _ _ _ r j)
theorem Y2_at : Y2 m c t (ix2 r j) = chunk m c (row t r) j 0 + chunk m c (row t r) j 1 + chunk m c (row t r) j 2 :=
  (y12_at _ _ _ _ _ _ _ _ r j).trans (congrArg₂ (· + ·) (congrArg₂ (· + ·) (Y0_at m c t r j) (ck_at m c t 256 1 3072 rfl rfl _ _ _ r j)) (ck_at m c t 512 2 3328 rfl rfl _ _ _ r j))
theorem Y3_at : Y3 m c t (ix2 r j) = chunk m c (row t r) j 0 + chunk m c (row t r) j 1 + chunk m c (row t r) j 2 + chunk m c (row t r) j 3 :=
  (y3_at _ _ _ _ _ r j).trans (congrArg₂ (· + ·) (Y2_at m c t r j) (ck_at m c t 768 3 3584 rfl rfl _ _ _ r j))
theorem Y4_at : Y4 m c t (ix2 r j) = chunk m c (row t r) j 0 + chunk m c (row t r) j 1 + chunk m c (row t r) j 2 + chunk m c (row t r) j 3 + chunk m c (row t r) j 4 :=
  (y4_at _ _ _ _ _ r j).trans (congrArg₂ (· + ·) (Y3_at m c t r j) (ck_at m c t 1024 4 3840 rfl rfl _ _ _ r j))
theorem Y6_at : Y6 m c t (ix2 r j) = chunk m c (row t r) j 0 + chunk m c (row t r) j 1 + chunk m c (row t r) j 2 + chunk m c (row t r) j 3 + chunk m c (row t r) j 4 + chunk m c (row t r) j 5 + chunk m c (row t r) j 6 :=
  (y56_at _ _ _ _ _ _ _ _ r j).trans (congrArg₂ (· + ·) (congrArg₂ (· + ·) (Y4_at m c t r j) (ck_at m c t 1280 5 4096 rfl rfl _ _ _ r j)) (ck_at m c t 1536 6 4352 rfl rfl _ _ _ r j))
theorem Y7_at : Y7 m c t (ix2 r j) = chunk m c (row t r) j 0 + chunk m c (row t r) j 1 + chunk m c (row t r) j 2 + chunk m c (row t r) j 3 + chunk m c (row t r) j 4 + chunk m c (row t r) j 5 + chunk m c (row t r) j 6 + chunk m c (row t r) j 7 :=
  (y7_at _ _ _ _ _ r j).trans (congrArg₂ (· + ·) (Y6_at m c t r j) (ck_at m c t 1792 7 4608 rfl rfl _ _ _ r j))
theorem Y8_at : Y8 m c t (ix2 r j) = chunk m c (row t r) j 0 + chunk m c (row t r) j 1 + chunk m c (row t r) j 2 + chunk m c (row t r) j 3 + chunk m c (row t r) j 4 + chunk m c (row t r) j 5 + chunk m c (row t r) j 6 + chunk m c (row t r) j 7 + chunk m c (row t r) j 8 :=
  (y8_at _ _ _ _ _ r j).trans (congrArg₂ (· + ·) (Y7_at m c t r j) (ck_at m c t 2048 8 4864 rfl rfl _ _ _ r j))

theorem XT_at : XT m c t (ix2 r j) = xo m c (row t r) j := by
  refine (out_at _ _ _ _ _ r j _ _ _).trans ?_
  refine congrArg₂ (· + ·) (congrFun (x_at m c t r) j) (congrArg₂ (· * ·) (congrArg (fun v => half * v) (congrFun (gt_at m c t) j)) ?_)
  refine Eq.trans ?_ (ys_chunks m c (row t r) j)
  refine Eq.trans ?_ (eleven (chunk m c (row t r) j))
  exact congrArg₂ (· + ·) (congrArg₂ (· + ·) (Y8_at m c t r j) ((y9_at _ _ _ _ r j).trans (ck_at m c t 2304 9 5120 rfl rfl _ _ _ r j))) (ck_at m c t 2560 10 5376 rfl rfl _ _ _ r j)

/-- The results' entries from the arguments. -/
def er (s : Fin 8192) (j : Fin 1024) : EReal := err (xo m c s) (gs (argGf m c)) (xs (argT m c) s) j
def dxo (s : Fin 8192) (j : Fin 1024) : EReal := hand (xo m c s) (fun k => er m c s k * inv1024 * gs (argGf m c) k) j
def tl (s : Fin 8192) (j : Fin 1024) : EReal := er m c s j * er m c s j
def tg (s : Fin 8192) (j : Fin 1024) : EReal := er m c s j * inv1024 * (xo m c s j * rr (xo m c s))

theorem XT_row (r : Fin 512) : brow (XT m c t) r = xo m c (row t r) := funext fun k => XT_at m c t r k
theorem er_at (r : Fin 512) : err (brow (XT m c t) r) (bvec (iblk m c 8 t)) (brow (iblk m c 7 t) r) = er m c (row t r) := by
  rw [XT_row, gf_at, t_at]
  rfl

theorem tl_at (p q : EReal) (e : p = q) : p + ∑ r, err (brow (XT m c t) r) (bvec (iblk m c 8 t)) (brow (iblk m c 7 t) r) j * err (brow (XT m c t) r) (bvec (iblk m c 8 t)) (brow (iblk m c 7 t) r) j
    = q + ∑ r, tl m c (row t r) j :=
  congrArg₂ (· + ·) e (Finset.sum_congr rfl fun r _ => congrArg₂ (· * ·) (congrFun (er_at m c t r) j) (congrFun (er_at m c t r) j))
theorem tg_at (p q : EReal) (e : p = q) : p + ∑ r, err (brow (XT m c t) r) (bvec (iblk m c 8 t)) (brow (iblk m c 7 t) r) j * inv1024 * (brow (XT m c t) r j * rr (brow (XT m c t) r))
    = q + ∑ r, tg m c (row t r) j :=
  congrArg₂ (· + ·) e (Finset.sum_congr rfl fun r _ => congrArg₂ (· * ·) (congrArg (· * inv1024) (congrFun (er_at m c t r) j))
    (congrArg₂ (· * ·) (XT_at m c t r j) (congrArg rr (XT_row m c t r))))

theorem stepl_B (h : ¬ t.val % 16 = 0) : (outsAt0 m c t.val t.isLt).2.2.2.1 (ix2 0 j)
    = (outsAt0 m c (t.val - 1) (Nat.lt_of_le_of_lt (Nat.sub_le _ _) t.isLt)).2.2.2.1 (ix2 0 j) + ∑ r, tl m c (row t r) j := by
  rw [outsAt0_B m c t h]
  frame_out
  exact (loss_at _ _ _ _ _).trans (tl_at m c t j _ _ rfl)
theorem stepg_B (h : ¬ t.val % 16 = 0) : (outsAt0 m c t.val t.isLt).2.2.2.2 (ix2 0 j)
    = (outsAt0 m c (t.val - 1) (Nat.lt_of_le_of_lt (Nat.sub_le _ _) t.isLt)).2.2.2.2 (ix2 0 j) + ∑ r, tg m c (row t r) j := by
  rw [outsAt0_B m c t h]
  frame_out
  exact (dg_at _ _ _ _ _).trans (tg_at m c t j _ _ rfl)
theorem stepl_A (h : t.val % 16 = 0) : (outsAt0 m c t.val t.isLt).2.2.2.1 (ix2 0 j) = 0 + ∑ r, tl m c (row t r) j := by
  rw [outsAt0_A m c t h]
  frame_out
  exact (loss_at _ _ _ _ _).trans (tl_at m c t j _ _ (zl_at _))
theorem stepg_A (h : t.val % 16 = 0) : (outsAt0 m c t.val t.isLt).2.2.2.2 (ix2 0 j) = 0 + ∑ r, tg m c (row t r) j := by
  rw [outsAt0_A m c t h]
  frame_out
  exact (dg_at _ _ _ _ _).trans (tg_at m c t j _ _ (zg_at _))

theorem hs_congr {q q' : Fin 8192} {j j' : Fin 1024} (hq : q.val = q'.val) (hj : j.val = j'.val) : hs m c q j = hs m c q' j' := by
  obtain rfl := Fin.ext hq
  obtain rfl := Fin.ext hj
  rfl
theorem us_congr {q q' : Fin 8192} {j j' : Fin 5632} (hq : q.val = q'.val) (hj : j.val = j'.val) : us m c q j = us m c q' j' := by
  obtain rfl := Fin.ext hq
  obtain rfl := Fin.ext hj
  rfl
theorem dxo_congr {q q' : Fin 8192} {j j' : Fin 1024} (hq : q.val = q'.val) (hj : j.val = j'.val) : dxo m c q j = dxo m c q' j' := by
  obtain rfl := Fin.ext hq
  obtain rfl := Fin.ext hj
  rfl

/-- One point's rows of the first three results. -/
theorem out9_at : (outsAt0 m c t.val t.isLt).1 (ix2 r j) = hs m c (row t r) j := by
  by_cases h : t.val % 16 = 0
  · rw [outsAt0_A m c t h]
    frame_out
    exact h_at m c t r j
  · rw [outsAt0_B m c t h]
    frame_out
    exact h_at m c t r j
theorem dx_tile : k0_pay1 (F := Ideal) (k0_pay47 (XT m c t)) (k0_pay48 (XT m c t)) (k0_pay53 (XT m c t) (iblk m c 8 t) (iblk m c 7 t)) (k0_pay54 (XT m c t) (iblk m c 8 t) (iblk m c 7 t))
    (Scalar.ofBits .f32 0x44800000#32) (ix2 r j) = dxo m c (row t r) j := by
  refine (dx_at _ _ _ _ _).trans ?_
  rw [er_at, XT_row, gf_at]
  rfl
theorem out11_at : (outsAt0 m c t.val t.isLt).2.2.1 (ix2 r j) = dxo m c (row t r) j := by
  by_cases h : t.val % 16 = 0
  · rw [outsAt0_A m c t h]
    frame_out
    exact dx_tile m c t r j
  · rw [outsAt0_B m c t h]
    frame_out
    exact dx_tile m c t r j

theorem out10_at (y : S512x5632.Idx) : (outsAt0 m c t.val t.isLt).2.1 y = us m c (row t (y 0)) (y 1) := by
  by_cases h : t.val % 16 = 0
  · rw [outsAt0_A m c t h]
    frame_out
    clear h
    canon_tiles x h
    case piece0 =>
      idx_vars x
      exact ((pay42_at _ _ x0 x1).trans (up_at m c t 5376 inb_S5632x1024_S256x1024_5376_0 x0 x1)).trans (us_congr m c (congrArg (512 * t.val + ·) h0.symm) h1.symm)
    case piece1 =>
      idx_vars x
      exact ((pay41_at _ _ x0 x1).trans (up_at m c t 2560 inb_S5632x1024_S256x1024_2560_0 x0 x1)).trans (us_congr m c (congrArg (512 * t.val + ·) h0.symm) h1.symm)
    case piece2 =>
      idx_vars x
      exact ((pay39_at _ _ x0 x1).trans (up_at m c t 5120 inb_S5632x1024_S256x1024_5120_0 x0 x1)).trans (us_congr m c (congrArg (512 * t.val + ·) h0.symm) h1.symm)
    case piece3 =>
      idx_vars x
      exact ((pay38_at _ _ x0 x1).trans (up_at m c t 2304 inb_S5632x1024_S256x1024_2304_0 x0 x1)).trans (us_congr m c (congrArg (512 * t.val + ·) h0.symm) h1.symm)
    case piece4 =>
      idx_vars x
      exact ((pay34_at _ _ x0 x1).trans (up_at m c t 4864 inb_S5632x1024_S256x1024_4864_0 x0 x1)).trans (us_congr m c (congrArg (512 * t.val + ·) h0.symm) h1.symm)
    case piece5 =>
      idx_vars x
      exact ((pay33_at _ _ x0 x1).trans (up_at m c t 2048 inb_S5632x1024_S256x1024_2048_0 x0 x1)).trans (us_congr m c (congrArg (512 * t.val + ·) h0.symm) h1.symm)
    case piece6 =>
      idx_vars x
      exact ((pay31_at _ _ x0 x1).trans (up_at m c t 4608 inb_S5632x1024_S256x1024_4608_0 x0 x1)).trans (us_congr m c (congrArg (512 * t.val + ·) h0.symm) h1.symm)
    case piece7 =>
      idx_vars x
      exact ((pay30_at _ _ x0 x1).trans (up_at m c t 1792 inb_S5632x1024_S256x1024_1792_0 x0 x1)).trans (us_congr m c (congrArg (512 * t.val + ·) h0.symm) h1.symm)
    case piece8 =>
      idx_vars x
      exact ((pay26_at _ _ x0 x1).trans (up_at m c t 4352 inb_S5632x1024_S256x1024_4352_0 x0 x1)).trans (us_congr m c (congrArg (512 * t.val + ·) h0.symm) h1.symm)
    case piece9 =>
      idx_vars x
      exact ((pay25_at _ _ x0 x1).trans (up_at m c t 1536 inb_S5632x1024_S256x1024_1536_0 x0 x1)).trans (us_congr m c (congrArg (512 * t.val + ·) h0.symm) h1.symm)
    case piece10 =>
      idx_vars x
      exact ((pay23_at _ _ x0 x1).trans (up_at m c t 4096 inb_S5632x1024_S256x1024_4096_0 x0 x1)).trans (us_congr m c (congrArg (512 * t.val + ·) h0.symm) h1.symm)
    case piece11 =>
      idx_vars x
      exact ((pay22_at _ _ x0 x1).trans (up_at m c t 1280 inb_S5632x1024_S256x1024_1280_0 x0 x1)).trans (us_congr m c (congrArg (512 * t.val + ·) h0.symm) h1.symm)
    case piece12 =>
      idx_vars x
      exact ((pay19_at _ _ x0 x1).trans (up_at m c t 3840 inb_S5632x1024_S256x1024_3840_0 x0 x1)).trans (us_congr m c (congrArg (512 * t.val + ·) h0.symm) h1.symm)
    case piece13 =>
      idx_vars x
      exact ((pay18_at _ _ x0 x1).trans (up_at m c t 1024 inb_S5632x1024_S256x1024_1024_0 x0 x1)).trans (us_congr m c (congrArg (512 * t.val + ·) h0.symm) h1.symm)
    case piece14 =>
      idx_vars x
      exact ((pay16_at _ _ x0 x1).trans (up_at m c t 3584 inb_S5632x1024_S256x1024_3584_0 x0 x1)).trans (us_congr m c (congrArg (512 * t.val + ·) h0.symm) h1.symm)
    case piece15 =>
      idx_vars x
      exact ((pay15_at _ _ x0 x1).trans (up_at m c t 768 inb_S5632x1024_S256x1024_768_0 x0 x1)).trans (us_congr m c (congrArg (512 * t.val + ·) h0.symm) h1.symm)
    case piece16 =>
      idx_vars x
      exact ((pay12_at _ _ x0 x1).trans (up_at m c t 3328 inb_S5632x1024_S256x1024_3328_0 x0 x1)).trans (us_congr m c (congrArg (512 * t.val + ·) h0.symm) h1.symm)
    case piece17 =>
      idx_vars x
      exact ((pay11_at _ _ x0 x1).trans (up_at m c t 512 inb_S5632x1024_S256x1024_512_0 x0 x1)).trans (us_congr m c (congrArg (512 * t.val + ·) h0.symm) h1.symm)
    case piece18 =>
      idx_vars x
      exact ((pay8_at _ _ x0 x1).trans (up_at m c t 3072 inb_S5632x1024_S256x1024_3072_0 x0 x1)).trans (us_congr m c (congrArg (512 * t.val + ·) h0.symm) h1.symm)
    case piece19 =>
      idx_vars x
      exact ((pay7_at _ _ x0 x1).trans (up_at m c t 256 inb_S5632x1024_S256x1024_256_0 x0 x1)).trans (us_congr m c (congrArg (512 * t.val + ·) h0.symm) h1.symm)
    case piece20 =>
      idx_vars x
      exact ((pay5_at _ _ _ _ _ x0 x1).trans (up_at m c t 2816 inb_S5632x1024_S256x1024_2816_0 x0 x1)).trans (us_congr m c (congrArg (512 * t.val + ·) h0.symm) h1.symm)
    case piece21 =>
      idx_vars x
      exact ((pay4_at _ _ _ _ _ x0 x1).trans (up_at m c t 0 inb_S5632x1024_S256x1024_0_0 x0 x1)).trans (us_congr m c (congrArg (512 * t.val + ·) h0.symm) ((Nat.zero_add _).trans h1.symm))
  · rw [outsAt0_B m c t h]
    frame_out
    clear h
    canon_tiles x h
    case piece0 =>
      idx_vars x
      exact ((pay42_at _ _ x0 x1).trans (up_at m c t 5376 inb_S5632x1024_S256x1024_5376_0 x0 x1)).trans (us_congr m c (congrArg (512 * t.val + ·) h0.symm) h1.symm)
    case piece1 =>
      idx_vars x
      exact ((pay41_at _ _ x0 x1).trans (up_at m c t 2560 inb_S5632x1024_S256x1024_2560_0 x0 x1)).trans (us_congr m c (congrArg (512 * t.val + ·) h0.symm) h1.symm)
    case piece2 =>
      idx_vars x
      exact ((pay39_at _ _ x0 x1).trans (up_at m c t 5120 inb_S5632x1024_S256x1024_5120_0 x0 x1)).trans (us_congr m c (congrArg (512 * t.val + ·) h0.symm) h1.symm)
    case piece3 =>
      idx_vars x
      exact ((pay38_at _ _ x0 x1).trans (up_at m c t 2304 inb_S5632x1024_S256x1024_2304_0 x0 x1)).trans (us_congr m c (congrArg (512 * t.val + ·) h0.symm) h1.symm)
    case piece4 =>
      idx_vars x
      exact ((pay34_at _ _ x0 x1).trans (up_at m c t 4864 inb_S5632x1024_S256x1024_4864_0 x0 x1)).trans (us_congr m c (congrArg (512 * t.val + ·) h0.symm) h1.symm)
    case piece5 =>
      idx_vars x
      exact ((pay33_at _ _ x0 x1).trans (up_at m c t 2048 inb_S5632x1024_S256x1024_2048_0 x0 x1)).trans (us_congr m c (congrArg (512 * t.val + ·) h0.symm) h1.symm)
    case piece6 =>
      idx_vars x
      exact ((pay31_at _ _ x0 x1).trans (up_at m c t 4608 inb_S5632x1024_S256x1024_4608_0 x0 x1)).trans (us_congr m c (congrArg (512 * t.val + ·) h0.symm) h1.symm)
    case piece7 =>
      idx_vars x
      exact ((pay30_at _ _ x0 x1).trans (up_at m c t 1792 inb_S5632x1024_S256x1024_1792_0 x0 x1)).trans (us_congr m c (congrArg (512 * t.val + ·) h0.symm) h1.symm)
    case piece8 =>
      idx_vars x
      exact ((pay26_at _ _ x0 x1).trans (up_at m c t 4352 inb_S5632x1024_S256x1024_4352_0 x0 x1)).trans (us_congr m c (congrArg (512 * t.val + ·) h0.symm) h1.symm)
    case piece9 =>
      idx_vars x
      exact ((pay25_at _ _ x0 x1).trans (up_at m c t 1536 inb_S5632x1024_S256x1024_1536_0 x0 x1)).trans (us_congr m c (congrArg (512 * t.val + ·) h0.symm) h1.symm)
    case piece10 =>
      idx_vars x
      exact ((pay23_at _ _ x0 x1).trans (up_at m c t 4096 inb_S5632x1024_S256x1024_4096_0 x0 x1)).trans (us_congr m c (congrArg (512 * t.val + ·) h0.symm) h1.symm)
    case piece11 =>
      idx_vars x
      exact ((pay22_at _ _ x0 x1).trans (up_at m c t 1280 inb_S5632x1024_S256x1024_1280_0 x0 x1)).trans (us_congr m c (congrArg (512 * t.val + ·) h0.symm) h1.symm)
    case piece12 =>
      idx_vars x
      exact ((pay19_at _ _ x0 x1).trans (up_at m c t 3840 inb_S5632x1024_S256x1024_3840_0 x0 x1)).trans (us_congr m c (congrArg (512 * t.val + ·) h0.symm) h1.symm)
    case piece13 =>
      idx_vars x
      exact ((pay18_at _ _ x0 x1).trans (up_at m c t 1024 inb_S5632x1024_S256x1024_1024_0 x0 x1)).trans (us_congr m c (congrArg (512 * t.val + ·) h0.symm) h1.symm)
    case piece14 =>
      idx_vars x
      exact ((pay16_at _ _ x0 x1).trans (up_at m c t 3584 inb_S5632x1024_S256x1024_3584_0 x0 x1)).trans (us_congr m c (congrArg (512 * t.val + ·) h0.symm) h1.symm)
    case piece15 =>
      idx_vars x
      exact ((pay15_at _ _ x0 x1).trans (up_at m c t 768 inb_S5632x1024_S256x1024_768_0 x0 x1)).trans (us_congr m c (congrArg (512 * t.val + ·) h0.symm) h1.symm)
    case piece16 =>
      idx_vars x
      exact ((pay12_at _ _ x0 x1).trans (up_at m c t 3328 inb_S5632x1024_S256x1024_3328_0 x0 x1)).trans (us_congr m c (congrArg (512 * t.val + ·) h0.symm) h1.symm)
    case piece17 =>
      idx_vars x
      exact ((pay11_at _ _ x0 x1).trans (up_at m c t 512 inb_S5632x1024_S256x1024_512_0 x0 x1)).trans (us_congr m c (congrArg (512 * t.val + ·) h0.symm) h1.symm)
    case piece18 =>
      idx_vars x
      exact ((pay8_at _ _ x0 x1).trans (up_at m c t 3072 inb_S5632x1024_S256x1024_3072_0 x0 x1)).trans (us_congr m c (congrArg (512 * t.val + ·) h0.symm) h1.symm)
    case piece19 =>
      idx_vars x
      exact ((pay7_at _ _ x0 x1).trans (up_at m c t 256 inb_S5632x1024_S256x1024_256_0 x0 x1)).trans (us_congr m c (congrArg (512 * t.val + ·) h0.symm) h1.symm)
    case piece20 =>
      idx_vars x
      exact ((pay5_at _ _ _ _ _ x0 x1).trans (up_at m c t 2816 inb_S5632x1024_S256x1024_2816_0 x0 x1)).trans (us_congr m c (congrArg (512 * t.val + ·) h0.symm) h1.symm)
    case piece21 =>
      idx_vars x
      exact ((pay4_at _ _ _ _ _ x0 x1).trans (up_at m c t 0 inb_S5632x1024_S256x1024_0_0 x0 x1)).trans (us_congr m c (congrArg (512 * t.val + ·) h0.symm) ((Nat.zero_add _).trans h1.symm))

theorem final9 : (dats m 0 c).arrAt 9 cfg0.N = fun i => hs m c (i 0) (i 1) :=
  (dats m 0 c).arrAt_eq_of_covers 9 _ (by decide +kernel) (fun t hf y => by
    rw [after0_9]
    idx_vars y
    refine (out9_at m c t y0 y1).trans (hs_congr m c ?_ ?_)
    · refine Eq.trans (b := 512 * t.val + y0.val) rfl ?_
      blk_simp [idx t]
      omega
    · blk_simp [idx t])
theorem final10 : (dats m 0 c).arrAt 10 cfg0.N = fun i => us m c (i 0) (i 1) :=
  (dats m 0 c).arrAt_eq_of_covers 10 _ (by decide +kernel) (fun t hf y => by
    rw [after0_10]
    refine (out10_at m c t _).trans (us_congr m c ?_ ?_)
    · refine Eq.trans (b := 512 * t.val + (y 0).val) rfl ?_
      blk_simp [idx t]
      omega
    · blk_simp [idx t])
theorem final11 : (dats m 0 c).arrAt 11 cfg0.N = fun i => dxo m c (i 0) (i 1) :=
  (dats m 0 c).arrAt_eq_of_covers 11 _ (by decide +kernel) (fun t hf y => by
    rw [after0_11]
    idx_vars y
    refine (out11_at m c t y0 y1).trans (dxo_congr m c ?_ ?_)
    · refine Eq.trans (b := 512 * t.val + y0.val) rfl ?_
      blk_simp [idx t]
      omega
    · blk_simp [idx t])

theorem sums {f : Fin 8192 → EReal} : (∑ p : Fin 16, ∑ r : Fin 512, f (row (p : Fin cfg0.N) r)) = ∑ s, f s := by
  refine Eq.trans ?_ (Fin.sum_univ_tiles 16 512 rfl _).symm
  refine Finset.sum_congr rfl fun p _ => Finset.sum_congr rfl fun r _ => congrArg f (Fin.ext ?_)
  show 512 * p.val + r.val = p.val * 512 + r.val
  omega

theorem row_idx (i : S1x1024.Idx) : i = ix2 0 (i 1) := by
  funext a
  fin_cases a
  · exact Fin.ext (by have := (i 0).isLt; show (i 0).val = 0; change (i 0).val < 1 at this; omega)
  · rfl

theorem final12 : (dats m 0 c).arrAt 12 cfg0.N = fun i => ∑ s, tl m c s (i 1) :=
  (dats m 0 c).arrAt_eq_of_after_last 12 t0_15 (by decide +kernel) _ fun i => by
    refine (congrFun (after0_12 m c t0_15) i).trans ?_
    refine (Pipeline.eq_sum_fin_of_reset_step_apply_last (fun n h => (outsAt0 m c n h).2.2.2.1) 16 (fun _ => 0) (fun t i => ∑ r : Fin 512, tl m c (row t r) (i 1))
      (fun t h i => by rw [row_idx i]; exact stepl_A m c t _ h) (fun t h i => by rw [row_idx i]; exact stepl_B m c t _ h) (by decide) t0_15 (by decide) i).trans ?_
    have e : (cfg0.win 12).arr.view.emb i = i := rfl
    rw [zero_add, e]
    exact sums (f := fun s => tl m c s (i 1))
theorem final13 : (dats m 0 c).arrAt 13 cfg0.N = fun i => ∑ s, tg m c s (i 1) :=
  (dats m 0 c).arrAt_eq_of_after_last 13 t0_15 (by decide +kernel) _ fun i => by
    refine (congrFun (after0_13 m c t0_15) i).trans ?_
    refine (Pipeline.eq_sum_fin_of_reset_step_apply_last (fun n h => (outsAt0 m c n h).2.2.2.2) 16 (fun _ => 0) (fun t i => ∑ r : Fin 512, tg m c (row t r) (i 1))
      (fun t h i => by rw [row_idx i]; exact stepg_A m c t _ h) (fun t h i => by rw [row_idx i]; exact stepg_B m c t _ h) (by decide) t0_15 (by decide) i).trans ?_
    have e : (cfg0.win 13).arr.view.emb i = i := rfl
    rw [zero_add, e]
    exact sums (f := fun s => tg m c s (i 1))

end Cert.KernelFfnIdeal.Value

end
-- ==== Proof.Ffn.Reference.lean ====
module

public import Idealize.ShloMosaic.Lib.Pointwise
public import proofs.«01_k».proof.Proof.Norm.Pre
public import proofs.«01_k».proof.Proof.Ffn.Blocks
public import proofs.«01_k».proof.Proof.Ffn.Final
public import proofs.«01_k».proof.Proof.Gen.ReferenceFfnIdeal.Read

@[expose] public section

set_option maxRecDepth 16384

noncomputable section

namespace Cert.ReferenceFfnIdeal.Value

open Cert.ReferenceFfnIdeal Cert.ReferenceFfnIdeal.Gen Idealize.ShloMosaic Idealize.ShloMosaic.TcCoe Idealize.SL.Sem
open Idealize.ShloMosaic.Pipeline (Dat)

open Cert.Norm Cert.ReferenceFfnIdeal.Read
open Cert.KernelFfnIdeal.Value (xs gs bvec err inv1024)

variable (x0 : FVec Ideal S1x8192x1024 .f32) (x1 : FVec Ideal S1024 .f32) (x2 x3 x4 : FVec Ideal S1x1024 .f32) (x5 : FVec Ideal S1024x5632 .f32)
  (x6 : FVec Ideal S2816x1024 .f32) (x7 : FVec Ideal S1024 .f32) (x8 : FVec Ideal S1x8192x1024 .f32) (s : Fin 8192)

/-! The layer's values as the reference writes them. -/

def hs (k : Fin 1024) : EReal := xs x0 s k * rr (xs x0 s) * gs x1 k * (1 + bvec x3 k) + bvec x2 k
def us (i : Fin 5632) : EReal := ∑ k, hs x0 x1 x2 x3 s k * x5 (ix2 k i)
def act (f : Fin 2816) : EReal := swr (us x0 x1 x2 x3 x5 s ⟨f.val, by omega⟩) (us x0 x1 x2 x3 x5 s ⟨2816 + f.val, by omega⟩)
def ys (j : Fin 1024) : EReal := ∑ f, act x0 x1 x2 x3 x5 s f * x6 (ix2 f j)
def xo (j : Fin 1024) : EReal := xs x0 s j + half * bvec x4 j * ys x0 x1 x2 x3 x5 x6 s j
def er (j : Fin 1024) : EReal := err (xo x0 x1 x2 x3 x4 x5 x6 s) (gs x7) (xs x8 s) j

theorem v7_at (z : Fin 1) : val_main_v7 (F := Ideal) x0 (ix3 0 s z) = rr (xs x0 s) := by
  pointwise [val_main_v7, val_main_v6, val_main_v5, val_main_v4, val_main_v3, val_main_v2, val_main_v1, val_main_v0, val_main_cst, val_main_cst_0, val_main_cst_1]
  rfl
theorem v20_at (k : Fin 1024) : val_main_v20 (F := Ideal) x0 x1 x2 x3 (ix3 0 s k) = hs x0 x1 x2 x3 s k := by
  pointwise [val_main_v20, val_main_v19, val_main_v18, val_main_v17, val_main_v16, val_main_v15, val_main_v14, val_main_v13, val_main_v12, val_main_v11, val_main_v10, val_main_v9, val_main_v8, v7_at, val_main_cst_2]
  rfl
theorem v21_at (i : Fin 5632) : val_main_v21 (F := Ideal) x0 x1 x2 x3 x5 (ix3 0 s i) = us x0 x1 x2 x3 x5 s i := by
  pointwise [val_main_v21, v20_at]
  rfl
theorem v22_at (f : Fin 2816) : val_main_v22 (F := Ideal) x0 x1 x2 x3 x5 (ix3 0 s f) = us x0 x1 x2 x3 x5 s ⟨f.val, by omega⟩ := by
  pointwise [val_main_v22, v21_at]
theorem v23_at (f : Fin 2816) : val_main_v23 (F := Ideal) x0 x1 x2 x3 x5 (ix3 0 s f) = us x0 x1 x2 x3 x5 s ⟨2816 + f.val, by omega⟩ := by
  pointwise [val_main_v23, v21_at]
theorem v28_at (f : Fin 2816) : val_main_v28 (F := Ideal) x0 x1 x2 x3 x5 (ix3 0 s f) = act x0 x1 x2 x3 x5 s f := by
  pointwise [val_main_v28, val_main_v27, v22_at, v23_at, val_main_call0_v5, val_main_call0_v4, val_main_call0_cst_0, val_main_call0_v3, val_main_call0_v2, val_main_call0_cst, val_main_call0_v1, val_main_call0_v0]
  rfl
theorem v32_at (j : Fin 1024) : val_main_v32 (F := Ideal) x0 x1 x2 x3 x4 x5 x6 (ix3 0 s j) = xo x0 x1 x2 x3 x4 x5 x6 s j := by
  pointwise [val_main_v32, val_main_v31, val_main_v30, val_main_v29, v28_at, val_main_v26, val_main_v25, val_main_v24, val_main_cst_3]
  rfl
theorem v39_at (z : Fin 1) : val_main_v39 (F := Ideal) x0 x1 x2 x3 x4 x5 x6 (ix3 0 s z) = ms (xo x0 x1 x2 x3 x4 x5 x6 s) := by
  pointwise [val_main_v39, val_main_v38, val_main_v37, val_main_v36, val_main_v35, val_main_v34, val_main_v33, v32_at, val_main_cst_4, val_main_cst_5, val_main_cst_6]
  rfl
theorem v40_at (z : Fin 1) : val_main_v40 (F := Ideal) x0 x1 x2 x3 x4 x5 x6 (ix3 0 s z) = rr (xo x0 x1 x2 x3 x4 x5 x6 s) := by
  pointwise [val_main_v40, v39_at]
  rfl
theorem v45_at (j : Fin 1024) : val_main_v45 (F := Ideal) x0 x1 x2 x3 x4 x5 x6 (ix3 0 s j) = xo x0 x1 x2 x3 x4 x5 x6 s j * rr (xo x0 x1 x2 x3 x4 x5 x6 s) := by
  pointwise [val_main_v45, v32_at, val_main_v44, v40_at]
theorem v49_at (j : Fin 1024) : val_main_v49 (F := Ideal) x0 x1 x2 x3 x4 x5 x6 x7 x8 (ix3 0 s j) = er x0 x1 x2 x3 x4 x5 x6 x7 x8 s j := by
  pointwise [val_main_v49, val_main_v48, v45_at, val_main_v47, val_main_v46]
  rfl
/-- The factor of the loss: one half over the features, twice the error. -/
def lossf : EReal := Ideal.div half (Ideal.ofBits .f32 0x44800000#32)
def two : EReal := Ideal.ofBits .f32 0x40000000#32
theorem v63_at (j : Fin 1024) : val_main_v63 (F := Ideal) x0 x1 x2 x3 x4 x5 x6 x7 x8 (ix3 0 s j) = lossf * (two * er x0 x1 x2 x3 x4 x5 x6 x7 x8 s j) := by
  pointwise [val_main_v63, val_main_v62, val_main_v61, val_main_v60, val_main_v59, val_main_v58, val_main_v52, val_main_v51, v49_at, val_main_cst_8, val_main_cst_13, val_main_cst_14, val_main_cst_15]
  rfl

theorem inv_eq : inv1024 = ((1 / 1024 : ℝ) : EReal) := by
  simp [inv1024, Ideal.ofBits, Ideal.ieee, -EReal.coe_mul]
  norm_num
theorem two_half : lossf * two = inv1024 := by
  have h : half = ((1 / 2 : ℝ) : EReal) := half_eq
  have t : two = ((2 : ℝ) : EReal) := by
    simp [two, Ideal.ofBits, Ideal.ieee, -EReal.coe_mul]
    norm_num
  rw [lossf, h, t, inv_eq, ofBits_1024, Ideal.div_coe (show (1024 : ℝ) ≠ 0 by norm_num), ← EReal.coe_mul, ← EReal.coe_mul]
  norm_num
theorem v63_at' (j : Fin 1024) : val_main_v63 (F := Ideal) x0 x1 x2 x3 x4 x5 x6 x7 x8 (ix3 0 s j) = er x0 x1 x2 x3 x4 x5 x6 x7 x8 s j * inv1024 := by
  rw [v63_at, ← mul_assoc, two_half, mul_comm]
theorem v68_at (j : Fin 1024) : val_main_v68 (F := Ideal) x0 x1 x2 x3 x4 x5 x6 x7 x8 (ix3 0 s j) = er x0 x1 x2 x3 x4 x5 x6 x7 x8 s j * inv1024 * gs x7 j := by
  pointwise [val_main_v68, v63_at', val_main_v67, val_main_v46]
  rfl

/-! The results. -/

theorem v102_at (k : Fin 1024) : val_main_v102 (F := Ideal) x0 x1 x2 x3 (ix2 s k) = hs x0 x1 x2 x3 s k := by
  pointwise [val_main_v102, val_main_v101, v20_at]
theorem v104_at (i : Fin 5632) : val_main_v104 (F := Ideal) x0 x1 x2 x3 x5 (ix2 s i) = us x0 x1 x2 x3 x5 s i := by
  pointwise [val_main_v104, val_main_v103, v21_at]
theorem v94_at (j : Fin 1024) : val_main_v94 (F := Ideal) x0 x1 x2 x3 x4 x5 x6 (ix3 0 s j) = xo x0 x1 x2 x3 x4 x5 x6 s j * rr (xo x0 x1 x2 x3 x4 x5 x6 s) := by
  pointwise [val_main_v94, val_main_v93, val_main_v92, val_main_v91, val_main_v90, val_main_v89, val_main_v88, val_main_v87, val_main_v86, val_main_v85, v32_at, val_main_cst_21, val_main_cst_22, val_main_cst_23]
  rfl
theorem v98_at (j : Fin 1024) : val_main_v98 (F := Ideal) x0 x1 x2 x3 x4 x5 x6 x7 x8 (ix3 0 s j) = er x0 x1 x2 x3 x4 x5 x6 x7 x8 s j := by
  pointwise [val_main_v98, val_main_v97, v94_at, val_main_v96, val_main_v95]
  rfl
theorem v100_at (j : Fin 1024) : val_main_v100 (F := Ideal) x0 x1 x2 x3 x4 x5 x6 x7 x8 (ix2 0 j)
    = ∑ s, er x0 x1 x2 x3 x4 x5 x6 x7 x8 s j * er x0 x1 x2 x3 x4 x5 x6 x7 x8 s j := by
  pointwise [val_main_v100, val_main_v99, v98_at, val_main_cst_24]
theorem v65_at (j : Fin 1024) : val_main_v65 (F := Ideal) x0 x1 x2 x3 x4 x5 x6 x7 x8 (ix2 0 j)
    = ∑ s, er x0 x1 x2 x3 x4 x5 x6 x7 x8 s j * inv1024 * (xo x0 x1 x2 x3 x4 x5 x6 s j * rr (xo x0 x1 x2 x3 x4 x5 x6 s)) := by
  pointwise [val_main_v65, val_main_v64, v45_at, v63_at', val_main_cst_16]
  exact Finset.sum_congr rfl fun s _ => mul_comm _ _
theorem v106_at (j : Fin 1024) : val_main_v106 (F := Ideal) x0 x1 x2 x3 x4 x5 x6 x7 x8 (ix2 0 j)
    = ∑ s, er x0 x1 x2 x3 x4 x5 x6 x7 x8 s j * inv1024 * (xo x0 x1 x2 x3 x4 x5 x6 s j * rr (xo x0 x1 x2 x3 x4 x5 x6 s)) := by
  pointwise [val_main_v106]
  refine (unit_sum01 _ _ _ j).trans ?_
  pointwise [val_main_v66, v65_at, val_main_cst_17]

theorem v77_at (z : Fin 1) : val_main_v77 (F := Ideal) x0 x1 x2 x3 x4 x5 x6 x7 x8 (ix3 0 s z)
    = fac (xo x0 x1 x2 x3 x4 x5 x6 s) (fun k => er x0 x1 x2 x3 x4 x5 x6 x7 x8 s k * inv1024 * gs x7 k) := by
  pointwise [val_main_v77, val_main_v76, val_main_v75, val_main_v72, val_main_v71, val_main_v70, v32_at, v68_at, val_main_v43, val_main_v42, val_main_v41, v40_at, v39_at,
    val_main_cst_7, val_main_cst_18, val_main_cst_19]
  rfl
theorem v78_at : val_main_v78 (F := Ideal) x0 x1 x2 x3 x4 x5 x6 x7 x8 (ix1 s)
    = fac (xo x0 x1 x2 x3 x4 x5 x6 s) (fun k => er x0 x1 x2 x3 x4 x5 x6 x7 x8 s k * inv1024 * gs x7 k) := by
  refine (unit_sum02 _ _ _ s).trans ?_
  rw [v77_at]
  pointwise [val_main_cst_20]

/-- Every argument finite, every value of the layer is. -/
theorem hs_fin (hx : ∀ i, Fin1 (x0 i)) (hg : ∀ i, Fin1 (x1 i)) (hsh : ∀ i, Fin1 (x2 i)) (hsc : ∀ i, Fin1 (x3 i)) (k : Fin 1024) : Fin1 (hs x0 x1 x2 x3 s k) :=
  ((((hx _).mul (Fin1.rr fun k => hx _)).mul (hg _)).mul (Fin1.one.add (hsc _))).add (hsh _)
theorem us_fin (hx : ∀ i, Fin1 (x0 i)) (hg : ∀ i, Fin1 (x1 i)) (hsh : ∀ i, Fin1 (x2 i)) (hsc : ∀ i, Fin1 (x3 i)) (hw : ∀ i, Fin1 (x5 i)) (i : Fin 5632) :
    Fin1 (us x0 x1 x2 x3 x5 s i) :=
  Fin1.sum fun k => (hs_fin x0 x1 x2 x3 s hx hg hsh hsc k).mul (hw _)
theorem xo_fin (hx : ∀ i, Fin1 (x0 i)) (hg : ∀ i, Fin1 (x1 i)) (hsh : ∀ i, Fin1 (x2 i)) (hsc : ∀ i, Fin1 (x3 i)) (hgt : ∀ i, Fin1 (x4 i)) (hw : ∀ i, Fin1 (x5 i))
    (hd : ∀ i, Fin1 (x6 i)) (j : Fin 1024) : Fin1 (xo x0 x1 x2 x3 x4 x5 x6 s j) :=
  (hx _).add ((Fin1.mul ⟨_, half_eq⟩ (hgt _)).mul (Fin1.sum fun f => (((us_fin x0 x1 x2 x3 x5 s hx hg hsh hsc hw _).mul (us_fin x0 x1 x2 x3 x5 s hx hg hsh hsc hw _).lg).mul
    (us_fin x0 x1 x2 x3 x5 s hx hg hsh hsc hw _)).mul (hd _)))

theorem v105_at (hx : ∀ i, Fin1 (x0 i)) (hg : ∀ i, Fin1 (x1 i)) (hsh : ∀ i, Fin1 (x2 i)) (hsc : ∀ i, Fin1 (x3 i)) (hgt : ∀ i, Fin1 (x4 i)) (hw : ∀ i, Fin1 (x5 i))
    (hd : ∀ i, Fin1 (x6 i)) (hgf : ∀ i, Fin1 (x7 i)) (ht : ∀ i, Fin1 (x8 i)) (j : Fin 1024) :
    val_main_v105 (F := Ideal) x0 x1 x2 x3 x4 x5 x6 x7 x8 (ix2 s j)
      = hand (xo x0 x1 x2 x3 x4 x5 x6 s) (fun k => er x0 x1 x2 x3 x4 x5 x6 x7 x8 s k * inv1024 * gs x7 k) j := by
  have fx := xo_fin x0 x1 x2 x3 x4 x5 x6 s hx hg hsh hsc hgt hw hd
  have fi : Fin1 inv1024 := ⟨_, inv_eq⟩
  have h := hand_eq (xo x0 x1 x2 x3 x4 x5 x6 s) (fun k => er x0 x1 x2 x3 x4 x5 x6 x7 x8 s k * inv1024 * gs x7 k) fx
    (fun k => (((((fx k).mul (Fin1.rr fx)).mul (hgf _)).sub (ht _)).mul fi).mul (hgf _)) 0 j
  rw [zero_add, zero_add] at h
  refine Eq.trans ?_ h.symm
  pointwise [val_main_v105, val_main_v84, val_main_v83, val_main_v82, val_main_v81, val_main_v80, val_main_v79, v78_at, val_main_v74, v68_at, val_main_v73, v40_at, v32_at]

/-! The kernel's values are the reference's where every argument is finite. -/

section
open Cert.KernelFfnIdeal.Value (argX argG argSh argSc argGt argW argWd argGf argT)
variable (m : (ℓ : Loc Cert.KernelFfnIdeal.nD Cert.KernelFfnIdeal.τ Cert.KernelFfnIdeal.sig) → Buf (Elt Ideal) ℓ) (c : Dev Cert.KernelFfnIdeal.nD)

theorem us_eq (i : Fin 5632) : Cert.KernelFfnIdeal.Value.us m c s i = us (argX m c) (argG m c) (argSh m c) (argSc m c) (argW m c) s i := rfl
theorem xo_eq (hx : ∀ i, Fin1 (argX m c i)) (hg : ∀ i, Fin1 (argG m c i)) (hsh : ∀ i, Fin1 (argSh m c i)) (hsc : ∀ i, Fin1 (argSc m c i)) (hw : ∀ i, Fin1 (argW m c i)) :
    Cert.KernelFfnIdeal.Value.xo m c s = xo (argX m c) (argG m c) (argSh m c) (argSc m c) (argGt m c) (argW m c) (argWd m c) s := by
  funext j
  refine congrArg₂ (· + ·) rfl (congrArg₂ (· * ·) rfl (Finset.sum_congr rfl fun f _ => congrArg₂ (· * ·) ?_ rfl))
  exact congrArg₂ (· * ·) (congrArg₂ (· * ·) rfl (sg_eq (us_fin _ _ _ _ _ s hx hg hsh hsc hw _))) rfl
theorem er_eq (hx : ∀ i, Fin1 (argX m c i)) (hg : ∀ i, Fin1 (argG m c i)) (hsh : ∀ i, Fin1 (argSh m c i)) (hsc : ∀ i, Fin1 (argSc m c i)) (hw : ∀ i, Fin1 (argW m c i)) (j : Fin 1024) :
    Cert.KernelFfnIdeal.Value.er m c s j = er (argX m c) (argG m c) (argSh m c) (argSc m c) (argGt m c) (argW m c) (argWd m c) (argGf m c) (argT m c) s j := by
  rw [Cert.KernelFfnIdeal.Value.er, xo_eq s m c hx hg hsh hsc hw]
  rfl
theorem dxo_eq (hx : ∀ i, Fin1 (argX m c i)) (hg : ∀ i, Fin1 (argG m c i)) (hsh : ∀ i, Fin1 (argSh m c i)) (hsc : ∀ i, Fin1 (argSc m c i)) (hw : ∀ i, Fin1 (argW m c i)) :
    Cert.KernelFfnIdeal.Value.dxo m c s = hand (xo (argX m c) (argG m c) (argSh m c) (argSc m c) (argGt m c) (argW m c) (argWd m c) s) (fun k => er (argX m c) (argG m c) (argSh m c) (argSc m c) (argGt m c) (argW m c) (argWd m c) (argGf m c) (argT m c) s k * inv1024 * gs (argGf m c) k) := by
  funext j
  rw [Cert.KernelFfnIdeal.Value.dxo, xo_eq s m c hx hg hsh hsc hw, funext (er_eq s m c hx hg hsh hsc hw)]
theorem tl_eq (hx : ∀ i, Fin1 (argX m c i)) (hg : ∀ i, Fin1 (argG m c i)) (hsh : ∀ i, Fin1 (argSh m c i)) (hsc : ∀ i, Fin1 (argSc m c i)) (hw : ∀ i, Fin1 (argW m c i)) (j : Fin 1024) :
    Cert.KernelFfnIdeal.Value.tl m c s j = er (argX m c) (argG m c) (argSh m c) (argSc m c) (argGt m c) (argW m c) (argWd m c) (argGf m c) (argT m c) s j * er (argX m c) (argG m c) (argSh m c) (argSc m c) (argGt m c) (argW m c) (argWd m c) (argGf m c) (argT m c) s j := by
  rw [Cert.KernelFfnIdeal.Value.tl, er_eq s m c hx hg hsh hsc hw]
theorem tg_eq (hx : ∀ i, Fin1 (argX m c i)) (hg : ∀ i, Fin1 (argG m c i)) (hsh : ∀ i, Fin1 (argSh m c i)) (hsc : ∀ i, Fin1 (argSc m c i)) (hw : ∀ i, Fin1 (argW m c i)) (j : Fin 1024) :
    Cert.KernelFfnIdeal.Value.tg m c s j = er (argX m c) (argG m c) (argSh m c) (argSc m c) (argGt m c) (argW m c) (argWd m c) (argGf m c) (argT m c) s j * inv1024 * (xo (argX m c) (argG m c) (argSh m c) (argSc m c) (argGt m c) (argW m c) (argWd m c) s j * rr (xo (argX m c) (argG m c) (argSh m c) (argSc m c) (argGt m c) (argW m c) (argWd m c) s)) := by
  rw [Cert.KernelFfnIdeal.Value.tg, er_eq s m c hx hg hsh hsc hw, xo_eq s m c hx hg hsh hsc hw]
end

end Cert.ReferenceFfnIdeal.Value

end
-- ==== Proof.Gate.Pre.lean ====
module

public import proofs.«01_k».proof.Proof.Norm.Pre
public import proofs.«01_k».proof.Pre_ffn_finite
public import proofs.«01_k».proof.Pre_down_finite

@[expose] public section

set_option maxRecDepth 16384

noncomputable section

namespace Cert.Norm

open Idealize.ShloMosaic

open Cert.Pre_ffn_finite in
/-- What `ffn_finite` says of the arguments. -/
theorem ffn_pre [Cert.Pre_ffn_finite.Facts] (x : FVec Ideal S1x8192x1024 .f32) (g : FVec Ideal S1024 .f32) (sh sc gt : FVec Ideal S1x1024 .f32) (w : FVec Ideal S1024x5632 .f32)
    (d : FVec Ideal S2816x1024 .f32) (gf : FVec Ideal S1024 .f32) (t : FVec Ideal S1x8192x1024 .f32) (j : Shape.Idx S_)
    (e : Cert.Pre_ffn_finite.fn (F := Ideal) x g sh sc gt w d gf t j = 1#1) :
    (∀ i, Fin1 (x i)) ∧ (∀ i, Fin1 (g i)) ∧ (∀ i, Fin1 (sh i)) ∧ (∀ i, Fin1 (sc i)) ∧ (∀ i, Fin1 (gt i)) ∧ (∀ i, Fin1 (w i)) ∧ (∀ i, Fin1 (d i)) ∧ (∀ i, Fin1 (gf i)) ∧ ∀ i, Fin1 (t i) := by
  unfold Cert.Pre_ffn_finite.fn Cert.Pre_ffn_finite.fn_part1 Cert.Pre_ffn_finite.fn_part2 at e
  obtain ⟨e, e9⟩ := andi_split _ _ _ e
  obtain ⟨e, e8⟩ := andi_split _ _ _ e
  obtain ⟨e, e7⟩ := andi_split _ _ _ e
  obtain ⟨e, e6⟩ := andi_split _ _ _ e
  obtain ⟨e, e5⟩ := andi_split _ _ _ e
  obtain ⟨e, e4⟩ := andi_split _ _ _ e
  obtain ⟨e, e3⟩ := andi_split _ _ _ e
  obtain ⟨e1, e2⟩ := andi_split _ _ _ e
  exact ⟨fin_of_all _ _ (fun _ => top_f32) _ _ _ _ e1, fin_of_all _ _ (fun _ => top_f32) _ _ _ _ e2, fin_of_all _ _ (fun _ => top_f32) _ _ _ _ e3,
    fin_of_all _ _ (fun _ => top_f32) _ _ _ _ e4, fin_of_all _ _ (fun _ => top_f32) _ _ _ _ e5, fin_of_all _ _ (fun _ => top_f32) _ _ _ _ e6,
    fin_of_all _ _ (fun _ => top_f32) _ _ _ _ e7, fin_of_all _ _ (fun _ => top_f32) _ _ _ _ e8, fin_of_all _ _ (fun _ => top_f32) _ _ _ _ e9⟩

open Cert.Pre_down_finite in
/-- What `down_finite` says of the arguments. -/
theorem down_pre [Cert.Pre_down_finite.Facts] (h : FVec Ideal S1x8192x1024 .f32) (gt : FVec Ideal S1x1024 .f32) (w : FVec Ideal S1024x5632 .f32)
    (d : FVec Ideal S2816x1024 .f32) (dx : FVec Ideal S1x8192x1024 .f32) (j : Shape.Idx S_)
    (e : Cert.Pre_down_finite.fn (F := Ideal) h gt w d dx j = 1#1) :
    (∀ i, Fin1 (h i)) ∧ (∀ i, Fin1 (gt i)) ∧ (∀ i, Fin1 (w i)) ∧ (∀ i, Fin1 (d i)) ∧ ∀ i, Fin1 (dx i) := by
  unfold Cert.Pre_down_finite.fn Cert.Pre_down_finite.fn_part1 at e
  obtain ⟨e, e5⟩ := andi_split _ _ _ e
  obtain ⟨e, e4⟩ := andi_split _ _ _ e
  obtain ⟨e, e3⟩ := andi_split _ _ _ e
  obtain ⟨e1, e2⟩ := andi_split _ _ _ e
  exact ⟨fin_of_all _ _ (fun _ => top_f32) _ _ _ _ e1, fin_of_all _ _ (fun _ => top_f32) _ _ _ _ e2, fin_of_all _ _ (fun _ => top_f32) _ _ _ _ e3,
    fin_of_all _ _ (fun _ => top_f32) _ _ _ _ e4, fin_of_all _ _ (fun _ => top_f32) _ _ _ _ e5⟩

end Cert.Norm

end
-- ==== Proof.Norm.UpTile.lean ====
module

public import Idealize.ShloMosaic.Lib.Pointwise
public import proofs.«01_k».proof.Proof.Norm.Row
public import proofs.«01_k».proof.Proof.Gen.KernelUpIdeal.Value

@[expose] public section

set_option maxRecDepth 16384

noncomputable section

namespace Cert.KernelUpIdeal.Value

open Cert.KernelUpIdeal Cert.KernelUpIdeal.Gen Idealize.ShloMosaic Idealize.ShloMosaic.TcCoe Idealize.SL.Sem
open Idealize.ShloMosaic.Pipeline (Dat)

open Cert.Norm

/-- A row of a block. -/
def brow (v : FVec Ideal S256x1024 .f32) (r : Fin 256) (k : Fin 1024) : EReal := v (ix2 r k)
def bvec (v : FVec Ideal S1x1024 .f32) (k : Fin 1024) : EReal := v (ix2 0 k)

theorem pay14_at (v : FVec Ideal S256x1024 .f32) (r : Fin 256) (z : Fin 1) : k0_pay14 (F := Ideal) (k0_pay13 v) (ix2 r z) = rr (brow v r) := by
  pointwise [k0_pay14, k0_pay13, k0_pay12]
  rfl
theorem pay22_at (v : FVec Ideal S256x1024 .f32) (r : Fin 256) (z : Fin 1) : k0_pay22 (F := Ideal) (k0_pay21 v) (ix2 r z) = rr (brow v r) := by
  pointwise [k0_pay22, k0_pay21]
  rfl
theorem pay15_at (v : FVec Ideal S256x1024 .f32) (r : Fin 256) (j : Fin 1024) :
    k0_pay15 (F := Ideal) (k0_pay12 v) (k0_pay13 v) (ix2 r j) = brow v r j * rr (brow v r) := by
  pointwise [k0_pay15, k0_pay12, pay14_at]
  rfl
theorem pay23_at (v : FVec Ideal S256x1024 .f32) (r : Fin 256) (j : Fin 1024) :
    k0_pay23 (F := Ideal) (k0_pay21 v) (ix2 r j) = brow v r j * rr (brow v r) := by
  pointwise [k0_pay23, pay22_at]
  pointwise [k0_pay21]
  rfl
theorem pay18_at (s : FVec Ideal S1x1024 .f32) (u : FVec Ideal S256x1024 .f32) (r : Fin 256) (j : Fin 1024) :
    k0_pay18 (F := Ideal) (k0_pay8 s) u (ix2 r j) = brow u r j * (1 + bvec s j) := by
  pointwise [k0_pay18, k0_pay8]
  rfl
theorem pay25_at (s : FVec Ideal S1x1024 .f32) (u : FVec Ideal S256x1024 .f32) (r : Fin 256) (j : Fin 1024) :
    k0_pay25 (F := Ideal) (k0_pay8 s) u (ix2 r j) = brow u r j * (1 + bvec s j) := by
  pointwise [k0_pay25, k0_pay8]
  rfl

theorem pay20_at (g s : FVec Ideal S1x1024 .f32) (u x o : FVec Ideal S256x1024 .f32) (r : Fin 256) (j : Fin 1024) :
    k0_pay20 (F := Ideal) (k0_pay7 g) (k0_pay8 s) u (k0_pay12 x) (k0_pay13 x) o (ix2 r j)
      = o (ix2 r j) + hand (brow x r) (fun k => brow u r k * (1 + bvec s k) * bvec g k) j := by
  pointwise [k0_pay20, pay14_at, pay15_at, pay18_at, k0_pay7]
  rfl
theorem pay27_at (g s : FVec Ideal S1x1024 .f32) (u x o : FVec Ideal S256x1024 .f32) (r : Fin 256) (j : Fin 1024) :
    k0_pay27 (F := Ideal) (k0_pay7 g) (k0_pay8 s) u (k0_pay21 x) o (ix2 r j)
      = o (ix2 r j) + hand (brow x r) (fun k => brow u r k * (1 + bvec s k) * bvec g k) j := by
  pointwise [k0_pay27, pay22_at, pay23_at, pay25_at, k0_pay7]
  rfl

theorem sumsh_at (u0 u1 : FVec Ideal S256x1024 .f32) (p : FVec Ideal S1x1024 .f32) (j : Fin 1024) :
    k0_pay28 (F := Ideal) (k0_pay16 k0_pay9 u0) u1 p (ix2 0 j) = p (ix2 0 j) + (∑ r, brow u0 r j + ∑ r, brow u1 r j) := by
  pointwise [k0_pay28, k0_pay16, k0_pay9]
  rfl
theorem sumsc_at (g : FVec Ideal S1x1024 .f32) (u0 u1 x0 x1 : FVec Ideal S256x1024 .f32) (p : FVec Ideal S1x1024 .f32) (j : Fin 1024) :
    k0_pay1 (F := Ideal) (k0_pay24 (k0_pay7 g) (k0_pay17 (k0_pay7 g) k0_pay10 u0 (k0_pay12 x0) (k0_pay13 x0)) u1 (k0_pay21 x1)) p (ix2 0 j)
      = p (ix2 0 j) + (∑ r, termsc (brow u0 r) (brow x0 r) (bvec g) j + ∑ r, termsc (brow u1 r) (brow x1 r) (bvec g) j) := by
  pointwise [k0_pay1, k0_pay24, k0_pay17, k0_pay10, pay15_at, pay23_at, k0_pay7]
  rfl
theorem sumg_at (s : FVec Ideal S1x1024 .f32) (u0 u1 x0 x1 : FVec Ideal S256x1024 .f32) (p : FVec Ideal S1x1024 .f32) (j : Fin 1024) :
    k0_pay2 (F := Ideal) (k0_pay26 (k0_pay8 s) (k0_pay19 (k0_pay8 s) k0_pay11 u0 (k0_pay12 x0) (k0_pay13 x0)) u1 (k0_pay21 x1)) p (ix2 0 j)
      = p (ix2 0 j) + (∑ r, termg (brow u0 r) (brow x0 r) (bvec s) j + ∑ r, termg (brow u1 r) (brow x1 r) (bvec s) j) := by
  pointwise [k0_pay2, k0_pay26, k0_pay19, k0_pay11, pay15_at, pay23_at, pay18_at, pay25_at]
  rfl
theorem zsh_at (i : S1x1024.Idx) : k0_pay3 (F := Ideal) i = 0 := by
  pointwise [k0_pay3]
theorem zsc_at (i : S1x1024.Idx) : k0_pay4 (F := Ideal) i = 0 := by
  pointwise [k0_pay4]
theorem zg_at (i : S1x1024.Idx) : k0_pay5 (F := Ideal) i = 0 := by
  pointwise [k0_pay5]

/-- The product that feeds the norm's gradient: its two halves of the contracted columns. -/
theorem prod_at (a0 a1 : FVec Ideal S1x512x2816 .bf16) (w0 w1 : FVec Ideal S2816x1024 .bf16) (r : Fin 512) (j : Fin 1024) :
    k0_pay6 (F := Ideal) a0 w0 a1 w1 (ix2 r j)
      = (∑ k : Fin 2816, a0 (ix3 0 r k) * w0 (ix2 k j)) + ∑ k : Fin 2816, a1 (ix3 0 r k) * w1 (ix2 k j) := by
  pointwise [k0_pay6]

end Cert.KernelUpIdeal.Value

end
-- ==== Proof.Norm.UpBlocks.lean ====
module

public import Idealize.ShloMosaic.Lib.Pipeline.ValueKit
public import Idealize.ShloMosaic.Lib.Pipeline.ValueKit
public import proofs.«01_k».proof.Proof.Norm.UpTile

@[expose] public section

set_option maxRecDepth 16384

noncomputable section

namespace Cert.KernelUpIdeal.Value

open Cert.KernelUpIdeal Cert.KernelUpIdeal.Gen Idealize.ShloMosaic Idealize.ShloMosaic.TcCoe Idealize.SL.Sem
open Idealize.ShloMosaic.Pipeline (Dat)

open Cert.Norm

/-- The grid runs along the rows: which block of its array every window moves at point `t`. -/
theorem idx : ∀ t : Fin cfg0.N, win0_0.index t = ![0, t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩
/-- Row `r` of the upper and of the lower half of a tile. -/
def lo (r : Fin 256) : Fin 512 := ⟨r.val, by omega⟩
def hi (r : Fin 256) : Fin 512 := ⟨256 + r.val, by omega⟩

variable (m : (ℓ : Loc nD τ sig) → Buf (Elt Ideal) ℓ) (c : Dev nD) (t : Fin cfg0.N)

/-- The arguments as launched. -/
abbrev argX : FVec Ideal S1x8192x1024 .f32 := m ((c : Thread nD τ).loc main_arg0)
abbrev argG : FVec Ideal S1024 .f32 := m ((c : Thread nD τ).loc main_arg1)
abbrev argSc : FVec Ideal S1x1024 .f32 := m ((c : Thread nD τ).loc main_arg3)
abbrev argW : FVec Ideal S1024x5632 .f32 := m ((c : Thread nD τ).loc main_arg4)
abbrev argD : FVec Ideal S1x8192x1024 .f32 := m ((c : Thread nD τ).loc main_arg5)
abbrev argU : FVec Ideal S1x8192x5632 .bf16 := m ((c : Thread nD τ).loc main_arg6)

/-- The rows of `x`, of the cotangent that comes past the product, and the two vectors. -/
def xs (X : FVec Ideal S1x8192x1024 .f32) (s : Fin 8192) (k : Fin 1024) : EReal := X (ix3 0 s k)
def gs (G : FVec Ideal S1024 .f32) (k : Fin 1024) : EReal := G (ix1 k)
/-- The cotangent of the modulated norm: the product's own. -/
def us (U : FVec Ideal S1x8192x5632 .bf16) (W : FVec Ideal S1024x5632 .f32) (s : Fin 8192) (k : Fin 1024) : EReal :=
  ∑ i : Fin 5632, U (ix3 0 s i) * W (ix2 k i)

theorem entry_x : V m c main_v9 = shapeCast S8192x1024 (argX m c) shapeCasts_S1x8192x1024_S8192x1024 := by
  simp only [V, hostOps0]
  entry_read
  rfl
theorem entry_d : V m c main_v11 = shapeCast S8192x1024 (argD m c) shapeCasts_S1x8192x1024_S8192x1024 := by
  simp only [V, hostOps0]
  entry_read
  rfl
theorem entry_g : V m c main_v10 = broadcastInDim S1x1024 ![1] bcast_S1024_S1x1024_1 (argG m c) := by
  simp only [V, hostOps0]
  entry_read
  rfl
theorem entry_w : V m c main_v8 = truncf (F := Ideal) .bf16 (transpose S5632x1024 [1, 0] (argW m c) transposes_S1024x5632_S5632x1024_1_0) bitsLt_bf16_f32 := by
  simp only [V, hostOps0]
  entry_read
  rfl
theorem entry_u : V m c main_v6 = concatenate S2x8192x2816 0
    [⟨S1x8192x2816, broadcastInDim S1x8192x2816 ![1, 2] bcast_S8192x2816_S1x8192x2816_1_2 (shapeCast S8192x2816 (extractStridedSlice S1x8192x2816 ![0, 0, 0] (argU m c) slices_S1x8192x5632_S1x8192x2816_0_0_0) shapeCasts_S1x8192x2816_S8192x2816)⟩,
     ⟨S1x8192x2816, broadcastInDim S1x8192x2816 ![1, 2] bcast_S8192x2816_S1x8192x2816_1_2 (shapeCast S8192x2816 (extractStridedSlice S1x8192x2816 ![0, 0, 2816] (argU m c) slices_S1x8192x5632_S1x8192x2816_0_0_2816) shapeCasts_S1x8192x2816_S8192x2816)⟩]
    concatenates_S1x8192x2816_S1x8192x2816_S2x8192x2816_d0 := by
  simp only [V, hostOps0]
  entry_read
  rfl

theorem x_at (r : Fin 512) (k : Fin 1024) : iblk m c 2 t (ix2 r k) = xs (argX m c) (row t r) k := by
  refine Eq.trans (b := V m c main_v9 (ix2 (row t r) k)) ?_ ?_
  · blk_point [iblk, idx t, row]
  · rw [entry_x]
    pointwise []
    rfl
theorem d_at (r : Fin 512) (k : Fin 1024) : iblk m c 5 t (ix2 r k) = xs (argD m c) (row t r) k := by
  refine Eq.trans (b := V m c main_v11 (ix2 (row t r) k)) ?_ ?_
  · blk_point [iblk, idx t, row]
  · rw [entry_d]
    pointwise []
    rfl
theorem g_at (k : Fin 1024) : bvec (iblk m c 3 t) k = gs (argG m c) k := by
  refine Eq.trans (b := V m c main_v10 (ix2 0 k)) ?_ ?_
  · unfold bvec
    blk_point [iblk, idx t]
  · rw [entry_g]
    pointwise []
    rfl
theorem sc_at (k : Fin 1024) : bvec (iblk m c 4 t) k = bvec (argSc m c) k := by
  unfold bvec
  blk_point [iblk, V, idx t]
theorem w_at (i : Fin 5632) (k : Fin 1024) : iblk m c 1 t (ix2 i k) = argW m c (ix2 k i) := by
  refine Eq.trans (b := V m c main_v8 (ix2 i k)) ?_ ?_
  · blk_point [iblk, idx t]
  · rw [entry_w]
    pointwise []
theorem u0_at (r : Fin 512) (i : Fin 2816) : iblk m c 0 t (ix3 0 r i) = argU m c (ix3 0 (row t r) ⟨i.val, by omega⟩) := by
  refine Eq.trans (b := V m c main_v6 (ix3 0 (row t r) i)) ?_ ?_
  · blk_point [iblk, idx t, row]
  · rw [entry_u]
    pointwise []
theorem u1_at (r : Fin 512) (i : Fin 2816) : iblk m c 0 t (ix3 1 r i) = argU m c (ix3 0 (row t r) ⟨2816 + i.val, by omega⟩) := by
  refine Eq.trans (b := V m c main_v6 (ix3 1 (row t r) i)) ?_ ?_
  · blk_point [iblk, idx t, row]
  · rw [entry_u]
    pointwise []

end Cert.KernelUpIdeal.Value

end
-- ==== Proof.Norm.UpFinal.lean ====
module

public import Idealize.ShloMosaic.Lib.WritesUnit
public import proofs.«01_k».proof.Proof.Norm.UpBlocks

@[expose] public section

set_option maxRecDepth 16384

noncomputable section

namespace Cert.KernelUpIdeal.Value

open Cert.KernelUpIdeal Cert.KernelUpIdeal.Gen Idealize.ShloMosaic Idealize.ShloMosaic.TcCoe Idealize.SL.Sem
open Idealize.ShloMosaic.Pipeline (Dat)

open Cert.Norm

variable (m : (ℓ : Loc nD τ sig) → Buf (Elt Ideal) ℓ) (c : Dev nD) (t : Fin cfg0.N)

/-- The two halves of a tile, as the body loads them. -/
abbrev up (X : FVec Ideal S512x1024 .f32) : FVec Ideal S256x1024 .f32 :=
  View.ld (Val := Elt Ideal) (S := S512x1024) (e' := .f32) X (Rect.unit ![0, 0] ![256, 1024] inb_S512x1024_S256x1024_0_0)
abbrev dn (X : FVec Ideal S512x1024 .f32) : FVec Ideal S256x1024 .f32 :=
  View.ld (Val := Elt Ideal) (S := S512x1024) (e' := .f32) X (Rect.unit ![256, 0] ![256, 1024] inb_S512x1024_S256x1024_256_0)

theorem up_at (X : FVec Ideal S512x1024 .f32) (r : Fin 256) (k : Fin 1024) : up X (ix2 r k) = X (ix2 (lo r) k) := by
  unfold up lo
  pointwise []
theorem dn_at (X : FVec Ideal S512x1024 .f32) (r : Fin 256) (k : Fin 1024) : dn X (ix2 r k) = X (ix2 (hi r) k) := by
  unfold dn hi
  pointwise []

/-- The product of a tile, from the staged blocks. -/
abbrev prod : FVec Ideal S512x1024 .f32 :=
  k0_pay6 (F := Ideal) (View.ld (iblk m c 0 t) (Rect.unit ![0, 0, 0] ![1, 512, 2816] inb_S2x512x2816_S1x512x2816_0_0_0))
    (View.ld (iblk m c 1 t) (Rect.unit ![0, 0] ![2816, 1024] inb_S5632x1024_S2816x1024_0_0))
    (View.ld (iblk m c 0 t) (Rect.unit ![1, 0, 0] ![1, 512, 2816] inb_S2x512x2816_S1x512x2816_1_0_0))
    (View.ld (iblk m c 1 t) (Rect.unit ![2816, 0] ![2816, 1024] inb_S5632x1024_S2816x1024_2816_0))

theorem prod_tile (r : Fin 512) (k : Fin 1024) : prod m c t (ix2 r k) = us (argU m c) (argW m c) (row t r) k := by
  refine (prod_at _ _ _ _ r k).trans (Eq.trans (congrArg₂ (· + ·) (Finset.sum_congr rfl fun i _ => ?_) (Finset.sum_congr rfl fun i _ => ?_))
    (Fin.sum_univ_add (a := 2816) (b := 2816) (fun i : Fin 5632 => argU m c (ix3 0 (row t r) i) * argW m c (ix2 k i))).symm)
  · refine congrArg₂ (· * ·) (Eq.trans (b := iblk m c 0 t (ix3 0 r i)) ?_ (u0_at m c t r i)) (Eq.trans (b := iblk m c 1 t (ix2 ⟨i.val, by omega⟩ k)) ?_ (w_at m c t _ k))
    · pointwise []
    · pointwise []
  · refine congrArg₂ (· * ·) (Eq.trans (b := iblk m c 0 t (ix3 1 r i)) ?_ (u1_at m c t r i)) (Eq.trans (b := iblk m c 1 t (ix2 ⟨2816 + i.val, by omega⟩ k)) ?_ (w_at m c t _ k))
    · pointwise []
    · pointwise []

/-- The product read back from the scratch buffer, by halves. -/
theorem back_up {κ : Kind} {sp : Space} {sg : RefSig} (v : View sg κ sp S512x1024 .f32) (w : FVec Ideal S512x1024 .f32) (r : Fin 256) (k : Fin 1024) :
    (v.readCov (Val := Elt Ideal) [⟨Rect.unit ![0, 0] ![512, 1024] inb_S512x1024_S512x1024_0_0, w⟩] (Rect.unit (s := S512x1024) ![0, 0] ![256, 1024] inb_S512x1024_S256x1024_0_0).toLoadRect : FVec Ideal S256x1024 .f32) (ix2 r k) = w (ix2 (lo r) k) := by
  rw [View.readCov_eq_canon', View.canon_cons_unit_lit inb_S512x1024_S512x1024_0_0 _ _ (by decide)]
  exact up_at w r k
theorem back_dn {κ : Kind} {sp : Space} {sg : RefSig} (v : View sg κ sp S512x1024 .f32) (w : FVec Ideal S512x1024 .f32) (r : Fin 256) (k : Fin 1024) :
    (v.readCov (Val := Elt Ideal) [⟨Rect.unit ![0, 0] ![512, 1024] inb_S512x1024_S512x1024_0_0, w⟩] (Rect.unit (s := S512x1024) ![256, 0] ![256, 1024] inb_S512x1024_S256x1024_256_0).toLoadRect : FVec Ideal S256x1024 .f32) (ix2 r k) = w (ix2 (hi r) k) := by
  rw [View.readCov_eq_canon', View.canon_cons_unit_lit inb_S512x1024_S512x1024_0_0 _ _ (by decide)]
  exact dn_at w r k

theorem ulo {κ : Kind} {sp : Space} {sg : RefSig} (v : View sg κ sp S512x1024 .f32) (r : Fin 256) :
    brow (v.readCov (Val := Elt Ideal) [⟨Rect.unit ![0, 0] ![512, 1024] inb_S512x1024_S512x1024_0_0, prod m c t⟩] (Rect.unit (s := S512x1024) ![0, 0] ![256, 1024] inb_S512x1024_S256x1024_0_0).toLoadRect : FVec Ideal S256x1024 .f32) r = us (argU m c) (argW m c) (row t (lo r)) :=
  funext fun k => (back_up v _ r k).trans (prod_tile m c t _ k)
theorem uhi {κ : Kind} {sp : Space} {sg : RefSig} (v : View sg κ sp S512x1024 .f32) (r : Fin 256) :
    brow (v.readCov (Val := Elt Ideal) [⟨Rect.unit ![0, 0] ![512, 1024] inb_S512x1024_S512x1024_0_0, prod m c t⟩] (Rect.unit (s := S512x1024) ![256, 0] ![256, 1024] inb_S512x1024_S256x1024_256_0).toLoadRect : FVec Ideal S256x1024 .f32) r = us (argU m c) (argW m c) (row t (hi r)) :=
  funext fun k => (back_dn v _ r k).trans (prod_tile m c t _ k)
theorem xlo (r : Fin 256) : brow (up (iblk m c 2 t)) r = xs (argX m c) (row t (lo r)) :=
  funext fun k => (up_at _ r k).trans (x_at m c t _ k)
theorem xhi (r : Fin 256) : brow (dn (iblk m c 2 t)) r = xs (argX m c) (row t (hi r)) :=
  funext fun k => (dn_at _ r k).trans (x_at m c t _ k)
theorem gv : bvec (iblk m c 3 t) = gs (argG m c) := funext (g_at m c t)
theorem sv : bvec (iblk m c 4 t) = bvec (argSc m c) := funext (sc_at m c t)

theorem halves (f : Fin 512 → EReal) : ∑ r, f (lo r) + ∑ r, f (hi r) = ∑ r, f r := (Fin.sum_univ_add (a := 256) (b := 256) f).symm

/-- The three sums' terms and the rows of the first result, from the arguments. -/
def tsh (s : Fin 8192) (j : Fin 1024) : EReal := us (argU m c) (argW m c) s j
def tsc (s : Fin 8192) (j : Fin 1024) : EReal := termsc (us (argU m c) (argW m c) s) (xs (argX m c) s) (gs (argG m c)) j
def tg (s : Fin 8192) (j : Fin 1024) : EReal := termg (us (argU m c) (argW m c) s) (xs (argX m c) s) (bvec (argSc m c)) j
def ox (s : Fin 8192) (j : Fin 1024) : EReal :=
  outx (us (argU m c) (argW m c)) (xs (argX m c)) (xs (argD m c)) (gs (argG m c)) (bvec (argSc m c)) s j

theorem termsc_congr {u u' x x' g g' : Fin 1024 → EReal} (hu : u = u') (hx : x = x') (hg : g = g') (j : Fin 1024) : termsc u x g j = termsc u' x' g' j := by
  subst hu hx hg
  rfl
theorem termg_congr {u u' x x' g g' : Fin 1024 → EReal} (hu : u = u') (hx : x = x') (hg : g = g') (j : Fin 1024) : termg u x g j = termg u' x' g' j := by
  subst hu hx hg
  rfl
theorem two (f0 f1 : Fin 256 → EReal) (f : Fin 512 → EReal) (h0 : ∀ r, f0 r = f (lo r)) (h1 : ∀ r, f1 r = f (hi r)) (p q : EReal) (e : p = q) :
    p + (∑ r, f0 r + ∑ r, f1 r) = q + ∑ r, f r := by
  rw [← halves f, funext h0, funext h1, e]

theorem stepsh_B (h : ¬ t.val % 16 = 0) (j : Fin 1024) : (outsAt0 m c t.val t.isLt).2.1 (ix2 0 j)
    = (outsAt0 m c (t.val - 1) (Nat.lt_of_le_of_lt (Nat.sub_le _ _) t.isLt)).2.1 (ix2 0 j) + ∑ r : Fin 512, tsh m c (row t r) j := by
  rw [outsAt0_B m c t h]
  frame_out
  exact (sumsh_at _ _ _ j).trans (two _ _ (fun r => tsh m c (row t r) j) (fun r => congrFun (ulo m c t _ r) j) (fun r => congrFun (uhi m c t _ r) j) _ _ rfl)
theorem stepsc_B (h : ¬ t.val % 16 = 0) (j : Fin 1024) : (outsAt0 m c t.val t.isLt).2.2.1 (ix2 0 j)
    = (outsAt0 m c (t.val - 1) (Nat.lt_of_le_of_lt (Nat.sub_le _ _) t.isLt)).2.2.1 (ix2 0 j) + ∑ r : Fin 512, tsc m c (row t r) j := by
  rw [outsAt0_B m c t h]
  frame_out
  exact (sumsc_at _ _ _ _ _ _ j).trans (two _ _ (fun r => tsc m c (row t r) j) (fun r => termsc_congr (ulo m c t _ r) (xlo m c t r) (gv m c t) j)
    (fun r => termsc_congr (uhi m c t _ r) (xhi m c t r) (gv m c t) j) _ _ rfl)
theorem stepg_B (h : ¬ t.val % 16 = 0) (j : Fin 1024) : (outsAt0 m c t.val t.isLt).2.2.2 (ix2 0 j)
    = (outsAt0 m c (t.val - 1) (Nat.lt_of_le_of_lt (Nat.sub_le _ _) t.isLt)).2.2.2 (ix2 0 j) + ∑ r : Fin 512, tg m c (row t r) j := by
  rw [outsAt0_B m c t h]
  frame_out
  exact (sumg_at _ _ _ _ _ _ j).trans (two _ _ (fun r => tg m c (row t r) j) (fun r => termg_congr (ulo m c t _ r) (xlo m c t r) (sv m c t) j)
    (fun r => termg_congr (uhi m c t _ r) (xhi m c t r) (sv m c t) j) _ _ rfl)
theorem stepsh_A (h : t.val % 16 = 0) (j : Fin 1024) : (outsAt0 m c t.val t.isLt).2.1 (ix2 0 j) = 0 + ∑ r : Fin 512, tsh m c (row t r) j := by
  rw [outsAt0_A m c t h]
  frame_out
  exact (sumsh_at _ _ _ j).trans (two _ _ (fun r => tsh m c (row t r) j) (fun r => congrFun (ulo m c t _ r) j) (fun r => congrFun (uhi m c t _ r) j) _ _ (zsh_at _))
theorem stepsc_A (h : t.val % 16 = 0) (j : Fin 1024) : (outsAt0 m c t.val t.isLt).2.2.1 (ix2 0 j) = 0 + ∑ r : Fin 512, tsc m c (row t r) j := by
  rw [outsAt0_A m c t h]
  frame_out
  exact (sumsc_at _ _ _ _ _ _ j).trans (two _ _ (fun r => tsc m c (row t r) j) (fun r => termsc_congr (ulo m c t _ r) (xlo m c t r) (gv m c t) j)
    (fun r => termsc_congr (uhi m c t _ r) (xhi m c t r) (gv m c t) j) _ _ (zsc_at _))
theorem stepg_A (h : t.val % 16 = 0) (j : Fin 1024) : (outsAt0 m c t.val t.isLt).2.2.2 (ix2 0 j) = 0 + ∑ r : Fin 512, tg m c (row t r) j := by
  rw [outsAt0_A m c t h]
  frame_out
  exact (sumg_at _ _ _ _ _ _ j).trans (two _ _ (fun r => tg m c (row t r) j) (fun r => termg_congr (ulo m c t _ r) (xlo m c t r) (sv m c t) j)
    (fun r => termg_congr (uhi m c t _ r) (xhi m c t r) (sv m c t) j) _ _ (zg_at _))

theorem outx_tile {u x : Fin 1024 → EReal} {g s : Fin 1024 → EReal} {o : EReal} (q : Fin 8192) (j : Fin 1024) (hu : u = us (argU m c) (argW m c) q) (hx : x = xs (argX m c) q)
    (hg : g = gs (argG m c)) (hs : s = bvec (argSc m c)) (ho : o = xs (argD m c) q j) :
    o + hand x (fun k => u k * (1 + s k) * g k) j = ox m c q j := by
  subst hu hx hg hs ho
  rfl

theorem ox_congr {q q' : Fin 8192} {j j' : Fin 1024} (hq : q.val = q'.val) (hj : j.val = j'.val) : ox m c q j = ox m c q' j' := by
  obtain rfl := Fin.ext hq
  obtain rfl := Fin.ext hj
  rfl

/-- One point's rows of the first result. -/
theorem out6_at (y : S512x1024.Idx) : (outsAt0 m c t.val t.isLt).1 y = ox m c (row t (y 0)) (y 1) := by
  by_cases h : t.val % 16 = 0
  · rw [outsAt0_A m c t h]
    frame_out
    clear h
    canon_tiles x h
    case piece0 =>
      idx_vars x
      exact ((pay27_at _ _ _ _ _ x0 x1).trans (outx_tile m c (row t (hi x0)) x1 (uhi m c t _ x0) (xhi m c t x0) (gv m c t) (sv m c t) ((dn_at _ x0 x1).trans (d_at m c t _ x1)))).trans
        (ox_congr m c (congrArg (512 * t.val + ·) h0.symm) h1.symm)
    case piece1 =>
      idx_vars x
      exact ((pay20_at _ _ _ _ _ x0 x1).trans (outx_tile m c (row t (lo x0)) x1 (ulo m c t _ x0) (xlo m c t x0) (gv m c t) (sv m c t) ((up_at _ x0 x1).trans (d_at m c t _ x1)))).trans
        (ox_congr m c (congrArg (512 * t.val + ·) h0.symm) h1.symm)
  · rw [outsAt0_B m c t h]
    frame_out
    clear h
    canon_tiles x h
    case piece0 =>
      idx_vars x
      exact ((pay27_at _ _ _ _ _ x0 x1).trans (outx_tile m c (row t (hi x0)) x1 (uhi m c t _ x0) (xhi m c t x0) (gv m c t) (sv m c t) ((dn_at _ x0 x1).trans (d_at m c t _ x1)))).trans
        (ox_congr m c (congrArg (512 * t.val + ·) h0.symm) h1.symm)
    case piece1 =>
      idx_vars x
      exact ((pay20_at _ _ _ _ _ x0 x1).trans (outx_tile m c (row t (lo x0)) x1 (ulo m c t _ x0) (xlo m c t x0) (gv m c t) (sv m c t) ((up_at _ x0 x1).trans (d_at m c t _ x1)))).trans
        (ox_congr m c (congrArg (512 * t.val + ·) h0.symm) h1.symm)

theorem final6 : (dats m 0 c).arrAt 6 cfg0.N = fun i => ox m c (i 0) (i 1) :=
  (dats m 0 c).arrAt_eq_of_covers 6 _ (by decide +kernel) (fun t hf y => by
    rw [after0_6]
    refine (out6_at m c t _).trans (ox_congr m c ?_ ?_)
    · refine Eq.trans (b := 512 * t.val + (y 0).val) rfl ?_
      blk_simp [idx t]
      omega
    · blk_simp [idx t])

theorem sums {f : Fin 8192 → EReal} : (∑ p : Fin 16, ∑ r : Fin 512, f (row (p : Fin cfg0.N) r)) = ∑ s, f s := by
  refine Eq.trans ?_ (Fin.sum_univ_tiles 16 512 rfl _).symm
  refine Finset.sum_congr rfl fun p _ => Finset.sum_congr rfl fun r _ => congrArg f (Fin.ext ?_)
  show 512 * p.val + r.val = p.val * 512 + r.val
  omega

theorem row_idx (i : S1x1024.Idx) : i = ix2 0 (i 1) := by
  funext a
  fin_cases a
  · exact Fin.ext (by have := (i 0).isLt; show (i 0).val = 0; change (i 0).val < 1 at this; omega)
  · rfl

theorem final7 : (dats m 0 c).arrAt 7 cfg0.N = fun i => ∑ s, tsh m c s (i 1) :=
  (dats m 0 c).arrAt_eq_of_after_last 7 t0_15 (by decide +kernel) _ fun i => by
    refine (congrFun (after0_7 m c t0_15) i).trans ?_
    refine (Pipeline.eq_sum_fin_of_reset_step_apply_last (fun n h => (outsAt0 m c n h).2.1) 16 (fun _ => 0) (fun t i => ∑ r : Fin 512, tsh m c (row t r) (i 1))
      (fun t h i => by rw [row_idx i]; exact stepsh_A m c t h _) (fun t h i => by rw [row_idx i]; exact stepsh_B m c t h _) (by decide) t0_15 (by decide) i).trans ?_
    have e : (cfg0.win 7).arr.view.emb i = i := rfl
    rw [zero_add, e]
    exact sums (f := fun s => tsh m c s (i 1))
theorem final8 : (dats m 0 c).arrAt 8 cfg0.N = fun i => ∑ s, tsc m c s (i 1) :=
  (dats m 0 c).arrAt_eq_of_after_last 8 t0_15 (by decide +kernel) _ fun i => by
    refine (congrFun (after0_8 m c t0_15) i).trans ?_
    refine (Pipeline.eq_sum_fin_of_reset_step_apply_last (fun n h => (outsAt0 m c n h).2.2.1) 16 (fun _ => 0) (fun t i => ∑ r : Fin 512, tsc m c (row t r) (i 1))
      (fun t h i => by rw [row_idx i]; exact stepsc_A m c t h _) (fun t h i => by rw [row_idx i]; exact stepsc_B m c t h _) (by decide) t0_15 (by decide) i).trans ?_
    have e : (cfg0.win 8).arr.view.emb i = i := rfl
    rw [zero_add, e]
    exact sums (f := fun s => tsc m c s (i 1))
theorem final9 : (dats m 0 c).arrAt 9 cfg0.N = fun i => ∑ s, tg m c s (i 1) :=
  (dats m 0 c).arrAt_eq_of_after_last 9 t0_15 (by decide +kernel) _ fun i => by
    refine (congrFun (after0_9 m c t0_15) i).trans ?_
    refine (Pipeline.eq_sum_fin_of_reset_step_apply_last (fun n h => (outsAt0 m c n h).2.2.2) 16 (fun _ => 0) (fun t i => ∑ r : Fin 512, tg m c (row t r) (i 1))
      (fun t h i => by rw [row_idx i]; exact stepg_A m c t h _) (fun t h i => by rw [row_idx i]; exact stepg_B m c t h _) (by decide) t0_15 (by decide) i).trans ?_
    have e : (cfg0.win 9).arr.view.emb i = i := rfl
    rw [zero_add, e]
    exact sums (f := fun s => tg m c s (i 1))

end Cert.KernelUpIdeal.Value

end
-- ==== Proof.Norm.UpReference.lean ====
module

public import proofs.«01_k».proof.Proof.Gen.ReferenceUpIdeal.Run
public import proofs.«01_k».proof.Proof.Gen.ReferenceUpIdeal.Read
public import proofs.«01_k».proof.Proof.Norm.UpFinal
public import proofs.«01_k».proof.Proof.Norm.Pre

@[expose] public section

set_option maxRecDepth 16384

noncomputable section

namespace Cert.ReferenceUpIdeal.Value

open Cert.ReferenceUpIdeal Cert.ReferenceUpIdeal.Gen Cert.ReferenceUpIdeal.Read Idealize.ShloMosaic Idealize.ShloMosaic.TcCoe Idealize.SL.Sem
open Idealize.ShloMosaic.Pipeline (Dat)

open Cert.Norm
open Cert.KernelUpIdeal.Value (xs gs us bvec)

variable (x0 : FVec Ideal S1x8192x1024 .f32) (x1 : FVec Ideal S1024 .f32) (x3 : FVec Ideal S1x1024 .f32) (x4 : FVec Ideal S1024x5632 .f32)
  (x5 : FVec Ideal S1x8192x1024 .f32) (x6 : FVec Ideal S1x8192x5632 .bf16)

theorem v6_at (s : Fin 8192) (z : Fin 1) : val_main_v6 (F := Ideal) x0 (ix3 0 s z) = ms (xs x0 s) := by
  pointwise [val_main_v6, val_main_v5, val_main_v4, val_main_v3, val_main_v2, val_main_v1, val_main_v0, val_main_cst, val_main_cst_0, val_main_cst_1]
  rfl
theorem v7_at (s : Fin 8192) (z : Fin 1) : val_main_v7 (F := Ideal) x0 (ix3 0 s z) = rr (xs x0 s) := by
  pointwise [val_main_v7, v6_at]
  rfl
theorem v12_at (s : Fin 8192) (j : Fin 1024) : val_main_v12 (F := Ideal) x0 (ix3 0 s j) = xs x0 s j * rr (xs x0 s) := by
  pointwise [val_main_v12, val_main_v11, v7_at]
  rfl
theorem v26_at (s : Fin 8192) (j : Fin 1024) : val_main_v26 (F := Ideal) x4 x6 (ix3 0 s j) = us x6 x4 s j := by
  pointwise [val_main_v26, val_main_v25]
  rfl
theorem v35_at (s : Fin 8192) (j : Fin 1024) : val_main_v35 (F := Ideal) x3 x4 x6 (ix3 0 s j) = us x6 x4 s j * (1 + bvec x3 j) := by
  pointwise [val_main_v35, v26_at, val_main_v34, val_main_v18, val_main_v17, val_main_v16, val_main_cst_3]
  rfl
theorem v42_at (s : Fin 8192) (j : Fin 1024) : val_main_v42 (F := Ideal) x1 x3 x4 x6 (ix3 0 s j) = us x6 x4 s j * (1 + bvec x3 j) * gs x1 j := by
  pointwise [val_main_v42, v35_at, val_main_v41, val_main_v13]
  rfl
theorem v31_at (s : Fin 8192) (j : Fin 1024) : val_main_v31 (F := Ideal) x0 x1 x4 x6 (ix3 0 s j) = termsc (us x6 x4 s) (xs x0 s) (gs x1) j := by
  pointwise [val_main_v31, v26_at, val_main_v15, v12_at, val_main_v14, val_main_v13]
  exact mul_comm _ _
theorem v38_at (s : Fin 8192) (j : Fin 1024) : val_main_v38 (F := Ideal) x0 x3 x4 x6 (ix3 0 s j) = termg (us x6 x4 s) (xs x0 s) (bvec x3) j := by
  pointwise [val_main_v38, v35_at, v12_at]
  exact mul_comm _ _

theorem v30_at (j : Fin 1024) : val_main_v30 (F := Ideal) x4 x6 (ix2 0 j) = ∑ s, us x6 x4 s j := by
  pointwise [val_main_v30]
  refine (unit_sum01 _ _ _ j).trans ?_
  pointwise [val_main_v28, val_main_v27, v26_at, val_main_cst_4, val_main_cst_5]
theorem v37_at (j : Fin 1024) : val_main_v37 (F := Ideal) x0 x1 x4 x6 (ix2 0 j) = ∑ s, termsc (us x6 x4 s) (xs x0 s) (gs x1) j := by
  pointwise [val_main_v37]
  refine (unit_sum01 _ _ _ j).trans ?_
  pointwise [val_main_v33, val_main_v32, v31_at, val_main_cst_6, val_main_cst_7]
theorem v61_at (j : Fin 1024) : val_main_v61 (F := Ideal) x0 x3 x4 x6 (ix2 0 j) = ∑ s, termg (us x6 x4 s) (xs x0 s) (bvec x3) j := by
  pointwise [val_main_v61]
  refine (unit_sum01 _ _ _ j).trans ?_
  pointwise [val_main_v40, val_main_v39, v38_at, val_main_cst_8, val_main_cst_9]

theorem v52_at (s : Fin 8192) (z : Fin 1) : val_main_v52 (F := Ideal) x0 x1 x3 x4 x6 (ix3 0 s z) = fac (xs x0 s) (fun k => us x6 x4 s k * (1 + bvec x3 k) * gs x1 k) := by
  pointwise [val_main_v52, val_main_v51, val_main_v50, val_main_v46, val_main_v45, val_main_v44, v42_at, val_main_v10, val_main_v9, val_main_v8, v7_at, v6_at,
    val_main_cst_2, val_main_cst_10, val_main_cst_11]
  rfl
theorem v53_at (s : Fin 8192) : val_main_v53 (F := Ideal) x0 x1 x3 x4 x6 (ix1 s) = fac (xs x0 s) (fun k => us x6 x4 s k * (1 + bvec x3 k) * gs x1 k) := by
  refine (unit_sum02 _ _ _ s).trans ?_
  rw [v52_at]
  pointwise [val_main_cst_12]

theorem v60_at (hx : ∀ i, Fin1 (x0 i)) (hg : ∀ i, Fin1 (x1 i)) (hs : ∀ i, Fin1 (x3 i)) (hw : ∀ i, Fin1 (x4 i)) (hu : ∀ i, Fin1 (x6 i)) (s : Fin 8192) (j : Fin 1024) :
    val_main_v60 (F := Ideal) x0 x1 x3 x4 x5 x6 (ix2 s j) = outx (us x6 x4) (xs x0) (xs x5) (gs x1) (bvec x3) s j := by
  refine Eq.trans ?_ (hand_eq (xs x0 s) (fun k => us x6 x4 s k * (1 + bvec x3 k) * gs x1 k) (fun k => hx _)
    (fun k => ((Fin1.sum fun i => (hu _).mul (hw _)).mul (Fin1.one.add (hs _))).mul (hg _)) (xs x5 s j) j).symm
  pointwise [val_main_v60, val_main_v59, val_main_v58, val_main_v57, val_main_v56, val_main_v55, val_main_v54, v53_at, val_main_v49, val_main_v48, v42_at, val_main_v47, v7_at]
  rfl

end Cert.ReferenceUpIdeal.Value

end
-- ==== Proof.Norm.InTile.lean ====
module

public import Idealize.ShloMosaic.Lib.Pointwise
public import proofs.«01_k».proof.Proof.Norm.UpBlocks
public import proofs.«01_k».proof.Proof.Gen.KernelInIdeal.Value

@[expose] public section

set_option maxRecDepth 16384

noncomputable section

namespace Cert.KernelInIdeal.Value

open Cert.KernelInIdeal Cert.KernelInIdeal.Gen Idealize.ShloMosaic Idealize.ShloMosaic.TcCoe Idealize.SL.Sem
open Idealize.ShloMosaic.Pipeline (Dat)

open Cert.Norm
open Cert.KernelUpIdeal.Value (brow bvec xs gs lo hi)

theorem pay12_at (v : FVec Ideal S256x1024 .f32) (r : Fin 256) (z : Fin 1) : k0_pay12 (F := Ideal) v (ix2 r z) = rr (brow v r) := by
  pointwise [k0_pay12, k0_pay11]
  rfl
theorem pay13_at (v : FVec Ideal S256x1024 .f32) (r : Fin 256) (j : Fin 1024) : k0_pay13 (F := Ideal) v (ix2 r j) = brow v r j * rr (brow v r) := by
  pointwise [k0_pay13, k0_pay11, pay12_at]
  rfl
theorem pay20_at (v : FVec Ideal S256x1024 .f32) (r : Fin 256) (z : Fin 1) : k0_pay20 (F := Ideal) v (ix2 r z) = rr (brow v r) := by
  pointwise [k0_pay20, k0_pay19]
  rfl
theorem pay21_at (v : FVec Ideal S256x1024 .f32) (r : Fin 256) (j : Fin 1024) : k0_pay21 (F := Ideal) v (ix2 r j) = rr (brow v r) := by
  pointwise [k0_pay21, pay20_at]
theorem pay22_at (v : FVec Ideal S256x1024 .f32) (r : Fin 256) (j : Fin 1024) : k0_pay22 (F := Ideal) (k0_pay19 v) (k0_pay21 v) (ix2 r j) = brow v r j * rr (brow v r) := by
  pointwise [k0_pay22, k0_pay19, pay21_at]
  rfl
theorem pay16_at (s : FVec Ideal S1x1024 .f32) (u : FVec Ideal S256x1024 .f32) (r : Fin 256) (j : Fin 1024) :
    k0_pay16 (F := Ideal) (k0_pay7 s) u (ix2 r j) = brow u r j * (1 + bvec s j) := by
  pointwise [k0_pay16, k0_pay7]
  rfl
theorem pay23_at (s : FVec Ideal S1x1024 .f32) (u : FVec Ideal S256x1024 .f32) (r : Fin 256) (j : Fin 1024) :
    k0_pay23 (F := Ideal) (k0_pay7 s) u (ix2 r j) = brow u r j * (1 + bvec s j) := by
  pointwise [k0_pay23, k0_pay7]
  rfl
theorem pay18_at (g s : FVec Ideal S1x1024 .f32) (u x o : FVec Ideal S256x1024 .f32) (r : Fin 256) (j : Fin 1024) :
    k0_pay18 (F := Ideal) (k0_pay6 g) (k0_pay7 s) u (k0_pay12 x) (k0_pay13 x) o (ix2 r j)
      = o (ix2 r j) + hand (brow x r) (fun k => brow u r k * (1 + bvec s k) * bvec g k) j := by
  pointwise [k0_pay18, pay12_at, pay13_at, pay16_at, k0_pay6]
  rfl
theorem pay25_at (g s : FVec Ideal S1x1024 .f32) (u x o : FVec Ideal S256x1024 .f32) (r : Fin 256) (j : Fin 1024) :
    k0_pay25 (F := Ideal) (k0_pay6 g) (k0_pay7 s) u (k0_pay19 x) (k0_pay20 x) (k0_pay21 x) o (ix2 r j)
      = o (ix2 r j) + hand (brow x r) (fun k => brow u r k * (1 + bvec s k) * bvec g k) j := by
  pointwise [k0_pay25, pay20_at, pay22_at, pay23_at, k0_pay6]
  rfl

theorem sumsh_at (u0 u1 : FVec Ideal S256x1024 .f32) (p : FVec Ideal S1x1024 .f32) (j : Fin 1024) :
    k0_pay26 (F := Ideal) (k0_pay14 k0_pay8 u0) u1 p (ix2 0 j) = p (ix2 0 j) + (∑ r, brow u0 r j + ∑ r, brow u1 r j) := by
  pointwise [k0_pay26, k0_pay14, k0_pay8]
  rfl
theorem sumsc_at (g : FVec Ideal S1x1024 .f32) (u0 u1 x0 x1 : FVec Ideal S256x1024 .f32) (p : FVec Ideal S1x1024 .f32) (j : Fin 1024) :
    k0_pay27 (F := Ideal) (k0_pay6 g) (k0_pay15 (k0_pay6 g) k0_pay9 u0 (k0_pay13 x0)) u1 (k0_pay19 x1) (k0_pay21 x1) p (ix2 0 j)
      = p (ix2 0 j) + (∑ r, termsc (brow u0 r) (brow x0 r) (bvec g) j + ∑ r, termsc (brow u1 r) (brow x1 r) (bvec g) j) := by
  pointwise [k0_pay27, k0_pay15, k0_pay9, pay13_at, pay22_at, k0_pay6]
  rfl
theorem sumg_at (s : FVec Ideal S1x1024 .f32) (u0 u1 x0 x1 : FVec Ideal S256x1024 .f32) (p : FVec Ideal S1x1024 .f32) (j : Fin 1024) :
    k0_pay1 (F := Ideal) (k0_pay24 (k0_pay7 s) (k0_pay17 (k0_pay7 s) k0_pay10 u0 (k0_pay13 x0)) u1 (k0_pay19 x1) (k0_pay21 x1)) p (ix2 0 j)
      = p (ix2 0 j) + (∑ r, termg (brow u0 r) (brow x0 r) (bvec s) j + ∑ r, termg (brow u1 r) (brow x1 r) (bvec s) j) := by
  pointwise [k0_pay1, k0_pay24, k0_pay17, k0_pay10, pay13_at, pay22_at, pay16_at, pay23_at]
  rfl
theorem zsh_at (i : S1x1024.Idx) : k0_pay2 (F := Ideal) i = 0 := by
  pointwise [k0_pay2]
theorem zsc_at (i : S1x1024.Idx) : k0_pay3 (F := Ideal) i = 0 := by
  pointwise [k0_pay3]
theorem zg_at (i : S1x1024.Idx) : k0_pay4 (F := Ideal) i = 0 := by
  pointwise [k0_pay4]

/-- The product that feeds the norm's gradient. -/
theorem prod_at (a : FVec Ideal S1x512x6656 .bf16) (w : FVec Ideal S6656x1024 .bf16) (r : Fin 512) (j : Fin 1024) :
    k0_pay5 (F := Ideal) a w (ix2 r j) = ∑ k : Fin 6656, a (ix3 0 r k) * w (ix2 k j) := by
  pointwise [k0_pay5]

/-! The blocks. -/

/-- The grid runs along the rows: which block of its array every window moves at point `t`. -/
theorem idx : ∀ t : Fin cfg0.N, win0_0.index t = ![0, t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

variable (m : (ℓ : Loc nD τ sig) → Buf (Elt Ideal) ℓ) (c : Dev nD) (t : Fin cfg0.N)

/-- The arguments as launched. -/
abbrev argX : FVec Ideal S1x8192x1024 .f32 := m ((c : Thread nD τ).loc main_arg0)
abbrev argG : FVec Ideal S1024 .f32 := m ((c : Thread nD τ).loc main_arg1)
abbrev argSc : FVec Ideal S1x1024 .f32 := m ((c : Thread nD τ).loc main_arg3)
abbrev argW : FVec Ideal S1024x6656 .f32 := m ((c : Thread nD τ).loc main_arg4)
abbrev argD : FVec Ideal S1x8192x1024 .f32 := m ((c : Thread nD τ).loc main_arg5)
abbrev argU : FVec Ideal S1x8192x6656 .bf16 := m ((c : Thread nD τ).loc main_arg6)

/-- The cotangent of the modulated norm: the product's own. -/
def us (U : FVec Ideal S1x8192x6656 .bf16) (W : FVec Ideal S1024x6656 .f32) (s : Fin 8192) (k : Fin 1024) : EReal :=
  ∑ i : Fin 6656, U (ix3 0 s i) * W (ix2 k i)

theorem entry_x : V m c main_v2 = shapeCast S8192x1024 (argX m c) shapeCasts_S1x8192x1024_S8192x1024 := by
  simp only [V, hostOps0]
  entry_read
  rfl
theorem entry_d : V m c main_v4 = shapeCast S8192x1024 (argD m c) shapeCasts_S1x8192x1024_S8192x1024 := by
  simp only [V, hostOps0]
  entry_read
  rfl
theorem entry_g : V m c main_v3 = broadcastInDim S1x1024 ![1] bcast_S1024_S1x1024_1 (argG m c) := by
  simp only [V, hostOps0]
  entry_read
  rfl
theorem entry_w : V m c main_v1 = truncf (F := Ideal) .bf16 (transpose S6656x1024 [1, 0] (argW m c) transposes_S1024x6656_S6656x1024_1_0) bitsLt_bf16_f32 := by
  simp only [V, hostOps0]
  entry_read
  rfl

theorem x_at (r : Fin 512) (k : Fin 1024) : iblk m c 2 t (ix2 r k) = xs (argX m c) (row t r) k := by
  refine Eq.trans (b := V m c main_v2 (ix2 (row t r) k)) ?_ ?_
  · blk_point [iblk, idx t, row]
  · rw [entry_x]
    pointwise []
    rfl
theorem d_at (r : Fin 512) (k : Fin 1024) : iblk m c 5 t (ix2 r k) = xs (argD m c) (row t r) k := by
  refine Eq.trans (b := V m c main_v4 (ix2 (row t r) k)) ?_ ?_
  · blk_point [iblk, idx t, row]
  · rw [entry_d]
    pointwise []
    rfl
theorem g_at (k : Fin 1024) : bvec (iblk m c 3 t) k = gs (argG m c) k := by
  refine Eq.trans (b := V m c main_v3 (ix2 0 k)) ?_ ?_
  · unfold bvec
    blk_point [iblk, idx t]
  · rw [entry_g]
    pointwise []
    rfl
theorem sc_at (k : Fin 1024) : bvec (iblk m c 4 t) k = bvec (argSc m c) k := by
  unfold bvec
  blk_point [iblk, V, idx t]
theorem w_at (i : Fin 6656) (k : Fin 1024) : iblk m c 1 t (ix2 i k) = argW m c (ix2 k i) := by
  refine Eq.trans (b := V m c main_v1 (ix2 i k)) ?_ ?_
  · blk_point [iblk, idx t]
  · rw [entry_w]
    pointwise []
theorem u_at (r : Fin 512) (i : Fin 6656) : iblk m c 0 t (ix3 0 r i) = argU m c (ix3 0 (row t r) i) := by
  blk_point [iblk, V, idx t, row]

end Cert.KernelInIdeal.Value

end
-- ==== Proof.Norm.InFinal.lean ====
module

public import Idealize.ShloMosaic.Lib.WritesUnit
public import proofs.«01_k».proof.Proof.Norm.InTile
public import proofs.«01_k».proof.Proof.Norm.UpFinal

@[expose] public section

set_option maxRecDepth 16384

noncomputable section

namespace Cert.KernelInIdeal.Value

open Cert.KernelInIdeal Cert.KernelInIdeal.Gen Idealize.ShloMosaic Idealize.ShloMosaic.TcCoe Idealize.SL.Sem
open Idealize.ShloMosaic.Pipeline (Dat)

open Cert.Norm
open Cert.KernelUpIdeal.Value (brow bvec xs gs lo hi up dn up_at dn_at back_up back_dn halves two termsc_congr termg_congr row_idx)

variable (m : (ℓ : Loc nD τ sig) → Buf (Elt Ideal) ℓ) (c : Dev nD) (t : Fin cfg0.N)

/-- The product of a tile, from the staged blocks. -/
abbrev prod : FVec Ideal S512x1024 .f32 := k0_pay5 (F := Ideal) (iblk m c 0 t) (iblk m c 1 t)

theorem prod_tile (r : Fin 512) (k : Fin 1024) : prod m c t (ix2 r k) = us (argU m c) (argW m c) (row t r) k :=
  (prod_at _ _ r k).trans (Finset.sum_congr rfl fun i _ => congrArg₂ (· * ·) (u_at m c t r i) (w_at m c t i k))

theorem ulo {κ : Kind} {sp : Space} {sg : RefSig} (v : View sg κ sp S512x1024 .f32) (r : Fin 256) :
    brow (v.readCov (Val := Elt Ideal) [⟨Rect.unit ![0, 0] ![512, 1024] inb_S512x1024_S512x1024_0_0, prod m c t⟩] (Rect.unit (s := S512x1024) ![0, 0] ![256, 1024] inb_S512x1024_S256x1024_0_0).toLoadRect : FVec Ideal S256x1024 .f32) r = us (argU m c) (argW m c) (row t (lo r)) :=
  funext fun k => (back_up v _ r k).trans (prod_tile m c t _ k)
theorem uhi {κ : Kind} {sp : Space} {sg : RefSig} (v : View sg κ sp S512x1024 .f32) (r : Fin 256) :
    brow (v.readCov (Val := Elt Ideal) [⟨Rect.unit ![0, 0] ![512, 1024] inb_S512x1024_S512x1024_0_0, prod m c t⟩] (Rect.unit (s := S512x1024) ![256, 0] ![256, 1024] inb_S512x1024_S256x1024_256_0).toLoadRect : FVec Ideal S256x1024 .f32) r = us (argU m c) (argW m c) (row t (hi r)) :=
  funext fun k => (back_dn v _ r k).trans (prod_tile m c t _ k)
theorem xlo (r : Fin 256) : brow (up (iblk m c 2 t)) r = xs (argX m c) (row t (lo r)) :=
  funext fun k => (up_at _ r k).trans (x_at m c t _ k)
theorem xhi (r : Fin 256) : brow (dn (iblk m c 2 t)) r = xs (argX m c) (row t (hi r)) :=
  funext fun k => (dn_at _ r k).trans (x_at m c t _ k)
theorem gv : bvec (iblk m c 3 t) = gs (argG m c) := funext (g_at m c t)
theorem sv : bvec (iblk m c 4 t) = bvec (argSc m c) := funext (sc_at m c t)

/-- The three sums' terms and the rows of the first result, from the arguments. -/
def tsh (s : Fin 8192) (j : Fin 1024) : EReal := us (argU m c) (argW m c) s j
def tsc (s : Fin 8192) (j : Fin 1024) : EReal := termsc (us (argU m c) (argW m c) s) (xs (argX m c) s) (gs (argG m c)) j
def tg (s : Fin 8192) (j : Fin 1024) : EReal := termg (us (argU m c) (argW m c) s) (xs (argX m c) s) (bvec (argSc m c)) j
def ox (s : Fin 8192) (j : Fin 1024) : EReal :=
  outx (us (argU m c) (argW m c)) (xs (argX m c)) (xs (argD m c)) (gs (argG m c)) (bvec (argSc m c)) s j

theorem stepsh_B (h : ¬ t.val % 16 = 0) (j : Fin 1024) : (outsAt0 m c t.val t.isLt).2.1 (ix2 0 j)
    = (outsAt0 m c (t.val - 1) (Nat.lt_of_le_of_lt (Nat.sub_le _ _) t.isLt)).2.1 (ix2 0 j) + ∑ r : Fin 512, tsh m c (row t r) j := by
  rw [outsAt0_B m c t h]
  frame_out
  exact (sumsh_at _ _ _ j).trans (two _ _ (fun r => tsh m c (row t r) j) (fun r => congrFun (ulo m c t _ r) j) (fun r => congrFun (uhi m c t _ r) j) _ _ rfl)
theorem stepsc_B (h : ¬ t.val % 16 = 0) (j : Fin 1024) : (outsAt0 m c t.val t.isLt).2.2.1 (ix2 0 j)
    = (outsAt0 m c (t.val - 1) (Nat.lt_of_le_of_lt (Nat.sub_le _ _) t.isLt)).2.2.1 (ix2 0 j) + ∑ r : Fin 512, tsc m c (row t r) j := by
  rw [outsAt0_B m c t h]
  frame_out
  exact (sumsc_at _ _ _ _ _ _ j).trans (two _ _ (fun r => tsc m c (row t r) j) (fun r => termsc_congr (ulo m c t _ r) (xlo m c t r) (gv m c t) j)
    (fun r => termsc_congr (uhi m c t _ r) (xhi m c t r) (gv m c t) j) _ _ rfl)
theorem stepg_B (h : ¬ t.val % 16 = 0) (j : Fin 1024) : (outsAt0 m c t.val t.isLt).2.2.2 (ix2 0 j)
    = (outsAt0 m c (t.val - 1) (Nat.lt_of_le_of_lt (Nat.sub_le _ _) t.isLt)).2.2.2 (ix2 0 j) + ∑ r : Fin 512, tg m c (row t r) j := by
  rw [outsAt0_B m c t h]
  frame_out
  exact (sumg_at _ _ _ _ _ _ j).trans (two _ _ (fun r => tg m c (row t r) j) (fun r => termg_congr (ulo m c t _ r) (xlo m c t r) (sv m c t) j)
    (fun r => termg_congr (uhi m c t _ r) (xhi m c t r) (sv m c t) j) _ _ rfl)
theorem stepsh_A (h : t.val % 16 = 0) (j : Fin 1024) : (outsAt0 m c t.val t.isLt).2.1 (ix2 0 j) = 0 + ∑ r : Fin 512, tsh m c (row t r) j := by
  rw [outsAt0_A m c t h]
  frame_out
  exact (sumsh_at _ _ _ j).trans (two _ _ (fun r => tsh m c (row t r) j) (fun r => congrFun (ulo m c t _ r) j) (fun r => congrFun (uhi m c t _ r) j) _ _ (zsh_at _))
theorem stepsc_A (h : t.val % 16 = 0) (j : Fin 1024) : (outsAt0 m c t.val t.isLt).2.2.1 (ix2 0 j) = 0 + ∑ r : Fin 512, tsc m c (row t r) j := by
  rw [outsAt0_A m c t h]
  frame_out
  exact (sumsc_at _ _ _ _ _ _ j).trans (two _ _ (fun r => tsc m c (row t r) j) (fun r => termsc_congr (ulo m c t _ r) (xlo m c t r) (gv m c t) j)
    (fun r => termsc_congr (uhi m c t _ r) (xhi m c t r) (gv m c t) j) _ _ (zsc_at _))
theorem stepg_A (h : t.val % 16 = 0) (j : Fin 1024) : (outsAt0 m c t.val t.isLt).2.2.2 (ix2 0 j) = 0 + ∑ r : Fin 512, tg m c (row t r) j := by
  rw [outsAt0_A m c t h]
  frame_out
  exact (sumg_at _ _ _ _ _ _ j).trans (two _ _ (fun r => tg m c (row t r) j) (fun r => termg_congr (ulo m c t _ r) (xlo m c t r) (sv m c t) j)
    (fun r => termg_congr (uhi m c t _ r) (xhi m c t r) (sv m c t) j) _ _ (zg_at _))

theorem outx_tile {u x : Fin 1024 → EReal} {g s : Fin 1024 → EReal} {o : EReal} (q : Fin 8192) (j : Fin 1024) (hu : u = us (argU m c) (argW m c) q) (hx : x = xs (argX m c) q)
    (hg : g = gs (argG m c)) (hs : s = bvec (argSc m c)) (ho : o = xs (argD m c) q j) :
    o + hand x (fun k => u k * (1 + s k) * g k) j = ox m c q j := by
  subst hu hx hg hs ho
  rfl

theorem ox_congr {q q' : Fin 8192} {j j' : Fin 1024} (hq : q.val = q'.val) (hj : j.val = j'.val) : ox m c q j = ox m c q' j' := by
  obtain rfl := Fin.ext hq
  obtain rfl := Fin.ext hj
  rfl

/-- One point's rows of the first result. -/
theorem out6_at (y : S512x1024.Idx) : (outsAt0 m c t.val t.isLt).1 y = ox m c (row t (y 0)) (y 1) := by
  by_cases h : t.val % 16 = 0
  · rw [outsAt0_A m c t h]
    frame_out
    clear h
    canon_tiles x h
    case piece0 =>
      idx_vars x
      exact ((pay25_at _ _ _ _ _ x0 x1).trans (outx_tile m c (row t (hi x0)) x1 (uhi m c t _ x0) (xhi m c t x0) (gv m c t) (sv m c t) ((dn_at _ x0 x1).trans (d_at m c t _ x1)))).trans
        (ox_congr m c (congrArg (512 * t.val + ·) h0.symm) h1.symm)
    case piece1 =>
      idx_vars x
      exact ((pay18_at _ _ _ _ _ x0 x1).trans (outx_tile m c (row t (lo x0)) x1 (ulo m c t _ x0) (xlo m c t x0) (gv m c t) (sv m c t) ((up_at _ x0 x1).trans (d_at m c t _ x1)))).trans
        (ox_congr m c (congrArg (512 * t.val + ·) h0.symm) h1.symm)
  · rw [outsAt0_B m c t h]
    frame_out
    clear h
    canon_tiles x h
    case piece0 =>
      idx_vars x
      exact ((pay25_at _ _ _ _ _ x0 x1).trans (outx_tile m c (row t (hi x0)) x1 (uhi m c t _ x0) (xhi m c t x0) (gv m c t) (sv m c t) ((dn_at _ x0 x1).trans (d_at m c t _ x1)))).trans
        (ox_congr m c (congrArg (512 * t.val + ·) h0.symm) h1.symm)
    case piece1 =>
      idx_vars x
      exact ((pay18_at _ _ _ _ _ x0 x1).trans (outx_tile m c (row t (lo x0)) x1 (ulo m c t _ x0) (xlo m c t x0) (gv m c t) (sv m c t) ((up_at _ x0 x1).trans (d_at m c t _ x1)))).trans
        (ox_congr m c (congrArg (512 * t.val + ·) h0.symm) h1.symm)

theorem final6 : (dats m 0 c).arrAt 6 cfg0.N = fun i => ox m c (i 0) (i 1) :=
  (dats m 0 c).arrAt_eq_of_covers 6 _ (by decide +kernel) (fun t hf y => by
    rw [after0_6]
    refine (out6_at m c t _).trans (ox_congr m c ?_ ?_)
    · refine Eq.trans (b := 512 * t.val + (y 0).val) rfl ?_
      blk_simp [idx t]
      omega
    · blk_simp [idx t])

theorem sums {f : Fin 8192 → EReal} : (∑ p : Fin 16, ∑ r : Fin 512, f (row (p : Fin cfg0.N) r)) = ∑ s, f s := by
  refine Eq.trans ?_ (Fin.sum_univ_tiles 16 512 rfl _).symm
  refine Finset.sum_congr rfl fun p _ => Finset.sum_congr rfl fun r _ => congrArg f (Fin.ext ?_)
  show 512 * p.val + r.val = p.val * 512 + r.val
  omega

theorem final7 : (dats m 0 c).arrAt 7 cfg0.N = fun i => ∑ s, tsh m c s (i 1) :=
  (dats m 0 c).arrAt_eq_of_after_last 7 t0_15 (by decide +kernel) _ fun i => by
    refine (congrFun (after0_7 m c t0_15) i).trans ?_
    refine (Pipeline.eq_sum_fin_of_reset_step_apply_last (fun n h => (outsAt0 m c n h).2.1) 16 (fun _ => 0) (fun t i => ∑ r : Fin 512, tsh m c (row t r) (i 1))
      (fun t h i => by rw [row_idx i]; exact stepsh_A m c t h _) (fun t h i => by rw [row_idx i]; exact stepsh_B m c t h _) (by decide) t0_15 (by decide) i).trans ?_
    have e : (cfg0.win 7).arr.view.emb i = i := rfl
    rw [zero_add, e]
    exact sums (f := fun s => tsh m c s (i 1))
theorem final8 : (dats m 0 c).arrAt 8 cfg0.N = fun i => ∑ s, tsc m c s (i 1) :=
  (dats m 0 c).arrAt_eq_of_after_last 8 t0_15 (by decide +kernel) _ fun i => by
    refine (congrFun (after0_8 m c t0_15) i).trans ?_
    refine (Pipeline.eq_sum_fin_of_reset_step_apply_last (fun n h => (outsAt0 m c n h).2.2.1) 16 (fun _ => 0) (fun t i => ∑ r : Fin 512, tsc m c (row t r) (i 1))
      (fun t h i => by rw [row_idx i]; exact stepsc_A m c t h _) (fun t h i => by rw [row_idx i]; exact stepsc_B m c t h _) (by decide) t0_15 (by decide) i).trans ?_
    have e : (cfg0.win 8).arr.view.emb i = i := rfl
    rw [zero_add, e]
    exact sums (f := fun s => tsc m c s (i 1))
theorem final9 : (dats m 0 c).arrAt 9 cfg0.N = fun i => ∑ s, tg m c s (i 1) :=
  (dats m 0 c).arrAt_eq_of_after_last 9 t0_15 (by decide +kernel) _ fun i => by
    refine (congrFun (after0_9 m c t0_15) i).trans ?_
    refine (Pipeline.eq_sum_fin_of_reset_step_apply_last (fun n h => (outsAt0 m c n h).2.2.2) 16 (fun _ => 0) (fun t i => ∑ r : Fin 512, tg m c (row t r) (i 1))
      (fun t h i => by rw [row_idx i]; exact stepg_A m c t h _) (fun t h i => by rw [row_idx i]; exact stepg_B m c t h _) (by decide) t0_15 (by decide) i).trans ?_
    have e : (cfg0.win 9).arr.view.emb i = i := rfl
    rw [zero_add, e]
    exact sums (f := fun s => tg m c s (i 1))

end Cert.KernelInIdeal.Value

end
-- ==== Proof.Norm.InReference.lean ====
module

public import proofs.«01_k».proof.Proof.Gen.ReferenceInIdeal.Run
public import proofs.«01_k».proof.Proof.Gen.ReferenceInIdeal.Read
public import proofs.«01_k».proof.Proof.Norm.InFinal
public import proofs.«01_k».proof.Proof.Norm.Pre

@[expose] public section

set_option maxRecDepth 16384

noncomputable section

namespace Cert.ReferenceInIdeal.Value

open Cert.ReferenceInIdeal Cert.ReferenceInIdeal.Gen Cert.ReferenceInIdeal.Read Idealize.ShloMosaic Idealize.ShloMosaic.TcCoe Idealize.SL.Sem
open Idealize.ShloMosaic.Pipeline (Dat)

open Cert.Norm
open Cert.KernelUpIdeal.Value (xs gs bvec)
open Cert.KernelInIdeal.Value (us)

variable (x0 : FVec Ideal S1x8192x1024 .f32) (x1 : FVec Ideal S1024 .f32) (x3 : FVec Ideal S1x1024 .f32) (x4 : FVec Ideal S1024x6656 .f32)
  (x5 : FVec Ideal S1x8192x1024 .f32) (x6 : FVec Ideal S1x8192x6656 .bf16)

theorem v6_at (s : Fin 8192) (z : Fin 1) : val_main_v6 (F := Ideal) x0 (ix3 0 s z) = ms (xs x0 s) := by
  pointwise [val_main_v6, val_main_v5, val_main_v4, val_main_v3, val_main_v2, val_main_v1, val_main_v0, val_main_cst, val_main_cst_0, val_main_cst_1]
  rfl
theorem v7_at (s : Fin 8192) (z : Fin 1) : val_main_v7 (F := Ideal) x0 (ix3 0 s z) = rr (xs x0 s) := by
  pointwise [val_main_v7, v6_at]
  rfl
theorem v12_at (s : Fin 8192) (j : Fin 1024) : val_main_v12 (F := Ideal) x0 (ix3 0 s j) = xs x0 s j * rr (xs x0 s) := by
  pointwise [val_main_v12, val_main_v11, v7_at]
  rfl
theorem v26_at (s : Fin 8192) (j : Fin 1024) : val_main_v26 (F := Ideal) x4 x6 (ix3 0 s j) = us x6 x4 s j := by
  pointwise [val_main_v26, val_main_v25]
  rfl
theorem v35_at (s : Fin 8192) (j : Fin 1024) : val_main_v35 (F := Ideal) x3 x4 x6 (ix3 0 s j) = us x6 x4 s j * (1 + bvec x3 j) := by
  pointwise [val_main_v35, v26_at, val_main_v34, val_main_v18, val_main_v17, val_main_v16, val_main_cst_3]
  rfl
theorem v42_at (s : Fin 8192) (j : Fin 1024) : val_main_v42 (F := Ideal) x1 x3 x4 x6 (ix3 0 s j) = us x6 x4 s j * (1 + bvec x3 j) * gs x1 j := by
  pointwise [val_main_v42, v35_at, val_main_v41, val_main_v13]
  rfl
theorem v31_at (s : Fin 8192) (j : Fin 1024) : val_main_v31 (F := Ideal) x0 x1 x4 x6 (ix3 0 s j) = termsc (us x6 x4 s) (xs x0 s) (gs x1) j := by
  pointwise [val_main_v31, v26_at, val_main_v15, v12_at, val_main_v14, val_main_v13]
  exact mul_comm _ _
theorem v38_at (s : Fin 8192) (j : Fin 1024) : val_main_v38 (F := Ideal) x0 x3 x4 x6 (ix3 0 s j) = termg (us x6 x4 s) (xs x0 s) (bvec x3) j := by
  pointwise [val_main_v38, v35_at, v12_at]
  exact mul_comm _ _

theorem v30_at (j : Fin 1024) : val_main_v30 (F := Ideal) x4 x6 (ix2 0 j) = ∑ s, us x6 x4 s j := by
  pointwise [val_main_v30]
  refine (unit_sum01 _ _ _ j).trans ?_
  pointwise [val_main_v28, val_main_v27, v26_at, val_main_cst_4, val_main_cst_5]
theorem v37_at (j : Fin 1024) : val_main_v37 (F := Ideal) x0 x1 x4 x6 (ix2 0 j) = ∑ s, termsc (us x6 x4 s) (xs x0 s) (gs x1) j := by
  pointwise [val_main_v37]
  refine (unit_sum01 _ _ _ j).trans ?_
  pointwise [val_main_v33, val_main_v32, v31_at, val_main_cst_6, val_main_cst_7]
theorem v61_at (j : Fin 1024) : val_main_v61 (F := Ideal) x0 x3 x4 x6 (ix2 0 j) = ∑ s, termg (us x6 x4 s) (xs x0 s) (bvec x3) j := by
  pointwise [val_main_v61]
  refine (unit_sum01 _ _ _ j).trans ?_
  pointwise [val_main_v40, val_main_v39, v38_at, val_main_cst_8, val_main_cst_9]

theorem v52_at (s : Fin 8192) (z : Fin 1) : val_main_v52 (F := Ideal) x0 x1 x3 x4 x6 (ix3 0 s z) = fac (xs x0 s) (fun k => us x6 x4 s k * (1 + bvec x3 k) * gs x1 k) := by
  pointwise [val_main_v52, val_main_v51, val_main_v50, val_main_v46, val_main_v45, val_main_v44, v42_at, val_main_v10, val_main_v9, val_main_v8, v7_at, v6_at,
    val_main_cst_2, val_main_cst_10, val_main_cst_11]
  rfl
theorem v53_at (s : Fin 8192) : val_main_v53 (F := Ideal) x0 x1 x3 x4 x6 (ix1 s) = fac (xs x0 s) (fun k => us x6 x4 s k * (1 + bvec x3 k) * gs x1 k) := by
  refine (unit_sum02 _ _ _ s).trans ?_
  rw [v52_at]
  pointwise [val_main_cst_12]

theorem v60_at (hx : ∀ i, Fin1 (x0 i)) (hg : ∀ i, Fin1 (x1 i)) (hs : ∀ i, Fin1 (x3 i)) (hw : ∀ i, Fin1 (x4 i)) (hu : ∀ i, Fin1 (x6 i)) (s : Fin 8192) (j : Fin 1024) :
    val_main_v60 (F := Ideal) x0 x1 x3 x4 x5 x6 (ix2 s j) = outx (us x6 x4) (xs x0) (xs x5) (gs x1) (bvec x3) s j := by
  refine Eq.trans ?_ (hand_eq (xs x0 s) (fun k => us x6 x4 s k * (1 + bvec x3 k) * gs x1 k) (fun k => hx _)
    (fun k => ((Fin1.sum fun i => (hu _).mul (hw _)).mul (Fin1.one.add (hs _))).mul (hg _)) (xs x5 s j) j).symm
  pointwise [val_main_v60, val_main_v59, val_main_v58, val_main_v57, val_main_v56, val_main_v55, val_main_v54, v53_at, val_main_v49, val_main_v48, v42_at, val_main_v47, v7_at]
  rfl

end Cert.ReferenceInIdeal.Value

end
-- ==== Proof.Conv.Blocks.lean ====
module

public import proofs.«01_k».proof.Proof.Conv.Tile

@[expose] public section

set_option maxRecDepth 16384

noncomputable section

namespace Cert.KernelConvIdeal.Value

open Cert.KernelConvIdeal Cert.KernelConvIdeal.Gen Idealize.ShloMosaic Idealize.ShloMosaic.TcCoe Idealize.SL.Sem
open Idealize.ShloMosaic.Pipeline (Dat)

/-- The grid runs along the rows: which block of its array every window moves at point `t`. -/
theorem idx : ∀ t : Fin cfg0.N, win0_0.index t = ![t.val, 0] ∧ win0_1.index t = ![min (t.val*32+32) 511, 0] ∧ win0_2.index t = ![t.val, 0]
    ∧ win0_3.index t = ![min (t.val*32+32) 511, 0] ∧ win0_4.index t = ![t.val, 1] ∧ win0_5.index t = ![t.val, 2]
    ∧ win0_6.index t = ![t.val*32-1, 1] ∧ win0_7.index t = ![t.val*32-1, 2] ∧ win0_8.index t = ![0, 0] ∧ win0_9.index t = ![t.val, 0]
    ∧ win0_10.index t = ![0, 0] ∧ (grid0.coords t 0).val = t.val :=
  (by decide +kernel : ∀ t : Fin grid0.N, _)

/-- Row `r` of tile `t`, as a row of the whole array. -/
def row (t : Fin cfg0.N) (r : Fin 512) : Fin 8192 := ⟨512 * t.val + r.val, by have : t.val < 16 := t.isLt; omega⟩

/-- Row `r` of the sixteen rows after tile `t` (of the last sixteen rows at the last tile). -/
def nextRow (t : Fin cfg0.N) (r : Fin 16) : Fin 8192 := ⟨16 * min (t.val * 32 + 32) 511 + r.val, by omega⟩

/-- Row `r` of the sixteen rows before tile `t` (of the first sixteen rows at the first tile). -/
def prevRow (t : Fin cfg0.N) (r : Fin 16) : Fin 8192 := ⟨16 * (t.val * 32 - 1) + r.val, by have : t.val < 16 := t.isLt; omega⟩

variable (m : (ℓ : Loc nD τ sig) → Buf (Elt Ideal) ℓ) (c : Dev nD) (t : Fin cfg0.N)

/-- The cotangent of the gated convolution, as launched. -/
abbrev argD : FVec Ideal S8192x1024 .bf16 := m ((c : Thread nD τ).loc main_arg0)
/-- The projections, as launched. -/
abbrev argP : FVec Ideal S8192x6656 .bf16 := m ((c : Thread nD τ).loc main_arg1)
/-- The taps, as launched. -/
abbrev argW : FVec Ideal S3x1024 .f32 := m ((c : Thread nD τ).loc main_arg2)

theorem b0_at (r : Fin 512) (d : Fin 1024) : iblk m c 0 t (ix2 r d) = argD m c (ix2 (row t r) d) := by
  blk_point [iblk, V, idx t, row]
theorem b1_at (r : Fin 16) (d : Fin 1024) : iblk m c 1 t (ix2 r d) = argD m c (ix2 (nextRow t r) d) := by
  blk_point [iblk, V, idx t, nextRow]
theorem x2_at (r : Fin 512) (d : Fin 1024) : X0_2 m c t (ix2 r d) = argP m c (ix2 (row t r) ⟨d.val, by omega⟩) := by
  unfold X0_2 Pipeline.Window.fill
  rw [dif_pos (moved0_2 t _)]
  blk_point [iblk, V, idx t, row]
theorem x3_at (r : Fin 16) (d : Fin 1024) : X0_3 m c t (ix2 r d) = argP m c (ix2 (nextRow t r) ⟨d.val, by omega⟩) := by
  unfold X0_3 Pipeline.Window.fill
  rw [dif_pos (moved0_3 t _)]
  blk_point [iblk, V, idx t, nextRow]
theorem x4_at (r : Fin 512) (d : Fin 1024) : X0_4 m c t (ix2 r d) = argP m c (ix2 (row t r) ⟨1024 + d.val, by omega⟩) := by
  unfold X0_4 Pipeline.Window.fill
  rw [dif_pos (moved0_4 t _)]
  blk_point [iblk, V, idx t, row]
theorem x5_at (r : Fin 512) (d : Fin 1024) : X0_5 m c t (ix2 r d) = argP m c (ix2 (row t r) ⟨2048 + d.val, by omega⟩) := by
  unfold X0_5 Pipeline.Window.fill
  rw [dif_pos (moved0_5 t _)]
  blk_point [iblk, V, idx t, row]
theorem x6_at (r : Fin 16) (d : Fin 1024) : X0_6 m c t (ix2 r d) = argP m c (ix2 (prevRow t r) ⟨1024 + d.val, by omega⟩) := by
  unfold X0_6 Pipeline.Window.fill
  rw [dif_pos (moved0_6 t _)]
  blk_point [iblk, V, idx t, prevRow]
theorem x7_at (r : Fin 16) (d : Fin 1024) : X0_7 m c t (ix2 r d) = argP m c (ix2 (prevRow t r) ⟨2048 + d.val, by omega⟩) := by
  unfold X0_7 Pipeline.Window.fill
  rw [dif_pos (moved0_7 t _)]
  blk_point [iblk, V, idx t, prevRow]

/-- The host pads the taps with rows of zeros before the call. -/
theorem entry_taps : V m c main_v0 = pad S8x1024 ![0, 0] ![5, 0] ![0, 0] (argW m c) (sitofp .f32 (constantI S_ 32 0#32)) pads_S3x1024_S8x1024_050_000 h_S_ := by
  simp only [V, hostOps0, hostOps0_1, hostOps0_2, List.flatten_cons, List.flatten_nil, List.append_nil, List.cons_append, List.nil_append]
  entry_read
  rfl

/-- The padded taps in the kernel's buffer: row `k` below 3 is tap `k`. -/
theorem taps_at (k : Fin 3) (d : Fin 1024) : iblk m c 8 t (ix2 ⟨k.val, by omega⟩ d) = argW m c (ix2 k d) := by
  refine Eq.trans (b := V m c main_v0 (ix2 ⟨k.val, by omega⟩ d)) ?_ ?_
  · blk_point [iblk, idx t]
  · rw [entry_taps]
    pointwise []

end Cert.KernelConvIdeal.Value

end
-- ==== Proof.Conv.Out.lean ====
module

public import proofs.«01_k».proof.Proof.Conv.Blocks

@[expose] public section

set_option maxRecDepth 16384

noncomputable section

namespace Cert.KernelConvIdeal.Value

open Cert.KernelConvIdeal Cert.KernelConvIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Tap 0 of the convolution's input at a tile's rows. -/
theorem m0_tile (r : Fin 512) (d : Fin 1024) :
    k0_pay9 (F := Ideal) (X0_4 m c t) (X0_5 m c t) (ix2 r d) = past (argP m c) 0 (row t r) d := by
  rw [pay9_at, x4_at, x5_at, past, dif_pos (Nat.zero_le _)]
  rfl

/-- The product carried in from the sixteen rows before the tile. -/
theorem halo_tile (r : Fin 16) (d : Fin 1024) :
    k0_pay10 (F := Ideal) (grid0.coords t) (X0_6 m c t) (X0_7 m c t) (ix2 r d)
      = if t.val = 0 then 0 else argP m c (ix2 (prevRow t r) ⟨1024 + d.val, by omega⟩) * argP m c (ix2 (prevRow t r) ⟨2048 + d.val, by omega⟩) := by
  have ht := (idx t).2.2.2.2.2.2.2.2.2.2.2
  rw [halo_at, ht, x6_at, x7_at]

/-- Tap 1 at a tile's rows. -/
theorem m1_tile (r : Fin 512) (d : Fin 1024) :
    k0_pay17 (F := Ideal) (k0_pay15 (grid0.coords t) (X0_4 m c t) (X0_5 m c t) (X0_6 m c t) (X0_7 m c t)) (k0_pay16 (X0_4 m c t) (X0_5 m c t)) (ix2 r d)
      = past (argP m c) 1 (row t r) d := by
  rw [m1_at, past]
  by_cases h : 1 ≤ r.val
  · rw [dif_pos h, dif_pos (show 1 ≤ (row t r).val from by simp only [row]; omega), x4_at, x5_at]
    have e : row t ⟨r.val - 1, by omega⟩ = ⟨(row t r).val - 1, by omega⟩ := Fin.ext (by simp only [row]; omega)
    rw [e]
  · rw [dif_neg h, halo_tile]
    by_cases h0 : t.val = 0
    · rw [if_pos h0, dif_neg (show ¬ 1 ≤ (row t r).val from by simp only [row]; omega)]
    · rw [if_neg h0, dif_pos (show 1 ≤ (row t r).val from by simp only [row]; omega)]
      have e : prevRow t 15 = ⟨(row t r).val - 1, by omega⟩ := Fin.ext (by simp only [row, prevRow]; show 16 * (t.val * 32 - 1) + 15 = _; omega)
      rw [e]

/-- Tap 2 at a tile's rows. -/
theorem m2_tile (r : Fin 512) (d : Fin 1024) :
    k0_pay18 (F := Ideal) (iota Kind.tc S8x1024 32 [0] iota_S8x1024_d0_w32) (k0_pay11 (grid0.coords t) (X0_6 m c t) (X0_7 m c t))
        (k0_pay12 (grid0.coords t) (X0_6 m c t) (X0_7 m c t)) (k0_pay14 (X0_4 m c t) (X0_5 m c t)) (ix2 r d)
      = past (argP m c) 2 (row t r) d := by
  rw [m2_at, past]
  by_cases h : 2 ≤ r.val
  · rw [dif_pos h, dif_pos (show 2 ≤ (row t r).val from by simp only [row]; omega), x4_at, x5_at]
    have e : row t ⟨r.val - 2, by omega⟩ = ⟨(row t r).val - 2, by omega⟩ := Fin.ext (by simp only [row]; omega)
    rw [e]
  · rw [dif_neg h, halo_tile]
    by_cases h0 : t.val = 0
    · rw [if_pos h0, dif_neg (show ¬ 2 ≤ (row t r).val from by simp only [row]; omega)]
    · rw [if_neg h0, dif_pos (show 2 ≤ (row t r).val from by simp only [row]; omega)]
      have e : prevRow t ⟨r.val + 14, by omega⟩ = ⟨(row t r).val - 2, by omega⟩ := Fin.ext (by simp only [row, prevRow]; omega)
      rw [e]

/-- The convolution's cotangent at a tile's rows. -/
theorem dco_tile (r : Fin 512) (d : Fin 1024) :
    k0_pay23 (F := Ideal) (k0_pay7 (X0_2 m c t)) (k0_pay8 (iblk m c 0 t)) (ix2 r d) = fut (argD m c) (argP m c) 0 (row t r) d := by
  rw [pay23_at, b0_at, x2_at, fut, dif_pos (show (row t r).val + 0 < 8192 from (row t r).isLt)]
  rfl

/-- The mask of the rows after the tile: 0 at the last tile, 1 at the others. -/
theorem mask_at : k0_pay4 (F := Ideal) (grid0.coords t) = if t.val = 15 then 0 else 1 := by
  have ht := (idx t).2.2.2.2.2.2.2.2.2.2.2
  have : t.val < 16 := t.isLt
  unfold k0_pay4
  rw [ht]
  word_cmp
  by_cases h : t.val = 15
  · rw [if_pos h, if_pos h]; exact Ideal.ofBits_zero .f32
  · rw [if_neg h, if_neg h]; exact Ideal.ofBits_one_f32

/-- The cotangent `k` rows ahead, inside the tile and past its end. -/
theorem ahead (k : ℕ) (hk : k ≤ 2) (r : Fin 512) (d : Fin 1024) :
    aheadv (iblk m c 0 t) (X0_2 m c t) (k0_pay4 (F := Ideal) (grid0.coords t)) (iblk m c 1 t) (X0_3 m c t) k hk r d
      = fut (argD m c) (argP m c) k (row t r) d := by
  have : t.val < 16 := t.isLt
  unfold aheadv
  by_cases h : r.val + k < 512
  · rw [dif_pos h, fut, dif_pos (show (row t r).val + k < 8192 from by simp only [row]; omega), b0_at, x2_at]
    have e : row t ⟨r.val + k, h⟩ = ⟨(row t r).val + k, by simp only [row]; omega⟩ := Fin.ext (by simp only [row]; omega)
    rw [e]
  · rw [dif_neg h, mask_at, fut, b1_at, x3_at]
    by_cases h0 : t.val = 15
    · rw [if_pos h0, zero_mul, dif_neg (show ¬ (row t r).val + k < 8192 from by simp only [row]; omega)]
    · rw [if_neg h0, one_mul, dif_pos (show (row t r).val + k < 8192 from by simp only [row]; omega)]
      have e : nextRow t ⟨r.val + k - 512, by omega⟩ = ⟨(row t r).val + k, by simp only [row]; omega⟩ :=
        Fin.ext (by simp only [row, nextRow]; omega)
      rw [e]

/-- The cotangent of the convolution's input at a tile's rows, for any three loaded taps. -/
theorem back_tile (v50 v52 v54 : FVec Ideal S1x1024 .f32) (r : Fin 512) (d : Fin 1024) :
    k0_pay32 (F := Ideal) v50 v52 v54 (k0_pay23 (k0_pay7 (X0_2 m c t)) (k0_pay8 (iblk m c 0 t))) (k0_pay25 (k0_pay4 (grid0.coords t)) (iblk m c 1 t) (X0_3 m c t)) (k0_pay26 (k0_pay4 (grid0.coords t)) (iblk m c 1 t) (X0_3 m c t))
      (iota Kind.tc S8x1024 32 [0] iota_S8x1024_d0_w32) (k0_pay28 (k0_pay7 (X0_2 m c t)) (k0_pay8 (iblk m c 0 t))) (k0_pay29 (k0_pay7 (X0_2 m c t)) (k0_pay8 (iblk m c 0 t))) k0_pay30
      (k0_pay31 (k0_pay7 (X0_2 m c t)) (k0_pay8 (iblk m c 0 t))) (ix2 r d)
      = v54 (ix2 0 d) * fut (argD m c) (argP m c) 0 (row t r) d + v52 (ix2 0 d) * fut (argD m c) (argP m c) 1 (row t r) d
        + v50 (ix2 0 d) * fut (argD m c) (argP m c) 2 (row t r) d := by
  rw [back_at, ahead m c t 0, ahead m c t 1, ahead m c t 2]

end Cert.KernelConvIdeal.Value

end
-- ==== Proof.Conv.Final.lean ====
module

public import proofs.«01_k».proof.Proof.Conv.Out
public import Idealize.ShloMosaic.Lib.WritesUnit

@[expose] public section

set_option maxRecDepth 16384

noncomputable section

namespace Cert.KernelConvIdeal.Value

open Cert.KernelConvIdeal Cert.KernelConvIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The cotangents of `b_g`, `c_g` and `u`, side by side. -/
def grads (D : FVec Ideal S8192x1024 .bf16) (P : FVec Ideal S8192x6656 .bf16) (w : FVec Ideal S3x1024 .f32) (s : Fin 8192) (j : ℕ) (hj : j < 3072) : EReal :=
  if h : j < 1024 then D (ix2 s ⟨j, h⟩) * conv P w s ⟨j, h⟩
  else if h : j < 2048 then back D P w s ⟨j - 1024, by omega⟩ * P (ix2 s ⟨j + 1024, by omega⟩)
  else back D P w s ⟨j - 2048, by omega⟩ * P (ix2 s ⟨j - 1024, by omega⟩)

/-- Contributions of one row to the gradient of tap `k`. -/
def tapTerm (D : FVec Ideal S8192x1024 .bf16) (P : FVec Ideal S8192x6656 .bf16) (k : ℕ) (d : Fin 1024) (s : Fin 8192) : EReal :=
  fut D P 0 s d * past P (2 - k) s d

theorem pay33_at (b0 : FVec Ideal S512x1024 .bf16) (v : FVec Ideal S512x1024 .f32) (r : Fin 512) (d : Fin 1024) :
    k0_pay33 (F := Ideal) (k0_pay8 b0) v (ix2 r d) = b0 (ix2 r d) * v (ix2 r d) := by
  pointwise [k0_pay33, k0_pay8]

theorem pay22_at (v15 : FVec Ideal S512x1024 .f32) (v23 : IVec S8x1024 32) (v24 v25 : FVec Ideal S1x1024 .f32) (v27 : FVec Ideal S512x1024 .f32) (v33 : FVec Ideal S8x1024 .f32)
    (v34 : FVec Ideal S504x1024 .f32) (v49 v51 v53 : FVec Ideal S1x1024 .f32) (r : Fin 512) (d : Fin 1024) :
    k0_pay22 (F := Ideal) v15 v23 v24 v25 v27 v33 v34 v49 v51 v53 (ix2 r d)
      = v49 (ix2 0 d) * k0_pay18 (F := Ideal) v23 v24 v25 v27 (ix2 r d) + v51 (ix2 0 d) * k0_pay17 (F := Ideal) v33 v34 (ix2 r d) + v53 (ix2 0 d) * v15 (ix2 r d) := by
  pointwise [k0_pay22, k0_pay19, k0_pay20, k0_pay21]

theorem pay19_at (v : FVec Ideal S1x1024 .f32) (d : Fin 1024) : k0_pay19 (F := Ideal) v (ix2 0 d) = v (ix2 0 d) := by
  pointwise [k0_pay19]
theorem pay20_at (v : FVec Ideal S1x1024 .f32) (d : Fin 1024) : k0_pay20 (F := Ideal) v (ix2 0 d) = v (ix2 0 d) := by
  pointwise [k0_pay20]
theorem pay21_at (v : FVec Ideal S1x1024 .f32) (d : Fin 1024) : k0_pay21 (F := Ideal) v (ix2 0 d) = v (ix2 0 d) := by
  pointwise [k0_pay21]

theorem pay34_at (b : FVec Ideal S512x1024 .bf16) (v50 v52 v54 : FVec Ideal S1x1024 .f32) (v63 : FVec Ideal S512x1024 .f32) (v71 v72 : FVec Ideal S1x1024 .f32) (v73 : IVec S8x1024 32)
    (v75 : FVec Ideal S512x1024 .f32) (v76 : FVec Ideal S504x1024 .f32) (v78 : IVec S8x1024 1) (v79 : FVec Ideal S8x1024 .f32) (r : Fin 512) (d : Fin 1024) :
    k0_pay34 (F := Ideal) (k0_pay6 b) v50 v52 v54 v63 v71 v72 v73 v75 v76 v78 v79 (ix2 r d)
      = k0_pay32 (F := Ideal) v50 v52 v54 v63 v71 v72 v73 v75 v76 v78 v79 (ix2 r d) * b (ix2 r d) := by
  pointwise [k0_pay34, k0_pay6]

theorem pay35_at (b : FVec Ideal S512x1024 .bf16) (v50 v52 v54 : FVec Ideal S1x1024 .f32) (v63 : FVec Ideal S512x1024 .f32) (v71 v72 : FVec Ideal S1x1024 .f32) (v73 : IVec S8x1024 32)
    (v75 : FVec Ideal S512x1024 .f32) (v76 : FVec Ideal S504x1024 .f32) (v78 : IVec S8x1024 1) (v79 : FVec Ideal S8x1024 .f32) (r : Fin 512) (d : Fin 1024) :
    k0_pay35 (F := Ideal) (k0_pay5 b) v50 v52 v54 v63 v71 v72 v73 v75 v76 v78 v79 (ix2 r d)
      = k0_pay32 (F := Ideal) v50 v52 v54 v63 v71 v72 v73 v75 v76 v78 v79 (ix2 r d) * b (ix2 r d) := by
  pointwise [k0_pay35, k0_pay5]

theorem tile34 (v50 v52 v54 : FVec Ideal S1x1024 .f32) (e0 : ∀ d, v50 (ix2 0 d) = argW m c (ix2 0 d)) (e1 : ∀ d, v52 (ix2 0 d) = argW m c (ix2 1 d))
    (e2 : ∀ d, v54 (ix2 0 d) = argW m c (ix2 2 d)) (r : Fin 512) (d : Fin 1024) :
    k0_pay34 (F := Ideal) (k0_pay6 (X0_5 m c t)) (k0_pay19 v50) (k0_pay20 v52) (k0_pay21 v54) (k0_pay23 (k0_pay7 (X0_2 m c t)) (k0_pay8 (iblk m c 0 t)))
      (k0_pay25 (k0_pay4 (grid0.coords t)) (iblk m c 1 t) (X0_3 m c t)) (k0_pay26 (k0_pay4 (grid0.coords t)) (iblk m c 1 t) (X0_3 m c t))
      (iota Kind.tc S8x1024 32 [0] iota_S8x1024_d0_w32) (k0_pay28 (k0_pay7 (X0_2 m c t)) (k0_pay8 (iblk m c 0 t))) (k0_pay29 (k0_pay7 (X0_2 m c t)) (k0_pay8 (iblk m c 0 t))) k0_pay30
      (k0_pay31 (k0_pay7 (X0_2 m c t)) (k0_pay8 (iblk m c 0 t))) (ix2 r d)
      = back (argD m c) (argP m c) (argW m c) (row t r) d * argP m c (ix2 (row t r) ⟨2048 + d.val, by omega⟩) := by
  rw [pay34_at, back_tile, x5_at, pay19_at, pay20_at, pay21_at, e0, e1, e2]
  rfl

theorem tile35 (v50 v52 v54 : FVec Ideal S1x1024 .f32) (e0 : ∀ d, v50 (ix2 0 d) = argW m c (ix2 0 d)) (e1 : ∀ d, v52 (ix2 0 d) = argW m c (ix2 1 d))
    (e2 : ∀ d, v54 (ix2 0 d) = argW m c (ix2 2 d)) (r : Fin 512) (d : Fin 1024) :
    k0_pay35 (F := Ideal) (k0_pay5 (X0_4 m c t)) (k0_pay19 v50) (k0_pay20 v52) (k0_pay21 v54) (k0_pay23 (k0_pay7 (X0_2 m c t)) (k0_pay8 (iblk m c 0 t)))
      (k0_pay25 (k0_pay4 (grid0.coords t)) (iblk m c 1 t) (X0_3 m c t)) (k0_pay26 (k0_pay4 (grid0.coords t)) (iblk m c 1 t) (X0_3 m c t))
      (iota Kind.tc S8x1024 32 [0] iota_S8x1024_d0_w32) (k0_pay28 (k0_pay7 (X0_2 m c t)) (k0_pay8 (iblk m c 0 t))) (k0_pay29 (k0_pay7 (X0_2 m c t)) (k0_pay8 (iblk m c 0 t))) k0_pay30
      (k0_pay31 (k0_pay7 (X0_2 m c t)) (k0_pay8 (iblk m c 0 t))) (ix2 r d)
      = back (argD m c) (argP m c) (argW m c) (row t r) d * argP m c (ix2 (row t r) ⟨1024 + d.val, by omega⟩) := by
  rw [pay35_at, back_tile, x4_at, pay19_at, pay20_at, pay21_at, e0, e1, e2]
  rfl

theorem tile33 (v50 v52 v54 : FVec Ideal S1x1024 .f32) (e0 : ∀ d, v50 (ix2 0 d) = argW m c (ix2 0 d)) (e1 : ∀ d, v52 (ix2 0 d) = argW m c (ix2 1 d))
    (e2 : ∀ d, v54 (ix2 0 d) = argW m c (ix2 2 d)) (r : Fin 512) (d : Fin 1024) :
    k0_pay33 (F := Ideal) (k0_pay8 (iblk m c 0 t)) (k0_pay22 (k0_pay9 (X0_4 m c t) (X0_5 m c t)) (iota Kind.tc S8x1024 32 [0] iota_S8x1024_d0_w32)
        (k0_pay11 (grid0.coords t) (X0_6 m c t) (X0_7 m c t)) (k0_pay12 (grid0.coords t) (X0_6 m c t) (X0_7 m c t))
        (k0_pay14 (X0_4 m c t) (X0_5 m c t)) (k0_pay15 (grid0.coords t) (X0_4 m c t) (X0_5 m c t) (X0_6 m c t) (X0_7 m c t))
        (k0_pay16 (X0_4 m c t) (X0_5 m c t)) v50 v52 v54) (ix2 r d)
      = argD m c (ix2 (row t r) d) * conv (argP m c) (argW m c) (row t r) d := by
  rw [pay33_at, pay22_at, m0_tile, m1_tile, m2_tile, b0_at, e0, e1, e2]
  rfl

theorem grads_b (D : FVec Ideal S8192x1024 .bf16) (P : FVec Ideal S8192x6656 .bf16) (w : FVec Ideal S3x1024 .f32) (s s' : Fin 8192) (d : Fin 1024) (j : ℕ) (hj : j < 3072)
    (e : j = d.val) (es : s'.val = s.val) : grads D P w s' j hj = D (ix2 s d) * conv P w s d := by
  subst e
  obtain rfl := Fin.ext es
  rw [grads, dif_pos d.isLt]
theorem grads_c (D : FVec Ideal S8192x1024 .bf16) (P : FVec Ideal S8192x6656 .bf16) (w : FVec Ideal S3x1024 .f32) (s s' : Fin 8192) (d : Fin 1024) (j : ℕ) (hj : j < 3072)
    (e : j = 1024 + d.val) (es : s'.val = s.val) : grads D P w s' j hj = back D P w s d * P (ix2 s ⟨2048 + d.val, by omega⟩) := by
  subst e
  obtain rfl := Fin.ext es
  rw [grads, dif_neg (by omega), dif_pos (by omega)]
  rw [show (⟨1024 + d.val - 1024, by omega⟩ : Fin 1024) = d from Fin.ext (Nat.add_sub_cancel_left 1024 d.val),
    show (⟨1024 + d.val + 1024, by omega⟩ : Fin 6656) = ⟨2048 + d.val, by omega⟩ from Fin.ext (show 1024 + d.val + 1024 = 2048 + d.val by omega)]
theorem grads_u (D : FVec Ideal S8192x1024 .bf16) (P : FVec Ideal S8192x6656 .bf16) (w : FVec Ideal S3x1024 .f32) (s s' : Fin 8192) (d : Fin 1024) (j : ℕ) (hj : j < 3072)
    (e : j = 2048 + d.val) (es : s'.val = s.val) : grads D P w s' j hj = back D P w s d * P (ix2 s ⟨1024 + d.val, by omega⟩) := by
  subst e
  obtain rfl := Fin.ext es
  rw [grads, dif_neg (by omega), dif_neg (by omega)]
  rw [show (⟨2048 + d.val - 2048, by omega⟩ : Fin 1024) = d from Fin.ext (Nat.add_sub_cancel_left 2048 d.val),
    show (⟨2048 + d.val - 1024, by omega⟩ : Fin 6656) = ⟨1024 + d.val, by omega⟩ from Fin.ext (show 2048 + d.val - 1024 = 1024 + d.val by omega)]

/-- Row 0 of the staged taps. -/
theorem ld0_at (X : FVec Ideal S8x1024 .f32) (d : Fin 1024) :
    (View.ld (Val := Elt Ideal) (S := S8x1024) (e' := .f32) X (Rect.unit ![0, 0] ![1, 1024] inb_S8x1024_S1x1024_0_0) : FVec Ideal S1x1024 .f32) (ix2 0 d) = X (ix2 0 d) := by
  pointwise []

/-- Row 1 of the staged taps. -/
theorem ld1_at (X : FVec Ideal S8x1024 .f32) (d : Fin 1024) :
    (View.ld (Val := Elt Ideal) (S := S8x1024) (e' := .f32) X (Rect.unit ![1, 0] ![1, 1024] inb_S8x1024_S1x1024_1_0) : FVec Ideal S1x1024 .f32) (ix2 0 d) = X (ix2 1 d) := by
  pointwise []

/-- Row 2 of the staged taps. -/
theorem ld2_at (X : FVec Ideal S8x1024 .f32) (d : Fin 1024) :
    (View.ld (Val := Elt Ideal) (S := S8x1024) (e' := .f32) X (Rect.unit ![2, 0] ![1, 1024] inb_S8x1024_S1x1024_2_0) : FVec Ideal S1x1024 .f32) (ix2 0 d) = X (ix2 2 d) := by
  pointwise []

/-- One point's written columns. -/
theorem out9_at (y : S512x3072.Idx) :
    (outsAt0 m c t.val t.isLt).1 y = grads (argD m c) (argP m c) (argW m c) (row t (y 0)) (y 1).val (y 1).isLt := by
  have e0 := fun d => (ld0_at (iblk m c 8 t) d).trans (taps_at m c t 0 d)
  have e1 := fun d => (ld1_at (iblk m c 8 t) d).trans (taps_at m c t 1 d)
  have e2 := fun d => (ld2_at (iblk m c 8 t) d).trans (taps_at m c t 2 d)
  by_cases h : t.val % 16 = 0
  · rw [outsAt0_A m c t h]
    frame_out
    clear h
    canon_tiles x h
    case piece0 =>
      idx_vars x
      exact (tile35 m c t _ _ _ e0 e1 e2 x0 x1).trans (grads_u _ _ _ (row t x0) (row t (y 0)) x1 _ _ h1 (congrArg (512 * t.val + ·) h0)).symm
    case piece1 =>
      idx_vars x
      exact (tile34 m c t _ _ _ e0 e1 e2 x0 x1).trans (grads_c _ _ _ (row t x0) (row t (y 0)) x1 _ _ h1 (congrArg (512 * t.val + ·) h0)).symm
    case piece2 =>
      idx_vars x
      exact (tile33 m c t _ _ _ e0 e1 e2 x0 x1).trans (grads_b _ _ _ (row t x0) (row t (y 0)) x1 _ _ h1 (congrArg (512 * t.val + ·) h0)).symm
  · rw [outsAt0_B m c t h]
    frame_out
    clear h
    canon_tiles x h
    case piece0 =>
      idx_vars x
      exact (tile35 m c t _ _ _ e0 e1 e2 x0 x1).trans (grads_u _ _ _ (row t x0) (row t (y 0)) x1 _ _ h1 (congrArg (512 * t.val + ·) h0)).symm
    case piece1 =>
      idx_vars x
      exact (tile34 m c t _ _ _ e0 e1 e2 x0 x1).trans (grads_c _ _ _ (row t x0) (row t (y 0)) x1 _ _ h1 (congrArg (512 * t.val + ·) h0)).symm
    case piece2 =>
      idx_vars x
      exact (tile33 m c t _ _ _ e0 e1 e2 x0 x1).trans (grads_b _ _ _ (row t x0) (row t (y 0)) x1 _ _ h1 (congrArg (512 * t.val + ·) h0)).symm

/-- The first result whole: three column bands of gradients, the other columns of `R`. -/
def bands (D : FVec Ideal S8192x1024 .bf16) (P : FVec Ideal S8192x6656 .bf16) (w : FVec Ideal S3x1024 .f32) (R : FVec Ideal S8192x6656 .bf16) (s : Fin 8192) (j : Fin 6656) : EReal :=
  if h : j.val < 3072 then grads D P w s j.val h else R (ix2 s j)

/-- The region finds the launched array in the result's buffer. -/
theorem entry9_at : V m c main_v1_0 = m ((c : Thread nD τ).loc main_arg3) := by
  simp only [V, hostOps0, hostOps0_1, hostOps0_2, List.flatten_cons, List.flatten_nil, List.append_nil, List.cons_append, List.nil_append]
  entry_read
  rfl

theorem bands_in (D : FVec Ideal S8192x1024 .bf16) (P : FVec Ideal S8192x6656 .bf16) (w : FVec Ideal S3x1024 .f32) (R : FVec Ideal S8192x6656 .bf16) (s s' : Fin 8192) (j : ℕ) (hj : j < 3072)
    (j' : Fin 6656) (es : s'.val = s.val) (ej : j'.val = j) : grads D P w s j hj = bands D P w R s' j' := by
  subst ej
  obtain rfl := Fin.ext es
  rw [bands, dif_pos hj]

theorem bands_out (D : FVec Ideal S8192x1024 .bf16) (P : FVec Ideal S8192x6656 .bf16) (w : FVec Ideal S3x1024 .f32) (R : FVec Ideal S8192x6656 .bf16) (i : S8192x6656.Idx)
    (h : ¬ (i 1).val < 3072) : R i = bands D P w R (i 0) (i 1) := by
  rw [show bands D P w R (i 0) (i 1) = R (ix2 (i 0) (i 1)) from dif_neg h]
  congr 1
  funext a
  fin_cases a <;> rfl

theorem final9 : (dats m 0 c).arrAt 9 cfg0.N = fun i => bands (argD m c) (argP m c) (argW m c) (m ((c : Thread nD τ).loc main_arg3)) (i 0) (i 1) := by
  refine (dats m 0 c).arrAt_eq_of_coversWhere_of_agree 9 _ (fun β => β 1 = 0) (by decide +kernel) (fun t hf y => ?_) (fun j hj => ?_)
  · rw [after0_9]
    refine (out9_at m c t _).trans (bands_in _ _ _ _ _ _ _ _ _ ?_ ?_)
    · refine Eq.trans (b := 512 * t.val + (y 0).val) ?_ rfl
      blk_simp [idx t]
      omega
    · have e : win0_9.index t 1 = 0 := by rw [(idx t).2.2.2.2.2.2.2.2.2.1]; rfl
      show win0_9.index t 1 * 3072 + 1 * (y 1).val = (y 1).val
      rw [e]
      omega
  · rw [A_eq]
    refine Eq.trans (congrFun (entry9_at m c) _) (bands_out _ _ _ _ _ ?_)
    blk_simp [Pipeline.Window.cell_apply] at hj ⊢
    omega

end Cert.KernelConvIdeal.Value

end
-- ==== Proof.Conv.Taps.lean ====
module

public import proofs.«01_k».proof.Proof.Conv.Final

@[expose] public section

set_option maxRecDepth 16384

noncomputable section

namespace Cert.KernelConvIdeal.Value

open Cert.KernelConvIdeal Cert.KernelConvIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem pay36_at (v48 v63 : FVec Ideal S512x1024 .f32) (l : FVec Ideal S1x1024 .f32) (d : Fin 1024) :
    k0_pay36 (F := Ideal) v48 v63 l (ix2 0 d) = l (ix2 0 d) + ∑ r : Fin 512, v63 (ix2 r d) * v48 (ix2 r d) := by
  pointwise [k0_pay36]
theorem pay1_at (v35 v63 : FVec Ideal S512x1024 .f32) (l : FVec Ideal S1x1024 .f32) (d : Fin 1024) :
    k0_pay1 (F := Ideal) v35 v63 l (ix2 0 d) = l (ix2 0 d) + ∑ r : Fin 512, v63 (ix2 r d) * v35 (ix2 r d) := by
  pointwise [k0_pay1]
theorem pay2_at (v15 v63 : FVec Ideal S512x1024 .f32) (l : FVec Ideal S1x1024 .f32) (d : Fin 1024) :
    k0_pay2 (F := Ideal) v15 v63 l (ix2 0 d) = l (ix2 0 d) + ∑ r : Fin 512, v63 (ix2 r d) * v15 (ix2 r d) := by
  pointwise [k0_pay2]
theorem pay3_at (i : S8x1024.Idx) : k0_pay3 (F := Ideal) i = 0 := by
  pointwise [k0_pay3]

/-- What tile `t` adds to row `j` of the taps' gradient. -/
def tapStep (t : Fin cfg0.N) (i : S8x1024.Idx) : EReal :=
  if (i 0).val < 3 then ∑ r : Fin 512, tapTerm (argD m c) (argP m c) (i 0).val (i 1) (row t r) else 0

/-- Three single rows stored over earlier contents, read back at row `j`. -/
theorem rows_read {κ : Kind} {sp : Space} (v : View sig κ sp S8x1024 .f32) (f : v.ty.Contents (Elt Ideal)) (w0 w1 w2 : FVec Ideal S1x1024 .f32)
    (L : List (View.Piece (Elt Ideal) S8x1024 .f32)) (j : Fin 8) (d : Fin 1024) :
    v.read (Elt Ideal) (v.writes (Elt Ideal) f (⟨Rect.unit ![2, 0] ![1, 1024] inb_S8x1024_S1x1024_2_0, w2⟩ :: ⟨Rect.unit ![1, 0] ![1, 1024] inb_S8x1024_S1x1024_1_0, w1⟩
        :: ⟨Rect.unit ![0, 0] ![1, 1024] inb_S8x1024_S1x1024_0_0, w0⟩ :: L)) (ix2 j d)
      = if j.val = 0 then w0 (ix2 0 d) else if j.val = 1 then w1 (ix2 0 d) else if j.val = 2 then w2 (ix2 0 d)
        else v.read (Elt Ideal) (v.writes (Elt Ideal) f L) (ix2 j d) := by
  by_cases h2 : j.val = 2
  · rw [if_neg (by omega), if_neg (by omega), if_pos h2]
    exact View.read_writes_cons_rows_of_mem v f _ _ _ _ (ix2 0 d) rfl h2 rfl
  · rw [if_neg h2]
    refine (View.read_writes_cons_rows_of_not_mem v f _ _ _ _ rfl (W := 1) rfl (show j.val < 2 ∨ 2 + 1 ≤ j.val by omega)).trans ?_
    by_cases h1 : j.val = 1
    · rw [if_neg (by omega), if_pos h1]
      exact View.read_writes_cons_rows_of_mem v f _ _ _ _ (ix2 0 d) rfl h1 rfl
    · rw [if_neg h1]
      refine (View.read_writes_cons_rows_of_not_mem v f _ _ _ _ rfl (W := 1) rfl (show j.val < 1 ∨ 1 + 1 ≤ j.val by omega)).trans ?_
      by_cases h0 : j.val = 0
      · rw [if_pos h0]
        exact View.read_writes_cons_rows_of_mem v f _ _ _ _ (ix2 0 d) rfl (h0.trans rfl) rfl
      · rw [if_neg h0]
        exact View.read_writes_cons_rows_of_not_mem v f _ _ _ _ rfl (W := 1) rfl (show j.val < 0 ∨ 0 + 1 ≤ j.val by omega)

/-- One point's rows over any earlier contents `prev`: each of the first three rows gains its tile's sum. -/
theorem rows_step (prev : S8x1024.Idx → EReal) (w0 w1 w2 : FVec Ideal S1x1024 .f32) (rest : S8x1024.Idx → EReal)
    (h0 : ∀ d, w0 (ix2 0 d) = prev (ix2 0 d) + ∑ r : Fin 512, tapTerm (argD m c) (argP m c) 0 d (row t r))
    (h1 : ∀ d, w1 (ix2 0 d) = prev (ix2 1 d) + ∑ r : Fin 512, tapTerm (argD m c) (argP m c) 1 d (row t r))
    (h2 : ∀ d, w2 (ix2 0 d) = prev (ix2 2 d) + ∑ r : Fin 512, tapTerm (argD m c) (argP m c) 2 d (row t r))
    (hr : ∀ i, rest i = prev i) (j : Fin 8) (d : Fin 1024) :
    (if j.val = 0 then w0 (ix2 0 d) else if j.val = 1 then w1 (ix2 0 d) else if j.val = 2 then w2 (ix2 0 d) else rest (ix2 j d))
      = prev (ix2 j d) + tapStep m c t (ix2 j d) := by
  have hs : tapStep m c t (ix2 j d) = if j.val < 3 then ∑ r : Fin 512, tapTerm (argD m c) (argP m c) j.val d (row t r) else 0 := rfl
  rw [hs]
  by_cases e0 : j.val = 0
  · obtain rfl : j = 0 := Fin.ext e0
    exact h0 d
  · by_cases e1 : j.val = 1
    · obtain rfl : j = 1 := Fin.ext e1
      exact h1 d
    · by_cases e2 : j.val = 2
      · obtain rfl : j = 2 := Fin.ext e2
        exact h2 d
      · rw [if_neg e0, if_neg e1, if_neg e2, if_neg (by omega), add_zero, hr]

theorem sum0 (d : Fin 1024) : (∑ r : Fin 512, k0_pay23 (F := Ideal) (k0_pay7 (X0_2 m c t)) (k0_pay8 (iblk m c 0 t)) (ix2 r d)
      * k0_pay18 (F := Ideal) (iota Kind.tc S8x1024 32 [0] iota_S8x1024_d0_w32) (k0_pay11 (grid0.coords t) (X0_6 m c t) (X0_7 m c t))
        (k0_pay12 (grid0.coords t) (X0_6 m c t) (X0_7 m c t)) (k0_pay14 (X0_4 m c t) (X0_5 m c t)) (ix2 r d))
    = ∑ r : Fin 512, tapTerm (argD m c) (argP m c) 0 d (row t r) :=
  Finset.sum_congr rfl fun r _ => by rw [dco_tile, m2_tile]; rfl

theorem sum1 (d : Fin 1024) : (∑ r : Fin 512, k0_pay23 (F := Ideal) (k0_pay7 (X0_2 m c t)) (k0_pay8 (iblk m c 0 t)) (ix2 r d)
      * k0_pay17 (F := Ideal) (k0_pay15 (grid0.coords t) (X0_4 m c t) (X0_5 m c t) (X0_6 m c t) (X0_7 m c t)) (k0_pay16 (X0_4 m c t) (X0_5 m c t)) (ix2 r d))
    = ∑ r : Fin 512, tapTerm (argD m c) (argP m c) 1 d (row t r) :=
  Finset.sum_congr rfl fun r _ => by rw [dco_tile, m1_tile]; rfl

theorem sum2 (d : Fin 1024) : (∑ r : Fin 512, k0_pay23 (F := Ideal) (k0_pay7 (X0_2 m c t)) (k0_pay8 (iblk m c 0 t)) (ix2 r d)
      * k0_pay9 (F := Ideal) (X0_4 m c t) (X0_5 m c t) (ix2 r d))
    = ∑ r : Fin 512, tapTerm (argD m c) (argP m c) 2 d (row t r) :=
  Finset.sum_congr rfl fun r _ => by rw [dco_tile, m0_tile]; rfl

theorem step10_B (h : ¬ t.val % 16 = 0) (i : S8x1024.Idx) :
    (outsAt0 m c t.val t.isLt).2 i = (outsAt0 m c (t.val - 1) (Nat.lt_of_le_of_lt (Nat.sub_le _ _) t.isLt)).2 i + tapStep m c t i := by
  obtain ⟨j, d, rfl⟩ : ∃ (j : Fin 8) (d : Fin 1024), i = ix2 j d := ⟨i 0, i 1, by funext a; fin_cases a <;> rfl⟩
  rw [outsAt0_B m c t h]
  frame_out
  refine (rows_read _ _ _ _ _ [] j d).trans (rows_step m c t (outsAt0 m c (t.val - 1) (Nat.lt_of_le_of_lt (Nat.sub_le _ _) t.isLt)).2 _ _ _ _ ?_ ?_ ?_ ?_ j d)
  · exact fun d => (pay36_at _ _ _ d).trans (congrArg₂ (· + ·) (ld0_at _ d) (sum0 m c t d))
  · exact fun d => (pay1_at _ _ _ d).trans (congrArg₂ (· + ·) (ld1_at _ d) (sum1 m c t d))
  · exact fun d => (pay2_at _ _ _ d).trans (congrArg₂ (· + ·) (ld2_at _ d) (sum2 m c t d))
  · exact fun i => congrFun (Memref.IsWhole.read_unread _ _) i

/-- The zeros the first point stores, read back. -/
theorem zeros_read {κ : Kind} {sp : Space} (v : View sig κ sp S8x1024 .f32) (i : S8x1024.Idx) :
    v.read (Elt Ideal) (v.writes (Elt Ideal) v.junk [⟨Rect.unit ![0, 0] ![8, 1024] inb_S8x1024_S8x1024_0_0, k0_pay3 (F := Ideal)⟩]) i = 0 := by
  rw [View.read_writes_junk_eq_canon]
  exact (congrFun (View.canon_cons_unit_lit inb_S8x1024_S8x1024_0_0 _ _ (by decide)) i).trans (pay3_at i)

theorem step10_A (h : t.val % 16 = 0) (i : S8x1024.Idx) :
    (outsAt0 m c t.val t.isLt).2 i = 0 + tapStep m c t i := by
  obtain ⟨j, d, rfl⟩ : ∃ (j : Fin 8) (d : Fin 1024), i = ix2 j d := ⟨i 0, i 1, by funext a; fin_cases a <;> rfl⟩
  rw [outsAt0_A m c t h]
  frame_out
  rw [← View.read_writes_junk_eq_canon (ms0_10 t).view]
  refine (rows_read _ _ _ _ _ _ j d).trans (rows_step m c t (fun _ => 0) _ _ _ _ ?_ ?_ ?_ ?_ j d)
  · exact fun d => (pay36_at _ _ _ d).trans (congrArg₂ (· + ·) (zeros_read _ _) (sum0 m c t d))
  · exact fun d => (pay1_at _ _ _ d).trans (congrArg₂ (· + ·) ((View.read_writes_cons_rows_of_not_mem _ _ _ _ _ _ rfl (W := 1) rfl (Or.inr (Nat.le_refl 1))).trans (zeros_read _ _)) (sum1 m c t d))
  · exact fun d => (pay2_at _ _ _ d).trans (congrArg₂ (· + ·) ((View.read_writes_cons_rows_of_not_mem _ _ _ _ _ _ rfl (W := 1) rfl (Or.inr (Nat.le_refl 2))).trans
      ((View.read_writes_cons_rows_of_not_mem _ _ _ _ _ _ rfl (W := 1) rfl (Or.inr (Nat.le_succ 1))).trans (zeros_read _ _))) (sum2 m c t d))
  · exact fun i => zeros_read _ i

/-- The taps' gradient: over all rows of the sequence, in the first three rows. -/
def taps (D : FVec Ideal S8192x1024 .bf16) (P : FVec Ideal S8192x6656 .bf16) (j : Fin 8) (d : Fin 1024) : EReal :=
  if j.val < 3 then ∑ s : Fin 8192, tapTerm D P j.val d s else 0

theorem final10 : (dats m 0 c).arrAt 10 cfg0.N = fun i => taps (argD m c) (argP m c) (i 0) (i 1) :=
  (dats m 0 c).arrAt_eq_of_after_last 10 t0_15 (by decide +kernel) _ fun i => by
    refine (congrFun (after0_10 m c t0_15) i).trans ?_
    refine (Pipeline.eq_sum_fin_of_reset_step_apply_last (fun n h => (outsAt0 m c n h).2) 16 (fun _ => 0) (tapStep m c)
      (fun t h i => step10_A m c t h i) (fun t h i => step10_B m c t h i) (by decide) t0_15 (by decide) i).trans ?_
    have e : (cfg0.win 10).arr.view.emb i = i := rfl
    rw [zero_add, e]
    show _ = if (i 0).val < 3 then _ else _
    by_cases h : (i 0).val < 3
    · rw [if_pos h]
      refine Eq.trans ?_ (Fin.sum_univ_tiles 16 512 rfl _).symm
      refine Finset.sum_congr rfl fun p _ => ?_
      refine (if_pos h).trans (Finset.sum_congr rfl fun r _ => congrArg (tapTerm (argD m c) (argP m c) (i 0).val (i 1)) (Fin.ext ?_))
      show 512 * p.val + r.val = p.val * 512 + r.val
      omega
    · rw [if_neg h]
      exact Finset.sum_eq_zero fun p _ => if_neg h

end Cert.KernelConvIdeal.Value

end
-- ==== Proof.Conv.Reference.lean ====
module

public import proofs.«01_k».proof.Proof.Gen.ReferenceConvIdeal.Run
public import proofs.«01_k».proof.Proof.Gen.ReferenceConvIdeal.Read
public import proofs.«01_k».proof.Proof.Conv.Taps

@[expose] public section

set_option maxRecDepth 16384

noncomputable section

namespace Cert.ReferenceConvIdeal.Value

open Cert.ReferenceConvIdeal Cert.ReferenceConvIdeal.Gen Idealize.ShloMosaic Idealize.ShloMosaic.TcCoe Idealize.SL.Sem
open Idealize.ShloMosaic.Pipeline (Dat)

open Cert.ReferenceConvIdeal.Read
open Cert.KernelConvIdeal.Value (past fut conv back grads bands tapTerm taps)

variable (x0 : FVec Ideal S8192x1024 .bf16) (x1 : FVec Ideal S8192x6656 .bf16) (x2 : FVec Ideal S3x1024 .f32) (x3 : FVec Ideal S8192x6656 .bf16)

theorem v9_at (s : Fin 8192) (d : Fin 1024) : val_main_v9 (F := Ideal) x1 (ix3 0 s d) = past x1 2 s d := by
  pointwise [val_main_v9, val_main_v7, val_main_v6, val_main_cst, val_main_v5, val_main_v3, val_main_v4, val_main_v1, val_main_v0]
  by_cases h : s.val < 2
  · rw [dif_pos h, past, dif_neg (by omega)]
  · rw [dif_neg h, past, dif_pos (by omega)]
theorem v15_at (s : Fin 8192) (d : Fin 1024) : val_main_v15 (F := Ideal) x1 (ix3 0 s d) = past x1 1 s d := by
  pointwise [val_main_v15, val_main_v7, val_main_v6, val_main_cst, val_main_v5, val_main_v3, val_main_v4, val_main_v1, val_main_v0]
  have e : 1 + s.val - 2 = s.val - 1 := by omega
  by_cases h : 1 + s.val < 2
  · rw [dif_pos h, past, dif_neg (by omega)]
  · rw [dif_neg h, past, dif_pos (by omega)]
    simp only [e]
theorem v22_at (s : Fin 8192) (d : Fin 1024) : val_main_v22 (F := Ideal) x1 (ix3 0 s d) = past x1 0 s d := by
  pointwise [val_main_v22, val_main_v7, val_main_v6, val_main_cst, val_main_v5, val_main_v3, val_main_v4, val_main_v1, val_main_v0]
  rw [past, dif_pos (by omega)]
  rfl

theorem v32_at (s : Fin 8192) (d : Fin 1024) : val_main_v32 (F := Ideal) x0 x1 (ix3 0 s d) = fut x0 x1 0 s d := by
  pointwise [val_main_v32, val_main_v31, val_main_v30, val_main_v2, val_main_v1, val_main_v0]
  rw [fut, dif_pos (show s.val + 0 < 8192 from s.isLt), mul_comm]
  rfl

theorem v28_at (s : Fin 8192) (d : Fin 1024) : val_main_v28 (F := Ideal) x1 x2 (ix3 0 s d) = conv x1 x2 s d := by
  rw [conv, ← v9_at, ← v15_at, ← v22_at]
  pointwise [val_main_v28, val_main_v21, val_main_v14, val_main_v20, val_main_v27, val_main_v13, val_main_v19, val_main_v26, val_main_v12, val_main_v18, val_main_v25, val_main_v11, val_main_v17, val_main_v24,
    val_main_v10, val_main_v16, val_main_v23]
  simp only [mul_comm (x2 _)]

theorem fut_ahead (k : ℕ) (s : Fin 8192) (h : s.val + k < 8192) (s' : Fin 8192) (e : s'.val = s.val + k) (d : Fin 1024) : fut x0 x1 0 s' d = fut x0 x1 k s d := by
  rw [fut, dif_pos (show s'.val + 0 < 8192 from s'.isLt), fut, dif_pos h]
  simp only [e, Nat.add_zero]

theorem v66_at (s : Fin 8192) (d : Fin 1024) : val_main_v66 (F := Ideal) x0 x1 x2 (ix3 0 s d) = back x0 x1 x2 s d := by
  pointwise [val_main_v66, val_main_v64, val_main_v53, val_main_v63, val_main_v42, val_main_v52, val_main_v38, val_main_v47, val_main_v58, val_main_v37, val_main_v46, val_main_v57, val_main_v12, val_main_v18, val_main_v25, val_main_v11, val_main_v17, val_main_v24,
    val_main_v10, val_main_v16, val_main_v23, val_main_cst_4, val_main_cst_8, val_main_cst_12]
  rw [v32_at, back, mul_comm (x2 (ix2 2 d))]
  refine congrArg₂ (· + ·) (congrArg (fun y => fut x0 x1 0 s d * x2 (ix2 2 d) + y) ?_) ?_
  · by_cases h : s.val + 1 < 8192
    · rw [dif_pos ⟨by omega, by omega⟩, v32_at, fut_ahead x0 x1 1 s h _ (show 2 + s.val - 1 = s.val + 1 by omega), mul_comm]
    · rw [dif_neg (by omega), fut, dif_neg h, mul_zero]
  · by_cases h : s.val + 2 < 8192
    · rw [dif_pos (by omega), v32_at, fut_ahead x0 x1 2 s h _ (show 2 + s.val = s.val + 2 by omega), mul_comm]
    · rw [dif_neg (by omega), fut, dif_neg h, mul_zero]

theorem v75_at (s : Fin 8192) (j : Fin 6656) : val_main_v75 (F := Ideal) x0 x1 x2 x3 (ix2 s j) = bands x0 x1 x2 x3 s j := by
  pointwise [val_main_v75, val_main_v74, val_main_v69, val_main_v70, val_main_v71, val_main_v73, val_main_v72, val_main_v33, val_main_v68, val_main_v67, val_main_v31, val_main_v30, val_main_v3, val_main_v4, val_main_v1, val_main_v0]
  by_cases h0 : j.val < 1024
  · rw [dif_pos h0, v28_at, bands, dif_pos (by omega), grads, dif_pos h0]
  · rw [dif_neg h0]
    by_cases h1 : j.val - 1024 < 1024
    · rw [dif_pos h1, v66_at, bands, dif_pos (by omega), grads, dif_neg h0, dif_pos (by omega)]
      simp only [show 2048 + (j.val - 1024) = j.val + 1024 by omega]
    · rw [dif_neg h1]
      by_cases h2 : j.val - 1024 - 1024 < 1024
      · rw [dif_pos h2, v66_at, bands, dif_pos (by omega), grads, dif_neg h0, dif_neg (by omega), mul_comm]
        simp only [show 1024 + (j.val - 1024 - 1024) = j.val - 1024 by omega]
        simp only [show j.val - 1024 - 1024 = j.val - 2048 by omega]
      · rw [dif_neg h2, bands, dif_neg (by omega)]
        simp only [show 3072 + (j.val - 1024 - 1024 - 1024) = j.val by omega]

theorem v35_at (d : Fin 1024) : val_main_v35 (F := Ideal) x0 x1 (ix2 0 d) = ∑ s : Fin 8192, tapTerm x0 x1 2 d s := by
  pointwise [val_main_v35, val_main_v34, val_main_cst_1]
  simp only [v22_at, v32_at, mul_comm (past _ _ _ _)]
  rfl
theorem v44_at (d : Fin 1024) : val_main_v44 (F := Ideal) x0 x1 (ix2 0 d) = ∑ s : Fin 8192, tapTerm x0 x1 1 d s := by
  pointwise [val_main_v44, val_main_v43, val_main_cst_5]
  simp only [v15_at, v32_at, mul_comm (past _ _ _ _)]
  rfl
theorem v55_at (d : Fin 1024) : val_main_v55 (F := Ideal) x0 x1 (ix2 0 d) = ∑ s : Fin 8192, tapTerm x0 x1 0 d s := by
  pointwise [val_main_v55, val_main_v54, val_main_cst_9]
  simp only [v9_at, v32_at, mul_comm (past _ _ _ _)]
  rfl

/-- A sum over two unit axes reads the one entry. -/
theorem unit_sum (h : S1x1x1024.ReducesTo [0, 1] S1024) (v : S1x1x1024.Idx → EReal) (init : EReal) (d : Fin 1024) :
    Ideal.hostReduceAdd h v init (ix1 d) = init + v (ix3 0 0 d) := by
  unfold Ideal.hostReduceAdd
  refine congrArg (init + ·) ?_
  rw [show (Finset.univ.filter fun i => h.drop i = ix1 d) = {ix3 0 0 d} from ?_, Finset.sum_singleton]
  ext i
  rw [Finset.mem_filter, Finset.mem_singleton]
  constructor
  · rintro ⟨-, e⟩
    have e2 : (i 2).val = d.val := congrArg Fin.val (congrFun e 0)
    have h0 : (i 0).val < 1 := (i 0).isLt
    have h1 : (i 1).val < 1 := (i 1).isLt
    funext a
    fin_cases a
    · exact Fin.ext (Nat.lt_one_iff.mp h0)
    · exact Fin.ext (Nat.lt_one_iff.mp h1)
    · exact Fin.ext e2
  · rintro rfl
    refine ⟨Finset.mem_univ _, ?_⟩
    funext a
    fin_cases a
    rfl

theorem v39_at (d : Fin 1024) : val_main_v39 (F := Ideal) x0 x1 (ix1 d) = ∑ s : Fin 8192, tapTerm x0 x1 2 d s := by
  refine (unit_sum _ _ _ d).trans ?_
  rw [← v35_at]
  pointwise [val_main_cst_2, val_main_v36]
theorem v48_at (d : Fin 1024) : val_main_v48 (F := Ideal) x0 x1 (ix1 d) = ∑ s : Fin 8192, tapTerm x0 x1 1 d s := by
  refine (unit_sum _ _ _ d).trans ?_
  rw [← v44_at]
  pointwise [val_main_cst_6, val_main_v45]
theorem v59_at (d : Fin 1024) : val_main_v59 (F := Ideal) x0 x1 (ix1 d) = ∑ s : Fin 8192, tapTerm x0 x1 0 d s := by
  refine (unit_sum _ _ _ d).trans ?_
  rw [← v55_at]
  pointwise [val_main_cst_10, val_main_v56]

theorem v76_at (j : Fin 8) (d : Fin 1024) : val_main_v76 (F := Ideal) x0 x1 (ix2 j d) = taps x0 x1 j d := by
  pointwise [val_main_v76, val_main_v62, val_main_v51, val_main_v41, val_main_v50, val_main_v61, val_main_v40, val_main_v49, val_main_v60,
    val_main_cst_3, val_main_cst_7, val_main_cst_11, val_main_call0_v0, val_main_c]
  rw [v39_at, v48_at, v59_at, taps]
  by_cases h : j.val < 3
  · rw [dif_pos h, if_pos h]
    rcases (by omega : j.val = 0 ∨ j.val = 1 ∨ j.val = 2) with e | e | e
    · rw [dif_neg (by omega), dif_neg (by omega), dif_pos (by omega), e, zero_add, zero_add]
    · rw [dif_neg (by omega), dif_pos (by omega), dif_neg (by omega), e, zero_add, add_zero]
    · rw [dif_pos (by omega), dif_neg (by omega), dif_neg (by omega), e, add_zero, add_zero]
  · rw [dif_neg h, if_neg h]
    exact (by simp [FloatOps.sitofp] : FloatOps.sitofp (F := Ideal) FTy.f32 0#32 = 0)

end Cert.ReferenceConvIdeal.Value

end
-- ==== Proof.lean ====
module

public import Idealize.ShloMosaic.Lib.Pointwise
public import proofs.«01_k».proof.Proof.Attn.Pre
public import proofs.«01_k».proof.Proof.Attn.Final
public import proofs.«01_k».proof.Proof.Attn.Reference
public import proofs.«01_k».proof.Proof.Dkv.Reference
public import proofs.«01_k».proof.Proof.Gen.KernelAtb.Frame
public import proofs.«01_k».proof.Proof.Gen.KernelAtbIdeal.Frame
public import proofs.«01_k».proof.Proof.Atb.Own
public import proofs.«01_k».proof.Proof.Atb.Previous
public import proofs.«01_k».proof.Proof.Atb.Reference
public import proofs.«01_k».proof.Proof.Atb.Pre
public import proofs.«01_k».proof.Proof.Gen.KernelAtbIdeal.Value
public import proofs.«01_k».proof.Proof.Gen.ReferenceAtbIdeal
public import proofs.«01_k».proof.Proof.Gen.ReferenceAtbIdeal.Run
public import proofs.«01_k».proof.Proof.Gen.ReferenceAtbIdeal.Read
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelFdn
public import proofs.«01_k».proof.Proof.Gen.KernelFdn.Frame
public import proofs.«01_k».proof.Proof.Gen.KernelFdnIdeal
public import proofs.«01_k».proof.Proof.Gen.KernelFdnIdeal.Frame
public import proofs.«01_k».proof.Proof.Gen.KernelFdnIdeal.Value
public import proofs.«01_k».proof.Proof.Gen.ReferenceFdnIdeal
public import proofs.«01_k».proof.Proof.Gen.ReferenceFdnIdeal.Run
public import proofs.«01_k».proof.Proof.Gen.ReferenceFdnIdeal.Read
public import proofs.«01_k».proof.Proof.Gen.KernelMods
public import proofs.«01_k».proof.Proof.Gen.KernelMods.Frame
public import proofs.«01_k».proof.Proof.Gen.KernelModsIdeal
public import proofs.«01_k».proof.Proof.Gen.KernelModsIdeal.Frame
public import proofs.«01_k».proof.Proof.Gen.KernelModsIdeal.Value
public import proofs.«01_k».proof.Proof.Gen.ReferenceModsIdeal
public import proofs.«01_k».proof.Proof.Gen.ReferenceModsIdeal.Run
public import proofs.«01_k».proof.Proof.Gen.ReferenceModsIdeal.Read
public import proofs.«01_k».proof.Proof.Gen.KernelMid
public import proofs.«01_k».proof.Proof.Gen.KernelMid.Frame
public import proofs.«01_k».proof.Proof.Gen.KernelMidIdeal
public import proofs.«01_k».proof.Proof.Gen.KernelMidIdeal.Frame
public import proofs.«01_k».proof.Proof.Gen.KernelMidIdeal.Value
public import proofs.«01_k».proof.Proof.Gen.ReferenceMidIdeal
public import proofs.«01_k».proof.Proof.Gen.ReferenceMidIdeal.Run
public import proofs.«01_k».proof.Proof.Gen.ReferenceMidIdeal.Read
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelDkv.Frame
public import proofs.«01_k».proof.Proof.Gen.KernelDkvIdeal.Value
public import proofs.«01_k».proof.Proof.Gen.ReferenceDkvIdeal.Run
public import proofs.«01_k».proof.Proof.Gen.ReferenceDkvIdeal.Read
public import proofs.«01_k».proof.Proof.Gen.KernelAtt.Frame
public import proofs.«01_k».proof.Proof.Gen.KernelAttIdeal.Value
public import proofs.«01_k».proof.Proof.Gen.ReferenceAttIdeal.Run
public import proofs.«01_k».proof.Proof.Gen.ReferenceAttIdeal.Read
public import proofs.«01_k».proof.Proof.Down.Final
public import proofs.«01_k».proof.Proof.Down.Reference
public import proofs.«01_k».proof.Proof.Wada.Final
public import proofs.«01_k».proof.Proof.Proj.Final
public import proofs.«01_k».proof.Proof.Fdn.Final
public import proofs.«01_k».proof.Proof.Mods.Final
public import proofs.«01_k».proof.Proof.Mid.Reference
public import proofs.«01_k».proof.Proof.Mix.Reference
public import proofs.«01_k».proof.Proof.Ffn.Final
public import proofs.«01_k».proof.Proof.Ffn.Reference
public import proofs.«01_k».proof.Proof.Gate.Pre
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelWada
public import proofs.«01_k».proof.Proof.Gen.KernelWada.Skeleton
public import proofs.«01_k».proof.Proof.Gen.KernelWada.Launch
public import proofs.«01_k».proof.Proof.Gen.KernelWada.Points
public import proofs.«01_k».proof.Proof.Gen.KernelWada.Frame
public import proofs.«01_k».proof.Proof.Gen.KernelWadaIdeal
public import proofs.«01_k».proof.Proof.Gen.KernelWadaIdeal.Skeleton
public import proofs.«01_k».proof.Proof.Gen.KernelWadaIdeal.Launch
public import proofs.«01_k».proof.Proof.Gen.KernelWadaIdeal.Points
public import proofs.«01_k».proof.Proof.Gen.KernelWadaIdeal.Frame
public import proofs.«01_k».proof.Proof.Gen.KernelWadaIdeal.Value
public import proofs.«01_k».proof.Proof.Gen.ReferenceWadaIdeal
public import proofs.«01_k».proof.Proof.Gen.ReferenceWadaIdeal.Run
public import proofs.«01_k».proof.Proof.Gen.ReferenceWadaIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Norm.UpReference
public import proofs.«01_k».proof.Proof.Norm.InReference
public import proofs.«01_k».proof.Proof.Conv.Reference
public import proofs.«01_k».proof.Proof.Conv.Final
public import proofs.«01_k».proof.Proof.Conv.Taps
public import proofs.«01_k».proof.Proof.Gen.KernelConvIdeal.Value
public import proofs.«01_k».proof.Proof.Gen.ReferenceConvIdeal.Run
public import proofs.«01_k».proof.Proof.Gen.ReferenceConvIdeal.Read
public import proofs.«01_k».proof.Defs
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import Idealize.ShloMosaic.Adequacy
public import Idealize.ShloMosaic.Init

@[expose] public section

noncomputable section

namespace Cert.Proof

open Idealize.ShloMosaic Idealize.SL.Sem Cert.KernelConv

theorem frame_Conv : @quiescent_KernelConv Cert.KernelConv.Gen.facts := fun m ρ _ => Cert.KernelConv.Gen.frame m ρ
theorem frame_ConvIdeal : @quiescent_KernelConvIdeal Cert.KernelConvIdeal.Gen.facts := fun m ρ _ => Cert.KernelConvIdeal.Gen.frame m ρ
theorem frame_ConvRef : @quiescent_ReferenceConvIdeal Cert.ReferenceConvIdeal.Gen.facts := fun m ρ _ =>
  (θ_run _ _ _).mono (fun r h => ⟨fun c => (h c).2.2, sem_eq_zero_of_no_sems (by decide) r.2⟩) (Cert.ReferenceConvIdeal.Value.run m ρ)

theorem algebraic_Conv : @algebraic_KernelConvIdeal_ReferenceConvIdeal Cert.KernelConvIdeal.Gen.facts Cert.ReferenceConvIdeal.Gen.facts := by
  intro m g m' g' _ e
  refine ⟨fun c => (Cert.KernelConvIdeal.Gen.dats m 0 c).arrAt 9 Cert.KernelConvIdeal.cfg0.N, fun c => (Cert.KernelConvIdeal.Gen.dats m 0 c).arrAt 10 Cert.KernelConvIdeal.cfg0.N,
    Cert.KernelConvIdeal.Value.run_blocks m g, ?_⟩
  refine (θ_run _ _ _).mono (fun r h c => ⟨(h c).1.trans ?_, (h c).2.1.trans ?_, (h c).2.2⟩) (Cert.ReferenceConvIdeal.Value.run m' g')
  · refine Eq.trans ?_ (Cert.KernelConvIdeal.Value.final9 m c).symm
    rw [Cert.ReferenceConvIdeal.Read.val_main_v75_eq, (e c).1, (e c).2.1, (e c).2.2.1, (e c).2.2.2]
    funext i
    obtain ⟨s, j, rfl⟩ : ∃ (s : Fin 8192) (j : Fin 6656), i = ix2 s j := ⟨i 0, i 1, by funext a; fin_cases a <;> rfl⟩
    exact Cert.ReferenceConvIdeal.Value.v75_at _ _ _ _ s j
  · refine Eq.trans ?_ (Cert.KernelConvIdeal.Value.final10 m c).symm
    rw [Cert.ReferenceConvIdeal.Read.val_main_v76_eq, (e c).1, (e c).2.1]
    funext i
    obtain ⟨j, d, rfl⟩ : ∃ (j : Fin 8) (d : Fin 1024), i = ix2 j d := ⟨i 0, i 1, by funext a; fin_cases a <;> rfl⟩
    exact Cert.ReferenceConvIdeal.Value.v76_at _ _ j d

theorem facts_norm_finite : Cert.Pre_norm_finite.Facts := by
  constructor <;> decide

theorem frame_Up : @quiescent_KernelUp Cert.KernelUp.Gen.facts := fun m ρ _ => Cert.KernelUp.Gen.frame m ρ
theorem frame_UpIdeal : @quiescent_KernelUpIdeal Cert.KernelUpIdeal.Gen.facts := fun m ρ _ => Cert.KernelUpIdeal.Gen.frame m ρ
theorem frame_UpIdeal_pre : @quiescent_KernelUpIdeal_pre_norm_finite Cert.KernelUpIdeal.Gen.facts facts_norm_finite := fun m ρ _ => Cert.KernelUpIdeal.Gen.frame m ρ
theorem frame_UpRef : @quiescent_ReferenceUpIdeal Cert.ReferenceUpIdeal.Gen.facts := fun m ρ _ =>
  (θ_run _ _ _).mono (fun r h => ⟨fun c => (h c).2.2.2.2, sem_eq_zero_of_no_sems (by decide) r.2⟩) (Cert.ReferenceUpIdeal.Value.run m ρ)
theorem frame_UpRef_pre : @quiescent_ReferenceUpIdeal_pre_norm_finite Cert.ReferenceUpIdeal.Gen.facts facts_norm_finite := fun m ρ _ => frame_UpRef m ρ trivial

theorem row_Up {P : Prop} (i : Cert.ReferenceUpIdeal.S1x1024.Idx) (h : ∀ j : Fin 1024, i = ix2 0 j → P) : P :=
  h (i 1) (Cert.KernelUpIdeal.Value.row_idx i)

theorem algebraic_Up : @algebraic_KernelUpIdeal_ReferenceUpIdeal_pre_norm_finite Cert.KernelUpIdeal.Gen.facts Cert.ReferenceUpIdeal.Gen.facts facts_norm_finite := by
  intro m g m' g' p e
  refine ⟨fun c => (Cert.KernelUpIdeal.Gen.dats m 0 c).arrAt 6 Cert.KernelUpIdeal.cfg0.N, fun c => (Cert.KernelUpIdeal.Gen.dats m 0 c).arrAt 7 Cert.KernelUpIdeal.cfg0.N,
    fun c => (Cert.KernelUpIdeal.Gen.dats m 0 c).arrAt 8 Cert.KernelUpIdeal.cfg0.N, fun c => (Cert.KernelUpIdeal.Gen.dats m 0 c).arrAt 9 Cert.KernelUpIdeal.cfg0.N,
    Cert.KernelUpIdeal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.ReferenceUpIdeal.Value.run m' g')
  · obtain ⟨hx, hg, hs, hw, hu⟩ := @Cert.Norm.up_pre facts_norm_finite _ _ _ _ _ _ _ ix0 (congrFun (p c) ix0)
    refine Eq.trans ?_ (Cert.KernelUpIdeal.Value.final6 m c).symm
    rw [Cert.ReferenceUpIdeal.Read.val_main_v60_eq, (e c).1, (e c).2.1, (e c).2.2.2.1, (e c).2.2.2.2.1, (e c).2.2.2.2.2.1, (e c).2.2.2.2.2.2]
    funext i
    obtain ⟨s, j, rfl⟩ : ∃ (s : Fin 8192) (j : Fin 1024), i = ix2 s j := ⟨i 0, i 1, by funext a; fin_cases a <;> rfl⟩
    exact Cert.ReferenceUpIdeal.Value.v60_at _ _ _ _ _ _ hx hg hs hw hu s j
  · refine Eq.trans ?_ (Cert.KernelUpIdeal.Value.final7 m c).symm
    rw [Cert.ReferenceUpIdeal.Read.val_main_v30_eq, (e c).2.2.2.2.1, (e c).2.2.2.2.2.2]
    funext i
    refine row_Up i fun j ej => ?_
    rw [ej]
    exact Cert.ReferenceUpIdeal.Value.v30_at _ _ j
  · refine Eq.trans ?_ (Cert.KernelUpIdeal.Value.final8 m c).symm
    rw [Cert.ReferenceUpIdeal.Read.val_main_v37_eq, (e c).1, (e c).2.1, (e c).2.2.2.2.1, (e c).2.2.2.2.2.2]
    funext i
    refine row_Up i fun j ej => ?_
    rw [ej]
    exact Cert.ReferenceUpIdeal.Value.v37_at _ _ _ _ j
  · refine Eq.trans ?_ (Cert.KernelUpIdeal.Value.final9 m c).symm
    rw [Cert.ReferenceUpIdeal.Read.val_main_v61_eq, (e c).1, (e c).2.2.2.1, (e c).2.2.2.2.1, (e c).2.2.2.2.2.2]
    funext i
    refine row_Up i fun j ej => ?_
    rw [ej]
    exact Cert.ReferenceUpIdeal.Value.v61_at _ _ _ _ j

theorem facts_in_finite : Cert.Pre_in_finite.Facts := by
  constructor <;> decide

theorem frame_In : @quiescent_KernelIn Cert.KernelIn.Gen.facts := fun m ρ _ => Cert.KernelIn.Gen.frame m ρ
theorem frame_InIdeal : @quiescent_KernelInIdeal Cert.KernelInIdeal.Gen.facts := fun m ρ _ => Cert.KernelInIdeal.Gen.frame m ρ
theorem frame_InIdeal_pre : @quiescent_KernelInIdeal_pre_in_finite Cert.KernelInIdeal.Gen.facts facts_in_finite := fun m ρ _ => Cert.KernelInIdeal.Gen.frame m ρ
theorem frame_InRef : @quiescent_ReferenceInIdeal Cert.ReferenceInIdeal.Gen.facts := fun m ρ _ =>
  (θ_run _ _ _).mono (fun r h => ⟨fun c => (h c).2.2.2.2, sem_eq_zero_of_no_sems (by decide) r.2⟩) (Cert.ReferenceInIdeal.Value.run m ρ)
theorem frame_InRef_pre : @quiescent_ReferenceInIdeal_pre_in_finite Cert.ReferenceInIdeal.Gen.facts facts_in_finite := fun m ρ _ => frame_InRef m ρ trivial

theorem row_In {P : Prop} (i : Cert.ReferenceInIdeal.S1x1024.Idx) (h : ∀ j : Fin 1024, i = ix2 0 j → P) : P :=
  h (i 1) (Cert.KernelUpIdeal.Value.row_idx i)

theorem algebraic_In : @algebraic_KernelInIdeal_ReferenceInIdeal_pre_in_finite Cert.KernelInIdeal.Gen.facts Cert.ReferenceInIdeal.Gen.facts facts_in_finite := by
  intro m g m' g' p e
  refine ⟨fun c => (Cert.KernelInIdeal.Gen.dats m 0 c).arrAt 6 Cert.KernelInIdeal.cfg0.N, fun c => (Cert.KernelInIdeal.Gen.dats m 0 c).arrAt 7 Cert.KernelInIdeal.cfg0.N,
    fun c => (Cert.KernelInIdeal.Gen.dats m 0 c).arrAt 8 Cert.KernelInIdeal.cfg0.N, fun c => (Cert.KernelInIdeal.Gen.dats m 0 c).arrAt 9 Cert.KernelInIdeal.cfg0.N,
    Cert.KernelInIdeal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.ReferenceInIdeal.Value.run m' g')
  · obtain ⟨hx, hg, hs, hw, hu⟩ := @Cert.Norm.in_pre facts_in_finite _ _ _ _ _ _ _ ix0 (congrFun (p c) ix0)
    refine Eq.trans ?_ (Cert.KernelInIdeal.Value.final6 m c).symm
    rw [Cert.ReferenceInIdeal.Read.val_main_v60_eq, (e c).1, (e c).2.1, (e c).2.2.2.1, (e c).2.2.2.2.1, (e c).2.2.2.2.2.1, (e c).2.2.2.2.2.2]
    funext i
    obtain ⟨s, j, rfl⟩ : ∃ (s : Fin 8192) (j : Fin 1024), i = ix2 s j := ⟨i 0, i 1, by funext a; fin_cases a <;> rfl⟩
    exact Cert.ReferenceInIdeal.Value.v60_at _ _ _ _ _ _ hx hg hs hw hu s j
  · refine Eq.trans ?_ (Cert.KernelInIdeal.Value.final7 m c).symm
    rw [Cert.ReferenceInIdeal.Read.val_main_v30_eq, (e c).2.2.2.2.1, (e c).2.2.2.2.2.2]
    funext i
    refine row_In i fun j ej => ?_
    rw [ej]
    exact Cert.ReferenceInIdeal.Value.v30_at _ _ j
  · refine Eq.trans ?_ (Cert.KernelInIdeal.Value.final8 m c).symm
    rw [Cert.ReferenceInIdeal.Read.val_main_v37_eq, (e c).1, (e c).2.1, (e c).2.2.2.2.1, (e c).2.2.2.2.2.2]
    funext i
    refine row_In i fun j ej => ?_
    rw [ej]
    exact Cert.ReferenceInIdeal.Value.v37_at _ _ _ _ j
  · refine Eq.trans ?_ (Cert.KernelInIdeal.Value.final9 m c).symm
    rw [Cert.ReferenceInIdeal.Read.val_main_v61_eq, (e c).1, (e c).2.2.2.1, (e c).2.2.2.2.1, (e c).2.2.2.2.2.2]
    funext i
    refine row_In i fun j ej => ?_
    rw [ej]
    exact Cert.ReferenceInIdeal.Value.v61_at _ _ _ _ j

theorem frame_Wada : @quiescent_KernelWada Cert.KernelWada.Gen.facts := fun m ρ _ => Cert.KernelWada.Gen.frame m ρ
theorem frame_WadaIdeal : @quiescent_KernelWadaIdeal Cert.KernelWadaIdeal.Gen.facts := fun m ρ _ => Cert.KernelWadaIdeal.Gen.frame m ρ
theorem frame_WadaRef : @quiescent_ReferenceWadaIdeal Cert.ReferenceWadaIdeal.Gen.facts := fun m ρ _ =>
  (θ_run _ _ _).mono (fun r h => ⟨fun c => (h c).2, sem_eq_zero_of_no_sems (by decide) r.2⟩) (Cert.ReferenceWadaIdeal.Value.run m ρ)

theorem algebraic_Wada : @algebraic_KernelWadaIdeal_ReferenceWadaIdeal Cert.KernelWadaIdeal.Gen.facts Cert.ReferenceWadaIdeal.Gen.facts := by
  intro m g m' g' _ e
  refine ⟨fun c => (Cert.KernelWadaIdeal.Gen.dats m 0 c).arrAt 2 Cert.KernelWadaIdeal.cfg0.N, Cert.KernelWadaIdeal.Value.run_blocks m g, ?_⟩
  refine (θ_run _ _ _).mono (fun r h c => ⟨(h c).1.trans ?_, (h c).2⟩) (Cert.ReferenceWadaIdeal.Value.run m' g')
  refine Eq.trans ?_ (Cert.KernelWadaIdeal.Value.final2 m c).symm
  rw [Cert.ReferenceWadaIdeal.Read.val_main_v6_eq, (e c).1, (e c).2.2.2]
  funext i
  obtain ⟨p, q, rfl⟩ : ∃ (p : Fin 1024) (q : Fin 1152), i = ix2 p q := ⟨i 0, i 1, by funext a; fin_cases a <;> rfl⟩
  exact Cert.KernelWadaIdeal.Value.ref_at _ _ p q

theorem facts_down_finite : Cert.Pre_down_finite.Facts := by
  constructor <;> decide

theorem frame_Down : @quiescent_KernelDown Cert.KernelDown.Gen.facts := fun m ρ _ => Cert.KernelDown.Gen.frame m ρ
theorem frame_DownIdeal : @quiescent_KernelDownIdeal Cert.KernelDownIdeal.Gen.facts := fun m ρ _ => Cert.KernelDownIdeal.Gen.frame m ρ
theorem frame_DownIdeal_pre : @quiescent_KernelDownIdeal_pre_down_finite Cert.KernelDownIdeal.Gen.facts facts_down_finite := fun m ρ _ => Cert.KernelDownIdeal.Gen.frame m ρ
theorem frame_DownRef : @quiescent_ReferenceDownIdeal Cert.ReferenceDownIdeal.Gen.facts := fun m ρ _ =>
  (θ_run _ _ _).mono (fun r h => ⟨fun c => (h c).2.2, sem_eq_zero_of_no_sems (by decide) r.2⟩) (Cert.ReferenceDownIdeal.Value.run m ρ)
theorem frame_DownRef_pre : @quiescent_ReferenceDownIdeal_pre_down_finite Cert.ReferenceDownIdeal.Gen.facts facts_down_finite := fun m ρ _ => frame_DownRef m ρ trivial

theorem algebraic_Down : @algebraic_KernelDownIdeal_ReferenceDownIdeal_pre_down_finite Cert.KernelDownIdeal.Gen.facts Cert.ReferenceDownIdeal.Gen.facts facts_down_finite := by
  intro m g m' g' p e
  refine ⟨fun c => (Cert.KernelDownIdeal.Gen.dats m 0 c).arrAt 5 Cert.KernelDownIdeal.cfg0.N, fun c => (Cert.KernelDownIdeal.Gen.dats m 0 c).arrAt 6 Cert.KernelDownIdeal.cfg0.N,
    Cert.KernelDownIdeal.Value.run_blocks m g, ?_⟩
  refine (θ_run _ _ _).mono (fun r h c => ⟨(h c).1.trans ?_, (h c).2.1.trans ?_, (h c).2.2⟩) (Cert.ReferenceDownIdeal.Value.run m' g')
  all_goals obtain ⟨h0, h1, h2, h3, h4⟩ := @Cert.Norm.down_pre facts_down_finite _ _ _ _ _ ix0 (congrFun (p c) ix0)
  · refine Eq.trans ?_ (Cert.KernelDownIdeal.Value.final5 m c).symm
    rw [Cert.ReferenceDownIdeal.Read.val_main_v34_eq, (e c).1, (e c).2.1, (e c).2.2.1, (e c).2.2.2.1, (e c).2.2.2.2]
    funext i
    obtain ⟨z, s, f, rfl⟩ : ∃ (z : Fin 2) (s : Fin 8192) (f : Fin 2816), i = ix3 z s f := ⟨i 0, i 1, i 2, by funext a; fin_cases a <;> rfl⟩
    exact Cert.ReferenceDownIdeal.Value.dd_eq s f m c h0 h1 h2 h3 h4 z
  · refine Eq.trans ?_ (Cert.KernelDownIdeal.Value.final6 m c).symm
    rw [Cert.ReferenceDownIdeal.Read.val_main_v25_eq, (e c).1, (e c).2.2.1, (e c).2.2.2.1, (e c).2.2.2.2]
    funext i
    obtain ⟨j, rfl⟩ : ∃ j : Fin 1024, i = ix2 0 j := ⟨i 1, Cert.KernelDownIdeal.Value.row_idx i⟩
    exact Cert.ReferenceDownIdeal.Value.dgt_eq m c h0 h2 h3 h4 j

theorem facts_ffn_finite : Cert.Pre_ffn_finite.Facts := by
  constructor <;> decide

theorem frame_Ffn : @quiescent_KernelFfn Cert.KernelFfn.Gen.facts := fun m ρ _ => Cert.KernelFfn.Gen.frame m ρ
theorem frame_FfnIdeal : @quiescent_KernelFfnIdeal Cert.KernelFfnIdeal.Gen.facts := fun m ρ _ => Cert.KernelFfnIdeal.Gen.frame m ρ
theorem frame_FfnIdeal_pre : @quiescent_KernelFfnIdeal_pre_ffn_finite Cert.KernelFfnIdeal.Gen.facts facts_ffn_finite := fun m ρ _ => Cert.KernelFfnIdeal.Gen.frame m ρ
theorem frame_FfnRef : @quiescent_ReferenceFfnIdeal Cert.ReferenceFfnIdeal.Gen.facts := fun m ρ _ =>
  (θ_run _ _ _).mono (fun r h => ⟨fun c => (h c).2.2.2.2.2, sem_eq_zero_of_no_sems (by decide) r.2⟩) (Cert.ReferenceFfnIdeal.Value.run m ρ)
theorem frame_FfnRef_pre : @quiescent_ReferenceFfnIdeal_pre_ffn_finite Cert.ReferenceFfnIdeal.Gen.facts facts_ffn_finite := fun m ρ _ => frame_FfnRef m ρ trivial

theorem row_Ffn {P : Prop} (i : Cert.ReferenceFfnIdeal.S1x1024.Idx) (h : ∀ j : Fin 1024, i = ix2 0 j → P) : P :=
  h (i 1) (Cert.KernelFfnIdeal.Value.row_idx i)

theorem algebraic_Ffn : @algebraic_KernelFfnIdeal_ReferenceFfnIdeal_pre_ffn_finite Cert.KernelFfnIdeal.Gen.facts Cert.ReferenceFfnIdeal.Gen.facts facts_ffn_finite := by
  intro m g m' g' p e
  refine ⟨fun c => (Cert.KernelFfnIdeal.Gen.dats m 0 c).arrAt 9 Cert.KernelFfnIdeal.cfg0.N, fun c => (Cert.KernelFfnIdeal.Gen.dats m 0 c).arrAt 10 Cert.KernelFfnIdeal.cfg0.N, fun c => (Cert.KernelFfnIdeal.Gen.dats m 0 c).arrAt 11 Cert.KernelFfnIdeal.cfg0.N, fun c => (Cert.KernelFfnIdeal.Gen.dats m 0 c).arrAt 12 Cert.KernelFfnIdeal.cfg0.N, fun c => (Cert.KernelFfnIdeal.Gen.dats m 0 c).arrAt 13 Cert.KernelFfnIdeal.cfg0.N,
    Cert.KernelFfnIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.ReferenceFfnIdeal.Value.run m' g')
  all_goals obtain ⟨hx, hg, hsh, hsc, hgt, hw, hd, hgf, ht⟩ := @Cert.Norm.ffn_pre facts_ffn_finite _ _ _ _ _ _ _ _ _ ix0 (congrFun (p c) ix0)
  all_goals have a0 : StableHlo.launchContents m' c (Proc.devRef .tc Cert.ReferenceFfnIdeal.main_arg0) = m ((c.tc : Thread Cert.KernelFfnIdeal.nD Cert.KernelFfnIdeal.τ).loc Cert.KernelFfnIdeal.main_arg0) := (e c).1
  all_goals have a1 : StableHlo.launchContents m' c (Proc.devRef .tc Cert.ReferenceFfnIdeal.main_arg1) = m ((c.tc : Thread Cert.KernelFfnIdeal.nD Cert.KernelFfnIdeal.τ).loc Cert.KernelFfnIdeal.main_arg1) := (e c).2.1
  all_goals have a2 : StableHlo.launchContents m' c (Proc.devRef .tc Cert.ReferenceFfnIdeal.main_arg2) = m ((c.tc : Thread Cert.KernelFfnIdeal.nD Cert.KernelFfnIdeal.τ).loc Cert.KernelFfnIdeal.main_arg2) := (e c).2.2.1
  all_goals have a3 : StableHlo.launchContents m' c (Proc.devRef .tc Cert.ReferenceFfnIdeal.main_arg3) = m ((c.tc : Thread Cert.KernelFfnIdeal.nD Cert.KernelFfnIdeal.τ).loc Cert.KernelFfnIdeal.main_arg3) := (e c).2.2.2.1
  all_goals have a4 : StableHlo.launchContents m' c (Proc.devRef .tc Cert.ReferenceFfnIdeal.main_arg4) = m ((c.tc : Thread Cert.KernelFfnIdeal.nD Cert.KernelFfnIdeal.τ).loc Cert.KernelFfnIdeal.main_arg4) := (e c).2.2.2.2.1
  all_goals have a5 : StableHlo.launchContents m' c (Proc.devRef .tc Cert.ReferenceFfnIdeal.main_arg5) = m ((c.tc : Thread Cert.KernelFfnIdeal.nD Cert.KernelFfnIdeal.τ).loc Cert.KernelFfnIdeal.main_arg5) := (e c).2.2.2.2.2.1
  all_goals have a6 : StableHlo.launchContents m' c (Proc.devRef .tc Cert.ReferenceFfnIdeal.main_arg6) = m ((c.tc : Thread Cert.KernelFfnIdeal.nD Cert.KernelFfnIdeal.τ).loc Cert.KernelFfnIdeal.main_arg6) := (e c).2.2.2.2.2.2.1
  all_goals have a7 : StableHlo.launchContents m' c (Proc.devRef .tc Cert.ReferenceFfnIdeal.main_arg7) = m ((c.tc : Thread Cert.KernelFfnIdeal.nD Cert.KernelFfnIdeal.τ).loc Cert.KernelFfnIdeal.main_arg7) := (e c).2.2.2.2.2.2.2.1
  all_goals have a8 : StableHlo.launchContents m' c (Proc.devRef .tc Cert.ReferenceFfnIdeal.main_arg8) = m ((c.tc : Thread Cert.KernelFfnIdeal.nD Cert.KernelFfnIdeal.τ).loc Cert.KernelFfnIdeal.main_arg8) := (e c).2.2.2.2.2.2.2.2
  · refine Eq.trans ?_ (Cert.KernelFfnIdeal.Value.final9 m c).symm
    refine (Cert.ReferenceFfnIdeal.Read.val_main_v102_eq (StableHlo.launchContents m' c)).trans ?_
    rw [a0, a1, a2, a3]
    funext i
    obtain ⟨s, j, rfl⟩ : ∃ (s : Fin 8192) (j : Fin 1024), i = ix2 s j := ⟨i 0, i 1, by funext a; fin_cases a <;> rfl⟩
    exact Cert.ReferenceFfnIdeal.Value.v102_at _ _ _ _ s j
  · refine Eq.trans ?_ (Cert.KernelFfnIdeal.Value.final10 m c).symm
    refine (Cert.ReferenceFfnIdeal.Read.val_main_v104_eq (StableHlo.launchContents m' c)).trans ?_
    rw [a0, a1, a2, a3, a5]
    funext i
    obtain ⟨s, j, rfl⟩ : ∃ (s : Fin 8192) (j : Fin 5632), i = ix2 s j := ⟨i 0, i 1, by funext a; fin_cases a <;> rfl⟩
    exact Cert.ReferenceFfnIdeal.Value.v104_at _ _ _ _ _ s j
  · refine Eq.trans ?_ (Cert.KernelFfnIdeal.Value.final11 m c).symm
    refine (Cert.ReferenceFfnIdeal.Read.val_main_v105_eq (StableHlo.launchContents m' c)).trans ?_
    rw [a0, a1, a2, a3, a4, a5, a6, a7, a8]
    funext i
    obtain ⟨s, j, rfl⟩ : ∃ (s : Fin 8192) (j : Fin 1024), i = ix2 s j := ⟨i 0, i 1, by funext a; fin_cases a <;> rfl⟩
    exact (Cert.ReferenceFfnIdeal.Value.v105_at _ _ _ _ _ _ _ _ _ s hx hg hsh hsc hgt hw hd hgf ht j).trans (congrFun (Cert.ReferenceFfnIdeal.Value.dxo_eq s m c hx hg hsh hsc hw) j).symm
  · refine Eq.trans ?_ (Cert.KernelFfnIdeal.Value.final12 m c).symm
    refine (Cert.ReferenceFfnIdeal.Read.val_main_v100_eq (StableHlo.launchContents m' c)).trans ?_
    rw [a0, a1, a2, a3, a4, a5, a6, a7, a8]
    funext i
    refine row_Ffn i fun j ej => ?_
    rw [ej]
    exact (Cert.ReferenceFfnIdeal.Value.v100_at _ _ _ _ _ _ _ _ _ j).trans (Finset.sum_congr rfl fun s _ => (Cert.ReferenceFfnIdeal.Value.tl_eq s m c hx hg hsh hsc hw j).symm)
  · refine Eq.trans ?_ (Cert.KernelFfnIdeal.Value.final13 m c).symm
    refine (Cert.ReferenceFfnIdeal.Read.val_main_v106_eq (StableHlo.launchContents m' c)).trans ?_
    rw [a0, a1, a2, a3, a4, a5, a6, a7, a8]
    funext i
    refine row_Ffn i fun j ej => ?_
    rw [ej]
    exact (Cert.ReferenceFfnIdeal.Value.v106_at _ _ _ _ _ _ _ _ _ j).trans (Finset.sum_congr rfl fun s _ => (Cert.ReferenceFfnIdeal.Value.tg_eq s m c hx hg hsh hsc hw j).symm)

theorem facts_att_finite : Cert.Pre_att_finite.Facts := by
  constructor <;> decide

theorem frame_Att : @quiescent_KernelAtt Cert.KernelAtt.Gen.facts := fun m ρ _ => Cert.KernelAtt.Gen.frame m ρ
theorem frame_AttIdeal : @quiescent_KernelAttIdeal Cert.KernelAttIdeal.Gen.facts := fun m ρ _ => Cert.KernelAttIdeal.Gen.frame m ρ
theorem frame_AttIdeal_pre : @quiescent_KernelAttIdeal_pre_att_finite Cert.KernelAttIdeal.Gen.facts facts_att_finite := fun m ρ _ => Cert.KernelAttIdeal.Gen.frame m ρ
theorem frame_AttRef : @quiescent_ReferenceAttIdeal Cert.ReferenceAttIdeal.Gen.facts := fun m ρ _ =>
  (θ_run _ _ _).mono (fun r h => ⟨fun c => (h c).2.2, sem_eq_zero_of_no_sems (by decide) r.2⟩) (Cert.ReferenceAttIdeal.Value.run m ρ)
theorem frame_AttRef_pre : @quiescent_ReferenceAttIdeal_pre_att_finite Cert.ReferenceAttIdeal.Gen.facts facts_att_finite := fun m ρ _ => frame_AttRef m ρ trivial

theorem algebraic_Att : @algebraic_KernelAttIdeal_ReferenceAttIdeal_pre_att_finite Cert.KernelAttIdeal.Gen.facts Cert.ReferenceAttIdeal.Gen.facts facts_att_finite := by
  intro m g m' g' p e
  refine ⟨fun c => (Cert.KernelAttIdeal.Gen.dats m 0 c).arrAt 7 Cert.KernelAttIdeal.cfg0.N, fun c => (Cert.KernelAttIdeal.Gen.dats m 0 c).arrAt 8 Cert.KernelAttIdeal.cfg0.N,
    Cert.KernelAttIdeal.Value.run_blocks m g, ?_⟩
  refine (θ_run _ _ _).mono (fun r h c => ⟨(h c).1.trans ?_, (h c).2.1.trans ?_, (h c).2.2⟩) (Cert.ReferenceAttIdeal.Value.run m' g')
  all_goals obtain ⟨hq, hk, hv, hz⟩ := @Cert.Norm.att_pre facts_att_finite _ _ _ _ ix0 (congrFun (p c) ix0)
  · refine Eq.trans ?_ (Cert.KernelAttIdeal.Value.final7 m c).symm
    rw [Cert.ReferenceAttIdeal.Read.val_main_v82_eq, (e c).1, (e c).2.1, (e c).2.2.1, (e c).2.2.2]
    funext i
    obtain ⟨a, q, rfl⟩ : ∃ (a : Fin 8192) (q : Fin 1024), i = ix2 a q := ⟨i 0, i 1, by funext a; fin_cases a <;> rfl⟩
    refine (Cert.ReferenceAttIdeal.Value.out_at _ _ _ _ a q).trans ?_
    exact (Cert.Attn.out_eq (Cert.KernelAttIdeal.Value.aQ m c) (Cert.KernelAttIdeal.Value.aK m c) (Cert.KernelAttIdeal.Value.aV m c) (Cert.KernelAttIdeal.Value.aZ m c) _ _ _ _ _
      (fun _ _ => hq _) (fun _ _ => hk _) (fun a b => (congrArg Cert.Norm.Fin1 (by pointwise [])).mp (hv (ix2 a b))) (fun _ => hz _)).symm
  · refine Eq.trans ?_ (Cert.KernelAttIdeal.Value.final8 m c).symm
    rw [Cert.ReferenceAttIdeal.Read.val_main_v83_eq, (e c).1, (e c).2.1, (e c).2.2.2]
    funext i
    obtain ⟨n, a, l, rfl⟩ : ∃ (n : Fin 4) (a : Fin 32768) (l : Fin 128), i = ix3 n a l := ⟨i 0, i 1, i 2, by funext a; fin_cases a <;> rfl⟩
    refine (Cert.ReferenceAttIdeal.Value.lse_at _ _ _ n a l).trans ?_
    exact (Cert.Attn.lse_eq (Cert.KernelAttIdeal.Value.aQ m c) (Cert.KernelAttIdeal.Value.aK m c) (Cert.KernelAttIdeal.Value.aZ m c) _ _ _ _ (fun _ _ => hq _) (fun _ _ => hk _)).symm

theorem frame_Dkv : @quiescent_KernelDkv Cert.KernelDkv.Gen.facts := fun m ρ _ => Cert.KernelDkv.Gen.frame m ρ
theorem frame_DkvIdeal : @quiescent_KernelDkvIdeal Cert.KernelDkvIdeal.Gen.facts := fun m ρ _ => Cert.KernelDkvIdeal.Gen.frame m ρ
theorem frame_DkvRef : @quiescent_ReferenceDkvIdeal Cert.ReferenceDkvIdeal.Gen.facts := fun m ρ _ =>
  (θ_run _ _ _).mono (fun r h => ⟨fun c => (h c).2, sem_eq_zero_of_no_sems (by decide) r.2⟩) (Cert.ReferenceDkvIdeal.Value.run m ρ)

theorem algebraic_Dkv : @algebraic_KernelDkvIdeal_ReferenceDkvIdeal Cert.KernelDkvIdeal.Gen.facts Cert.ReferenceDkvIdeal.Gen.facts := by
  intro m g m' g' _ e
  refine ⟨fun c => (Cert.KernelDkvIdeal.Gen.dats m 0 c).arrAt 6 Cert.KernelDkvIdeal.cfg0.N, Cert.KernelDkvIdeal.Value.run_blocks m g, ?_⟩
  refine (θ_run _ _ _).mono (fun r h c => ⟨(h c).1.trans ?_, (h c).2⟩) (Cert.ReferenceDkvIdeal.Value.run m' g')
  refine Eq.trans ?_ (Cert.KernelDkvIdeal.Value.final6 m c).symm
  rw [Cert.ReferenceDkvIdeal.Read.val_main_v34_eq, (e c).1, (e c).2.1, (e c).2.2.1, (e c).2.2.2.1, (e c).2.2.2.2]
  funext i
  obtain ⟨s, j, rfl⟩ : ∃ (s : Fin 8192) (j : Fin 6656), i = ix2 s j := ⟨i 0, i 1, by funext a; fin_cases a <;> rfl⟩
  exact Cert.ReferenceDkvIdeal.Value.v34_at _ _ _ _ _ s j

theorem facts_atb_finite : Cert.Pre_atb_finite.Facts := by
  constructor <;> decide

theorem frame_Atb : @quiescent_KernelAtb Cert.KernelAtb.Gen.facts := fun m ρ _ => Cert.KernelAtb.Gen.frame m ρ
theorem frame_AtbIdeal : @quiescent_KernelAtbIdeal Cert.KernelAtbIdeal.Gen.facts := fun m ρ _ => Cert.KernelAtbIdeal.Gen.frame m ρ
theorem frame_AtbIdeal_pre : @quiescent_KernelAtbIdeal_pre_atb_finite Cert.KernelAtbIdeal.Gen.facts facts_atb_finite := fun m ρ _ => Cert.KernelAtbIdeal.Gen.frame m ρ
theorem frame_AtbRef : @quiescent_ReferenceAtbIdeal Cert.ReferenceAtbIdeal.Gen.facts := fun m ρ _ =>
  (θ_run _ _ _).mono (fun r h => ⟨fun c => (h c).2.2, sem_eq_zero_of_no_sems (by decide) r.2⟩) (Cert.ReferenceAtbIdeal.Value.run m ρ)
theorem frame_AtbRef_pre : @quiescent_ReferenceAtbIdeal_pre_atb_finite Cert.ReferenceAtbIdeal.Gen.facts facts_atb_finite := fun m ρ _ => frame_AtbRef m ρ trivial

theorem algebraic_Atb : @algebraic_KernelAtbIdeal_ReferenceAtbIdeal_pre_atb_finite Cert.KernelAtbIdeal.Gen.facts Cert.ReferenceAtbIdeal.Gen.facts facts_atb_finite := by
  intro m g m' g' p e
  refine ⟨fun c => (Cert.KernelAtbIdeal.Gen.dats m 0 c).arrAt 17 Cert.KernelAtbIdeal.cfg0.N, fun c => (Cert.KernelAtbIdeal.Gen.dats m 0 c).arrAt 18 Cert.KernelAtbIdeal.cfg0.N,
    (θ_run _ _ _).mono (fun r h c => ⟨(h c).2.2.2.1, (h c).2.2.2.2.1, (h c).2.2.2.2.2.2⟩) (Cert.KernelAtbIdeal.Value.run_blocks m g), ?_⟩
  refine (θ_run _ _ _).mono (fun r h c => ⟨(h c).1.trans ?_, (h c).2.1.trans ?_, (h c).2.2⟩) (Cert.ReferenceAtbIdeal.Value.run m' g')
  all_goals obtain ⟨hq, hk, hz⟩ := @Cert.Norm.atb_pre facts_atb_finite _ _ _ _ _ _ _ _ ix0 (congrFun (p c) ix0)
  · refine Eq.trans ?_ (Cert.KernelAtbIdeal.Value.final17 m c).symm
    rw [Cert.ReferenceAtbIdeal.Read.val_main_v92_eq, (e c).1, (e c).2.1, (e c).2.2.2.1, (e c).2.2.2.2.1]
    funext i
    obtain ⟨a, q, rfl⟩ : ∃ (a : Fin 8192) (q : Fin 256), i = ix2 a q := ⟨i 0, i 1, by funext a; fin_cases a <;> rfl⟩
    refine (Cert.ReferenceAtbIdeal.Value.own_at _ _ _ _ a q).trans ?_
    exact (Cert.Attn.dv_eq (Cert.KernelAtbIdeal.Value.aQ m c) (Cert.KernelAtbIdeal.Value.aK m c) (Cert.KernelAtbIdeal.Value.aZ m c) (Cert.KernelAtbIdeal.Value.aD m c) _ _ _ _
      (fun _ _ => hq _) (fun _ _ => hk _) (fun _ => hz _)).symm
  · refine Eq.trans ?_ (Cert.KernelAtbIdeal.Value.final18 m c).symm
    rw [Cert.ReferenceAtbIdeal.Read.val_main_v94_eq, (e c).1, (e c).2.1, (e c).2.2.2.1, (e c).2.2.2.2.1]
    funext i
    obtain ⟨a, q, rfl⟩ : ∃ (a : Fin 8192) (q : Fin 256), i = ix2 a q := ⟨i 0, i 1, by funext a; fin_cases a <;> rfl⟩
    refine (Cert.ReferenceAtbIdeal.Value.previous_at _ _ _ _ a q).trans ?_
    exact (Cert.Attn.dv_eq (Cert.KernelAtbIdeal.Value.aQ m c) (Cert.KernelAtbIdeal.Value.aK m c) (Cert.KernelAtbIdeal.Value.aZ m c) (Cert.KernelAtbIdeal.Value.aD m c) _ _ _ _
      (fun _ _ => hq _) (fun _ _ => hk _) (fun _ => hz _)).symm

theorem frame_Proj : @quiescent_KernelProj Cert.KernelProj.Gen.facts := fun m ρ _ => Cert.KernelProj.Gen.frame m ρ
theorem frame_ProjIdeal : @quiescent_KernelProjIdeal Cert.KernelProjIdeal.Gen.facts := fun m ρ _ => Cert.KernelProjIdeal.Gen.frame m ρ
theorem frame_ProjRef : @quiescent_ReferenceProjIdeal Cert.ReferenceProjIdeal.Gen.facts := fun m ρ _ =>
  (θ_run _ _ _).mono (fun r h => ⟨fun c => (h c).2.2, sem_eq_zero_of_no_sems (by decide) r.2⟩) (Cert.ReferenceProjIdeal.Value.run m ρ)

theorem algebraic_Proj : @algebraic_KernelProjIdeal_ReferenceProjIdeal Cert.KernelProjIdeal.Gen.facts Cert.ReferenceProjIdeal.Gen.facts := by
  intro m g m' g' _ e
  refine ⟨fun c => (Cert.KernelProjIdeal.Gen.dats m 0 c).arrAt 5 Cert.KernelProjIdeal.cfg0.N, fun c => (Cert.KernelProjIdeal.Gen.dats m 0 c).arrAt 6 Cert.KernelProjIdeal.cfg0.N,
    Cert.KernelProjIdeal.Value.run_blocks m g, ?_⟩
  refine (θ_run _ _ _).mono (fun r h c => ⟨(h c).1.trans ?_, (h c).2.1.trans ?_, (h c).2.2⟩) (Cert.ReferenceProjIdeal.Value.run m' g')
  · refine Eq.trans ?_ (Cert.KernelProjIdeal.Value.final5 m c).symm
    rw [Cert.ReferenceProjIdeal.Read.val_main_v22_eq, (e c).1, (e c).2.1, (e c).2.2.1, (e c).2.2.2.1]
    funext i
    obtain ⟨s, j, rfl⟩ : ∃ (s : Fin 8192) (j : Fin 1024), i = ix2 s j := ⟨i 0, i 1, by funext a; fin_cases a <;> rfl⟩
    exact Cert.KernelProjIdeal.Value.v22_at _ _ _ _ s j
  · refine Eq.trans ?_ (Cert.KernelProjIdeal.Value.final6 m c).symm
    rw [Cert.ReferenceProjIdeal.Read.val_main_v25_eq, (e c).1, (e c).2.1, (e c).2.2.1, (e c).2.2.2.1, (e c).2.2.2.2]
    funext i
    obtain ⟨s, j, rfl⟩ : ∃ (s : Fin 8192) (j : Fin 5632), i = ix2 s j := ⟨i 0, i 1, by funext a; fin_cases a <;> rfl⟩
    exact Cert.KernelProjIdeal.Value.v25_at _ _ _ _ _ s j

theorem frame_Fdn : @quiescent_KernelFdn Cert.KernelFdn.Gen.facts := fun m ρ _ => Cert.KernelFdn.Gen.frame m ρ
theorem frame_FdnIdeal : @quiescent_KernelFdnIdeal Cert.KernelFdnIdeal.Gen.facts := fun m ρ _ => Cert.KernelFdnIdeal.Gen.frame m ρ
theorem frame_FdnRef : @quiescent_ReferenceFdnIdeal Cert.ReferenceFdnIdeal.Gen.facts := fun m ρ _ =>
  (θ_run _ _ _).mono (fun r h => ⟨fun c => (h c).2, sem_eq_zero_of_no_sems (by decide) r.2⟩) (Cert.ReferenceFdnIdeal.Value.run m ρ)

theorem algebraic_Fdn : @algebraic_KernelFdnIdeal_ReferenceFdnIdeal Cert.KernelFdnIdeal.Gen.facts Cert.ReferenceFdnIdeal.Gen.facts := by
  intro m g m' g' _ e
  refine ⟨fun c => (Cert.KernelFdnIdeal.Gen.dats m 0 c).arrAt 5 Cert.KernelFdnIdeal.cfg0.N, Cert.KernelFdnIdeal.Value.run_blocks m g, ?_⟩
  refine (θ_run _ _ _).mono (fun r h c => ⟨(h c).1.trans ?_, (h c).2⟩) (Cert.ReferenceFdnIdeal.Value.run m' g')
  refine Eq.trans ?_ (Cert.KernelFdnIdeal.Value.final5 m c).symm
  rw [Cert.ReferenceFdnIdeal.Read.val_main_v12_eq, (e c).1, (e c).2.1, (e c).2.2.1, (e c).2.2.2]
  funext i
  obtain ⟨p, q, rfl⟩ : ∃ (p : Fin 8192) (q : Fin 1024), i = ix2 p q := ⟨i 0, i 1, by funext a; fin_cases a <;> rfl⟩
  exact Cert.KernelFdnIdeal.Value.ref_at _ _ _ _ p q

theorem frame_Mods : @quiescent_KernelMods Cert.KernelMods.Gen.facts := fun m ρ _ => Cert.KernelMods.Gen.frame m ρ
theorem frame_ModsIdeal : @quiescent_KernelModsIdeal Cert.KernelModsIdeal.Gen.facts := fun m ρ _ => Cert.KernelModsIdeal.Gen.frame m ρ
theorem frame_ModsRef : @quiescent_ReferenceModsIdeal Cert.ReferenceModsIdeal.Gen.facts := fun m ρ _ =>
  (θ_run _ _ _).mono (fun r h => ⟨fun c => (h c).2, sem_eq_zero_of_no_sems (by decide) r.2⟩) (Cert.ReferenceModsIdeal.Value.run m ρ)

theorem algebraic_Mods : @algebraic_KernelModsIdeal_ReferenceModsIdeal Cert.KernelModsIdeal.Gen.facts Cert.ReferenceModsIdeal.Gen.facts := by
  intro m g m' g' _ e
  refine ⟨fun c => (Cert.KernelModsIdeal.Gen.dats m 0 c).arrAt 3 Cert.KernelModsIdeal.cfg0.N, Cert.KernelModsIdeal.Value.run_blocks m g, ?_⟩
  refine (θ_run _ _ _).mono (fun r h c => ⟨(h c).1.trans ?_, (h c).2⟩) (Cert.ReferenceModsIdeal.Value.run m' g')
  refine Eq.trans ?_ (Cert.KernelModsIdeal.Value.final3 m c).symm
  rw [Cert.ReferenceModsIdeal.Read.val_main_v4_eq, (e c).1, (e c).2.1, (e c).2.2]
  funext i
  obtain ⟨p, q, rfl⟩ : ∃ (p : Fin 8) (q : Fin 1152), i = ix2 p q := ⟨i 0, i 1, by funext a; fin_cases a <;> rfl⟩
  exact Cert.KernelModsIdeal.Value.ref_at _ _ _ p q

theorem frame_Mid : @quiescent_KernelMid Cert.KernelMid.Gen.facts := fun m ρ _ => Cert.KernelMid.Gen.frame m ρ
theorem frame_MidIdeal : @quiescent_KernelMidIdeal Cert.KernelMidIdeal.Gen.facts := fun m ρ _ => Cert.KernelMidIdeal.Gen.frame m ρ
theorem frame_MidRef : @quiescent_ReferenceMidIdeal Cert.ReferenceMidIdeal.Gen.facts := fun m ρ _ =>
  (θ_run _ _ _).mono (fun r h => ⟨fun c => (h c).2.2.2.2.2.2, sem_eq_zero_of_no_sems (by decide) r.2⟩) (Cert.ReferenceMidIdeal.Value.run m ρ)

set_option maxHeartbeats 1000000 in
theorem algebraic_Mid : @algebraic_KernelMidIdeal_ReferenceMidIdeal Cert.KernelMidIdeal.Gen.facts Cert.ReferenceMidIdeal.Gen.facts := by
  intro m g m' g' _ e
  refine ⟨fun c => (Cert.KernelMidIdeal.Gen.dats m 0 c).arrAt 16 Cert.KernelMidIdeal.cfg0.N,
    fun c => (Cert.KernelMidIdeal.Gen.dats m 0 c).arrAt 17 Cert.KernelMidIdeal.cfg0.N,
    fun c => (Cert.KernelMidIdeal.Gen.dats m 0 c).arrAt 18 Cert.KernelMidIdeal.cfg0.N,
    fun c => (Cert.KernelMidIdeal.Gen.dats m 0 c).arrAt 19 Cert.KernelMidIdeal.cfg0.N,
    fun c => (Cert.KernelMidIdeal.Gen.dats m 0 c).arrAt 20 Cert.KernelMidIdeal.cfg0.N,
    fun c => (Cert.KernelMidIdeal.Gen.dats m 0 c).arrAt 21 Cert.KernelMidIdeal.cfg0.N,
    Cert.KernelMidIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_,
    (h c).2.2.2.2.2.2⟩) (Cert.ReferenceMidIdeal.Value.run m' g')
  · refine Eq.trans ?_ (Cert.KernelMidIdeal.Value.final16 m c).symm
    rw [Cert.ReferenceMidIdeal.Read.val_main_v55_eq, (e c).1, (e c).2.1, (e c).2.2.1, (e c).2.2.2.1, (e c).2.2.2.2.1, (e c).2.2.2.2.2.1, (e c).2.2.2.2.2.2.1, (e c).2.2.2.2.2.2.2]
    exact Cert.KernelMidIdeal.Value.by_rows (e := .f32) _ _ fun s j => Cert.KernelMidIdeal.Value.v55_at _ _ _ _ _ _ _ _ s j
  · refine Eq.trans ?_ (Cert.KernelMidIdeal.Value.final17 m c).symm
    rw [Cert.ReferenceMidIdeal.Read.val_main_v57_eq, (e c).1, (e c).2.2.2.2.2.1]
    exact Cert.KernelMidIdeal.Value.by_rows (e := .bf16) _ _ fun s j => Cert.KernelMidIdeal.Value.v57_at _ _ s j
  · refine Eq.trans ?_ (Cert.KernelMidIdeal.Value.final18 m c).symm
    rw [Cert.ReferenceMidIdeal.Read.val_main_v59_eq, (e c).1, (e c).2.2.1, (e c).2.2.2.2.2.1]
    exact Cert.KernelMidIdeal.Value.by_rows (e := .bf16) _ _ fun s j => Cert.KernelMidIdeal.Value.v59_at _ _ _ s j
  · refine Eq.trans ?_ (Cert.KernelMidIdeal.Value.final19 m c).symm
    rw [Cert.ReferenceMidIdeal.Read.val_main_v61_eq, (e c).2.1, (e c).2.2.2.1]
    exact Cert.KernelMidIdeal.Value.by_rows (e := .bf16) _ _ fun s j => Cert.KernelMidIdeal.Value.v61_at _ _ s j
  · refine Eq.trans ?_ (Cert.KernelMidIdeal.Value.final20 m c).symm
    rw [Cert.ReferenceMidIdeal.Read.val_main_v63_eq, (e c).1, (e c).2.1, (e c).2.2.1, (e c).2.2.2.1, (e c).2.2.2.2.2.1]
    exact Cert.KernelMidIdeal.Value.by_rows (e := .bf16) _ _ fun s j => Cert.KernelMidIdeal.Value.v63_at _ _ _ _ _ s j
  · refine Eq.trans ?_ (Cert.KernelMidIdeal.Value.final21 m c).symm
    rw [Cert.ReferenceMidIdeal.Read.val_main_v65_eq, (e c).1, (e c).2.1, (e c).2.2.1, (e c).2.2.2.1, (e c).2.2.2.2.1, (e c).2.2.2.2.2.1]
    exact Cert.KernelMidIdeal.Value.by_rows (e := .bf16) _ _ fun s j => Cert.KernelMidIdeal.Value.v65_at _ _ _ _ _ _ s j

theorem frame_Mix : @quiescent_KernelMix Cert.KernelMix.Gen.facts := fun m ρ _ => Cert.KernelMix.Gen.frame m ρ
theorem frame_MixIdeal : @quiescent_KernelMixIdeal Cert.KernelMixIdeal.Gen.facts := fun m ρ _ => Cert.KernelMixIdeal.Gen.frame m ρ
theorem frame_MixRef : @quiescent_ReferenceMixIdeal Cert.ReferenceMixIdeal.Gen.facts := fun m ρ _ =>
  (θ_run _ _ _).mono (fun r h => ⟨fun c => (h c).2.2.2, sem_eq_zero_of_no_sems (by decide) r.2⟩) (Cert.ReferenceMixIdeal.Value.run m ρ)

theorem algebraic_Mix : @algebraic_KernelMixIdeal_ReferenceMixIdeal Cert.KernelMixIdeal.Gen.facts Cert.ReferenceMixIdeal.Gen.facts := by
  intro m g m' g' _ e
  refine ⟨fun c => (Cert.KernelMixIdeal.Gen.dats m 0 c).arrAt 7 Cert.KernelMixIdeal.cfg0.N, fun c => (Cert.KernelMixIdeal.Gen.dats m 0 c).arrAt 8 Cert.KernelMixIdeal.cfg0.N,
    fun c => (Cert.KernelMixIdeal.Gen.dats m 0 c).arrAt 10 Cert.KernelMixIdeal.cfg0.N,
    (θ_run _ _ _).mono (fun r h c => ⟨(h c).1, (h c).2.1, (h c).2.2.2⟩) (Cert.KernelMixIdeal.Value.run_blocks m g), ?_⟩
  refine (θ_run _ _ _).mono (fun r h c => ⟨(h c).1.trans ?_, (h c).2.1.trans ?_, (h c).2.2.1.trans ?_, (h c).2.2.2⟩) (Cert.ReferenceMixIdeal.Value.run m' g')
  · refine Eq.trans ?_ (Cert.KernelMixIdeal.Value.final7 m c).symm
    rw [Cert.ReferenceMixIdeal.Read.val_main_v25_eq, (e c).1, (e c).2.1, (e c).2.2.1, (e c).2.2.2.1]
    funext i
    obtain ⟨s, j, rfl⟩ : ∃ (s : Fin 8192) (j : Fin 1024), i = ix2 s j := ⟨i 0, i 1, by funext a; fin_cases a <;> rfl⟩
    exact Cert.KernelMixIdeal.Value.v25_at _ _ _ _ s j
  · refine Eq.trans ?_ (Cert.KernelMixIdeal.Value.final8 m c).symm
    rw [Cert.ReferenceMixIdeal.Read.val_main_v27_eq, (e c).1, (e c).2.1, (e c).2.2.1, (e c).2.2.2.1, (e c).2.2.2.2.1]
    funext i
    obtain ⟨s, j, rfl⟩ : ∃ (s : Fin 8192) (j : Fin 6656), i = ix2 s j := ⟨i 0, i 1, by funext a; fin_cases a <;> rfl⟩
    exact Cert.KernelMixIdeal.Value.v27_at _ _ _ _ _ s j
  · refine Eq.trans ?_ (Cert.KernelMixIdeal.Value.final10 m c).symm
    rw [Cert.ReferenceMixIdeal.Read.val_main_v44_eq, (e c).1, (e c).2.1, (e c).2.2.1, (e c).2.2.2.1, (e c).2.2.2.2.1, (e c).2.2.2.2.2.1, (e c).2.2.2.2.2.2]
    funext i
    obtain ⟨s, j, rfl⟩ : ∃ (s : Fin 8192) (j : Fin 256), i = ix2 s j := ⟨i 0, i 1, by funext a; fin_cases a <;> rfl⟩
    exact Cert.KernelMixIdeal.Value.v44_at _ _ _ _ _ _ _ s j

theorem claim : Cert.Claim := ⟨Cert.KernelConv.Gen.facts, Cert.KernelConvIdeal.Gen.facts, Cert.ReferenceConvIdeal.Gen.facts,
  Cert.KernelUp.Gen.facts, Cert.KernelUpIdeal.Gen.facts, Cert.ReferenceUpIdeal.Gen.facts,
  Cert.KernelIn.Gen.facts, Cert.KernelInIdeal.Gen.facts, Cert.ReferenceInIdeal.Gen.facts,
  Cert.KernelWada.Gen.facts, Cert.KernelWadaIdeal.Gen.facts, Cert.ReferenceWadaIdeal.Gen.facts,
  Cert.KernelDown.Gen.facts, Cert.KernelDownIdeal.Gen.facts, Cert.ReferenceDownIdeal.Gen.facts,
  Cert.KernelFfn.Gen.facts, Cert.KernelFfnIdeal.Gen.facts, Cert.ReferenceFfnIdeal.Gen.facts,
  Cert.KernelAtt.Gen.facts, Cert.KernelAttIdeal.Gen.facts, Cert.ReferenceAttIdeal.Gen.facts,
  Cert.KernelDkv.Gen.facts, Cert.KernelDkvIdeal.Gen.facts, Cert.ReferenceDkvIdeal.Gen.facts,
  Cert.KernelAtb.Gen.facts, Cert.KernelAtbIdeal.Gen.facts, Cert.ReferenceAtbIdeal.Gen.facts,
  Cert.KernelProj.Gen.facts, Cert.KernelProjIdeal.Gen.facts, Cert.ReferenceProjIdeal.Gen.facts,
  Cert.KernelFdn.Gen.facts, Cert.KernelFdnIdeal.Gen.facts, Cert.ReferenceFdnIdeal.Gen.facts,
  Cert.KernelMods.Gen.facts, Cert.KernelModsIdeal.Gen.facts, Cert.ReferenceModsIdeal.Gen.facts,
  Cert.KernelMid.Gen.facts, Cert.KernelMidIdeal.Gen.facts, Cert.ReferenceMidIdeal.Gen.facts,
  Cert.KernelMix.Gen.facts, Cert.KernelMixIdeal.Gen.facts, Cert.ReferenceMixIdeal.Gen.facts,
  facts_norm_finite, facts_in_finite, facts_down_finite, facts_ffn_finite, facts_att_finite, facts_atb_finite,
  frame_Conv, frame_ConvIdeal, frame_ConvRef,
  frame_Up, frame_UpIdeal, frame_UpIdeal_pre, frame_UpRef, frame_UpRef_pre,
  frame_In, frame_InIdeal, frame_InIdeal_pre, frame_InRef, frame_InRef_pre,
  frame_Wada, frame_WadaIdeal, frame_WadaRef,
  frame_Down, frame_DownIdeal, frame_DownIdeal_pre, frame_DownRef, frame_DownRef_pre,
  frame_Ffn, frame_FfnIdeal, frame_FfnIdeal_pre, frame_FfnRef, frame_FfnRef_pre,
  frame_Att, frame_AttIdeal, frame_AttIdeal_pre, frame_AttRef, frame_AttRef_pre,
  frame_Dkv, frame_DkvIdeal, frame_DkvRef,
  frame_Atb, frame_AtbIdeal, frame_AtbIdeal_pre, frame_AtbRef, frame_AtbRef_pre,
  frame_Proj, frame_ProjIdeal, frame_ProjRef,
  frame_Fdn, frame_FdnIdeal, frame_FdnRef,
  frame_Mods, frame_ModsIdeal, frame_ModsRef,
  frame_Mid, frame_MidIdeal, frame_MidRef,
  frame_Mix, frame_MixIdeal, frame_MixRef,
  trivial, algebraic_Conv, trivial, algebraic_Up, trivial, algebraic_In, trivial, algebraic_Wada, trivial, algebraic_Down, trivial, algebraic_Ffn,
  trivial, algebraic_Att, trivial, algebraic_Dkv, trivial, algebraic_Atb,
  trivial, algebraic_Proj, trivial, algebraic_Fdn, trivial, algebraic_Mods, trivial, algebraic_Mid, trivial, algebraic_Mix⟩

end Cert.Proof

end
